-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_finite_ln [hPre_finite_ln : Cert.Pre_finite_ln.Facts] (m : (ℓ : Loc Cert.LnIdeal.nD Cert.LnIdeal.τ Cert.LnIdeal.sig) → Buf (Elt Ideal) ℓ) : Prop :=
  ∀ c : Dev Cert.LnIdeal.nD,
    (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.2.1 = (fun _ => 1#1)
    ∧ (Cert.Pre_finite_ln.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4))).2.2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_finite_ln [hPre_finite_ln : Cert.Pre_finite_ln.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.1 = (fun _ => 1#1)
    ∧ (Cert.Pre_finite_ln.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).2.2.1 = (fun _ => 1#1)
    ∧ (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))).2.2.2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))).1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))).2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))).2.2.1 = (fun _ => 1#1)
    ∧ (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))).2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.1 = (fun _ => 1#1)
    ∧ (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))).2.2.2.2.2 = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.2.1 = (fun _ => 1#1)
    ∧ (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))).2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnIdeal_pre_finite_ln [hLnIdeal : Cert.LnIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg), Pre_LnIdeal_finite_ln m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_LnRefIdeal_pre_finite_ln [hLnRefIdeal : Cert.LnRefIdeal.Facts] [hPre_finite_ln : Cert.Pre_finite_ln.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_finite_ln m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v244) = v1 c
          ∧ r.2.mem ((c.tc : Thread Cert.ReferenceIdeal.nD Cert.ReferenceIdeal.τ).loc Cert.ReferenceIdeal.main_v246) = v2 c
          ∧ r.2.mem ((c.tc : Thread Cert.ReferenceIdeal.nD Cert.ReferenceIdeal.τ).loc Cert.ReferenceIdeal.main_v240) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v0)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v0) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v13) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v8) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v8) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v7) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v14) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v8) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_Ln_LnIdeal : Prop :=
  True

def algebraic_LnIdeal_LnRefIdeal_pre_finite_ln [hLnIdeal : Cert.LnIdeal.Facts] [hLnRefIdeal : Cert.LnRefIdeal.Facts] [hPre_finite_ln : Cert.Pre_finite_ln.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_finite_ln m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)) →
    ∃ (v0 : (c : Dev Cert.LnIdeal.nD) → Buf (Elt Ideal) ((c.tc : Thread Cert.LnIdeal.nD Cert.LnIdeal.τ).loc Cert.LnIdeal.main_v19_0)) (v1 : (c : Dev Cert.LnIdeal.nD) → Buf (Elt Ideal) ((c.tc : Thread Cert.LnIdeal.nD Cert.LnIdeal.τ).loc Cert.LnIdeal.main_v19_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v19_0) = v0 c
          ∧ r.2.mem ((c.tc : Thread Cert.LnIdeal.nD Cert.LnIdeal.τ).loc Cert.LnIdeal.main_v19_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v85) = v0 c
          ∧ r.2.mem ((c.tc : Thread Cert.LnRefIdeal.nD Cert.LnRefIdeal.τ).loc Cert.LnRefIdeal.main_v89) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v45) = v1 c
          ∧ r.2.mem ((c.tc : Thread Cert.UpRefIdeal.nD Cert.UpRefIdeal.τ).loc Cert.UpRefIdeal.main_v47) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v39_0)) (v1 : (c : Dev Cert.MidIdeal.nD) → Buf (Elt Ideal) ((c.tc : Thread Cert.MidIdeal.nD Cert.MidIdeal.τ).loc Cert.MidIdeal.main_v39_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v39_0) = v0 c
          ∧ r.2.mem ((c.tc : Thread Cert.MidIdeal.nD Cert.MidIdeal.τ).loc Cert.MidIdeal.main_v39_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v84) = v0 c
          ∧ r.2.mem ((c.tc : Thread Cert.MidRefIdeal.nD Cert.MidRefIdeal.τ).loc Cert.MidRefIdeal.main_v91) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v74) = v0 c
          ∧ r.2.mem ((c.tc : Thread Cert.MixRefIdeal.nD Cert.MixRefIdeal.τ).loc Cert.MixRefIdeal.main_v76) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v92) = v0 c
          ∧ r.2.mem ((c.tc : Thread Cert.DownRefIdeal.nD Cert.DownRefIdeal.τ).loc Cert.DownRefIdeal.main_v97) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)) (v3 : (c : Dev Cert.OutIdeal.nD) → Buf (Elt Ideal) ((c.tc : Thread Cert.OutIdeal.nD Cert.OutIdeal.τ).loc Cert.OutIdeal.main_v0_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_v0_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v49) = v0 c
          ∧ r.2.mem ((c.tc : Thread Cert.OutRefIdeal.nD Cert.OutRefIdeal.τ).loc Cert.OutRefIdeal.main_v51) = v1 c
          ∧ r.2.mem ((c.tc : Thread Cert.OutRefIdeal.nD Cert.OutRefIdeal.τ).loc Cert.OutRefIdeal.main_v57) = v2 c
          ∧ r.2.mem ((c.tc : Thread Cert.OutRefIdeal.nD Cert.OutRefIdeal.τ).loc Cert.OutRefIdeal.main_v58) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v33) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def Claim : Prop :=
  ∃ (hKernel : Cert.Kernel.Facts) (hKernelIdeal : Cert.KernelIdeal.Facts) (hReferenceIdeal : Cert.ReferenceIdeal.Facts) (hWUp : Cert.WUp.Facts) (hWUpIdeal : Cert.WUpIdeal.Facts) (hWUpRefIdeal : Cert.WUpRefIdeal.Facts) (hWDown : Cert.WDown.Facts) (hWDownIdeal : Cert.WDownIdeal.Facts) (hWDownRefIdeal : Cert.WDownRefIdeal.Facts) (hWOut : Cert.WOut.Facts) (hWOutIdeal : Cert.WOutIdeal.Facts) (hWOutRefIdeal : Cert.WOutRefIdeal.Facts) (hDMix : Cert.DMix.Facts) (hDMixIdeal : Cert.DMixIdeal.Facts) (hDMixRefIdeal : Cert.DMixRefIdeal.Facts) (hGradX : Cert.GradX.Facts) (hGradXIdeal : Cert.GradXIdeal.Facts) (hGradXRefIdeal : Cert.GradXRefIdeal.Facts) (hWIn : Cert.WIn.Facts) (hWInIdeal : Cert.WInIdeal.Facts) (hWInRefIdeal : Cert.WInRefIdeal.Facts) (hLn : Cert.Ln.Facts) (hLnIdeal : Cert.LnIdeal.Facts) (hLnRefIdeal : Cert.LnRefIdeal.Facts) (hUp : Cert.Up.Facts) (hUpIdeal : Cert.UpIdeal.Facts) (hUpRefIdeal : Cert.UpRefIdeal.Facts) (hMid : Cert.Mid.Facts) (hMidIdeal : Cert.MidIdeal.Facts) (hMidRefIdeal : Cert.MidRefIdeal.Facts) (hMix : Cert.Mix.Facts) (hMixIdeal : Cert.MixIdeal.Facts) (hMixRefIdeal : Cert.MixRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hConv : Cert.Conv.Facts) (hConvIdeal : Cert.ConvIdeal.Facts) (hConvRefIdeal : Cert.ConvRefIdeal.Facts) (hIn : Cert.In.Facts) (hInIdeal : Cert.InIdeal.Facts) (hInRefIdeal : Cert.InRefIdeal.Facts) (hPre_finite : Cert.Pre_finite.Facts) (hPre_finite_ln : Cert.Pre_finite_ln.Facts) (hPre_finite_mid : Cert.Pre_finite_mid.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WUp (hWUp := hWUp)
    ∧ quiescent_WUpIdeal (hWUpIdeal := hWUpIdeal)
    ∧ quiescent_WUpRefIdeal (hWUpRefIdeal := hWUpRefIdeal)
    ∧ quiescent_WDown (hWDown := hWDown)
    ∧ quiescent_WDownIdeal (hWDownIdeal := hWDownIdeal)
    ∧ quiescent_WDownRefIdeal (hWDownRefIdeal := hWDownRefIdeal)
    ∧ quiescent_WOut (hWOut := hWOut)
    ∧ quiescent_WOutIdeal (hWOutIdeal := hWOutIdeal)
    ∧ quiescent_WOutRefIdeal (hWOutRefIdeal := hWOutRefIdeal)
    ∧ quiescent_DMix (hDMix := hDMix)
    ∧ quiescent_DMixIdeal (hDMixIdeal := hDMixIdeal)
    ∧ quiescent_DMixRefIdeal (hDMixRefIdeal := hDMixRefIdeal)
    ∧ quiescent_GradX (hGradX := hGradX)
    ∧ quiescent_GradXIdeal (hGradXIdeal := hGradXIdeal)
    ∧ quiescent_GradXRefIdeal (hGradXRefIdeal := hGradXRefIdeal)
    ∧ quiescent_WIn (hWIn := hWIn)
    ∧ quiescent_WInIdeal (hWInIdeal := hWInIdeal)
    ∧ quiescent_WInRefIdeal (hWInRefIdeal := hWInRefIdeal)
    ∧ quiescent_Ln (hLn := hLn)
    ∧ quiescent_LnIdeal (hLnIdeal := hLnIdeal)
    ∧ quiescent_LnIdeal_pre_finite_ln (hLnIdeal := hLnIdeal) (hPre_finite_ln := hPre_finite_ln)
    ∧ quiescent_LnRefIdeal (hLnRefIdeal := hLnRefIdeal)
    ∧ quiescent_LnRefIdeal_pre_finite_ln (hLnRefIdeal := hLnRefIdeal) (hPre_finite_ln := hPre_finite_ln)
    ∧ quiescent_Up (hUp := hUp)
    ∧ quiescent_UpIdeal (hUpIdeal := hUpIdeal)
    ∧ quiescent_UpRefIdeal (hUpRefIdeal := hUpRefIdeal)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_Mix (hMix := hMix)
    ∧ quiescent_MixIdeal (hMixIdeal := hMixIdeal)
    ∧ quiescent_MixRefIdeal (hMixRefIdeal := hMixRefIdeal)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Out (hOut := hOut)
    ∧ quiescent_OutIdeal (hOutIdeal := hOutIdeal)
    ∧ quiescent_OutRefIdeal (hOutRefIdeal := hOutRefIdeal)
    ∧ quiescent_Conv (hConv := hConv)
    ∧ quiescent_ConvIdeal (hConvIdeal := hConvIdeal)
    ∧ quiescent_ConvRefIdeal (hConvRefIdeal := hConvRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WUp_WUpIdeal
    ∧ algebraic_WUpIdeal_WUpRefIdeal (hWUpIdeal := hWUpIdeal) (hWUpRefIdeal := hWUpRefIdeal)
    ∧ preserves_WDown_WDownIdeal
    ∧ algebraic_WDownIdeal_WDownRefIdeal (hWDownIdeal := hWDownIdeal) (hWDownRefIdeal := hWDownRefIdeal)
    ∧ preserves_WOut_WOutIdeal
    ∧ algebraic_WOutIdeal_WOutRefIdeal (hWOutIdeal := hWOutIdeal) (hWOutRefIdeal := hWOutRefIdeal)
    ∧ preserves_DMix_DMixIdeal
    ∧ algebraic_DMixIdeal_DMixRefIdeal (hDMixIdeal := hDMixIdeal) (hDMixRefIdeal := hDMixRefIdeal)
    ∧ preserves_GradX_GradXIdeal
    ∧ algebraic_GradXIdeal_GradXRefIdeal (hGradXIdeal := hGradXIdeal) (hGradXRefIdeal := hGradXRefIdeal)
    ∧ preserves_WIn_WInIdeal
    ∧ algebraic_WInIdeal_WInRefIdeal (hWInIdeal := hWInIdeal) (hWInRefIdeal := hWInRefIdeal)
    ∧ preserves_Ln_LnIdeal
    ∧ algebraic_LnIdeal_LnRefIdeal_pre_finite_ln (hLnIdeal := hLnIdeal) (hLnRefIdeal := hLnRefIdeal) (hPre_finite_ln := hPre_finite_ln)
    ∧ preserves_Up_UpIdeal
    ∧ algebraic_UpIdeal_UpRefIdeal (hUpIdeal := hUpIdeal) (hUpRefIdeal := hUpRefIdeal)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_Mix_MixIdeal
    ∧ algebraic_MixIdeal_MixRefIdeal (hMixIdeal := hMixIdeal) (hMixRefIdeal := hMixRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_Out_OutIdeal
    ∧ algebraic_OutIdeal_OutRefIdeal (hOutIdeal := hOutIdeal) (hOutRefIdeal := hOutRefIdeal)
    ∧ preserves_Conv_ConvIdeal
    ∧ algebraic_ConvIdeal_ConvRefIdeal (hConvIdeal := hConvIdeal) (hConvRefIdeal := hConvRefIdeal)
    ∧ preserves_In_InIdeal
    ∧ algebraic_InIdeal_InRefIdeal (hInIdeal := hInIdeal) (hInRefIdeal := hInRefIdeal)
-- ==== Pre_finite.lean ====
abbrev S8192x4352 : Shape := ⟨2, ![8192, 4352]⟩
abbrev S8192x2048 : Shape := ⟨2, ![8192, 2048]⟩
abbrev S1x16 : Shape := ⟨2, ![1, 16]⟩
abbrev S8192x1280 : Shape := ⟨2, ![8192, 1280]⟩
abbrev S8192x1024 : Shape := ⟨2, ![8192, 1024]⟩
abbrev S_ : Shape := ⟨0, ![]⟩

class Facts : Prop where
  slices_S8192x4352_S8192x1280_0_0 : S8192x4352.Slices ![0, 0] S8192x1280
  bitsLt_bf16_f32 : FTy.bits .bf16 < FTy.bits .f32
  slices_S8192x2048_S8192x1024_0_0 : S8192x2048.Slices ![0, 0] S8192x1024
  bcast_S_S8192x1280 : S_.BroadcastsInDim S8192x1280 (![] : Fin 0 → Fin S8192x1280.rank)
  bcast_S_S8192x1024 : S_.BroadcastsInDim S8192x1024 (![] : Fin 0 → Fin S8192x1024.rank)
  bcast_S_S1x16 : S_.BroadcastsInDim S1x16 (![] : Fin 0 → Fin S1x16.rank)

variable [Facts]

def fn_part1 {F : FTy → Type} [FloatOps F] (main_v8 : IVec S8192x1280 1) (main_v13 : IVec S8192x1024 1) (main_v15 : IVec S1x16 1) (main_v17 : IVec S1x16 1) : IVec S8192x1280 1 × IVec S8192x1024 1 × IVec S1x16 1 :=
  let main_v18 : IVec S1x16 1 := andi main_v15 main_v17
  (main_v8, main_v13, main_v18)

def fn {F : FTy → Type} [FloatOps F] (main_arg0 : FVec F S8192x4352 .bf16) (main_arg1 : FVec F S8192x2048 .bf16) (main_arg2 : FVec F S1x16 .f32) : IVec S8192x1280 1 × IVec S8192x1024 1 × IVec S1x16 1 :=
  let main_v0 : FVec F S8192x1280 .bf16 := (extractStridedSlice S8192x1280 ![0, 0] · slices_S8192x4352_S8192x1280_0_0) main_arg0
  let main_v1 : FVec F S8192x1280 .f32 := (extf .f32 · bitsLt_bf16_f32) main_v0
  let main_v2 : FVec F S8192x1024 .bf16 := (extractStridedSlice S8192x1024 ![0, 0] · slices_S8192x2048_S8192x1024_0_0) main_arg1
  let main_v3 : FVec F S8192x1024 .f32 := (extf .f32 · bitsLt_bf16_f32) main_v2
  let main_cst : FVec F S_ .f32 := constant S_ .f32 0xFF800000#32
  let main_v4 : FVec F S8192x1280 .f32 := broadcastInDim S8192x1280 ![] bcast_S_S8192x1280 main_cst
  let main_v5 : IVec S8192x1280 1 := cmpf .ogt main_v1 main_v4
  let main_cst_0 : FVec F S_ .f32 := constant S_ .f32 0x7F800000#32
  let main_v6 : FVec F S8192x1280 .f32 := broadcastInDim S8192x1280 ![] bcast_S_S8192x1280 main_cst_0
  let main_v7 : IVec S8192x1280 1 := cmpf .olt main_v1 main_v6
  let main_v8 : IVec S8192x1280 1 := andi main_v5 main_v7
  let main_cst_1 : FVec F S_ .f32 := constant S_ .f32 0xFF800000#32
  let main_v9 : FVec F S8192x1024 .f32 := broadcastInDim S8192x1024 ![] bcast_S_S8192x1024 main_cst_1
  let main_v10 : IVec S8192x1024 1 := cmpf .ogt main_v3 main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v3 main_v11
  let main_v13 : IVec S8192x1024 1 := andi main_v10 main_v12
  let main_cst_3 : FVec F S_ .f32 := constant S_ .f32 0xFF800000#32
  let main_v14 : FVec F S1x16 .f32 := broadcastInDim S1x16 ![] bcast_S_S1x16 main_cst_3
  let main_v15 : IVec S1x16 1 := cmpf .ogt main_arg2 main_v14
  let main_cst_4 : FVec F S_ .f32 := constant S_ .f32 0x7F800000#32
  let main_v16 : FVec F S1x16 .f32 := broadcastInDim S1x16 ![] bcast_S_S1x16 main_cst_4
  let main_v17 : IVec S1x16 1 := cmpf .olt main_arg2 main_v16
  fn_part1 (F := F) main_v8 main_v13 main_v15 main_v17
-- ==== Pre_finite_down.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn_part1 {F : FTy → Type} [FloatOps F] (main_arg3 : FVec F S8192x2048 .f32) (main_arg4 : FVec F S1x2048 .f32) (main_arg5 : FVec F S1x2048 .f32) (main_v6 : IVec S8192x5632 1) (main_v13 : IVec S5632x2048 1) (main_v15 : IVec S8192x2048 1) (main_v17 : IVec S8192x2048 1) : IVec S8192x5632 1 × IVec S5632x2048 1 × IVec S8192x2048 1 × IVec S8192x2048 1 × IVec S1x2048 1 × IVec S1x2048 1 :=
  let main_v18 : IVec S8192x2048 1 := andi main_v15 main_v17
  let main_cst_5 : FVec F S_ .f32 := constant S_ .f32 0xFF800000#32
  let main_v19 : FVec F S8192x2048 .f32 := broadcastInDim S8192x2048 ![] bcast_S_S8192x2048 main_cst_5
  let main_v20 : IVec S8192x2048 1 := cmpf .ogt main_arg3 main_v19
  let main_cst_6 : FVec F S_ .f32 := constant S_ .f32 0x7F800000#32
  let main_v21 : FVec F S8192x2048 .f32 := broadcastInDim S8192x2048 ![] bcast_S_S8192x2048 main_cst_6
  let main_v22 : IVec S8192x2048 1 := cmpf .olt main_arg3 main_v21
  let main_v23 : IVec S8192x2048 1 := andi main_v20 main_v22
  let main_cst_7 : FVec F S_ .f32 := constant S_ .f32 0xFF800000#32
  let main_v24 : FVec F S1x2048 .f32 := broadcastInDim S1x2048 ![] bcast_S_S1x2048 main_cst_7
  let main_v25 : IVec S1x2048 1 := cmpf .ogt main_arg4 main_v24
  let main_cst_8 : FVec F S_ .f32 := constant S_ .f32 0x7F800000#32
  let main_v26 : FVec F S1x2048 .f32 := broadcastInDim S1x2048 ![] bcast_S_S1x2048 main_cst_8
  let main_v27 : IVec S1x2048 1 := cmpf .olt main_arg4 main_v26
  let main_v28 : IVec S1x2048 1 := andi main_v25 main_v27
  let main_cst_9 : FVec F S_ .f32 := constant S_ .f32 0xFF800000#32
  let main_v29 : FVec F S1x2048 .f32 := broadcastInDim S1x2048 ![] bcast_S_S1x2048 main_cst_9
  let main_v30 : IVec S1x2048 1 := cmpf .ogt main_arg5 main_v29
  let main_cst_10 : FVec F S_ .f32 := constant S_ .f32 0x7F800000#32
  let main_v31 : FVec F S1x2048 .f32 := broadcastInDim S1x2048 ![] bcast_S_S1x2048 main_cst_10
  let main_v32 : IVec S1x2048 1 := cmpf .olt main_arg5 main_v31
  let main_v33 : IVec S1x2048 1 := andi main_v30 main_v32
  (main_v6, main_v13, main_v18, main_v23, main_v28, main_v33)

def fn {F : FTy → Type} [FloatOps F] (main_arg0 : FVec F S8192x5632 .bf16) (main_arg1 : FVec F S5632x2048 .bf16) (main_arg2 : FVec F S8192x2048 .f32) (main_arg3 : FVec F S8192x2048 .f32) (main_arg4 : FVec F S1x2048 .f32) (main_arg5 : FVec F S1x2048 .f32) : IVec S8192x5632 1 × IVec S5632x2048 1 × IVec S8192x2048 1 × IVec S8192x2048 1 × IVec S1x2048 1 × IVec S1x2048 1 :=
  let main_v0 : FVec F S8192x5632 .f32 := (extf .f32 · bitsLt_bf16_f32) main_arg0
  let main_cst : FVec F S_ .f32 := constant S_ .f32 0xFF800000#32
  let main_v1 : FVec F S8192x5632 .f32 := broadcastInDim S8192x5632 ![] bcast_S_S8192x5632 main_cst
  let main_v2 : IVec S8192x5632 1 := cmpf .ogt main_v0 main_v1
  let main_v3 : FVec F S8192x5632 .f32 := (extf .f32 · bitsLt_bf16_f32) main_arg0
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : IVec S8192x5632 1 := andi main_v2 main_v5
  let main_v7 : FVec F S5632x2048 .f32 := (extf .f32 · bitsLt_bf16_f32) main_arg1
  let main_cst_1 : FVec F S_ .f32 := constant S_ .f32 0xFF800000#32
  let main_v8 : FVec F S5632x2048 .f32 := broadcastInDim S5632x2048 ![] bcast_S_S5632x2048 main_cst_1
  let main_v9 : IVec S5632x2048 1 := cmpf .ogt main_v7 main_v8
  let main_v10 : FVec F S5632x2048 .f32 := (extf .f32 · bitsLt_bf16_f32) main_arg1
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_v13 : IVec S5632x2048 1 := andi main_v9 main_v12
  let main_cst_3 : FVec F S_ .f32 := constant S_ .f32 0xFF800000#32
  let main_v14 : FVec F S8192x2048 .f32 := broadcastInDim S8192x2048 ![] bcast_S_S8192x2048 main_cst_3
  let main_v15 : IVec S8192x2048 1 := cmpf .ogt main_arg2 main_v14
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_arg2 main_v16
  fn_part1 (F := F) main_arg3 main_arg4 main_arg5 main_v6 main_v13 main_v15 main_v17
-- ==== Pre_finite_ln.lean ====
abbrev S2x8192x5632 : Shape := ⟨3, ![2, 8192, 5632]⟩
abbrev S2048x11264 : Shape := ⟨2, ![2048, 11264]⟩
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S2x8192x5632 : S_.BroadcastsInDim S2x8192x5632 (![] : Fin 0 → Fin S2x8192x5632.rank)
  bcast_S_S2048x11264 : S_.BroadcastsInDim S2048x11264 (![] : Fin 0 → Fin S2048x11264.rank)
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn_part1 {F : FTy → Type} [FloatOps F] (main_arg3 : FVec F S8192x2048 .f32) (main_arg4 : FVec F S1x2048 .f32) (main_v6 : IVec S2x8192x5632 1) (main_v13 : IVec S2048x11264 1) (main_v16 : IVec S8192x2048 1) (main_v17 : FVec F S8192x2048 .f32) (main_cst_4 : FVec F S_ .f32) : IVec S2x8192x5632 1 × IVec S2048x11264 1 × IVec S8192x2048 1 × IVec S8192x2048 1 × IVec S1x2048 1 :=
  let main_v18 : FVec F S8192x2048 .f32 := broadcastInDim S8192x2048 ![] bcast_S_S8192x2048 main_cst_4
  let main_v19 : IVec S8192x2048 1 := cmpf .olt main_v17 main_v18
  let main_v20 : IVec S8192x2048 1 := andi main_v16 main_v19
  let main_cst_5 : FVec F S_ .f32 := constant S_ .f32 0xFF800000#32
  let main_v21 : FVec F S8192x2048 .f32 := broadcastInDim S8192x2048 ![] bcast_S_S8192x2048 main_cst_5
  let main_v22 : IVec S8192x2048 1 := cmpf .ogt main_arg3 main_v21
  let main_cst_6 : FVec F S_ .f32 := constant S_ .f32 0x7F800000#32
  let main_v23 : FVec F S8192x2048 .f32 := broadcastInDim S8192x2048 ![] bcast_S_S8192x2048 main_cst_6
  let main_v24 : IVec S8192x2048 1 := cmpf .olt main_arg3 main_v23
  let main_v25 : IVec S8192x2048 1 := andi main_v22 main_v24
  let main_cst_7 : FVec F S_ .f32 := constant S_ .f32 0xFF800000#32
  let main_v26 : FVec F S1x2048 .f32 := broadcastInDim S1x2048 ![] bcast_S_S1x2048 main_cst_7
  let main_v27 : IVec S1x2048 1 := cmpf .ogt main_arg4 main_v26
  let main_cst_8 : FVec F S_ .f32 := constant S_ .f32 0x7F800000#32
  let main_v28 : FVec F S1x2048 .f32 := broadcastInDim S1x2048 ![] bcast_S_S1x2048 main_cst_8
  let main_v29 : IVec S1x2048 1 := cmpf .olt main_arg4 main_v28
  let main_v30 : IVec S1x2048 1 := andi main_v27 main_v29
  (main_v6, main_v13, main_v20, main_v25, main_v30)

def fn {F : FTy → Type} [FloatOps F] (main_arg0 : FVec F S2x8192x5632 .bf16) (main_arg1 : FVec F S2048x11264 .bf16) (main_arg2 : FVec F S8192x2048 .bf16) (main_arg3 : FVec F S8192x2048 .f32) (main_arg4 : FVec F S1x2048 .f32) : IVec S2x8192x5632 1 × IVec S2048x11264 1 × IVec S8192x2048 1 × IVec S8192x2048 1 × IVec S1x2048 1 :=
  let main_v0 : FVec F S2x8192x5632 .f32 := (extf .f32 · bitsLt_bf16_f32) main_arg0
  let main_cst : FVec F S_ .f32 := constant S_ .f32 0xFF800000#32
  let main_v1 : FVec F S2x8192x5632 .f32 := broadcastInDim S2x8192x5632 ![] bcast_S_S2x8192x5632 main_cst
  let main_v2 : IVec S2x8192x5632 1 := cmpf .ogt main_v0 main_v1
  let main_v3 : FVec F S2x8192x5632 .f32 := (extf .f32 · bitsLt_bf16_f32) main_arg0
  let main_cst_0 : FVec F S_ .f32 := constant S_ .f32 0x7F800000#32
  let main_v4 : FVec F S2x8192x5632 .f32 := broadcastInDim S2x8192x5632 ![] bcast_S_S2x8192x5632 main_cst_0
  let main_v5 : IVec S2x8192x5632 1 := cmpf .olt main_v3 main_v4
  let main_v6 : IVec S2x8192x5632 1 := andi main_v2 main_v5
  let main_v7 : FVec F S2048x11264 .f32 := (extf .f32 · bitsLt_bf16_f32) main_arg1
  let main_cst_1 : FVec F S_ .f32 := constant S_ .f32 0xFF800000#32
  let main_v8 : FVec F S2048x11264 .f32 := broadcastInDim S2048x11264 ![] bcast_S_S2048x11264 main_cst_1
  let main_v9 : IVec S2048x11264 1 := cmpf .ogt main_v7 main_v8
  let main_v10 : FVec F S2048x11264 .f32 := (extf .f32 · bitsLt_bf16_f32) main_arg1
  let main_cst_2 : FVec F S_ .f32 := constant S_ .f32 0x7F800000#32
  let main_v11 : FVec F S2048x11264 .f32 := broadcastInDim S2048x11264 ![] bcast_S_S2048x11264 main_cst_2
  let main_v12 : IVec S2048x11264 1 := cmpf .olt main_v10 main_v11
  let main_v13 : IVec S2048x11264 1 := andi main_v9 main_v12
  let main_v14 : FVec F S8192x2048 .f32 := (extf .f32 · bitsLt_bf16_f32) main_arg2
  let main_cst_3 : FVec F S_ .f32 := constant S_ .f32 0xFF800000#32
  let main_v15 : FVec F S8192x2048 .f32 := broadcastInDim S8192x2048 ![] bcast_S_S8192x2048 main_cst_3
  let main_v16 : IVec S8192x2048 1 := cmpf .ogt main_v14 main_v15
  let main_v17 : FVec F S8192x2048 .f32 := (extf .f32 · bitsLt_bf16_f32) main_arg2
  let main_cst_4 : FVec F S_ .f32 := constant S_ .f32 0x7F800000#32
  fn_part1 (F := F) main_arg3 main_arg4 main_v6 main_v13 main_v16 main_v17 main_cst_4
-- ==== Pre_finite_mid.lean ====
abbrev S8192x2048 : Shape := ⟨2, ![8192, 2048]⟩
abbrev S5632x2048 : Shape := ⟨2, ![5632, 2048]⟩
abbrev S2x8192x5632 : Shape := ⟨3, ![2, 8192, 5632]⟩
abbrev S3x11264 : Shape := ⟨2, ![3, 11264]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S5632x2048 : S_.BroadcastsInDim S5632x2048 (![] : Fin 0 → Fin S5632x2048.rank)
  bcast_S_S2x8192x5632 : S_.BroadcastsInDim S2x8192x5632 (![] : Fin 0 → Fin S2x8192x5632.rank)
  bcast_S_S3x11264 : S_.BroadcastsInDim S3x11264 (![] : Fin 0 → Fin S3x11264.rank)

variable [Facts]

def fn_part1 {F : FTy → Type} [FloatOps F] (main_arg3 : FVec F S3x11264 .f32) (main_v6 : IVec S8192x2048 1) (main_v13 : IVec S5632x2048 1) (main_v16 : IVec S2x8192x5632 1) (main_v17 : FVec F S2x8192x5632 .f32) (main_cst_4 : FVec F S_ .f32) : IVec S8192x2048 1 × IVec S5632x2048 1 × IVec S2x8192x5632 1 × IVec S3x11264 1 :=
  let main_v18 : FVec F S2x8192x5632 .f32 := broadcastInDim S2x8192x5632 ![] bcast_S_S2x8192x5632 main_cst_4
  let main_v19 : IVec S2x8192x5632 1 := cmpf .olt main_v17 main_v18
  let main_v20 : IVec S2x8192x5632 1 := andi main_v16 main_v19
  let main_cst_5 : FVec F S_ .f32 := constant S_ .f32 0xFF800000#32
  let main_v21 : FVec F S3x11264 .f32 := broadcastInDim S3x11264 ![] bcast_S_S3x11264 main_cst_5
  let main_v22 : IVec S3x11264 1 := cmpf .ogt main_arg3 main_v21
  let main_cst_6 : FVec F S_ .f32 := constant S_ .f32 0x7F800000#32
  let main_v23 : FVec F S3x11264 .f32 := broadcastInDim S3x11264 ![] bcast_S_S3x11264 main_cst_6
  let main_v24 : IVec S3x11264 1 := cmpf .olt main_arg3 main_v23
  let main_v25 : IVec S3x11264 1 := andi main_v22 main_v24
  (main_v6, main_v13, main_v20, main_v25)

def fn {F : FTy → Type} [FloatOps F] (main_arg0 : FVec F S8192x2048 .bf16) (main_arg1 : FVec F S5632x2048 .bf16) (main_arg2 : FVec F S2x8192x5632 .bf16) (main_arg3 : FVec F S3x11264 .f32) : IVec S8192x2048 1 × IVec S5632x2048 1 × IVec S2x8192x5632 1 × IVec S3x11264 1 :=
  let main_v0 : FVec F S8192x2048 .f32 := (extf .f32 · bitsLt_bf16_f32) main_arg0
  let main_cst : FVec F S_ .f32 := constant S_ .f32 0xFF800000#32
  let main_v1 : FVec F S8192x2048 .f32 := broadcastInDim S8192x2048 ![] bcast_S_S8192x2048 main_cst
  let main_v2 : IVec S8192x2048 1 := cmpf .ogt main_v0 main_v1
  let main_v3 : FVec F S8192x2048 .f32 := (extf .f32 · bitsLt_bf16_f32) main_arg0
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : IVec S8192x2048 1 := andi main_v2 main_v5
  let main_v7 : FVec F S5632x2048 .f32 := (extf .f32 · bitsLt_bf16_f32) main_arg1
  let main_cst_1 : FVec F S_ .f32 := constant S_ .f32 0xFF800000#32
  let main_v8 : FVec F S5632x2048 .f32 := broadcastInDim S5632x2048 ![] bcast_S_S5632x2048 main_cst_1
  let main_v9 : IVec S5632x2048 1 := cmpf .ogt main_v7 main_v8
  let main_v10 : FVec F S5632x2048 .f32 := (extf .f32 · bitsLt_bf16_f32) main_arg1
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_v13 : IVec S5632x2048 1 := andi main_v9 main_v12
  let main_v14 : FVec F S2x8192x5632 .f32 := (extf .f32 · bitsLt_bf16_f32) main_arg2
  let main_cst_3 : FVec F S_ .f32 := constant S_ .f32 0xFF800000#32
  let main_v15 : FVec F S2x8192x5632 .f32 := broadcastInDim S2x8192x5632 ![] bcast_S_S2x8192x5632 main_cst_3
  let main_v16 : IVec S2x8192x5632 1 := cmpf .ogt main_v14 main_v15
  let main_v17 : FVec F S2x8192x5632 .f32 := (extf .f32 · bitsLt_bf16_f32) main_arg2
  let main_cst_4 : FVec F S_ .f32 := constant S_ .f32 0x7F800000#32
  fn_part1 (F := F) main_arg3 main_v6 main_v13 main_v16 main_v17 main_cst_4
-- ==== Kernel.lean ====
abbrev S8192x4352 : Shape := ⟨2, ![8192, 4352]⟩
abbrev S8192x2048 : Shape := ⟨2, ![8192, 2048]⟩
abbrev S1x16 : Shape := ⟨2, ![1, 16]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x1024 : Shape := ⟨2, ![8192, 1024]⟩
abbrev S8x128 : Shape := ⟨2, ![8, 128]⟩
abbrev S128x1024 : Shape := ⟨2, ![128, 1024]⟩
abbrev S128x128 : Shape := ⟨2, ![128, 128]⟩
abbrev S1x128 : Shape := ⟨2, ![1, 128]⟩
abbrev S256x128 : Shape := ⟨2, ![256, 128]⟩
abbrev S1x512 : Shape := ⟨2, ![1, 512]⟩
abbrev S256x1 : Shape := ⟨2, ![256, 1]⟩
abbrev S256x512 : Shape := ⟨2, ![256, 512]⟩
abbrev S512x128 : Shape := ⟨2, ![512, 128]⟩
abbrev S1x1 : Shape := ⟨2, ![1, 1]⟩
abbrev S512 : Shape := ⟨1, ![512]⟩
abbrev S1 : Shape := ⟨1, ![1]⟩

abbrev nBuf : Space → Nat
  | .hbm => 32
  | .vmem => 29
  | .smem => 1
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S1x16, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .f32⟩
  | .hbm, ⟨12, _⟩ => ⟨S8192x1, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S1x8192x1x32, .f32⟩
  | .hbm, ⟨19, _⟩ => ⟨S1x8192x4x32, .f32⟩
  | .hbm, ⟨20, _⟩ => ⟨S8192x128, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S8192x1024, .bf16⟩
  | .hbm, ⟨29, _⟩ => ⟨S8192x128, .bf16⟩
  | .hbm, ⟨30, _⟩ => ⟨S8192x128, .bf16⟩
  | .hbm, ⟨31, _⟩ => ⟨S8x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x128, .bf16⟩
  | .local _ .vmem, ⟨23, _⟩ => ⟨S128x128, .bf16⟩
  | .local _ .vmem, ⟨24, _⟩ => ⟨S128x128, .bf16⟩
  | .local _ .vmem, ⟨25, _⟩ => ⟨S128x128, .bf16⟩
  | .local _ .vmem, ⟨26, _⟩ => ⟨S8x128, .f32⟩
  | .local _ .vmem, ⟨27, _⟩ => ⟨S128x128, .f32⟩
  | .local _ .vmem, ⟨28, _⟩ => ⟨S128x128, .f32⟩
  | .local _ .smem, ⟨0, _⟩ => ⟨S1x16, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_scratch0 : Ref sig .tc := ⟨.vmem, 27, rfl⟩
abbrev cc0_scratch1 : Ref sig .tc := ⟨.vmem, 28, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c8_i32 : BitVec 32 := 8#32
  let c0_i32 : BitVec 32 := 0#32
  ![v0.toNat, c8_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c9_i32 : BitVec 32 := 9#32
  let c0_i32 : BitVec 32 := 0#32
  ![v0.toNat, c9_i32.toNat]

def cc0_transform_3 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c8_i32 : BitVec 32 := 8#32
  let c0_i32_0 : BitVec 32 := 0#32
  ![v1.toNat, c8_i32.toNat]

def cc0_transform_4 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c9_i32 : BitVec 32 := 9#32
  let c0_i32_0 : BitVec 32 := 0#32
  ![v1.toNat, c9_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S8192x4352 : Shape := ⟨2, ![8192, 4352]⟩
abbrev S8192x2048 : Shape := ⟨2, ![8192, 2048]⟩
abbrev S1x16 : Shape := ⟨2, ![1, 16]⟩
abbrev S1x8192x4352 : Shape := ⟨3, ![1, 8192, 4352]⟩
abbrev S1x8192x2048 : Shape := ⟨3, ![1, 8192, 2048]⟩
abbrev S1x8192x1024 : Shape := ⟨3, ![1, 8192, 1024]⟩
abbrev S1x8192x128 : Shape := ⟨3, ![1, 8192, 128]⟩
abbrev S16 : Shape := ⟨1, ![16]⟩
abbrev S8192 : Shape := ⟨1, ![8192]⟩
abbrev S1x8192x16x64 : Shape := ⟨4, ![1, 8192, 16, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x16x32 : Shape := ⟨4, ![1, 8192, 16, 32]⟩
abbrev S1x8192x2x64 : Shape := ⟨4, ![1, 8192, 2, 64]⟩
abbrev S1x8192x2x32 : Shape := ⟨4, ![1, 8192, 2, 32]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128x1 : Shape := ⟨6, ![1, 64, 2, 8, 128, 1]⟩
abbrev S1x64x2x8x128x257 : Shape := ⟨6, ![1, 64, 2, 8, 128, 257]⟩
abbrev S1x64x2x8x128 : Shape := ⟨5, ![1, 64, 2, 8, 128]⟩
abbrev S1x64x2x64x8x128 : Shape := ⟨6, ![1, 64, 2, 64, 8, 128]⟩
abbrev S1x64x2x64x256 : Shape := ⟨5, ![1, 64, 2, 64, 256]⟩
abbrev S64x2x8x128 : Shape := ⟨4, ![64, 2, 8, 128]⟩
abbrev S2x8 : Shape := ⟨2, ![2, 8]⟩
abbrev S1x64x2x128x8x64 : Shape := ⟨6, ![1, 64, 2, 128, 8, 64]⟩
abbrev S1x64x2x256x64 : Shape := ⟨5, ![1, 64, 2, 256, 64]⟩
abbrev S8x128 : Shape := ⟨2, ![8, 128]⟩
abbrev S8192x1024 : Shape := ⟨2, ![8192, 1024]⟩
abbrev S8192x128 : Shape := ⟨2, ![8192, 128]⟩

abbrev nBuf : Space → Nat
  | .hbm => 296
  | .vmem => 0
  | .smem => 0
  | _ => 0

abbrev hbmTy0_0 (i : Nat) : BufTy := match i % 128 with
  | 0 => ⟨S8192x4352, .bf16⟩
  | 1 => ⟨S8192x2048, .bf16⟩
  | 2 => ⟨S1x16, .f32⟩
  | 3 => ⟨S8192x4352, .f32⟩
  | 4 => ⟨S1x8192x4352, .f32⟩
  | 5 => ⟨S8192x2048, .f32⟩
  | 6 => ⟨S1x8192x2048, .f32⟩
  | 7 => ⟨S1x8192x1024, .f32⟩
  | 8 => ⟨S1x8192x128, .f32⟩
  | 9 => ⟨S1x8192x128, .f32⟩
  | 10 => ⟨S16, .f32⟩
  | 11 => ⟨S8192, .i32⟩
  | 12 => ⟨S1x8192x16x64, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S8192, .f32⟩
  | 22 => ⟨S8192x1, .f32⟩
  | 23 => ⟨S1x32, .f32⟩
  | 24 => ⟨S8192x32, .f32⟩
  | 25 => ⟨S8192x32, .f32⟩
  | 26 => ⟨S8192x32, .f32⟩
  | 27 => ⟨S8192x32, .f32⟩
  | 28 => ⟨S1x8192x1x32, .f32⟩
  | 29 => ⟨S8192x32, .f32⟩
  | 30 => ⟨S1x8192x1x32, .f32⟩
  | 31 => ⟨S1x8192x16x32, .f32⟩
  | 32 => ⟨S1x8192x16x32, .f32⟩
  | 33 => ⟨S1x8192x16x32, .f32⟩
  | 34 => ⟨S1x8192x16x32, .f32⟩
  | 35 => ⟨S1x8192x16x32, .f32⟩
  | 36 => ⟨S1x8192x16x32, .f32⟩
  | 37 => ⟨S1x8192x16x32, .f32⟩
  | 38 => ⟨S1x8192x16x32, .f32⟩
  | 39 => ⟨S1x8192x16x32, .f32⟩
  | 40 => ⟨S1x8192x16x32, .f32⟩
  | 41 => ⟨S1x8192x16x32, .f32⟩
  | 42 => ⟨S1x8192x16x32, .f32⟩
  | 43 => ⟨S1x8192x16x64, .f32⟩
  | 44 => ⟨S1x8192x2x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8192, .f32⟩
  | 54 => ⟨S8192x1, .f32⟩
  | 55 => ⟨S1x32, .f32⟩
  | 56 => ⟨S8192x32, .f32⟩
  | 57 => ⟨S8192x32, .f32⟩
  | 58 => ⟨S8192x32, .f32⟩
  | 59 => ⟨S8192x32, .f32⟩
  | 60 => ⟨S1x8192x1x32, .f32⟩
  | 61 => ⟨S8192x32, .f32⟩
  | 62 => ⟨S1x8192x1x32, .f32⟩
  | 63 => ⟨S1x8192x2x32, .f32⟩
  | 64 => ⟨S1x8192x2x32, .f32⟩
  | 65 => ⟨S1x8192x2x32, .f32⟩
  | 66 => ⟨S1x8192x2x32, .f32⟩
  | 67 => ⟨S1x8192x2x32, .f32⟩
  | 68 => ⟨S1x8192x2x32, .f32⟩
  | 69 => ⟨S1x8192x2x32, .f32⟩
  | 70 => ⟨S1x8192x2x32, .f32⟩
  | 71 => ⟨S1x8192x2x32, .f32⟩
  | 72 => ⟨S1x8192x2x32, .f32⟩
  | 73 => ⟨S1x8192x2x32, .f32⟩
  | 74 => ⟨S1x8192x2x32, .f32⟩
  | 75 => ⟨S1x8192x2x64, .f32⟩
  | 76 => ⟨S1x8192x2x64, .f32⟩
  | 77 => ⟨S1x64x128x2x8x64, .f32⟩
  | 78 => ⟨S1x64x128x2x64, .f32⟩
  | 79 => ⟨S1x1x128x2x64, .f32⟩
  | 80 => ⟨S_, .f32⟩
  | 81 => ⟨S1x1x128x2x64, .f32⟩
  | 82 => ⟨S1x63x128x2x64, .f32⟩
  | 83 => ⟨S1x64x128x2x64, .f32⟩
  | 84 => ⟨S_, .f32⟩
  | 85 => ⟨S1x1x128x2x64, .f32⟩
  | 86 => ⟨S1x64x256x2x64, .f32⟩
  | 87 => ⟨S1x64x128x2x64, .f32⟩
  | 88 => ⟨S1x1x128x2x64, .f32⟩
  | 89 => ⟨S_, .f32⟩
  | 90 => ⟨S1x1x128x2x64, .f32⟩
  | 91 => ⟨S1x63x128x2x64, .f32⟩
  | 92 => ⟨S1x64x128x2x64, .f32⟩
  | 93 => ⟨S_, .f32⟩
  | 94 => ⟨S1x1x128x2x64, .f32⟩
  | 95 => ⟨S1x64x256x2x64, .f32⟩
  | 96 => ⟨S1x64x2x256x128x8, .f32⟩
  | 97 => ⟨S1x64x2x8x128x256, .f32⟩
  | 98 => ⟨S_, .f32⟩
  | 99 => ⟨S1x64x2x8x128x256, .f32⟩
  | 100 => ⟨S1x64x2x8x128x256, .f32⟩
  | 101 => ⟨S128, .i32⟩
  | 102 => ⟨S128x1, .i32⟩
  | 103 => ⟨S256, .i32⟩
  | 104 => ⟨S1x256, .i32⟩
  | 105 => ⟨S_, .i32⟩
  | 106 => ⟨S128x1, .i32⟩
  | 107 => ⟨S128x1, .i32⟩
  | 108 => ⟨S128x256, .i32⟩
  | 109 => ⟨S128x256, .i32⟩
  | 110 => ⟨S128x256, .i32⟩
  | 111 => ⟨S64, .i32⟩
  | 112 => ⟨S64x1x1, .i32⟩
  | 113 => ⟨S_, .i32⟩
  | 114 => ⟨S64x1x1, .i32⟩
  | 115 => ⟨S64x1x1, .i32⟩
  | 116 => ⟨S_, .i32⟩
  | 117 => ⟨S64x1x1, .i32⟩
  | 118 => ⟨S64x1x1, .i32⟩
  | 119 => ⟨S1x1x256, .i32⟩
  | 120 => ⟨S64x1x256, .i32⟩
  | 121 => ⟨S64x1x256, .i32⟩
  | 122 => ⟨S64x1x256, .i32⟩
  | 123 => ⟨S_, .i32⟩
  | 124 => ⟨S128x256, .i32⟩
  | 125 => ⟨S128x256, .i1⟩
  | 126 => ⟨S_, .i32⟩
  | 127 => ⟨S128x256, .i32⟩
  | _ => ⟨S8192x4352, .bf16⟩

abbrev hbmTy0_1 (i : Nat) : BufTy := match i % 128 with
  | 0 => ⟨S128x256, .i1⟩
  | 1 => ⟨S128x256, .i1⟩
  | 2 => ⟨S_, .i32⟩
  | 3 => ⟨S64x1x256, .i32⟩
  | 4 => ⟨S64x1x256, .i1⟩
  | 5 => ⟨S1x128x256, .i1⟩
  | 6 => ⟨S64x128x256, .i1⟩
  | 7 => ⟨S64x128x256, .i1⟩
  | 8 => ⟨S64x128x256, .i1⟩
  | 9 => ⟨S1x64x1x1x128x256, .i1⟩
  | 10 => ⟨S_, .f32⟩
  | 11 => ⟨S_, .f32⟩
  | 12 => ⟨S1x64x2x8x128x256, .i1⟩
  | 13 => ⟨S1x64x2x8x128x256, .f32⟩
  | 14 => ⟨S1x64x2x8x128x256, .f32⟩
  | 15 => ⟨S_, .f32⟩
  | 16 => ⟨S1x64x2x8x128x256, .f32⟩
  | 17 => ⟨S1x1x2x8x1x1, .f32⟩
  | 18 => ⟨S1x64x2x8x128x1, .f32⟩
  | 19 => ⟨S1x64x2x8x128x257, .f32⟩
  | 20 => ⟨S_, .f32⟩
  | 21 => ⟨S1x64x2x8x128, .f32⟩
  | 22 => ⟨S1x64x2x8x128x1, .f32⟩
  | 23 => ⟨S1x64x2x8x128x257, .f32⟩
  | 24 => ⟨S1x64x2x8x128x257, .i1⟩
  | 25 => ⟨S1x64x2x8x128x257, .f32⟩
  | 26 => ⟨S_, .f32⟩
  | 27 => ⟨S1x64x2x8x128, .f32⟩
  | 28 => ⟨S_, .f32⟩
  | 29 => ⟨S1x64x2x8x128, .f32⟩
  | 30 => ⟨S1x64x2x8x128, .f32⟩
  | 31 => ⟨S_, .f32⟩
  | 32 => ⟨S1x64x2x8x128, .f32⟩
  | 33 => ⟨S1x64x2x8x128, .i1⟩
  | 34 => ⟨S_, .f32⟩
  | 35 => ⟨S1x64x2x8x128, .f32⟩
  | 36 => ⟨S1x64x2x8x128, .i1⟩
  | 37 => ⟨S_, .f32⟩
  | 38 => ⟨S1x64x2x8x128, .f32⟩
  | 39 => ⟨S_, .f32⟩
  | 40 => ⟨S1x64x2x8x128, .f32⟩
  | 41 => ⟨S_, .f32⟩
  | 42 => ⟨S1x64x2x8x128, .f32⟩
  | 43 => ⟨S1x64x2x8x128, .f32⟩
  | 44 => ⟨S1x64x2x8x128, .f32⟩
  | 45 => ⟨S1x64x2x8x128x1, .f32⟩
  | 46 => ⟨S1x64x2x8x128x257, .f32⟩
  | 47 => ⟨S1x64x2x8x128x257, .f32⟩
  | 48 => ⟨S1x64x2x8x128x257, .f32⟩
  | 49 => ⟨S_, .f32⟩
  | 50 => ⟨S1x64x2x8x128, .f32⟩
  | 51 => ⟨S1x64x2x8x128x1, .f32⟩
  | 52 => ⟨S1x64x2x8x128x257, .f32⟩
  | 53 => ⟨S1x64x2x8x128x257, .f32⟩
  | 54 => ⟨S1x64x2x8x128x1, .f32⟩
  | 55 => ⟨S_, .f32⟩
  | 56 => ⟨S1x64x2x8x128x1, .f32⟩
  | 57 => ⟨S1x64x2x8x128x1, .f32⟩
  | 58 => ⟨S1x64x2x8x128x256, .f32⟩
  | 59 => ⟨S1x64x2x64x8x128, .f32⟩
  | 60 => ⟨S1x64x128x2x8x64, .f32⟩
  | 61 => ⟨S1x8192x1024, .f32⟩
  | 62 => ⟨S1x8192x1024, .f32⟩
  | 63 => ⟨S1x64x128x2x8x64, .f32⟩
  | 64 => ⟨S1x64x2x64x8x128, .f32⟩
  | 65 => ⟨S1x64x2x8x128x256, .f32⟩
  | 66 => ⟨S1x64x2x64x256, .f32⟩
  | 67 => ⟨S1x64x256x2x64, .f32⟩
  | 68 => ⟨S_, .f32⟩
  | 69 => ⟨S1x64x2x8x128x257, .f32⟩
  | 70 => ⟨S1x64x2x8x128x257, .f32⟩
  | 71 => ⟨S1x64x2x8x128x257, .f32⟩
  | 72 => ⟨S1x64x2x8x128x257, .f32⟩
  | 73 => ⟨S_, .f32⟩
  | 74 => ⟨S1x64x2x8x128, .f32⟩
  | 75 => ⟨S1x64x2x8x128x1, .f32⟩
  | 76 => ⟨S1x64x2x8x128x1, .f32⟩
  | 77 => ⟨S1x64x2x8x128x257, .f32⟩
  | 78 => ⟨S1x64x2x8x128x257, .f32⟩
  | 79 => ⟨S_, .f32⟩
  | 80 => ⟨S64x2x8x128, .f32⟩
  | 81 => ⟨S1x64x2x8x128, .f32⟩
  | 82 => ⟨S1x64x2x8x128x257, .f32⟩
  | 83 => ⟨S1x64x2x8x128x257, .f32⟩
  | 84 => ⟨S1x64x2x8x128x257, .f32⟩
  | 85 => ⟨S1x64x2x8x128x256, .f32⟩
  | 86 => ⟨S1x64x2x8x128x1, .f32⟩
  | 87 => ⟨S_, .f32⟩
  | 88 => ⟨S2x8, .f32⟩
  | 89 => ⟨S1x1x2x8x1x1, .f32⟩
  | 90 => ⟨S16, .f32⟩
  | 91 => ⟨S_, .f32⟩
  | 92 => ⟨S1x64x2x8x128x256, .f32⟩
  | 93 => ⟨S1x64x2x8x128x256, .f32⟩
  | 94 => ⟨S_, .f32⟩
  | 95 => ⟨S1x64x2x8x128x256, .f32⟩
  | 96 => ⟨S1x64x2x8x128x256, .f32⟩
  | 97 => ⟨S1x64x2x256x128x8, .f32⟩
  | 98 => ⟨S1x64x2x128x8x64, .f32⟩
  | 99 => ⟨S1x64x128x2x8x64, .f32⟩
  | 100 => ⟨S1x64x2x256x64, .f32⟩
  | 101 => ⟨S1x64x256x2x64, .f32⟩
  | 102 => ⟨S1x64x128x2x64, .f32⟩
  | 103 => ⟨S1x64x128x2x64, .f32⟩
  | 104 => ⟨S1x1x128x2x64, .f32⟩
  | 105 => ⟨S1x63x128x2x64, .f32⟩
  | 106 => ⟨S_, .f32⟩
  | 107 => ⟨S1x64x128x2x64, .f32⟩
  | 108 => ⟨S1x64x128x2x64, .f32⟩
  | 109 => ⟨S1x8192x2x64, .f32⟩
  | 110 => ⟨S1x64x128x2x64, .f32⟩
  | 111 => ⟨S1x64x128x2x64, .f32⟩
  | 112 => ⟨S1x1x128x2x64, .f32⟩
  | 113 => ⟨S1x63x128x2x64, .f32⟩
  | 114 => ⟨S_, .f32⟩
  | 115 => ⟨S1x64x128x2x64, .f32⟩
  | 116 => ⟨S1x64x128x2x64, .f32⟩
  | 117 => ⟨S1x8192x2x64, .f32⟩
  | 118 => ⟨S1x8192x16x64, .f32⟩
  | 119 => ⟨S1x8192x128, .f32⟩
  | 120 => ⟨S1x8192x2x32, .f32⟩
  | 121 => ⟨S1x8192x2x32, .f32⟩
  | 122 => ⟨S1x8192x2x32, .f32⟩
  | 123 => ⟨S1x8192x2x32, .f32⟩
  | 124 => ⟨S1x8192x2x32, .f32⟩
  | 125 => ⟨S1x8192x2x32, .f32⟩
  | 126 => ⟨S1x8192x2x32, .f32⟩
  | 127 => ⟨S1x8192x2x32, .f32⟩
  | _ => ⟨S8192x4352, .bf16⟩

abbrev hbmTy0_2 (i : Nat) : BufTy := match i % 128 with
  | 0 => ⟨S1x8192x2x32, .f32⟩
  | 1 => ⟨S1x8192x2x32, .f32⟩
  | 2 => ⟨S1x8192x2x32, .f32⟩
  | 3 => ⟨S1x8192x2x32, .f32⟩
  | 4 => ⟨S1x8192x2x32, .f32⟩
  | 5 => ⟨S_, .f32⟩
  | 6 => ⟨S1x8192x2x64, .f32⟩
  | 7 => ⟨S_, .f32⟩
  | 8 => ⟨S1x8192x2x64, .f32⟩
  | 9 => ⟨S1x8192x2x64, .f32⟩
  | 10 => ⟨S1x8192x128, .f32⟩
  | 11 => ⟨S1x8192x16x32, .f32⟩
  | 12 => ⟨S1x8192x16x32, .f32⟩
  | 13 => ⟨S1x8192x16x32, .f32⟩
  | 14 => ⟨S1x8192x16x32, .f32⟩
  | 15 => ⟨S1x8192x16x32, .f32⟩
  | 16 => ⟨S1x8192x16x32, .f32⟩
  | 17 => ⟨S1x8192x16x32, .f32⟩
  | 18 => ⟨S1x8192x16x32, .f32⟩
  | 19 => ⟨S1x8192x16x32, .f32⟩
  | 20 => ⟨S1x8192x16x32, .f32⟩
  | 21 => ⟨S1x8192x16x32, .f32⟩
  | 22 => ⟨S1x8192x16x32, .f32⟩
  | 23 => ⟨S1x8192x16x32, .f32⟩
  | 24 => ⟨S_, .f32⟩
  | 25 => ⟨S1x8192x16x64, .f32⟩
  | 26 => ⟨S_, .f32⟩
  | 27 => ⟨S1x8192x16x64, .f32⟩
  | 28 => ⟨S1x8192x16x64, .f32⟩
  | 29 => ⟨S1x8192x1024, .f32⟩
  | 30 => ⟨S1x16, .f32⟩
  | 31 => ⟨S_, .i32⟩
  | 32 => ⟨S_, .f32⟩
  | 33 => ⟨S8x128, .f32⟩
  | 34 => ⟨S8192x1024, .f32⟩
  | 35 => ⟨S8192x1024, .bf16⟩
  | 36 => ⟨S8192x128, .f32⟩
  | 37 => ⟨S8192x128, .bf16⟩
  | 38 => ⟨S8192x128, .f32⟩
  | 39 => ⟨S8192x128, .bf16⟩
  | _ => ⟨S8192x4352, .bf16⟩

abbrev hbmTy (i : Nat) : BufTy := match i / 128 with
  | 0 => hbmTy0_0 i
  | 1 => hbmTy0_1 i
  | 2 => hbmTy0_2 i
  | _ => ⟨S8192x4352, .bf16⟩

abbrev bufTy : (tb : Table) → Fin (tcTables nBuf tb) → BufTy
  | .hbm, ⟨i, _⟩ => hbmTy i
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_1 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_4 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_cst_5 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_6 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_c : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_c_8 : Ref sig .tc := ⟨.hbm, 113, rfl⟩
abbrev main_v100 : Ref sig .tc := ⟨.hbm, 114, rfl⟩
abbrev main_v101 : Ref sig .tc := ⟨.hbm, 115, rfl⟩
abbrev main_c_9 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_c_10 : Ref sig .tc := ⟨.hbm, 123, rfl⟩
abbrev main_v108 : Ref sig .tc := ⟨.hbm, 124, rfl⟩
abbrev main_v109 : Ref sig .tc := ⟨.hbm, 125, rfl⟩
abbrev main_c_11 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_c_12 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_13 : Ref sig .tc := ⟨.hbm, 138, rfl⟩
abbrev main_call0_v0 : Ref sig .tc := ⟨.hbm, 139, rfl⟩
abbrev main_v120_1 : Ref sig .tc := ⟨.hbm, 140, rfl⟩
abbrev main_call0_v2 : Ref sig .tc := ⟨.hbm, 141, rfl⟩
abbrev main_v120_0 : Ref sig .tc := ⟨.hbm, 142, rfl⟩
abbrev main_call0_cst : Ref sig .tc := ⟨.hbm, 143, rfl⟩
abbrev main_v120_2 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_14 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_cst_15 : Ref sig .tc := ⟨.hbm, 154, rfl⟩
abbrev main_v129 : Ref sig .tc := ⟨.hbm, 155, rfl⟩
abbrev main_cst_16 : Ref sig .tc := ⟨.hbm, 156, rfl⟩
abbrev main_v130 : Ref sig .tc := ⟨.hbm, 157, rfl⟩
abbrev main_v131 : Ref sig .tc := ⟨.hbm, 158, rfl⟩
abbrev main_cst_17 : Ref sig .tc := ⟨.hbm, 159, rfl⟩
abbrev main_v132 : Ref sig .tc := ⟨.hbm, 160, rfl⟩
abbrev main_v133 : Ref sig .tc := ⟨.hbm, 161, rfl⟩
abbrev main_cst_18 : Ref sig .tc := ⟨.hbm, 162, rfl⟩
abbrev main_v134 : Ref sig .tc := ⟨.hbm, 163, rfl⟩
abbrev main_v135 : Ref sig .tc := ⟨.hbm, 164, rfl⟩
abbrev main_cst_19 : Ref sig .tc := ⟨.hbm, 165, rfl⟩
abbrev main_v136 : Ref sig .tc := ⟨.hbm, 166, rfl⟩
abbrev main_cst_20 : Ref sig .tc := ⟨.hbm, 167, rfl⟩
abbrev main_v137 : Ref sig .tc := ⟨.hbm, 168, rfl⟩
abbrev main_cst_21 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_22 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_23 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_24 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_25 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_26 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_27 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_call1_cst : Ref sig .tc := ⟨.hbm, 219, rfl⟩
abbrev main_call1_v0 : Ref sig .tc := ⟨.hbm, 220, rfl⟩
abbrev main_v181 : Ref sig .tc := ⟨.hbm, 221, rfl⟩
abbrev main_cst_28 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_29 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_cst_30 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_cst_31 : Ref sig .tc := ⟨.hbm, 261, rfl⟩
abbrev main_v218 : Ref sig .tc := ⟨.hbm, 262, rfl⟩
abbrev main_cst_32 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_cst_33 : Ref sig .tc := ⟨.hbm, 280, rfl⟩
abbrev main_v235 : Ref sig .tc := ⟨.hbm, 281, rfl⟩
abbrev main_cst_34 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_c_35 : Ref sig .tc := ⟨.hbm, 287, rfl⟩
abbrev main_call2_v0 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩

abbrev nD : Nat := 1
abbrev τ : Topo := Topo.v7x

variable {F : FTy → Type} [FloatOps F]
-- ==== WUp.lean ====
abbrev S8192x2048 : Shape := ⟨2, ![8192, 2048]⟩
abbrev S2x8192x5632 : Shape := ⟨3, ![2, 8192, 5632]⟩
abbrev S2048x11264 : Shape := ⟨2, ![2048, 11264]⟩
abbrev S8192x1024 : Shape := ⟨2, ![8192, 1024]⟩
abbrev S1x8192x512 : Shape := ⟨3, ![1, 8192, 512]⟩
abbrev S1024x512 : Shape := ⟨2, ![1024, 512]⟩
abbrev S8192x512 : Shape := ⟨2, ![8192, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2048x11264, .bf16⟩
  | .local _ .vmem, ⟨0, _⟩ => ⟨S8192x1024, .bf16⟩
  | .local _ .vmem, ⟨1, _⟩ => ⟨S1x8192x512, .bf16⟩
  | .local _ .vmem, ⟨2, _⟩ => ⟨S1x8192x512, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpRefIdeal.lean ====
abbrev S8192x2048 : Shape := ⟨2, ![8192, 2048]⟩
abbrev S2x8192x5632 : Shape := ⟨3, ![2, 8192, 5632]⟩
abbrev S1x8192x2048 : Shape := ⟨3, ![1, 8192, 2048]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8192x2048, .f32⟩
  | .hbm, ⟨3, _⟩ => ⟨S1x8192x2048, .f32⟩
  | .hbm, ⟨4, _⟩ => ⟨S1x8192x5632, .bf16⟩
  | .hbm, ⟨5, _⟩ => ⟨S8192x5632, .bf16⟩
  | .hbm, ⟨6, _⟩ => ⟨S1x8192x5632, .bf16⟩
  | .hbm, ⟨7, _⟩ => ⟨S8192x5632, .bf16⟩
  | .hbm, ⟨8, _⟩ => ⟨S8192x11264, .bf16⟩
  | .hbm, ⟨9, _⟩ => ⟨S8192x11264, .f32⟩
  | .hbm, ⟨10, _⟩ => ⟨S1x8192x11264, .f32⟩
  | .hbm, ⟨11, _⟩ => ⟨S_, .f32⟩
  | .hbm, ⟨12, _⟩ => ⟨S2048x11264, .f32⟩
  | .hbm, ⟨13, _⟩ => ⟨S1x8192x11264, .f32⟩
  | .hbm, ⟨14, _⟩ => ⟨S11264x2048, .f32⟩
  | .hbm, ⟨15, _⟩ => ⟨S2048x11264, .f32⟩
  | .hbm, ⟨16, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== WDown.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S8192x1024 : Shape := ⟨2, ![8192, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S8192x5632 : Shape := ⟨2, ![8192, 5632]⟩
abbrev S8192x2048 : Shape := ⟨2, ![8192, 2048]⟩
abbrev S1x8192x5632 : Shape := ⟨3, ![1, 8192, 5632]⟩
abbrev S1x8192x2048 : Shape := ⟨3, ![1, 8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S1x8192x5632, .f32⟩
  | .hbm, ⟨4, _⟩ => ⟨S8192x2048, .f32⟩
  | .hbm, ⟨5, _⟩ => ⟨S1x8192x2048, .f32⟩
  | .hbm, ⟨6, _⟩ => ⟨S_, .f32⟩
  | .hbm, ⟨7, _⟩ => ⟨S5632x2048, .f32⟩
  | .hbm, ⟨8, _⟩ => ⟨S1x8192x2048, .f32⟩
  | .hbm, ⟨9, _⟩ => ⟨S2048x5632, .f32⟩
  | .hbm, ⟨10, _⟩ => ⟨S5632x2048, .f32⟩
  | .hbm, ⟨11, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== WOut.lean ====
abbrev S8192x1024 : Shape := ⟨2, ![8192, 1024]⟩
abbrev S8192x2048 : Shape := ⟨2, ![8192, 2048]⟩
abbrev S1024x2048 : Shape := ⟨2, ![1024, 2048]⟩
abbrev S8192x512 : Shape := ⟨2, ![8192, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutRefIdeal.lean ====
abbrev S8192x1024 : Shape := ⟨2, ![8192, 1024]⟩
abbrev S8192x2048 : Shape := ⟨2, ![8192, 2048]⟩
abbrev S1x8192x1024 : Shape := ⟨3, ![1, 8192, 1024]⟩
abbrev S1x8192x2048 : Shape := ⟨3, ![1, 8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S1x8192x1024, .f32⟩
  | .hbm, ⟨4, _⟩ => ⟨S8192x2048, .f32⟩
  | .hbm, ⟨5, _⟩ => ⟨S1x8192x2048, .f32⟩
  | .hbm, ⟨6, _⟩ => ⟨S_, .f32⟩
  | .hbm, ⟨7, _⟩ => ⟨S1024x2048, .f32⟩
  | .hbm, ⟨8, _⟩ => ⟨S1x8192x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DMix.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S8192x2048 : Shape := ⟨2, ![8192, 2048]⟩
abbrev S2048x2048 : Shape := ⟨2, ![2048, 2048]⟩
abbrev S1x8192x2048 : Shape := ⟨3, ![1, 8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x8192x2048, .f32⟩
  | .hbm, ⟨4, _⟩ => ⟨S2048x2048, .f32⟩
  | .hbm, ⟨5, _⟩ => ⟨S_, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradX.lean ====
abbrev S8192x4352 : Shape := ⟨2, ![8192, 4352]⟩
abbrev S8192x2048 : Shape := ⟨2, ![8192, 2048]⟩
abbrev S4352x2048 : Shape := ⟨2, ![4352, 2048]⟩
abbrev S512x4352 : Shape := ⟨2, ![512, 4352]⟩
abbrev S4352x1024 : Shape := ⟨2, ![4352, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4352x2048, .bf16⟩
  | .hbm, ⟨3, _⟩ => ⟨S8192x2048, .f32⟩
  | .local _ .vmem, ⟨0, _⟩ => ⟨S512x4352, .bf16⟩
  | .local _ .vmem, ⟨1, _⟩ => ⟨S512x4352, .bf16⟩
  | .local _ .vmem, ⟨2, _⟩ => ⟨S4352x1024, .bf16⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXRefIdeal.lean ====
abbrev S8192x4352 : Shape := ⟨2, ![8192, 4352]⟩
abbrev S8192x2048 : Shape := ⟨2, ![8192, 2048]⟩
abbrev S4352x2048 : Shape := ⟨2, ![4352, 2048]⟩
abbrev S1x8192x4352 : Shape := ⟨3, ![1, 8192, 4352]⟩
abbrev S1x8192x2048 : Shape := ⟨3, ![1, 8192, 2048]⟩
abbrev S2048x4352 : Shape := ⟨2, ![2048, 4352]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S4352x2048, .bf16⟩
  | .hbm, ⟨3, _⟩ => ⟨S8192x4352, .f32⟩
  | .hbm, ⟨4, _⟩ => ⟨S1x8192x4352, .f32⟩
  | .hbm, ⟨5, _⟩ => ⟨S8192x2048, .f32⟩
  | .hbm, ⟨6, _⟩ => ⟨S1x8192x2048, .f32⟩
  | .hbm, ⟨7, _⟩ => ⟨S4352x2048, .f32⟩
  | .hbm, ⟨8, _⟩ => ⟨S2048x4352, .f32⟩
  | .hbm, ⟨9, _⟩ => ⟨S_, .f32⟩
  | .hbm, ⟨10, _⟩ => ⟨S1x8192x2048, .f32⟩
  | .hbm, ⟨11, _⟩ => ⟨S1x8192x4352, .f32⟩
  | .hbm, ⟨12, _⟩ => ⟨S_, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192x2048, .f32⟩
  | .hbm, ⟨17, _⟩ => ⟨S1x8192x2048, .f32⟩
  | .hbm, ⟨18, _⟩ => ⟨S1x8192x2048, .f32⟩
  | .hbm, ⟨19, _⟩ => ⟨S1x8192x2048, .f32⟩
  | .hbm, ⟨20, _⟩ => ⟨S8192x2048, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== WIn.lean ====
abbrev S8192x4352 : Shape := ⟨2, ![8192, 4352]⟩
abbrev S8192x2048 : Shape := ⟨2, ![8192, 2048]⟩
abbrev S4352x2048 : Shape := ⟨2, ![4352, 2048]⟩
abbrev S2048x2176 : Shape := ⟨2, ![2048, 2176]⟩
abbrev S2048x512 : Shape := ⟨2, ![2048, 512]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .f32⟩
  | .hbm, ⟨2, _⟩ => ⟨S4352x2048, .bf16⟩
  | .local _ .vmem, ⟨0, _⟩ => ⟨S2048x2176, .bf16⟩
  | .local _ .vmem, ⟨1, _⟩ => ⟨S2048x2176, .bf16⟩
  | .local _ .vmem, ⟨2, _⟩ => ⟨S2048x512, .f32⟩
  | .local _ .vmem, ⟨3, _⟩ => ⟨S2048x512, .f32⟩
  | .local _ .vmem, ⟨4, _⟩ => ⟨S2176x512, .bf16⟩
  | .local _ .vmem, ⟨5, _⟩ => ⟨S2176x512, .bf16⟩
  | .local _ .vmem, ⟨6, _⟩ => ⟨S2176x512, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S8192x4352 : Shape := ⟨2, ![8192, 4352]⟩
abbrev S8192x2048 : Shape := ⟨2, ![8192, 2048]⟩
abbrev S1x8192x4352 : Shape := ⟨3, ![1, 8192, 4352]⟩
abbrev S1x8192x2048 : Shape := ⟨3, ![1, 8192, 2048]⟩
abbrev S_ : Shape := ⟨0, ![]⟩
abbrev S2048x4352 : Shape := ⟨2, ![2048, 4352]⟩
abbrev S4352x2048 : Shape := ⟨2, ![4352, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .f32⟩
  | .hbm, ⟨2, _⟩ => ⟨S8192x4352, .f32⟩
  | .hbm, ⟨3, _⟩ => ⟨S1x8192x4352, .f32⟩
  | .hbm, ⟨4, _⟩ => ⟨S1x8192x2048, .f32⟩
  | .hbm, ⟨5, _⟩ => ⟨S_, .f32⟩
  | .hbm, ⟨6, _⟩ => ⟨S2048x4352, .f32⟩
  | .hbm, ⟨7, _⟩ => ⟨S1x8192x4352, .f32⟩
  | .hbm, ⟨8, _⟩ => ⟨S4352x2048, .f32⟩
  | .hbm, ⟨9, _⟩ => ⟨S2048x4352, .f32⟩
  | .hbm, ⟨10, _⟩ => ⟨S4352x2048, .f32⟩
  | .hbm, ⟨11, _⟩ => ⟨S4352x2048, .bf16⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ln.lean ====
abbrev S2x8192x5632 : Shape := ⟨3, ![2, 8192, 5632]⟩
abbrev S2048x11264 : Shape := ⟨2, ![2048, 11264]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩
abbrev S1x512x2816 : Shape := ⟨3, ![1, 512, 2816]⟩
abbrev S2048x2816 : Shape := ⟨2, ![2048, 2816]⟩
abbrev S512x2048 : Shape := ⟨2, ![512, 2048]⟩
abbrev S512x1 : Shape := ⟨2, ![512, 1]⟩
abbrev S512x2816 : Shape := ⟨2, ![512, 2816]⟩
abbrev S128x2048 : Shape := ⟨2, ![128, 2048]⟩
abbrev S128x1 : Shape := ⟨2, ![128, 1]⟩
abbrev S128 : Shape := ⟨1, ![128]⟩
abbrev S2048 : Shape := ⟨1, ![2048]⟩

abbrev nBuf : Space → Nat
  | .hbm => 31
  | .vmem => 15
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S8192x2048, .bf16⟩
  | .hbm, ⟨30, _⟩ => ⟨S8x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S2048x2816, .bf16⟩
  | .local _ .vmem, ⟨3, _⟩ => ⟨S2048x2816, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .bf16⟩
  | .local _ .vmem, ⟨12, _⟩ => ⟨S512x2048, .bf16⟩
  | .local _ .vmem, ⟨13, _⟩ => ⟨S8x2048, .f32⟩
  | .local _ .vmem, ⟨14, _⟩ => ⟨S512x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def k0_mult1 : BitVec 32 :=
  let c0_i32_13 : BitVec 32 := 0#32
  let c128_i32 : BitVec 32 := 128#32
  let v19 : BitVec 32 := Scalar.muli c0_i32_13 c128_i32
  v19
def k0_off1 (c0_i32_13 : BitVec 32) : Fin 2 → Nat :=
  let c128_i32 : BitVec 32 := 128#32
  let v19 : BitVec 32 := Scalar.muli c0_i32_13 c128_i32
  let v20 : BitVec 32 := v19
  let v21 : Index := Scalar.indexCast v20
  let c0_14 : Index := 0#32
  ![v21.toNat, 0]
def k0_off2 (c0_i32_13 : BitVec 32) : Fin 2 → Nat :=
  let c128_i32 : BitVec 32 := 128#32
  let v19 : BitVec 32 := Scalar.muli c0_i32_13 c128_i32
  let v20 : BitVec 32 := v19
  let v33 : Index := Scalar.indexCast v20
  let c0_18 : Index := 0#32
  ![v33.toNat, 0]
def k0_mult2 : BitVec 32 :=
  let c1_i32 : BitVec 32 := 1#32
  let c128_i32_33 : BitVec 32 := 128#32
  let v70 : BitVec 32 := Scalar.muli c1_i32 c128_i32_33
  v70
def k0_mult3 : BitVec 32 :=
  let c2_i32 : BitVec 32 := 2#32
  let c128_i32_54 : BitVec 32 := 128#32
  let v121 : BitVec 32 := Scalar.muli c2_i32 c128_i32_54
  v121
def k0_mult4 : BitVec 32 :=
  let c3_i32_75 : BitVec 32 := 3#32
  let c128_i32_76 : BitVec 32 := 128#32
  let v172 : BitVec 32 := Scalar.muli c3_i32_75 c128_i32_76
  v172
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== LnRefIdeal.lean ====
abbrev S2x8192x5632 : Shape := ⟨3, ![2, 8192, 5632]⟩
abbrev S2048x11264 : Shape := ⟨2, ![2048, 11264]⟩
abbrev S8192x2048 : Shape := ⟨2, ![8192, 2048]⟩
abbrev S1x2048 : Shape := ⟨2, ![1, 2048]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S1x8192x2048 : Shape := ⟨3, ![1, 8192, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S6x2048 : Shape := ⟨2, ![6, 2048]⟩
abbrev S8x2048 : Shape := ⟨2, ![8, 2048]⟩

abbrev nBuf : Space → Nat
  | .hbm => 117
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S2048x11264, .bf16⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S1x8192x5632, .bf16⟩
  | .hbm, ⟨6, _⟩ => ⟨S8192x5632, .bf16⟩
  | .hbm, ⟨7, _⟩ => ⟨S1x8192x5632, .bf16⟩
  | .hbm, ⟨8, _⟩ => ⟨S8192x5632, .bf16⟩
  | .hbm, ⟨9, _⟩ => ⟨S8192x11264, .bf16⟩
  | .hbm, ⟨10, _⟩ => ⟨S8192x11264, .f32⟩
  | .hbm, ⟨11, _⟩ => ⟨S1x8192x11264, .f32⟩
  | .hbm, ⟨12, _⟩ => ⟨S8192x2048, .f32⟩
  | .hbm, ⟨13, _⟩ => ⟨S1x8192x2048, .f32⟩
  | .hbm, ⟨14, _⟩ => ⟨S2048x11264, .f32⟩
  | .hbm, ⟨15, _⟩ => ⟨S1x8192x2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x8192x2048, .f32⟩
  | .hbm, ⟨30, _⟩ => ⟨S1x8192x2048, .f32⟩
  | .hbm, ⟨31, _⟩ => ⟨S_, .f32⟩
  | .hbm, ⟨32, _⟩ => ⟨S1x8192, .f32⟩
  | .hbm, ⟨33, _⟩ => ⟨S1x8192x1, .f32⟩
  | .hbm, ⟨34, _⟩ => ⟨S_, .f32⟩
  | .hbm, ⟨35, _⟩ => ⟨S1x8192x1, .f32⟩
  | .hbm, ⟨36, _⟩ => ⟨S1x8192x1, .f32⟩
  | .hbm, ⟨37, _⟩ => ⟨S1x8192x2048, .f32⟩
  | .hbm, ⟨38, _⟩ => ⟨S1x8192x2048, .f32⟩
  | .hbm, ⟨39, _⟩ => ⟨S_, .f32⟩
  | .hbm, ⟨40, _⟩ => ⟨S1x8192x1, .f32⟩
  | .hbm, ⟨41, _⟩ => ⟨S1x8192x1, .f32⟩
  | .hbm, ⟨42, _⟩ => ⟨S1x8192x1, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S1x8192x2048, .f32⟩
  | .hbm, ⟨48, _⟩ => ⟨S1x8192x2048, .f32⟩
  | .hbm, ⟨49, _⟩ => ⟨S1x1x2048, .f32⟩
  | .hbm, ⟨50, _⟩ => ⟨S1x8192x2048, .f32⟩
  | .hbm, ⟨51, _⟩ => ⟨S1x8192x2048, .f32⟩
  | .hbm, ⟨52, _⟩ => ⟨S1x1x2048, .f32⟩
  | .hbm, ⟨53, _⟩ => ⟨S1x8192x2048, .f32⟩
  | .hbm, ⟨54, _⟩ => ⟨S1x8192x2048, .f32⟩
  | .hbm, ⟨55, _⟩ => ⟨S1x8192x11264, .f32⟩
  | .hbm, ⟨56, _⟩ => ⟨S_, .f32⟩
  | .hbm, ⟨57, _⟩ => ⟨S1x8192x2048, .f32⟩
  | .hbm, ⟨58, _⟩ => ⟨S1x8192x2048, .f32⟩
  | .hbm, ⟨59, _⟩ => ⟨S_, .f32⟩
  | .hbm, ⟨60, _⟩ => ⟨S1x8192x2048, .f32⟩
  | .hbm, ⟨61, _⟩ => ⟨S1x8192x2048, .f32⟩
  | .hbm, ⟨62, _⟩ => ⟨S1x8192x2048, .f32⟩
  | .hbm, ⟨63, _⟩ => ⟨S1x8192x2048, .f32⟩
  | .hbm, ⟨64, _⟩ => ⟨S_, .f32⟩
  | .hbm, ⟨65, _⟩ => ⟨S1x2048, .f32⟩
  | .hbm, ⟨66, _⟩ => ⟨S1x1x2048, .f32⟩
  | .hbm, ⟨67, _⟩ => ⟨S_, .f32⟩
  | .hbm, ⟨68, _⟩ => ⟨S2048, .f32⟩
  | .hbm, ⟨69, _⟩ => ⟨S1x8192x2048, .f32⟩
  | .hbm, ⟨70, _⟩ => ⟨S_, .f32⟩
  | .hbm, ⟨71, _⟩ => ⟨S1x2048, .f32⟩
  | .hbm, ⟨72, _⟩ => ⟨S1x1x2048, .f32⟩
  | .hbm, ⟨73, _⟩ => ⟨S1x8192x2048, .f32⟩
  | .hbm, ⟨74, _⟩ => ⟨S1x8192x2048, .f32⟩
  | .hbm, ⟨75, _⟩ => ⟨S_, .f32⟩
  | .hbm, ⟨76, _⟩ => ⟨S2048, .f32⟩
  | .hbm, ⟨77, _⟩ => ⟨S1x8192x2048, .f32⟩
  | .hbm, ⟨78, _⟩ => ⟨S_, .f32⟩
  | .hbm, ⟨79, _⟩ => ⟨S1x8192, .f32⟩
  | .hbm, ⟨80, _⟩ => ⟨S1x8192x1, .f32⟩
  | .hbm, ⟨81, _⟩ => ⟨S1x8192x2048, .f32⟩
  | .hbm, ⟨82, _⟩ => ⟨S1x8192x2048, .f32⟩
  | .hbm, ⟨83, _⟩ => ⟨S1x8192x1, .f32⟩
  | .hbm, ⟨84, _⟩ => ⟨S1x8192x2048, .f32⟩
  | .hbm, ⟨85, _⟩ => ⟨S_, .f32⟩
  | .hbm, ⟨86, _⟩ => ⟨S1x8192, .f32⟩
  | .hbm, ⟨87, _⟩ => ⟨S1x8192x1, .f32⟩
  | .hbm, ⟨88, _⟩ => ⟨S_, .f32⟩
  | .hbm, ⟨89, _⟩ => ⟨S1x8192x1, .f32⟩
  | .hbm, ⟨90, _⟩ => ⟨S1x8192x1, .f32⟩
  | .hbm, ⟨91, _⟩ => ⟨S_, .f32⟩
  | .hbm, ⟨92, _⟩ => ⟨S8192, .f32⟩
  | .hbm, ⟨93, _⟩ => ⟨S1x8192, .f32⟩
  | .hbm, ⟨94, _⟩ => ⟨S1x8192x2048, .f32⟩
  | .hbm, ⟨95, _⟩ => ⟨S1x8192x2048, .f32⟩
  | .hbm, ⟨96, _⟩ => ⟨S1x8192x2048, .f32⟩
  | .hbm, ⟨97, _⟩ => ⟨S_, .f32⟩
  | .hbm, ⟨98, _⟩ => ⟨S1x8192, .f32⟩
  | .hbm, ⟨99, _⟩ => ⟨S1x8192x1, .f32⟩
  | .hbm, ⟨100, _⟩ => ⟨S1x8192x2048, .f32⟩
  | .hbm, ⟨101, _⟩ => ⟨S1x8192x1, .f32⟩
  | .hbm, ⟨102, _⟩ => ⟨S_, .f32⟩
  | .hbm, ⟨103, _⟩ => ⟨S1x8192x1, .f32⟩
  | .hbm, ⟨104, _⟩ => ⟨S1x8192x1, .f32⟩
  | .hbm, ⟨105, _⟩ => ⟨S_, .f32⟩
  | .hbm, ⟨106, _⟩ => ⟨S8192, .f32⟩
  | .hbm, ⟨107, _⟩ => ⟨S1x8192, .f32⟩
  | .hbm, ⟨108, _⟩ => ⟨S1x8192x2048, .f32⟩
  | .hbm, ⟨109, _⟩ => ⟨S1x8192x2048, .f32⟩
  | .hbm, ⟨110, _⟩ => ⟨S8192x2048, .f32⟩
  | .hbm, ⟨111, _⟩ => ⟨S8192x2048, .bf16⟩
  | .hbm, ⟨112, _⟩ => ⟨S1x2048, .f32⟩
  | .hbm, ⟨113, _⟩ => ⟨S1x2048, .f32⟩
  | .hbm, ⟨114, _⟩ => ⟨S_, .f32⟩
  | .hbm, ⟨115, _⟩ => ⟨S6x2048, .f32⟩
  | .hbm, ⟨116, _⟩ => ⟨S8x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_20 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S3x11264 : Shape := ⟨2, ![3, 11264]⟩
abbrev S_ : Shape := ⟨0, ![]⟩
abbrev S8x11264 : Shape := ⟨2, ![8, 11264]⟩
abbrev S2x8192x5632 : Shape := ⟨3, ![2, 8192, 5632]⟩
abbrev S8192x5632 : Shape := ⟨2, ![8192, 5632]⟩
abbrev S1024x2048 : Shape := ⟨2, ![1024, 2048]⟩
abbrev S2048x512 : Shape := ⟨2, ![2048, 512]⟩
abbrev S8x512 : Shape := ⟨2, ![8, 512]⟩
abbrev S2x1024x512 : Shape := ⟨3, ![2, 1024, 512]⟩
abbrev S1024x512 : Shape := ⟨2, ![1024, 512]⟩
abbrev S2x8x512 : Shape := ⟨3, ![2, 8, 512]⟩
abbrev S1x1024x512 : Shape := ⟨3, ![1, 1024, 512]⟩
abbrev S1x8x512 : Shape := ⟨3, ![1, 8, 512]⟩
abbrev S8x1 : Shape := ⟨2, ![8, 1]⟩
abbrev S1x512 : Shape := ⟨2, ![1, 512]⟩
abbrev S1016x512 : Shape := ⟨2, ![1016, 512]⟩

abbrev nBuf : Space → Nat
  | .hbm => 9
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S_, .i32⟩
  | .hbm, ⟨4, _⟩ => ⟨S_, .f32⟩
  | .hbm, ⟨5, _⟩ => ⟨S8x11264, .f32⟩
  | .hbm, ⟨6, _⟩ => ⟨S2x8192x5632, .bf16⟩
  | .hbm, ⟨7, _⟩ => ⟨S2x8192x5632, .bf16⟩
  | .hbm, ⟨8, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S2x1024x512, .bf16⟩
  | .local _ .vmem, ⟨11, _⟩ => ⟨S2x1024x512, .bf16⟩
  | .local _ .vmem, ⟨12, _⟩ => ⟨S2x1024x512, .bf16⟩
  | .local _ .vmem, ⟨13, _⟩ => ⟨S2x1024x512, .bf16⟩
  | .local _ .vmem, ⟨14, _⟩ => ⟨S1024x512, .bf16⟩
  | .local _ .vmem, ⟨15, _⟩ => ⟨S1024x512, .bf16⟩
  | .local _ .vmem, ⟨16, _⟩ => ⟨S2x8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x2048 : Shape := ⟨2, ![8192, 2048]⟩
abbrev S2048x11264 : Shape := ⟨2, ![2048, 11264]⟩
abbrev S3x11264 : Shape := ⟨2, ![3, 11264]⟩
abbrev S1x8192x2048 : Shape := ⟨3, ![1, 8192, 2048]⟩
abbrev S1x8192x11264 : Shape := ⟨3, ![1, 8192, 11264]⟩
abbrev S_ : Shape := ⟨0, ![]⟩
abbrev S1x2x11264 : Shape := ⟨3, ![1, 2, 11264]⟩
abbrev S1x8194x11264 : Shape := ⟨3, ![1, 8194, 11264]⟩
abbrev S1x11264 : Shape := ⟨2, ![1, 11264]⟩
abbrev S11264 : Shape := ⟨1, ![11264]⟩
abbrev S1x1x11264 : Shape := ⟨3, ![1, 1, 11264]⟩
abbrev S1x8192x5632 : Shape := ⟨3, ![1, 8192, 5632]⟩
abbrev S8192x11264 : Shape := ⟨2, ![8192, 11264]⟩
abbrev S8192x5632 : Shape := ⟨2, ![8192, 5632]⟩
abbrev S2x8192x5632 : Shape := ⟨3, ![2, 8192, 5632]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S8192x2048, .f32⟩
  | .hbm, ⟨4, _⟩ => ⟨S1x8192x2048, .f32⟩
  | .hbm, ⟨5, _⟩ => ⟨S2048x11264, .f32⟩
  | .hbm, ⟨6, _⟩ => ⟨S1x8192x11264, .f32⟩
  | .hbm, ⟨7, _⟩ => ⟨S_, .f32⟩
  | .hbm, ⟨8, _⟩ => ⟨S1x2x11264, .f32⟩
  | .hbm, ⟨9, _⟩ => ⟨S1x8194x11264, .f32⟩
  | .hbm, ⟨10, _⟩ => ⟨S1x11264, .f32⟩
  | .hbm, ⟨11, _⟩ => ⟨S11264, .f32⟩
  | .hbm, ⟨12, _⟩ => ⟨S1x8192x11264, .f32⟩
  | .hbm, ⟨13, _⟩ => ⟨S1x1x11264, .f32⟩
  | .hbm, ⟨14, _⟩ => ⟨S1x8192x11264, .f32⟩
  | .hbm, ⟨15, _⟩ => ⟨S1x8192x11264, .f32⟩
  | .hbm, ⟨16, _⟩ => ⟨S_, .f32⟩
  | .hbm, ⟨17, _⟩ => ⟨S1x8192x11264, .f32⟩
  | .hbm, ⟨18, _⟩ => ⟨S1x8192x11264, .f32⟩
  | .hbm, ⟨19, _⟩ => ⟨S1x11264, .f32⟩
  | .hbm, ⟨20, _⟩ => ⟨S11264, .f32⟩
  | .hbm, ⟨21, _⟩ => ⟨S1x8192x11264, .f32⟩
  | .hbm, ⟨22, _⟩ => ⟨S1x1x11264, .f32⟩
  | .hbm, ⟨23, _⟩ => ⟨S1x8192x11264, .f32⟩
  | .hbm, ⟨24, _⟩ => ⟨S1x8192x11264, .f32⟩
  | .hbm, ⟨25, _⟩ => ⟨S1x8192x11264, .f32⟩
  | .hbm, ⟨26, _⟩ => ⟨S1x11264, .f32⟩
  | .hbm, ⟨27, _⟩ => ⟨S11264, .f32⟩
  | .hbm, ⟨28, _⟩ => ⟨S1x8192x11264, .f32⟩
  | .hbm, ⟨29, _⟩ => ⟨S1x1x11264, .f32⟩
  | .hbm, ⟨30, _⟩ => ⟨S1x8192x11264, .f32⟩
  | .hbm, ⟨31, _⟩ => ⟨S1x8192x11264, .f32⟩
  | .hbm, ⟨32, _⟩ => ⟨S1x8192x11264, .f32⟩
  | .hbm, ⟨33, _⟩ => ⟨S1x8192x5632, .f32⟩
  | .hbm, ⟨34, _⟩ => ⟨S1x8192x5632, .f32⟩
  | .hbm, ⟨35, _⟩ => ⟨S1x8192x5632, .f32⟩
  | .hbm, ⟨36, _⟩ => ⟨S1x8192x5632, .f32⟩
  | .hbm, ⟨37, _⟩ => ⟨S_, .f32⟩
  | .hbm, ⟨38, _⟩ => ⟨S1x8192x5632, .f32⟩
  | .hbm, ⟨39, _⟩ => ⟨S1x8192x5632, .f32⟩
  | .hbm, ⟨40, _⟩ => ⟨S_, .f32⟩
  | .hbm, ⟨41, _⟩ => ⟨S1x8192x5632, .f32⟩
  | .hbm, ⟨42, _⟩ => ⟨S1x8192x5632, .f32⟩
  | .hbm, ⟨43, _⟩ => ⟨S1x8192x5632, .f32⟩
  | .hbm, ⟨44, _⟩ => ⟨S1x8192x5632, .f32⟩
  | .hbm, ⟨45, _⟩ => ⟨S8192x11264, .f32⟩
  | .hbm, ⟨46, _⟩ => ⟨S8192x5632, .f32⟩
  | .hbm, ⟨47, _⟩ => ⟨S8192x5632, .f32⟩
  | .hbm, ⟨48, _⟩ => ⟨S1x8192x5632, .f32⟩
  | .hbm, ⟨49, _⟩ => ⟨S1x8192x5632, .f32⟩
  | .hbm, ⟨50, _⟩ => ⟨S2x8192x5632, .f32⟩
  | .hbm, ⟨51, _⟩ => ⟨S2x8192x5632, .bf16⟩
  | .hbm, ⟨52, _⟩ => ⟨S8192x11264, .f32⟩
  | .hbm, ⟨53, _⟩ => ⟨S8192x5632, .f32⟩
  | .hbm, ⟨54, _⟩ => ⟨S8192x5632, .f32⟩
  | .hbm, ⟨55, _⟩ => ⟨S1x8192x5632, .f32⟩
  | .hbm, ⟨56, _⟩ => ⟨S1x8192x5632, .f32⟩
  | .hbm, ⟨57, _⟩ => ⟨S2x8192x5632, .f32⟩
  | .hbm, ⟨58, _⟩ => ⟨S2x8192x5632, .bf16⟩
  | .hbm, ⟨59, _⟩ => ⟨S8192x5632, .f32⟩
  | .hbm, ⟨60, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Mid.lean ====
abbrev S8192x2048 : Shape := ⟨2, ![8192, 2048]⟩
abbrev S5632x2048 : Shape := ⟨2, ![5632, 2048]⟩
abbrev S2x8192x5632 : Shape := ⟨3, ![2, 8192, 5632]⟩
abbrev S3x11264 : Shape := ⟨2, ![3, 11264]⟩
abbrev S_ : Shape := ⟨0, ![]⟩
abbrev S8x11264 : Shape := ⟨2, ![8, 11264]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S1x2x11264 : Shape := ⟨3, ![1, 2, 11264]⟩
abbrev S1x8194x11264 : Shape := ⟨3, ![1, 8194, 11264]⟩
abbrev S1x11264 : Shape := ⟨2, ![1, 11264]⟩
abbrev S11264 : Shape := ⟨1, ![11264]⟩
abbrev S1x1x11264 : Shape := ⟨3, ![1, 1, 11264]⟩
abbrev S2x8x5632 : Shape := ⟨3, ![2, 8, 5632]⟩
abbrev S1024x2048 : Shape := ⟨2, ![1024, 2048]⟩
abbrev S512x2048 : Shape := ⟨2, ![512, 2048]⟩
abbrev S2x1024x512 : Shape := ⟨3, ![2, 1024, 512]⟩
abbrev S8x512 : Shape := ⟨2, ![8, 512]⟩
abbrev S2x8x512 : Shape := ⟨3, ![2, 8, 512]⟩
abbrev S1x1024x512 : Shape := ⟨3, ![1, 1024, 512]⟩
abbrev S1024x512 : Shape := ⟨2, ![1024, 512]⟩
abbrev S1x8x512 : Shape := ⟨3, ![1, 8, 512]⟩
abbrev S8x1 : Shape := ⟨2, ![8, 1]⟩
abbrev S1016x512 : Shape := ⟨2, ![1016, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 49
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S3x11264, .f32⟩
  | .hbm, ⟨4, _⟩ => ⟨S_, .i32⟩
  | .hbm, ⟨5, _⟩ => ⟨S_, .f32⟩
  | .hbm, ⟨6, _⟩ => ⟨S8x11264, .f32⟩
  | .hbm, ⟨7, _⟩ => ⟨S1x8192x5632, .bf16⟩
  | .hbm, ⟨8, _⟩ => ⟨S8192x5632, .bf16⟩
  | .hbm, ⟨9, _⟩ => ⟨S1x8192x5632, .bf16⟩
  | .hbm, ⟨10, _⟩ => ⟨S8192x5632, .bf16⟩
  | .hbm, ⟨11, _⟩ => ⟨S8192x11264, .bf16⟩
  | .hbm, ⟨12, _⟩ => ⟨S8192x11264, .f32⟩
  | .hbm, ⟨13, _⟩ => ⟨S1x8192x11264, .f32⟩
  | .hbm, ⟨14, _⟩ => ⟨S_, .f32⟩
  | .hbm, ⟨15, _⟩ => ⟨S1x2x11264, .f32⟩
  | .hbm, ⟨16, _⟩ => ⟨S1x8194x11264, .f32⟩
  | .hbm, ⟨17, _⟩ => ⟨S1x11264, .f32⟩
  | .hbm, ⟨18, _⟩ => ⟨S11264, .f32⟩
  | .hbm, ⟨19, _⟩ => ⟨S1x8192x11264, .f32⟩
  | .hbm, ⟨20, _⟩ => ⟨S1x1x11264, .f32⟩
  | .hbm, ⟨21, _⟩ => ⟨S1x8192x11264, .f32⟩
  | .hbm, ⟨22, _⟩ => ⟨S1x8192x11264, .f32⟩
  | .hbm, ⟨23, _⟩ => ⟨S_, .f32⟩
  | .hbm, ⟨24, _⟩ => ⟨S1x8192x11264, .f32⟩
  | .hbm, ⟨25, _⟩ => ⟨S1x8192x11264, .f32⟩
  | .hbm, ⟨26, _⟩ => ⟨S1x11264, .f32⟩
  | .hbm, ⟨27, _⟩ => ⟨S11264, .f32⟩
  | .hbm, ⟨28, _⟩ => ⟨S1x8192x11264, .f32⟩
  | .hbm, ⟨29, _⟩ => ⟨S1x1x11264, .f32⟩
  | .hbm, ⟨30, _⟩ => ⟨S1x8192x11264, .f32⟩
  | .hbm, ⟨31, _⟩ => ⟨S1x8192x11264, .f32⟩
  | .hbm, ⟨32, _⟩ => ⟨S1x8192x11264, .f32⟩
  | .hbm, ⟨33, _⟩ => ⟨S1x11264, .f32⟩
  | .hbm, ⟨34, _⟩ => ⟨S11264, .f32⟩
  | .hbm, ⟨35, _⟩ => ⟨S1x8192x11264, .f32⟩
  | .hbm, ⟨36, _⟩ => ⟨S1x1x11264, .f32⟩
  | .hbm, ⟨37, _⟩ => ⟨S1x8192x11264, .f32⟩
  | .hbm, ⟨38, _⟩ => ⟨S1x8192x11264, .f32⟩
  | .hbm, ⟨39, _⟩ => ⟨S1x8192x11264, .f32⟩
  | .hbm, ⟨40, _⟩ => ⟨S8192x11264, .f32⟩
  | .hbm, ⟨41, _⟩ => ⟨S8192x5632, .f32⟩
  | .hbm, ⟨42, _⟩ => ⟨S8192x5632, .f32⟩
  | .hbm, ⟨43, _⟩ => ⟨S1x8192x5632, .f32⟩
  | .hbm, ⟨44, _⟩ => ⟨S1x8192x5632, .f32⟩
  | .hbm, ⟨45, _⟩ => ⟨S2x8192x5632, .f32⟩
  | .hbm, ⟨46, _⟩ => ⟨S2x8192x5632, .bf16⟩
  | .hbm, ⟨47, _⟩ => ⟨S2x8192x5632, .bf16⟩
  | .hbm, ⟨48, _⟩ => ⟨S2x8x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S2x1024x512, .bf16⟩
  | .local _ .vmem, ⟨13, _⟩ => ⟨S2x1024x512, .bf16⟩
  | .local _ .vmem, ⟨14, _⟩ => ⟨S2x8x512, .f32⟩
  | .local _ .vmem, ⟨15, _⟩ => ⟨S2x8x512, .f32⟩
  | .local _ .vmem, ⟨16, _⟩ => ⟨S2x8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39_0 : Ref sig .tc := ⟨.hbm, 47, rfl⟩
abbrev main_v39_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MidRefIdeal.lean ====
abbrev S8192x2048 : Shape := ⟨2, ![8192, 2048]⟩
abbrev S5632x2048 : Shape := ⟨2, ![5632, 2048]⟩
abbrev S2x8192x5632 : Shape := ⟨3, ![2, 8192, 5632]⟩
abbrev S3x11264 : Shape := ⟨2, ![3, 11264]⟩
abbrev S1x8192x5632 : Shape := ⟨3, ![1, 8192, 5632]⟩
abbrev S8192x5632 : Shape := ⟨2, ![8192, 5632]⟩
abbrev S8192x11264 : Shape := ⟨2, ![8192, 11264]⟩
abbrev S1x8192x11264 : Shape := ⟨3, ![1, 8192, 11264]⟩
abbrev S_ : Shape := ⟨0, ![]⟩
abbrev S1x2x11264 : Shape := ⟨3, ![1, 2, 11264]⟩
abbrev S1x8194x11264 : Shape := ⟨3, ![1, 8194, 11264]⟩
abbrev S1x11264 : Shape := ⟨2, ![1, 11264]⟩
abbrev S11264 : Shape := ⟨1, ![11264]⟩
abbrev S1x1x11264 : Shape := ⟨3, ![1, 1, 11264]⟩
abbrev S1x8192x2048 : Shape := ⟨3, ![1, 8192, 2048]⟩
abbrev S3x5632 : Shape := ⟨2, ![3, 5632]⟩
abbrev S1x3x5632 : Shape := ⟨3, ![1, 3, 5632]⟩
abbrev S2x3x5632 : Shape := ⟨3, ![2, 3, 5632]⟩
abbrev S2x5x5632 : Shape := ⟨3, ![2, 5, 5632]⟩
abbrev S2x8x5632 : Shape := ⟨3, ![2, 8, 5632]⟩

abbrev nBuf : Space → Nat
  | .hbm => 127
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S2x8192x5632, .bf16⟩
  | .hbm, ⟨3, _⟩ => ⟨S3x11264, .f32⟩
  | .hbm, ⟨4, _⟩ => ⟨S1x8192x5632, .bf16⟩
  | .hbm, ⟨5, _⟩ => ⟨S8192x5632, .bf16⟩
  | .hbm, ⟨6, _⟩ => ⟨S1x8192x5632, .bf16⟩
  | .hbm, ⟨7, _⟩ => ⟨S8192x5632, .bf16⟩
  | .hbm, ⟨8, _⟩ => ⟨S8192x11264, .bf16⟩
  | .hbm, ⟨9, _⟩ => ⟨S8192x11264, .f32⟩
  | .hbm, ⟨10, _⟩ => ⟨S1x8192x11264, .f32⟩
  | .hbm, ⟨11, _⟩ => ⟨S_, .f32⟩
  | .hbm, ⟨12, _⟩ => ⟨S1x2x11264, .f32⟩
  | .hbm, ⟨13, _⟩ => ⟨S1x8194x11264, .f32⟩
  | .hbm, ⟨14, _⟩ => ⟨S_, .f32⟩
  | .hbm, ⟨15, _⟩ => ⟨S1x2x11264, .f32⟩
  | .hbm, ⟨16, _⟩ => ⟨S1x11264, .f32⟩
  | .hbm, ⟨17, _⟩ => ⟨S11264, .f32⟩
  | .hbm, ⟨18, _⟩ => ⟨S1x8192x11264, .f32⟩
  | .hbm, ⟨19, _⟩ => ⟨S1x1x11264, .f32⟩
  | .hbm, ⟨20, _⟩ => ⟨S1x8192x11264, .f32⟩
  | .hbm, ⟨21, _⟩ => ⟨S1x8192x11264, .f32⟩
  | .hbm, ⟨22, _⟩ => ⟨S_, .f32⟩
  | .hbm, ⟨23, _⟩ => ⟨S1x8192x11264, .f32⟩
  | .hbm, ⟨24, _⟩ => ⟨S1x8192x11264, .f32⟩
  | .hbm, ⟨25, _⟩ => ⟨S1x11264, .f32⟩
  | .hbm, ⟨26, _⟩ => ⟨S11264, .f32⟩
  | .hbm, ⟨27, _⟩ => ⟨S1x8192x11264, .f32⟩
  | .hbm, ⟨28, _⟩ => ⟨S1x1x11264, .f32⟩
  | .hbm, ⟨29, _⟩ => ⟨S1x8192x11264, .f32⟩
  | .hbm, ⟨30, _⟩ => ⟨S1x8192x11264, .f32⟩
  | .hbm, ⟨31, _⟩ => ⟨S1x8192x11264, .f32⟩
  | .hbm, ⟨32, _⟩ => ⟨S1x11264, .f32⟩
  | .hbm, ⟨33, _⟩ => ⟨S11264, .f32⟩
  | .hbm, ⟨34, _⟩ => ⟨S1x8192x11264, .f32⟩
  | .hbm, ⟨35, _⟩ => ⟨S1x1x11264, .f32⟩
  | .hbm, ⟨36, _⟩ => ⟨S1x8192x11264, .f32⟩
  | .hbm, ⟨37, _⟩ => ⟨S1x8192x11264, .f32⟩
  | .hbm, ⟨38, _⟩ => ⟨S1x8192x11264, .f32⟩
  | .hbm, ⟨39, _⟩ => ⟨S1x8192x5632, .f32⟩
  | .hbm, ⟨40, _⟩ => ⟨S1x8192x5632, .f32⟩
  | .hbm, ⟨41, _⟩ => ⟨S1x8192x5632, .f32⟩
  | .hbm, ⟨42, _⟩ => ⟨S1x8192x5632, .f32⟩
  | .hbm, ⟨43, _⟩ => ⟨S_, .f32⟩
  | .hbm, ⟨44, _⟩ => ⟨S1x8192x5632, .f32⟩
  | .hbm, ⟨45, _⟩ => ⟨S1x8192x5632, .f32⟩
  | .hbm, ⟨46, _⟩ => ⟨S_, .f32⟩
  | .hbm, ⟨47, _⟩ => ⟨S1x8192x5632, .f32⟩
  | .hbm, ⟨48, _⟩ => ⟨S1x8192x5632, .f32⟩
  | .hbm, ⟨49, _⟩ => ⟨S_, .f32⟩
  | .hbm, ⟨50, _⟩ => ⟨S1x8192x5632, .f32⟩
  | .hbm, ⟨51, _⟩ => ⟨S1x8192x5632, .f32⟩
  | .hbm, ⟨52, _⟩ => ⟨S1x8192x5632, .f32⟩
  | .hbm, ⟨53, _⟩ => ⟨S1x8192x5632, .f32⟩
  | .hbm, ⟨54, _⟩ => ⟨S1x8192x5632, .f32⟩
  | .hbm, ⟨55, _⟩ => ⟨S5632x2048, .f32⟩
  | .hbm, ⟨56, _⟩ => ⟨S1x8192x2048, .f32⟩
  | .hbm, ⟨57, _⟩ => ⟨S8192x2048, .f32⟩
  | .hbm, ⟨58, _⟩ => ⟨S1x8192x2048, .f32⟩
  | .hbm, ⟨59, _⟩ => ⟨S1x8192x5632, .f32⟩
  | .hbm, ⟨60, _⟩ => ⟨S1x8192x5632, .f32⟩
  | .hbm, ⟨61, _⟩ => ⟨S1x8192x5632, .f32⟩
  | .hbm, ⟨62, _⟩ => ⟨S1x8192x5632, .f32⟩
  | .hbm, ⟨63, _⟩ => ⟨S1x8192x5632, .f32⟩
  | .hbm, ⟨64, _⟩ => ⟨S1x8192x5632, .f32⟩
  | .hbm, ⟨65, _⟩ => ⟨S1x8192x5632, .f32⟩
  | .hbm, ⟨66, _⟩ => ⟨S1x8192x11264, .f32⟩
  | .hbm, ⟨67, _⟩ => ⟨S1x8192x11264, .f32⟩
  | .hbm, ⟨68, _⟩ => ⟨S1x8192x11264, .f32⟩
  | .hbm, ⟨69, _⟩ => ⟨S1x8192x11264, .f32⟩
  | .hbm, ⟨70, _⟩ => ⟨S_, .f32⟩
  | .hbm, ⟨71, _⟩ => ⟨S1x11264, .f32⟩
  | .hbm, ⟨72, _⟩ => ⟨S1x1x11264, .f32⟩
  | .hbm, ⟨73, _⟩ => ⟨S_, .f32⟩
  | .hbm, ⟨74, _⟩ => ⟨S11264, .f32⟩
  | .hbm, ⟨75, _⟩ => ⟨S_, .f32⟩
  | .hbm, ⟨76, _⟩ => ⟨S1x8194x11264, .f32⟩
  | .hbm, ⟨77, _⟩ => ⟨S1x11264, .f32⟩
  | .hbm, ⟨78, _⟩ => ⟨S_, .f32⟩
  | .hbm, ⟨79, _⟩ => ⟨S3x11264, .f32⟩
  | .hbm, ⟨80, _⟩ => ⟨S1x8192x11264, .f32⟩
  | .hbm, ⟨81, _⟩ => ⟨S1x8192x11264, .f32⟩
  | .hbm, ⟨82, _⟩ => ⟨S1x8192x11264, .f32⟩
  | .hbm, ⟨83, _⟩ => ⟨S_, .f32⟩
  | .hbm, ⟨84, _⟩ => ⟨S1x11264, .f32⟩
  | .hbm, ⟨85, _⟩ => ⟨S1x1x11264, .f32⟩
  | .hbm, ⟨86, _⟩ => ⟨S_, .f32⟩
  | .hbm, ⟨87, _⟩ => ⟨S11264, .f32⟩
  | .hbm, ⟨88, _⟩ => ⟨S_, .f32⟩
  | .hbm, ⟨89, _⟩ => ⟨S1x8194x11264, .f32⟩
  | .hbm, ⟨90, _⟩ => ⟨S1x8194x11264, .f32⟩
  | .hbm, ⟨91, _⟩ => ⟨S1x11264, .f32⟩
  | .hbm, ⟨92, _⟩ => ⟨S_, .f32⟩
  | .hbm, ⟨93, _⟩ => ⟨S3x11264, .f32⟩
  | .hbm, ⟨94, _⟩ => ⟨S3x11264, .f32⟩
  | .hbm, ⟨95, _⟩ => ⟨S1x8192x11264, .f32⟩
  | .hbm, ⟨96, _⟩ => ⟨S1x8192x11264, .f32⟩
  | .hbm, ⟨97, _⟩ => ⟨S1x8192x11264, .f32⟩
  | .hbm, ⟨98, _⟩ => ⟨S_, .f32⟩
  | .hbm, ⟨99, _⟩ => ⟨S1x11264, .f32⟩
  | .hbm, ⟨100, _⟩ => ⟨S1x1x11264, .f32⟩
  | .hbm, ⟨101, _⟩ => ⟨S_, .f32⟩
  | .hbm, ⟨102, _⟩ => ⟨S11264, .f32⟩
  | .hbm, ⟨103, _⟩ => ⟨S_, .f32⟩
  | .hbm, ⟨104, _⟩ => ⟨S1x8194x11264, .f32⟩
  | .hbm, ⟨105, _⟩ => ⟨S1x8194x11264, .f32⟩
  | .hbm, ⟨106, _⟩ => ⟨S1x11264, .f32⟩
  | .hbm, ⟨107, _⟩ => ⟨S_, .f32⟩
  | .hbm, ⟨108, _⟩ => ⟨S3x11264, .f32⟩
  | .hbm, ⟨109, _⟩ => ⟨S3x11264, .f32⟩
  | .hbm, ⟨110, _⟩ => ⟨S1x2x11264, .f32⟩
  | .hbm, ⟨111, _⟩ => ⟨S1x8192x11264, .f32⟩
  | .hbm, ⟨112, _⟩ => ⟨S8192x11264, .f32⟩
  | .hbm, ⟨113, _⟩ => ⟨S8192x5632, .f32⟩
  | .hbm, ⟨114, _⟩ => ⟨S8192x5632, .f32⟩
  | .hbm, ⟨115, _⟩ => ⟨S1x8192x5632, .f32⟩
  | .hbm, ⟨116, _⟩ => ⟨S1x8192x5632, .f32⟩
  | .hbm, ⟨117, _⟩ => ⟨S2x8192x5632, .f32⟩
  | .hbm, ⟨118, _⟩ => ⟨S2x8192x5632, .bf16⟩
  | .hbm, ⟨119, _⟩ => ⟨S3x5632, .f32⟩
  | .hbm, ⟨120, _⟩ => ⟨S3x5632, .f32⟩
  | .hbm, ⟨121, _⟩ => ⟨S1x3x5632, .f32⟩
  | .hbm, ⟨122, _⟩ => ⟨S1x3x5632, .f32⟩
  | .hbm, ⟨123, _⟩ => ⟨S2x3x5632, .f32⟩
  | .hbm, ⟨124, _⟩ => ⟨S_, .f32⟩
  | .hbm, ⟨125, _⟩ => ⟨S2x5x5632, .f32⟩
  | .hbm, ⟨126, _⟩ => ⟨S2x8x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_2 : Ref sig .tc := ⟨.hbm, 70, rfl⟩
abbrev main_v48 : Ref sig .tc := ⟨.hbm, 71, rfl⟩
abbrev main_v49 : Ref sig .tc := ⟨.hbm, 72, rfl⟩
abbrev main_cst_3 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_cst_5 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== Mix.lean ====
abbrev S8192x4352 : Shape := ⟨2, ![8192, 4352]⟩
abbrev S8192x2048 : Shape := ⟨2, ![8192, 2048]⟩
abbrev S3x1024 : Shape := ⟨2, ![3, 1024]⟩
abbrev S_ : Shape := ⟨0, ![]⟩
abbrev S8x1024 : Shape := ⟨2, ![8, 1024]⟩
abbrev S3x8192x1024 : Shape := ⟨3, ![3, 8192, 1024]⟩
abbrev S1024x256 : Shape := ⟨2, ![1024, 256]⟩
abbrev S16x256 : Shape := ⟨2, ![16, 256]⟩
abbrev S8x256 : Shape := ⟨2, ![8, 256]⟩
abbrev S3x1024x256 : Shape := ⟨3, ![3, 1024, 256]⟩
abbrev S8x1 : Shape := ⟨2, ![8, 1]⟩
abbrev S1x256 : Shape := ⟨2, ![1, 256]⟩
abbrev S1016x256 : Shape := ⟨2, ![1016, 256]⟩
abbrev S256 : Shape := ⟨1, ![256]⟩
abbrev S1x1024x256 : Shape := ⟨3, ![1, 1024, 256]⟩

abbrev nBuf : Space → Nat
  | .hbm => 8
  | .vmem => 19
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S3x8192x1024, .bf16⟩
  | .hbm, ⟨7, _⟩ => ⟨S8x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S8x256, .f32⟩
  | .local _ .vmem, ⟨13, _⟩ => ⟨S8x256, .f32⟩
  | .local _ .vmem, ⟨14, _⟩ => ⟨S3x1024x256, .bf16⟩
  | .local _ .vmem, ⟨15, _⟩ => ⟨S3x1024x256, .bf16⟩
  | .local _ .vmem, ⟨16, _⟩ => ⟨S8x256, .f32⟩
  | .local _ .vmem, ⟨17, _⟩ => ⟨S8x256, .f32⟩
  | .local _ .vmem, ⟨18, _⟩ => ⟨S8x256, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c5_i32 : BitVec 32 := 5#32
  let v1 : BitVec 32 := Scalar.addi c5_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c9_i32 : BitVec 32 := 9#32
  let v1 : BitVec 32 := Scalar.addi c9_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c13_i32 : BitVec 32 := 13#32
  let v1 : BitVec 32 := Scalar.addi c13_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c9_i32 : BitVec 32 := 9#32
  let v4 : BitVec 32 := Scalar.addi c9_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c13_i32 : BitVec 32 := 13#32
  let v4 : BitVec 32 := Scalar.addi c13_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixRefIdeal.lean ====
abbrev S8192x4352 : Shape := ⟨2, ![8192, 4352]⟩
abbrev S8192x2048 : Shape := ⟨2, ![8192, 2048]⟩
abbrev S3x1024 : Shape := ⟨2, ![3, 1024]⟩
abbrev S1x8192x4352 : Shape := ⟨3, ![1, 8192, 4352]⟩
abbrev S1x8192x2048 : Shape := ⟨3, ![1, 8192, 2048]⟩
abbrev S1x8192x3072 : Shape := ⟨3, ![1, 8192, 3072]⟩
abbrev S1x8192x1024 : Shape := ⟨3, ![1, 8192, 1024]⟩
abbrev S_ : Shape := ⟨0, ![]⟩
abbrev S1x2x1024 : Shape := ⟨3, ![1, 2, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S3x8192x1024 : Shape := ⟨3, ![3, 8192, 1024]⟩
abbrev S5x1024 : Shape := ⟨2, ![5, 1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S8192x2048, .bf16⟩
  | .hbm, ⟨2, _⟩ => ⟨S3x1024, .f32⟩
  | .hbm, ⟨3, _⟩ => ⟨S8192x4352, .f32⟩
  | .hbm, ⟨4, _⟩ => ⟨S1x8192x4352, .f32⟩
  | .hbm, ⟨5, _⟩ => ⟨S8192x2048, .f32⟩
  | .hbm, ⟨6, _⟩ => ⟨S1x8192x2048, .f32⟩
  | .hbm, ⟨7, _⟩ => ⟨S1x8192x3072, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S_, .f32⟩
  | .hbm, ⟨13, _⟩ => ⟨S1x2x1024, .f32⟩
  | .hbm, ⟨14, _⟩ => ⟨S1x8194x1024, .f32⟩
  | .hbm, ⟨15, _⟩ => ⟨S_, .f32⟩
  | .hbm, ⟨16, _⟩ => ⟨S1x2x1024, .f32⟩
  | .hbm, ⟨17, _⟩ => ⟨S1x1024, .f32⟩
  | .hbm, ⟨18, _⟩ => ⟨S1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S_, .f32⟩
  | .hbm, ⟨24, _⟩ => ⟨S1x8192x1024, .f32⟩
  | .hbm, ⟨25, _⟩ => ⟨S1x8192x1024, .f32⟩
  | .hbm, ⟨26, _⟩ => ⟨S1x1024, .f32⟩
  | .hbm, ⟨27, _⟩ => ⟨S1024, .f32⟩
  | .hbm, ⟨28, _⟩ => ⟨S1x8192x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x1024, .f32⟩
  | .hbm, ⟨34, _⟩ => ⟨S1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S1x8194x1024, .f32⟩
  | .hbm, ⟨54, _⟩ => ⟨S1x1024, .f32⟩
  | .hbm, ⟨55, _⟩ => ⟨S_, .f32⟩
  | .hbm, ⟨56, _⟩ => ⟨S3x1024, .f32⟩
  | .hbm, ⟨57, _⟩ => ⟨S1x8192x1024, .f32⟩
  | .hbm, ⟨58, _⟩ => ⟨S1x8192x1024, .f32⟩
  | .hbm, ⟨59, _⟩ => ⟨S1x8192x1024, .f32⟩
  | .hbm, ⟨60, _⟩ => ⟨S_, .f32⟩
  | .hbm, ⟨61, _⟩ => ⟨S1x1024, .f32⟩
  | .hbm, ⟨62, _⟩ => ⟨S1x1x1024, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S1x8194x1024, .f32⟩
  | .hbm, ⟨67, _⟩ => ⟨S1x8194x1024, .f32⟩
  | .hbm, ⟨68, _⟩ => ⟨S1x1024, .f32⟩
  | .hbm, ⟨69, _⟩ => ⟨S_, .f32⟩
  | .hbm, ⟨70, _⟩ => ⟨S3x1024, .f32⟩
  | .hbm, ⟨71, _⟩ => ⟨S3x1024, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S_, .f32⟩
  | .hbm, ⟨76, _⟩ => ⟨S1x1024, .f32⟩
  | .hbm, ⟨77, _⟩ => ⟨S1x1x1024, .f32⟩
  | .hbm, ⟨78, _⟩ => ⟨S_, .f32⟩
  | .hbm, ⟨79, _⟩ => ⟨S1024, .f32⟩
  | .hbm, ⟨80, _⟩ => ⟨S_, .f32⟩
  | .hbm, ⟨81, _⟩ => ⟨S1x8194x1024, .f32⟩
  | .hbm, ⟨82, _⟩ => ⟨S1x8194x1024, .f32⟩
  | .hbm, ⟨83, _⟩ => ⟨S1x1024, .f32⟩
  | .hbm, ⟨84, _⟩ => ⟨S_, .f32⟩
  | .hbm, ⟨85, _⟩ => ⟨S3x1024, .f32⟩
  | .hbm, ⟨86, _⟩ => ⟨S3x1024, .f32⟩
  | .hbm, ⟨87, _⟩ => ⟨S1x2x1024, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S3x8192x1024, .f32⟩
  | .hbm, ⟨92, _⟩ => ⟨S3x8192x1024, .bf16⟩
  | .hbm, ⟨93, _⟩ => ⟨S_, .f32⟩
  | .hbm, ⟨94, _⟩ => ⟨S5x1024, .f32⟩
  | .hbm, ⟨95, _⟩ => ⟨S8x1024, .f32⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_14 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S8x2048 : Shape := ⟨2, ![8, 2048]⟩
abbrev S512x1408 : Shape := ⟨2, ![512, 1408]⟩
abbrev S1408x2048 : Shape := ⟨2, ![1408, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S8x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S8x2048, .f32⟩
  | .local _ .vmem, ⟨13, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def k0_mult1 : BitVec 32 :=
  let c0_i32_14 : BitVec 32 := 0#32
  let c128_i32 : BitVec 32 := 128#32
  let v19 : BitVec 32 := Scalar.muli c0_i32_14 c128_i32
  v19
def k0_off1 (c0_i32_14 : BitVec 32) : Fin 2 → Nat :=
  let c128_i32 : BitVec 32 := 128#32
  let v19 : BitVec 32 := Scalar.muli c0_i32_14 c128_i32
  let v20 : BitVec 32 := v19
  let v21 : Index := Scalar.indexCast v20
  let c0_15 : Index := 0#32
  ![v21.toNat, 0]
def k0_mult2 : BitVec 32 :=
  let c1_i32 : BitVec 32 := 1#32
  let c128_i32_44 : BitVec 32 := 128#32
  let v97 : BitVec 32 := Scalar.muli c1_i32 c128_i32_44
  v97
def k0_mult3 : BitVec 32 :=
  let c2_i32 : BitVec 32 := 2#32
  let c128_i32_76 : BitVec 32 := 128#32
  let v175 : BitVec 32 := Scalar.muli c2_i32 c128_i32_76
  v175
def k0_mult4 : BitVec 32 :=
  let c3_i32_108 : BitVec 32 := 3#32
  let c128_i32_109 : BitVec 32 := 128#32
  let v253 : BitVec 32 := Scalar.muli c3_i32_108 c128_i32_109
  v253
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1x8192x2048 : Shape := ⟨3, ![1, 8192, 2048]⟩
abbrev S_ : Shape := ⟨0, ![]⟩
abbrev S1x8192x5632 : Shape := ⟨3, ![1, 8192, 5632]⟩
abbrev S2048 : Shape := ⟨1, ![2048]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S5x2048 : Shape := ⟨2, ![5, 2048]⟩
abbrev S8x2048 : Shape := ⟨2, ![8, 2048]⟩

abbrev nBuf : Space → Nat
  | .hbm => 133
  | .vmem => 0
  | .smem => 0
  | _ => 0

abbrev hbmTy0_0 (i : Nat) : BufTy := match i % 128 with
  | 0 => ⟨S8192x5632, .bf16⟩
  | 1 => ⟨S5632x2048, .bf16⟩
  | 2 => ⟨S8192x2048, .f32⟩
  | 3 => ⟨S8192x2048, .f32⟩
  | 4 => ⟨S1x2048, .f32⟩
  | 5 => ⟨S1x2048, .f32⟩
  | 6 => ⟨S1x8192x2048, .f32⟩
  | 7 => ⟨S_, .f32⟩
  | 8 => ⟨S1x8192x2048, .f32⟩
  | 9 => ⟨S1x8192x2048, .f32⟩
  | 10 => ⟨S8192x5632, .f32⟩
  | 11 => ⟨S1x8192x5632, .f32⟩
  | 12 => ⟨S5632x2048, .f32⟩
  | 13 => ⟨S1x8192x2048, .f32⟩
  | 14 => ⟨S1x8192x2048, .f32⟩
  | 15 => ⟨S2048, .f32⟩
  | 16 => ⟨S2048, .f32⟩
  | 17 => ⟨S_, .f32⟩
  | 18 => ⟨S1x8192, .f32⟩
  | 19 => ⟨S1x8192x1, .f32⟩
  | 20 => ⟨S_, .f32⟩
  | 21 => ⟨S1x8192x1, .f32⟩
  | 22 => ⟨S1x8192x1, .f32⟩
  | 23 => ⟨S1x8192x2048, .f32⟩
  | 24 => ⟨S1x8192x2048, .f32⟩
  | 25 => ⟨S1x8192x2048, .f32⟩
  | 26 => ⟨S_, .f32⟩
  | 27 => ⟨S1x8192x2048, .f32⟩
  | 28 => ⟨S1x8192x2048, .f32⟩
  | 29 => ⟨S_, .f32⟩
  | 30 => ⟨S1x8192, .f32⟩
  | 31 => ⟨S1x8192x1, .f32⟩
  | 32 => ⟨S_, .f32⟩
  | 33 => ⟨S1x8192x1, .f32⟩
  | 34 => ⟨S1x8192x1, .f32⟩
  | 35 => ⟨S1x8192x2048, .f32⟩
  | 36 => ⟨S1x8192x2048, .f32⟩
  | 37 => ⟨S_, .f32⟩
  | 38 => ⟨S1x8192x1, .f32⟩
  | 39 => ⟨S1x8192x1, .f32⟩
  | 40 => ⟨S1x8192x1, .f32⟩
  | 41 => ⟨S1x8192x1, .f32⟩
  | 42 => ⟨S_, .f32⟩
  | 43 => ⟨S1x8192x1, .f32⟩
  | 44 => ⟨S1x8192x1, .f32⟩
  | 45 => ⟨S1x8192x2048, .f32⟩
  | 46 => ⟨S1x8192x2048, .f32⟩
  | 47 => ⟨S1x1x2048, .f32⟩
  | 48 => ⟨S1x8192x2048, .f32⟩
  | 49 => ⟨S1x8192x2048, .f32⟩
  | 50 => ⟨S1x1x2048, .f32⟩
  | 51 => ⟨S1x8192x2048, .f32⟩
  | 52 => ⟨S1x8192x2048, .f32⟩
  | 53 => ⟨S1x8192x2048, .f32⟩
  | 54 => ⟨S1x8192x2048, .f32⟩
  | 55 => ⟨S1x8192x2048, .f32⟩
  | 56 => ⟨S_, .f32⟩
  | 57 => ⟨S1x8192x2048, .f32⟩
  | 58 => ⟨S1x8192x2048, .f32⟩
  | 59 => ⟨S_, .f32⟩
  | 60 => ⟨S1x8192, .f32⟩
  | 61 => ⟨S_, .f32⟩
  | 62 => ⟨S1x8192, .f32⟩
  | 63 => ⟨S1x8192, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1x8192, .f32⟩
  | 74 => ⟨S_, .f32⟩
  | 75 => ⟨S1x8192, .f32⟩
  | 76 => ⟨S1x8192, .f32⟩
  | 77 => ⟨S1x8192x2048, .f32⟩
  | 78 => ⟨S1x8192x2048, .f32⟩
  | 79 => ⟨S_, .f32⟩
  | 80 => ⟨S1x2048, .f32⟩
  | 81 => ⟨S1x1x2048, .f32⟩
  | 82 => ⟨S_, .f32⟩
  | 83 => ⟨S2048, .f32⟩
  | 84 => ⟨S1x8192x2048, .f32⟩
  | 85 => ⟨S_, .f32⟩
  | 86 => ⟨S1x2048, .f32⟩
  | 87 => ⟨S1x1x2048, .f32⟩
  | 88 => ⟨S1x8192x2048, .f32⟩
  | 89 => ⟨S1x8192x2048, .f32⟩
  | 90 => ⟨S_, .f32⟩
  | 91 => ⟨S2048, .f32⟩
  | 92 => ⟨S1x8192x2048, .f32⟩
  | 93 => ⟨S_, .f32⟩
  | 94 => ⟨S1x8192, .f32⟩
  | 95 => ⟨S1x8192x1, .f32⟩
  | 96 => ⟨S1x8192x2048, .f32⟩
  | 97 => ⟨S1x8192x2048, .f32⟩
  | 98 => ⟨S1x8192x1, .f32⟩
  | 99 => ⟨S1x8192x2048, .f32⟩
  | 100 => ⟨S_, .f32⟩
  | 101 => ⟨S1x8192, .f32⟩
  | 102 => ⟨S1x8192x1, .f32⟩
  | 103 => ⟨S_, .f32⟩
  | 104 => ⟨S1x8192x1, .f32⟩
  | 105 => ⟨S1x8192x1, .f32⟩
  | 106 => ⟨S_, .f32⟩
  | 107 => ⟨S8192, .f32⟩
  | 108 => ⟨S1x8192, .f32⟩
  | 109 => ⟨S1x8192x2048, .f32⟩
  | 110 => ⟨S1x8192x2048, .f32⟩
  | 111 => ⟨S1x8192x2048, .f32⟩
  | 112 => ⟨S_, .f32⟩
  | 113 => ⟨S1x8192, .f32⟩
  | 114 => ⟨S1x8192x1, .f32⟩
  | 115 => ⟨S1x8192x2048, .f32⟩
  | 116 => ⟨S1x8192x1, .f32⟩
  | 117 => ⟨S_, .f32⟩
  | 118 => ⟨S1x8192x1, .f32⟩
  | 119 => ⟨S1x8192x1, .f32⟩
  | 120 => ⟨S_, .f32⟩
  | 121 => ⟨S8192, .f32⟩
  | 122 => ⟨S1x8192, .f32⟩
  | 123 => ⟨S1x8192x2048, .f32⟩
  | 124 => ⟨S1x8192x2048, .f32⟩
  | 125 => ⟨S8192x2048, .f32⟩
  | 126 => ⟨S8192x2048, .bf16⟩
  | 127 => ⟨S1x2048, .f32⟩
  | _ => ⟨S8192x5632, .bf16⟩

abbrev hbmTy0_1 (i : Nat) : BufTy := match i % 128 with
  | 0 => ⟨S1x2048, .f32⟩
  | 1 => ⟨S1x2048, .f32⟩
  | 2 => ⟨S_, .f32⟩
  | 3 => ⟨S5x2048, .f32⟩
  | 4 => ⟨S8x2048, .f32⟩
  | _ => ⟨S8192x5632, .bf16⟩

abbrev hbmTy (i : Nat) : BufTy := match i / 128 with
  | 0 => hbmTy0_0 i
  | 1 => hbmTy0_1 i
  | _ => ⟨S8192x5632, .bf16⟩

abbrev bufTy : (tb : Table) → Fin (tcTables nBuf tb) → BufTy
  | .hbm, ⟨i, _⟩ => hbmTy i
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_cst_13 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_21 : Ref sig .tc := ⟨.hbm, 100, rfl⟩
abbrev main_v72 : Ref sig .tc := ⟨.hbm, 101, rfl⟩
abbrev main_v73 : Ref sig .tc := ⟨.hbm, 102, rfl⟩
abbrev main_cst_22 : Ref sig .tc := ⟨.hbm, 103, rfl⟩
abbrev main_v74 : Ref sig .tc := ⟨.hbm, 104, rfl⟩
abbrev main_v75 : Ref sig .tc := ⟨.hbm, 105, rfl⟩
abbrev main_cst_23 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_24 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_25 : Ref sig .tc := ⟨.hbm, 117, rfl⟩
abbrev main_v85 : Ref sig .tc := ⟨.hbm, 118, rfl⟩
abbrev main_v86 : Ref sig .tc := ⟨.hbm, 119, rfl⟩
abbrev main_cst_26 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_27 : Ref sig .tc := ⟨.hbm, 130, rfl⟩
abbrev main_v96 : Ref sig .tc := ⟨.hbm, 131, rfl⟩
abbrev main_v97 : Ref sig .tc := ⟨.hbm, 132, rfl⟩

abbrev nD : Nat := 1
abbrev τ : Topo := Topo.v7x

variable {F : FTy → Type} [FloatOps F]
-- ==== Out.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S8192x1 : Shape := ⟨2, ![8192, 1]⟩
abbrev S512x1024 : Shape := ⟨2, ![512, 1024]⟩
abbrev S1024x2048 : Shape := ⟨2, ![1024, 2048]⟩
abbrev S512x2048 : Shape := ⟨2, ![512, 2048]⟩
abbrev S512x1 : Shape := ⟨2, ![512, 1]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S8192x2048, .bf16⟩
  | .hbm, ⟨9, _⟩ => ⟨S8192x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x1, .f32⟩
  | .local _ .vmem, ⟨17, _⟩ => ⟨S512x1, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S8192x1024 : Shape := ⟨2, ![8192, 1024]⟩
abbrev S2048x2048 : Shape := ⟨2, ![2048, 2048]⟩
abbrev S8192x2048 : Shape := ⟨2, ![8192, 2048]⟩
abbrev S1x2048 : Shape := ⟨2, ![1, 2048]⟩
abbrev S1x8192x2048 : Shape := ⟨3, ![1, 8192, 2048]⟩
abbrev S_ : Shape := ⟨0, ![]⟩
abbrev S2048 : Shape := ⟨1, ![2048]⟩
abbrev S1x8192 : Shape := ⟨2, ![1, 8192]⟩
abbrev S1x8192x1 : Shape := ⟨3, ![1, 8192, 1]⟩
abbrev S1x1x2048 : Shape := ⟨3, ![1, 1, 2048]⟩
abbrev S8192x1 : Shape := ⟨2, ![8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S8192x2048, .f32⟩
  | .hbm, ⟨8, _⟩ => ⟨S1x8192x2048, .f32⟩
  | .hbm, ⟨9, _⟩ => ⟨S1x8192x2048, .f32⟩
  | .hbm, ⟨10, _⟩ => ⟨S_, .f32⟩
  | .hbm, ⟨11, _⟩ => ⟨S1x8192x2048, .f32⟩
  | .hbm, ⟨12, _⟩ => ⟨S1x8192x2048, .f32⟩
  | .hbm, ⟨13, _⟩ => ⟨S2048x2048, .f32⟩
  | .hbm, ⟨14, _⟩ => ⟨S1x8192x2048, .f32⟩
  | .hbm, ⟨15, _⟩ => ⟨S1x8192x2048, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S1x8192, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S_, .f32⟩
  | .hbm, ⟨28, _⟩ => ⟨S1x8192, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S1x8192x2048, .f32⟩
  | .hbm, ⟨34, _⟩ => ⟨S1x8192x2048, .f32⟩
  | .hbm, ⟨35, _⟩ => ⟨S_, .f32⟩
  | .hbm, ⟨36, _⟩ => ⟨S1x8192x1, .f32⟩
  | .hbm, ⟨37, _⟩ => ⟨S1x8192x1, .f32⟩
  | .hbm, ⟨38, _⟩ => ⟨S1x8192x1, .f32⟩
  | .hbm, ⟨39, _⟩ => ⟨S1x8192x2048, .f32⟩
  | .hbm, ⟨40, _⟩ => ⟨S1x8192x2048, .f32⟩
  | .hbm, ⟨41, _⟩ => ⟨S1x1x2048, .f32⟩
  | .hbm, ⟨42, _⟩ => ⟨S1x8192x2048, .f32⟩
  | .hbm, ⟨43, _⟩ => ⟨S1x8192x2048, .f32⟩
  | .hbm, ⟨44, _⟩ => ⟨S1x1x2048, .f32⟩
  | .hbm, ⟨45, _⟩ => ⟨S1x8192x2048, .f32⟩
  | .hbm, ⟨46, _⟩ => ⟨S1x8192x2048, .f32⟩
  | .hbm, ⟨47, _⟩ => ⟨S_, .f32⟩
  | .hbm, ⟨48, _⟩ => ⟨S1x8192, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S_, .f32⟩
  | .hbm, ⟨57, _⟩ => ⟨S1x8192, .f32⟩
  | .hbm, ⟨58, _⟩ => ⟨S1x8192x1, .f32⟩
  | .hbm, ⟨59, _⟩ => ⟨S_, .f32⟩
  | .hbm, ⟨60, _⟩ => ⟨S1x8192x1, .f32⟩
  | .hbm, ⟨61, _⟩ => ⟨S1x8192x1, .f32⟩
  | .hbm, ⟨62, _⟩ => ⟨S_, .f32⟩
  | .hbm, ⟨63, _⟩ => ⟨S1x8192x1, .f32⟩
  | .hbm, ⟨64, _⟩ => ⟨S1x8192x1, .f32⟩
  | .hbm, ⟨65, _⟩ => ⟨S1x8192x1, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S1x8192x2048, .f32⟩
  | .hbm, ⟨70, _⟩ => ⟨S1x8192x2048, .f32⟩
  | .hbm, ⟨71, _⟩ => ⟨S1x8192x2048, .f32⟩
  | .hbm, ⟨72, _⟩ => ⟨S1x8192x2048, .f32⟩
  | .hbm, ⟨73, _⟩ => ⟨S8192x2048, .f32⟩
  | .hbm, ⟨74, _⟩ => ⟨S8192x2048, .bf16⟩
  | .hbm, ⟨75, _⟩ => ⟨S8192x1, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Conv.lean ====
abbrev S8192x4352 : Shape := ⟨2, ![8192, 4352]⟩
abbrev S3x1024 : Shape := ⟨2, ![3, 1024]⟩
abbrev S_ : Shape := ⟨0, ![]⟩
abbrev S8x1024 : Shape := ⟨2, ![8, 1024]⟩
abbrev S8192x1024 : Shape := ⟨2, ![8192, 1024]⟩
abbrev S1024x256 : Shape := ⟨2, ![1024, 256]⟩
abbrev S8x256 : Shape := ⟨2, ![8, 256]⟩
abbrev S8x1 : Shape := ⟨2, ![8, 1]⟩
abbrev S1x256 : Shape := ⟨2, ![1, 256]⟩
abbrev S1016x256 : Shape := ⟨2, ![1016, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x4352, .bf16⟩
  | .hbm, ⟨1, _⟩ => ⟨S3x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S8x256, .f32⟩
  | .local _ .vmem, ⟨7, _⟩ => ⟨S8x256, .f32⟩
  | .local _ .vmem, ⟨8, _⟩ => ⟨S1024x256, .bf16⟩
  | .local _ .vmem, ⟨9, _⟩ => ⟨S1024x256, .bf16⟩
  | .local _ .vmem, ⟨10, _⟩ => ⟨S8x256, .f32⟩
  | _, _ => ⟨S8192x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x4352 : Shape := ⟨2, ![8192, 4352]⟩
abbrev S3x1024 : Shape := ⟨2, ![3, 1024]⟩
abbrev S8192x3072 : Shape := ⟨2, ![8192, 3072]⟩
abbrev S1x8192x3072 : Shape := ⟨3, ![1, 8192, 3072]⟩
abbrev S1x8192x1024 : Shape := ⟨3, ![1, 8192, 1024]⟩
abbrev S_ : Shape := ⟨0, ![]⟩
abbrev S1x2x1024 : Shape := ⟨3, ![1, 2, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x4352, .bf16⟩
  | .hbm, ⟨1, _⟩ => ⟨S3x1024, .f32⟩
  | .hbm, ⟨2, _⟩ => ⟨S8192x4352, .f32⟩
  | .hbm, ⟨3, _⟩ => ⟨S8192x3072, .f32⟩
  | .hbm, ⟨4, _⟩ => ⟨S1x8192x3072, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S1x8192x1024, .f32⟩
  | .hbm, ⟨9, _⟩ => ⟨S_, .f32⟩
  | .hbm, ⟨10, _⟩ => ⟨S1x2x1024, .f32⟩
  | .hbm, ⟨11, _⟩ => ⟨S1x8194x1024, .f32⟩
  | .hbm, ⟨12, _⟩ => ⟨S1x1024, .f32⟩
  | .hbm, ⟨13, _⟩ => ⟨S1024, .f32⟩
  | .hbm, ⟨14, _⟩ => ⟨S1x8192x1024, .f32⟩
  | .hbm, ⟨15, _⟩ => ⟨S1x1x1024, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x8192x1024, .f32⟩
  | .hbm, ⟨20, _⟩ => ⟨S1x8192x1024, .f32⟩
  | .hbm, ⟨21, _⟩ => ⟨S1x1024, .f32⟩
  | .hbm, ⟨22, _⟩ => ⟨S1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x1024, .f32⟩
  | .hbm, ⟨29, _⟩ => ⟨S1024, .f32⟩
  | .hbm, ⟨30, _⟩ => ⟨S1x8192x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S8192x1024, .f32⟩
  | .hbm, ⟨37, _⟩ => ⟨S8192x1024, .bf16⟩
  | _, _ => ⟨S8192x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== In.lean ====
abbrev S8192x2048 : Shape := ⟨2, ![8192, 2048]⟩
abbrev S4352x2048 : Shape := ⟨2, ![4352, 2048]⟩
abbrev S8192x4352 : Shape := ⟨2, ![8192, 4352]⟩
abbrev S512x2048 : Shape := ⟨2, ![512, 2048]⟩
abbrev S512x4352 : Shape := ⟨2, ![512, 4352]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S4352x2048, .bf16⟩
  | .hbm, ⟨2, _⟩ => ⟨S8192x4352, .bf16⟩
  | .local _ .vmem, ⟨0, _⟩ => ⟨S512x2048, .f32⟩
  | .local _ .vmem, ⟨1, _⟩ => ⟨S512x2048, .f32⟩
  | .local _ .vmem, ⟨2, _⟩ => ⟨S4352x2048, .bf16⟩
  | .local _ .vmem, ⟨3, _⟩ => ⟨S512x4352, .bf16⟩
  | .local _ .vmem, ⟨4, _⟩ => ⟨S512x4352, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4352x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S4352x2048 : Shape := ⟨2, ![4352, 2048]⟩
abbrev S1x8192x2048 : Shape := ⟨3, ![1, 8192, 2048]⟩
abbrev S2048x4352 : Shape := ⟨2, ![2048, 4352]⟩
abbrev S1x8192x4352 : Shape := ⟨3, ![1, 8192, 4352]⟩
abbrev S8192x4352 : Shape := ⟨2, ![8192, 4352]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4352x2048, .bf16⟩
  | .hbm, ⟨2, _⟩ => ⟨S1x8192x2048, .f32⟩
  | .hbm, ⟨3, _⟩ => ⟨S4352x2048, .f32⟩
  | .hbm, ⟨4, _⟩ => ⟨S2048x4352, .f32⟩
  | .hbm, ⟨5, _⟩ => ⟨S1x8192x4352, .f32⟩
  | .hbm, ⟨6, _⟩ => ⟨S8192x4352, .f32⟩
  | .hbm, ⟨7, _⟩ => ⟨S8192x4352, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Spec.lean ====
/-
  The gradient of the sliding-window attention over the real numbers, written once for both programs: first one
  block of 128 queries against 256 key rows, then the whole sequence of 64 blocks.
-/
module

public import Idealize.ShloMosaic.Lib.Pointwise

@[expose] public section

noncomputable section

namespace Cert.Attn

/-- One block: its number, the rotated queries (head, row, lane), the rotated keys and the values (key/value head,
    key row, lane), the cotangents of the output (head, row, lane) and the sinks (head). -/
structure Blk where
  nb : ℕ
  q : ℕ → ℕ → ℕ → ℝ
  k : ℕ → ℕ → ℕ → ℝ
  v : ℕ → ℕ → ℕ → ℝ
  d : ℕ → ℕ → ℕ → ℝ
  s : ℕ → ℝ

/-- Query row `r` of block `nb` sees key row `s` of the 256: the 128 positions up to its own, none before the start. -/
abbrev valid (nb r s : ℕ) : Prop := r < s ∧ s ≤ r + 128 ∧ (128 ≤ s ∨ 0 < nb)

namespace Blk

variable (B : Blk)

/-- The score of key row `s` for query row `r` of head `h`. -/
def sc (h r s : ℕ) : ℝ := ∑ l : Fin 64, B.k (h / 8) s l * (B.q h r l * (1 / 8))

/-- Its exponential, nothing where the row is not seen. -/
def w (h r s : ℕ) : ℝ := if valid B.nb r s then Real.exp (B.sc h r s) else 0

/-- The normaliser: all the exponentials and the sink's. -/
def Z (h r : ℕ) : ℝ := ∑ s : Fin 256, B.w h r s + Real.exp (B.s h)

/-- The probability of a key row, and the sink's. -/
def pr (h r s : ℕ) : ℝ := B.w h r s / B.Z h r
@[inherit_doc pr] def pe (h r : ℕ) : ℝ := Real.exp (B.s h) / B.Z h r

/-- The cotangent of a probability, and its mean under the probabilities. -/
def dp (h r s : ℕ) : ℝ := ∑ l : Fin 64, B.v (h / 8) s l * B.d h r l
@[inherit_doc dp] def delta (h r : ℕ) : ℝ := ∑ s : Fin 256, B.pr h r s * B.dp h r s

/-- The cotangent of a score. -/
def ds (h r s : ℕ) : ℝ := B.pr h r s * (B.dp h r s - B.delta h r)

/-- The cotangent of a rotated query. -/
def dq (h r l : ℕ) : ℝ := (∑ s : Fin 256, B.ds h r s * B.k (h / 8) s l) * (1 / 8)

/-- What the block's queries give the key (value) rows, over the eight heads of the group. -/
def dk (j s l : ℕ) : ℝ := ∑ g : Fin 8, ∑ r : Fin 128, B.ds (8 * j + g) r s * (B.q (8 * j + g) r l * (1 / 8))
@[inherit_doc dk] def dv (j s l : ℕ) : ℝ := ∑ g : Fin 8, ∑ r : Fin 128, B.pr (8 * j + g) r s * B.d (8 * j + g) r l

/-- What the block gives a sink. -/
def dsink (h : ℕ) : ℝ := -∑ r : Fin 128, B.pe h r * B.delta h r

theorem w_nonneg (h r s : ℕ) : 0 ≤ B.w h r s := by
  unfold w; split
  · exact (Real.exp_pos _).le
  · exact le_rfl

theorem Z_pos (h r : ℕ) : 0 < B.Z h r :=
  add_pos_of_nonneg_of_pos (Finset.sum_nonneg fun _ _ => B.w_nonneg h r _) (Real.exp_pos _)

theorem Z_ne (h r : ℕ) : B.Z h r ≠ 0 := (B.Z_pos h r).ne'

theorem pr_of_not {h r s : ℕ} (hv : ¬ valid B.nb r s) : B.pr h r s = 0 := by
  unfold pr w; rw [if_neg hv, zero_div]

theorem ds_of_not {h r s : ℕ} (hv : ¬ valid B.nb r s) : B.ds h r s = 0 := by
  unfold ds; rw [B.pr_of_not hv, zero_mul]

end Blk

/-! ## Two blocks that differ only in the key and value rows no query sees -/

/-- The same block but for rows that are masked. -/
structure Agree (B B' : Blk) : Prop where
  nb : B.nb = B'.nb
  q : B.q = B'.q
  d : B.d = B'.d
  s : B.s = B'.s
  k : ∀ r j s l, valid B.nb r s → B.k j s l = B'.k j s l
  v : ∀ r j s l, valid B.nb r s → B.v j s l = B'.v j s l

namespace Agree

variable {B B' : Blk} (H : Agree B B')
include H

theorem w_eq : B.w = B'.w := by
  funext h r s
  unfold Blk.w
  rw [← H.nb]
  split
  · next hv => unfold Blk.sc; rw [H.q]; simp only [H.k r _ _ _ hv]
  · rfl

theorem Z_eq : B.Z = B'.Z := by unfold Blk.Z; rw [H.w_eq, H.s]

theorem pr_eq : B.pr = B'.pr := by unfold Blk.pr; rw [H.w_eq, H.Z_eq]

theorem pe_eq : B.pe = B'.pe := by unfold Blk.pe; rw [H.s, H.Z_eq]

theorem pr_dp (h r s : ℕ) : B.pr h r s * B.dp h r s = B'.pr h r s * B'.dp h r s := by
  by_cases hv : valid B.nb r s
  · rw [H.pr_eq]; unfold Blk.dp; rw [H.d]; simp only [H.v r _ _ _ hv]
  · rw [← H.pr_eq, B.pr_of_not hv, zero_mul, zero_mul]

theorem delta_eq : B.delta = B'.delta := by
  funext h r; unfold Blk.delta; exact Finset.sum_congr rfl fun s _ => H.pr_dp h r s

theorem ds_eq : B.ds = B'.ds := by
  funext h r s; unfold Blk.ds; rw [mul_sub, mul_sub, H.pr_dp, H.delta_eq, H.pr_eq]

theorem dq_eq : B.dq = B'.dq := by
  funext h r l; unfold Blk.dq
  congr 1
  refine Finset.sum_congr rfl fun s _ => ?_
  by_cases hv : valid B.nb r s
  · rw [H.ds_eq, H.k r _ _ _ hv]
  · rw [← H.ds_eq, B.ds_of_not hv, zero_mul, zero_mul]

theorem dk_eq : B.dk = B'.dk := by unfold Blk.dk; rw [H.ds_eq, H.q]

theorem dv_eq : B.dv = B'.dv := by unfold Blk.dv; rw [H.pr_eq, H.d]

theorem dsink_eq : B.dsink = B'.dsink := by unfold Blk.dsink; rw [H.pe_eq, H.delta_eq]

end Agree

/-! ## The sequence -/

/-- The arrays: the projections `A` (row, column), the cotangents `D`, the sinks `S`, and the cosines and sines of
    the angles (row, frequency). -/
structure World where
  A : ℕ → ℕ → ℝ
  D : ℕ → ℕ → ℝ
  S : ℕ → ℝ
  C : ℕ → ℕ → ℝ
  N : ℕ → ℕ → ℝ

namespace World

variable (W : World)

/-- A head's 64 lanes rotated by row `r`'s angles, and the transpose of that rotation. -/
def rot (r : ℕ) (f : ℕ → ℝ) (l : ℕ) : ℝ :=
  if l < 32 then f l * W.C r l - f (l + 32) * W.N r l else f l * W.C r (l - 32) + f (l - 32) * W.N r (l - 32)
@[inherit_doc rot] def unrot (r : ℕ) (f : ℕ → ℝ) (l : ℕ) : ℝ :=
  if l < 32 then f l * W.C r l + f (l + 32) * W.N r l else f l * W.C r (l - 32) - f (l - 32) * W.N r (l - 32)

/-- The row of the sequence that is block `b`'s key row `s`; the first block has its own rows twice. -/
def keyRow (b s : ℕ) : ℕ := if s < 128 then 128 * (b - 1) + s else 128 * b + (s - 128)

/-- Block `b`. -/
def blk (b : ℕ) : Blk where
  nb := b
  q h r l := W.rot (128 * b + r) (fun l => W.A (128 * b + r) (64 * h + l)) l
  k j s l := W.rot (keyRow b s) (fun l => W.A (keyRow b s) (1024 + 64 * j + l)) l
  v j s l := W.A (keyRow b s) (1152 + 64 * j + l)
  d h r l := W.D (128 * b + r) (64 * h + l)
  s := W.S

/-- The query gradient at head `h`, row `r` of block `b`. -/
def dq (b h r l : ℕ) : ℝ := W.unrot (128 * b + r) (fun l => (W.blk b).dq h r l) l

/-- What block `b`'s rows as the previous block's keys (values) of `b + 1` get; nothing after the last. -/
def ck (b j r l : ℕ) : ℝ := if b < 63 then (W.blk (b + 1)).dk j r l else 0
@[inherit_doc ck] def cv (b j r l : ℕ) : ℝ := if b < 63 then (W.blk (b + 1)).dv j r l else 0

/-- The key gradient at key/value head `j`, row `r` of block `b`. -/
def dk (b j r l : ℕ) : ℝ := W.unrot (128 * b + r) (fun l => (W.blk b).dk j (128 + r) l + W.ck b j r l) l

/-- The value gradient. -/
def dv (b j r l : ℕ) : ℝ := (W.blk b).dv j (128 + r) l + W.cv b j r l

/-- The sinks' gradient. -/
def dsink (h : ℕ) : ℝ := ∑ b : Fin 64, (W.blk b).dsink h

end World

/-! ## Literals -/

open Idealize.ShloMosaic in
/-- The literal 1/8. -/
theorem lit_eighth : Ideal.ofBits .f32 1040187392#32 = ((1 / 8 : ℝ) : EReal) := by
  simp [Ideal.ofBits, Ideal.ieee, -EReal.coe_mul]; norm_num

open Idealize.ShloMosaic in
/-- The literal −∞. -/
theorem lit_bot : Ideal.ofBits .f32 4286578688#32 = ⊥ := by
  simp [Ideal.ofBits, Ideal.ieee, -EReal.coe_mul]

open Idealize.ShloMosaic in
/-- The literal +∞. -/
theorem lit_top : Ideal.ofBits .f32 2139095040#32 = ⊤ := by
  simp [Ideal.ofBits, Ideal.ieee, -EReal.coe_mul]

open Idealize.ShloMosaic in
/-- The literals 10000 and 32 are positive reals. -/
theorem lit_theta : ∃ r : ℝ, Ideal.ofBits .f32 1176256512#32 = (r : EReal) := by
  refine ⟨10000, ?_⟩
  simp [Ideal.ofBits, Ideal.ieee, -EReal.coe_mul]; norm_num

open Idealize.ShloMosaic in
@[inherit_doc lit_theta] theorem lit_half : Ideal.ofBits .f32 1107296256#32 = ((32 : ℝ) : EReal) := by
  simp [Ideal.ofBits, Ideal.ieee, -EReal.coe_mul]; norm_num

open Idealize.ShloMosaic in
/-- The literals of a normalisation: its columns, the small number added to a variance, and what a square root's
derivative multiplies by. -/
theorem lit_cols : Ideal.ofBits .f32 1157627904#32 = ((2048 : ℝ) : EReal) := by
  simp [Ideal.ofBits, Ideal.ieee, -EReal.coe_mul]; norm_num

open Idealize.ShloMosaic in
@[inherit_doc lit_cols] theorem lit_eps : ∃ r : ℝ, 0 < r ∧ Ideal.ofBits .f32 925353388#32 = (r : EReal) := by
  refine ⟨?r, ?pos, ?eq⟩
  case eq => simp [Ideal.ofBits, Ideal.ieee, -EReal.coe_mul]; rfl
  case pos => norm_num

open Idealize.ShloMosaic in
@[inherit_doc lit_cols] theorem lit_two : Ideal.ofBits .f32 1073741824#32 = ((2 : ℝ) : EReal) := by
  simp [Ideal.ofBits, Ideal.ieee, -EReal.coe_mul]; norm_num

open Idealize.ShloMosaic in
@[inherit_doc lit_cols] theorem lit_mhalf : Ideal.ofBits .f32 3204448256#32 = ((-(1 / 2) : ℝ) : EReal) := by
  simp [Ideal.ofBits, Ideal.ieee, -EReal.coe_mul]; norm_num

open Idealize.ShloMosaic in
/-- The residual connection's weight is a real number. -/
theorem lit_alpha : ∃ r : ℝ, Ideal.ofBits .f32 1066940400#32 = (r : EReal) := by
  refine ⟨?r, ?eq⟩
  case eq => simp [Ideal.ofBits, Ideal.ieee, -EReal.coe_mul]; rfl

open Idealize.ShloMosaic in
/-- The literals of the loss: one half, and one over the number of columns. -/
theorem lit_onehalf : Ideal.ofBits .f32 1056964608#32 = ((1 / 2 : ℝ) : EReal) := by
  simp [Ideal.ofBits, Ideal.ieee, -EReal.coe_mul]; norm_num

open Idealize.ShloMosaic in
@[inherit_doc lit_onehalf] theorem lit_share : Ideal.ofBits .f32 973078528#32 = ((1 / 2048 : ℝ) : EReal) := by
  simp [Ideal.ofBits, Ideal.ieee, -EReal.coe_mul]; norm_num

/-! ## The arrays a program is given, read as reals -/

section inputs

open Idealize.ShloMosaic

/-- Row `r`, column `c` of an array, as a real. -/
def entry {R K : ℕ} (f : Fin R → Fin K → EReal) (r c : ℕ) : ℝ :=
  if h : r < R ∧ c < K then (f ⟨r, h.1⟩ ⟨c, h.2⟩).toReal else 0

theorem entry_eq {R K : ℕ} (f : Fin R → Fin K → EReal) (r : Fin R) (c : Fin K) (h : ⊥ < f r c ∧ f r c < ⊤) :
    f r c = ((entry f r c : ℝ) : EReal) := by
  unfold entry
  rw [dif_pos ⟨r.isLt, c.isLt⟩]
  exact (EReal.coe_toReal h.2.ne h.1.ne').symm

/-- The angle of row `r` at frequency `l`. -/
def angle (r l : ℕ) : EReal :=
  FloatOps.sitofp (F := Ideal) .f32 (BitVec.ofNat 32 r) * Ideal.pow (Ideal.ofBits .f32 1176256512#32)
    (Ideal.div (-FloatOps.sitofp (F := Ideal) .f32 (BitVec.ofNat 32 l)) (Ideal.ofBits .f32 1107296256#32))

theorem angle_real (r l : ℕ) : ∃ a : ℝ, angle r l = a := by
  obtain ⟨θ, hθ⟩ := lit_theta
  unfold angle
  rw [hθ, lit_half, Ideal.div_coe (by norm_num)]
  have e (w : BitVec 32) : FloatOps.sitofp (F := Ideal) .f32 w = ((w.toInt : ℝ) : EReal) := rfl
  rw [e, e, ← EReal.coe_neg, ← EReal.coe_mul, Ideal.pow_coe_coe, ← EReal.coe_mul]
  exact ⟨_, rfl⟩

/-- The arrays of the real problem, from the program's. -/
def world (a : Fin 8192 → Fin 4352 → EReal) (d : Fin 8192 → Fin 2048 → EReal) (s : Fin 16 → EReal) : World where
  A := entry a
  D := entry d
  S h := entry (fun (_ : Fin 1) => s) 0 h
  C r l := (Ideal.cos (angle r l)).toReal
  N r l := (Ideal.sin (angle r l)).toReal

variable (a : Fin 8192 → Fin 4352 → EReal) (d : Fin 8192 → Fin 2048 → EReal) (s : Fin 16 → EReal)

theorem cos_angle (r l : ℕ) : Ideal.cos (angle r l) = (((world a d s).C r l : ℝ) : EReal) := by
  obtain ⟨x, hx⟩ := angle_real r l
  simp only [world, hx, Ideal.cos_coe, EReal.toReal_coe]

theorem sin_angle (r l : ℕ) : Ideal.sin (angle r l) = (((world a d s).N r l : ℝ) : EReal) := by
  obtain ⟨x, hx⟩ := angle_real r l
  simp only [world, hx, Ideal.sin_coe, EReal.toReal_coe]

/-- The entries the gradient reads are real numbers. -/
structure Finite : Prop where
  a : ∀ r (k : Fin 4352), (k : ℕ) < 1280 → ⊥ < a r k ∧ a r k < ⊤
  d : ∀ r (k : Fin 2048), (k : ℕ) < 1024 → ⊥ < d r k ∧ d r k < ⊤
  s : ∀ k, ⊥ < s k ∧ s k < ⊤

variable {a d s} (H : Finite a d s)
include H

theorem Finite.a_eq (r : Fin 8192) (k : Fin 4352) (h : (k : ℕ) < 1280) : a r k = (((world a d s).A r k : ℝ) : EReal) :=
  entry_eq a r k (H.a r k h)

theorem Finite.d_eq (r : Fin 8192) (k : Fin 2048) (h : (k : ℕ) < 1024) : d r k = (((world a d s).D r k : ℝ) : EReal) :=
  entry_eq d r k (H.d r k h)

theorem Finite.s_eq (k : Fin 16) : s k = (((world a d s).S k : ℝ) : EReal) :=
  entry_eq (fun (_ : Fin 1) => s) 0 k (H.s k)

end inputs

/-! ## Sums cut in groups, and sums and maxima of reals among the extended reals -/

/-- A sum over `m` groups of `n`. -/
theorem sum_groups (m n : ℕ) (f : ℕ → ℕ → ℝ) : ∑ c : Fin (m * n), f (c / n) (c % n) = ∑ t : Fin m, ∑ r : Fin n, f t r := by
  rw [← Fintype.sum_prod_type' (f := fun (t : Fin m) (r : Fin n) => f t r)]
  refine (Fintype.sum_equiv finProdFinEquiv _ _ fun x => ?_).symm
  have hn : 0 < n := lt_of_le_of_lt (Nat.zero_le _) x.2.isLt
  have h1 : ((finProdFinEquiv x : Fin (m * n)) : ℕ) = x.2 + n * x.1 := rfl
  rw [h1, Nat.add_mul_div_left _ _ hn, Nat.div_eq_of_lt x.2.isLt, zero_add, Nat.add_mul_mod_self_left,
    Nat.mod_eq_of_lt x.2.isLt]

/-- The eight heads of a group are the four pairs' first and second heads. -/
theorem sum_heads (f : ℕ → ℝ) : ∑ g : Fin 8, f g = ∑ t : Fin 4, f (2 * t + 0) + ∑ t : Fin 4, f (2 * t + 1) := by
  simp only [Fin.sum_univ_eight, Fin.sum_univ_four]
  simp
  ring

/-- The sum of reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- The largest of numbers none of which is `⊤` is not `⊤`. -/
theorem fold_max_lt {ι : Type} [Fintype ι] (f : ι → EReal) (h : ∀ i, f i < ⊤) : Finset.fold max ⊥ f Finset.univ < ⊤ := by
  classical
  induction (Finset.univ : Finset ι) using Finset.induction_on with
  | empty => simp
  | insert a s ha ih => rw [Finset.fold_insert ha]; exact max_lt (h a) ih

/-- Between a real and `⊤` there are only reals. -/
theorem exists_real {x : EReal} (a : ℝ) (h : (a : EReal) ≤ x) (h' : x < ⊤) : ∃ r : ℝ, x = r :=
  ⟨x.toReal, (EReal.coe_toReal h'.ne fun e => by simp [e] at h).symm⟩

/-- The maximum of a real and of numbers none of which is `⊤` is real. -/
theorem max_real {ι : Type} [Fintype ι] (f : ι → EReal) (h : ∀ i, f i < ⊤) (a : ℝ) :
    ∃ r : ℝ, max (Finset.fold max ⊥ f Finset.univ) (a : EReal) = r :=
  exists_real a (le_max_right _ _) (max_lt (fold_max_lt f h) (EReal.coe_lt_top a))

end Cert.Attn

end
-- ==== Proof.Given.lean ====
/-
  What the precondition says: every entry the gradient reads is a real number.
-/
module

public import proofs.«01_k».proof.Defs
public import proofs.«01_k».proof.Proof.Gen.Pre_finite
public import proofs.«01_k».proof.Proof.Spec
public import Idealize.ShloMosaic.Lib.Pointwise

@[expose] public section

noncomputable section

namespace Cert.Pre_finite

open Idealize.ShloMosaic
open Facts

/-- A conjunction of two comparisons that reads 1 gives both. -/
theorem both {p q : Prop} [Decidable p] [Decidable q] (h : BitVec.ofBool (decide p) &&& BitVec.ofBool (decide q) = 1#1) : p ∧ q := by
  by_cases hp : p <;> by_cases hq : q <;> simp [hp, hq] at h ⊢

variable (a : FVec Ideal S8192x4352 .bf16) (d : FVec Ideal S8192x2048 .bf16) (s : FVec Ideal S1x16 .f32)

/-- The precondition's three arrays read 1 everywhere: the entries lie strictly between −∞ and +∞. -/
theorem finite (h0 : (fn (F := Ideal) a d s).1 = fun _ => 1#1) (h1 : (fn (F := Ideal) a d s).2.1 = fun _ => 1#1)
    (h2 : (fn (F := Ideal) a d s).2.2 = fun _ => 1#1) :
    Attn.Finite (fun r k => a (ix2 r k)) (fun r k => d (ix2 r k)) (fun k => s (ix2 (0 : Fin 1) k)) where
  a r k hk := by
    have e := congrFun h0 (ix2 r (⟨k, hk⟩ : Fin 1280))
    unfold fn fn_part1 at e
    dsimp only at e
    pointwise [Attn.lit_bot, Attn.lit_top] at e
    exact both e
  d r k hk := by
    have e := congrFun h1 (ix2 r (⟨k, hk⟩ : Fin 1024))
    unfold fn fn_part1 at e
    dsimp only at e
    pointwise [Attn.lit_bot, Attn.lit_top] at e
    exact both e
  s k := by
    have e := congrFun h2 (ix2 (0 : Fin 1) k)
    unfold fn fn_part1 at e
    dsimp only at e
    pointwise [Attn.lit_bot, Attn.lit_top] at e
    exact both e

end Cert.Pre_finite

end
-- ==== Proof.Block.lean ====
/-
  What one grid point of the attention gradient computes, as functions of the blocks it reads: the kernel body
  written once per key/value head `j` and once per half `hh` of a lane pair, where the printed body is four copies.
  Every function here is over an arbitrary float model.
-/
module

public import proofs.«01_k».proof.Proof.Gen.KernelIdeal.Frame.Runs

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F] [Named F]

/-- The blocks one grid point reads: its number `nb` counted from the sequence's start, the queries and their
    cotangents, the keys and values of this block and of the one before, the rotation tables of both, the sinks. -/
structure Ins (F : FTy → Type) where
  nb : BitVec 32
  q : Vec F S128x1024 .bf16
  kc : Vec F S128x128 .bf16
  vc : Vec F S128x128 .bf16
  kp : Vec F S128x128 .bf16
  vp : Vec F S128x128 .bf16
  cc : Vec F S128x128 .f32
  sc : Vec F S128x128 .f32
  cp : Vec F S128x128 .f32
  sp : Vec F S128x128 .f32
  sk : Vec F S1x16 .f32
  d : Vec F S128x1024 .bf16

/-- A group of 128 columns lies inside the 1024. -/
theorem col_inb (p : Fin 8) : ∀ a, (![0, 128 * p.val] : Fin 2 → ℕ) a + S128x128.size a ≤ S128x1024.size a := by
  intro a
  have := p.isLt
  fin_cases a
  · show 0 + 128 ≤ 128; omega
  · show 128 * p.val + 128 ≤ 1024
    omega

/-- Columns `128 p … 128 p + 127`: the pair of heads `2 p`, `2 p + 1`. -/
def col (x : Vec F S128x1024 .bf16) (p : Fin 8) : Vec F S128x128 .bf16 :=
  View.ld x (Rect.unit (s := S128x1024) ![0, 128 * p.val] S128x128.size (col_inb p))

/-- A sink's cell lies inside the row of sixteen. -/
theorem sink_inb (h : Fin 16) : ∀ a, (![0, h.val] : Fin 2 → ℕ) a + S1x1.size a ≤ S1x16.size a := by
  intro a
  have := h.isLt
  fin_cases a
  · show 0 + 1 ≤ 1; omega
  · show h.val + 1 ≤ 16
    omega

theorem one_cell : 0 < S1x1.numel := by decide

/-- Head `h`'s sink. -/
def sinkAt (x : Vec F S1x16 .f32) (h : Fin 16) : Elt F .f32 :=
  View.ld x (Rect.unit (s := S1x16) ![0, h.val] S1x1.size (sink_inb h)) (Shape.Idx.first one_cell)

/-- The pair of heads number `t` of key/value head `j`. -/
def pair (j : Fin 2) (t : Fin 4) : Fin 8 := ⟨4 * j.val + t.val, by omega⟩

/-- The query head in half `hh` of pair `t` of key/value head `j`. -/
def head (j hh : Fin 2) (t : Fin 4) : Fin 16 := ⟨8 * j.val + 2 * t.val + hh.val, by omega⟩

/-- The keys of both blocks, rotated: 256 rows, both key/value heads side by side in the lanes. -/
def kExt (x : Ins F) : FVec F S256x128 .f32 := k0_pay11 k0_pay6 (k0_pay10 x.cc x.sc x.kc) x.kp x.cp x.sp

/-- The values of both blocks. -/
def vExt (x : Ins F) : FVec F S256x128 .f32 := k0_pay12 x.vp x.vc

/-- The two halves of the lanes exchanged. -/
def swap (t : FVec F S256x128 .f32) : FVec F S256x128 .f32 := dynamicRotate 1 64#32 none t rotates_S256x128_d1

/-- Only the low (`hh = 0`) or the high lanes of `t`, the others zero. -/
def half (hh : Fin 2) (t : FVec F S256x128 .f32) : FVec F S256x128 .bf16 :=
  match hh with
  | 0 => k0_pay22 k0_pay7 t k0_pay20
  | 1 => k0_pay23 k0_pay7 t k0_pay20

/-- Key/value head `j` of `t`, laid in the lanes of half `hh`. -/
def variant (j hh : Fin 2) (t : FVec F S256x128 .f32) : FVec F S256x128 .bf16 :=
  match j, hh with
  | 0, 0 => half 0 t
  | 0, 1 => half 1 (swap t)
  | 1, 0 => half 0 (swap t)
  | 1, 1 => half 1 t

/-- The cosines and the signed sines of the block's rows, for the four stacked pairs. -/
def cos4 (x : Ins F) : FVec F S512x128 .f32 := k0_pay26 (k0_pay8 x.cc)
@[inherit_doc cos4] def sin4 (x : Ins F) : FVec F S512x128 .f32 := k0_pay27 (k0_pay9 x.sc)

/-- The queries of key/value head `j`'s four pairs stacked, rotated and scaled. -/
def qStack (x : Ins F) (j : Fin 2) : FVec F S512x128 .bf16 :=
  k0_pay29 k0_pay6 (cos4 x) (sin4 x) (col x.q (pair j 0)) (col x.q (pair j 1)) (col x.q (pair j 2)) (col x.q (pair j 3))

/-- The cotangents of the four pairs stacked. -/
def dStack (x : Ins F) (j : Fin 2) : FVec F S512x128 .bf16 :=
  k0_pay40 (col x.d (pair j 0)) (col x.d (pair j 1)) (col x.d (pair j 2)) (col x.d (pair j 3))

/-- The sink of each stacked query. -/
def sinkRow (x : Ins F) (j hh : Fin 2) : FVec F S1x512 .f32 :=
  k0_pay30 (sinkAt x.sk (head j hh 3)) (sinkAt x.sk (head j hh 2)) (sinkAt x.sk (head j hh 1)) (sinkAt x.sk (head j hh 0))

/-- Exponentials of the masked scores less their maximum, and of the sink less that maximum. -/
def eS (x : Ins F) (j hh : Fin 2) : FVec F S256x512 .f32 :=
  k0_pay34 (variant j hh (kExt x)) (k0_pay25 x.nb) (qStack x j) (sinkRow x j hh)
@[inherit_doc eS] def esS (x : Ins F) (j hh : Fin 2) : FVec F S1x512 .f32 :=
  k0_pay35 (variant j hh (kExt x)) (k0_pay25 x.nb) (qStack x j) (sinkRow x j hh)

/-- The probabilities. -/
def prS (x : Ins F) (j hh : Fin 2) : FVec F S256x512 .f32 := k0_pay43 (eS x j hh) (esS x j hh)

/-- The probabilities' cotangents, and their mean under the probabilities. -/
def dpS (x : Ins F) (j hh : Fin 2) : FVec F S256x512 .f32 := k0_pay57 (variant j hh (vExt x)) (dStack x j)
@[inherit_doc dpS] def deltaS (x : Ins F) (j hh : Fin 2) : FVec F S1x512 .f32 :=
  k0_pay58 (variant j hh (vExt x)) (eS x j hh) (esS x j hh) (dStack x j)

/-- The scores' cotangents. -/
def dsS (x : Ins F) (j hh : Fin 2) : FVec F S256x512 .bf16 := k0_pay59 (prS x j hh) (dpS x j hh) (deltaS x j hh)

/-- The sinks' cotangents, with the sign changed, query by query. -/
def psdS (x : Ins F) (j hh : Fin 2) : FVec F S1x512 .f32 :=
  k0_pay60 (esS x j hh) (k0_pay42 (eS x j hh) (esS x j hh)) (deltaS x j hh)

/-- The four pairs' query gradients, stacked. -/
def dqS (x : Ins F) (j : Fin 2) : FVec F S512x128 .bf16 :=
  k0_pay67 k0_pay6 (variant j 1 (kExt x)) (cos4 x) (sin4 x)
    (k0_pay52 (variant j 0 (kExt x)) k0_pay41 (dsS x j 0)) (dsS x j 1)

/-- Half by half, the key (value) gradients of head `j` that this block's queries give. -/
def dkS (x : Ins F) (j : Fin 2) : FVec F S256x128 .f32 :=
  k0_pay65 k0_pay7 (qStack x j) (k0_pay53 (qStack x j) (dsS x j 0)) (dsS x j 1)
@[inherit_doc dkS] def dvS (x : Ins F) (j : Fin 2) : FVec F S256x128 .f32 :=
  k0_pay66 k0_pay7 (dStack x j) (k0_pay54 (dStack x j) (prS x j 0)) (prS x j 1)

/-- The key (value) gradients of both blocks' rows, halves added, the two heads side by side. -/
def dkExt (x : Ins F) : FVec F S256x128 .f32 := k0_pay119 k0_pay7 (dkS x 0) (dkS x 1)
@[inherit_doc dkExt] def dvExt (x : Ins F) : FVec F S256x128 .f32 := k0_pay120 k0_pay7 (dvS x 0) (dvS x 1)

/-- The key gradient of this block's rows, `ck` being what the next block gave them; rotated back. -/
def dkOut (x : Ins F) (ck : FVec F S128x128 .f32) : FVec F S128x128 .bf16 :=
  k0_pay121 k0_pay6 k0_pay7 (k0_pay8 x.cc) (k0_pay9 x.sc) (dkS x 0) (dkS x 1) ck

/-- The value gradient of this block's rows, `cv` being what the next block gave them. -/
def dvOut (x : Ins F) (cv : FVec F S128x128 .f32) : FVec F S128x128 .bf16 := k0_pay122 k0_pay7 (dvS x 0) (dvS x 1) cv

/-- What this block gives the rows of the block before it. -/
def ckNext (x : Ins F) : FVec F S128x128 .f32 := k0_pay123 k0_pay7 (dkS x 0) (dkS x 1)
@[inherit_doc ckNext] def cvNext (x : Ins F) : FVec F S128x128 .f32 := k0_pay1 (dvExt x)

/-- The lane numbers. -/
def lanes : IVec S1x128 32 := iota .tc S1x128 32 [1] iota_S1x128_d1_w32

/-- One sink's gradient added to the row: minus the sum of its 128 queries' terms, in the lane `h`. -/
def putSink (row : FVec F S1x128 .f32) (terms : FVec F S1x128 .f32) (h : BitVec 32) : FVec F S1x128 .f32 :=
  addf row (select (cmpi .eq lanes (broadcast S1x128 h))
    (broadcastTo S1x128 (shapeCast S1x1 (subf (broadcast S1x1 (Scalar.ofBits .f32 0x00000000#32))
        (shapeCast S1x1 (multiReduction .add [1] S1 terms 0x00000000#32 reduces_S1x128_S1 (.inl rfl) rfl) shapeCasts_S1_S1x1))
      shapeCasts_S1x1_S1x1) broadcasts_S1x1_S1x128)
    (broadcast S1x128 (Scalar.ofBits .f32 0x00000000#32)))

/-- The four sinks of half `hh` of key/value head `j`, added to the row in order. -/
def putSinks (row : FVec F S1x128 .f32) (psd : FVec F S1x512 .f32) (h0 h1 h2 h3 : BitVec 32) : FVec F S1x128 .f32 :=
  putSink (putSink (putSink (putSink row
    (extractStridedSlice S1x128 ![0, 0] psd slices_S1x512_o0_0_S1x128) h0)
    (extractStridedSlice S1x128 ![0, 128] psd slices_S1x512_o0_128_S1x128) h1)
    (extractStridedSlice S1x128 ![0, 256] psd slices_S1x512_o0_256_S1x128) h2)
    (extractStridedSlice S1x128 ![0, 384] psd slices_S1x512_o0_384_S1x128) h3

/-- The block's share of the sinks' gradient, a row of lanes. -/
def sinkShare (x : Ins F) : FVec F S1x128 .f32 :=
  putSinks (putSinks (putSinks (putSinks k0_pay28 (psdS x 0 0) 0#32 2#32 4#32 6#32) (psdS x 0 1) 1#32 3#32 5#32 7#32)
    (psdS x 1 0) 8#32 10#32 12#32 14#32) (psdS x 1 1) 9#32 11#32 13#32 15#32

/-! ## The four printed copies are one function -/

theorem pay13_eq (a : IVec S1x128 1) (b : FVec F S128x128 .f32) (c : Vec F S128x128 .bf16) (d e : Vec F S128x128 .f32) :
    k0_pay13 a b c d e = swap (k0_pay11 a b c d e) := rfl

theorem pay15_eq (v : IVec S1x128 1) (a : IVec S1x128 1) (b : FVec F S128x128 .f32) (c : Vec F S128x128 .bf16) (d e : Vec F S128x128 .f32) :
    k0_pay15 a v b c d e = k0_pay22 v (k0_pay11 a b c d e) k0_pay20 := rfl

theorem pay16_eq (v : IVec S1x128 1) (a : IVec S1x128 1) (b : FVec F S128x128 .f32) (c : Vec F S128x128 .bf16) (d e : Vec F S128x128 .f32) :
    k0_pay16 a v b c d e = k0_pay22 v (swap (k0_pay11 a b c d e)) k0_pay20 := rfl

theorem pay17_eq (v : IVec S1x128 1) (a : IVec S1x128 1) (b : FVec F S128x128 .f32) (c : Vec F S128x128 .bf16) (d e : Vec F S128x128 .f32) :
    k0_pay17 a v b c d e = k0_pay23 v (swap (k0_pay11 a b c d e)) k0_pay20 := rfl

theorem pay18_eq (v : IVec S1x128 1) (a : IVec S1x128 1) (b : FVec F S128x128 .f32) (c : Vec F S128x128 .bf16) (d e : Vec F S128x128 .f32) :
    k0_pay18 a v b c d e = k0_pay23 v (k0_pay11 a b c d e) k0_pay20 := rfl

theorem pay19_eq (a b : Vec F S128x128 .bf16) : k0_pay19 a b = swap (k0_pay12 a b) := rfl

theorem pay21_eq (v : IVec S1x128 1) (a b : Vec F S128x128 .bf16) :
    k0_pay21 v a b = k0_pay22 v (k0_pay12 a b) k0_pay20 := rfl

theorem pay24_eq (v : IVec S1x128 1) (a b : FVec F S256x128 .f32) : k0_pay24 v a b = k0_pay23 v a b := rfl

section scores
variable (k : FVec F S256x128 .bf16) (v : IVec S256x512 1) (q : FVec F S512x128 .bf16) (a b c d : Elt F .f32)

theorem pay38_eq : k0_pay38 k v q a b c d = k0_pay34 k v q (k0_pay30 a b c d) := rfl
theorem pay39_eq : k0_pay39 k v q a b c d = k0_pay35 k v q (k0_pay30 a b c d) := rfl
theorem pay80_eq : k0_pay80 k v q (k0_pay73 a b c) k0_pay74 (k0_pay75 d) = k0_pay34 k v q (k0_pay30 a b c d) := rfl
theorem pay81_eq : k0_pay81 k v q (k0_pay73 a b c) k0_pay74 (k0_pay75 d) = k0_pay35 k v q (k0_pay30 a b c d) := rfl
theorem pay84_eq : k0_pay84 k v q a b c d = k0_pay34 k v q (k0_pay30 a b c d) := rfl
theorem pay85_eq : k0_pay85 k v q a b c d = k0_pay35 k v q (k0_pay30 a b c d) := rfl

end scores

theorem pay72_eq (v : IVec S1x128 1) (c s : FVec F S512x128 .f32) (a b d e : Vec F S128x128 .bf16) :
    k0_pay72 v c s a b d e = k0_pay29 v c s a b d e := rfl

theorem pay86_eq (a b d e : Vec F S128x128 .bf16) : k0_pay86 a b d e = k0_pay40 a b d e := rfl

theorem pay87_eq : (k0_pay87 : FVec F S512x128 .f32) = k0_pay41 := rfl

section probs
variable (w : FVec F S256x128 .bf16) (e : FVec F S256x512 .f32) (es : FVec F S1x512 .f32) (dd : FVec F S512x128 .bf16)
  (d0 d1 d2 d3 : Vec F S128x128 .bf16) (lane : IVec S1x128 32) (row : FVec F S1x128 .f32)

theorem pay55_eq : k0_pay55 e es = k0_pay42 e es := rfl
theorem pay56_eq : k0_pay56 e es = k0_pay43 e es := rfl
theorem pay89_eq : k0_pay89 e es = k0_pay43 e es := rfl
theorem pay101_eq : k0_pay101 e es = k0_pay42 e es := rfl
theorem pay102_eq : k0_pay102 e es = k0_pay43 e es := rfl
theorem pay103_eq : k0_pay103 w dd = k0_pay57 w dd := rfl
theorem pay46_eq : k0_pay46 w e es d0 d1 d2 d3
    = k0_pay59 (k0_pay43 e es) (k0_pay57 w (k0_pay40 d0 d1 d2 d3)) (k0_pay58 w e es (k0_pay40 d0 d1 d2 d3)) := rfl
theorem pay92_eq : k0_pay92 w e es d0 d1 d2 d3
    = k0_pay59 (k0_pay43 e es) (k0_pay57 w (k0_pay40 d0 d1 d2 d3)) (k0_pay58 w e es (k0_pay40 d0 d1 d2 d3)) := rfl
theorem pay47_eq : k0_pay47 w e es d0 d1 d2 d3
    = k0_pay60 es (k0_pay42 e es) (k0_pay58 w e es (k0_pay40 d0 d1 d2 d3)) := rfl
theorem pay93_eq : k0_pay93 w e es d0 d1 d2 d3
    = k0_pay60 es (k0_pay42 e es) (k0_pay58 w e es (k0_pay40 d0 d1 d2 d3)) := rfl
theorem pay106_eq (pr dp : FVec F S256x512 .f32) : k0_pay106 pr dp (k0_pay104 w e es dd) = k0_pay59 pr dp (k0_pay58 w e es dd) := rfl

/-- The first half's sinks of the first key/value head. -/
theorem pay51_eq : k0_pay51 lanes (k0_pay47 w e es d0 d1 d2 d3) (k0_pay48 w lanes row e es d0 d1 d2 d3) (k0_pay49 lanes)
      (k0_pay50 w e es d0 d1 d2 d3) (Scalar.ofBits .f32 0x00000000#32)
    = putSinks row (k0_pay60 es (k0_pay42 e es) (k0_pay58 w e es (k0_pay40 d0 d1 d2 d3))) 0#32 2#32 4#32 6#32 := rfl

/-- The second half's. -/
theorem pay64_eq (inv delta : FVec F S1x512 .f32) :
    k0_pay64 (k0_pay61 lanes es row inv delta) (k0_pay62 lanes) (k0_pay63 es inv delta)
      = putSinks row (k0_pay60 es inv delta) 1#32 3#32 5#32 7#32 := rfl

/-- The first half's sinks of the second key/value head. -/
theorem pay97_eq : k0_pay97 lanes (k0_pay93 w e es d0 d1 d2 d3) (k0_pay94 w lanes row e es d0 d1 d2 d3) (k0_pay95 lanes)
      (k0_pay96 w e es d0 d1 d2 d3)
    = putSinks row (k0_pay60 es (k0_pay42 e es) (k0_pay58 w e es (k0_pay40 d0 d1 d2 d3))) 8#32 10#32 12#32 14#32 := rfl

/-- The second half's. -/
theorem pay111_eq (inv : FVec F S1x512 .f32) :
    k0_pay111 (k0_pay108 lanes es row inv (k0_pay104 w e es dd)) (k0_pay109 lanes) (k0_pay110 es inv (k0_pay104 w e es dd))
      = putSinks row (k0_pay60 es inv (k0_pay58 w e es dd)) 9#32 11#32 13#32 15#32 := rfl

end probs

section grads
variable (v : IVec S1x128 1) (k : FVec F S256x128 .bf16) (q : FVec F S512x128 .bf16) (z c s : FVec F S512x128 .f32)
  (ds : FVec F S256x512 .bf16) (pr : FVec F S256x512 .f32) (t : FVec F S256x128 .f32)

theorem pay98_eq : k0_pay98 k z ds = k0_pay52 k z ds := rfl
theorem pay99_eq : k0_pay99 q ds = k0_pay53 q ds := rfl
theorem pay100_eq : k0_pay100 q pr = k0_pay54 q pr := rfl
theorem pay112_eq : k0_pay112 v q t ds = k0_pay65 v q t ds := rfl
theorem pay113_eq : k0_pay113 v q t pr = k0_pay66 v q t pr := rfl
theorem pay114_eq : k0_pay114 v k c s z ds = k0_pay67 v k c s z ds := rfl

end grads

end Cert.KernelIdeal.Block

end
-- ==== Proof.Left.lean ====
/-
  What the printed body's stores leave in its buffers, in the two cases of the program (the grid's first point, which
  clears the running buffers, and every other one), as the functions of `Proof/Block.lean`.
-/
module

public import proofs.«01_k».proof.Proof.Gen.KernelIdeal.Frame.RunA
public import proofs.«01_k».proof.Proof.Gen.KernelIdeal.Frame.RunB
public import proofs.«01_k».proof.Proof.Block
public import Idealize.ShloMosaic.Lib.Pipeline.Value
public import Idealize.ShloMosaic.Lib.ValueIdxCore

@[expose] public section

set_option maxRecDepth 16384

noncomputable section

namespace Cert.KernelIdeal.Block

open Cert.KernelIdeal Cert.KernelIdeal.Gen Idealize.ShloMosaic Idealize.ShloMosaic.TcCoe Idealize.ShloMosaic.Tactic

variable {F : FTy → Type} [FloatOps F] [Named F]

theorem off00 : (![0, 0] : Fin 2 → ℕ) = fun _ => 0 := by decide

/-- The first row of the sinks' buffer. -/
def rowRect : Rect S8x128 := Rect.unit (s := S8x128) ![0, 0] S1x128.size inb_S8x128_S1x128_0_0

/-- The whole of a 128 by 128 buffer. -/
def whole : Rect S128x128 := Rect.unit (s := S128x128) ![0, 0] S128x128.size inb_S128x128_S128x128_0_0

/-- The query gradient, eight groups of columns: the stacked rows laid side by side again. -/
def dqPieces (x : Ins F) : List (View.Piece (Elt F) S128x1024 .bf16) :=
  [⟨Rect.unit (s := S128x1024) ![0, 896] S128x128.size inb_S128x1024_S128x128_0_896, extractStridedSlice S128x128 ![384, 0] (dqS x 1) slices_S512x128_o384_0_S128x128⟩
   , ⟨Rect.unit (s := S128x1024) ![0, 768] S128x128.size inb_S128x1024_S128x128_0_768, extractStridedSlice S128x128 ![256, 0] (dqS x 1) slices_S512x128_o256_0_S128x128⟩
   , ⟨Rect.unit (s := S128x1024) ![0, 640] S128x128.size inb_S128x1024_S128x128_0_640, extractStridedSlice S128x128 ![128, 0] (dqS x 1) slices_S512x128_o128_0_S128x128⟩
   , ⟨Rect.unit (s := S128x1024) ![0, 512] S128x128.size inb_S128x1024_S128x128_0_512, extractStridedSlice S128x128 ![0, 0] (dqS x 1) slices_S512x128_o0_0_S128x128⟩
   , ⟨Rect.unit (s := S128x1024) ![0, 384] S128x128.size inb_S128x1024_S128x128_0_384, extractStridedSlice S128x128 ![384, 0] (dqS x 0) slices_S512x128_o384_0_S128x128⟩
   , ⟨Rect.unit (s := S128x1024) ![0, 256] S128x128.size inb_S128x1024_S128x128_0_256, extractStridedSlice S128x128 ![256, 0] (dqS x 0) slices_S512x128_o256_0_S128x128⟩
   , ⟨Rect.unit (s := S128x1024) ![0, 128] S128x128.size inb_S128x1024_S128x128_0_128, extractStridedSlice S128x128 ![128, 0] (dqS x 0) slices_S512x128_o128_0_S128x128⟩
   , ⟨Rect.unit (s := S128x1024) ![0, 0] S128x128.size inb_S128x1024_S128x128_0_0, extractStridedSlice S128x128 ![0, 0] (dqS x 0) slices_S512x128_o0_0_S128x128⟩
   ]

/-- The blocks of the grid's point `i`. -/
def insAt (i : grid0.Coords) (x0 : Vec F S128x1024 .bf16) (x1 : Vec F S128x128 .bf16) (x2 : Vec F S128x128 .bf16) (x3 : Vec F S128x128 .bf16) (x4 : Vec F S128x128 .bf16) (x5 : Vec F S128x128 .f32) (x6 : Vec F S128x128 .f32) (x7 : Vec F S128x128 .f32) (x8 : Vec F S128x128 .f32) (x9 : Vec F S1x16 .f32) (x10 : Vec F S128x1024 .bf16) : Ins F :=
  ⟨Scalar.subi 63#32 (BitVec.ofNat 32 (i 0).val), x0, x1, x2, x3, x4, x5, x6, x7, x8, x9, x10⟩

variable (c : Dev nD) (i : grid0.Coords) {arg1 : Memref sig .tc .vmem S128x1024 .bf16} (harg1 : arg1.IsWhole) {arg2 : Memref sig .tc .vmem S128x128 .bf16} (harg2 : arg2.IsWhole) {arg3 : Memref sig .tc .vmem S128x128 .bf16} (harg3 : arg3.IsWhole) {arg4 : Memref sig .tc .vmem S128x128 .bf16} (harg4 : arg4.IsWhole) {arg5 : Memref sig .tc .vmem S128x128 .bf16} (harg5 : arg5.IsWhole) {arg6 : Memref sig .tc .vmem S128x128 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .smem S1x16 .f32} (harg10 : arg10.IsWhole) {arg11 : Memref sig .tc .vmem S128x1024 .bf16} (harg11 : arg11.IsWhole) {arg12 : Memref sig .tc .vmem S128x1024 .bf16} (harg12 : arg12.IsWhole) {arg13 : Memref sig .tc .vmem S128x128 .bf16} (harg13 : arg13.IsWhole) {arg14 : Memref sig .tc .vmem S128x128 .bf16} (harg14 : arg14.IsWhole) {arg15 : Memref sig .tc .vmem S8x128 .f32} (harg15 : arg15.IsWhole) {arg16 : Memref sig .tc .vmem S128x128 .f32} (harg16 : arg16.IsWhole) {arg17 : Memref sig .tc .vmem S128x128 .f32} (harg17 : arg17.IsWhole)
variable (x0 : Vec F S128x1024 .bf16) (x1 : Vec F S128x128 .bf16) (x2 : Vec F S128x128 .bf16) (x3 : Vec F S128x128 .bf16) (x4 : Vec F S128x128 .bf16) (x5 : Vec F S128x128 .f32) (x6 : Vec F S128x128 .f32) (x7 : Vec F S128x128 .f32) (x8 : Vec F S128x128 .f32) (x9 : Vec F S1x16 .f32) (x10 : Vec F S128x1024 .bf16)
variable (xo14 : Vec F S8x128 .f32) (xs0 : Vec F S128x128 .f32) (xs1 : Vec F S128x128 .f32)

theorem cleared_covers (u : Vec F S8x128 .f32) (y : S8x128.Idx) :
    ∃ p ∈ ([⟨Rect.unit (s := S8x128) ![0, 0] S8x128.size inb_S8x128_S8x128_0_0, u⟩] : List (View.Piece (Elt F) S8x128 .f32)), y ∈ p.1.set :=
  View.cover_of_tiledL
    [(⟨Rect.unit (s := S8x128) ![0, 0] S8x128.size inb_S8x128_S8x128_0_0, u⟩ : View.Piece (Elt F) S8x128 .f32)] S8x128.size (by sl_kernel_rfl) y

/-- The first row read back out of a buffer just stored whole. -/
theorem readCov_row (m : Memref sig .tc .vmem S8x128 .f32) (u : Vec F S8x128 .f32) :
    m.view.readCov [⟨Rect.unit (s := S8x128) ![0, 0] S8x128.size inb_S8x128_S8x128_0_0, u⟩]
      (Rect.unit (s := S8x128) ![0, 0] S1x128.size inb_S8x128_S1x128_0_0).toLoadRect = View.ld u rowRect := by
  rw [View.readCov_eq_canon_ld _ _ _ (cleared_covers u)]
  exact congrArg (fun o => View.ld o rowRect) (View.canon_unit_zero (S := S8x128) off00 _ u)

theorem col_0 (x : Vec F S128x1024 .bf16) : col x (pair 0 0)
    = View.ld x (Rect.unit (s := S128x1024) ![0, 0] ![128, 128] inb_S128x1024_S128x128_0_0) := rfl
theorem col_1 (x : Vec F S128x1024 .bf16) : col x (pair 0 1)
    = View.ld x (Rect.unit (s := S128x1024) ![0, 128] ![128, 128] inb_S128x1024_S128x128_0_128) := rfl
theorem col_2 (x : Vec F S128x1024 .bf16) : col x (pair 0 2)
    = View.ld x (Rect.unit (s := S128x1024) ![0, 256] ![128, 128] inb_S128x1024_S128x128_0_256) := rfl
theorem col_3 (x : Vec F S128x1024 .bf16) : col x (pair 0 3)
    = View.ld x (Rect.unit (s := S128x1024) ![0, 384] ![128, 128] inb_S128x1024_S128x128_0_384) := rfl
theorem col_4 (x : Vec F S128x1024 .bf16) : col x (pair 1 0)
    = View.ld x (Rect.unit (s := S128x1024) ![0, 512] ![128, 128] inb_S128x1024_S128x128_0_512) := rfl
theorem col_5 (x : Vec F S128x1024 .bf16) : col x (pair 1 1)
    = View.ld x (Rect.unit (s := S128x1024) ![0, 640] ![128, 128] inb_S128x1024_S128x128_0_640) := rfl
theorem col_6 (x : Vec F S128x1024 .bf16) : col x (pair 1 2)
    = View.ld x (Rect.unit (s := S128x1024) ![0, 768] ![128, 128] inb_S128x1024_S128x128_0_768) := rfl
theorem col_7 (x : Vec F S128x1024 .bf16) : col x (pair 1 3)
    = View.ld x (Rect.unit (s := S128x1024) ![0, 896] ![128, 128] inb_S128x1024_S128x128_0_896) := rfl
theorem sinkAt_0 (x : Vec F S1x16 .f32) (hn : 0 < S1x1.numel) : View.ld x (Rect.unit (s := S1x16) ![0, 0] ![1, 1] inb_S1x16_S1x1_0_0) (Shape.Idx.first hn)
    = sinkAt x (head 0 0 0) := rfl
theorem sinkAt_2 (x : Vec F S1x16 .f32) (hn : 0 < S1x1.numel) : View.ld x (Rect.unit (s := S1x16) ![0, 2] ![1, 1] inb_S1x16_S1x1_0_2) (Shape.Idx.first hn)
    = sinkAt x (head 0 0 1) := rfl
theorem sinkAt_4 (x : Vec F S1x16 .f32) (hn : 0 < S1x1.numel) : View.ld x (Rect.unit (s := S1x16) ![0, 4] ![1, 1] inb_S1x16_S1x1_0_4) (Shape.Idx.first hn)
    = sinkAt x (head 0 0 2) := rfl
theorem sinkAt_6 (x : Vec F S1x16 .f32) (hn : 0 < S1x1.numel) : View.ld x (Rect.unit (s := S1x16) ![0, 6] ![1, 1] inb_S1x16_S1x1_0_6) (Shape.Idx.first hn)
    = sinkAt x (head 0 0 3) := rfl
theorem sinkAt_1 (x : Vec F S1x16 .f32) (hn : 0 < S1x1.numel) : View.ld x (Rect.unit (s := S1x16) ![0, 1] ![1, 1] inb_S1x16_S1x1_0_1) (Shape.Idx.first hn)
    = sinkAt x (head 0 1 0) := rfl
theorem sinkAt_3 (x : Vec F S1x16 .f32) (hn : 0 < S1x1.numel) : View.ld x (Rect.unit (s := S1x16) ![0, 3] ![1, 1] inb_S1x16_S1x1_0_3) (Shape.Idx.first hn)
    = sinkAt x (head 0 1 1) := rfl
theorem sinkAt_5 (x : Vec F S1x16 .f32) (hn : 0 < S1x1.numel) : View.ld x (Rect.unit (s := S1x16) ![0, 5] ![1, 1] inb_S1x16_S1x1_0_5) (Shape.Idx.first hn)
    = sinkAt x (head 0 1 2) := rfl
theorem sinkAt_7 (x : Vec F S1x16 .f32) (hn : 0 < S1x1.numel) : View.ld x (Rect.unit (s := S1x16) ![0, 7] ![1, 1] inb_S1x16_S1x1_0_7) (Shape.Idx.first hn)
    = sinkAt x (head 0 1 3) := rfl
theorem sinkAt_8 (x : Vec F S1x16 .f32) (hn : 0 < S1x1.numel) : View.ld x (Rect.unit (s := S1x16) ![0, 8] ![1, 1] inb_S1x16_S1x1_0_8) (Shape.Idx.first hn)
    = sinkAt x (head 1 0 0) := rfl
theorem sinkAt_10 (x : Vec F S1x16 .f32) (hn : 0 < S1x1.numel) : View.ld x (Rect.unit (s := S1x16) ![0, 10] ![1, 1] inb_S1x16_S1x1_0_10) (Shape.Idx.first hn)
    = sinkAt x (head 1 0 1) := rfl
theorem sinkAt_12 (x : Vec F S1x16 .f32) (hn : 0 < S1x1.numel) : View.ld x (Rect.unit (s := S1x16) ![0, 12] ![1, 1] inb_S1x16_S1x1_0_12) (Shape.Idx.first hn)
    = sinkAt x (head 1 0 2) := rfl
theorem sinkAt_14 (x : Vec F S1x16 .f32) (hn : 0 < S1x1.numel) : View.ld x (Rect.unit (s := S1x16) ![0, 14] ![1, 1] inb_S1x16_S1x1_0_14) (Shape.Idx.first hn)
    = sinkAt x (head 1 0 3) := rfl
theorem sinkAt_9 (x : Vec F S1x16 .f32) (hn : 0 < S1x1.numel) : View.ld x (Rect.unit (s := S1x16) ![0, 9] ![1, 1] inb_S1x16_S1x1_0_9) (Shape.Idx.first hn)
    = sinkAt x (head 1 1 0) := rfl
theorem sinkAt_11 (x : Vec F S1x16 .f32) (hn : 0 < S1x1.numel) : View.ld x (Rect.unit (s := S1x16) ![0, 11] ![1, 1] inb_S1x16_S1x1_0_11) (Shape.Idx.first hn)
    = sinkAt x (head 1 1 1) := rfl
theorem sinkAt_13 (x : Vec F S1x16 .f32) (hn : 0 < S1x1.numel) : View.ld x (Rect.unit (s := S1x16) ![0, 13] ![1, 1] inb_S1x16_S1x1_0_13) (Shape.Idx.first hn)
    = sinkAt x (head 1 1 2) := rfl
theorem sinkAt_15 (x : Vec F S1x16 .f32) (hn : 0 < S1x1.numel) : View.ld x (Rect.unit (s := S1x16) ![0, 15] ![1, 1] inb_S1x16_S1x1_0_15) (Shape.Idx.first hn)
    = sinkAt x (head 1 1 3) := rfl

/-- The key gradient's store. -/
theorem runB_dk (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.1
    = [⟨whole, dkOut (insAt i x0 x1 x2 x3 x4 x5 x6 x7 x8 x9 x10) xs0⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The value gradient's store. -/
theorem runB_dv (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.1
    = [⟨whole, dvOut (insAt i x0 x1 x2 x3 x4 x5 x6 x7 x8 x9 x10) xs1⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The store of what the keys of the block before get. -/
theorem runB_ck (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.2.1
    = [⟨whole, ckNext (insAt i x0 x1 x2 x3 x4 x5 x6 x7 x8 x9 x10)⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The store of what the values of the block before get. -/
theorem runB_cv (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.2.2.1
    = [⟨whole, cvNext (insAt i x0 x1 x2 x3 x4 x5 x6 x7 x8 x9 x10)⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The sinks' store. -/
theorem runB_sink (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.1
    = [⟨rowRect, k0_pay2 (sinkShare (insAt i x0 x1 x2 x3 x4 x5 x6 x7 x8 x9 x10)) (View.ld xo14 rowRect)⟩] := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The query gradient's eight stores. -/
theorem runB_dq (hc : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).1
    = dqPieces (insAt i x0 x1 x2 x3 x4 x5 x6 x7 x8 x9 x10) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- At the first point: the key gradient's store. -/
theorem runA_dk (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.1
    = [⟨whole, dkOut (insAt i x0 x1 x2 x3 x4 x5 x6 x7 x8 x9 x10) k0_pay3⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The value gradient's store. -/
theorem runA_dv (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.1
    = [⟨whole, dvOut (insAt i x0 x1 x2 x3 x4 x5 x6 x7 x8 x9 x10) k0_pay4⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The stores of what the keys of the block before get. -/
theorem runA_ck (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.2.1
    = [⟨whole, ckNext (insAt i x0 x1 x2 x3 x4 x5 x6 x7 x8 x9 x10)⟩, ⟨whole, k0_pay3⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The stores of what the values of the block before get. -/
theorem runA_cv (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.2.2.1
    = [⟨whole, cvNext (insAt i x0 x1 x2 x3 x4 x5 x6 x7 x8 x9 x10)⟩, ⟨whole, k0_pay4⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl

/-- The sinks' stores. -/
theorem runA_sink (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.1
    = [⟨rowRect, k0_pay2 (sinkShare (insAt i x0 x1 x2 x3 x4 x5 x6 x7 x8 x9 x10)) (View.ld (k0_pay5 (F := F)) rowRect)⟩, ⟨Rect.unit (s := S8x128) ![0, 0] S8x128.size inb_S8x128_S8x128_0_0, k0_pay5⟩] := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  refine congrArg (fun o => [(⟨rowRect, o⟩ : View.Piece (Elt F) S8x128 .f32), _]) ?_
  refine congrArg₂ k0_pay2 ?_ ?_
  · rfl
  · exact readCov_row _ _

/-- The query gradient's eight stores. -/
theorem runA_dq (hc : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).1
    = dqPieces (insAt i x0 x1 x2 x3 x4 x5 x6 x7 x8 x9 x10) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S128x128) off00, View.readCov_unit_zero (S := S128x128) _ off00,
    pay13_eq, pay15_eq, pay16_eq, pay17_eq, pay18_eq, pay19_eq, pay21_eq, pay24_eq, pay38_eq, pay39_eq, pay80_eq, pay81_eq, pay84_eq, pay85_eq, pay72_eq, pay86_eq, pay87_eq, pay55_eq, pay56_eq, pay89_eq, pay101_eq, pay102_eq, pay103_eq, pay46_eq, pay92_eq, pay47_eq, pay93_eq, pay106_eq, pay51_eq, pay64_eq, pay97_eq, pay111_eq, pay98_eq, pay99_eq, pay100_eq, pay112_eq, pay113_eq, pay114_eq]
  simp only [sinkAt_0, sinkAt_1, sinkAt_2, sinkAt_3, sinkAt_4, sinkAt_5, sinkAt_6, sinkAt_7, sinkAt_8, sinkAt_9, sinkAt_10, sinkAt_11, sinkAt_12,
    sinkAt_13, sinkAt_14, sinkAt_15, dqPieces, dkOut, dvOut, ckNext, cvNext, dvExt, sinkShare, dqS, dkS, dvS, psdS, dsS, deltaS, dpS, prS, esS, eS,
    sinkRow, dStack, qStack, cos4, sin4, variant, half, kExt, vExt, insAt, col_0, col_1, col_2, col_3, col_4, col_5, col_6, col_7]
  rfl
/-! ## What the stores leave -/

section reads
variable {sig' : RefSig} {κ : Kind} {sp : Space}

theorem whole_covers {e : EltTy} (w : whole.shape.Idx → Elt F e) (L : List (View.Piece (Elt F) S128x128 e)) (y : S128x128.Idx) :
    ∃ p ∈ ((⟨whole, w⟩ : View.Piece (Elt F) S128x128 e) :: L), y ∈ p.1.set := by
  obtain ⟨p, hp, hy⟩ := View.cover_of_tiledL [(⟨whole, w⟩ : View.Piece (Elt F) S128x128 e)] S128x128.size (by sl_kernel_rfl) y
  exact ⟨p, by simp only [List.mem_singleton] at hp; simp [hp], hy⟩

/-- A buffer stored whole holds what was stored. -/
theorem read_whole {e : EltTy} (v : View sig' κ sp S128x128 e) (f : v.ty.Contents (Elt F)) (w : Vec F S128x128 e)
    (L : List (View.Piece (Elt F) S128x128 e)) : v.read (Elt F) (v.writes (Elt F) f (⟨whole, w⟩ :: L)) = w := by
  rw [View.read_writes_eq_canon _ _ _ (whole_covers w L)]
  exact View.canon_cons_unit_zero (S := S128x128) off00 ..

/-- The sinks' buffer with its first row replaced. -/
def sinkNext (x : Ins F) (old : Vec F S8x128 .f32) : Vec F S8x128 .f32 :=
  rowRect.overlay old (k0_pay2 (sinkShare x) (View.ld old rowRect))

/-- A buffer whose first row is stored holds the rest as before. -/
theorem read_row (v : View sig' κ sp S8x128 .f32) (f : v.ty.Contents (Elt F)) (w : rowRect.shape.Idx → Elt F .f32) :
    v.read (Elt F) (v.writes (Elt F) f [⟨rowRect, w⟩]) = rowRect.overlay (v.read (Elt F) f) w := by
  funext y
  by_cases hy : y ∈ rowRect.set
  · obtain ⟨x, rfl⟩ := rowRect.exists_idx_of_mem hy
    exact (View.read_writes_cons_emb v f rowRect w [] x).trans (Rect.overlay_emb rowRect _ w x).symm
  · rw [View.read_writes_apply_of_forall_not_mem _ _ _ _ (by simpa using hy), Rect.overlay_of_not_mem _ _ _ hy]

/-- The query gradient: each group of columns one of the stacked pairs. -/
def dqOut (x : Ins F) : Vec F S128x1024 .bf16 := fun y =>
  dqS x ⟨(y 1).val / 512, by have := (y 1).isLt; change _ < 1024 at this; omega⟩
    (ValueIdx.ix2 ⟨128 * ((y 1).val / 128 % 4) + (y 0).val, by have := (y 0).isLt; change _ < 128 at this; omega⟩ ⟨(y 1).val % 128, by omega⟩)

theorem dq_piece (x : Ins F) (j : Fin 2) (o r : ℕ) (ho : o = 512 * j.val + r) (hr : r % 128 = 0 ∧ r < 512)
    (inb : ∀ a, (![0, o] : Fin 2 → ℕ) a + S128x128.size a ≤ S128x1024.size a) (sl : S512x128.Slices ![r, 0] S128x128)
    (z : S128x128.Idx) :
    extractStridedSlice S128x128 ![r, 0] (dqS x j) sl z = dqOut x ((Rect.unit (s := S128x1024) ![0, o] S128x128.size inb).emb z) := by
  have h0 : (z 0).val < 128 := (z 0).isLt
  have h1 : (z 1).val < 128 := (z 1).isLt
  have hj := j.isLt
  have e0 : (((Rect.unit (s := S128x1024) ![0, o] S128x128.size inb).emb z) 0).val = (z 0).val := by
    show 0 + 1 * (z 0).val = _; omega
  have e1 : (((Rect.unit (s := S128x1024) ![0, o] S128x128.size inb).emb z) 1).val = o + (z 1).val := by
    show o + 1 * (z 1).val = _; omega
  generalize (Rect.unit (s := S128x1024) ![0, o] S128x128.size inb).emb z = y at e0 e1
  unfold dqOut
  have hj' : (⟨(y 1).val / 512, by have := (y 1).isLt; change _ < 1024 at this; omega⟩ : Fin 2) = j := Fin.ext (by show (y 1).val / 512 = _; omega)
  rw [hj']
  refine congrArg (dqS x j) (funext fun a => Fin.ext ?_)
  match a with
  | ⟨0, _⟩ => show r + (z 0).val = 128 * ((y 1).val / 128 % 4) + (y 0).val; omega
  | ⟨1, _⟩ => show 0 + (z 1).val = (y 1).val % 128; omega

theorem read_dq (v : View sig' κ sp S128x1024 .bf16) (f : v.ty.Contents (Elt F)) (x : Ins F) :
    v.read (Elt F) (v.writes (Elt F) f (dqPieces x)) = dqOut x := by
  funext y
  refine View.read_writes_apply_of_pieces v f (dqOut x) _ ?_ y ?_
  · intro p hp
    simp only [dqPieces, List.mem_cons, List.mem_nil_iff, or_false] at hp
    rcases hp with rfl | rfl | rfl | rfl | rfl | rfl | rfl | rfl
    · exact dq_piece x 1 896 384 rfl (by decide) inb_S128x1024_S128x128_0_896 slices_S512x128_o384_0_S128x128
    · exact dq_piece x 1 768 256 rfl (by decide) inb_S128x1024_S128x128_0_768 slices_S512x128_o256_0_S128x128
    · exact dq_piece x 1 640 128 rfl (by decide) inb_S128x1024_S128x128_0_640 slices_S512x128_o128_0_S128x128
    · exact dq_piece x 1 512 0 rfl (by decide) inb_S128x1024_S128x128_0_512 slices_S512x128_o0_0_S128x128
    · exact dq_piece x 0 384 384 rfl (by decide) inb_S128x1024_S128x128_0_384 slices_S512x128_o384_0_S128x128
    · exact dq_piece x 0 256 256 rfl (by decide) inb_S128x1024_S128x128_0_256 slices_S512x128_o256_0_S128x128
    · exact dq_piece x 0 128 128 rfl (by decide) inb_S128x1024_S128x128_0_128 slices_S512x128_o128_0_S128x128
    · exact dq_piece x 0 0 0 rfl (by decide) inb_S128x1024_S128x128_0_0 slices_S512x128_o0_0_S128x128
  · exact View.cover_of_tiledL (dqPieces x) S128x128.size (by sl_kernel_rfl) y

theorem row_covers (w : rowRect.shape.Idx → Elt F .f32) (u : Vec F S8x128 .f32) (y : S8x128.Idx) :
    ∃ p ∈ ([⟨rowRect, w⟩, ⟨Rect.unit (s := S8x128) ![0, 0] S8x128.size inb_S8x128_S8x128_0_0, u⟩] : List (View.Piece (Elt F) S8x128 .f32)), y ∈ p.1.set := by
  obtain ⟨p, hp, hy⟩ := View.cover_of_tiledL
    [(⟨Rect.unit (s := S8x128) ![0, 0] S8x128.size inb_S8x128_S8x128_0_0, u⟩ : View.Piece (Elt F) S8x128 .f32)] S8x128.size (by sl_kernel_rfl) y
  exact ⟨p, by simp only [List.mem_singleton] at hp; simp [hp], hy⟩

/-- A buffer stored whole and then in its first row. -/
theorem read_row_cleared (v : View sig' κ sp S8x128 .f32) (f : v.ty.Contents (Elt F)) (w : rowRect.shape.Idx → Elt F .f32) (u : Vec F S8x128 .f32) :
    v.read (Elt F) (v.writes (Elt F) f [⟨rowRect, w⟩, ⟨Rect.unit (s := S8x128) ![0, 0] S8x128.size inb_S8x128_S8x128_0_0, u⟩])
      = rowRect.overlay u w := by
  rw [View.read_writes_eq_canon _ _ _ (row_covers w u), View.canon_cons]
  exact congrArg (fun o => rowRect.overlay o w) (View.canon_unit_zero (S := S8x128) off00 _ u)

variable (c : Dev nD) (i : grid0.Coords) {arg1 : Memref sig .tc .vmem S128x1024 .bf16} (harg1 : arg1.IsWhole) {arg2 : Memref sig .tc .vmem S128x128 .bf16} (harg2 : arg2.IsWhole) {arg3 : Memref sig .tc .vmem S128x128 .bf16} (harg3 : arg3.IsWhole) {arg4 : Memref sig .tc .vmem S128x128 .bf16} (harg4 : arg4.IsWhole) {arg5 : Memref sig .tc .vmem S128x128 .bf16} (harg5 : arg5.IsWhole) {arg6 : Memref sig .tc .vmem S128x128 .f32} (harg6 : arg6.IsWhole) {arg7 : Memref sig .tc .vmem S128x128 .f32} (harg7 : arg7.IsWhole) {arg8 : Memref sig .tc .vmem S128x128 .f32} (harg8 : arg8.IsWhole) {arg9 : Memref sig .tc .vmem S128x128 .f32} (harg9 : arg9.IsWhole) {arg10 : Memref sig .tc .smem S1x16 .f32} (harg10 : arg10.IsWhole) {arg11 : Memref sig .tc .vmem S128x1024 .bf16} (harg11 : arg11.IsWhole) {arg12 : Memref sig .tc .vmem S128x1024 .bf16} (harg12 : arg12.IsWhole) {arg13 : Memref sig .tc .vmem S128x128 .bf16} (harg13 : arg13.IsWhole) {arg14 : Memref sig .tc .vmem S128x128 .bf16} (harg14 : arg14.IsWhole) {arg15 : Memref sig .tc .vmem S8x128 .f32} (harg15 : arg15.IsWhole) {arg16 : Memref sig .tc .vmem S128x128 .f32} (harg16 : arg16.IsWhole) {arg17 : Memref sig .tc .vmem S128x128 .f32} (harg17 : arg17.IsWhole)
variable (x0 : Vec F S128x1024 .bf16) (x1 : Vec F S128x128 .bf16) (x2 : Vec F S128x128 .bf16) (x3 : Vec F S128x128 .bf16) (x4 : Vec F S128x128 .bf16) (x5 : Vec F S128x128 .f32) (x6 : Vec F S128x128 .f32) (x7 : Vec F S128x128 .f32) (x8 : Vec F S128x128 .f32) (x9 : Vec F S1x16 .f32) (x10 : Vec F S128x1024 .bf16)
variable (xo14 : Vec F S8x128 .f32) (xs0 : Vec F S128x128 .f32) (xs1 : Vec F S128x128 .f32)

theorem leftA_dq (hc : cond0_0 i) (v : View sig' κ sp S128x1024 .bf16) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).1) = dqOut (insAt i x0 x1 x2 x3 x4 x5 x6 x7 x8 x9 x10) := by
  rw [runA_dq]; exact read_dq v f _

theorem leftA_dk (hc : cond0_0 i) (v : View sig' κ sp S128x128 .bf16) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.1) = dkOut (insAt i x0 x1 x2 x3 x4 x5 x6 x7 x8 x9 x10) k0_pay3 := by
  rw [runA_dk]; exact read_whole v f _ _

theorem leftA_dv (hc : cond0_0 i) (v : View sig' κ sp S128x128 .bf16) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.1) = dvOut (insAt i x0 x1 x2 x3 x4 x5 x6 x7 x8 x9 x10) k0_pay4 := by
  rw [runA_dv]; exact read_whole v f _ _

theorem leftA_sink (hc : cond0_0 i) (v : View sig' κ sp S8x128 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.1) = sinkNext (insAt i x0 x1 x2 x3 x4 x5 x6 x7 x8 x9 x10) k0_pay5 := by
  rw [runA_sink]; exact read_row_cleared v f _ _

theorem leftA_ck (hc : cond0_0 i) (v : View sig' κ sp S128x128 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.2.1) = ckNext (insAt i x0 x1 x2 x3 x4 x5 x6 x7 x8 x9 x10) := by
  rw [runA_ck]; exact read_whole v f _ _

theorem leftA_cv (hc : cond0_0 i) (v : View sig' κ sp S128x128 .f32) (f : v.ty.Contents (Elt F)) :
    v.read (Elt F) (v.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10).2.2.2.2.2.1) = cvNext (insAt i x0 x1 x2 x3 x4 x5 x6 x7 x8 x9 x10) := by
  rw [runA_cv]; exact read_whole v f _ _

theorem leftB_dq (hc : ¬cond0_0 i) (v : View sig' κ sp S128x1024 .bf16) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).1) = dqOut (insAt i x0 x1 x2 x3 x4 x5 x6 x7 x8 x9 x10) := by
  rw [runB_dq]; exact read_dq v f _

theorem leftB_dk (hc : ¬cond0_0 i) (v : View sig' κ sp S128x128 .bf16) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.1) = dkOut (insAt i x0 x1 x2 x3 x4 x5 x6 x7 x8 x9 x10) xs0 := by
  rw [runB_dk]; exact read_whole v f _ _

theorem leftB_dv (hc : ¬cond0_0 i) (v : View sig' κ sp S128x128 .bf16) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.1) = dvOut (insAt i x0 x1 x2 x3 x4 x5 x6 x7 x8 x9 x10) xs1 := by
  rw [runB_dv]; exact read_whole v f _ _

theorem leftB_sink (hc : ¬cond0_0 i) (v : View sig' κ sp S8x128 .f32) (f : v.ty.Contents (Elt F)) (hf : v.read (Elt F) f = xo14) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.1) = sinkNext (insAt i x0 x1 x2 x3 x4 x5 x6 x7 x8 x9 x10) xo14 := by
  rw [runB_sink]; exact (read_row v f _).trans (congrArg (fun o => rowRect.overlay o _) hf)

theorem leftB_ck (hc : ¬cond0_0 i) (v : View sig' κ sp S128x128 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.2.1) = ckNext (insAt i x0 x1 x2 x3 x4 x5 x6 x7 x8 x9 x10) := by
  rw [runB_ck]; exact read_whole v f _ _

theorem leftB_cv (hc : ¬cond0_0 i) (v : View sig' κ sp S128x128 .f32) (f : v.ty.Contents (Elt F)) :
    v.read (Elt F) (v.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 x10 xo14 xs0 xs1).2.2.2.2.2.1) = cvNext (insAt i x0 x1 x2 x3 x4 x5 x6 x7 x8 x9 x10) := by
  rw [runB_cv]; exact read_whole v f _ _

end reads

end Cert.KernelIdeal.Block

end
-- ==== Proof.Track.lean ====
/-
  The run of the program with the contents of every buffer named: what each point of the grid leaves in the four
  output blocks and in the two buffers carried from one point to the next, as functions of the blocks it reads
  (`Proof/Block.lean`), and from it what the whole program leaves.
-/
module

public import proofs.«01_k».proof.Proof.Left
public import Idealize.ShloMosaic.Lib.Claim

@[expose] public section

set_option maxRecDepth 16384

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks point `t` reads. -/
def at_ (c : Dev nD) (t : Fin cfg0.N) : Ins F :=
  insAt (grid0.coords t) (X0_0 m c t) (iblk m c 1 t) (iblk m c 2 t) (iblk m c 3 t) (iblk m c 4 t) (iblk m c 5 t) (iblk m c 6 t) (iblk m c 7 t) (iblk m c 8 t) (iblk m c 9 t) (iblk m c 10 t)

/-- What the keys (values) of point `n`'s block get from the point before: nothing at the first. -/
def ckIn (c : Dev nD) : (n : ℕ) → n < cfg0.N → Vec F S128x128 .f32
  | 0, _ => k0_pay3
  | n + 1, h => ckNext (at_ m c ⟨n, by omega⟩)
@[inherit_doc ckIn] def cvIn (c : Dev nD) : (n : ℕ) → n < cfg0.N → Vec F S128x128 .f32
  | 0, _ => k0_pay4
  | n + 1, h => cvNext (at_ m c ⟨n, by omega⟩)

/-- The sinks' buffer after point `n`: every point so far has added its share to the first row. -/
def sinkAfter (c : Dev nD) : (n : ℕ) → n < cfg0.N → Vec F S8x128 .f32
  | 0, h => sinkNext (at_ m c ⟨0, h⟩) k0_pay5
  | n + 1, h => sinkNext (at_ m c ⟨n + 1, h⟩) (sinkAfter c n (by omega))

/-- The buffers carried between points, before point `n`. -/
def carried (c : Dev nD) : (n : ℕ) → n ≤ cfg0.N → sProp 𝕄
  | 0, _ => Pipeline.ΦA spec0 c
  | n + 1, hn => iprop(iprop(owns (c : Thread nD τ) scM0_0 fullShare (ckNext (at_ m c ⟨n, hn⟩))
      ∗ owns (c : Thread nD τ) scM0_1 fullShare (cvNext (at_ m c ⟨n, hn⟩))) ∗ (∃ r, prngReg c r))

theorem carried_pos (c : Dev nD) (n : ℕ) (h : n ≤ cfg0.N) (hz : n ≠ 0) : carried m c n h
    = iprop(iprop(owns (c : Thread nD τ) scM0_0 fullShare (ckNext (at_ m c ⟨n - 1, by omega⟩))
      ∗ owns (c : Thread nD τ) scM0_1 fullShare (cvNext (at_ m c ⟨n - 1, by omega⟩))) ∗ (∃ r, prngReg c r)) := by
  cases n with
  | zero => exact absurd rfl hz
  | succ n => rfl

/-- The contents of every window's buffer after each point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqOut (at_ m c t)
    | ⟨12, _⟩ => dkOut (at_ m c t) (ckIn m c t.val t.isLt)
    | ⟨13, _⟩ => dvOut (at_ m c t) (cvIn m c t.val t.isLt)
    | ⟨14, _⟩ => sinkAfter m c t.val t.isLt
  Φ t := carried m c t.val (Nat.le_of_lt_succ t.isLt)
  q w := Pipeline.shareOf spec0 w
  owed _ := 0

theorem dats_A (c : Dev nD) (w : Fin cfg0.W) : (dats m 0 c).A w = V m c (Pipeline.arrRef spec0 w) := by
  dsimp only [dats]

theorem dats_Φ (c : Dev nD) (t : Fin cfg0.N) :
    (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = dqOut (at_ m c t) := by dsimp only [dats]
theorem after_12 (c : Dev nD) (t : Fin cfg0.N) : (dats m 0 c).after 12 t = dkOut (at_ m c t) (ckIn m c t.val t.isLt) := by dsimp only [dats]
theorem after_13 (c : Dev nD) (t : Fin cfg0.N) : (dats m 0 c).after 13 t = dvOut (at_ m c t) (cvIn m c t.val t.isLt) := by dsimp only [dats]
theorem after_14 (c : Dev nD) (t : Fin cfg0.N) : (dats m 0 c).after 14 t = sinkAfter m c t.val t.isLt := by dsimp only [dats]

theorem before_0 (c : Dev nD) (t : Fin cfg0.N) (d) : (dats m 0 c).before 0 t d = X0_0 m c t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d
theorem before_6 (c : Dev nD) (t : Fin cfg0.N) (d) : (dats m 0 c).before 6 t d = iblk m c 6 t :=
  before0_6_of m (dats m 0 c) (dats_A m c 6) (after_6 m c) t d
theorem before_7 (c : Dev nD) (t : Fin cfg0.N) (d) : (dats m 0 c).before 7 t d = iblk m c 7 t :=
  before0_7_of m (dats m 0 c) (dats_A m c 7) (after_7 m c) t d
theorem before_8 (c : Dev nD) (t : Fin cfg0.N) (d) : (dats m 0 c).before 8 t d = iblk m c 8 t :=
  before0_8_of m (dats m 0 c) (dats_A m c 8) (after_8 m c) t d
theorem before_9 (c : Dev nD) (t : Fin cfg0.N) (d) : (dats m 0 c).before 9 t d = iblk m c 9 t :=
  before0_9_of m (dats m 0 c) (dats_A m c 9) (after_9 m c) t d
theorem before_10 (c : Dev nD) (t : Fin cfg0.N) (d) : (dats m 0 c).before 10 t d = iblk m c 10 t :=
  before0_10_of m (dats m 0 c) (dats_A m c 10) (after_10 m c) t d

/-- The sinks' buffer is kept from point to point. -/
theorem before_14 (c : Dev nD) (t : Fin cfg0.N) (h0 : ¬t.val % 64 = 0) (d) :
    (dats m 0 c).before 14 t d = sinkAfter m c (t.val - 1) (Nat.lt_of_le_of_lt (Nat.sub_le _ _) t.isLt) := by
  have hN : t.val < 64 := lt_of_lt_of_eq t.isLt (show cfg0.N = 64 from N_0)
  rw [Dat.before_out_kept _ 14 rfl t (by omega) (Bool.eq_false_iff.mpr fun h => by have := (flush0_14 _).mp h; dsimp only at this; omega)
    (fun _ => rfl) (fun _ _ => rfl)]
  dsimp only [dats]

/-- What the body finds at point `t`, and what it leaves. -/
def found (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))
@[inherit_doc found] def left (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body takes the one to the other, at the first point and at every other. -/
theorem body_triple (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4, before_5, before_6, before_7, before_8, before_9, before_10]
  rw [show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.succ = carried m c (t.val + 1) t.isLt from rfl,
    show carried m c (t.val + 1) t.isLt = iprop(iprop(owns (c : Thread nD τ) scM0_0 fullShare (ckNext (at_ m c t))
      ∗ owns (c : Thread nD τ) scM0_1 fullShare (cvNext (at_ m c t))) ∗ (∃ r, prngReg c r)) from rfl]
  have hN : t.val < 64 := lt_of_lt_of_eq t.isLt (show cfg0.N = 64 from N_0)
  rw [dats_Φ m c t]
  obtain ⟨n, hn⟩ := t
  cases n with
  | zero =>
    have h0 : (0 : ℕ) % 64 = 0 := rfl
    rw [show carried m c (⟨0, hn⟩ : Fin cfg0.N).val (Nat.le_of_lt hn) = Pipeline.ΦA spec0 c from rfl, PhiA0_eq]
    dsimp only [ckIn, cvIn, sinkAfter]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_A c (grid0.coords ⟨0, hn⟩) _ _ _ _ _ _ _ _ _ _ _ _ _ _ _ _ _ _ _ _ _ _ _ _ _ _ _ _ _ _ _ _ _ _ ((hcond0_0 ⟨0, hn⟩).mpr h0) (X0_0 m c ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%es0, HS0⟩, ⟨%es1, HS1⟩⟩
    isplitl [HS0 HS1 Hg]
    · isplitl [HS0 HS1]
      · isplitl [HS0]
        · unfold owns; iexists _; isplitr
          swap; · iexact HS0
          ipureintro; exact leftA_ck c _ _ _ _ _ _ _ _ _ _ _ _ _ _ _ _ _ _ _ _ _ _ _ _ _ _ _ _ _  _ _ _
        unfold owns; iexists _; isplitr
        swap; · iexact HS1
        ipureintro; exact leftA_cv c _ _ _ _ _ _ _ _ _ _ _ _ _ _ _ _ _ _ _ _ _ _ _ _ _ _ _ _ _  _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact leftA_dq c _ _ _ _ _ _ _ _ _ _ _ _ _ _ _ _ _ _ _ _ _ _ _ _ _ _ _ _ _  _ _ _
    isplitl [H12]
    · unfold owns; iexists _; isplitr
      swap; · iexact H12
      ipureintro; exact leftA_dk c _ _ _ _ _ _ _ _ _ _ _ _ _ _ _ _ _ _ _ _ _ _ _ _ _ _ _ _ _  _ _ _
    isplitl [H13]
    · unfold owns; iexists _; isplitr
      swap; · iexact H13
      ipureintro; exact leftA_dv c _ _ _ _ _ _ _ _ _ _ _ _ _ _ _ _ _ _ _ _ _ _ _ _ _ _ _ _ _  _ _ _
    unfold owns; iexists _; isplitr
    swap; · iexact H14
    ipureintro; exact leftA_sink c _ _ _ _ _ _ _ _ _ _ _ _ _ _ _ _ _ _ _ _ _ _ _ _ _ _ _ _ _  _ _ _
  | succ n =>
    have h0 : ¬ (n + 1) % 64 = 0 := by dsimp only at hN; omega
    rw [carried_pos m c _ _ (Nat.succ_ne_zero n)]
    simp only [before_14 m c ⟨n + 1, hn⟩ h0]
    dsimp only [ckIn, cvIn, sinkAfter]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun0_B c (grid0.coords ⟨n + 1, hn⟩) _ _ _ _ _ _ _ _ _ _ _ _ _ _ _ _ _ _ _ _ _ _ _ _ _ _ _ _ _ _ _ _ _ _ (fun h => h0 ((hcond0_0 ⟨n + 1, hn⟩).mp h)) (X0_0 m c ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [HS0]; · iexact HS0
    isplitl [HS1]; · iexact HS1
    iintro ⟨H0, H1, H2, H3, H4, H5, H6, H7, H8, H9, H10, ⟨%e11, H11⟩, ⟨%e12, H12⟩, ⟨%e13, H13⟩, H14, ⟨%es0, HS0⟩, ⟨%es1, HS1⟩⟩
    isplitl [HS0 HS1 Hg]
    · isplitl [HS0 HS1]
      · isplitl [HS0]
        · unfold owns; iexists _; isplitr
          swap; · iexact HS0
          ipureintro; exact leftB_ck c _ _ _ _ _ _ _ _ _ _ _ _ _ _ _ _ _ _ _ _ _ _ _ _ _ _ _ _ _ _ _ _ _ _ _
        unfold owns; iexists _; isplitr
        swap; · iexact HS1
        ipureintro; exact leftB_cv c _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact leftB_dq c _ _ _ _ _ _ _ _ _ _ _ _ _ _ _ _ _ _ _ _ _ _ _ _ _ _ _ _ _ _ _ _ _ _ _
    isplitl [H12]
    · unfold owns; iexists _; isplitr
      swap; · iexact H12
      ipureintro; exact leftB_dk c _ _ _ _ _ _ _ _ _ _ _ _ _ _ _ _ _ _ _ _ _ _ _ _ _ _ _ _ _ _ _ _ _ _ _
    isplitl [H13]
    · unfold owns; iexists _; isplitr
      swap; · iexact H13
      ipureintro; exact leftB_dv c _ _ _ _ _ _ _ _ _ _ _ _ _ _ _ _ _ _ _ _ _ _ _ _ _ _ _ _ _ _ _ _ _ _ _
    unfold owns; iexists _; isplitr
    swap; · iexact H14
    ipureintro; exact leftB_sink c _ _ _ _ _ _ _ _ _ _ _ _ _ _ _ _ _ _ _ _ _ _ _ _ _ _ _ _ _ _ _ _ _ _ _ (by exact Memref.IsWhole.read_unread _ _)

theorem body_row (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_triple m c t) rfl .rfl fun _ => .rfl

theorem carried_in (c : Dev nD) : Pipeline.ΦA spec0 c ⊢ (dats m 0 c).Φ 0 := by
  rw [show (dats m 0 c).Φ 0 = Pipeline.ΦA spec0 c from rfl]
  try exact Idealize.SL.BI.Entails.refl _

theorem carried_out (c : Dev nD) : (dats m 0 c).Φ (Fin.last cfg0.N) ⊢ Pipeline.ΦA spec0 c := by
  rw [show (dats m 0 c).Φ (Fin.last cfg0.N) = carried m c cfg0.N le_rfl from rfl,
    carried_pos m c _ _ (by have : cfg0.N = 64 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The program's run: every array of the grid ends at what the points leave in it, and no semaphore is left raised. -/
theorem run_all : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := dats_A m) (hin := carried_in m) (hout := carried_out m)

/-- The frame: the program ends with its arguments unchanged and no semaphore raised. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

end Cert.KernelIdeal.Block

end
-- ==== Proof.Same.lean ====
/-
  The kernel's own frame, from the idealized kernel's: the two programs have the same text but for the mask's constant, so
  the idealized text, read where the named constant is the literal it replaced, is the kernel.
-/
module

public import proofs.«01_k».proof.Defs
public import proofs.«01_k».proof.Proof.Gen.Kernel
public import proofs.«01_k».proof.Proof.Track

@[expose] public section

set_option maxRecDepth 16384

noncomputable section

namespace Cert.Kernel.Same

open Idealize.ShloMosaic Idealize.SL.Sem

variable {F : FTy → Type} [FloatOps F]

/-- Every named constant read as its literal. -/
@[reducible] def literal : Named F := ⟨fun _ _ {φ} bits => Scalar.ofBits φ bits⟩

set_option maxHeartbeats 8000000

/-- The kernels' body tables are one. -/
theorem bodies : (letI : Named F := literal; (Cert.KernelIdeal.defs₀ (F := F) : Defs nD τ sig (Elt F) Λ₀)) = defs₀ := by
  unfold Cert.KernelIdeal.defs₀ defs₀
  refine congrArg _ ?_
  funext l a
  rcases l with ⟨l, hl⟩
  cases l with
  | zero => rfl
  | succ n => exact absurd hl (by omega)

/-- The kernel's frame. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  letI : Named F := literal
  have h : θ_run (Pipeline.defs (pcfgs (F := F)) (Cert.KernelIdeal.defs₀ (F := F) : Defs nD τ sig (Elt F) Λ₀)) (onTc (τ := τ) (main (F := F)))
      ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) := Cert.KernelIdeal.Block.frame_all m ρ
  rw [bodies] at h
  exact h

end Cert.Kernel.Same

end
-- ==== Proof.Real.lean ====
/-
  The block functions of `Proof/Block.lean` over the extended reals, when the blocks read hold real numbers: each is
  the real function of `Proof/Spec.lean`.
-/
module

public import proofs.«01_k».proof.Proof.Block
public import proofs.«01_k».proof.Proof.Spec
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe
open Cert.Attn

/-- The blocks hold block `b` of the arrays `W`: this block's rows, and the rows before it (for the first block, its
    own); the sines carry the rotation's sign. -/
structure Reads (x : Ins Ideal) (W : World) (b : ℕ) : Prop where
  lt : b < 64
  nb : x.nb = BitVec.ofNat 32 b
  q : ∀ (r : Fin 128) (c : Fin 1024), x.q (ix2 r c) = ((W.A (128 * b + r) (64 * (c / 64) + c % 64) : ℝ) : EReal)
  kc : ∀ (r l : Fin 128), x.kc (ix2 r l) = ((W.A (128 * b + r) (1024 + 64 * (l / 64) + l % 64) : ℝ) : EReal)
  vc : ∀ (r l : Fin 128), x.vc (ix2 r l) = ((W.A (128 * b + r) (1152 + 64 * (l / 64) + l % 64) : ℝ) : EReal)
  kp : ∀ (r l : Fin 128), x.kp (ix2 r l) = ((W.A (128 * (b - 1) + r) (1024 + 64 * (l / 64) + l % 64) : ℝ) : EReal)
  vp : ∀ (r l : Fin 128), x.vp (ix2 r l) = ((W.A (128 * (b - 1) + r) (1152 + 64 * (l / 64) + l % 64) : ℝ) : EReal)
  cc : ∀ (r l : Fin 128), x.cc (ix2 r l) = ((W.C (128 * b + r) (l % 32) : ℝ) : EReal)
  sc : ∀ (r l : Fin 128), x.sc (ix2 r l)
    = (((if (l : ℕ) % 64 < 32 then -W.N (128 * b + r) (l % 32) else W.N (128 * b + r) (l % 32)) : ℝ) : EReal)
  cp : ∀ (r l : Fin 128), x.cp (ix2 r l) = ((W.C (128 * (b - 1) + r) (l % 32) : ℝ) : EReal)
  sp : ∀ (r l : Fin 128), x.sp (ix2 r l)
    = (((if (l : ℕ) % 64 < 32 then -W.N (128 * (b - 1) + r) (l % 32) else W.N (128 * (b - 1) + r) (l % 32)) : ℝ) : EReal)
  sk : ∀ h : Fin 16, x.sk (ix2 (0 : Fin 1) h) = ((W.S h : ℝ) : EReal)
  d : ∀ (r : Fin 128) (c : Fin 1024), x.d (ix2 r c) = ((W.D (128 * b + r) (64 * (c / 64) + c % 64) : ℝ) : EReal)

/-! ## The masks -/

/-- The lanes in the lower half of their head. -/
theorem lo_mask : ∀ l : Fin 128, k0_pay6 (ix2 (0 : Fin 1) l) = BitVec.ofBool (decide ((l : ℕ) % 64 < 32)) := by
  decide +kernel

/-- The lanes of the first head of a pair. -/
theorem first_mask : ∀ l : Fin 128, k0_pay7 (ix2 (0 : Fin 1) l) = BitVec.ofBool (decide ((l : ℕ) < 64)) := by
  decide +kernel

/-- Small numbers compare as signed words the way they compare as numbers. -/
theorem slt_ofNat {a b : ℕ} (ha : a < 2 ^ 31) (hb : b < 2 ^ 31) :
    (BitVec.ofNat 32 a).slt (BitVec.ofNat 32 b) = decide (a < b) := by
  have h1 : (BitVec.ofNat 32 a).toInt = a := by
    rw [BitVec.toInt_eq_toNat_of_lt (by rw [BitVec.toNat_ofNat, Nat.mod_eq_of_lt (by omega)]; omega), BitVec.toNat_ofNat, Nat.mod_eq_of_lt (by omega)]
  have h2 : (BitVec.ofNat 32 b).toInt = b := by
    rw [BitVec.toInt_eq_toNat_of_lt (by rw [BitVec.toNat_ofNat, Nat.mod_eq_of_lt (by omega)]; omega), BitVec.toNat_ofNat, Nat.mod_eq_of_lt (by omega)]
  rw [BitVec.slt, h1, h2]
  simp

theorem sle_ofNat {a b : ℕ} (ha : a < 2 ^ 31) (hb : b < 2 ^ 31) :
    (BitVec.ofNat 32 a).sle (BitVec.ofNat 32 b) = decide (a ≤ b) := by
  have h1 : (BitVec.ofNat 32 a).toInt = a := by
    rw [BitVec.toInt_eq_toNat_of_lt (by rw [BitVec.toNat_ofNat, Nat.mod_eq_of_lt (by omega)]; omega), BitVec.toNat_ofNat, Nat.mod_eq_of_lt (by omega)]
  have h2 : (BitVec.ofNat 32 b).toInt = b := by
    rw [BitVec.toInt_eq_toNat_of_lt (by rw [BitVec.toNat_ofNat, Nat.mod_eq_of_lt (by omega)]; omega), BitVec.toNat_ofNat, Nat.mod_eq_of_lt (by omega)]
  rw [BitVec.sle, h1, h2]
  simp

/-- The stacked query's row inside its block, as the kernel computes it. -/
theorem row_word : ∀ c : Fin 512, (Scalar.select
            (IntOp.andi
              (IntOp.xori
                (IntOp.cmpi CmpIPredicate.slt
                  (IntOp.remsi ArithUnit.vector (BitVec.ofNat 32 ↑c)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑c)
                  (Scalar.select (Scalar.cmpi CmpIPredicate.eq 128#32 0#32) 1#32 128#32))
                0#32))
            (IntOp.addi
              (IntOp.remsi ArithUnit.vector (BitVec.ofNat 32 ↑c)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 ↑c)
              (Scalar.select (Scalar.cmpi CmpIPredicate.eq 128#32 0#32) 1#32 128#32)))
          = BitVec.ofNat 32 ((c : ℕ) % 128) := by
  decide +kernel

/-- The rows a stacked query sees. -/
theorem valid_eq {b : ℕ} (hb : b < 64) (s : Fin 256) (c : Fin 512) :
    k0_pay25 (BitVec.ofNat 32 b) (ix2 s c) = BitVec.ofBool (decide (valid b (c % 128) s)) := by
  have hs := s.isLt
  have hc := c.isLt
  pointwise [k0_pay25]
  rw [row_word]
  have h1 : IntOp.addi (BitVec.ofNat 32 ((c : ℕ) % 128)) 128#32 = BitVec.ofNat 32 ((c : ℕ) % 128 + 128) :=
    (BitVec.ofNat_add_ofNat _ _)
  rw [h1]
  have e1 : IntOp.cmpi CmpIPredicate.sgt (BitVec.ofNat 32 (s : ℕ)) (BitVec.ofNat 32 ((c : ℕ) % 128))
      = BitVec.ofBool (decide ((c : ℕ) % 128 < s)) := by
    show BitVec.ofBool (BitVec.slt _ _) = _
    rw [slt_ofNat (by omega) (by omega)]
  have e2 : IntOp.cmpi CmpIPredicate.sle (BitVec.ofNat 32 (s : ℕ)) (BitVec.ofNat 32 ((c : ℕ) % 128 + 128))
      = BitVec.ofBool (decide ((s : ℕ) ≤ (c : ℕ) % 128 + 128)) := by
    show BitVec.ofBool (BitVec.sle _ _) = _
    rw [sle_ofNat (by omega) (by omega)]
  have e3 : IntOp.cmpi CmpIPredicate.sge (BitVec.ofNat 32 (s : ℕ)) 128#32
      = BitVec.ofBool (decide (128 ≤ (s : ℕ))) := by
    show BitVec.ofBool (BitVec.sle _ _) = _
    rw [sle_ofNat (by omega) (by omega)]
  have e4 : Scalar.cmpi CmpIPredicate.sgt (BitVec.ofNat 32 b) 0#32 = BitVec.ofBool (decide (0 < b)) := by
    show BitVec.ofBool (BitVec.slt _ _) = _
    rw [slt_ofNat (by omega) (by omega)]
  rw [e1, e2, e3, e4]
  show (BitVec.ofBool _ &&& BitVec.ofBool _) &&& (BitVec.ofBool _ ||| BitVec.ofBool _) = _
  rw [BitVec.ofBool_and_ofBool, BitVec.ofBool_or_ofBool, BitVec.ofBool_and_ofBool]
  congr 1
  simp [valid, Bool.and_assoc]

/-! ## The rotation -/

section rotation
variable (W : World) (r : ℕ) (G : ℕ → ℕ → ℝ)

/-- A lane times its cosine and its partner times the signed sine is the rotation. -/
theorem rope_rot {l : ℕ} (hl : l < 128) :
    G (l / 64) (l % 64) * W.C r (l % 32)
      + (if l % 64 < 32 then G ((l + 128 - 96) % 128 / 64) ((l + 128 - 96) % 128 % 64)
          else G ((l + 128 - 32) % 128 / 64) ((l + 128 - 32) % 128 % 64))
        * (if l % 64 < 32 then -W.N r (l % 32) else W.N r (l % 32))
      = W.rot r (G (l / 64)) (l % 64) := by
  unfold World.rot
  by_cases h : l % 64 < 32
  · have h1 : (l + 128 - 96) % 128 / 64 = l / 64 := by omega
    have h2 : (l + 128 - 96) % 128 % 64 = l % 64 + 32 := by omega
    have h3 : l % 32 = l % 64 := by omega
    simp only [h, if_true, h1, h2, h3]; ring
  · have h1 : (l + 128 - 32) % 128 / 64 = l / 64 := by omega
    have h2 : (l + 128 - 32) % 128 % 64 = l % 64 - 32 := by omega
    have h3 : l % 32 = l % 64 - 32 := by omega
    simp only [h, if_false, h1, h2, h3]

/-- With the sines' signs changed, it is the transpose. -/
theorem rope_unrot {l : ℕ} (hl : l < 128) :
    G (l / 64) (l % 64) * W.C r (l % 32)
      + (if l % 64 < 32 then G ((l + 128 - 96) % 128 / 64) ((l + 128 - 96) % 128 % 64)
          else G ((l + 128 - 32) % 128 / 64) ((l + 128 - 32) % 128 % 64))
        * (0 - (if l % 64 < 32 then -W.N r (l % 32) else W.N r (l % 32)))
      = W.unrot r (G (l / 64)) (l % 64) := by
  unfold World.unrot
  by_cases h : l % 64 < 32
  · have h1 : (l + 128 - 96) % 128 / 64 = l / 64 := by omega
    have h2 : (l + 128 - 96) % 128 % 64 = l % 64 + 32 := by omega
    have h3 : l % 32 = l % 64 := by omega
    simp only [h, if_true, h1, h2, h3]; ring
  · have h1 : (l + 128 - 32) % 128 / 64 = l / 64 := by omega
    have h2 : (l + 128 - 32) % 128 % 64 = l % 64 - 32 := by omega
    have h3 : l % 32 = l % 64 - 32 := by omega
    simp only [h, if_false, h1, h2, h3]; ring

end rotation

/-- A choice between reals. -/
theorem coe_ite (p : Prop) [Decidable p] (a b : ℝ) : (if p then (a : EReal) else (b : EReal)) = ((if p then a else b : ℝ) : EReal) := by
  split <;> rfl

/-- A choice by a decided bit. -/
theorem select_bool {α : Type} (p : Prop) [Decidable p] (a b : α) :
    Scalar.select (BitVec.ofBool (decide p)) a b = if p then a else b := by
  by_cases h : p <;> simp [h, Scalar.select]

variable {x : Ins Ideal} {W : World} {b : ℕ} (H : Reads x W b)
include H

/-- The keys of both blocks, rotated. -/
theorem kExt_real (s : Fin 256) (l : Fin 128) : kExt x (ix2 s l) = (((W.blk b).k (l / 64) s (l % 64) : ℝ) : EReal) := by
  unfold kExt
  pointwise [k0_pay11, k0_pay10, k0_pay8, k0_pay9]
  simp only [lo_mask, select_bool, H.kc, H.kp, H.cc, H.cp, H.sc, H.sp, coe_ite, ← EReal.coe_mul, ← EReal.coe_add]
  simp only [World.blk, World.keyRow]
  by_cases hs : (s : ℕ) < 128
  · rw [dif_pos hs, if_pos hs]
    exact congrArg _ (rope_rot W _ (fun p l => W.A (128 * (b - 1) + s) (1024 + 64 * p + l)) l.isLt)
  · rw [dif_neg hs, if_neg hs]
    exact congrArg _ (rope_rot W _ (fun p l => W.A (128 * b + (s - 128)) (1024 + 64 * p + l)) l.isLt)

/-- The values of both blocks. -/
theorem vExt_real (s : Fin 256) (l : Fin 128) : vExt x (ix2 s l) = (((W.blk b).v (l / 64) s (l % 64) : ℝ) : EReal) := by
  unfold vExt
  pointwise [k0_pay12]
  simp only [H.vc, H.vp]
  simp only [World.blk, World.keyRow]
  by_cases hs : (s : ℕ) < 128
  · rw [dif_pos hs, if_pos hs]
  · rw [dif_neg hs, if_neg hs]

omit H in
/-- Key/value head `j` in the lanes of half `hh`. -/
theorem variant_eq (j hh : Fin 2) (t : FVec Ideal S256x128 .f32) (s : Fin 256) (l : Fin 128) :
    variant j hh t (ix2 s l) = if (l : ℕ) / 64 = hh then t (ix2 s ⟨64 * j + l % 64, by omega⟩) else 0 := by
  have hl := l.isLt
  unfold variant half swap
  fin_cases j <;> fin_cases hh <;> pointwise [k0_pay22, k0_pay23, k0_pay20] <;>
    rw [first_mask, select_bool] <;> by_cases h : (l : ℕ) < 64
  all_goals simp only [h, if_true, if_false]
  all_goals first
    | rw [if_pos (by omega)]; exact congrArg t (congrArg (ix2 s) (Fin.ext (by simp only; omega)))
    | rw [if_neg (by omega)]

omit H in
/-- The columns of a pair of heads. -/
theorem pair_col (j t m : ℕ) : (128 * (4 * j + t) + m) / 64 = 8 * j + 2 * t + m / 64 := by omega
omit H in
@[inherit_doc pair_col] theorem pair_lane (j t m : ℕ) : (128 * (4 * j + t) + m) % 64 = m % 64 := by omega

omit H in
/-- Which of the four stacked blocks of 128 rows a row is in. -/
theorem stack_cases {c : ℕ} (hc : c < 512) :
    (c < 128 ∧ c / 128 = 0 ∧ c % 128 = c) ∨ (¬ c < 128 ∧ c - 128 < 128 ∧ c / 128 = 1 ∧ c % 128 = c - 128)
    ∨ (¬ c < 128 ∧ ¬ c - 128 < 128 ∧ c - 128 - 128 < 128 ∧ c / 128 = 2 ∧ c % 128 = c - 128 - 128)
    ∨ (¬ c < 128 ∧ ¬ c - 128 < 128 ∧ ¬ c - 128 - 128 < 128 ∧ c / 128 = 3 ∧ c % 128 = c - 128 - 128 - 128) := by
  omega

/-- The rotated and scaled queries of head `8 j + 2 t + hh` at rows `128 t …` and the lanes of half `hh`. -/
theorem qStack_real (j : Fin 2) (c : Fin 512) (l : Fin 128) : qStack x j (ix2 c l)
    = (((W.blk b).q (8 * j + 2 * (c / 128) + l / 64) (c % 128) (l % 64) * (1 / 8) : ℝ) : EReal) := by
  have hl := l.isLt
  unfold qStack cos4 sin4
  pointwise [k0_pay29, k0_pay26, k0_pay27, k0_pay8, k0_pay9, col]
  simp only [lo_mask, select_bool, H.q, H.cc, H.sc, lit_eighth, World.blk, pair, pair_col, pair_lane]
  rcases stack_cases c.isLt with h | h | h | h
  all_goals
    simp only [h, not_false_eq_true, dite_true, dite_false, coe_ite, ← EReal.coe_mul, ← EReal.coe_add]
    refine congrArg _ (congrArg (· * (1 / 8 : ℝ)) ?_)
  · exact rope_rot W _ (fun p l => W.A (128 * b + c) (64 * (8 * j + 2 * 0 + p) + l)) hl
  · exact rope_rot W _ (fun p l => W.A (128 * b + (c - 128)) (64 * (8 * j + 2 * 1 + p) + l)) hl
  · exact rope_rot W _ (fun p l => W.A (128 * b + (c - 128 - 128)) (64 * (8 * j + 2 * 2 + p) + l)) hl
  · exact rope_rot W _ (fun p l => W.A (128 * b + (c - 128 - 128 - 128)) (64 * (8 * j + 2 * 3 + p) + l)) hl

/-- The cotangents stacked the same way. -/
theorem dStack_real (j : Fin 2) (c : Fin 512) (l : Fin 128) : dStack x j (ix2 c l)
    = (((W.blk b).d (8 * j + 2 * (c / 128) + l / 64) (c % 128) (l % 64) : ℝ) : EReal) := by
  unfold dStack
  pointwise [k0_pay40, col]
  simp only [H.d, World.blk, pair, pair_col, pair_lane]
  rcases stack_cases c.isLt with h | h | h | h
  all_goals simp only [h, not_false_eq_true, dite_true, dite_false]; rfl

/-- The sink of each stacked query. -/
theorem sinkRow_real (j hh : Fin 2) (c : Fin 512) : sinkRow x j hh (ix2 (0 : Fin 1) c)
    = ((W.S (8 * j + 2 * (c / 128) + hh) : ℝ) : EReal) := by
  have hc := c.isLt
  unfold sinkRow
  pointwise [k0_pay30, sinkAt]
  have e (n : ℕ) (hn : n < 2 ^ 31) : IntOp.cmpi CmpIPredicate.slt (BitVec.ofNat 32 (c : ℕ)) (BitVec.ofNat 32 n)
      = BitVec.ofBool (decide ((c : ℕ) < n)) := by
    show BitVec.ofBool (BitVec.slt _ _) = _
    rw [slt_ofNat (by omega) hn]
  rw [e 128 (by norm_num), e 256 (by norm_num), e 384 (by norm_num)]
  simp only [select_bool, H.sk, head]
  rcases stack_cases hc with h | h | h | h
  · simp only [h, if_true]; rfl
  · simp only [h, if_false, show (c : ℕ) < 256 by omega, if_true]; rfl
  · simp only [h, if_false, show ¬ (c : ℕ) < 256 by omega, show (c : ℕ) < 384 by omega, if_true]; rfl
  · simp only [h, if_false, show ¬ (c : ℕ) < 256 by omega, show ¬ (c : ℕ) < 384 by omega]; rfl

omit H in
/-- The 128 lanes of a product with one half of a pair are that head's 64. -/
theorem half_sum (hh : Fin 2) (f : ℕ → ℝ) (g : ℕ → ℕ → ℝ) :
    ∑ l : Fin 128, (if (l : ℕ) / 64 = hh then ((f (l % 64) : ℝ) : EReal) else 0) * ((g (l / 64) (l % 64) : ℝ) : EReal)
      = ((∑ l : Fin 64, f l * g hh l : ℝ) : EReal) := by
  have e : ∀ l : Fin 128, (if (l : ℕ) / 64 = hh then ((f (l % 64) : ℝ) : EReal) else 0) * ((g (l / 64) (l % 64) : ℝ) : EReal)
      = (((fun p q => if p = (hh : ℕ) then f q * g p q else 0) ((l : ℕ) / 64) ((l : ℕ) % 64) : ℝ) : EReal) := by
    intro l
    by_cases h : (l : ℕ) / 64 = hh
    · simp only [h, if_true, EReal.coe_mul]
    · simp only [h, if_false, zero_mul, EReal.coe_zero]
  rw [Finset.sum_congr rfl fun l _ => e l, coe_sum, sum_groups 2 64 fun p q => if p = (hh : ℕ) then f q * g p q else 0]
  fin_cases hh <;> simp

/-- The score of a stacked query. -/
theorem score_real (j hh : Fin 2) (s : Fin 256) (c : Fin 512) :
    ∑ l : Fin 128, variant j hh (kExt x) (ix2 s l) * qStack x j (ix2 c l)
      = (((W.blk b).sc (8 * j + 2 * (c / 128) + hh) (c % 128) s : ℝ) : EReal) := by
  have hj : (8 * (j : ℕ) + 2 * ((c : ℕ) / 128) + hh) / 8 = j := by have := c.isLt; omega
  have hk : ∀ l : Fin 128, (64 * (j : ℕ) + l % 64) / 64 = j ∧ (64 * (j : ℕ) + l % 64) % 64 = l % 64 := fun l => by omega
  simp only [variant_eq, kExt_real H, qStack_real H, hk]
  rw [half_sum hh (fun l => (W.blk b).k j s l)
    (fun p l => (W.blk b).q (8 * j + 2 * (c / 128) + p) (c % 128) l * (1 / 8))]
  unfold Blk.sc
  rw [hj]

/-- The exponentials, up to a common positive factor for each query, which the division takes out. -/
theorem exps_real (j hh : Fin 2) (c : Fin 512) : ∃ M : ℝ,
    (∀ s : Fin 256, eS x j hh (ix2 s c)
      = (((W.blk b).w (8 * j + 2 * (c / 128) + hh) (c % 128) s * Real.exp (-M) : ℝ) : EReal))
    ∧ esS x j hh (ix2 (0 : Fin 1) c) = ((Real.exp (W.S (8 * j + 2 * (c / 128) + hh)) * Real.exp (-M) : ℝ) : EReal) := by
  have hm (s : Fin 256) : Scalar.select (k0_pay25 x.nb (ix2 s c)) (∑ l : Fin 128, variant j hh (kExt x) (ix2 s l) * qStack x j (ix2 c l))
        (Named.named (F := Ideal) (φ := .f32) κ "mask" 4048155338#32)
      = if valid b (c % 128) s then (((W.blk b).sc (8 * j + 2 * (c / 128) + hh) (c % 128) s : ℝ) : EReal) else ⊥ := by
    rw [H.nb, valid_eq H.lt, select_bool, score_real H]
    rfl
  obtain ⟨M, hM⟩ := max_real
    (fun s : Fin 256 => if valid b (c % 128) s then (((W.blk b).sc (8 * j + 2 * (c / 128) + hh) (c % 128) s : ℝ) : EReal) else ⊥)
    (fun s => by split <;> simp) (W.S (8 * j + 2 * (c / 128) + hh))
  refine ⟨M, fun s => ?_, ?_⟩
  · unfold eS
    pointwise [k0_pay34, k0_pay33, k0_pay32]
    simp only [hm, sinkRow_real H, lit_bot, hM]
    unfold Blk.w
    have hb : (W.blk b).nb = b := rfl
    rw [hb]
    split
    · rw [← EReal.coe_sub, Ideal.exp_coe, ← Real.exp_add, sub_eq_add_neg]
    · rw [zero_mul, EReal.bot_sub]; rfl
  · unfold esS
    pointwise [k0_pay35, k0_pay33, k0_pay32]
    simp only [hm, sinkRow_real H, lit_bot, hM]
    rw [← EReal.coe_sub, Ideal.exp_coe, ← Real.exp_add, sub_eq_add_neg]

omit H in
/-- The head of a stacked query is one of the group's. -/
theorem head_div (j hh : Fin 2) (c : Fin 512) : (8 * (j : ℕ) + 2 * ((c : ℕ) / 128) + hh) / 8 = j := by
  have := c.isLt; omega

/-- The normaliser's reciprocal. -/
theorem inv_real (j hh : Fin 2) (c : Fin 512) {M : ℝ}
    (he : ∀ s : Fin 256, eS x j hh (ix2 s c)
      = (((W.blk b).w (8 * j + 2 * (c / 128) + hh) (c % 128) s * Real.exp (-M) : ℝ) : EReal))
    (hs : esS x j hh (ix2 (0 : Fin 1) c) = ((Real.exp (W.S (8 * j + 2 * (c / 128) + hh)) * Real.exp (-M) : ℝ) : EReal)) :
    k0_pay42 (eS x j hh) (esS x j hh) (ix2 (0 : Fin 1) c)
      = (((1 / ((W.blk b).Z (8 * j + 2 * (c / 128) + hh) (c % 128) * Real.exp (-M)) : ℝ)) : EReal) := by
  pointwise [k0_pay42]
  simp only [he, hs, coe_sum, ← EReal.coe_add, ← Finset.sum_mul, ← add_mul]
  have hZ : (∑ s : Fin 256, (W.blk b).w (8 * j + 2 * (c / 128) + hh) (c % 128) s
      + Real.exp (W.S (8 * j + 2 * (c / 128) + hh))) = (W.blk b).Z (8 * j + 2 * (c / 128) + hh) (c % 128) := rfl
  rw [hZ, Ideal.div_coe (mul_ne_zero ((W.blk b).Z_ne _ _) (Real.exp_pos _).ne'), one_mul]

/-- The probabilities. -/
theorem prS_real (j hh : Fin 2) (s : Fin 256) (c : Fin 512) : prS x j hh (ix2 s c)
    = (((W.blk b).pr (8 * j + 2 * (c / 128) + hh) (c % 128) s : ℝ) : EReal) := by
  obtain ⟨M, he, hs⟩ := exps_real H j hh c
  have hi := inv_real H j hh c he hs
  unfold prS
  pointwise [k0_pay43]
  rw [hi, he, ← EReal.coe_mul]
  refine congrArg _ ?_
  unfold Blk.pr
  have := (W.blk b).Z_ne (8 * j + 2 * (c / 128) + hh) (c % 128)
  have := (Real.exp_pos (-M)).ne'
  field_simp

/-- Their cotangents. -/
theorem dpS_real (j hh : Fin 2) (s : Fin 256) (c : Fin 512) : dpS x j hh (ix2 s c)
    = (((W.blk b).dp (8 * j + 2 * (c / 128) + hh) (c % 128) s : ℝ) : EReal) := by
  have hk : ∀ l : Fin 128, (64 * (j : ℕ) + l % 64) / 64 = j ∧ (64 * (j : ℕ) + l % 64) % 64 = l % 64 := fun l => by omega
  unfold dpS
  pointwise [k0_pay57]
  simp only [variant_eq, vExt_real H, dStack_real H, hk]
  rw [half_sum hh (fun l => (W.blk b).v j s l) (fun p l => (W.blk b).d (8 * j + 2 * (c / 128) + p) (c % 128) l)]
  unfold Blk.dp
  rw [head_div]

/-- The mean of the cotangents. -/
theorem deltaS_real (j hh : Fin 2) (c : Fin 512) : deltaS x j hh (ix2 (0 : Fin 1) c)
    = (((W.blk b).delta (8 * j + 2 * (c / 128) + hh) (c % 128) : ℝ) : EReal) := by
  have e : deltaS x j hh = shapeCast S1x512 (multiReduction .add [0] S512 (mulf (prS x j hh) (dpS x j hh)) 0x00000000#32
      reduces_S256x512_S512 (.inl rfl) rfl) shapeCasts_S512_S1x512 := rfl
  rw [e]
  pointwise []
  simp only [prS_real H, dpS_real H, ← EReal.coe_mul, coe_sum]
  rfl

/-- The scores' cotangents. -/
theorem dsS_real (j hh : Fin 2) (s : Fin 256) (c : Fin 512) : dsS x j hh (ix2 s c)
    = (((W.blk b).ds (8 * j + 2 * (c / 128) + hh) (c % 128) s : ℝ) : EReal) := by
  unfold dsS
  pointwise [k0_pay59]
  rw [prS_real H, dpS_real H, deltaS_real H, ← EReal.coe_sub, ← EReal.coe_mul]
  rfl

/-- The sinks' cotangents, query by query, the sign changed. -/
theorem psdS_real (j hh : Fin 2) (c : Fin 512) : psdS x j hh (ix2 (0 : Fin 1) c)
    = (((W.blk b).pe (8 * j + 2 * (c / 128) + hh) (c % 128) * (W.blk b).delta (8 * j + 2 * (c / 128) + hh) (c % 128) : ℝ) : EReal) := by
  obtain ⟨M, he, hs⟩ := exps_real H j hh c
  have hi := inv_real H j hh c he hs
  unfold psdS
  pointwise [k0_pay60]
  rw [hi, hs, deltaS_real H, ← EReal.coe_mul, ← EReal.coe_mul]
  refine congrArg _ (congrArg (· * _) ?_)
  unfold Blk.pe
  have := (W.blk b).Z_ne (8 * j + 2 * (c / 128) + hh) (c % 128)
  have := (Real.exp_pos (-M)).ne'
  have hb : (W.blk b).s = W.S := rfl
  rw [hb]
  field_simp

/-- The query gradients, stacked. -/
theorem dqS_real (j : Fin 2) (c : Fin 512) (l : Fin 128) : dqS x j (ix2 c l)
    = ((W.dq b (8 * j + 2 * (c / 128) + l / 64) (c % 128) (l % 64) : ℝ) : EReal) := by
  have hk : ∀ l : ℕ, (64 * (j : ℕ) + l % 64) / 64 = j ∧ (64 * (j : ℕ) + l % 64) % 64 = l % 64 := fun l => by omega
  have e (m : Fin 128) : (∑ s : Fin 256, dsS x j 0 (ix2 s c) * variant j 0 (kExt x) (ix2 s m)
      + ∑ s : Fin 256, dsS x j 1 (ix2 s c) * variant j 1 (kExt x) (ix2 s m)) * ((1 / 8 : ℝ) : EReal)
      = (((fun p l => (W.blk b).dq (8 * j + 2 * (c / 128) + p) (c % 128) l) ((m : ℕ) / 64) ((m : ℕ) % 64) : ℝ) : EReal) := by
    have hm := m.isLt
    have h8 : (8 * (j : ℕ) + 2 * ((c : ℕ) / 128) + (m : ℕ) / 64) / 8 = j := by have := c.isLt; omega
    simp only [variant_eq, kExt_real H, dsS_real H, hk]
    unfold Blk.dq
    rw [h8]
    rcases (by omega : (m : ℕ) / 64 = 0 ∨ (m : ℕ) / 64 = 1) with h | h <;>
      simp [h, ← EReal.coe_mul, coe_sum]
  unfold dqS cos4 sin4
  pointwise [k0_pay67, k0_pay52, k0_pay41, k0_pay26, k0_pay27, k0_pay8, k0_pay9]
  simp only [lit_eighth, e, lo_mask, select_bool, H.cc, H.sc]
  rcases stack_cases c.isLt with h | h | h | h
  all_goals
    simp only [h, not_false_eq_true, dite_true, dite_false, coe_ite, ← EReal.coe_mul, ← EReal.coe_zero, ← EReal.coe_sub, ← EReal.coe_add]
  · exact congrArg _ (rope_unrot W _ (fun p l => (W.blk b).dq (8 * j + 2 * 0 + p) c l) l.isLt)
  · exact congrArg _ (rope_unrot W _ (fun p l => (W.blk b).dq (8 * j + 2 * 1 + p) (c - 128) l) l.isLt)
  · exact congrArg _ (rope_unrot W _ (fun p l => (W.blk b).dq (8 * j + 2 * 2 + p) (c - 128 - 128) l) l.isLt)
  · exact congrArg _ (rope_unrot W _ (fun p l => (W.blk b).dq (8 * j + 2 * 3 + p) (c - 128 - 128 - 128) l) l.isLt)

/-- The key gradients the block's queries give, half by half. -/
theorem dkS_real (j : Fin 2) (s : Fin 256) (l : Fin 128) : dkS x j (ix2 s l)
    = ((∑ t : Fin 4, ∑ r : Fin 128, (W.blk b).ds (8 * j + 2 * t + l / 64) r s
        * ((W.blk b).q (8 * j + 2 * t + l / 64) r (l % 64) * (1 / 8)) : ℝ) : EReal) := by
  have hl := l.isLt
  unfold dkS
  pointwise [k0_pay65, k0_pay53]
  simp only [first_mask, select_bool, dsS_real H, qStack_real H, ← EReal.coe_mul, coe_sum]
  rw [← sum_groups 4 128 fun t r => (W.blk b).ds (8 * j + 2 * t + l / 64) r s
        * ((W.blk b).q (8 * j + 2 * t + l / 64) r (l % 64) * (1 / 8))]
  rcases (by omega : ((l : ℕ) < 64 ∧ (l : ℕ) / 64 = 0) ∨ (¬ (l : ℕ) < 64 ∧ (l : ℕ) / 64 = 1)) with h | h <;>
    simp only [h, if_true, if_false] <;> rfl

/-- The value gradients. -/
theorem dvS_real (j : Fin 2) (s : Fin 256) (l : Fin 128) : dvS x j (ix2 s l)
    = ((∑ t : Fin 4, ∑ r : Fin 128, (W.blk b).pr (8 * j + 2 * t + l / 64) r s
        * (W.blk b).d (8 * j + 2 * t + l / 64) r (l % 64) : ℝ) : EReal) := by
  have hl := l.isLt
  unfold dvS
  pointwise [k0_pay66, k0_pay54]
  simp only [first_mask, select_bool, prS_real H, dStack_real H, ← EReal.coe_mul, coe_sum]
  rw [← sum_groups 4 128 fun t r => (W.blk b).pr (8 * j + 2 * t + l / 64) r s
        * (W.blk b).d (8 * j + 2 * t + l / 64) r (l % 64)]
  rcases (by omega : ((l : ℕ) < 64 ∧ (l : ℕ) / 64 = 0) ∨ (¬ (l : ℕ) < 64 ∧ (l : ℕ) / 64 = 1)) with h | h <;>
    simp only [h, if_true, if_false] <;> rfl

omit H in
/-- Two halves of four heads added are the group's eight. -/
theorem halves (f : ℕ → ℝ) (j p : ℕ) (hp : p < 2) :
    ∑ t : Fin 4, f (8 * j + 2 * t + p) + ∑ t : Fin 4, f (8 * j + 2 * t + (1 - p)) = ∑ g : Fin 8, f (8 * j + g) := by
  rw [sum_heads fun g => f (8 * j + g)]
  rcases (by omega : p = 0 ∨ p = 1) with rfl | rfl
  · simp [add_assoc]
  · rw [add_comm]; simp [add_assoc]

omit H in
/-- A lane's partner in the other half. -/
theorem other_half {l : ℕ} (hl : l < 128) : (l + 128 - 64) % 128 / 64 = 1 - l / 64 ∧ (l + 128 - 64) % 128 % 64 = l % 64 := by
  omega

omit H in
theorem half_cases {l : ℕ} (hl : l < 128) : (l < 64 ∧ l / 64 = 0) ∨ (¬ l < 64 ∧ l / 64 = 1) := by omega

/-- The key gradients of both blocks' rows. -/
theorem dkExt_real (s : Fin 256) (l : Fin 128) : dkExt x (ix2 s l) = (((W.blk b).dk (l / 64) s (l % 64) : ℝ) : EReal) := by
  unfold dkExt
  pointwise [k0_pay119]
  simp only [first_mask, select_bool, dkS_real H, other_half l.isLt, ← EReal.coe_add]
  unfold Blk.dk
  have e (j p : ℕ) (hp : p < 2) := halves (fun h => ∑ r : Fin 128, (W.blk b).ds h r s * ((W.blk b).q h r (l % 64) * (1 / 8))) j p hp
  rcases half_cases l.isLt with h | h
  · simp only [h, if_true]; exact congrArg _ (e 0 0 (by omega))
  · simp only [h, if_false]; exact congrArg _ (e 1 1 (by omega))

/-- The value gradients of both blocks' rows. -/
theorem dvExt_real (s : Fin 256) (l : Fin 128) : dvExt x (ix2 s l) = (((W.blk b).dv (l / 64) s (l % 64) : ℝ) : EReal) := by
  unfold dvExt
  pointwise [k0_pay120]
  simp only [first_mask, select_bool, dvS_real H, other_half l.isLt, ← EReal.coe_add]
  unfold Blk.dv
  have e (j p : ℕ) (hp : p < 2) := halves (fun h => ∑ r : Fin 128, (W.blk b).pr h r s * (W.blk b).d h r (l % 64)) j p hp
  rcases half_cases l.isLt with h | h
  · simp only [h, if_true]; exact congrArg _ (e 0 0 (by omega))
  · simp only [h, if_false]; exact congrArg _ (e 1 1 (by omega))

/-- What the block gives the rows before it. -/
theorem ckNext_real (r l : Fin 128) : ckNext x (ix2 r l) = (((W.blk b).dk (l / 64) r (l % 64) : ℝ) : EReal) := by
  have e : ckNext x = shapeCast S128x128 (extractStridedSlice S128x128 ![0, 0] (dkExt x) slices_S256x128_o0_0_S128x128) shapeCasts_S128x128_S128x128 := rfl
  rw [e]
  pointwise []
  rw [dkExt_real H]

@[inherit_doc ckNext_real]
theorem cvNext_real (r l : Fin 128) : cvNext x (ix2 r l) = (((W.blk b).dv (l / 64) r (l % 64) : ℝ) : EReal) := by
  unfold cvNext
  pointwise [k0_pay1]
  rw [dvExt_real H]

/-- The key gradient of the block's rows, `ck` being what the next block gave. -/
theorem dkOut_real {ck : FVec Ideal S128x128 .f32}
    (hc : ∀ r l : Fin 128, ck (ix2 r l) = ((W.ck b (l / 64) r (l % 64) : ℝ) : EReal)) (r l : Fin 128) :
    dkOut x ck (ix2 r l) = ((W.dk b (l / 64) r (l % 64) : ℝ) : EReal) := by
  have e (m : Fin 128) : k0_pay119 k0_pay7 (dkS x 0) (dkS x 1) (ix2 (⟨128 + r, by omega⟩ : Fin 256) m) + ck (ix2 r m)
      = (((fun j l => (W.blk b).dk j (128 + r) l + W.ck b j r l) ((m : ℕ) / 64) ((m : ℕ) % 64) : ℝ) : EReal) := by
    rw [show k0_pay119 k0_pay7 (dkS x 0) (dkS x 1) = dkExt x from rfl, dkExt_real H, hc, ← EReal.coe_add]
  unfold dkOut
  pointwise [k0_pay121, k0_pay8, k0_pay9]
  simp only [e, lo_mask, select_bool, H.cc, H.sc, coe_ite, ← EReal.coe_mul, ← EReal.coe_zero, ← EReal.coe_sub, ← EReal.coe_add]
  exact congrArg _ (rope_unrot W _ (fun j l => (W.blk b).dk j (128 + r) l + W.ck b j r l) l.isLt)

/-- The value gradient of the block's rows, `cv` being what the next block gave. -/
theorem dvOut_real {cv : FVec Ideal S128x128 .f32}
    (hc : ∀ r l : Fin 128, cv (ix2 r l) = ((W.cv b (l / 64) r (l % 64) : ℝ) : EReal)) (r l : Fin 128) :
    dvOut x cv (ix2 r l) = ((W.dv b (l / 64) r (l % 64) : ℝ) : EReal) := by
  have e : dvOut x cv = truncf .bf16 (addf (extractStridedSlice S128x128 ![128, 0] (dvExt x) slices_S256x128_o128_0_S128x128) cv) bitsLt_bf16_f32 := rfl
  rw [e]
  pointwise []
  rw [dvExt_real H, hc, ← EReal.coe_add]
  rfl

omit H in
/-- One sink's share added to a row. -/
theorem putSink_eq (row terms : FVec Ideal S1x128 .f32) (n : ℕ) (hn : n < 128) (f : ℕ → ℝ)
    (ht : ∀ r : Fin 128, terms (ix2 (0 : Fin 1) r) = ((f r : ℝ) : EReal)) (l : Fin 128) :
    putSink row terms (BitVec.ofNat 32 n) (ix2 (0 : Fin 1) l)
      = row (ix2 (0 : Fin 1) l) + (((if (l : ℕ) = n then -∑ r : Fin 128, f r else 0) : ℝ) : EReal) := by
  have hl := l.isLt
  have hc : IntOp.cmpi CmpIPredicate.eq (BitVec.ofNat 32 (l : ℕ)) (BitVec.ofNat 32 n) = BitVec.ofBool (decide ((l : ℕ) = n)) := by
    show BitVec.ofBool (_ == _) = _
    congr 1
    rw [Bool.eq_iff_iff]
    simp only [beq_iff_eq, decide_eq_true_eq]
    constructor
    · intro h
      have := congrArg BitVec.toNat h
      rw [BitVec.toNat_ofNat, BitVec.toNat_ofNat, Nat.mod_eq_of_lt (by omega), Nat.mod_eq_of_lt (by omega)] at this
      exact this
    · intro h; rw [h]
  unfold putSink lanes
  pointwise []
  rw [hc, select_bool]
  simp only [ht, coe_sum]
  split
  · rw [zero_sub, ← EReal.coe_neg]
  · rfl

omit H in
/-- Four sinks' shares added to a row. -/
theorem putSinks_eq (row : FVec Ideal S1x128 .f32) (psd : FVec Ideal S1x512 .f32) (g : ℕ → ℕ → ℝ)
    (ht : ∀ c : Fin 512, psd (ix2 (0 : Fin 1) c) = ((g (c / 128) (c % 128) : ℝ) : EReal)) (n0 n1 n2 n3 : ℕ)
    (h0 : n0 < 128) (h1 : n1 < 128) (h2 : n2 < 128) (h3 : n3 < 128) (l : Fin 128) :
    putSinks row psd (BitVec.ofNat 32 n0) (BitVec.ofNat 32 n1) (BitVec.ofNat 32 n2) (BitVec.ofNat 32 n3) (ix2 (0 : Fin 1) l)
      = row (ix2 (0 : Fin 1) l)
        + (((if (l : ℕ) = n0 then -∑ r : Fin 128, g 0 r else 0) : ℝ) : EReal)
        + (((if (l : ℕ) = n1 then -∑ r : Fin 128, g 1 r else 0) : ℝ) : EReal)
        + (((if (l : ℕ) = n2 then -∑ r : Fin 128, g 2 r else 0) : ℝ) : EReal)
        + (((if (l : ℕ) = n3 then -∑ r : Fin 128, g 3 r else 0) : ℝ) : EReal) := by
  unfold putSinks
  rw [putSink_eq _ _ n3 h3 (g 3), putSink_eq _ _ n2 h2 (g 2), putSink_eq _ _ n1 h1 (g 1), putSink_eq _ _ n0 h0 (g 0)]
  all_goals
    intro r
    have hr := r.isLt
    pointwise []
    rw [ht]
    refine congrArg _ ?_
    congr 1 <;> simp only <;> omega

/-- The block's share of the sinks' gradient. -/
theorem sinkShare_real (l : Fin 128) : sinkShare x (ix2 (0 : Fin 1) l)
    = (((if (l : ℕ) < 16 then (W.blk b).dsink l else 0) : ℝ) : EReal) := by
  have z : (k0_pay28 : FVec Ideal S1x128 .f32) (ix2 (0 : Fin 1) l) = ((0 : ℝ) : EReal) := by
    pointwise [k0_pay28]
    rfl
  have t (j hh : Fin 2) (c : Fin 512) := psdS_real H j hh c
  have e (j hh : Fin 2) := putSinks_eq (psd := psdS x j hh)
    (g := fun t r => (W.blk b).pe (8 * j + 2 * t + hh) r * (W.blk b).delta (8 * j + 2 * t + hh) r) (ht := t j hh)
  unfold sinkShare
  rw [e _ _ _ 9 11 13 15 (by norm_num) (by norm_num) (by norm_num) (by norm_num),
    e _ _ _ 8 10 12 14 (by norm_num) (by norm_num) (by norm_num) (by norm_num),
    e _ _ _ 1 3 5 7 (by norm_num) (by norm_num) (by norm_num) (by norm_num),
    e _ _ _ 0 2 4 6 (by norm_num) (by norm_num) (by norm_num) (by norm_num), z]
  simp only [← EReal.coe_add]
  refine congrArg _ ?_
  unfold Blk.dsink
  by_cases hl : (l : ℕ) < 16
  · rw [if_pos hl]
    generalize (l : ℕ) = n at hl ⊢
    interval_cases n <;> simp
  · rw [if_neg hl]
    have q (n : ℕ) (hn : n < 16) : ¬ (l : ℕ) = n := by omega
    simp only [q 0 (by norm_num), q 1 (by norm_num), q 2 (by norm_num), q 3 (by norm_num), q 4 (by norm_num), q 5 (by norm_num),
      q 6 (by norm_num), q 7 (by norm_num), q 8 (by norm_num), q 9 (by norm_num), q 10 (by norm_num), q 11 (by norm_num),
      q 12 (by norm_num), q 13 (by norm_num), q 14 (by norm_num), q 15 (by norm_num), if_false, add_zero]

end Cert.KernelIdeal.Block

end
-- ==== Proof.Arrays.lean ====
/-
  What the program leaves in its four result arrays over the extended reals, when the arguments it reads are real: the
  gradients of `Proof/Spec.lean`.
-/
module

public import proofs.«01_k».proof.Proof.Track
public import proofs.«01_k».proof.Proof.Real
public import Idealize.ShloMosaic.Lib.Pipeline.ValueKit.Geometry
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe
open Idealize.ShloMosaic.Pipeline
open Cert.Attn

variable (m : (ℓ : Loc nD τ sig) → Buf (Elt Ideal) ℓ)

/-- The cosines' table at a row and a lane. -/
theorem V_cos (c : Dev nD) (r : Fin 8192) (l : Fin 128) :
    V m c main_v15 (ix2 r l) = Ideal.cos (angle r (l % 32)) := by
  unfold_abbrev_sides
  after_results
  pointwise
  rfl

/-- The sines' table, signed. -/
theorem V_sin (c : Dev nD) (r : Fin 8192) (l : Fin 128) :
    V m c main_v22 (ix2 r l) = if (l : ℕ) % 64 < 32 then -Ideal.sin (angle r (l % 32)) else Ideal.sin (angle r (l % 32)) := by
  unfold_abbrev_sides
  after_results
  pointwise
  have hl := l.isLt
  by_cases h : (l : ℕ) % 64 < 32
  · rw [if_pos h, show (l : ℕ) % 32 = l % 64 by omega]
    simp only [h]
    rfl
  · rw [if_neg h, show (l : ℕ) % 32 = l % 64 - 32 by omega]
    simp only [h]
    rfl

/-! ## Where each window's block lies -/

theorem idx0 : ∀ t : Fin cfg0.N, win0_0.index t = ![63 - t.val, 0] := (by decide +kernel : ∀ t : Fin grid0.N, _)
theorem idx1 : ∀ t : Fin cfg0.N, win0_1.index t = ![63 - t.val, 8] := (by decide +kernel : ∀ t : Fin grid0.N, _)
theorem idx2 : ∀ t : Fin cfg0.N, win0_2.index t = ![63 - t.val, 9] := (by decide +kernel : ∀ t : Fin grid0.N, _)
theorem idx3 : ∀ t : Fin cfg0.N, win0_3.index t = ![63 - t.val - 1, 8] := (by decide +kernel : ∀ t : Fin grid0.N, _)
theorem idx4 : ∀ t : Fin cfg0.N, win0_4.index t = ![63 - t.val - 1, 9] := (by decide +kernel : ∀ t : Fin grid0.N, _)
theorem idx5 : ∀ t : Fin cfg0.N, win0_5.index t = ![63 - t.val, 0] := (by decide +kernel : ∀ t : Fin grid0.N, _)
theorem idx6 : ∀ t : Fin cfg0.N, win0_6.index t = ![63 - t.val, 0] := (by decide +kernel : ∀ t : Fin grid0.N, _)
theorem idx7 : ∀ t : Fin cfg0.N, win0_7.index t = ![63 - t.val - 1, 0] := (by decide +kernel : ∀ t : Fin grid0.N, _)
theorem idx8 : ∀ t : Fin cfg0.N, win0_8.index t = ![63 - t.val - 1, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![63 - t.val, 0] := (by decide +kernel : ∀ t : Fin grid0.N, _)
theorem idx11 : ∀ t : Fin cfg0.N, win0_11.index t = ![63 - t.val, 0] := (by decide +kernel : ∀ t : Fin grid0.N, _)
theorem idx12 : ∀ t : Fin cfg0.N, win0_12.index t = ![63 - t.val, 0] := (by decide +kernel : ∀ t : Fin grid0.N, _)
theorem idx13 : ∀ t : Fin cfg0.N, win0_13.index t = ![63 - t.val, 0] := (by decide +kernel : ∀ t : Fin grid0.N, _)

/-- Point `t` works on block `63 - t`. -/
theorem nb_eq : ∀ t : Fin cfg0.N, Scalar.subi 63#32 (BitVec.ofNat 32 (grid0.coords t 0).val) = BitVec.ofNat 32 (63 - t.val) :=
  (by decide +kernel : ∀ t : Fin grid0.N, _)

/-- The arguments by row and column. -/
def argA (c : Dev nD) (r : Fin 8192) (k : Fin 4352) : EReal := m ((c.tc : Thread nD τ).loc main_arg0) (ix2 r k)
@[inherit_doc argA] def argD (c : Dev nD) (r : Fin 8192) (k : Fin 2048) : EReal := m ((c.tc : Thread nD τ).loc main_arg1) (ix2 r k)
@[inherit_doc argA] def argS (c : Dev nD) (k : Fin 16) : EReal := m ((c.tc : Thread nD τ).loc main_arg2) (ix2 (0 : Fin 1) k)

/-- The real problem of device `c`. -/
def theWorld (c : Dev nD) : World := world (argA m c) (argD m c) (argS m c)

variable (c : Dev nD)

/-! ## The blocks, entry by entry -/

/-- Where a block's entry lies in its array. -/
theorem blk0 (t : Fin cfg0.N) (r : Fin 128) (l : Fin 1024) : X0_0 m c t (ix2 r l)
    = argA m c ⟨128 * (63 - t.val) + r, by omega⟩ ⟨l, by omega⟩ := by
  unfold X0_0 Pipeline.Window.fill
  rw [dif_pos (moved0_0 t _)]
  blk_simp [iblk, idx0]
  rw [V_main_arg0]
  refine congrArg _ ?_
  blk_ext [idx0]

theorem blk1 (t : Fin cfg0.N) (r l : Fin 128) : iblk m c 1 t (ix2 r l)
    = argA m c ⟨128 * (63 - t.val) + r, by omega⟩ ⟨1024 + l, by omega⟩ := by
  blk_simp [iblk, idx1]
  rw [V_main_arg0]
  refine congrArg _ ?_
  blk_ext [idx1]

theorem blk2 (t : Fin cfg0.N) (r l : Fin 128) : iblk m c 2 t (ix2 r l)
    = argA m c ⟨128 * (63 - t.val) + r, by omega⟩ ⟨1152 + l, by omega⟩ := by
  blk_simp [iblk, idx2]
  rw [V_main_arg0]
  refine congrArg _ ?_
  blk_ext [idx2]

theorem blk3 (t : Fin cfg0.N) (r l : Fin 128) : iblk m c 3 t (ix2 r l)
    = argA m c ⟨128 * (63 - t.val - 1) + r, by omega⟩ ⟨1024 + l, by omega⟩ := by
  blk_simp [iblk, idx3]
  rw [V_main_arg0]
  refine congrArg _ ?_
  blk_ext [idx3]

theorem blk4 (t : Fin cfg0.N) (r l : Fin 128) : iblk m c 4 t (ix2 r l)
    = argA m c ⟨128 * (63 - t.val - 1) + r, by omega⟩ ⟨1152 + l, by omega⟩ := by
  blk_simp [iblk, idx4]
  rw [V_main_arg0]
  refine congrArg _ ?_
  blk_ext [idx4]

theorem blk5 (t : Fin cfg0.N) (r l : Fin 128) : iblk m c 5 t (ix2 r l)
    = Ideal.cos (angle (128 * (63 - t.val) + r) (l % 32)) := by
  blk_simp [iblk, idx5]
  refine Eq.trans (congrArg (V m c main_v15) ?_) (V_cos m c ⟨128 * (63 - t.val) + r, by omega⟩ l)
  blk_ext [idx5]

theorem blk6 (t : Fin cfg0.N) (r l : Fin 128) : iblk m c 6 t (ix2 r l)
    = if (l : ℕ) % 64 < 32 then -Ideal.sin (angle (128 * (63 - t.val) + r) (l % 32)) else Ideal.sin (angle (128 * (63 - t.val) + r) (l % 32)) := by
  blk_simp [iblk, idx6]
  refine Eq.trans (congrArg (V m c main_v22) ?_) (V_sin m c ⟨128 * (63 - t.val) + r, by omega⟩ l)
  blk_ext [idx6]

theorem blk7 (t : Fin cfg0.N) (r l : Fin 128) : iblk m c 7 t (ix2 r l)
    = Ideal.cos (angle (128 * (63 - t.val - 1) + r) (l % 32)) := by
  blk_simp [iblk, idx7]
  refine Eq.trans (congrArg (V m c main_v15) ?_) (V_cos m c ⟨128 * (63 - t.val - 1) + r, by omega⟩ l)
  blk_ext [idx7]

theorem blk8 (t : Fin cfg0.N) (r l : Fin 128) : iblk m c 8 t (ix2 r l)
    = if (l : ℕ) % 64 < 32 then -Ideal.sin (angle (128 * (63 - t.val - 1) + r) (l % 32)) else Ideal.sin (angle (128 * (63 - t.val - 1) + r) (l % 32)) := by
  blk_simp [iblk, idx8]
  refine Eq.trans (congrArg (V m c main_v22) ?_) (V_sin m c ⟨128 * (63 - t.val - 1) + r, by omega⟩ l)
  blk_ext [idx8]

theorem blk9 (t : Fin cfg0.N) (l : Fin 16) : iblk m c 9 t (ix2 (0 : Fin 1) l) = argS m c l := by
  blk_simp [iblk, idx9]
  rw [V_main_arg2]
  refine congrArg _ ?_
  blk_ext [idx9]

theorem blk10 (t : Fin cfg0.N) (r : Fin 128) (l : Fin 1024) : iblk m c 10 t (ix2 r l)
    = argD m c ⟨128 * (63 - t.val) + r, by omega⟩ ⟨l, by omega⟩ := by
  blk_simp [iblk, idx10]
  rw [V_main_arg1]
  refine congrArg _ ?_
  blk_ext [idx10]

variable (H : Finite (argA m c) (argD m c) (argS m c))

theorem cosW (r l : ℕ) : Ideal.cos (angle r l) = (((theWorld m c).C r l : ℝ) : EReal) :=
  cos_angle (argA m c) (argD m c) (argS m c) r l

theorem sinW (r l : ℕ) : Ideal.sin (angle r l) = (((theWorld m c).N r l : ℝ) : EReal) :=
  sin_angle (argA m c) (argD m c) (argS m c) r l

include H

theorem aW (r k k' : ℕ) (hr : r < 8192) (hk : k < 4352) (h : k < 1280) (e : k = k') :
    argA m c ⟨r, hr⟩ ⟨k, hk⟩ = (((theWorld m c).A r k' : ℝ) : EReal) :=
  e ▸ H.a_eq ⟨r, hr⟩ ⟨k, hk⟩ h

theorem dW (r k k' : ℕ) (hr : r < 8192) (hk : k < 2048) (h : k < 1024) (e : k = k') :
    argD m c ⟨r, hr⟩ ⟨k, hk⟩ = (((theWorld m c).D r k' : ℝ) : EReal) :=
  e ▸ H.d_eq ⟨r, hr⟩ ⟨k, hk⟩ h

/-! ## What a point reads -/

theorem reads_q (t : Fin cfg0.N) (r : Fin 128) (l : Fin 1024) : X0_0 m c t (ix2 r l)
    = (((theWorld m c).A (128 * (63 - t.val) + r) (64 * (l / 64) + l % 64) : ℝ) : EReal) :=
  (blk0 m c t r l).trans (aW m c H _ _ _ _ _ (by omega) (by omega))

theorem reads_kc (t : Fin cfg0.N) (r l : Fin 128) : iblk m c 1 t (ix2 r l)
    = (((theWorld m c).A (128 * (63 - t.val) + r) (1024 + 64 * (l / 64) + l % 64) : ℝ) : EReal) :=
  (blk1 m c t r l).trans (aW m c H _ _ _ _ _ (by omega) (by omega))

theorem reads_vc (t : Fin cfg0.N) (r l : Fin 128) : iblk m c 2 t (ix2 r l)
    = (((theWorld m c).A (128 * (63 - t.val) + r) (1152 + 64 * (l / 64) + l % 64) : ℝ) : EReal) :=
  (blk2 m c t r l).trans (aW m c H _ _ _ _ _ (by omega) (by omega))

theorem reads_kp (t : Fin cfg0.N) (r l : Fin 128) : iblk m c 3 t (ix2 r l)
    = (((theWorld m c).A (128 * (63 - t.val - 1) + r) (1024 + 64 * (l / 64) + l % 64) : ℝ) : EReal) :=
  (blk3 m c t r l).trans (aW m c H _ _ _ _ _ (by omega) (by omega))

theorem reads_vp (t : Fin cfg0.N) (r l : Fin 128) : iblk m c 4 t (ix2 r l)
    = (((theWorld m c).A (128 * (63 - t.val - 1) + r) (1152 + 64 * (l / 64) + l % 64) : ℝ) : EReal) :=
  (blk4 m c t r l).trans (aW m c H _ _ _ _ _ (by omega) (by omega))

omit H in
theorem reads_cc (t : Fin cfg0.N) (r l : Fin 128) : iblk m c 5 t (ix2 r l)
    = (((theWorld m c).C (128 * (63 - t.val) + r) (l % 32) : ℝ) : EReal) :=
  (blk5 m c t r l).trans (cosW m c _ _)

omit H in
theorem reads_sc (t : Fin cfg0.N) (r l : Fin 128) : iblk m c 6 t (ix2 r l)
    = (((if (l : ℕ) % 64 < 32 then -(theWorld m c).N (128 * (63 - t.val) + r) (l % 32) else (theWorld m c).N (128 * (63 - t.val) + r) (l % 32)) : ℝ) : EReal) :=
  (blk6 m c t r l).trans (by rw [sinW m c, ← EReal.coe_neg, ← apply_ite ((↑) : ℝ → EReal)])

omit H in
theorem reads_cp (t : Fin cfg0.N) (r l : Fin 128) : iblk m c 7 t (ix2 r l)
    = (((theWorld m c).C (128 * (63 - t.val - 1) + r) (l % 32) : ℝ) : EReal) :=
  (blk7 m c t r l).trans (cosW m c _ _)

omit H in
theorem reads_sp (t : Fin cfg0.N) (r l : Fin 128) : iblk m c 8 t (ix2 r l)
    = (((if (l : ℕ) % 64 < 32 then -(theWorld m c).N (128 * (63 - t.val - 1) + r) (l % 32) else (theWorld m c).N (128 * (63 - t.val - 1) + r) (l % 32)) : ℝ) : EReal) :=
  (blk8 m c t r l).trans (by rw [sinW m c, ← EReal.coe_neg, ← apply_ite ((↑) : ℝ → EReal)])

theorem reads_sk (t : Fin cfg0.N) (l : Fin 16) : iblk m c 9 t (ix2 (0 : Fin 1) l)
    = (((theWorld m c).S l : ℝ) : EReal) :=
  (blk9 m c t l).trans (H.s_eq l)

theorem reads_d (t : Fin cfg0.N) (r : Fin 128) (l : Fin 1024) : iblk m c 10 t (ix2 r l)
    = (((theWorld m c).D (128 * (63 - t.val) + r) (64 * (l / 64) + l % 64) : ℝ) : EReal) :=
  (blk10 m c t r l).trans (dW m c H _ _ _ _ _ (by omega) (by omega))

/-- What point `t` reads is what the real problem's block `63 - t` reads. -/
theorem reads (t : Fin cfg0.N) : Reads (at_ m c t) (theWorld m c) (63 - t.val) where
  lt := by omega
  nb := nb_eq t
  q := reads_q m c H t
  kc := reads_kc m c H t
  vc := reads_vc m c H t
  kp := reads_kp m c H t
  vp := reads_vp m c H t
  cc := reads_cc m c t
  sc := reads_sc m c t
  cp := reads_cp m c t
  sp := reads_sp m c t
  sk := reads_sk m c H t
  d := reads_d m c H t

/-! ## The buffers carried from point to point -/

/-- The next block's part of the keys' gradient reaches point `n`. -/
theorem ckIn_real (n : ℕ) (h : n < cfg0.N) (r l : Fin 128) :
    ckIn m c n h (ix2 r l) = (((theWorld m c).ck (63 - n) (l / 64) r (l % 64) : ℝ) : EReal) := by
  cases n with
  | zero =>
    change (k0_pay3 : FVec Ideal S128x128 .f32) (ix2 r l) = _
    rw [World.ck, if_neg (by omega)]
    pointwise [k0_pay3]
    rfl
  | succ n =>
    have h64 : n + 1 < 64 := h
    refine (ckNext_real (reads m c H ⟨n, by omega⟩) r l).trans ?_
    rw [World.ck, if_pos (by omega), show 63 - (n + 1) + 1 = 63 - n by omega]

/-- The next block's part of the values' gradient reaches point `n`. -/
theorem cvIn_real (n : ℕ) (h : n < cfg0.N) (r l : Fin 128) :
    cvIn m c n h (ix2 r l) = (((theWorld m c).cv (63 - n) (l / 64) r (l % 64) : ℝ) : EReal) := by
  cases n with
  | zero =>
    change (k0_pay4 : FVec Ideal S128x128 .f32) (ix2 r l) = _
    rw [World.cv, if_neg (by omega)]
    pointwise [k0_pay4]
    rfl
  | succ n =>
    have h64 : n + 1 < 64 := h
    refine (cvNext_real (reads m c H ⟨n, by omega⟩) r l).trans ?_
    rw [World.cv, if_pos (by omega), show 63 - (n + 1) + 1 = 63 - n by omega]

omit H in
theorem row_emb (l : Fin 128) : rowRect.emb (ix2 (0 : Fin 1) l) = ix2 (0 : Fin 8) l := by
  funext a
  fin_cases a <;> apply Fin.ext
  · exact (show 0 + 1 * 0 = 0 from rfl)
  · exact (show 0 + 1 * (l : ℕ) = l by omega)

omit H in
/-- A buffer whose first row has taken a share: the row's entries add it, the rest are as before. -/
theorem sinkNext_row (x : Ins Ideal) (old : Vec Ideal S8x128 .f32) (l : Fin 128) :
    sinkNext x old (ix2 (0 : Fin 8) l) = old (ix2 (0 : Fin 8) l) + sinkShare x (ix2 (0 : Fin 1) l) := by
  refine Eq.trans (congrArg _ (row_emb l).symm) ((Rect.overlay_emb rowRect old (k0_pay2 (sinkShare x) (View.ld old rowRect)) (ix2 (0 : Fin 1) l)).trans ?_)
  have e : View.ld old rowRect (ix2 (0 : Fin 1) l) = old (ix2 (0 : Fin 8) l) := congrArg old (row_emb l)
  generalize View.ld old rowRect = u at e ⊢
  rw [← e]
  pointwise [k0_pay2]

omit H in
@[inherit_doc sinkNext_row] theorem sinkNext_rest (x : Ins Ideal) (old : Vec Ideal S8x128 .f32) (r : Fin 8) (hr : r ≠ 0) (l : Fin 128) :
    sinkNext x old (ix2 r l) = old (ix2 r l) := by
  refine Rect.overlay_of_not_mem _ _ _ fun hm => hr ?_
  obtain ⟨i, hi, e⟩ := rowRect.mem_set.mp hm 0
  change i < 1 at hi
  apply Fin.ext
  refine e.trans ?_
  simp [rowRect, Rect.unit]
  omega

/-- The sinks' buffer after point `n`. -/
theorem sinkAfter_real (n : ℕ) (h : n < cfg0.N) (r : Fin 8) (l : Fin 128) : sinkAfter m c n h (ix2 r l)
    = (((if r = 0 ∧ (l : ℕ) < 16 then ∑ t ∈ Finset.range (n + 1), ((theWorld m c).blk (63 - t)).dsink l else 0) : ℝ) : EReal) := by
  have z : (k0_pay5 : FVec Ideal S8x128 .f32) (ix2 r l) = ((0 : ℝ) : EReal) := by
    pointwise [k0_pay5]
    rfl
  by_cases hr : r = 0
  · subst hr
    have e : sinkAfter m c n h (ix2 (0 : Fin 8) l)
        = ((∑ t ∈ Finset.range (n + 1), (if (l : ℕ) < 16 then ((theWorld m c).blk (63 - t)).dsink l else 0) : ℝ) : EReal) := by
      induction n with
      | zero =>
        refine (sinkNext_row _ _ l).trans ?_
        rw [z, sinkShare_real (reads m c H ⟨0, h⟩), ← EReal.coe_add]
        simp
      | succ n ih =>
        refine (sinkNext_row _ _ l).trans ?_
        rw [ih (by omega), sinkShare_real (reads m c H ⟨n + 1, h⟩), ← EReal.coe_add, Finset.sum_range_succ _ (n + 1)]
    rw [e]
    by_cases hl : (l : ℕ) < 16 <;> simp [hl]
  · rw [if_neg (fun h => hr h.1)]
    induction n with
    | zero => exact (sinkNext_rest _ _ r hr l).trans z
    | succ n ih => exact (sinkNext_rest _ _ r hr l).trans (ih (by omega))

/-! ## The result arrays -/

/-- The query gradient. -/
theorem final_dq : (dats m 0 c).arrAt 11 cfg0.N
    = fun i => (((theWorld m c).dq ((i 0).val / 128) ((i 1).val / 64) ((i 0).val % 128) ((i 1).val % 64) : ℝ) : EReal) := by
  refine (dats m 0 c).arrAt_eq_of_covers 11 _ (by decide +kernel) fun t hf y => ?_
  blk_simp
  rw [after_11]
  have h0 : (y 0).val < 128 := (y 0).isLt
  have h1 : (y 1).val < 1024 := (y 1).isLt
  have e0 : win0_11.index t 0 = 63 - t.val := by rw [idx11]; rfl
  have e1 : win0_11.index t 1 = 0 := by rw [idx11]; rfl
  refine (dqS_real (reads m c H t) _ _ _).trans ?_
  rw [e0, e1]
  dsimp only
  congr 2 <;> omega

/-- The key gradient. -/
theorem final_dk : (dats m 0 c).arrAt 12 cfg0.N
    = fun i => (((theWorld m c).dk ((i 0).val / 128) ((i 1).val / 64) ((i 0).val % 128) ((i 1).val % 64) : ℝ) : EReal) := by
  refine (dats m 0 c).arrAt_eq_of_covers 12 _ (by decide +kernel) fun t hf y => ?_
  blk_simp
  rw [after_12]
  have h0 : (y 0).val < 128 := (y 0).isLt
  have h1 : (y 1).val < 128 := (y 1).isLt
  have e0 : win0_12.index t 0 = 63 - t.val := by rw [idx12]; rfl
  have e1 : win0_12.index t 1 = 0 := by rw [idx12]; rfl
  have ey : y = ix2 ⟨(y 0).val, h0⟩ ⟨(y 1).val, h1⟩ := by funext a; fin_cases a <;> rfl
  refine (congrArg _ ey).trans ((dkOut_real (reads m c H t) (ckIn_real m c H t.val t.isLt) _ _).trans ?_)
  rw [e0, e1]
  dsimp only
  congr 2 <;> omega

/-- The value gradient. -/
theorem final_dv : (dats m 0 c).arrAt 13 cfg0.N
    = fun i => (((theWorld m c).dv ((i 0).val / 128) ((i 1).val / 64) ((i 0).val % 128) ((i 1).val % 64) : ℝ) : EReal) := by
  refine (dats m 0 c).arrAt_eq_of_covers 13 _ (by decide +kernel) fun t hf y => ?_
  blk_simp
  rw [after_13]
  have h0 : (y 0).val < 128 := (y 0).isLt
  have h1 : (y 1).val < 128 := (y 1).isLt
  have e0 : win0_13.index t 0 = 63 - t.val := by rw [idx13]; rfl
  have e1 : win0_13.index t 1 = 0 := by rw [idx13]; rfl
  have ey : y = ix2 ⟨(y 0).val, h0⟩ ⟨(y 1).val, h1⟩ := by funext a; fin_cases a <;> rfl
  refine (congrArg _ ey).trans ((dvOut_real (reads m c H t) (cvIn_real m c H t.val t.isLt) _ _).trans ?_)
  rw [e0, e1]
  dsimp only
  congr 2 <;> omega

/-- The sinks' gradient, in the first row's first sixteen lanes. -/
theorem final_sink : (dats m 0 c).arrAt 14 cfg0.N
    = fun i => (((if (i 0).val = 0 ∧ (i 1).val < 16 then (theWorld m c).dsink (i 1).val else 0) : ℝ) : EReal) := by
  funext i
  refine ((dats m 0 c).arrAt_emb_eq_after_last 14 ⟨63, by decide⟩ (by decide +kernel) i).trans ?_
  have h0 : (i 0).val < 8 := (i 0).isLt
  have h1 : (i 1).val < 128 := (i 1).isLt
  refine Eq.trans (congrFun (after_14 m c ⟨63, by decide⟩) _) ?_
  refine Eq.trans (congrArg _ (?_ : _ = ix2 ⟨(i 0).val, h0⟩ ⟨(i 1).val, h1⟩)) ((sinkAfter_real m c H 63 (by decide) _ _).trans ?_)
  · funext a; fin_cases a <;> rfl
  · have e : ∑ t ∈ Finset.range (63 + 1), ((theWorld m c).blk (63 - t)).dsink (i 1).val = (theWorld m c).dsink (i 1).val :=
      (Finset.sum_range_reflect (fun b => ((theWorld m c).blk b).dsink (i 1).val) 64).trans
        (Finset.sum_range fun b => ((theWorld m c).blk b).dsink (i 1).val)
    rw [e]
    simp only [Fin.ext_iff, Fin.val_zero]

end Cert.KernelIdeal.Block

end
-- ==== Proof.RefRead.lean ====
/-
  The reference's intermediate arrays, entry by entry: each operation of the program read at an index.
-/
module

public import proofs.«01_k».proof.Proof.Gen.ReferenceIdeal.Run
public import proofs.«01_k».proof.Proof.Spec
public import Idealize.ShloMosaic.Lib.Pointwise
public import Idealize.ShloMosaic.Lib.Claim

@[expose] public section

set_option maxRecDepth 16384

noncomputable section

namespace Cert.ReferenceIdeal.Grad

open Cert.ReferenceIdeal Cert.ReferenceIdeal.Gen Cert.ReferenceIdeal.Value Idealize.ShloMosaic Idealize.ShloMosaic.TcCoe

/-! ## The three reductions -/

/-- A sum along the last axis. -/
theorem sum_last (h : S1x64x2x8x128x257.ReducesTo [5] S1x64x2x8x128) (v : S1x64x2x8x128x257.Idx → EReal) (init : EReal)
    (b : Fin 64) (j : Fin 2) (g : Fin 8) (r : Fin 128) :
    Ideal.hostReduceAdd h v init (ix5 (0 : Fin 1) b j g r) = init + ∑ s : Fin 257, v (ix6 (0 : Fin 1) b j g r s) := by
  refine congrArg (init + ·) (Finset.sum_filter_eq_sum_of_fiber _ (fun s : Fin 257 => ix6 (0 : Fin 1) b j g r s)
    (fun _ _ e => congrFun e 5) (fun i => ?_) v)
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The largest along the last axis. -/
theorem max_last (h : S1x64x2x8x128x257.ReducesTo [5] S1x64x2x8x128) (v : S1x64x2x8x128x257.Idx → EReal) (init : EReal)
    (b : Fin 64) (j : Fin 2) (g : Fin 8) (r : Fin 128) :
    Finset.fold max init v (Finset.univ.filter fun i => h.drop i = ix5 (0 : Fin 1) b j g r)
      = Finset.fold max init (fun s : Fin 257 => v (ix6 (0 : Fin 1) b j g r s)) Finset.univ := by
  refine Finset.fold_filter_eq_fold_of_fiber max _ (fun s : Fin 257 => ix6 (0 : Fin 1) b j g r s)
    (fun _ _ e => congrFun e 5) (fun i => ?_) init v
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- A sum along two axes of one entry each. -/
theorem sum_ones (h : S1x64x2x8x128x1.ReducesTo [0, 5] S64x2x8x128) (v : S1x64x2x8x128x1.Idx → EReal) (init : EReal)
    (b : Fin 64) (j : Fin 2) (g : Fin 8) (r : Fin 128) :
    Ideal.hostReduceAdd h v init (ix4 b j g r) = init + v (ix6 (0 : Fin 1) b j g r (0 : Fin 1)) := by
  refine congrArg (init + ·) ((Finset.sum_filter_eq_sum_of_fiber _ (fun _ : Fin 1 => ix6 (0 : Fin 1) b j g r (0 : Fin 1))
    (fun _ _ _ => Subsingleton.elim _ _) (fun i => ?_) v).trans (Fin.sum_univ_one _))
  constructor
  · intro e
    refine ⟨0, ?_⟩
    funext a; apply Fin.ext
    match a with
    | ⟨0, h0⟩ => exact (Nat.lt_one_iff.mp (i ⟨0, h0⟩).isLt).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, h5⟩ => exact (Nat.lt_one_iff.mp (i ⟨5, h5⟩).isLt).symm
  · rintro ⟨k, rfl⟩
    funext a; apply Fin.ext
    match a with
    | ⟨0, _⟩ => rfl
    | ⟨1, _⟩ => rfl
    | ⟨2, _⟩ => rfl
    | ⟨3, _⟩ => rfl

/-- A sum over the blocks and their rows. -/
theorem sum_rows (h : S1x64x2x8x128x1.ReducesTo [0, 1, 4, 5] S2x8) (v : S1x64x2x8x128x1.Idx → EReal) (init : EReal)
    (j : Fin 2) (g : Fin 8) :
    Ideal.hostReduceAdd h v init (ix2 j g) = init + ∑ b : Fin 64, ∑ r : Fin 128, v (ix6 (0 : Fin 1) b j g r (0 : Fin 1)) := by
  refine congrArg (init + ·) ((Finset.sum_filter_eq_sum_of_fiber _ (fun p : Fin 64 × Fin 128 => ix6 (0 : Fin 1) p.1 j g p.2 (0 : Fin 1))
    (fun _ _ e => Prod.ext (congrFun e 1) (congrFun e 4)) (fun i => ?_) v).trans (by simp only [Fintype.sum_prod_type]))
  constructor
  · intro e
    refine ⟨(i 1, i 4), ?_⟩
    funext a; apply Fin.ext
    match a with
    | ⟨0, h0⟩ => exact (Nat.lt_one_iff.mp (i ⟨0, h0⟩).isLt).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, h5⟩ => exact (Nat.lt_one_iff.mp (i ⟨5, h5⟩).isLt).symm
  · rintro ⟨k, rfl⟩
    funext a; apply Fin.ext
    match a with
    | ⟨0, _⟩ => rfl
    | ⟨1, _⟩ => rfl

/-! ## The softmax's pieces, over any arrays -/

/-- A number per query row spread along the key rows. -/
theorem spread (z : FVec Ideal S1x64x2x8x128x1 .f32) (b : Fin 64) (j : Fin 2) (g : Fin 8) (r : Fin 128) (s : Fin 257) :
    broadcastInDim S1x64x2x8x128x257 ![0, 1, 2, 3, 4, 5] bcast_S1x64x2x8x128x1_S1x64x2x8x128x257_0_1_2_3_4_5 z (ix6 (0 : Fin 1) b j g r s)
      = z (ix6 (0 : Fin 1) b j g r (0 : Fin 1)) := by
  pointwise []

/-- The exponentials of scores less their row's largest. -/
theorem exps_at (w : FVec Ideal S1x64x2x8x128x257 .f32) (u : FVec Ideal S1x64x2x8x128 .f32)
    (b : Fin 64) (j : Fin 2) (g : Fin 8) (r : Fin 128) (s : Fin 257) :
    Host.exp (subf w (broadcastInDim S1x64x2x8x128x257 ![0, 1, 2, 3, 4, 5] bcast_S1x64x2x8x128x1_S1x64x2x8x128x257_0_1_2_3_4_5 (broadcastInDim S1x64x2x8x128x1 ![0, 1, 2, 3, 4] bcast_S1x64x2x8x128_S1x64x2x8x128x1_0_1_2_3_4 (maximumf (broadcastInDim S1x64x2x8x128 ![] bcast_S_S1x64x2x8x128 (constant S_ .f32 0xFF800000#32)) u))))
        (ix6 (0 : Fin 1) b j g r s)
      = Ideal.exp (w (ix6 (0 : Fin 1) b j g r s) - max (Ideal.ofBits .f32 4286578688#32) (u (ix5 (0 : Fin 1) b j g r))) := by
  pointwise []

/-- Minus the mean: the term the division's denominator puts on every exponential of the row. -/
def negMean (d : FVec Ideal S1x64x2x8x128x257 .f32) (z : FVec Ideal S1x64x2x8x128x1 .f32) (e : FVec Ideal S1x64x2x8x128x257 .f32) :
    FVec Ideal S64x2x8x128 .f32 :=
  Host.reduceAdd (Host.negf (shapeCast _ (Host.reduceAdd (mulf (mulf d (broadcastInDim S1x64x2x8x128x257 ![0, 1, 2, 3, 4, 5] bcast_S1x64x2x8x128x1_S1x64x2x8x128x257_0_1_2_3_4_5 (Host.divf (broadcastInDim S1x64x2x8x128x1 ![] bcast_S_S1x64x2x8x128x1 (constant S_ .f32 0x3F800000#32)) (mulf z z)))) e) (constant S_ .f32 0x00000000#32) reducesTo_S1x64x2x8x128x257_S1x64x2x8x128_d5 h_S_) shapeCasts_S1x64x2x8x128_S1x64x2x8x128x1)) (constant S_ .f32 0x00000000#32) reducesTo_S1x64x2x8x128x1_S64x2x8x128_d0_5 h_S_

theorem negMean_at (d : FVec Ideal S1x64x2x8x128x257 .f32) (z : FVec Ideal S1x64x2x8x128x1 .f32) (e : FVec Ideal S1x64x2x8x128x257 .f32)
    (b : Fin 64) (j : Fin 2) (g : Fin 8) (r : Fin 128) : negMean d z e (ix4 b j g r)
      = -∑ s : Fin 257, d (ix6 (0 : Fin 1) b j g r s) * Ideal.div 1 (z (ix6 (0 : Fin 1) b j g r (0 : Fin 1)) * z (ix6 (0 : Fin 1) b j g r (0 : Fin 1)))
          * e (ix6 (0 : Fin 1) b j g r s) := by
  unfold negMean
  pointwise []
  rw [sum_ones]
  pointwise []
  rw [sum_last]
  pointwise []

/-- The cotangents of the scores before the mask. -/
theorem cot_at (d : FVec Ideal S1x64x2x8x128x257 .f32) (z : FVec Ideal S1x64x2x8x128x1 .f32) (n : FVec Ideal S64x2x8x128 .f32) (e : FVec Ideal S1x64x2x8x128x257 .f32)
    (b : Fin 64) (j : Fin 2) (g : Fin 8) (r : Fin 128) (s : Fin 257) :
    mulf (addf (Host.divf d (broadcastInDim S1x64x2x8x128x257 ![0, 1, 2, 3, 4, 5] bcast_S1x64x2x8x128x1_S1x64x2x8x128x257_0_1_2_3_4_5 z)) (broadcastInDim S1x64x2x8x128x257 ![0, 1, 2, 3, 4] bcast_S1x64x2x8x128_S1x64x2x8x128x257_0_1_2_3_4 (broadcastInDim S1x64x2x8x128 ![1, 2, 3, 4] bcast_S64x2x8x128_S1x64x2x8x128_1_2_3_4 n))) e
        (ix6 (0 : Fin 1) b j g r s)
      = (Ideal.div (d (ix6 (0 : Fin 1) b j g r s)) (z (ix6 (0 : Fin 1) b j g r (0 : Fin 1))) + n (ix4 b j g r)) * e (ix6 (0 : Fin 1) b j g r s) := by
  pointwise []

variable (V : Valuation τ sig (Elt Ideal))

/-! ## The program's arrays by name -/

/-- The cosines by row and frequency. -/
abbrev cosT : FVec Ideal S1x8192x1x32 .f32 := res_main_v23 V
/-- The sines. -/
abbrev sinT : FVec Ideal S1x8192x1x32 .f32 := res_main_v25 V
/-- The cosines, as the keys take them. -/
abbrev cosU : FVec Ideal S1x8192x1x32 .f32 := res_main_v53 V
/-- The sines, as the keys take them. -/
abbrev sinU : FVec Ideal S1x8192x1x32 .f32 := res_main_v55 V
/-- The rotated queries. -/
abbrev rq : FVec Ideal S1x64x128x2x8x64 .f32 := res_main_v70 V
/-- The rotated keys. -/
abbrev rk : FVec Ideal S1x64x128x2x64 .f32 := res_main_v71 V
/-- The keys of each block and the one before. -/
abbrev kx : FVec Ideal S1x64x256x2x64 .f32 := res_main_v77 V
/-- The values. -/
abbrev vr : FVec Ideal S1x64x128x2x64 .f32 := res_main_v78 V
/-- The values of each block and the one before. -/
abbrev vx : FVec Ideal S1x64x256x2x64 .f32 := res_main_v84 V
/-- The masked scores and the sink. -/
abbrev score : FVec Ideal S1x64x2x8x128x257 .f32 := res_main_v123 V
/-- Their largest. -/
abbrev top : FVec Ideal S1x64x2x8x128 .f32 := res_main_v124 V
/-- Their exponentials. -/
abbrev ex : FVec Ideal S1x64x2x8x128x257 .f32 := res_main_v144 V
/-- The normaliser. -/
abbrev nm : FVec Ideal S1x64x2x8x128x1 .f32 := res_main_v146 V
/-- The probabilities. -/
abbrev pb : FVec Ideal S1x64x2x8x128x256 .f32 := res_main_v152 V
/-- The cotangents of the output. -/
abbrev ct : FVec Ideal S1x64x2x64x8x128 .f32 := res_main_v158 V
/-- The gradient of each block's value rows. -/
abbrev gv : FVec Ideal S1x64x256x2x64 .f32 := res_main_v161 V
/-- The cotangents of the probabilities. -/
abbrev gp : FVec Ideal S1x64x2x8x128x257 .f32 := res_main_v162 V
/-- The cotangents of the scores before the mask. -/
abbrev gs : FVec Ideal S1x64x2x8x128x257 .f32 := res_main_v175 V
/-- The cotangents of the products. -/
abbrev gm : FVec Ideal S1x64x2x256x128x8 .f32 := res_main_v184 V
/-- The gradient of each block's key rows. -/
abbrev gk : FVec Ideal S1x64x256x2x64 .f32 := res_main_v188 V
/-- The gradient of the rotated keys. -/
abbrev gkr : FVec Ideal S1x8192x2x64 .f32 := res_main_v202 V
/-- The gradient of the rotated queries. -/
abbrev gqr : FVec Ideal S1x8192x16x64 .f32 := res_main_v203 V

/-! ## Each array at an entry -/

theorem cosT_at (r : Fin 8192) (l : Fin 32) : cosT V (ix4 (0 : Fin 1) r (0 : Fin 1) l) = Ideal.cos (Attn.angle r l) := by
  show res_main_v23 V _ = _
  pointwise [res_main_v23, res_main_v21, res_main_v8]
  rfl

theorem sinT_at (r : Fin 8192) (l : Fin 32) : sinT V (ix4 (0 : Fin 1) r (0 : Fin 1) l) = Ideal.sin (Attn.angle r l) := by
  show res_main_v25 V _ = _
  pointwise [res_main_v25, res_main_v21, res_main_v8]
  rfl

theorem cosU_at (r : Fin 8192) (l : Fin 32) : cosU V (ix4 (0 : Fin 1) r (0 : Fin 1) l) = Ideal.cos (Attn.angle r l) := by
  show res_main_v53 V _ = _
  pointwise [res_main_v53, res_main_v51, res_main_v8]
  rfl

theorem sinU_at (r : Fin 8192) (l : Fin 32) : sinU V (ix4 (0 : Fin 1) r (0 : Fin 1) l) = Ideal.sin (Attn.angle r l) := by
  show res_main_v55 V _ = _
  pointwise [res_main_v55, res_main_v51, res_main_v8]
  rfl

/-- The arguments by row and column. -/
def argA (r : Fin 8192) (k : Fin 4352) : EReal := V (Proc.devRef .tc main_arg0) (ix2 r k)
@[inherit_doc argA] def argD (r : Fin 8192) (k : Fin 2048) : EReal := V (Proc.devRef .tc main_arg1) (ix2 r k)
@[inherit_doc argA] def argS (k : Fin 16) : EReal := V (Proc.devRef .tc main_arg2) (ix2 (0 : Fin 1) k)

theorem rq_at (b : Fin 64) (r : Fin 128) (j : Fin 2) (g : Fin 8) (l : Fin 64) : rq V (ix6 (0 : Fin 1) b r j g l)
    = if h : (l : ℕ) < 32 then
        argA V ⟨b * 128 + r, by omega⟩ ⟨(j * 8 + g) * 64 + l, by omega⟩ * Ideal.cos (Attn.angle (b * 128 + r) l)
          - argA V ⟨b * 128 + r, by omega⟩ ⟨(j * 8 + g) * 64 + (32 + l), by omega⟩ * Ideal.sin (Attn.angle (b * 128 + r) l)
      else
        argA V ⟨b * 128 + r, by omega⟩ ⟨(j * 8 + g) * 64 + (32 + (l - 32)), by omega⟩ * Ideal.cos (Attn.angle (b * 128 + r) (l - 32))
          + argA V ⟨b * 128 + r, by omega⟩ ⟨(j * 8 + g) * 64 + (l - 32), by omega⟩ * Ideal.sin (Attn.angle (b * 128 + r) (l - 32)) := by
  show res_main_v70 V _ = _
  have hc := cosT_at V
  have hs := sinT_at V
  dsimp only [cosT, sinT] at hc hs
  pointwise [res_main_v70, res_main_v26, res_main_v27, res_main_v9, res_main_v1, hc, hs]
  rfl

theorem rk_at (b : Fin 64) (r : Fin 128) (j : Fin 2) (l : Fin 64) : rk V (ix5 (0 : Fin 1) b r j l)
    = if h : (l : ℕ) < 32 then
        argA V ⟨b * 128 + r, by omega⟩ ⟨1024 + (j * 64 + l), by omega⟩ * Ideal.cos (Attn.angle (b * 128 + r) l)
          - argA V ⟨b * 128 + r, by omega⟩ ⟨1024 + (j * 64 + (32 + l)), by omega⟩ * Ideal.sin (Attn.angle (b * 128 + r) l)
      else
        argA V ⟨b * 128 + r, by omega⟩ ⟨1024 + (j * 64 + (32 + (l - 32))), by omega⟩ * Ideal.cos (Attn.angle (b * 128 + r) (l - 32))
          + argA V ⟨b * 128 + r, by omega⟩ ⟨1024 + (j * 64 + (l - 32)), by omega⟩ * Ideal.sin (Attn.angle (b * 128 + r) (l - 32)) := by
  show res_main_v71 V _ = _
  have hc := cosU_at V
  have hs := sinU_at V
  dsimp only [cosU, sinU] at hc hs
  pointwise [res_main_v71, res_main_v56, res_main_v57, res_main_v39, res_main_v1, hc, hs]
  rfl

theorem kx_at (b : Fin 64) (s : Fin 256) (j : Fin 2) (l : Fin 64) : kx V (ix5 (0 : Fin 1) b s j l)
    = if h : (s : ℕ) < 128 then
        if h' : (b : ℕ) < 1 then 0 else rk V (ix5 (0 : Fin 1) (⟨b - 1, by omega⟩ : Fin 64) (⟨s, h⟩ : Fin 128) j l)
      else rk V (ix5 (0 : Fin 1) b (⟨s - 128, by omega⟩ : Fin 128) j l) := by
  show res_main_v77 V _ = _
  unfold res_main_v77 rk
  generalize res_main_v71 V = w
  pointwise []

theorem vr_at (b : Fin 64) (r : Fin 128) (j : Fin 2) (l : Fin 64) : vr V (ix5 (0 : Fin 1) b r j l)
    = argA V ⟨b * 128 + r, by omega⟩ ⟨1152 + (j * 64 + l), by omega⟩ := by
  show res_main_v78 V _ = _
  pointwise [res_main_v78, res_main_v1]
  rfl

theorem vx_at (b : Fin 64) (s : Fin 256) (j : Fin 2) (l : Fin 64) : vx V (ix5 (0 : Fin 1) b s j l)
    = if h : (s : ℕ) < 128 then
        if h' : (b : ℕ) < 1 then 0 else vr V (ix5 (0 : Fin 1) (⟨b - 1, by omega⟩ : Fin 64) (⟨s, h⟩ : Fin 128) j l)
      else vr V (ix5 (0 : Fin 1) b (⟨s - 128, by omega⟩ : Fin 128) j l) := by
  show res_main_v84 V _ = _
  unfold res_main_v84 vr
  generalize res_main_v78 V = w
  pointwise []

/-- The mask as a word. -/
abbrev mask : S1x64x2x8x128x256.Idx → BitVec 1 := res_main_v120_1 V

/-- A row is within the window of the query's. -/
theorem near : ∀ (r : Fin 128) (s : Fin 256),
    IntOp.andi
        (IntOp.cmpi CmpIPredicate.sge (IntOp.subi (IntOp.addi (128#32) (BitVec.ofNat 32 r)) (BitVec.ofNat 32 s)) 0#32)
        (IntOp.cmpi CmpIPredicate.slt (IntOp.subi (IntOp.addi (128#32) (BitVec.ofNat 32 r)) (BitVec.ofNat 32 s)) 128#32)
      = BitVec.ofBool (decide ((r : ℕ) < s ∧ (s : ℕ) ≤ r + 128)) := by
  decide +kernel

/-- A row is not before the start. -/
theorem inside : ∀ (b : Fin 64) (s : Fin 256),
    IntOp.cmpi CmpIPredicate.sge
        (IntOp.addi (IntOp.muli (IntOp.subi (BitVec.ofNat 32 b) 1#32) 128#32) (BitVec.ofNat 32 s)) 0#32
      = BitVec.ofBool (decide (128 ≤ (s : ℕ) ∨ 0 < (b : ℕ))) := by
  decide +kernel

theorem mask_at (b : Fin 64) (j : Fin 2) (g : Fin 8) (r : Fin 128) (s : Fin 256) : mask V (ix6 (0 : Fin 1) b j g r s)
    = BitVec.ofBool (decide (Attn.valid b r s)) := by
  show res_main_v120_1 V _ = _
  pointwise [res_main_v120_1, res_main_v97, res_main_v92]
  rw [near, inside]
  unfold Attn.valid
  by_cases h1 : (r : ℕ) < s ∧ (s : ℕ) ≤ r + 128 <;> by_cases h2 : 128 ≤ (s : ℕ) ∨ 0 < (b : ℕ)
  · rw [decide_eq_true h1, decide_eq_true h2, decide_eq_true (⟨h1.1, h1.2, h2⟩ : Attn.valid b r s)]; rfl
  · rw [decide_eq_true h1, decide_eq_false h2, decide_eq_false (fun h : Attn.valid b r s => h2 h.2.2)]; rfl
  · rw [decide_eq_false h1, decide_eq_true h2, decide_eq_false (fun h : Attn.valid b r s => h1 ⟨h.1, h.2.1⟩)]; rfl
  · rw [decide_eq_false h1, decide_eq_false h2, decide_eq_false (fun h : Attn.valid b r s => h1 ⟨h.1, h.2.1⟩)]; rfl

theorem score_at (b : Fin 64) (j : Fin 2) (g : Fin 8) (r : Fin 128) (s : Fin 257) : score V (ix6 (0 : Fin 1) b j g r s)
    = if h : (s : ℕ) < 256 then
        Scalar.select (mask V (ix6 (0 : Fin 1) b j g r (⟨s, h⟩ : Fin 256)))
          ((∑ l : Fin 64, kx V (ix5 (0 : Fin 1) b (⟨s, h⟩ : Fin 256) j l) * rq V (ix6 (0 : Fin 1) b r j g l)) * Ideal.ofBits .f32 1040187392#32)
          (Ideal.ofBits .f32 4286578688#32)
      else argS V ⟨j * 8 + g, by omega⟩ := by
  show res_main_v123 V _ = _
  unfold res_main_v123 mask kx rq argS
  generalize res_main_v77 V = k
  generalize res_main_v70 V = q
  generalize res_main_v120_1 V = t
  pointwise []
  rfl

theorem ex_at (b : Fin 64) (j : Fin 2) (g : Fin 8) (r : Fin 128) (s : Fin 257) : ex V (ix6 (0 : Fin 1) b j g r s)
    = Ideal.exp (score V (ix6 (0 : Fin 1) b j g r s) - max (Ideal.ofBits .f32 4286578688#32) (top V (ix5 (0 : Fin 1) b j g r))) :=
  exps_at (score V) (top V) b j g r s

theorem top_at (b : Fin 64) (j : Fin 2) (g : Fin 8) (r : Fin 128) : top V (ix5 (0 : Fin 1) b j g r)
    = Finset.fold max (Ideal.ofBits .f32 4286578688#32) (fun s : Fin 257 => score V (ix6 (0 : Fin 1) b j g r s)) Finset.univ := by
  show res_main_v124 V _ = _
  unfold res_main_v124 score
  generalize res_main_v123 V = w
  pointwise []
  exact max_last _ w _ b j g r

theorem nm_at (b : Fin 64) (j : Fin 2) (g : Fin 8) (r : Fin 128) : nm V (ix6 (0 : Fin 1) b j g r (0 : Fin 1))
    = ∑ s : Fin 257, ex V (ix6 (0 : Fin 1) b j g r s) := by
  show res_main_v146 V _ = _
  unfold res_main_v146 ex
  generalize res_main_v144 V = w
  pointwise []
  rw [sum_last, zero_add]

theorem pb_at (b : Fin 64) (j : Fin 2) (g : Fin 8) (r : Fin 128) (s : Fin 256) : pb V (ix6 (0 : Fin 1) b j g r s)
    = Ideal.div (ex V (ix6 (0 : Fin 1) b j g r (⟨s, by omega⟩ : Fin 257))) (nm V (ix6 (0 : Fin 1) b j g r (0 : Fin 1))) := by
  show res_main_v152 V _ = _
  unfold res_main_v152 ex nm
  generalize res_main_v144 V = w
  generalize res_main_v146 V = z
  pointwise []

theorem ct_at (b : Fin 64) (j : Fin 2) (l : Fin 64) (g : Fin 8) (r : Fin 128) : ct V (ix6 (0 : Fin 1) b j l g r)
    = argD V ⟨b * 128 + r, by omega⟩ ⟨j * 512 + g * 64 + l, by omega⟩ := by
  show res_main_v158 V _ = _
  pointwise [res_main_v158]
  rfl

theorem gv_at (b : Fin 64) (s : Fin 256) (j : Fin 2) (l : Fin 64) : gv V (ix5 (0 : Fin 1) b s j l)
    = ∑ g : Fin 8, ∑ r : Fin 128, ct V (ix6 (0 : Fin 1) b j l g r) * pb V (ix6 (0 : Fin 1) b j g r s) := by
  show res_main_v161 V _ = _
  unfold res_main_v161 ct pb
  generalize res_main_v158 V = w
  generalize res_main_v152 V = z
  pointwise []

theorem gp_at (b : Fin 64) (j : Fin 2) (g : Fin 8) (r : Fin 128) (s : Fin 257) : gp V (ix6 (0 : Fin 1) b j g r s)
    = if h : (s : ℕ) < 256 then
        ∑ l : Fin 64, ct V (ix6 (0 : Fin 1) b j l g r) * vx V (ix5 (0 : Fin 1) b (⟨s, h⟩ : Fin 256) j l)
      else 0 := by
  show res_main_v162 V _ = _
  unfold res_main_v162 ct vx
  generalize res_main_v158 V = w
  generalize res_main_v84 V = z
  pointwise []

theorem gs_at (b : Fin 64) (j : Fin 2) (g : Fin 8) (r : Fin 128) (s : Fin 257) : gs V (ix6 (0 : Fin 1) b j g r s)
    = (Ideal.div (gp V (ix6 (0 : Fin 1) b j g r s)) (nm V (ix6 (0 : Fin 1) b j g r (0 : Fin 1)))
        + -∑ s : Fin 257, gp V (ix6 (0 : Fin 1) b j g r s)
          * Ideal.div 1 (nm V (ix6 (0 : Fin 1) b j g r (0 : Fin 1)) * nm V (ix6 (0 : Fin 1) b j g r (0 : Fin 1)))
          * ex V (ix6 (0 : Fin 1) b j g r s)) * ex V (ix6 (0 : Fin 1) b j g r s) := by
  refine (cot_at (gp V) (nm V) (negMean (gp V) (nm V) (ex V)) (ex V) b j g r s).trans ?_
  rw [negMean_at]

theorem gm_at (b : Fin 64) (j : Fin 2) (s : Fin 256) (r : Fin 128) (g : Fin 8) : gm V (ix6 (0 : Fin 1) b j s r g)
    = Scalar.select (mask V (ix6 (0 : Fin 1) b j g r s)) (gs V (ix6 (0 : Fin 1) b j g r (⟨s, by omega⟩ : Fin 257)) * Ideal.ofBits .f32 1040187392#32) 0 := by
  show res_main_v184 V _ = _
  unfold res_main_v184 mask gs
  generalize res_main_v120_1 V = w
  generalize res_main_v175 V = z
  pointwise []

theorem gk_at (b : Fin 64) (s : Fin 256) (j : Fin 2) (l : Fin 64) : gk V (ix5 (0 : Fin 1) b s j l)
    = ∑ r : Fin 128, ∑ g : Fin 8, gm V (ix6 (0 : Fin 1) b j s r g) * rq V (ix6 (0 : Fin 1) b r j g l) := by
  show res_main_v188 V _ = _
  unfold res_main_v188 gm rq
  generalize res_main_v184 V = w
  generalize res_main_v70 V = z
  pointwise []

theorem gkr_at (R : Fin 8192) (j : Fin 2) (l : Fin 64) : gkr V (ix4 (0 : Fin 1) R j l)
    = gk V (ix5 (0 : Fin 1) (⟨R / 128, by omega⟩ : Fin 64) (⟨128 + R % 128, by omega⟩ : Fin 256) j l)
      + if h : (R : ℕ) / 128 < 63 ∧ (R : ℕ) % 128 < 128 then
          gk V (ix5 (0 : Fin 1) (⟨1 + R / 128, by omega⟩ : Fin 64) (⟨R % 128, by omega⟩ : Fin 256) j l)
        else 0 := by
  show res_main_v202 V _ = _
  unfold res_main_v202 res_main_v196 gk
  generalize res_main_v188 V = w
  pointwise []

theorem gqr_at (R : Fin 8192) (h : Fin 16) (l : Fin 64) : gqr V (ix4 (0 : Fin 1) R h l)
    = ∑ s : Fin 256, gm V (ix6 (0 : Fin 1) (⟨R / 128, by omega⟩ : Fin 64) (⟨h / 8, by omega⟩ : Fin 2) s (⟨R % 128, by omega⟩ : Fin 128) (⟨h % 8, by omega⟩ : Fin 8))
        * kx V (ix5 (0 : Fin 1) (⟨R / 128, by omega⟩ : Fin 64) s (⟨h / 8, by omega⟩ : Fin 2) l) := by
  show res_main_v203 V _ = _
  unfold res_main_v203 gm kx
  generalize res_main_v184 V = w
  generalize res_main_v77 V = z
  pointwise []

end Cert.ReferenceIdeal.Grad

end
-- ==== Proof.RefReal.lean ====
/-
  The reference's arrays over the extended reals, when the arguments it reads are real: the gradients of
  `Proof/Spec.lean`.
-/
module

public import proofs.«01_k».proof.Proof.RefRead

@[expose] public section

set_option maxRecDepth 16384

noncomputable section

namespace Cert.ReferenceIdeal.Grad

open Cert.ReferenceIdeal Cert.ReferenceIdeal.Gen Cert.ReferenceIdeal.Value Idealize.ShloMosaic Idealize.ShloMosaic.TcCoe
open Cert.Attn

variable (V : Valuation τ sig (Elt Ideal))

/-- The real problem. -/
def theWorld : World := world (argA V) (argD V) (argS V)

/-- Block `b` as the reference cuts it: no keys or values before the first block. -/
def blk (b : ℕ) : Blk where
  nb := b
  q := ((theWorld V).blk b).q
  k j s l := if b < 1 ∧ s < 128 then 0 else ((theWorld V).blk b).k j s l
  v j s l := if b < 1 ∧ s < 128 then 0 else ((theWorld V).blk b).v j s l
  d := ((theWorld V).blk b).d
  s := ((theWorld V).blk b).s

/-- No query sees what the two cuts differ in. -/
theorem agree (b : ℕ) : Agree (blk V b) ((theWorld V).blk b) where
  nb := rfl
  q := rfl
  d := rfl
  s := rfl
  k r j s l h := if_neg fun e => by have := h.2.2; change 128 ≤ s ∨ 0 < b at this; omega
  v r j s l h := if_neg fun e => by have := h.2.2; change 128 ≤ s ∨ 0 < b at this; omega

theorem cosW (r l : ℕ) : Ideal.cos (angle r l) = (((theWorld V).C r l : ℝ) : EReal) :=
  cos_angle (argA V) (argD V) (argS V) r l

theorem sinW (r l : ℕ) : Ideal.sin (angle r l) = (((theWorld V).N r l : ℝ) : EReal) :=
  sin_angle (argA V) (argD V) (argS V) r l

theorem select_bool {α : Type} (p : Prop) [Decidable p] (a b : α) :
    Scalar.select (BitVec.ofBool (decide p)) a b = if p then a else b := by
  by_cases h : p <;> simp [h, Scalar.select]

variable {V} (H : Finite (argA V) (argD V) (argS V))
include H

theorem aW {r r' k k' : ℕ} (hr : r < 8192) (hk : k < 4352) (h : k < 1280) (er : r = r') (e : k = k') :
    argA V ⟨r, hr⟩ ⟨k, hk⟩ = (((theWorld V).A r' k' : ℝ) : EReal) := by
  subst er e; exact H.a_eq ⟨r, hr⟩ ⟨k, hk⟩ h

theorem dW {r r' k k' : ℕ} (hr : r < 8192) (hk : k < 2048) (h : k < 1024) (er : r = r') (e : k = k') :
    argD V ⟨r, hr⟩ ⟨k, hk⟩ = (((theWorld V).D r' k' : ℝ) : EReal) := by
  subst er e; exact H.d_eq ⟨r, hr⟩ ⟨k, hk⟩ h

/-- The rotated queries. -/
theorem rq_real (b : Fin 64) (r : Fin 128) (j : Fin 2) (g : Fin 8) (l : Fin 64) : rq V (ix6 (0 : Fin 1) b r j g l)
    = (((blk V b).q (8 * j + g) r l : ℝ) : EReal) := by
  rw [rq_at]
  change _ = (((theWorld V).rot (128 * b + r) (fun l => (theWorld V).A (128 * b + r) (64 * (8 * j + g) + l)) l : ℝ) : EReal)
  unfold World.rot
  have e : (b : ℕ) * 128 + r = 128 * b + r := by omega
  split
  · rw [aW H (r' := 128 * b + r) (k' := 64 * (8 * j + g) + l) _ _ (by omega) e (by omega),
      aW H (r' := 128 * b + r) (k' := 64 * (8 * j + g) + (l + 32)) _ _ (by omega) e (by omega), cosW, sinW, e]
    push_cast
    rfl
  · rw [aW H (r' := 128 * b + r) (k' := 64 * (8 * j + g) + l) _ _ (by omega) e (by omega),
      aW H (r' := 128 * b + r) (k' := 64 * (8 * j + g) + (l - 32)) _ _ (by omega) e (by omega), cosW, sinW, e]
    push_cast
    rfl

/-- The rotated keys. -/
theorem rk_real (b : Fin 64) (r : Fin 128) (j : Fin 2) (l : Fin 64) : rk V (ix5 (0 : Fin 1) b r j l)
    = (((theWorld V).rot (128 * b + r) (fun l => (theWorld V).A (128 * b + r) (1024 + 64 * j + l)) l : ℝ) : EReal) := by
  rw [rk_at]
  unfold World.rot
  have e : (b : ℕ) * 128 + r = 128 * b + r := by omega
  split
  · rw [aW H (r' := 128 * b + r) (k' := 1024 + 64 * j + l) _ _ (by omega) e (by omega),
      aW H (r' := 128 * b + r) (k' := 1024 + 64 * j + (l + 32)) _ _ (by omega) e (by omega), cosW, sinW, e]
    push_cast
    rfl
  · rw [aW H (r' := 128 * b + r) (k' := 1024 + 64 * j + l) _ _ (by omega) e (by omega),
      aW H (r' := 128 * b + r) (k' := 1024 + 64 * j + (l - 32)) _ _ (by omega) e (by omega), cosW, sinW, e]
    push_cast
    rfl

/-- The keys a block's queries may see. -/
theorem kx_real (b : Fin 64) (s : Fin 256) (j : Fin 2) (l : Fin 64) : kx V (ix5 (0 : Fin 1) b s j l)
    = (((blk V b).k j s l : ℝ) : EReal) := by
  have e (h : ¬((b : ℕ) < 1 ∧ (s : ℕ) < 128)) : (blk V b).k j s l
      = (theWorld V).rot (World.keyRow b s) (fun l => (theWorld V).A (World.keyRow b s) (1024 + 64 * j + l)) l := if_neg h
  rw [kx_at]
  split
  · next h =>
    split
    · next h' => rw [show (blk V b).k j s l = 0 from if_pos ⟨h', h⟩]; rfl
    · next h' =>
      rw [rk_real H, e (fun h'' => h' h''.1), World.keyRow, if_pos h]
  · next h =>
    rw [rk_real H, e (fun h'' => h h''.2), World.keyRow, if_neg h]

/-- The values a block's queries may see. -/
theorem vx_real (b : Fin 64) (s : Fin 256) (j : Fin 2) (l : Fin 64) : vx V (ix5 (0 : Fin 1) b s j l)
    = (((blk V b).v j s l : ℝ) : EReal) := by
  have e (h : ¬((b : ℕ) < 1 ∧ (s : ℕ) < 128)) : (blk V b).v j s l
      = (theWorld V).A (World.keyRow b s) (1152 + 64 * j + l) := if_neg h
  rw [vx_at]
  split
  · next h =>
    split
    · next h' => rw [show (blk V b).v j s l = 0 from if_pos ⟨h', h⟩]; rfl
    · next h' =>
      rw [vr_at, e (fun h'' => h' h''.1), World.keyRow, if_pos h]
      exact aW H _ _ (by omega) (by dsimp only; omega) (by omega)
  · next h =>
    rw [vr_at, e (fun h'' => h h''.2), World.keyRow, if_neg h]
    exact aW H _ _ (by omega) (by dsimp only; omega) (by omega)

/-- The cotangents of the output. -/
theorem ct_real (b : Fin 64) (j : Fin 2) (l : Fin 64) (g : Fin 8) (r : Fin 128) : ct V (ix6 (0 : Fin 1) b j l g r)
    = (((blk V b).d (8 * j + g) r l : ℝ) : EReal) := by
  rw [ct_at]
  exact dW H _ _ (by omega) (by omega) (by omega)

/-- The scores, −∞ where the mask is, and the sink in the last place. -/
theorem score_real (b : Fin 64) (j : Fin 2) (g : Fin 8) (r : Fin 128) (s : Fin 257) : score V (ix6 (0 : Fin 1) b j g r s)
    = if (s : ℕ) < 256 then if valid b r s then (((blk V b).sc (8 * j + g) r s : ℝ) : EReal) else ⊥
      else (((theWorld V).S (8 * j + g) : ℝ) : EReal) := by
  rw [score_at]
  by_cases h : (s : ℕ) < 256
  · rw [dif_pos h, if_pos h, mask_at, select_bool, lit_bot, lit_eighth]
    simp only [kx_real H, rq_real H, ← EReal.coe_mul, coe_sum]
    refine if_congr Iff.rfl (congrArg _ ?_) rfl
    unfold Blk.sc
    rw [Finset.sum_mul]
    refine Finset.sum_congr rfl fun l _ => ?_
    rw [show (8 * (j : ℕ) + g) / 8 = j by omega]
    ring
  · rw [dif_neg h, if_neg h, H.s_eq]
    exact congrArg (fun n => (((theWorld V).S n : ℝ) : EReal)) (by dsimp only; omega)

/-- The exponentials, up to a common positive factor for each query, which the division takes out. -/
theorem ex_real (b : Fin 64) (j : Fin 2) (g : Fin 8) (r : Fin 128) : ∃ E : ℝ, 0 < E ∧ ∀ s : Fin 257,
    ex V (ix6 (0 : Fin 1) b j g r s)
      = (((if (s : ℕ) < 256 then (blk V b).w (8 * j + g) r s else Real.exp ((blk V b).s (8 * j + g))) * E : ℝ) : EReal) := by
  have hM : ∃ M : ℝ, top V (ix5 (0 : Fin 1) b j g r) = (M : EReal) := by
    rw [top_at, lit_bot]
    refine exists_real ((theWorld V).S (8 * j + g)) ?_ (fold_max_lt _ fun s => ?_)
    · refine (Finset.le_fold_max _).mpr (Or.inr ⟨256, Finset.mem_univ _, ?_⟩)
      rw [score_real H]
      exact le_of_eq (if_neg (by decide)).symm
    · rw [score_real H]
      split
      · split
        · exact EReal.coe_lt_top _
        · exact bot_lt_top
      · exact EReal.coe_lt_top _
  obtain ⟨M, hM⟩ := hM
  refine ⟨Real.exp (-M), Real.exp_pos _, fun s => ?_⟩
  rw [ex_at, hM, lit_bot, score_real H, max_eq_right bot_le]
  by_cases h : (s : ℕ) < 256
  · rw [if_pos h, if_pos h]
    unfold Blk.w
    have hb : (blk V b).nb = b := rfl
    rw [hb]
    split
    · rw [← EReal.coe_sub, Ideal.exp_coe, ← Real.exp_add, sub_eq_add_neg]
    · rw [zero_mul, EReal.bot_sub]; rfl
  · rw [if_neg h, if_neg h, ← EReal.coe_sub, Ideal.exp_coe, ← Real.exp_add, sub_eq_add_neg]
    rfl

omit H in
/-- A sum over the 256 key rows and the sink. -/
theorem sum_sink (f : ℕ → ℝ) (a : ℝ) : ∑ s : Fin 257, (if (s : ℕ) < 256 then f s else a) = ∑ s : Fin 256, f s + a := by
  rw [Fin.sum_univ_castSucc]
  refine congrArg₂ (· + ·) (Finset.sum_congr rfl fun s _ => if_pos s.isLt) (if_neg (by decide))

/-- The normaliser, with the same factor. -/
theorem nm_real (b : Fin 64) (j : Fin 2) (g : Fin 8) (r : Fin 128) {E : ℝ} (he : ∀ s : Fin 257, ex V (ix6 (0 : Fin 1) b j g r s)
      = (((if (s : ℕ) < 256 then (blk V b).w (8 * j + g) r s else Real.exp ((blk V b).s (8 * j + g))) * E : ℝ) : EReal)) :
    nm V (ix6 (0 : Fin 1) b j g r (0 : Fin 1)) = (((blk V b).Z (8 * j + g) r * E : ℝ) : EReal) := by
  rw [nm_at]
  simp only [he, coe_sum]
  rw [← Finset.sum_mul, sum_sink (fun s => (blk V b).w (8 * j + g) r s)]
  rfl

/-- The probabilities. -/
theorem pb_real (b : Fin 64) (j : Fin 2) (g : Fin 8) (r : Fin 128) (s : Fin 256) : pb V (ix6 (0 : Fin 1) b j g r s)
    = (((blk V b).pr (8 * j + g) r s : ℝ) : EReal) := by
  obtain ⟨E, hE, he⟩ := ex_real H b j g r
  have hZ := (blk V b).Z_ne (8 * j + g) r
  rw [pb_at, nm_real H b j g r he, he, Ideal.div_coe (mul_ne_zero hZ hE.ne'), ← EReal.coe_mul, if_pos s.isLt]
  refine congrArg _ ?_
  unfold Blk.pr
  field_simp

/-- The cotangents of the probabilities; the sink's is nothing. -/
theorem gp_real (b : Fin 64) (j : Fin 2) (g : Fin 8) (r : Fin 128) (s : Fin 257) : gp V (ix6 (0 : Fin 1) b j g r s)
    = (((if (s : ℕ) < 256 then (blk V b).dp (8 * j + g) r s else 0) : ℝ) : EReal) := by
  rw [gp_at]
  by_cases h : (s : ℕ) < 256
  · rw [dif_pos h, if_pos h]
    simp only [ct_real H, vx_real H, ← EReal.coe_mul, coe_sum]
    refine congrArg _ ?_
    unfold Blk.dp
    refine Finset.sum_congr rfl fun l _ => ?_
    rw [show (8 * (j : ℕ) + g) / 8 = j by omega]
    ring
  · rw [dif_neg h, if_neg h]; rfl

/-- The cotangents of the scores, and of the sink. -/
theorem gs_real (b : Fin 64) (j : Fin 2) (g : Fin 8) (r : Fin 128) (s : Fin 257) : gs V (ix6 (0 : Fin 1) b j g r s)
    = (((if (s : ℕ) < 256 then (blk V b).ds (8 * j + g) r s else -((blk V b).pe (8 * j + g) r * (blk V b).delta (8 * j + g) r)) : ℝ) : EReal) := by
  obtain ⟨E, hE, he⟩ := ex_real H b j g r
  have hZ := (blk V b).Z_ne (8 * j + g) r
  have hE' := hE.ne'
  rw [gs_at, nm_real H b j g r he]
  simp only [he, gp_real H, ← EReal.coe_mul]
  rw [Ideal.div_coe (mul_ne_zero hZ hE'), Ideal.div_coe (mul_ne_zero (mul_ne_zero hZ hE') (mul_ne_zero hZ hE')), one_mul]
  simp only [← EReal.coe_mul, coe_sum, ← EReal.coe_neg, ← EReal.coe_add]
  have hs : ∑ t : Fin 257, (if (t : ℕ) < 256 then (blk V b).dp (8 * j + g) r t else 0)
        * (1 / ((blk V b).Z (8 * j + g) r * E * ((blk V b).Z (8 * j + g) r * E)))
        * ((if (t : ℕ) < 256 then (blk V b).w (8 * j + g) r t else Real.exp ((blk V b).s (8 * j + g))) * E)
      = (blk V b).delta (8 * j + g) r * (1 / ((blk V b).Z (8 * j + g) r * E)) := by
    obtain ⟨f, hf⟩ : ∃ f : ℕ → ℝ, f = fun t => (blk V b).pr (8 * j + g) r t * (blk V b).dp (8 * j + g) r t * (1 / ((blk V b).Z (8 * j + g) r * E)) := ⟨_, rfl⟩
    have e (t : Fin 257) : (if (t : ℕ) < 256 then (blk V b).dp (8 * j + g) r t else 0)
        * (1 / ((blk V b).Z (8 * j + g) r * E * ((blk V b).Z (8 * j + g) r * E)))
        * ((if (t : ℕ) < 256 then (blk V b).w (8 * j + g) r t else Real.exp ((blk V b).s (8 * j + g))) * E)
        = if (t : ℕ) < 256 then f t else 0 := by
      by_cases h : (t : ℕ) < 256
      · simp only [if_pos h]
        rw [hf]
        unfold Blk.pr
        field_simp
      · simp only [if_neg h, zero_mul]
    refine (Finset.sum_congr rfl fun t _ => e t).trans ?_
    rw [sum_sink f, add_zero, hf, ← Finset.sum_mul]
    rfl
  rw [hs]
  refine congrArg _ ?_
  by_cases h : (s : ℕ) < 256
  · simp only [if_pos h]
    unfold Blk.ds Blk.pr
    field_simp
    ring
  · simp only [if_neg h]
    unfold Blk.pe
    field_simp
    ring

/-- The cotangents of the products of queries and keys. -/
theorem gm_real (b : Fin 64) (j : Fin 2) (s : Fin 256) (r : Fin 128) (g : Fin 8) : gm V (ix6 (0 : Fin 1) b j s r g)
    = (((blk V b).ds (8 * j + g) r s * (1 / 8) : ℝ) : EReal) := by
  rw [gm_at, mask_at, select_bool, lit_eighth, gs_real H, if_pos s.isLt, ← EReal.coe_mul]
  split
  · rfl
  · next h => rw [(blk V b).ds_of_not (h := 8 * j + g) (r := r) (s := s) h, zero_mul]; rfl

/-- What a block's queries give its key rows. -/
theorem gk_real (b : Fin 64) (s : Fin 256) (j : Fin 2) (l : Fin 64) : gk V (ix5 (0 : Fin 1) b s j l)
    = ((((theWorld V).blk b).dk j s l : ℝ) : EReal) := by
  rw [gk_at]
  simp only [gm_real H, rq_real H, ← EReal.coe_mul, coe_sum]
  refine congrArg _ ?_
  rw [← (agree V b).dk_eq, Finset.sum_comm]
  unfold Blk.dk
  refine Finset.sum_congr rfl fun g _ => Finset.sum_congr rfl fun r _ => ?_
  ring

/-- What a block's queries give its value rows. -/
theorem gv_real (b : Fin 64) (s : Fin 256) (j : Fin 2) (l : Fin 64) : gv V (ix5 (0 : Fin 1) b s j l)
    = ((((theWorld V).blk b).dv j s l : ℝ) : EReal) := by
  rw [gv_at]
  simp only [pb_real H, ct_real H, ← EReal.coe_mul, coe_sum]
  refine congrArg _ ?_
  rw [← (agree V b).dv_eq]
  unfold Blk.dv
  refine Finset.sum_congr rfl fun g _ => Finset.sum_congr rfl fun r _ => ?_
  ring

/-- The gradient of the rotated keys. -/
theorem gkr_real (R : Fin 8192) (j : Fin 2) (l : Fin 64) : gkr V (ix4 (0 : Fin 1) R j l)
    = ((((theWorld V).blk (R / 128)).dk j (128 + R % 128) l + (theWorld V).ck (R / 128) j (R % 128) l : ℝ) : EReal) := by
  rw [gkr_at, gk_real H, EReal.coe_add]
  refine congrArg _ ?_
  unfold World.ck
  by_cases h : (R : ℕ) / 128 < 63
  · rw [dif_pos ⟨h, by omega⟩, if_pos h, gk_real H]
    dsimp only
    rw [Nat.add_comm 1]
  · rw [dif_neg (fun e => h e.1), if_neg h]; rfl

/-- The gradient of the rotated queries. -/
theorem gqr_real (R : Fin 8192) (h : Fin 16) (l : Fin 64) : gqr V (ix4 (0 : Fin 1) R h l)
    = ((((theWorld V).blk (R / 128)).dq h (R % 128) l : ℝ) : EReal) := by
  rw [gqr_at]
  simp only [gm_real H, kx_real H, ← EReal.coe_mul, coe_sum]
  refine congrArg _ ?_
  rw [← (agree V (R / 128)).dq_eq]
  unfold Blk.dq
  rw [Finset.sum_mul]
  refine Finset.sum_congr rfl fun s _ => ?_
  rw [show 8 * ((h : ℕ) / 8) + h % 8 = h by omega]
  ring

/-! ## The results -/

omit H in
/-- The queries' gradient turned back by the angles. -/
theorem unrope_queries (q : FVec Ideal S1x8192x16x64 .f32) (co si : FVec Ideal S1x8192x1x32 .f32) (R : Fin 8192) (k : Fin 1024) (f : ℕ → ℝ)
    (hq : ∀ l : Fin 64, q (ix4 (0 : Fin 1) R (⟨k / 64, by omega⟩ : Fin 16) l) = ((f l : ℝ) : EReal))
    (hc : ∀ l : Fin 32, co (ix4 (0 : Fin 1) R (0 : Fin 1) l) = (((theWorld V).C R l : ℝ) : EReal))
    (hs : ∀ l : Fin 32, si (ix4 (0 : Fin 1) R (0 : Fin 1) l) = (((theWorld V).N R l : ℝ) : EReal)) :
    (truncf .bf16 (shapeCast _ (shapeCast _ (addf (pad S1x8192x16x64 ![0, 0, 0, 32] ![0, 0, 0, 0] ![0, 0, 0, 0] (addf (mulf (extractStridedSlice S1x8192x16x32 ![0, 0, 0, 32] q slices_S1x8192x16x64_S1x8192x16x32_0_0_0_32) (broadcastInDim S1x8192x16x32 ![0, 1, 2, 3] bcast_S1x8192x1x32_S1x8192x16x32_0_1_2_3 co)) (mulf (Host.negf (extractStridedSlice S1x8192x16x32 ![0, 0, 0, 0] q slices_S1x8192x16x64_S1x8192x16x32_0_0_0_0)) (broadcastInDim S1x8192x16x32 ![0, 1, 2, 3] bcast_S1x8192x1x32_S1x8192x16x32_0_1_2_3 si))) (constant S_ .f32 0x00000000#32) pads_S1x8192x16x32_S1x8192x16x64_000_000_000_3200 h_S_) (pad S1x8192x16x64 ![0, 0, 0, 0] ![0, 0, 0, 32] ![0, 0, 0, 0] (addf (mulf (extractStridedSlice S1x8192x16x32 ![0, 0, 0, 32] q slices_S1x8192x16x64_S1x8192x16x32_0_0_0_32) (broadcastInDim S1x8192x16x32 ![0, 1, 2, 3] bcast_S1x8192x1x32_S1x8192x16x32_0_1_2_3 si)) (mulf (extractStridedSlice S1x8192x16x32 ![0, 0, 0, 0] q slices_S1x8192x16x64_S1x8192x16x32_0_0_0_0) (broadcastInDim S1x8192x16x32 ![0, 1, 2, 3] bcast_S1x8192x1x32_S1x8192x16x32_0_1_2_3 co))) (constant S_ .f32 0x00000000#32) pads_S1x8192x16x32_S1x8192x16x64_000_000_000_0320 h_S_)) shapeCasts_S1x8192x16x64_S1x8192x1024) shapeCasts_S1x8192x1024_S8192x1024) bitsLt_bf16_f32 : FVec Ideal S8192x1024 .bf16) (ix2 R k)
      = (((theWorld V).unrot R f (k % 64) : ℝ) : EReal) := by
  pointwise [hq, hc, hs]
  unfold World.unrot
  by_cases h : (k : ℕ) % 64 < 32
  · rw [dif_neg (by omega), dif_pos ⟨by omega, h⟩, if_pos h, zero_add, Nat.add_comm 32, EReal.coe_add, EReal.coe_mul,
      EReal.coe_mul, add_comm]
  · rw [dif_pos ⟨by omega, by omega, by omega⟩, dif_neg (fun e => h e.2), if_neg h, add_zero,
      show 32 + ((k : ℕ) % 64 - 32) = k % 64 by omega, sub_eq_add_neg, EReal.coe_add, ← neg_mul, EReal.coe_mul, EReal.coe_mul,
      EReal.coe_neg]

/-- The q gradient of the queries. -/
theorem dq_real (R : Fin 8192) (k : Fin 1024) :
    (truncf .bf16 (shapeCast _ (shapeCast _ (addf (pad S1x8192x16x64 ![0, 0, 0, 32] ![0, 0, 0, 0] ![0, 0, 0, 0] (addf (mulf (res_main_v223 V) (broadcastInDim S1x8192x16x32 ![0, 1, 2, 3] bcast_S1x8192x1x32_S1x8192x16x32_0_1_2_3 (res_main_v23 V))) (mulf (Host.negf (res_main_v222 V)) (broadcastInDim S1x8192x16x32 ![0, 1, 2, 3] bcast_S1x8192x1x32_S1x8192x16x32_0_1_2_3 (res_main_v25 V)))) (constant S_ .f32 0x00000000#32) pads_S1x8192x16x32_S1x8192x16x64_000_000_000_3200 h_S_) (pad S1x8192x16x64 ![0, 0, 0, 0] ![0, 0, 0, 32] ![0, 0, 0, 0] (addf (mulf (res_main_v223 V) (broadcastInDim S1x8192x16x32 ![0, 1, 2, 3] bcast_S1x8192x1x32_S1x8192x16x32_0_1_2_3 (res_main_v25 V))) (mulf (res_main_v222 V) (broadcastInDim S1x8192x16x32 ![0, 1, 2, 3] bcast_S1x8192x1x32_S1x8192x16x32_0_1_2_3 (res_main_v23 V)))) (constant S_ .f32 0x00000000#32) pads_S1x8192x16x32_S1x8192x16x64_000_000_000_0320 h_S_)) shapeCasts_S1x8192x16x64_S1x8192x1024) shapeCasts_S1x8192x1024_S8192x1024) bitsLt_bf16_f32 : FVec Ideal S8192x1024 .bf16) (ix2 R k)
      = (((theWorld V).dq (R / 128) (k / 64) (R % 128) (k % 64) : ℝ) : EReal) := by
  refine (unrope_queries (gqr V) (cosT V) (sinT V) R k _ (fun l => gqr_real H R _ l)
    (fun l => (cosT_at V R l).trans (cosW V R l)) (fun l => (sinT_at V R l).trans (sinW V R l))).trans ?_
  unfold World.dq
  rw [show 128 * ((R : ℕ) / 128) + R % 128 = R by omega]

omit H in
/-- The keys' gradient turned back by the angles. -/
theorem unrope_keys (q : FVec Ideal S1x8192x2x64 .f32) (co si : FVec Ideal S1x8192x1x32 .f32) (R : Fin 8192) (k : Fin 128) (f : ℕ → ℝ)
    (hq : ∀ l : Fin 64, q (ix4 (0 : Fin 1) R (⟨k / 64, by omega⟩ : Fin 2) l) = ((f l : ℝ) : EReal))
    (hc : ∀ l : Fin 32, co (ix4 (0 : Fin 1) R (0 : Fin 1) l) = (((theWorld V).C R l : ℝ) : EReal))
    (hs : ∀ l : Fin 32, si (ix4 (0 : Fin 1) R (0 : Fin 1) l) = (((theWorld V).N R l : ℝ) : EReal)) :
    (truncf .bf16 (shapeCast _ (shapeCast _ (addf (pad S1x8192x2x64 ![0, 0, 0, 32] ![0, 0, 0, 0] ![0, 0, 0, 0] (addf (mulf (extractStridedSlice S1x8192x2x32 ![0, 0, 0, 32] q slices_S1x8192x2x64_S1x8192x2x32_0_0_0_32) (broadcastInDim S1x8192x2x32 ![0, 1, 2, 3] bcast_S1x8192x1x32_S1x8192x2x32_0_1_2_3 co)) (mulf (Host.negf (extractStridedSlice S1x8192x2x32 ![0, 0, 0, 0] q slices_S1x8192x2x64_S1x8192x2x32_0_0_0_0)) (broadcastInDim S1x8192x2x32 ![0, 1, 2, 3] bcast_S1x8192x1x32_S1x8192x2x32_0_1_2_3 si))) (constant S_ .f32 0x00000000#32) pads_S1x8192x2x32_S1x8192x2x64_000_000_000_3200 h_S_) (pad S1x8192x2x64 ![0, 0, 0, 0] ![0, 0, 0, 32] ![0, 0, 0, 0] (addf (mulf (extractStridedSlice S1x8192x2x32 ![0, 0, 0, 32] q slices_S1x8192x2x64_S1x8192x2x32_0_0_0_32) (broadcastInDim S1x8192x2x32 ![0, 1, 2, 3] bcast_S1x8192x1x32_S1x8192x2x32_0_1_2_3 si)) (mulf (extractStridedSlice S1x8192x2x32 ![0, 0, 0, 0] q slices_S1x8192x2x64_S1x8192x2x32_0_0_0_0) (broadcastInDim S1x8192x2x32 ![0, 1, 2, 3] bcast_S1x8192x1x32_S1x8192x2x32_0_1_2_3 co))) (constant S_ .f32 0x00000000#32) pads_S1x8192x2x32_S1x8192x2x64_000_000_000_0320 h_S_)) shapeCasts_S1x8192x2x64_S1x8192x128) shapeCasts_S1x8192x128_S8192x128) bitsLt_bf16_f32 : FVec Ideal S8192x128 .bf16) (ix2 R k)
      = (((theWorld V).unrot R f (k % 64) : ℝ) : EReal) := by
  pointwise [hq, hc, hs]
  unfold World.unrot
  by_cases h : (k : ℕ) % 64 < 32
  · rw [dif_neg (by omega), dif_pos ⟨by omega, h⟩, if_pos h, zero_add, Nat.add_comm 32, EReal.coe_add, EReal.coe_mul,
      EReal.coe_mul, add_comm]
  · rw [dif_pos ⟨by omega, by omega, by omega⟩, dif_neg (fun e => h e.2), if_neg h, add_zero,
      show 32 + ((k : ℕ) % 64 - 32) = k % 64 by omega, sub_eq_add_neg, EReal.coe_add, ← neg_mul, EReal.coe_mul, EReal.coe_mul,
      EReal.coe_neg]

/-- The k gradient of the keys. -/
theorem dk_real (R : Fin 8192) (k : Fin 128) :
    (truncf .bf16 (shapeCast _ (shapeCast _ (addf (pad S1x8192x2x64 ![0, 0, 0, 32] ![0, 0, 0, 0] ![0, 0, 0, 0] (addf (mulf (res_main_v206 V) (broadcastInDim S1x8192x2x32 ![0, 1, 2, 3] bcast_S1x8192x1x32_S1x8192x2x32_0_1_2_3 (res_main_v53 V))) (mulf (Host.negf (res_main_v205 V)) (broadcastInDim S1x8192x2x32 ![0, 1, 2, 3] bcast_S1x8192x1x32_S1x8192x2x32_0_1_2_3 (res_main_v55 V)))) (constant S_ .f32 0x00000000#32) pads_S1x8192x2x32_S1x8192x2x64_000_000_000_3200 h_S_) (pad S1x8192x2x64 ![0, 0, 0, 0] ![0, 0, 0, 32] ![0, 0, 0, 0] (addf (mulf (res_main_v206 V) (broadcastInDim S1x8192x2x32 ![0, 1, 2, 3] bcast_S1x8192x1x32_S1x8192x2x32_0_1_2_3 (res_main_v55 V))) (mulf (res_main_v205 V) (broadcastInDim S1x8192x2x32 ![0, 1, 2, 3] bcast_S1x8192x1x32_S1x8192x2x32_0_1_2_3 (res_main_v53 V)))) (constant S_ .f32 0x00000000#32) pads_S1x8192x2x32_S1x8192x2x64_000_000_000_0320 h_S_)) shapeCasts_S1x8192x2x64_S1x8192x128) shapeCasts_S1x8192x128_S8192x128) bitsLt_bf16_f32 : FVec Ideal S8192x128 .bf16) (ix2 R k)
      = (((theWorld V).dk (R / 128) (k / 64) (R % 128) (k % 64) : ℝ) : EReal) := by
  refine (unrope_keys (gkr V) (cosU V) (sinU V) R k
    (fun l => ((theWorld V).blk (R / 128)).dk (k / 64) (128 + R % 128) l + (theWorld V).ck (R / 128) (k / 64) (R % 128) l)
    (fun l => gkr_real H R ⟨k / 64, by omega⟩ l)
    (fun l => (cosU_at V R l).trans (cosW V R l)) (fun l => (sinU_at V R l).trans (sinW V R l))).trans ?_
  unfold World.dk
  rw [show 128 * ((R : ℕ) / 128) + R % 128 = R by omega]

/-- The value gradient. -/
theorem dv_real (R : Fin 8192) (k : Fin 128) :
    (truncf .bf16 (shapeCast _ (shapeCast _ (shapeCast _ (addf (extractStridedSlice S1x64x128x2x64 ![0, 0, 128, 0, 0] (res_main_v161 V) slices_S1x64x256x2x64_S1x64x128x2x64_0_0_128_0_0) (pad S1x64x128x2x64 ![0, 0, 0, 0, 0] ![0, 1, 0, 0, 0] ![0, 0, 0, 0, 0] (extractStridedSlice S1x63x128x2x64 ![0, 1, 0, 0, 0] (res_main_v189 V) slices_S1x64x128x2x64_S1x63x128x2x64_0_1_0_0_0) (constant S_ .f32 0x00000000#32) pads_S1x63x128x2x64_S1x64x128x2x64_000_010_000_000_000 h_S_)) shapeCasts_S1x64x128x2x64_S1x8192x2x64) shapeCasts_S1x8192x2x64_S1x8192x128) shapeCasts_S1x8192x128_S8192x128) bitsLt_bf16_f32 : FVec Ideal S8192x128 .bf16) (ix2 R k)
      = (((theWorld V).dv (R / 128) (k / 64) (R % 128) (k % 64) : ℝ) : EReal) := by
  have hg := gv_real H
  unfold res_main_v189
  dsimp only [gv] at hg
  generalize res_main_v161 V = q at hg ⊢
  pointwise [hg]
  unfold World.dv World.cv
  rw [EReal.coe_add]
  refine congrArg _ ?_
  by_cases h : (R : ℕ) / 128 < 63
  · rw [dif_pos ⟨h, by omega, by omega, by omega⟩, if_pos h, Nat.add_comm 1]
  · rw [dif_neg (fun e => h e.1), if_neg h]; rfl

/-- The sinks' gradient, in the first row's first sixteen lanes. -/
theorem dsink_real (p : Fin 8) (k : Fin 128) :
    (pad S8x128 ![0, 0] ![7, 112] ![0, 0] (broadcastInDim S1x16 ![1] bcast_S16_S1x16_1 (shapeCast _ (broadcastInDim S1x1x2x8x1x1 ![2, 3] bcast_S2x8_S1x1x2x8x1x1_2_3 (Host.reduceAdd (extractStridedSlice S1x64x2x8x128x1 ![0, 0, 0, 0, 0, 256] (res_main_v175 V) slices_S1x64x2x8x128x257_S1x64x2x8x128x1_0_0_0_0_0_256) (constant S_ .f32 0x00000000#32) reducesTo_S1x64x2x8x128x1_S2x8_d0_1_4_5 h_S_)) shapeCasts_S1x1x2x8x1x1_S16)) (sitofp .f32 (constantI S_ 32 0#32)) pads_S1x16_S8x128_070_01120 h_S_ : FVec Ideal S8x128 .f32) (ix2 p k)
      = (((if (p : ℕ) = 0 ∧ (k : ℕ) < 16 then (theWorld V).dsink k else 0) : ℝ) : EReal) := by
  have hg (b : Fin 64) (j : Fin 2) (g : Fin 8) (r : Fin 128) := gs_real H b j g r 256
  dsimp only [gs] at hg
  generalize res_main_v175 V = q at hg ⊢
  pointwise []
  by_cases h : (p : ℕ) < 1 ∧ (k : ℕ) < 16
  · rw [dif_pos h, if_pos ⟨by omega, h.2⟩, sum_rows, zero_add]
    pointwise [hg]
    simp only [coe_sum, ← EReal.coe_neg]
    refine congrArg _ ?_
    rw [show 8 * ((k : ℕ) / 8) + k % 8 = k by omega]
    unfold World.dsink
    refine Finset.sum_congr rfl fun b _ => ?_
    rw [← (agree V b).dsink_eq, Finset.sum_neg_distrib]
    rfl
  · rw [dif_neg h, if_neg (fun e => h ⟨by omega, e.2⟩)]
    exact (EReal.coe_eq_coe_iff.2 (by norm_num))

end Cert.ReferenceIdeal.Grad

end
-- ==== Proof.WUp.lean ====
/-
  The gradient of the up projection's two weights: what the version's call leaves in its result array over the
  extended reals, entry by entry.
-/
module

public import proofs.«01_k».proof.Proof.Gen.WUpIdeal.Value
public import Idealize.ShloMosaic.Lib.Pointwise
public import Idealize.ShloMosaic.Lib.Pipeline.ValueKit.Geometry

@[expose] public section

set_option maxRecDepth 16384

noncomputable section

namespace Cert.WUpIdeal.Product

open Cert.WUpIdeal Cert.WUpIdeal.Gen Idealize.ShloMosaic Idealize.ShloMosaic.TcCoe
open Idealize.ShloMosaic.Pipeline

variable (m : (ℓ : Loc nD τ sig) → Buf (Elt Ideal) ℓ) (c : Dev nD)

/-- The activations and the two cotangents, by row and column. -/
def x (r : Fin 8192) (k : Fin 2048) : EReal := m ((c.tc : Thread nD τ).loc main_arg0) (ix2 r k)
@[inherit_doc x] def d (s : Fin 2) (r : Fin 8192) (k : Fin 5632) : EReal := m ((c.tc : Thread nD τ).loc main_arg1) (ix3 s r k)

theorem off2 : (![0, 0] : Fin 2 → ℕ) = fun _ => 0 := by decide
theorem off3 : (![0, 0, 0] : Fin 3 → ℕ) = fun _ => 0 := by decide

/-- Where each window's block lies. -/
theorem idx0 : ∀ t : Fin cfg0.N, win0_0.index t = ![0, t.val / 22] := (by decide +kernel : ∀ t : Fin grid0.N, _)
@[inherit_doc idx0] theorem idx1 : ∀ t : Fin cfg0.N, win0_1.index t = ![t.val % 22 / 11, 0, t.val % 22 % 11] := (by decide +kernel : ∀ t : Fin grid0.N, _)
@[inherit_doc idx0] theorem idx2 : ∀ t : Fin cfg0.N, win0_2.index t = ![t.val / 22, t.val % 22] := (by decide +kernel : ∀ t : Fin grid0.N, _)

/-- An entry of the activations' block. -/
theorem blk0 (t : Fin cfg0.N) (r : Fin 8192) (l : Fin 1024) : iblk m c 0 t (ix2 r l)
    = x m c r ⟨1024 * (t.val / 22) + l, by have : t.val < 44 := t.isLt; omega⟩ := by
  blk_simp [iblk, idx0]
  rw [V_main_arg0]
  refine congrArg _ ?_
  blk_ext [idx0]

/-- An entry of the cotangents' block. -/
theorem blk1 (t : Fin cfg0.N) (r : Fin 8192) (l : Fin 512) : iblk m c 1 t (ix3 (0 : Fin 1) r l)
    = d m c ⟨t.val % 22 / 11, by omega⟩ r ⟨512 * (t.val % 22 % 11) + l, by omega⟩ := by
  blk_simp [iblk, idx1]
  rw [V_main_arg1]
  refine congrArg _ ?_
  blk_ext [idx1]

/-- One entry of the body's product. -/
theorem body (x0 : Vec Ideal S8192x1024 .bf16) (x1 : Vec Ideal S1x8192x512 .bf16) (i : Fin 1024) (j : Fin 512) :
    out0_2 x0 x1 (ix2 i j) = ∑ k : Fin 8192, x0 (ix2 k i) * x1 (ix3 (0 : Fin 1) k j) := by
  unfold out0_2
  rw [View.canon_unit_zero (S := S1024x512) off2, View.ld_unit_zero (S := S8192x1024) off2, View.ld_unit_zero (S := S1x8192x512) off3]
  pointwise [k0_pay1]

/-- The result array: the column's half of the cotangents selects the operand. -/
theorem final : (dats m 0 c).arrAt 2 cfg0.N = fun i => ∑ k : Fin 8192,
    x m c k (i 0) * d m c ⟨(i 1).val / 5632, by have : (i 1).val < 11264 := (i 1).isLt; omega⟩ k ⟨(i 1).val % 5632, by omega⟩ := by
  refine (dats m 0 c).arrAt_eq_of_covers 2 _ (by decide +kernel) fun t hf y => ?_
  blk_simp
  rw [after0_2]
  have h0 : (y 0).val < 1024 := (y 0).isLt
  have h1 : (y 1).val < 512 := (y 1).isLt
  have e0 : win0_2.index t 0 = t.val / 22 := by rw [idx2]; rfl
  have e1 : win0_2.index t 1 = t.val % 22 := by rw [idx2]; rfl
  have ey : y = ix2 ⟨(y 0).val, h0⟩ ⟨(y 1).val, h1⟩ := by funext a; fin_cases a <;> rfl
  refine (congrArg _ ey).trans ((body _ _ _ _).trans (Finset.sum_congr rfl fun k _ => ?_))
  rw [blk0, blk1]
  congr 2
  · exact Fin.ext (by show 1024 * (t.val / 22) + (y 0).val = win0_2.index t 0 * 1024 + 1 * (y 0).val; rw [e0]; omega)
  all_goals simp only [Fin.ext_iff, e1]; omega

end Cert.WUpIdeal.Product

end
-- ==== Proof.WDown.lean ====
/-
  The gradient of the down projection's weight: what the version's call leaves in its result array over the extended
  reals, entry by entry.
-/
module

public import proofs.«01_k».proof.Proof.Gen.WDownIdeal.Value
public import Idealize.ShloMosaic.Lib.Pointwise
public import Idealize.ShloMosaic.Lib.Pipeline.ValueKit.Geometry

@[expose] public section

set_option maxRecDepth 16384

noncomputable section

namespace Cert.WDownIdeal.Product

open Cert.WDownIdeal Cert.WDownIdeal.Gen Idealize.ShloMosaic Idealize.ShloMosaic.TcCoe
open Idealize.ShloMosaic.Pipeline

variable (m : (ℓ : Loc nD τ sig) → Buf (Elt Ideal) ℓ) (c : Dev nD)

/-- The arguments by row and column. -/ def h (r : Fin 8192) (k : Fin 5632) : EReal := m ((c.tc : Thread nD τ).loc main_arg0) (ix2 r k)
@[inherit_doc h] def d (r : Fin 8192) (k : Fin 2048) : EReal := m ((c.tc : Thread nD τ).loc main_arg1) (ix2 r k)

theorem off2 : (![0, 0] : Fin 2 → ℕ) = fun _ => 0 := by decide

/-- Where each window's block lies. -/
theorem idx0 : ∀ t : Fin cfg0.N, win0_0.index t = ![0, t.val % 11] := (by decide +kernel : ∀ t : Fin grid0.N, _)
@[inherit_doc idx0] theorem idx1 : ∀ t : Fin cfg0.N, win0_1.index t = ![0, t.val / 11] := (by decide +kernel : ∀ t : Fin grid0.N, _)
@[inherit_doc idx0] theorem idx2 : ∀ t : Fin cfg0.N, win0_2.index t = ![t.val % 11, t.val / 11] := (by decide +kernel : ∀ t : Fin grid0.N, _)

/-- An entry of the block of the hidden activations. -/
theorem blk0 (t : Fin cfg0.N) (r : Fin 8192) (l : Fin 512) : iblk m c 0 t (ix2 r l) = h m c r ⟨512 * (t.val % 11) + l, by have : t.val < 22 := t.isLt; omega⟩ := by
  blk_simp [iblk, idx0]
  rw [V_main_arg0]
  refine congrArg _ ?_
  blk_ext [idx0]

/-- An entry of the block of the cotangents. -/
theorem blk1 (t : Fin cfg0.N) (r : Fin 8192) (l : Fin 1024) : iblk m c 1 t (ix2 r l) = d m c r ⟨1024 * (t.val / 11) + l, by have : t.val < 22 := t.isLt; omega⟩ := by
  blk_simp [iblk, idx1]
  rw [V_main_arg1]
  refine congrArg _ ?_
  blk_ext [idx1]

/-- One entry of the body's product. -/
theorem body (x0 : Vec Ideal S8192x512 .bf16) (x1 : Vec Ideal S8192x1024 .bf16) (i : Fin 512) (j : Fin 1024) :
    out0_2 x0 x1 (ix2 i j) = ∑ k : Fin 8192, x0 (ix2 k i) * x1 (ix2 k j) := by
  unfold out0_2
  rw [View.canon_unit_zero (S := S512x1024) off2, View.ld_unit_zero (S := S8192x512) off2, View.ld_unit_zero (S := S8192x1024) off2]
  pointwise [k0_pay1]

/-- The result array. -/
theorem final : (dats m 0 c).arrAt 2 cfg0.N = fun i =>
    ∑ k : Fin 8192, h m c k (i 0) * d m c k (i 1) := by
  refine (dats m 0 c).arrAt_eq_of_covers 2 _ (by decide +kernel) fun t hf y => ?_
  blk_simp
  rw [after0_2]
  have h0 : (y 0).val < 512 := (y 0).isLt
  have h1 : (y 1).val < 1024 := (y 1).isLt
  have e0 : win0_2.index t 0 = t.val % 11 := by rw [idx2]; rfl
  have e1 : win0_2.index t 1 = t.val / 11 := by rw [idx2]; rfl
  have ey : y = ix2 ⟨(y 0).val, h0⟩ ⟨(y 1).val, h1⟩ := by funext a; fin_cases a <;> rfl
  refine (congrArg _ ey).trans ((body _ _ _ _).trans (Finset.sum_congr rfl fun k _ => ?_))
  rw [blk0, blk1]
  congr 2
  · exact Fin.ext (by show 512 * (t.val % 11) + (y 0).val = win0_2.index t 0 * 512 + 1 * (y 0).val; rw [e0]; omega)
  · exact Fin.ext (by show 1024 * (t.val / 11) + (y 1).val = win0_2.index t 1 * 1024 + 1 * (y 1).val; rw [e1]; omega)

end Cert.WDownIdeal.Product

end
-- ==== Proof.WOut.lean ====
/-
  The gradient of one half of the output projection's weight: what the version's call leaves in its result array over the extended
  reals, entry by entry.
-/
module

public import proofs.«01_k».proof.Proof.Gen.WOutIdeal.Value
public import Idealize.ShloMosaic.Lib.Pointwise
public import Idealize.ShloMosaic.Lib.Pipeline.ValueKit.Geometry

@[expose] public section

set_option maxRecDepth 16384

noncomputable section

namespace Cert.WOutIdeal.Product

open Cert.WOutIdeal Cert.WOutIdeal.Gen Idealize.ShloMosaic Idealize.ShloMosaic.TcCoe
open Idealize.ShloMosaic.Pipeline

variable (m : (ℓ : Loc nD τ sig) → Buf (Elt Ideal) ℓ) (c : Dev nD)

/-- The arguments by row and column. -/ def h (r : Fin 8192) (k : Fin 1024) : EReal := m ((c.tc : Thread nD τ).loc main_arg0) (ix2 r k)
@[inherit_doc h] def d (r : Fin 8192) (k : Fin 2048) : EReal := m ((c.tc : Thread nD τ).loc main_arg1) (ix2 r k)

theorem off2 : (![0, 0] : Fin 2 → ℕ) = fun _ => 0 := by decide

/-- Where each window's block lies. -/
theorem idx0 : ∀ t : Fin cfg0.N, win0_0.index t = ![0, t.val % 2] := (by decide +kernel : ∀ t : Fin grid0.N, _)
@[inherit_doc idx0] theorem idx1 : ∀ t : Fin cfg0.N, win0_1.index t = ![0, t.val / 2] := (by decide +kernel : ∀ t : Fin grid0.N, _)
@[inherit_doc idx0] theorem idx2 : ∀ t : Fin cfg0.N, win0_2.index t = ![t.val % 2, t.val / 2] := (by decide +kernel : ∀ t : Fin grid0.N, _)

/-- An entry of the block of the mixed activations. -/
theorem blk0 (t : Fin cfg0.N) (r : Fin 8192) (l : Fin 512) : iblk m c 0 t (ix2 r l) = h m c r ⟨512 * (t.val % 2) + l, by have : t.val < 4 := t.isLt; omega⟩ := by
  blk_simp [iblk, idx0]
  rw [V_main_arg0]
  refine congrArg _ ?_
  blk_ext [idx0]

/-- An entry of the block of the cotangents. -/
theorem blk1 (t : Fin cfg0.N) (r : Fin 8192) (l : Fin 1024) : iblk m c 1 t (ix2 r l) = d m c r ⟨1024 * (t.val / 2) + l, by have : t.val < 4 := t.isLt; omega⟩ := by
  blk_simp [iblk, idx1]
  rw [V_main_arg1]
  refine congrArg _ ?_
  blk_ext [idx1]

/-- One entry of the body's product. -/
theorem body (x0 : Vec Ideal S8192x512 .bf16) (x1 : Vec Ideal S8192x1024 .bf16) (i : Fin 512) (j : Fin 1024) :
    out0_2 x0 x1 (ix2 i j) = ∑ k : Fin 8192, x0 (ix2 k i) * x1 (ix2 k j) := by
  unfold out0_2
  rw [View.canon_unit_zero (S := S512x1024) off2, View.ld_unit_zero (S := S8192x512) off2, View.ld_unit_zero (S := S8192x1024) off2]
  pointwise [k0_pay1]

/-- The result array. -/
theorem final : (dats m 0 c).arrAt 2 cfg0.N = fun i =>
    ∑ k : Fin 8192, h m c k (i 0) * d m c k (i 1) := by
  refine (dats m 0 c).arrAt_eq_of_covers 2 _ (by decide +kernel) fun t hf y => ?_
  blk_simp
  rw [after0_2]
  have h0 : (y 0).val < 512 := (y 0).isLt
  have h1 : (y 1).val < 1024 := (y 1).isLt
  have e0 : win0_2.index t 0 = t.val % 2 := by rw [idx2]; rfl
  have e1 : win0_2.index t 1 = t.val / 2 := by rw [idx2]; rfl
  have ey : y = ix2 ⟨(y 0).val, h0⟩ ⟨(y 1).val, h1⟩ := by funext a; fin_cases a <;> rfl
  refine (congrArg _ ey).trans ((body _ _ _ _).trans (Finset.sum_congr rfl fun k _ => ?_))
  rw [blk0, blk1]
  congr 2
  · exact Fin.ext (by show 512 * (t.val % 2) + (y 0).val = win0_2.index t 0 * 512 + 1 * (y 0).val; rw [e0]; omega)
  · exact Fin.ext (by show 1024 * (t.val / 2) + (y 1).val = win0_2.index t 1 * 1024 + 1 * (y 1).val; rw [e1]; omega)

end Cert.WOutIdeal.Product

end
-- ==== Proof.DMix.lean ====
/-
  The gradient of the mixed activations: what the version's call leaves in its result array over the extended
  reals, entry by entry.
-/
module

public import proofs.«01_k».proof.Proof.Gen.DMixIdeal.Value
public import Idealize.ShloMosaic.Lib.Pointwise
public import Idealize.ShloMosaic.Lib.Pipeline.ValueKit.Geometry

@[expose] public section

set_option maxRecDepth 16384

noncomputable section

namespace Cert.DMixIdeal.Product

open Cert.DMixIdeal Cert.DMixIdeal.Gen Idealize.ShloMosaic Idealize.ShloMosaic.TcCoe
open Idealize.ShloMosaic.Pipeline

variable (m : (ℓ : Loc nD τ sig) → Buf (Elt Ideal) ℓ) (c : Dev nD)

/-- The arguments by row and column. -/ def d (r : Fin 8192) (k : Fin 2048) : EReal := m ((c.tc : Thread nD τ).loc main_arg0) (ix2 r k)
@[inherit_doc d] def w (r : Fin 2048) (k : Fin 2048) : EReal := m ((c.tc : Thread nD τ).loc main_arg1) (ix2 r k)

theorem off2 : (![0, 0] : Fin 2 → ℕ) = fun _ => 0 := by decide

/-- Where each window's block lies. -/
theorem idx0 : ∀ t : Fin cfg0.N, win0_0.index t = ![t.val % 8, 0] := (by decide +kernel : ∀ t : Fin grid0.N, _)
@[inherit_doc idx0] theorem idx1 : ∀ t : Fin cfg0.N, win0_1.index t = ![t.val / 8, 0] := (by decide +kernel : ∀ t : Fin grid0.N, _)
@[inherit_doc idx0] theorem idx2 : ∀ t : Fin cfg0.N, win0_2.index t = ![t.val % 8, t.val / 8] := (by decide +kernel : ∀ t : Fin grid0.N, _)

/-- An entry of the block of the cotangents. -/
theorem blk0 (t : Fin cfg0.N) (r : Fin 1024) (l : Fin 2048) : iblk m c 0 t (ix2 r l) = d m c ⟨1024 * (t.val % 8) + r, by have : t.val < 16 := t.isLt; omega⟩ l := by
  blk_simp [iblk, idx0]
  rw [V_main_arg0]
  refine congrArg _ ?_
  blk_ext [idx0]

/-- An entry of the block of the weight. -/
theorem blk1 (t : Fin cfg0.N) (r : Fin 1024) (l : Fin 2048) : iblk m c 1 t (ix2 r l) = w m c ⟨1024 * (t.val / 8) + r, by have : t.val < 16 := t.isLt; omega⟩ l := by
  blk_simp [iblk, idx1]
  rw [V_main_arg1]
  refine congrArg _ ?_
  blk_ext [idx1]

/-- One entry of the body's product. -/
theorem body (x0 : Vec Ideal S1024x2048 .bf16) (x1 : Vec Ideal S1024x2048 .bf16) (i : Fin 1024) (j : Fin 1024) :
    out0_2 x0 x1 (ix2 i j) = ∑ k : Fin 2048, x0 (ix2 i k) * x1 (ix2 j k) := by
  unfold out0_2
  rw [View.canon_unit_zero (S := S1024x1024) off2, View.ld_unit_zero (S := S1024x2048) off2]
  pointwise [k0_pay1]

/-- The result array. -/
theorem final : (dats m 0 c).arrAt 2 cfg0.N = fun i =>
    ∑ k : Fin 2048, d m c (i 0) k * w m c (i 1) k := by
  refine (dats m 0 c).arrAt_eq_of_covers 2 _ (by decide +kernel) fun t hf y => ?_
  blk_simp
  rw [after0_2]
  have h0 : (y 0).val < 1024 := (y 0).isLt
  have h1 : (y 1).val < 1024 := (y 1).isLt
  have e0 : win0_2.index t 0 = t.val % 8 := by rw [idx2]; rfl
  have e1 : win0_2.index t 1 = t.val / 8 := by rw [idx2]; rfl
  have ey : y = ix2 ⟨(y 0).val, h0⟩ ⟨(y 1).val, h1⟩ := by funext a; fin_cases a <;> rfl
  refine (congrArg _ ey).trans ((body _ _ _ _).trans (Finset.sum_congr rfl fun k _ => ?_))
  rw [blk0, blk1]
  congr 2
  · exact Fin.ext (by show 1024 * (t.val % 8) + (y 0).val = win0_2.index t 0 * 1024 + 1 * (y 0).val; rw [e0]; omega)
  · exact Fin.ext (by show 1024 * (t.val / 8) + (y 1).val = win0_2.index t 1 * 1024 + 1 * (y 1).val; rw [e1]; omega)

end Cert.DMixIdeal.Product

end
-- ==== Proof.GradX.lean ====
/-
  The gradient of the block's input: what the version's call leaves in its result array over the extended
  reals, entry by entry.
-/
module

public import proofs.«01_k».proof.Proof.Gen.GradXIdeal.Value
public import Idealize.ShloMosaic.Lib.Pointwise
public import Idealize.ShloMosaic.Lib.Pipeline.ValueKit.Geometry

@[expose] public section

set_option maxRecDepth 16384

noncomputable section

namespace Cert.GradXIdeal.Product

open Cert.GradXIdeal Cert.GradXIdeal.Gen Idealize.ShloMosaic Idealize.ShloMosaic.TcCoe
open Idealize.ShloMosaic.Pipeline

variable (m : (ℓ : Loc nD τ sig) → Buf (Elt Ideal) ℓ) (c : Dev nD)

/-- The arguments by row and column. -/ def d (r : Fin 8192) (k : Fin 4352) : EReal := m ((c.tc : Thread nD τ).loc main_arg0) (ix2 r k)
@[inherit_doc d] def w (r : Fin 4352) (k : Fin 2048) : EReal := m ((c.tc : Thread nD τ).loc main_arg2) (ix2 r k)
@[inherit_doc d] def z (r : Fin 8192) (k : Fin 2048) : EReal := m ((c.tc : Thread nD τ).loc main_arg1) (ix2 r k)

theorem off2 : (![0, 0] : Fin 2 → ℕ) = fun _ => 0 := by decide

/-- Where each window's block lies. -/
theorem idx0 : ∀ t : Fin cfg0.N, win0_0.index t = ![t.val % 16, 0] := (by decide +kernel : ∀ t : Fin grid0.N, _)
@[inherit_doc idx0] theorem idx1 : ∀ t : Fin cfg0.N, win0_1.index t = ![0, t.val / 16] := (by decide +kernel : ∀ t : Fin grid0.N, _)
@[inherit_doc idx0] theorem idx2 : ∀ t : Fin cfg0.N, win0_2.index t = ![t.val % 16, t.val / 16] := (by decide +kernel : ∀ t : Fin grid0.N, _)
@[inherit_doc idx0] theorem idx3 : ∀ t : Fin cfg0.N, win0_3.index t = ![t.val % 16, t.val / 16] := (by decide +kernel : ∀ t : Fin grid0.N, _)

/-- An entry of the block of the projections' cotangents. -/
theorem blk0 (t : Fin cfg0.N) (r : Fin 512) (l : Fin 4352) : iblk m c 0 t (ix2 r l) = d m c ⟨512 * (t.val % 16) + r, by have : t.val < 32 := t.isLt; omega⟩ l := by
  blk_simp [iblk, idx0]
  rw [V_main_arg0]
  refine congrArg _ ?_
  blk_ext [idx0]

/-- An entry of the block of the transposed weight. -/
theorem blk1 (t : Fin cfg0.N) (r : Fin 4352) (l : Fin 1024) : iblk m c 1 t (ix2 r l) = w m c r ⟨1024 * (t.val / 16) + l, by have : t.val < 32 := t.isLt; omega⟩ := by
  blk_simp [iblk, idx1]
  rw [V_main_arg2]
  refine congrArg _ ?_
  blk_ext [idx1]

/-- An entry of the block of the residual path's cotangents. -/
theorem blk2 (t : Fin cfg0.N) (r : Fin 512) (l : Fin 1024) : iblk m c 2 t (ix2 r l) = z m c ⟨512 * (t.val % 16) + r, by have : t.val < 32 := t.isLt; omega⟩ ⟨1024 * (t.val / 16) + l, by have : t.val < 32 := t.isLt; omega⟩ := by
  blk_simp [iblk, idx2]
  rw [V_main_arg1]
  refine congrArg _ ?_
  blk_ext [idx2]

/-- One entry of the body's product. -/
theorem body (x0 : Vec Ideal S512x4352 .bf16) (x1 : Vec Ideal S4352x1024 .bf16) (x2 : Vec Ideal S512x1024 .bf16) (i : Fin 512) (j : Fin 1024) :
    out0_3 x0 x1 x2 (ix2 i j) = ∑ k : Fin 4352, x0 (ix2 i k) * x1 (ix2 k j) + Ideal.ofBits .f32 0x3F9837F0#32 * x2 (ix2 i j) := by
  unfold out0_3
  rw [View.canon_unit_zero (S := S512x1024) off2, View.ld_unit_zero (S := S512x4352) off2, View.ld_unit_zero (S := S4352x1024) off2, View.ld_unit_zero (S := S512x1024) off2]
  pointwise [k0_pay1]

/-- The result array. -/
theorem final : (dats m 0 c).arrAt 3 cfg0.N = fun i =>
    ∑ k : Fin 4352, d m c (i 0) k * w m c k (i 1) + Ideal.ofBits .f32 0x3F9837F0#32 * z m c (i 0) (i 1) := by
  refine (dats m 0 c).arrAt_eq_of_covers 3 _ (by decide +kernel) fun t hf y => ?_
  blk_simp
  rw [after0_3]
  have h0 : (y 0).val < 512 := (y 0).isLt
  have h1 : (y 1).val < 1024 := (y 1).isLt
  have e0 : win0_3.index t 0 = t.val % 16 := by rw [idx3]; rfl
  have e1 : win0_3.index t 1 = t.val / 16 := by rw [idx3]; rfl
  have ey : y = ix2 ⟨(y 0).val, h0⟩ ⟨(y 1).val, h1⟩ := by funext a; fin_cases a <;> rfl
  refine (congrArg _ ey).trans ((body _ _ _ _ _).trans (congrArg₂ (· + ·) (Finset.sum_congr rfl fun k _ => ?_) (congrArg _ ?_)))
  · rw [blk0, blk1]
    congr 2
    · exact Fin.ext (by show 512 * (t.val % 16) + (y 0).val = win0_3.index t 0 * 512 + 1 * (y 0).val; rw [e0]; omega)
    · exact Fin.ext (by show 1024 * (t.val / 16) + (y 1).val = win0_3.index t 1 * 1024 + 1 * (y 1).val; rw [e1]; omega)
  · rw [blk2]
    congr 1
    · exact Fin.ext (by show 512 * (t.val % 16) + (y 0).val = win0_3.index t 0 * 512 + 1 * (y 0).val; rw [e0]; omega)
    · exact Fin.ext (by show 1024 * (t.val / 16) + (y 1).val = win0_3.index t 1 * 1024 + 1 * (y 1).val; rw [e1]; omega)

end Cert.GradXIdeal.Product

end
-- ==== Proof.WIn.lean ====
/-
  The gradient of the input projections' weight, taken in four parts: what the version's call leaves in its result
  array over the extended reals, entry by entry.
-/
module

public import proofs.«01_k».proof.Proof.Gen.WInIdeal.Value
public import Idealize.ShloMosaic.Lib.Pointwise
public import Idealize.ShloMosaic.Lib.Pipeline.ValueKit.Geometry

@[expose] public section

set_option maxRecDepth 16384

noncomputable section

namespace Cert.WInIdeal.Product

open Cert.WInIdeal Cert.WInIdeal.Gen Idealize.ShloMosaic Idealize.ShloMosaic.TcCoe Idealize.ShloMosaic.Tactic
open Idealize.ShloMosaic.Pipeline

theorem off2 : (![0, 0] : Fin 2 → ℕ) = fun _ => 0 := by decide

/-! ## What the body leaves in the accumulator and the result's block -/

section body
variable (c : Dev nD) (i : grid0.Coords) (arg3 : Memref sig .tc .vmem S2048x2176 .bf16) (harg3 : arg3.IsWhole)
  (arg4 : Memref sig .tc .vmem S2048x512 .f32) (harg4 : arg4.IsWhole) (arg5 : Memref sig .tc .vmem S2176x512 .bf16) (harg5 : arg5.IsWhole)
  (arg6 : Memref sig .tc .vmem S2176x512 .f32) (harg6 : arg6.IsWhole) (x0 : Vec Ideal S2048x2176 .bf16) (x1 : Vec Ideal S2048x512 .f32)
  (xs0 : Vec Ideal S2176x512 .f32)

/-- The whole buffer. -/
abbrev whole : Rect S2176x512 := Rect.unit (s := S2176x512) ![0, 0] S2176x512.size inb_S2176x512_S2176x512_0_0

theorem whole_covers {e : EltTy} (w : whole.shape.Idx → Elt Ideal e) (L : List (View.Piece (Elt Ideal) S2176x512 e)) (y : S2176x512.Idx) :
    ∃ p ∈ ((⟨whole, w⟩ : View.Piece (Elt Ideal) S2176x512 e) :: L), y ∈ p.1.set := by
  obtain ⟨p, hp, hy⟩ := View.cover_of_tiledL [(⟨whole, w⟩ : View.Piece (Elt Ideal) S2176x512 e)] S2176x512.size (by sl_kernel_rfl) y
  exact ⟨p, by simp only [List.mem_singleton] at hp; simp [hp], hy⟩

/-- A buffer stored whole holds what was stored. -/
theorem read_whole {e : EltTy} {sig' : RefSig} {κ : Kind} {sp : Space} (v : View sig' κ sp S2176x512 e) (f : v.ty.Contents (Elt Ideal))
    (w : Vec Ideal S2176x512 e) (L : List (View.Piece (Elt Ideal) S2176x512 e)) :
    v.read (Elt Ideal) (v.writes (Elt Ideal) f (⟨whole, w⟩ :: L)) = w := by
  rw [View.read_writes_eq_canon _ _ _ (whole_covers w L)]
  exact View.canon_cons_unit_zero (S := S2176x512) off2 ..

/-- The first part starts the accumulator. -/
theorem first (hc0 hc1 hc2) :
    sout0_A_0 c i arg3 harg3 arg4 harg4 arg5 harg5 arg6 harg6 hc0 hc1 hc2 x0 x1 = k0_pay2 x0 x1 := by
  unfold sout0_A_0 kernelRun0_A
  dsimp only
  sl_unfold_words
  simp only [View.readAt_eq_ld, harg3.read_unread, harg4.read_unread, View.ld_unit_zero (S := S2048x2176) off2, View.ld_unit_zero (S := S2048x512) off2]
  exact read_whole ..

/-- A part in the middle is added. -/
theorem middle (hc0 hc1 hc2) :
    sout0_B_0 c i arg3 harg3 arg4 harg4 arg5 harg5 arg6 harg6 hc0 hc1 hc2 x0 x1 xs0 = k0_pay3 x0 x1 xs0 := by
  unfold sout0_B_0 kernelRun0_B
  dsimp only
  sl_unfold_words
  simp only [View.readAt_eq_ld, harg3.read_unread, harg4.read_unread, harg6.read_unread, View.ld_unit_zero (S := S2048x2176) off2, View.ld_unit_zero (S := S2048x512) off2,
    View.ld_unit_zero (S := S2176x512) off2]
  exact read_whole ..

/-- The last part is added and the sum rounded into the result's block. -/
theorem last (hc0 hc1 hc2) :
    out0_C_2 c i arg3 harg3 arg4 harg4 arg5 harg5 arg6 harg6 hc0 hc1 hc2 x0 x1 xs0 = k0_pay4 (k0_pay3 x0 x1 xs0) := by
  unfold out0_C_2 kernelRun0_C
  dsimp only
  sl_unfold_words
  simp only [View.readAt_eq_ld, harg3.read_unread, harg4.read_unread, harg6.read_unread, View.ld_unit_zero (S := S2048x2176) off2, View.ld_unit_zero (S := S2048x512) off2,
    View.ld_unit_zero (S := S2176x512) off2, View.readCov_unit_zero (S := S2176x512) _ off2]
  exact read_whole ..

/-- One entry of the product of two blocks. -/
def dot (r : Fin 2176) (j : Fin 512) : EReal := ∑ k : Fin 2048, x0 (ix2 k r) * x1 (ix2 k j)

theorem pay2_apply (r : Fin 2176) (j : Fin 512) : k0_pay2 x0 x1 (ix2 r j) = dot x0 x1 r j := by
  pointwise [k0_pay2, k0_pay1]
  rfl

theorem pay3_apply (r : Fin 2176) (j : Fin 512) : k0_pay3 x0 x1 xs0 (ix2 r j) = xs0 (ix2 r j) + dot x0 x1 r j := by
  pointwise [k0_pay3, k0_pay1]
  rfl

end body

/-! ## The accumulator after each point -/

variable (m : (ℓ : Loc nD τ sig) → Buf (Elt Ideal) ℓ) (c : Dev nD)

/-- The arguments by row and column. -/
def d (r : Fin 8192) (k : Fin 4352) : EReal := m ((c.tc : Thread nD τ).loc main_arg0) (ix2 r k)
@[inherit_doc d] def x (r : Fin 8192) (k : Fin 2048) : EReal := m ((c.tc : Thread nD τ).loc main_arg1) (ix2 r k)

/-- Where each window's block lies. -/
theorem idx0 : ∀ t : Fin cfg0.N, win0_0.index t = ![t.val % 4, t.val / 4 % 2] := (by decide +kernel : ∀ t : Fin grid0.N, _)
@[inherit_doc idx0] theorem idx1 : ∀ t : Fin cfg0.N, win0_1.index t = ![t.val % 4, t.val / 8] := (by decide +kernel : ∀ t : Fin grid0.N, _)
@[inherit_doc idx0] theorem idx2 : ∀ t : Fin cfg0.N, win0_2.index t = ![t.val / 4 % 2, t.val / 8] := (by decide +kernel : ∀ t : Fin grid0.N, _)

/-- An entry of the cotangents' block. -/
theorem blk0 (t : Fin cfg0.N) (r : Fin 2048) (l : Fin 2176) : iblk m c 0 t (ix2 r l)
    = d m c ⟨2048 * (t.val % 4) + r, by omega⟩ ⟨2176 * (t.val / 4 % 2) + l, by omega⟩ := by
  blk_simp [iblk, idx0]
  rw [V_main_arg0]
  refine congrArg _ ?_
  blk_ext [idx0]

/-- An entry of the activations' block. -/
theorem blk1 (t : Fin cfg0.N) (r : Fin 2048) (l : Fin 512) : iblk m c 1 t (ix2 r l)
    = x m c ⟨2048 * (t.val % 4) + r, by omega⟩ ⟨512 * (t.val / 8) + l, by have : t.val < 32 := t.isLt; omega⟩ := by
  blk_simp [iblk, idx1]
  rw [V_main_arg1]
  refine congrArg _ ?_
  blk_ext [idx1]

/-- The `q`-th part of an entry. -/
def part (i : Fin 4352) (j : Fin 2048) (q : ℕ) : EReal :=
  ∑ k : Fin 2048, if h : 2048 * q + k < 8192 then d m c ⟨2048 * q + k, h⟩ i * x m c ⟨2048 * q + k, h⟩ j else 0

/-- What a point adds. -/
theorem point (t : Fin cfg0.N) (r : Fin 2176) (j : Fin 512) :
    dot (iblk m c 0 t) (iblk m c 1 t) r j
      = part m c ⟨2176 * (t.val / 4 % 2) + r, by omega⟩ ⟨512 * (t.val / 8) + j, by have : t.val < 32 := t.isLt; omega⟩ (t.val % 4) := by
  refine Finset.sum_congr rfl fun k _ => ?_
  rw [blk0, blk1, dif_pos (by omega)]

/-- After a point the accumulator holds the parts so far. -/
theorem acc (n : ℕ) (h : n < 32) (hq : n % 4 < 3) (r : Fin 2176) (j : Fin 512) :
    (outsAt0 m c n h).2 (ix2 r j)
      = ∑ q ∈ Finset.range (n % 4 + 1), part m c ⟨2176 * (n / 4 % 2) + r, by omega⟩ ⟨512 * (n / 8) + j, by omega⟩ q := by
  induction n with
  | zero =>
    rw [outsAt0_A m c ⟨0, h⟩ (Nat.zero_mod _) (by simp) (by simp)]
    dsimp only
    rw [first, pay2_apply, point]
    simp
  | succ n ih =>
    by_cases h0 : (n + 1) % 4 = 0
    · rw [outsAt0_A m c ⟨n + 1, h⟩ h0 (by dsimp only; omega) (by dsimp only; omega)]
      dsimp only
      rw [first, pay2_apply, point, h0]
      simp [h0]
    · rw [outsAt0_B m c ⟨n + 1, h⟩ h0 (by dsimp only; omega) (by dsimp only; omega)]
      dsimp only
      rw [middle, pay3_apply, point]
      have e1 : (n + 1) % 4 = n % 4 + 1 := by omega
      have e2 : (n + 1) / 4 = n / 4 := by omega
      have e3 : (n + 1) / 8 = n / 8 := by omega
      simp only [e1, e2, e3]
      rw [Finset.sum_range_succ _ (n % 4 + 1)]
      exact congrArg (· + _) (ih (by omega) (by omega))

/-- The four parts make up the whole sum. -/
theorem parts (i : Fin 4352) (j : Fin 2048) : ∑ q ∈ Finset.range 4, part m c i j q = ∑ k : Fin 8192, d m c k i * x m c k j := by
  have e : ∀ q : Fin 4, part m c i j q = ∑ k : Fin 2048, d m c (finProdFinEquiv (q, k)) i * x m c (finProdFinEquiv (q, k)) j := fun q =>
    Finset.sum_congr rfl fun k _ => by
      rw [dif_pos (by omega)]
      have : (⟨2048 * q + k, by omega⟩ : Fin 8192) = finProdFinEquiv (q, k) := Fin.ext (by simp [finProdFinEquiv]; omega)
      rw [this]
  rw [Finset.sum_range, Finset.sum_congr rfl fun q _ => e q, ← Fintype.sum_prod_type' (f := fun (q : Fin 4) (k : Fin 2048) => d m c (finProdFinEquiv (q, k)) i * x m c (finProdFinEquiv (q, k)) j)]
  exact Equiv.sum_comp (finProdFinEquiv (m := 4) (n := 2048)) fun k : Fin 8192 => d m c k i * x m c k j

/-- The result array. -/
theorem final : (dats m 0 c).arrAt 2 cfg0.N = fun i => ∑ k : Fin 8192, d m c k (i 0) * x m c k (i 1) := by
  refine (dats m 0 c).arrAt_eq_of_covers 2 _ (by decide +kernel) fun t hf y => ?_
  blk_simp
  have hm : t.val % 4 = 3 := (flush0_2 t).mp hf
  have ht : t.val < 32 := t.isLt
  rw [after0_2, outsAt0_C m c t (by omega) (by omega) hm]
  dsimp only
  rw [last]
  have h0 : (y 0).val < 2176 := (y 0).isLt
  have h1 : (y 1).val < 512 := (y 1).isLt
  have e0 : win0_2.index t 0 = t.val / 4 % 2 := by rw [idx2]; rfl
  have e1 : win0_2.index t 1 = t.val / 8 := by rw [idx2]; rfl
  have ey : y = ix2 ⟨(y 0).val, h0⟩ ⟨(y 1).val, h1⟩ := by funext a; fin_cases a <;> rfl
  refine (congrArg _ ey).trans ((pay3_apply _ _ _ _ _).trans ?_)
  have s0 : (⟨2176 * (t.val / 4 % 2) + (y 0).val, by omega⟩ : Fin 4352) = ((win0_2.blk t).view.emb y 0 : Fin 4352) :=
    Fin.ext (by show 2176 * (t.val / 4 % 2) + (y 0).val = win0_2.index t 0 * 2176 + 1 * (y 0).val; rw [e0]; omega)
  have s1 : (⟨512 * (t.val / 8) + (y 1).val, by omega⟩ : Fin 2048) = ((win0_2.blk t).view.emb y 1 : Fin 2048) :=
    Fin.ext (by show 512 * (t.val / 8) + (y 1).val = win0_2.index t 1 * 512 + 1 * (y 1).val; rw [e1]; omega)
  refine Eq.trans ?_ ((congrArg₂ (fun a b => ∑ k : Fin 8192, d m c k a * x m c k b) s0 s1))
  rw [point, acc m c (t.val - 1) (by omega) (by omega)]
  have q1 : (t.val - 1) % 4 = 2 := by omega
  have q2 : (t.val - 1) / 4 = t.val / 4 := by omega
  have q3 : (t.val - 1) / 8 = t.val / 8 := by omega
  simp only [q1, q2, q3, hm]
  rw [← parts, Finset.sum_range_succ _ 3]

end Cert.WInIdeal.Product

end
-- ==== Proof.Products.lean ====
/-
  The products of the backward pass: each call of the version and the reference of its result end with equal arrays.
-/
module

public import proofs.«01_k».proof.Defs
public import proofs.«01_k».proof.Proof.WUp
public import proofs.«01_k».proof.Proof.Gen.WUpRefIdeal.Read
public import proofs.«01_k».proof.Proof.WDown
public import proofs.«01_k».proof.Proof.Gen.WDownRefIdeal.Read
public import proofs.«01_k».proof.Proof.WOut
public import proofs.«01_k».proof.Proof.Gen.WOutRefIdeal.Read
public import proofs.«01_k».proof.Proof.DMix
public import proofs.«01_k».proof.Proof.Gen.DMixRefIdeal.Read
public import proofs.«01_k».proof.Proof.GradX
public import proofs.«01_k».proof.Proof.Gen.GradXRefIdeal.Read
public import proofs.«01_k».proof.Proof.WIn
public import proofs.«01_k».proof.Proof.Gen.WInRefIdeal.Read
public import Idealize.ShloMosaic.Lib.Pointwise
public import Idealize.ShloMosaic.Adequacy
public import Idealize.ShloMosaic.Init

@[expose] public section

set_option maxRecDepth 16384

noncomputable section

namespace Cert.Products

open Idealize.ShloMosaic Idealize.ShloMosaic.TcCoe Idealize.SL.Sem

/-- Two matrices with the same entries are equal. -/
theorem ext2 {n0 n1 : ℕ} {α : Type} {f g : (⟨2, ![n0, n1]⟩ : Shape).Idx → α} (h : ∀ (r : Fin n0) (k : Fin n1), f (ix2 r k) = g (ix2 r k)) :
    f = g := funext fun i => by rw [eq_ix2 i]; exact h _ _

/-! ## The up projection's weights -/

/-- One entry of the reference's result. -/
theorem wUp_ref
    (x0 : (⟨Cert.WUpRefIdeal.S8192x2048, .bf16⟩ : BufTy).Contents (Elt Ideal)) (x1 : (⟨Cert.WUpRefIdeal.S2x8192x5632, .bf16⟩ : BufTy).Contents (Elt Ideal))
    (i : Fin 2048) (j : Fin 11264) :
    Cert.WUpRefIdeal.Read.val_main_v13 (F := Ideal) x0 x1 (ix2 i j) = ∑ k : Fin 8192, x0 (ix2 k i) * x1 (ix3 (⟨j.val / 5632, by omega⟩ : Fin 2) k (⟨j.val % 5632, by omega⟩ : Fin 5632)) := by
  open Cert.WUpRefIdeal.Read in
  pointwise [val_main_v13, val_main_v12, val_main_v11, val_main_v10, val_main_v9, val_main_cst, val_main_v8, val_main_v7, val_main_v6, val_main_v5, val_main_v4, val_main_v3, val_main_v2, val_main_v1, val_main_v0]
  refine (Fintype.sum_unique _).trans (Finset.sum_congr rfl fun k _ => ?_)
  rw [mul_comm]
  refine congrArg (x0 (ix2 k i) * ·) ?_
  have hj := j.isLt
  split
  · next h =>
    have e0 : (⟨j.val / 5632, by omega⟩ : Fin 2) = 0 := Fin.ext (show j.val / 5632 = 0 by omega)
    have e1 : (⟨j.val % 5632, by omega⟩ : Fin 5632) = ⟨j.val, h⟩ := Fin.ext (show j.val % 5632 = j.val by omega)
    rw [e0, e1]
  · next h =>
    have e0 : (⟨j.val / 5632, by omega⟩ : Fin 2) = 1 := Fin.ext (show j.val / 5632 = 1 by omega)
    have e1 : (⟨j.val % 5632, by omega⟩ : Fin 5632) = ⟨j.val - 5632, by omega⟩ := Fin.ext (show j.val % 5632 = j.val - 5632 by omega)
    rw [e0, e1]

/-- The reference's run, read at its arguments; it declares no semaphore, so every counter is zero. -/
theorem wUp_ref_frame : Cert.quiescent_WUpRefIdeal := fun m g _ =>
  (θ_run Cert.WUpRefIdeal.defs _ _).mono (fun r h => ⟨fun c => (h c).2, sem_eq_zero_of_no_sems (by decide) r.2⟩)
    (Cert.WUpRefIdeal.Value.run m g)

/-- The call and its reference end with equal arrays. -/
theorem wUp_values : Cert.algebraic_WUpIdeal_WUpRefIdeal := by
  intro m g m' g' _ hagree
  refine ⟨fun c => (Cert.WUpIdeal.Gen.dats m 0 c).arrAt 2 Cert.WUpIdeal.cfg0.N, Cert.WUpIdeal.Value.run_blocks m g, ?_⟩
  refine (θ_run Cert.WUpRefIdeal.defs _ _).mono (fun r h c => ⟨(h c).1.trans ?_, (h c).2⟩) (Cert.WUpRefIdeal.Value.run m' g')
  refine (Cert.WUpRefIdeal.Read.val_main_v13_eq (F := Ideal) _ _).trans ?_
  refine Eq.trans ?_ (Cert.WUpIdeal.Product.final m c).symm
  rw [(hagree c).1, (hagree c).2]
  exact ext2 fun i j => wUp_ref _ _ i j

/-! ## The down projection's weight -/

/-- One entry of the reference's result. -/
theorem wDown_ref
    (x0 : (⟨Cert.WDownRefIdeal.S8192x5632, .bf16⟩ : BufTy).Contents (Elt Ideal)) (x1 : (⟨Cert.WDownRefIdeal.S8192x2048, .bf16⟩ : BufTy).Contents (Elt Ideal))
    (i : Fin 5632) (j : Fin 2048) :
    Cert.WDownRefIdeal.Read.val_main_v8 (F := Ideal) x0 x1 (ix2 i j) = ∑ k : Fin 8192, x0 (ix2 k i) * x1 (ix2 k j) := by
  open Cert.WDownRefIdeal.Read in
  pointwise [val_main_v8, val_main_v7, val_main_v6, val_main_v5, val_main_v4, val_main_cst, val_main_v3, val_main_v2, val_main_v1, val_main_v0]
  exact (Fintype.sum_unique _).trans (Finset.sum_congr rfl fun k _ => mul_comm _ _)

/-- The reference's run, read at its arguments; it declares no semaphore, so every counter is zero. -/
theorem wDown_ref_frame : Cert.quiescent_WDownRefIdeal := fun m g _ =>
  (θ_run Cert.WDownRefIdeal.defs _ _).mono (fun r h => ⟨fun c => (h c).2, sem_eq_zero_of_no_sems (by decide) r.2⟩)
    (Cert.WDownRefIdeal.Value.run m g)

/-- The call and its reference end with equal arrays. -/
theorem wDown_values : Cert.algebraic_WDownIdeal_WDownRefIdeal := by
  intro m g m' g' _ hagree
  refine ⟨fun c => (Cert.WDownIdeal.Gen.dats m 0 c).arrAt 2 Cert.WDownIdeal.cfg0.N, Cert.WDownIdeal.Value.run_blocks m g, ?_⟩
  refine (θ_run Cert.WDownRefIdeal.defs _ _).mono (fun r h c => ⟨(h c).1.trans ?_, (h c).2⟩) (Cert.WDownRefIdeal.Value.run m' g')
  refine (Cert.WDownRefIdeal.Read.val_main_v8_eq (F := Ideal) _ _).trans ?_
  refine Eq.trans ?_ (Cert.WDownIdeal.Product.final m c).symm
  rw [(hagree c).1, (hagree c).2]
  exact ext2 fun i j => wDown_ref _ _ i j

/-! ## One half of the output projection's weight -/

/-- One entry of the reference's result. -/
theorem wOut_ref
    (x0 : (⟨Cert.WOutRefIdeal.S8192x1024, .bf16⟩ : BufTy).Contents (Elt Ideal)) (x1 : (⟨Cert.WOutRefIdeal.S8192x2048, .bf16⟩ : BufTy).Contents (Elt Ideal))
    (i : Fin 1024) (j : Fin 2048) :
    Cert.WOutRefIdeal.Read.val_main_v8 (F := Ideal) x0 x1 (ix2 i j) = ∑ k : Fin 8192, x0 (ix2 k i) * x1 (ix2 k j) := by
  open Cert.WOutRefIdeal.Read in
  pointwise [val_main_v8, val_main_v7, val_main_v6, val_main_v5, val_main_v4, val_main_cst, val_main_v3, val_main_v2, val_main_v1, val_main_v0]
  exact (Fintype.sum_unique _).trans (Finset.sum_congr rfl fun k _ => mul_comm _ _)

/-- The reference's run, read at its arguments; it declares no semaphore, so every counter is zero. -/
theorem wOut_ref_frame : Cert.quiescent_WOutRefIdeal := fun m g _ =>
  (θ_run Cert.WOutRefIdeal.defs _ _).mono (fun r h => ⟨fun c => (h c).2, sem_eq_zero_of_no_sems (by decide) r.2⟩)
    (Cert.WOutRefIdeal.Value.run m g)

/-- The call and its reference end with equal arrays. -/
theorem wOut_values : Cert.algebraic_WOutIdeal_WOutRefIdeal := by
  intro m g m' g' _ hagree
  refine ⟨fun c => (Cert.WOutIdeal.Gen.dats m 0 c).arrAt 2 Cert.WOutIdeal.cfg0.N, Cert.WOutIdeal.Value.run_blocks m g, ?_⟩
  refine (θ_run Cert.WOutRefIdeal.defs _ _).mono (fun r h c => ⟨(h c).1.trans ?_, (h c).2⟩) (Cert.WOutRefIdeal.Value.run m' g')
  refine (Cert.WOutRefIdeal.Read.val_main_v8_eq (F := Ideal) _ _).trans ?_
  refine Eq.trans ?_ (Cert.WOutIdeal.Product.final m c).symm
  rw [(hagree c).1, (hagree c).2]
  exact ext2 fun i j => wOut_ref _ _ i j

/-! ## The mixed activations -/

/-- One entry of the reference's result. -/
theorem dMix_ref
    (x0 : (⟨Cert.DMixRefIdeal.S8192x2048, .bf16⟩ : BufTy).Contents (Elt Ideal)) (x1 : (⟨Cert.DMixRefIdeal.S2048x2048, .bf16⟩ : BufTy).Contents (Elt Ideal))
    (i : Fin 8192) (j : Fin 2048) :
    Cert.DMixRefIdeal.Read.val_main_v7 (F := Ideal) x0 x1 (ix2 i j) = ∑ k : Fin 2048, x0 (ix2 i k) * x1 (ix2 j k) := by
  open Cert.DMixRefIdeal.Read in
  pointwise [val_main_v7, val_main_v6, val_main_v5, val_main_v4, val_main_v3, val_main_cst, val_main_v2, val_main_v1, val_main_v0]

/-- The reference's run, read at its arguments; it declares no semaphore, so every counter is zero. -/
theorem dMix_ref_frame : Cert.quiescent_DMixRefIdeal := fun m g _ =>
  (θ_run Cert.DMixRefIdeal.defs _ _).mono (fun r h => ⟨fun c => (h c).2, sem_eq_zero_of_no_sems (by decide) r.2⟩)
    (Cert.DMixRefIdeal.Value.run m g)

/-- The call and its reference end with equal arrays. -/
theorem dMix_values : Cert.algebraic_DMixIdeal_DMixRefIdeal := by
  intro m g m' g' _ hagree
  refine ⟨fun c => (Cert.DMixIdeal.Gen.dats m 0 c).arrAt 2 Cert.DMixIdeal.cfg0.N, Cert.DMixIdeal.Value.run_blocks m g, ?_⟩
  refine (θ_run Cert.DMixRefIdeal.defs _ _).mono (fun r h c => ⟨(h c).1.trans ?_, (h c).2⟩) (Cert.DMixRefIdeal.Value.run m' g')
  refine (Cert.DMixRefIdeal.Read.val_main_v7_eq (F := Ideal) _ _).trans ?_
  refine Eq.trans ?_ (Cert.DMixIdeal.Product.final m c).symm
  rw [(hagree c).1, (hagree c).2]
  exact ext2 fun i j => dMix_ref _ _ i j

/-! ## The block's input -/

/-- One entry of the reference's result. -/
theorem gradX_ref
    (x0 : (⟨Cert.GradXRefIdeal.S8192x4352, .bf16⟩ : BufTy).Contents (Elt Ideal)) (x1 : (⟨Cert.GradXRefIdeal.S8192x2048, .bf16⟩ : BufTy).Contents (Elt Ideal)) (x2 : (⟨Cert.GradXRefIdeal.S4352x2048, .bf16⟩ : BufTy).Contents (Elt Ideal))
    (i : Fin 8192) (j : Fin 2048) :
    Cert.GradXRefIdeal.Read.val_main_v14 (F := Ideal) x0 x1 x2 (ix2 i j) = ∑ k : Fin 4352, x0 (ix2 i k) * x2 (ix2 k j) + Ideal.ofBits .f32 0x3F9837F0#32 * x1 (ix2 i j) := by
  open Cert.GradXRefIdeal.Read in
  pointwise [val_main_v14, val_main_v13, val_main_v12, val_main_v11, val_main_v10, val_main_cst_1, val_main_v9, val_main_v8, val_main_cst_0, val_main_v7, val_main_v6, val_main_cst, val_main_v5, val_main_v4, val_main_v3, val_main_v2, val_main_v1, val_main_v0]
  exact add_comm _ _

/-- The reference's run, read at its arguments; it declares no semaphore, so every counter is zero. -/
theorem gradX_ref_frame : Cert.quiescent_GradXRefIdeal := fun m g _ =>
  (θ_run Cert.GradXRefIdeal.defs _ _).mono (fun r h => ⟨fun c => (h c).2, sem_eq_zero_of_no_sems (by decide) r.2⟩)
    (Cert.GradXRefIdeal.Value.run m g)

/-- The call and its reference end with equal arrays. -/
theorem gradX_values : Cert.algebraic_GradXIdeal_GradXRefIdeal := by
  intro m g m' g' _ hagree
  refine ⟨fun c => (Cert.GradXIdeal.Gen.dats m 0 c).arrAt 3 Cert.GradXIdeal.cfg0.N, Cert.GradXIdeal.Value.run_blocks m g, ?_⟩
  refine (θ_run Cert.GradXRefIdeal.defs _ _).mono (fun r h c => ⟨(h c).1.trans ?_, (h c).2⟩) (Cert.GradXRefIdeal.Value.run m' g')
  refine (Cert.GradXRefIdeal.Read.val_main_v14_eq (F := Ideal) _ _ _).trans ?_
  refine Eq.trans ?_ (Cert.GradXIdeal.Product.final m c).symm
  rw [(hagree c).1, (hagree c).2.1, (hagree c).2.2]
  exact ext2 fun i j => gradX_ref _ _ _ i j

/-! ## The input projections' weight -/

/-- One entry of the reference's result. -/
theorem wIn_ref
    (x0 : (⟨Cert.WInRefIdeal.S8192x4352, .bf16⟩ : BufTy).Contents (Elt Ideal)) (x1 : (⟨Cert.WInRefIdeal.S8192x2048, .f32⟩ : BufTy).Contents (Elt Ideal))
    (i : Fin 4352) (j : Fin 2048) :
    Cert.WInRefIdeal.Read.val_main_v8 (F := Ideal) x0 x1 (ix2 i j) = ∑ k : Fin 8192, x0 (ix2 k i) * x1 (ix2 k j) := by
  open Cert.WInRefIdeal.Read in
  pointwise [val_main_v8, val_main_v7, val_main_v6, val_main_v5, val_main_v4, val_main_v3, val_main_cst, val_main_v2, val_main_v1, val_main_v0]
  exact Fintype.sum_unique _

/-- The reference's run, read at its arguments; it declares no semaphore, so every counter is zero. -/
theorem wIn_ref_frame : Cert.quiescent_WInRefIdeal := fun m g _ =>
  (θ_run Cert.WInRefIdeal.defs _ _).mono (fun r h => ⟨fun c => (h c).2, sem_eq_zero_of_no_sems (by decide) r.2⟩)
    (Cert.WInRefIdeal.Value.run m g)

/-- The call and its reference end with equal arrays. -/
theorem wIn_values : Cert.algebraic_WInIdeal_WInRefIdeal := by
  intro m g m' g' _ hagree
  refine ⟨fun c => (Cert.WInIdeal.Gen.dats m 0 c).arrAt 2 Cert.WInIdeal.cfg0.N, Cert.WInIdeal.Value.run_blocks m g, ?_⟩
  refine (θ_run Cert.WInRefIdeal.defs _ _).mono (fun r h c => ⟨(h c).1.trans ?_, (h c).2⟩) (Cert.WInRefIdeal.Value.run m' g')
  refine (Cert.WInRefIdeal.Read.val_main_v8_eq (F := Ideal) _ _).trans ?_
  refine Eq.trans ?_ (Cert.WInIdeal.Product.final m c).symm
  rw [(hagree c).1, (hagree c).2]
  exact ext2 fun i j => wIn_ref _ _ i j

end Cert.Products

end
-- ==== Proof.InProj.lean ====
/-
  The projections of the block's input: what the version's call leaves in its result array over the extended
  reals, entry by entry.
-/
module

public import proofs.«01_k».proof.Proof.Gen.InIdeal.Value
public import Idealize.ShloMosaic.Lib.Pointwise
public import Idealize.ShloMosaic.Lib.Pipeline.ValueKit.Geometry

@[expose] public section

set_option maxRecDepth 16384

noncomputable section

namespace Cert.InIdeal.Product

open Cert.InIdeal Cert.InIdeal.Gen Idealize.ShloMosaic Idealize.ShloMosaic.TcCoe
open Idealize.ShloMosaic.Pipeline

variable (m : (ℓ : Loc nD τ sig) → Buf (Elt Ideal) ℓ) (c : Dev nD)

/-- The arguments by row and column. -/ def x (r : Fin 8192) (k : Fin 2048) : EReal := m ((c.tc : Thread nD τ).loc main_arg0) (ix2 r k)
@[inherit_doc x] def w (r : Fin 4352) (k : Fin 2048) : EReal := m ((c.tc : Thread nD τ).loc main_arg1) (ix2 r k)

theorem off2 : (![0, 0] : Fin 2 → ℕ) = fun _ => 0 := by decide

/-- Where each window's block lies. -/
theorem idx0 : ∀ t : Fin cfg0.N, win0_0.index t = ![t.val, 0] := (by decide +kernel : ∀ t : Fin grid0.N, _)
@[inherit_doc idx0] theorem idx1 : ∀ t : Fin cfg0.N, win0_1.index t = ![0, 0] := (by decide +kernel : ∀ t : Fin grid0.N, _)
@[inherit_doc idx0] theorem idx2 : ∀ t : Fin cfg0.N, win0_2.index t = ![t.val, 0] := (by decide +kernel : ∀ t : Fin grid0.N, _)

/-- An entry of the block of the input. -/
theorem blk0 (t : Fin cfg0.N) (r : Fin 512) (l : Fin 2048) : iblk m c 0 t (ix2 r l) = x m c ⟨512 * t.val + r, by have : t.val < 16 := t.isLt; omega⟩ l := by
  blk_simp [iblk, idx0]
  rw [V_main_arg0]
  refine congrArg _ ?_
  blk_ext [idx0]

/-- An entry of the weight, which is one block. -/
theorem blk1 (t : Fin cfg0.N) (r : Fin 4352) (l : Fin 2048) : iblk m c 1 t (ix2 r l) = w m c r l := by
  blk_simp [iblk, idx1]
  rw [V_main_arg1]
  refine congrArg _ ?_
  blk_ext [idx1]

/-- One entry of the body's product. -/
theorem body (x0 : Vec Ideal S512x2048 .f32) (x1 : Vec Ideal S4352x2048 .bf16) (i : Fin 512) (j : Fin 4352) :
    out0_2 x0 x1 (ix2 i j) = ∑ k : Fin 2048, x0 (ix2 i k) * x1 (ix2 j k) := by
  unfold out0_2
  rw [View.canon_unit_zero (S := S512x4352) off2, View.ld_unit_zero (S := S512x2048) off2, View.ld_unit_zero (S := S4352x2048) off2]
  pointwise [k0_pay1]

/-- The result array. -/
theorem final : (dats m 0 c).arrAt 2 cfg0.N = fun i =>
    ∑ k : Fin 2048, x m c (i 0) k * w m c (i 1) k := by
  refine (dats m 0 c).arrAt_eq_of_covers 2 _ (by decide +kernel) fun t hf y => ?_
  blk_simp
  rw [after0_2]
  have h0 : (y 0).val < 512 := (y 0).isLt
  have h1 : (y 1).val < 4352 := (y 1).isLt
  have e0 : win0_2.index t 0 = t.val := by rw [idx2]; rfl
  have e1 : win0_2.index t 1 = 0 := by rw [idx2]; rfl
  have ey : y = ix2 ⟨(y 0).val, h0⟩ ⟨(y 1).val, h1⟩ := by funext a; fin_cases a <;> rfl
  refine (congrArg _ ey).trans ((body _ _ _ _).trans (Finset.sum_congr rfl fun k _ => ?_))
  rw [blk0, blk1]
  congr 2
  · exact Fin.ext (by show 512 * t.val + (y 0).val = win0_2.index t 0 * 512 + 1 * (y 0).val; rw [e0]; omega)
  · exact Fin.ext (by show (y 1).val = win0_2.index t 1 * 4352 + 1 * (y 1).val; rw [e1]; omega)

end Cert.InIdeal.Product

end
-- ==== Proof.UpProj.lean ====
/-
  The call that makes the gated activations of the feed-forward block: what it leaves in its three result arrays
  over the extended reals, entry by entry. A grid point multiplies one block of rows by one block of columns of each
  half of the weight, filters the products along the rows with the last rows of the block before, which it keeps in a
  buffer, and gates one half by the other.
-/
module

public import proofs.«01_k».proof.Proof.Gen.UpIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpIdeal.Call

open Cert.UpIdeal Cert.UpIdeal.Gen Idealize.ShloMosaic Idealize.ShloMosaic.TcCoe Idealize.ShloMosaic.Tactic
open Idealize.ShloMosaic.Pipeline

variable (m : (ℓ : Loc nD τ sig) → Buf (Elt Ideal) ℓ) (c : Dev nD)

/-! ## What one point computes -/

/-- One entry of a product of two blocks. -/
def dot (x : Vec Ideal S1024x2048 .bf16) (w : Vec Ideal S2048x512 .bf16) (r : Fin 1024) (j : Fin 512) : EReal :=
  ∑ k : Fin 2048, x (ix2 r k) * w (ix2 k j)

/-- The entry `d` rows above in a column, whose rows before the first are the carried ones. -/
def above (u : Fin 1024 → EReal) (s : Fin 8 → EReal) (d : ℕ) (hd : d ≤ 8) (r : Fin 1024) : EReal :=
  if h : r.val < d then s ⟨8 - d + r, by omega⟩ else u ⟨r - d, by omega⟩

/-- The filter of three rows of one column. -/
def filter (u : Fin 1024 → EReal) (s w : Fin 8 → EReal) (r : Fin 1024) : EReal :=
  w 0 * above u s 2 (by omega) r + w 1 * above u s 1 (by omega) r + w 2 * u r

/-- The logistic gate. -/
def gate (a g : EReal) : EReal := a * Ideal.div 1 (1 + Ideal.exp (-a)) * g

theorem select_row (r k : ℕ) (hr : r < 8) (hk : k < 2) (A B : EReal) :
    Scalar.select (IntOp.cmpi .eq (BitVec.ofNat 32 r) (BitVec.ofNat 32 k)) A B = if r = k then A else B := by
  interval_cases r <;> interval_cases k <;> rfl

theorem above2 (u : Fin 1024 → EReal) (s : Fin 8 → EReal) (r : Fin 1024) (h1 h2) :
    (if h : r.val < 8 then
      Scalar.select (IntOp.cmpi CmpIPredicate.eq (BitVec.ofNat 32 r) 0#32) (s 6)
        (Scalar.select (IntOp.cmpi CmpIPredicate.eq (BitVec.ofNat 32 r) 1#32) (s 7) (u ⟨(r.val + 1024 - 2) % 1024, h1⟩))
      else u ⟨(8 + (r.val - 8) + 1024 - 2) % 1024, h2⟩) = above u s 2 (by omega) r := by
  unfold above
  by_cases h : r.val < 8
  · rw [dif_pos h, select_row r 0 h (by omega), select_row r 1 h (by omega)]
    by_cases h0 : r.val = 0
    · rw [if_pos h0, dif_pos (by omega)]
      exact congrArg s (Fin.ext (by show 6 = 8 - 2 + r.val; omega))
    by_cases h1' : r.val = 1
    · rw [if_neg h0, if_pos h1', dif_pos (by omega)]
      exact congrArg s (Fin.ext (by show 7 = 8 - 2 + r.val; omega))
    · rw [if_neg h0, if_neg h1', dif_neg (by omega)]
      exact congrArg u (Fin.ext (by show (r.val + 1024 - 2) % 1024 = r.val - 2; omega))
  · rw [dif_neg h, dif_neg (by omega)]
    exact congrArg u (Fin.ext (by show (8 + (r.val - 8) + 1024 - 2) % 1024 = r.val - 2; omega))

theorem above1 (u : Fin 1024 → EReal) (s : Fin 8 → EReal) (r : Fin 1024) (h1 h2) :
    (if h : r.val < 8 then
      Scalar.select (IntOp.cmpi CmpIPredicate.eq (BitVec.ofNat 32 r) 0#32) (s 7) (u ⟨(r.val + 1024 - 1) % 1024, h1⟩)
      else u ⟨(8 + (r.val - 8) + 1024 - 1) % 1024, h2⟩) = above u s 1 (by omega) r := by
  unfold above
  by_cases h : r.val < 8
  · rw [dif_pos h, select_row r 0 h (by omega)]
    by_cases h0 : r.val = 0
    · rw [if_pos h0, dif_pos (by omega)]
      exact congrArg s (Fin.ext (by show 7 = 8 - 1 + r.val; omega))
    · rw [if_neg h0, dif_neg (by omega)]
      exact congrArg u (Fin.ext (by show (r.val + 1024 - 1) % 1024 = r.val - 1; omega))
  · rw [dif_neg h, dif_neg (by omega)]
    exact congrArg u (Fin.ext (by show (8 + (r.val - 8) + 1024 - 1) % 1024 = r.val - 1; omega))

section body
variable (x : Vec Ideal S1024x2048 .bf16) (w : Vec Ideal S2048x512 .bf16) (f : Vec Ideal S8x512 .f32) (s : Vec Ideal S1x8x512 .f32)

/-- The filtered column of a block. -/
abbrev filtered (r : Fin 1024) (j : Fin 512) : EReal :=
  filter (fun r => dot x w r j) (fun e => s (ix3 0 e j)) (fun e => f (ix2 e j)) r

theorem prod0 (r : Fin 1024) (j : Fin 512) : k0_pay4 x w (ix2 r j) = dot x w r j := by
  pointwise [k0_pay4]
  rfl

theorem prod1 (r : Fin 1024) (j : Fin 512) : k0_pay18 x w (ix2 r j) = dot x w r j := by
  pointwise [k0_pay18]
  rfl

/-- What the first half's filter gives. -/
abbrev first : FVec Ideal S1024x512 .f32 :=
  k0_pay15 (k0_pay4 x w) (k0_pay7 f) (k0_pay8 x w) (k0_pay9 x w s) k0_pay10 (k0_pay11 s) (k0_pay12 s) (k0_pay13 x w) k0_pay14

/-- What the second half's filter gives. -/
abbrev second : FVec Ideal S1024x512 .f32 := k0_pay22 (k0_pay18 x w) (k0_pay20 s) (k0_pay21 f)

theorem first_apply (r : Fin 1024) (j : Fin 512) : first x w f s (ix2 r j) = filtered x w f s r j := by
  have e1 := above1 (fun r => dot x w r j) (fun e => s (ix3 0 e j)) r (by omega) (by omega)
  have e2 := above2 (fun r => dot x w r j) (fun e => s (ix3 0 e j)) r (by omega) (by omega)
  unfold first filtered filter
  rw [← e1, ← e2]
  simp only [← prod0]
  pointwise [k0_pay15, k0_pay7, k0_pay8, k0_pay9, k0_pay10, k0_pay11, k0_pay12, k0_pay13, k0_pay14, k0_pay6]

theorem second_apply (r : Fin 1024) (j : Fin 512) : second x w f s (ix2 r j) = filtered x w f s r j := by
  have e1 := above1 (fun r => dot x w r j) (fun e => s (ix3 0 e j)) r (by omega) (by omega)
  have e2 := above2 (fun r => dot x w r j) (fun e => s (ix3 0 e j)) r (by omega) (by omega)
  unfold second filtered filter
  rw [← e1, ← e2]
  simp only [← prod1]
  pointwise [k0_pay22, k0_pay20, k0_pay21]

theorem gated (a g : FVec Ideal S1024x512 .f32) (r : Fin 1024) (j : Fin 512) :
    k0_pay2 a g (ix2 r j) = gate (a (ix2 r j)) (g (ix2 r j)) := by
  pointwise [k0_pay2]
  rw [sub_eq_add_neg, zero_add]
  rfl

theorem out24 (u : FVec Ideal S1024x512 .f32) (s f : FVec Ideal S8x512 .f32) (r : Fin 1024) (j : Fin 512) :
    k0_pay1 (k0_pay24 u s f) (ix3 0 r j) = k0_pay22 u s f (ix2 r j) := by
  pointwise [k0_pay1, k0_pay24]

theorem out17 (u : FVec Ideal S1024x512 .f32) (v13 : FVec Ideal S8x512 .f32) (v16 v27 : FVec Ideal S1024x512 .f32) (v29 : IVec S8x1 1) (v30 v33 : FVec Ideal S1x512 .f32) (v34 : FVec Ideal S8x512 .f32) (v35 : IVec S8x1 1)
    (r : Fin 1024) (j : Fin 512) :
    k0_pay17 u v13 v16 v27 v29 v30 v33 v34 v35 (ix3 0 r j) = k0_pay15 u v13 v16 v27 v29 v30 v33 v34 v35 (ix2 r j) := by
  pointwise [k0_pay17]

theorem out5 (r : Fin 1024) (j : Fin 512) : k0_pay5 x w (ix3 0 r j) = dot x w r j := by
  rw [← prod0]; pointwise [k0_pay5]

theorem out19 (r : Fin 1024) (j : Fin 512) : k0_pay19 x w (ix3 0 r j) = dot x w r j := by
  rw [← prod1]; pointwise [k0_pay19]

theorem keep0 (r : Fin 8) (j : Fin 512) : k0_pay16 (k0_pay4 x w) (ix3 0 r j) = dot x w ⟨1016 + r, by omega⟩ j := by
  rw [← prod0]; pointwise [k0_pay16]

theorem keep1 (r : Fin 8) (j : Fin 512) : k0_pay23 (k0_pay18 x w) (ix3 0 r j) = dot x w ⟨1016 + r, by omega⟩ j := by
  rw [← prod1]; pointwise [k0_pay23]

theorem reset (e : Fin 2) (r : Fin 8) (j : Fin 512) : k0_pay3 (F := Ideal) (ix3 e r j) = 0 := by
  pointwise [k0_pay3]

end body

/-! ## What each point leaves -/

variable (m : (ℓ : Loc nD τ sig) → Buf (Elt Ideal) ℓ) (c : Dev nD)

/-- The carried rows that a point meets, of each half: none before the first block of rows. -/
def carried (t : Fin cfg0.N) (e : Fin 2) : Vec Ideal S1x8x512 .f32 := fun i =>
  if t.val % 8 = 0 then 0 else (outsAt0 m c (t.val - 1) (Nat.lt_of_le_of_lt (Nat.sub_le _ _) t.isLt)).2.2.2 (ix3 e (i 1) (i 2))

/-- A load of one half of the carried rows. -/
theorem load0 (X : Vec Ideal S2x8x512 .f32) :
    View.ld X (Rect.unit (s := S2x8x512) ![0, 0, 0] S1x8x512.size inb_S2x8x512_S1x8x512_0_0_0) = fun i => X (ix3 0 (i 1) (i 2)) := by
  funext i
  pointwise

@[inherit_doc load0] theorem load1 (X : Vec Ideal S2x8x512 .f32) :
    View.ld X (Rect.unit (s := S2x8x512) ![1, 0, 0] S1x8x512.size inb_S2x8x512_S1x8x512_1_0_0) = fun i => X (ix3 1 (i 1) (i 2)) := by
  funext i
  pointwise

abbrev whole8 : Rect S2x8x512 := Rect.unit (s := S2x8x512) ![0, 0, 0] S2x8x512.size inb_S2x8x512_S2x8x512_0_0_0
abbrev half0 : Rect S2x8x512 := Rect.unit (s := S2x8x512) ![0, 0, 0] S1x8x512.size inb_S2x8x512_S1x8x512_0_0_0
abbrev half1 : Rect S2x8x512 := Rect.unit (s := S2x8x512) ![1, 0, 0] S1x8x512.size inb_S2x8x512_S1x8x512_1_0_0

/-- A load of a half just cleared. -/
theorem cleared0 (v : View sig .tc .vmem S2x8x512 .f32) :
    v.readCov [(⟨whole8, (k0_pay3 : FVec Ideal S2x8x512 .f32)⟩ : View.Piece (Elt Ideal) S2x8x512 .f32)] half0.toLoadRect = fun _ => (0 : EReal) := by
  simp (disch := decide) only [↓ View.readCov_fill]
  exact (load0 _).trans (funext fun i => reset 0 (i 1) (i 2))

@[inherit_doc cleared0] theorem cleared1 (v : View sig .tc .vmem S2x8x512 .f32) (p : Vec Ideal S1x8x512 .f32) :
    v.readCov [(⟨half0, p⟩ : View.Piece (Elt Ideal) S2x8x512 .f32), ⟨whole8, (k0_pay3 : FVec Ideal S2x8x512 .f32)⟩] half1.toLoadRect = fun _ => (0 : EReal) := by
  simp (disch := decide) only [↓ View.readCov_skip, ↓ View.readCov_fill]
  exact (load1 _).trans (funext fun i => reset 1 (i 1) (i 2))

/-- Two stores, one of each half of a buffer, read back. -/
theorem halves {e : EltTy} (p q : Vec Ideal S1x1024x512 e) (r : Fin 1024) (j : Fin 512) :
    View.canon [(⟨Rect.unit (s := S2x1024x512) ![1, 0, 0] S1x1024x512.size inb_S2x1024x512_S1x1024x512_1_0_0, q⟩ : View.Piece (Elt Ideal) S2x1024x512 e),
        ⟨Rect.unit (s := S2x1024x512) ![0, 0, 0] S1x1024x512.size inb_S2x1024x512_S1x1024x512_0_0_0, p⟩] (ix3 0 r j) = p (ix3 0 r j)
    ∧ View.canon [(⟨Rect.unit (s := S2x1024x512) ![1, 0, 0] S1x1024x512.size inb_S2x1024x512_S1x1024x512_1_0_0, q⟩ : View.Piece (Elt Ideal) S2x1024x512 e),
        ⟨Rect.unit (s := S2x1024x512) ![0, 0, 0] S1x1024x512.size inb_S2x1024x512_S1x1024x512_0_0_0, p⟩] (ix3 1 r j) = q (ix3 0 r j) := by
  constructor
  · canon_tiles x h
    · exact absurd h0 (by show ¬ (0 = 1 + (x 0).val); omega)
    · exact congrArg p (by funext a; fin_cases a <;> exact Fin.ext (by first | exact h1.symm | exact h2.symm | exact h0.symm))
  · canon_tiles x h
    · refine congrArg q ?_
      funext a
      fin_cases a
      · exact Fin.ext (by show (x 0).val = 0; omega)
      · exact Fin.ext h1.symm
      · exact Fin.ext h2.symm
    · exact absurd h0 (by show ¬ (1 = (x 0).val); omega)

@[inherit_doc halves] theorem halves8 (p q : Vec Ideal S1x8x512 .f32) (L : List (View.Piece (Elt Ideal) S2x8x512 .f32)) (r : Fin 8) (j : Fin 512) :
    View.canon ((⟨half1, q⟩ : View.Piece (Elt Ideal) S2x8x512 .f32) :: ⟨half0, p⟩ :: L) (ix3 0 r j) = p (ix3 0 r j)
    ∧ View.canon ((⟨half1, q⟩ : View.Piece (Elt Ideal) S2x8x512 .f32) :: ⟨half0, p⟩ :: L) (ix3 1 r j) = q (ix3 0 r j) := by
  have e0 : (ix3 0 r j : S2x8x512.Idx) = half0.emb (ix3 0 r j : S1x8x512.Idx) := by
    funext a; fin_cases a <;> exact Fin.ext (by first | rfl | (show r.val = 0 + 1 * r.val; omega) | (show j.val = 0 + 1 * j.val; omega))
  have e1 : (ix3 1 r j : S2x8x512.Idx) = half1.emb (ix3 0 r j : S1x8x512.Idx) := by
    funext a; fin_cases a <;> exact Fin.ext (by first | rfl | (show r.val = 0 + 1 * r.val; omega) | (show j.val = 0 + 1 * j.val; omega))
  constructor
  · rw [View.canon_cons_of_not_mem, e0]
    · exact View.canon_cons_emb half0 ..
    · intro h
      obtain ⟨k, _, hk⟩ := (LoadRect.mem_set _).mp h 0
      exact absurd hk (by show ¬ (0 = 1 + 1 * k); omega)
  · rw [e1]
    exact View.canon_cons_emb half1 ..

/-- The products a point leaves. -/
theorem left0 (t : Fin cfg0.N) (r : Fin 1024) (j : Fin 512) :
    (outsAt0 m c t.val t.isLt).1 (ix3 0 r j) = dot (iblk m c 0 t) (iblk m c 1 t) r j
    ∧ (outsAt0 m c t.val t.isLt).1 (ix3 1 r j) = dot (iblk m c 0 t) (iblk m c 2 t) r j := by
  by_cases h0 : t.val % 8 = 0
  · rw [outsAt0_A m c t h0]
    frame_out
    exact ⟨(halves _ _ r j).1.trans (out5 ..), (halves _ _ r j).2.trans (out19 ..)⟩
  · rw [outsAt0_B m c t h0]
    frame_out
    exact ⟨(halves _ _ r j).1.trans (out5 ..), (halves _ _ r j).2.trans (out19 ..)⟩

/-- The last rows of the products a point keeps for the next. -/
theorem left3 (t : Fin cfg0.N) (r : Fin 8) (j : Fin 512) :
    (outsAt0 m c t.val t.isLt).2.2.2 (ix3 0 r j) = dot (iblk m c 0 t) (iblk m c 1 t) ⟨1016 + r, by omega⟩ j
    ∧ (outsAt0 m c t.val t.isLt).2.2.2 (ix3 1 r j) = dot (iblk m c 0 t) (iblk m c 2 t) ⟨1016 + r, by omega⟩ j := by
  by_cases h0 : t.val % 8 = 0
  · rw [outsAt0_A m c t h0]
    frame_out
    exact ⟨(halves8 _ _ _ r j).1.trans (keep0 ..), (halves8 _ _ _ r j).2.trans (keep1 ..)⟩
  · rw [outsAt0_B m c t h0]
    frame_out
    exact ⟨(halves8 _ _ _ r j).1.trans (keep0 ..), (halves8 _ _ _ r j).2.trans (keep1 ..)⟩

/-- The filtered columns a point leaves. -/
theorem left1 (t : Fin cfg0.N) (r : Fin 1024) (j : Fin 512) :
    (outsAt0 m c t.val t.isLt).2.1 (ix3 0 r j) = filtered (iblk m c 0 t) (iblk m c 1 t) (iblk m c 3 t) (carried m c t 0) r j
    ∧ (outsAt0 m c t.val t.isLt).2.1 (ix3 1 r j) = filtered (iblk m c 0 t) (iblk m c 2 t) (iblk m c 4 t) (carried m c t 1) r j := by
  by_cases h0 : t.val % 8 = 0
  · have e0 : carried m c t 0 = fun _ => (0 : EReal) := funext fun _ => if_pos h0
    have e1 : carried m c t 1 = fun _ => (0 : EReal) := funext fun _ => if_pos h0
    rw [outsAt0_A m c t h0, e0, e1]
    frame_out
    refine ⟨((halves _ _ r j).1.trans (out17 ..)).trans ?_, ((halves _ _ r j).2.trans (out24 ..)).trans ?_⟩
    · rw [cleared0]
      exact first_apply ..
    · rw [cleared1]
      exact second_apply ..
  · have e0 : carried m c t 0 = fun i => (outsAt0 m c (t.val - 1) (Nat.lt_of_le_of_lt (Nat.sub_le _ _) t.isLt)).2.2.2 (ix3 0 (i 1) (i 2)) := funext fun _ => if_neg h0
    have e1 : carried m c t 1 = fun i => (outsAt0 m c (t.val - 1) (Nat.lt_of_le_of_lt (Nat.sub_le _ _) t.isLt)).2.2.2 (ix3 1 (i 1) (i 2)) := funext fun _ => if_neg h0
    rw [outsAt0_B m c t h0, e0, e1]
    frame_out
    simp only [read_unread_whole]
    refine ⟨((halves _ _ r j).1.trans (out17 ..)).trans ?_, ((halves _ _ r j).2.trans (out24 ..)).trans ?_⟩
    · rw [load0]
      exact first_apply ..
    · rw [load1]
      exact second_apply ..

/-- The gated columns a point leaves. -/
theorem left2 (t : Fin cfg0.N) (r : Fin 1024) (j : Fin 512) :
    (outsAt0 m c t.val t.isLt).2.2.1 (ix2 r j) = gate (filtered (iblk m c 0 t) (iblk m c 1 t) (iblk m c 3 t) (carried m c t 0) r j)
      (filtered (iblk m c 0 t) (iblk m c 2 t) (iblk m c 4 t) (carried m c t 1) r j) := by
  by_cases h0 : t.val % 8 = 0
  · have e0 : carried m c t 0 = fun _ => (0 : EReal) := funext fun _ => if_pos h0
    have e1 : carried m c t 1 = fun _ => (0 : EReal) := funext fun _ => if_pos h0
    rw [outsAt0_A m c t h0, e0, e1]
    frame_out
    refine (gated ..).trans ?_
    rw [cleared0, cleared1]
    exact congrArg₂ gate (first_apply ..) (second_apply ..)
  · have e0 : carried m c t 0 = fun i => (outsAt0 m c (t.val - 1) (Nat.lt_of_le_of_lt (Nat.sub_le _ _) t.isLt)).2.2.2 (ix3 0 (i 1) (i 2)) := funext fun _ => if_neg h0
    have e1 : carried m c t 1 = fun i => (outsAt0 m c (t.val - 1) (Nat.lt_of_le_of_lt (Nat.sub_le _ _) t.isLt)).2.2.2 (ix3 1 (i 1) (i 2)) := funext fun _ => if_neg h0
    rw [outsAt0_B m c t h0, e0, e1]
    frame_out
    simp only [read_unread_whole]
    refine (gated ..).trans ?_
    rw [load0, load1]
    exact congrArg₂ gate (first_apply ..) (second_apply ..)

/-! ## The arrays -/

/-- The arguments by row and column: the activations, the weight and the filter's coefficients. -/
def x (r : ℕ) (k : Fin 2048) : EReal := if h : r < 8192 then m ((c.tc : Thread nD τ).loc main_arg0) (ix2 ⟨r, h⟩ k) else 0
@[inherit_doc x] def w (k : Fin 2048) (j : ℕ) : EReal := if h : j < 11264 then m ((c.tc : Thread nD τ).loc main_arg1) (ix2 k ⟨j, h⟩) else 0
@[inherit_doc x] def f (d : Fin 3) (j : ℕ) : EReal := if h : j < 11264 then m ((c.tc : Thread nD τ).loc main_arg2) (ix2 d ⟨j, h⟩) else 0

/-- The product. -/
def up (r j : ℕ) : EReal := ∑ k : Fin 2048, x m c r k * w m c k j

/-- A column `d` rows later, with zeros before its first row. -/
def past (u : ℕ → EReal) (d r : ℕ) : EReal := if r < d then 0 else u (r - d)

/-- The product filtered along its rows. -/
def conv (r j : ℕ) : EReal :=
  f m c 0 j * past (fun r => up m c r j) 2 r + f m c 1 j * past (fun r => up m c r j) 1 r + f m c 2 j * up m c r j

/-- Where each window's block lies. -/
theorem idx0 : ∀ t : Fin cfg0.N, win0_0.index t = ![t.val % 8, 0] := (by decide +kernel : ∀ t : Fin grid0.N, _)
@[inherit_doc idx0] theorem idx1 : ∀ t : Fin cfg0.N, win0_1.index t = ![0, t.val / 8] := (by decide +kernel : ∀ t : Fin grid0.N, _)
@[inherit_doc idx0] theorem idx2 : ∀ t : Fin cfg0.N, win0_2.index t = ![0, 11 + t.val / 8] := (by decide +kernel : ∀ t : Fin grid0.N, _)
@[inherit_doc idx0] theorem idx3 : ∀ t : Fin cfg0.N, win0_3.index t = ![0, t.val / 8] := (by decide +kernel : ∀ t : Fin grid0.N, _)
@[inherit_doc idx0] theorem idx4 : ∀ t : Fin cfg0.N, win0_4.index t = ![0, 11 + t.val / 8] := (by decide +kernel : ∀ t : Fin grid0.N, _)
@[inherit_doc idx0] theorem idx5 : ∀ t : Fin cfg0.N, win0_5.index t = ![0, t.val % 8, t.val / 8] := (by decide +kernel : ∀ t : Fin grid0.N, _)
@[inherit_doc idx0] theorem idx6 : ∀ t : Fin cfg0.N, win0_6.index t = ![0, t.val % 8, t.val / 8] := (by decide +kernel : ∀ t : Fin grid0.N, _)
@[inherit_doc idx0] theorem idx7 : ∀ t : Fin cfg0.N, win0_7.index t = ![t.val % 8, t.val / 8] := (by decide +kernel : ∀ t : Fin grid0.N, _)

/-- An entry of the activations' block. -/
theorem blk0 (t : Fin cfg0.N) (r : Fin 1024) (l : Fin 2048) : iblk m c 0 t (ix2 r l) = x m c (1024 * (t.val % 8) + r) l := by
  rw [x, dif_pos (by omega)]
  blk_simp [iblk, idx0]
  rw [V_main_arg0]
  refine congrArg _ ?_
  blk_ext [idx0]

/-- An entry of the weight's block, of each half. -/
theorem blk1 (t : Fin cfg0.N) (r : Fin 2048) (l : Fin 512) : iblk m c 1 t (ix2 r l) = w m c r (512 * (t.val / 8) + l) := by
  have ht : t.val < 88 := t.isLt
  rw [w, dif_pos (by omega)]
  blk_simp [iblk, idx1]
  rw [V_main_arg1]
  refine congrArg _ ?_
  blk_ext [idx1]

@[inherit_doc blk1] theorem blk2 (t : Fin cfg0.N) (r : Fin 2048) (l : Fin 512) : iblk m c 2 t (ix2 r l) = w m c r (5632 + (512 * (t.val / 8) + l)) := by
  have ht : t.val < 88 := t.isLt
  rw [w, dif_pos (by omega)]
  blk_simp [iblk, idx2]
  rw [V_main_arg1]
  refine congrArg _ ?_
  blk_ext [idx2]

/-- The first three rows of a filter with rows of zeros after the third. -/
theorem pad_row (z : FVec Ideal S3x11264 .f32) (r : Fin 8) (j : Fin 11264) (h : r.val < 3) :
    pad S8x11264 ![0, 0] ![5, 0] ![0, 0] z (sitofp .f32 (constantI S_ 32 0#32)) pads_S3x11264_S8x11264_050_000 h_S_ (ix2 r j) = z (ix2 ⟨r, h⟩ j) := by
  pointwise
  exact dif_pos h

/-- The coefficients as the call is given them, with rows of zeros after the third. -/
theorem padded (r : Fin 8) (j : Fin 11264) (h : r.val < 3) : V m c main_v0 (ix2 r j) = f m c ⟨r, h⟩ j := by
  rw [f, dif_pos j.isLt]
  entry_read
  simp only [hostOps0, hostOps0_1, List.flatten_cons, List.flatten_nil, List.cons_append, List.nil_append, List.append_nil]
  after_results
  exact pad_row (m ((c.tc : Thread nD τ).loc main_arg2)) r j h

/-- An entry of the coefficients' block, of each half. -/
theorem blk3 (t : Fin cfg0.N) (r : Fin 8) (l : Fin 512) (h : r.val < 3) : iblk m c 3 t (ix2 r l) = f m c ⟨r, h⟩ (512 * (t.val / 8) + l) := by
  have ht : t.val < 88 := t.isLt
  refine Eq.trans ?_ (padded m c r ⟨512 * (t.val / 8) + l, by omega⟩ h)
  blk_simp [iblk, idx3]
  refine congrArg _ ?_
  blk_ext [idx3]

@[inherit_doc blk3] theorem blk4 (t : Fin cfg0.N) (r : Fin 8) (l : Fin 512) (h : r.val < 3) : iblk m c 4 t (ix2 r l) = f m c ⟨r, h⟩ (5632 + (512 * (t.val / 8) + l)) := by
  have ht : t.val < 88 := t.isLt
  refine Eq.trans ?_ (padded m c r ⟨5632 + (512 * (t.val / 8) + l), by omega⟩ h)
  blk_simp [iblk, idx4]
  refine congrArg _ ?_
  blk_ext [idx4]

/-- A point's products, of each half. -/
theorem dot1 (t : Fin cfg0.N) (r : Fin 1024) (j : Fin 512) :
    dot (iblk m c 0 t) (iblk m c 1 t) r j = up m c (1024 * (t.val % 8) + r) (512 * (t.val / 8) + j) :=
  Finset.sum_congr rfl fun k _ => by rw [blk0, blk1]

@[inherit_doc dot1] theorem dot2 (t : Fin cfg0.N) (r : Fin 1024) (j : Fin 512) :
    dot (iblk m c 0 t) (iblk m c 2 t) r j = up m c (1024 * (t.val % 8) + r) (5632 + (512 * (t.val / 8) + j)) :=
  Finset.sum_congr rfl fun k _ => by rw [blk0, blk2]

/-- The rows carried into a point are the last of the block before, of each half. -/
theorem carried0 (t : Fin cfg0.N) (q : Fin 8) (j : Fin 512) :
    carried m c t 0 (ix3 0 q j) = if t.val % 8 = 0 then 0 else up m c (1024 * (t.val % 8) - 8 + q) (512 * (t.val / 8) + j) := by
  unfold carried
  by_cases h : t.val % 8 = 0
  · rw [if_pos h, if_pos h]
  · rw [if_neg h, if_neg h]
    refine (left3 m c ⟨t.val - 1, Nat.lt_of_le_of_lt (Nat.sub_le _ _) t.isLt⟩ q j).1.trans ((dot1 ..).trans ?_)
    have e1 : 1024 * ((t.val - 1) % 8) + (1016 + q.val) = 1024 * (t.val % 8) - 8 + q.val := by omega
    have e2 : (t.val - 1) / 8 = t.val / 8 := by omega
    show up m c (1024 * ((t.val - 1) % 8) + (1016 + q.val)) (512 * ((t.val - 1) / 8) + j.val) = _
    rw [e1, e2]

@[inherit_doc carried0] theorem carried1 (t : Fin cfg0.N) (q : Fin 8) (j : Fin 512) :
    carried m c t 1 (ix3 0 q j) = if t.val % 8 = 0 then 0 else up m c (1024 * (t.val % 8) - 8 + q) (5632 + (512 * (t.val / 8) + j)) := by
  unfold carried
  by_cases h : t.val % 8 = 0
  · rw [if_pos h, if_pos h]
  · rw [if_neg h, if_neg h]
    refine (left3 m c ⟨t.val - 1, Nat.lt_of_le_of_lt (Nat.sub_le _ _) t.isLt⟩ q j).2.trans ((dot2 ..).trans ?_)
    have e1 : 1024 * ((t.val - 1) % 8) + (1016 + q.val) = 1024 * (t.val % 8) - 8 + q.val := by omega
    have e2 : (t.val - 1) / 8 = t.val / 8 := by omega
    show up m c (1024 * ((t.val - 1) % 8) + (1016 + q.val)) (5632 + (512 * ((t.val - 1) / 8) + j.val)) = _
    rw [e1, e2]

/-- With the rows before a block carried in, looking upwards inside the block is looking upwards in the column. -/
theorem above_eq (u : ℕ → EReal) (b d : ℕ) (hd : d ≤ 8) (r : Fin 1024) :
    above (fun r => u (1024 * b + r)) (fun q => if b = 0 then 0 else u (1024 * b - 8 + q)) d hd r = past u d (1024 * b + r) := by
  unfold above past
  by_cases h : r.val < d
  · rw [dif_pos h]
    show (if b = 0 then 0 else u (1024 * b - 8 + (8 - d + r.val))) = _
    by_cases hb : b = 0
    · rw [if_pos hb, if_pos (by omega)]
    · rw [if_neg hb, if_neg (by omega)]
      exact congrArg u (by show 1024 * b - 8 + (8 - d + r.val) = 1024 * b + r.val - d; omega)
  · rw [dif_neg h, if_neg (by omega)]
    exact congrArg u (by show 1024 * b + (r.val - d) = 1024 * b + r.val - d; omega)

/-- What a point's filter gives, of each half. -/
theorem filtered0 (t : Fin cfg0.N) (r : Fin 1024) (j : Fin 512) :
    filtered (iblk m c 0 t) (iblk m c 1 t) (iblk m c 3 t) (carried m c t 0) r j = conv m c (1024 * (t.val % 8) + r) (512 * (t.val / 8) + j) := by
  unfold filtered filter conv
  simp only [dot1, carried0, above_eq (fun r => up m c r (512 * (t.val / 8) + j)), blk3 m c t 0 j (by decide), blk3 m c t 1 j (by decide), blk3 m c t 2 j (by decide)]
  rfl

@[inherit_doc filtered0] theorem filtered1 (t : Fin cfg0.N) (r : Fin 1024) (j : Fin 512) :
    filtered (iblk m c 0 t) (iblk m c 2 t) (iblk m c 4 t) (carried m c t 1) r j = conv m c (1024 * (t.val % 8) + r) (5632 + (512 * (t.val / 8) + j)) := by
  unfold filtered filter conv
  simp only [dot2, carried1, above_eq (fun r => up m c r (5632 + (512 * (t.val / 8) + j))), blk4 m c t 0 j (by decide), blk4 m c t 1 j (by decide), blk4 m c t 2 j (by decide)]
  rfl

/-- The array of the products. -/
theorem final5 : (dats m 0 c).arrAt 5 cfg0.N = fun i => up m c (i 1).val (5632 * (i 0).val + (i 2).val) := by
  refine (dats m 0 c).arrAt_eq_of_covers 5 _ (by decide +kernel) fun t hf y => ?_
  blk_simp
  rw [after0_5]
  have h1 : (y 1).val < 1024 := (y 1).isLt
  have h2 : (y 2).val < 512 := (y 2).isLt
  have e0 : win0_5.index t 0 = 0 := by rw [idx5]; rfl
  have e1 : win0_5.index t 1 = t.val % 8 := by rw [idx5]; rfl
  have e2 : win0_5.index t 2 = t.val / 8 := by rw [idx5]; rfl
  have g0 : win0_5.index t 0 * 2 + (y 0).val = (y 0).val := by rw [e0]; omega
  have g1 : win0_5.index t 1 * 1024 + (y 1).val = 1024 * (t.val % 8) + (y 1).val := by rw [e1]; omega
  have g2 : win0_5.index t 2 * 512 + (y 2).val = 512 * (t.val / 8) + (y 2).val := by rw [e2]; omega
  show _ = up m c (win0_5.index t 1 * 1024 + (y 1).val) (5632 * (win0_5.index t 0 * 2 + (y 0).val) + (win0_5.index t 2 * 512 + (y 2).val))
  rw [g0, g1, g2]
  have hy : (y 0).val < 2 := (y 0).isLt
  rcases (by omega : (y 0).val = 0 ∨ (y 0).val = 1) with h | h
  · have ey : y = ix3 0 ⟨(y 1).val, h1⟩ ⟨(y 2).val, h2⟩ := by funext a; fin_cases a <;> first | rfl | exact Fin.ext h
    rw [h, Nat.mul_zero, Nat.zero_add]
    exact (congrArg _ ey).trans ((left0 ..).1.trans (dot1 ..))
  · have ey : y = ix3 1 ⟨(y 1).val, h1⟩ ⟨(y 2).val, h2⟩ := by funext a; fin_cases a <;> first | rfl | exact Fin.ext h
    rw [h, Nat.mul_one]
    exact (congrArg _ ey).trans ((left0 ..).2.trans (dot2 ..))

/-- The array of the filtered products. -/
theorem final6 : (dats m 0 c).arrAt 6 cfg0.N = fun i => conv m c (i 1).val (5632 * (i 0).val + (i 2).val) := by
  refine (dats m 0 c).arrAt_eq_of_covers 6 _ (by decide +kernel) fun t hf y => ?_
  blk_simp
  rw [after0_6]
  have h1 : (y 1).val < 1024 := (y 1).isLt
  have h2 : (y 2).val < 512 := (y 2).isLt
  have e0 : win0_6.index t 0 = 0 := by rw [idx6]; rfl
  have e1 : win0_6.index t 1 = t.val % 8 := by rw [idx6]; rfl
  have e2 : win0_6.index t 2 = t.val / 8 := by rw [idx6]; rfl
  have g0 : win0_6.index t 0 * 2 + (y 0).val = (y 0).val := by rw [e0]; omega
  have g1 : win0_6.index t 1 * 1024 + (y 1).val = 1024 * (t.val % 8) + (y 1).val := by rw [e1]; omega
  have g2 : win0_6.index t 2 * 512 + (y 2).val = 512 * (t.val / 8) + (y 2).val := by rw [e2]; omega
  show _ = conv m c (win0_6.index t 1 * 1024 + (y 1).val) (5632 * (win0_6.index t 0 * 2 + (y 0).val) + (win0_6.index t 2 * 512 + (y 2).val))
  rw [g0, g1, g2]
  have hy : (y 0).val < 2 := (y 0).isLt
  rcases (by omega : (y 0).val = 0 ∨ (y 0).val = 1) with h | h
  · have ey : y = ix3 0 ⟨(y 1).val, h1⟩ ⟨(y 2).val, h2⟩ := by funext a; fin_cases a <;> first | rfl | exact Fin.ext h
    rw [h, Nat.mul_zero, Nat.zero_add]
    exact (congrArg _ ey).trans ((left1 ..).1.trans (filtered0 ..))
  · have ey : y = ix3 1 ⟨(y 1).val, h1⟩ ⟨(y 2).val, h2⟩ := by funext a; fin_cases a <;> first | rfl | exact Fin.ext h
    rw [h, Nat.mul_one]
    exact (congrArg _ ey).trans ((left1 ..).2.trans (filtered1 ..))

/-- The array of the gated activations. -/
theorem final7 : (dats m 0 c).arrAt 7 cfg0.N = fun i => gate (conv m c (i 0).val (i 1).val) (conv m c (i 0).val (5632 + (i 1).val)) := by
  refine (dats m 0 c).arrAt_eq_of_covers 7 _ (by decide +kernel) fun t hf y => ?_
  blk_simp
  rw [after0_7]
  have h0 : (y 0).val < 1024 := (y 0).isLt
  have h1 : (y 1).val < 512 := (y 1).isLt
  have e0 : win0_7.index t 0 = t.val % 8 := by rw [idx7]; rfl
  have e1 : win0_7.index t 1 = t.val / 8 := by rw [idx7]; rfl
  have g0 : win0_7.index t 0 * 1024 + (y 0).val = 1024 * (t.val % 8) + (y 0).val := by rw [e0]; omega
  have g1 : win0_7.index t 1 * 512 + (y 1).val = 512 * (t.val / 8) + (y 1).val := by rw [e1]; omega
  show _ = gate (conv m c (win0_7.index t 0 * 1024 + (y 0).val) (win0_7.index t 1 * 512 + (y 1).val))
    (conv m c (win0_7.index t 0 * 1024 + (y 0).val) (5632 + (win0_7.index t 1 * 512 + (y 1).val)))
  rw [g0, g1]
  have ey : y = ix2 ⟨(y 0).val, h0⟩ ⟨(y 1).val, h1⟩ := by funext a; fin_cases a <;> rfl
  exact (congrArg _ ey).trans ((left2 ..).trans (congrArg₂ gate (filtered0 ..) (filtered1 ..)))

end Cert.UpIdeal.Call

end
-- ==== Proof.Forward.lean ====
module

public import proofs.«01_k».proof.Proof.InProj
public import proofs.«01_k».proof.Proof.UpProj
public import proofs.«01_k».proof.Proof.Products
public import proofs.«01_k».proof.Proof.Gen.InRefIdeal.Read
public import proofs.«01_k».proof.Proof.Gen.UpRefIdeal.Read
public import proofs.«01_k».proof.Defs

/-!
# The forward calls

For each of the two, the reference read at one entry, the reference's frame, and the claim that the two programs end with the same arrays.
-/

@[expose] public section

set_option maxRecDepth 16384

noncomputable section

namespace Cert.Forward

open Idealize.ShloMosaic Idealize.ShloMosaic.Ideal Idealize.ShloMosaic.Tactic Idealize.ShloMosaic.TcCoe Idealize.SL.Sem

/-! ## The input projection -/

/-- An entry of the reference's projection. -/
theorem in_ref (x0 : (⟨Cert.InRefIdeal.S8192x2048, .f32⟩ : BufTy).Contents (Elt Ideal)) (x1 : (⟨Cert.InRefIdeal.S4352x2048, .bf16⟩ : BufTy).Contents (Elt Ideal))
    (i : Fin 8192) (j : Fin 4352) :
    Cert.InRefIdeal.Read.val_main_v5 (F := Ideal) x0 x1 (ix2 i j) = ∑ k : Fin 2048, x0 (ix2 i k) * x1 (ix2 j k) := by
  open Cert.InRefIdeal.Read in
  pointwise [val_main_v5, val_main_v4, val_main_v3, val_main_v2, val_main_v1, val_main_v0]

/-- The reference ends, and nothing of its semaphores is left. -/
theorem in_ref_frame : Cert.quiescent_InRefIdeal := fun m g _ =>
  (θ_run Cert.InRefIdeal.defs _ _).mono (fun r h => ⟨fun c => (h c).2, sem_eq_zero_of_no_sems (by decide) r.2⟩) (Cert.InRefIdeal.Value.run m g)

/-- The kernel's projection is the reference's. -/
theorem in_values : Cert.algebraic_InIdeal_InRefIdeal := by
  intro m g m' g' _ hagree
  refine ⟨fun c => (Cert.InIdeal.Gen.dats m 0 c).arrAt 2 Cert.InIdeal.cfg0.N, Cert.InIdeal.Value.run_blocks m g, ?_⟩
  refine (θ_run Cert.InRefIdeal.defs _ _).mono (fun r h c => ⟨(h c).1.trans ?_, (h c).2⟩) (Cert.InRefIdeal.Value.run m' g')
  refine (Cert.InRefIdeal.Read.val_main_v5_eq (F := Ideal) _ _).trans ?_
  refine Eq.trans ?_ (Cert.InIdeal.Product.final m c).symm
  rw [(hagree c).1, (hagree c).2]
  exact Products.ext2 fun i j => in_ref _ _ i j

/-! ## The first product of the feed-forward layer, its filter and its gate -/

section Up
open Cert.UpRefIdeal Cert.UpRefIdeal.Read

variable (x0 : (⟨S8192x2048, .bf16⟩ : BufTy).Contents (Elt Ideal)) (x1 : (⟨S2048x11264, .bf16⟩ : BufTy).Contents (Elt Ideal))
  (x2 : (⟨S3x11264, .f32⟩ : BufTy).Contents (Elt Ideal))

/-- An entry of the product. -/
theorem up_v3 (i : Fin 8192) (j : Fin 11264) :
    val_main_v3 (F := Ideal) x0 x1 (ix3 0 i j) = ∑ k : Fin 2048, x0 (ix2 i k) * x1 (ix2 k j) := by
  pointwise [val_main_v3, val_main_v2, val_main_v1, val_main_v0]

/-- The product with two rows of zeros before it. -/
theorem up_v5 (i : Fin 8194) (j : Fin 11264) :
    val_main_v5 (F := Ideal) x0 x1 (ix3 0 i j) = if h : i.val < 2 then 0 else val_main_v3 (F := Ideal) x0 x1 (ix3 0 ⟨i.val - 2, by omega⟩ j) := by
  pointwise [val_main_v5, val_main_v4, val_main_cst]

/-- The filter. -/
theorem up_v27 (i : Fin 8192) (j : Fin 11264) :
    val_main_v27 (F := Ideal) x0 x1 x2 (ix3 0 i j)
      = x2 (ix2 0 j) * val_main_v5 (F := Ideal) x0 x1 (ix3 0 ⟨i, by omega⟩ j) + x2 (ix2 1 j) * val_main_v5 (F := Ideal) x0 x1 (ix3 0 ⟨1 + i, by omega⟩ j)
        + x2 (ix2 2 j) * val_main_v5 (F := Ideal) x0 x1 (ix3 0 ⟨2 + i, by omega⟩ j) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_0]

/-- The products, by halves. -/
theorem up_v38 (e : Fin 2) (i : Fin 8192) (j : Fin 5632) :
    val_main_v38 (F := Ideal) x0 x1 (ix3 e i j) = val_main_v3 (F := Ideal) x0 x1 (ix3 0 i ⟨5632 * e + j, by omega⟩) := by
  pointwise [val_main_v38, val_main_v37, val_main_v36, val_main_v35, val_main_v34, val_main_v33, val_main_v32]
  split
  · exact congrArg (fun z => val_main_v3 (F := Ideal) x0 x1 (ix3 0 i z)) (Fin.ext (by show j.val = 5632 * e.val + j.val; omega))
  · exact congrArg (fun z => val_main_v3 (F := Ideal) x0 x1 (ix3 0 i z)) (Fin.ext (by show 5632 + j.val = 5632 * e.val + j.val; omega))

/-- The filtered products, by halves. -/
theorem up_v45 (e : Fin 2) (i : Fin 8192) (j : Fin 5632) :
    val_main_v45 (F := Ideal) x0 x1 x2 (ix3 e i j) = val_main_v27 (F := Ideal) x0 x1 x2 (ix3 0 i ⟨5632 * e + j, by omega⟩) := by
  pointwise [val_main_v45, val_main_v44, val_main_v43, val_main_v42, val_main_v41, val_main_v40, val_main_v39]
  split
  · exact congrArg (fun z => val_main_v27 (F := Ideal) x0 x1 x2 (ix3 0 i z)) (Fin.ext (by show j.val = 5632 * e.val + j.val; omega))
  · exact congrArg (fun z => val_main_v27 (F := Ideal) x0 x1 x2 (ix3 0 i z)) (Fin.ext (by show 5632 + j.val = 5632 * e.val + j.val; omega))

/-- The gate. -/
theorem up_v47 (i : Fin 8192) (j : Fin 5632) :
    val_main_v47 (F := Ideal) x0 x1 x2 (ix2 i j)
      = Cert.UpIdeal.Call.gate (val_main_v27 (F := Ideal) x0 x1 x2 (ix3 0 i ⟨j, by omega⟩)) (val_main_v27 (F := Ideal) x0 x1 x2 (ix3 0 i ⟨5632 + j, by omega⟩)) := by
  unfold Cert.UpIdeal.Call.gate
  pointwise [val_main_v47, val_main_v46, val_main_v31, val_main_v30, val_main_v29, val_main_v28, val_main_call0_v5, val_main_call0_v4, val_main_call0_v3, val_main_call0_v2, val_main_call0_v1, val_main_call0_v0, val_main_call0_cst, val_main_call0_cst_0]

end Up

section Same
open Cert.UpIdeal Cert.UpIdeal.Call

variable (m : (ℓ : Loc nD τ sig) → Buf (Elt Ideal) ℓ) (c : Dev nD)

/-- The call's product is the reference's. -/
theorem up_eq (i : Fin 8192) (j : Fin 11264) :
    Cert.UpRefIdeal.Read.val_main_v3 (F := Ideal) (m ((c.tc : Thread nD τ).loc main_arg0)) (m ((c.tc : Thread nD τ).loc main_arg1)) (ix3 0 i j) = up m c i j := by
  refine (up_v3 _ _ i j).trans (Finset.sum_congr rfl fun k _ => ?_)
  unfold x w
  rw [dif_pos i.isLt, dif_pos j.isLt]

/-- The call's filter is the reference's. -/
theorem conv_eq (i : Fin 8192) (j : Fin 11264) :
    Cert.UpRefIdeal.Read.val_main_v27 (F := Ideal) (m ((c.tc : Thread nD τ).loc main_arg0)) (m ((c.tc : Thread nD τ).loc main_arg1)) (m ((c.tc : Thread nD τ).loc main_arg2)) (ix3 0 i j) = conv m c i j := by
  refine (up_v27 _ _ _ i j).trans ?_
  unfold conv f
  rw [dif_pos j.isLt, dif_pos j.isLt, dif_pos j.isLt]
  refine congrArg₂ _ (congrArg₂ _ (congrArg _ ?_) (congrArg _ ?_)) (congrArg _ ?_) <;> refine (up_v5 _ _ _ j).trans ?_
  · unfold past
    by_cases h : i.val < 2
    · rw [dif_pos h, if_pos h]
    · rw [dif_neg h, if_neg h]; exact up_eq m c ⟨i.val - 2, by omega⟩ j
  · unfold past
    by_cases h : i.val < 1
    · rw [dif_pos (by show 1 + i.val < 2; omega), if_pos h]
    · rw [dif_neg (by show ¬ 1 + i.val < 2; omega), if_neg h]
      refine (up_eq m c ⟨1 + i.val - 2, by omega⟩ j).trans (congrArg (fun r => up m c r j) ?_)
      show 1 + i.val - 2 = i.val - 1
      omega
  · rw [dif_neg (by show ¬ 2 + i.val < 2; omega)]
    refine (up_eq m c ⟨2 + i.val - 2, by omega⟩ j).trans (congrArg (fun r => up m c r j) ?_)
    show 2 + i.val - 2 = i.val
    omega

end Same

/-- Two arrays of three axes are equal when they are at every entry. -/
theorem ext3 {a b d : ℕ} {α : Type} {x y : (⟨3, ![a, b, d]⟩ : Shape).Idx → α} (h : ∀ i j k, x (ix3 i j k) = y (ix3 i j k)) : x = y :=
  funext fun i => by rw [show i = ix3 (i 0) (i 1) (i 2) by funext a; fin_cases a <;> rfl]; exact h ..

/-- The reference ends, and nothing of its semaphores is left. -/
theorem up_ref_frame : Cert.quiescent_UpRefIdeal := fun m g _ =>
  (θ_run Cert.UpRefIdeal.defs _ _).mono (fun r h => ⟨fun c => (h c).2.2.2, sem_eq_zero_of_no_sems (by decide) r.2⟩) (Cert.UpRefIdeal.Value.run m g)

/-- The three arrays of the call are the reference's. -/
theorem up_values : Cert.algebraic_UpIdeal_UpRefIdeal := by
  intro m g m' g' _ hagree
  refine ⟨fun c => (Cert.UpIdeal.Gen.dats m 0 c).arrAt 5 Cert.UpIdeal.cfg0.N, fun c => (Cert.UpIdeal.Gen.dats m 0 c).arrAt 6 Cert.UpIdeal.cfg0.N,
    fun c => (Cert.UpIdeal.Gen.dats m 0 c).arrAt 7 Cert.UpIdeal.cfg0.N, Cert.UpIdeal.Value.run_blocks m g, ?_⟩
  refine (θ_run Cert.UpRefIdeal.defs _ _).mono (fun r h c => ⟨(h c).1.trans ?_, (h c).2.1.trans ?_, (h c).2.2.1.trans ?_, (h c).2.2.2⟩) (Cert.UpRefIdeal.Value.run m' g')
  · refine (Cert.UpRefIdeal.Read.val_main_v38_eq (F := Ideal) _ _).trans ?_
    refine Eq.trans ?_ (Cert.UpIdeal.Call.final5 m c).symm
    rw [(hagree c).1, (hagree c).2.1]
    exact ext3 fun e i j => (up_v38 _ _ e i j).trans (up_eq m c i _)
  · refine (Cert.UpRefIdeal.Read.val_main_v45_eq (F := Ideal) _ _).trans ?_
    refine Eq.trans ?_ (Cert.UpIdeal.Call.final6 m c).symm
    rw [(hagree c).1, (hagree c).2.1, (hagree c).2.2]
    exact ext3 fun e i j => (up_v45 _ _ _ e i j).trans (conv_eq m c i _)
  · refine (Cert.UpRefIdeal.Read.val_main_v47_eq (F := Ideal) _ _).trans ?_
    refine Eq.trans ?_ (Cert.UpIdeal.Call.final7 m c).symm
    rw [(hagree c).1, (hagree c).2.1, (hagree c).2.2]
    exact Products.ext2 fun i j => (up_v47 _ _ _ i j).trans (congrArg₂ _ (conv_eq m c i _) (conv_eq m c i _))

end Cert.Forward

end
-- ==== Proof.LnCall.lean ====
/-
  The call that takes the feed-forward block's input cotangents back through its first normalisation: what it leaves in
  its two result arrays over the extended reals, entry by entry. A grid point multiplies one block of the cotangents by
  one block of the weight and adds the product to an accumulator; after the last of the four parts of a block of rows
  the body finishes these rows in four slabs and adds what they give the normalisation's parameters.
-/
module

public import proofs.«01_k».proof.Proof.Gen.LnIdeal.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.LnIdeal.Call

open Cert.LnIdeal Cert.LnIdeal.Gen Idealize.ShloMosaic Idealize.ShloMosaic.TcCoe Idealize.ShloMosaic.Tactic
open Idealize.ShloMosaic.Pipeline

/-! ## What one point computes -/

/-- The residual's weight, and the number of columns. -/
def al : EReal := Ideal.ofBits FTy.f32 1066940400#32
@[inherit_doc al] def cols : EReal := Ideal.ofBits FTy.f32 1157627904#32

/-- One row of the normalisation's gradient, from the row's cotangents, the gain, the normalised row and its factor. -/
def back (d g x : Fin 2048 → EReal) (rs : EReal) (l : Fin 2048) : EReal :=
  rs * (d l * g l - Ideal.div (∑ k, d k * g k) cols - x l * Ideal.div (∑ k, d k * g k * x k) cols)

section body
variable (v5 : Vec Ideal S1x512x2816 .bf16) (v7 : Vec Ideal S2048x2816 .bf16) (a : Vec Ideal S512x2048 .f32)
  (g : Vec Ideal S1x2048 .f32) (z : Vec Ideal S128x2048 .bf16) (b : Vec Ideal S128x2048 .f32) (x : Vec Ideal S128x2048 .bf16) (rs : Vec Ideal S128x1 .f32)
  (s : Vec Ideal S1x2048 .f32)

/-- One entry of a product of two blocks. -/
def dot (r : Fin 512) (l : Fin 2048) : EReal := ∑ k : Fin 2816, v5 (ix3 0 r k) * v7 (ix2 l k)

theorem pay3_apply (r : Fin 512) (l : Fin 2048) : k0_pay3 v5 v7 (ix2 r l) = dot v5 v7 r l := by
  pointwise [k0_pay3, k0_pay2]
  rfl

theorem pay4_apply (r : Fin 512) (l : Fin 2048) : k0_pay4 v5 v7 a (ix2 r l) = a (ix2 r l) + dot v5 v7 r l := by
  pointwise [k0_pay4, k0_pay2]
  rfl

/-- A slab's cotangents by row and column. -/
def dx (r : Fin 128) (l : Fin 2048) : EReal := al * z (ix2 r l) + b (ix2 r l)

/-- A slab's rows taken back. -/
abbrev slab (r : Fin 128) (l : Fin 2048) : EReal :=
  back (fun l => dx z b r l) (fun l => g (ix2 0 l)) (fun l => x (ix2 r l)) (rs (ix2 r 0)) l

theorem dz0 (r : Fin 128) (l : Fin 2048) : k0_pay10 g z b x rs (ix2 r l) = slab g z b x rs r l := by
  pointwise [k0_pay10, k0_pay6, k0_pay7]
  rfl

theorem dz1 (r : Fin 128) (l : Fin 2048) :
    k0_pay19 (k0_pay14 x) (k0_pay15 rs) (k0_pay17 g z b x) (k0_pay18 g z b) (ix2 r l) = slab g z b x rs r l := by
  pointwise [k0_pay19, k0_pay14, k0_pay15, k0_pay17, k0_pay18, k0_pay16, k0_pay13]
  rfl

theorem dz2 (r : Fin 128) (l : Fin 2048) :
    k0_pay26 (k0_pay22 z b) (k0_pay23 x) (k0_pay24 rs) (k0_pay25 g) (ix2 r l) = slab g z b x rs r l := by
  pointwise [k0_pay26, k0_pay22, k0_pay23, k0_pay24, k0_pay25]
  rfl

theorem dz3 (r : Fin 128) (l : Fin 2048) :
    k0_pay33 g (k0_pay29 z) (FloatOps.ofBits .f32 1066940400#32) b x rs (ix2 r l) = slab g z b x rs r l := by
  pointwise [k0_pay33, k0_pay29, k0_pay30, k0_pay31]
  rfl

/-- What a slab adds to the gain's gradient, and to the shift's. -/
def gain (l : Fin 2048) : EReal := ∑ r : Fin 128, dx z b r l * x (ix2 r l)
@[inherit_doc gain] def shift (l : Fin 2048) : EReal := ∑ r : Fin 128, dx z b r l

theorem dg0 (l : Fin 2048) : k0_pay11 (k0_pay8 z b x) s (ix2 0 l) = s (ix2 0 l) + gain z b x l := by
  pointwise [k0_pay11, k0_pay8, k0_pay6, k0_pay7]
  rfl

theorem dg1 (l : Fin 2048) : k0_pay20 (k0_pay13 z b) (k0_pay14 x) s (ix2 0 l) = s (ix2 0 l) + gain z b x l := by
  pointwise [k0_pay20, k0_pay13, k0_pay14]
  rfl

theorem dg2 (l : Fin 2048) : k0_pay27 (k0_pay22 z b) (k0_pay23 x) s (ix2 0 l) = s (ix2 0 l) + gain z b x l := by
  pointwise [k0_pay27, k0_pay22, k0_pay23]
  rfl

theorem dg3 (l : Fin 2048) :
    k0_pay34 (k0_pay29 z) (FloatOps.ofBits .f32 1066940400#32) b x s (ix2 0 l) = s (ix2 0 l) + gain z b x l := by
  pointwise [k0_pay34, k0_pay29, k0_pay30, k0_pay31]
  rfl

theorem db0 (l : Fin 2048) : k0_pay12 (k0_pay9 z b) s (ix2 0 l) = s (ix2 0 l) + shift z b l := by
  pointwise [k0_pay12, k0_pay9, k0_pay6]
  rfl

theorem db1 (l : Fin 2048) : k0_pay21 (k0_pay13 z b) s (ix2 0 l) = s (ix2 0 l) + shift z b l := by
  pointwise [k0_pay21, k0_pay13]
  rfl

theorem db2 (l : Fin 2048) : k0_pay28 (k0_pay22 z b) s (ix2 0 l) = s (ix2 0 l) + shift z b l := by
  pointwise [k0_pay28, k0_pay22]
  rfl

theorem db3 (l : Fin 2048) :
    k0_pay5 (k0_pay32 (k0_pay29 z) (FloatOps.ofBits .f32 1066940400#32) b) s (ix2 0 l) = s (ix2 0 l) + shift z b l := by
  pointwise [k0_pay5, k0_pay32, k0_pay29, k0_pay30]
  rfl

theorem reset (r : Fin 8) (l : Fin 2048) : k0_pay1 (F := Ideal) (ix2 r l) = 0 := by
  pointwise [k0_pay1]

end body

/-! ## Loads and stores of slabs and rows -/

/-- A load just stored. -/
theorem readCov_head {S : Shape} {e : EltTy} (v : View sig .tc .vmem S e) (R : Rect S) (p : R.shape.Idx → Elt Ideal e)
    (L : List (View.Piece (Elt Ideal) S e)) : v.readCov (⟨R, p⟩ :: L) R.toLoadRect = p := by
  rw [View.readCov_eq_canon']
  funext x
  exact View.canon_cons_emb R p L x

/-- A load of 128 rows. -/
theorem ld_rows {e : EltTy} (X : Vec Ideal S512x2048 e) (o : ℕ) (inb) (r : Fin 128) (l : Fin 2048) (h : o + r < 512) :
    View.ld X (Rect.unit (s := S512x2048) ![o, 0] ![128, 2048] inb) (ix2 r l) = X (ix2 ⟨o + r, h⟩ l) := by
  refine congrArg X ?_
  funext i
  fin_cases i <;> exact Fin.ext (by first | (show o + 1 * r.val = o + r.val; omega) | (show 0 + 1 * l.val = l.val; omega))

@[inherit_doc ld_rows] theorem ld_factor (X : Vec Ideal S512x1 .f32) (o : ℕ) (inb) (r : Fin 128) (h : o + r < 512) :
    View.ld X (Rect.unit (s := S512x1) ![o, 0] ![128, 1] inb) (ix2 r 0) = X (ix2 ⟨o + r, h⟩ 0) := by
  refine congrArg X ?_
  funext i
  fin_cases i <;> exact Fin.ext (by first | (show o + 1 * r.val = o + r.val; omega) | rfl)

/-- A load of one row. -/
theorem ld_row (X : Vec Ideal S8x2048 .f32) (o : ℕ) (inb) (l : Fin 2048) (h : o < 8) :
    View.ld X (Rect.unit (s := S8x2048) ![o, 0] ![1, 2048] inb) (ix2 0 l) = X (ix2 ⟨o, h⟩ l) := by
  refine congrArg X ?_
  funext i
  fin_cases i <;> exact Fin.ext (by first | rfl | (show 0 + 1 * l.val = l.val; omega))

section slabs
variable (g : Vec Ideal S1x2048 .f32) (z : Vec Ideal S512x2048 .bf16) (b : Vec Ideal S512x2048 .f32) (x : Vec Ideal S512x2048 .bf16) (rs : Vec Ideal S512x1 .f32)

/-- A slab of a block is the block's rows. -/
theorem slab_of (o : ℕ) (iz ib ix ir) (r : Fin 128) (l : Fin 2048) (h : o + r < 512) :
    slab g (View.ld z (Rect.unit (s := S512x2048) ![o, 0] ![128, 2048] iz)) (View.ld b (Rect.unit (s := S512x2048) ![o, 0] ![128, 2048] ib))
        (View.ld x (Rect.unit (s := S512x2048) ![o, 0] ![128, 2048] ix)) (View.ld rs (Rect.unit (s := S512x1) ![o, 0] ![128, 1] ir)) r l
      = back (fun l => al * z (ix2 ⟨o + r, h⟩ l) + b (ix2 ⟨o + r, h⟩ l)) (fun l => g (ix2 0 l)) (fun l => x (ix2 ⟨o + r, h⟩ l)) (rs (ix2 ⟨o + r, h⟩ 0)) l := by
  have e1 : (fun l => dx (View.ld z (Rect.unit (s := S512x2048) ![o, 0] ![128, 2048] iz)) (View.ld b (Rect.unit (s := S512x2048) ![o, 0] ![128, 2048] ib)) r l)
      = fun l => al * z (ix2 ⟨o + r, h⟩ l) + b (ix2 ⟨o + r, h⟩ l) := funext fun l => by
    unfold dx; rw [ld_rows z o iz r l h, ld_rows b o ib r l h]
  have e2 : (fun l => View.ld x (Rect.unit (s := S512x2048) ![o, 0] ![128, 2048] ix) (ix2 r l)) = fun l => x (ix2 ⟨o + r, h⟩ l) :=
    funext fun l => ld_rows x o ix r l h
  unfold slab
  rw [e1, ld_factor rs o ir r h]
  exact congrArg (fun x => back _ _ x _ l) e2

/-- What 128 rows from row `o` of a block add to the gain's gradient, and to the shift's. -/
theorem gain_of (o : ℕ) (iz ib ix) (l : Fin 2048) (h : o + 128 ≤ 512) :
    gain (View.ld z (Rect.unit (s := S512x2048) ![o, 0] ![128, 2048] iz)) (View.ld b (Rect.unit (s := S512x2048) ![o, 0] ![128, 2048] ib))
        (View.ld x (Rect.unit (s := S512x2048) ![o, 0] ![128, 2048] ix)) l
      = ∑ r : Fin 128, (al * z (ix2 ⟨o + r, by omega⟩ l) + b (ix2 ⟨o + r, by omega⟩ l)) * x (ix2 ⟨o + r, by omega⟩ l) := by
  refine Finset.sum_congr rfl fun r _ => ?_
  unfold dx
  rw [ld_rows z o iz r l (by omega), ld_rows b o ib r l (by omega), ld_rows x o ix r l (by omega)]

@[inherit_doc gain_of] theorem shift_of (o : ℕ) (iz ib) (l : Fin 2048) (h : o + 128 ≤ 512) :
    shift (View.ld z (Rect.unit (s := S512x2048) ![o, 0] ![128, 2048] iz)) (View.ld b (Rect.unit (s := S512x2048) ![o, 0] ![128, 2048] ib)) l
      = ∑ r : Fin 128, (al * z (ix2 ⟨o + r, by omega⟩ l) + b (ix2 ⟨o + r, by omega⟩ l)) := by
  refine Finset.sum_congr rfl fun r _ => ?_
  unfold dx
  rw [ld_rows z o iz r l (by omega), ld_rows b o ib r l (by omega)]

end slabs

/-- A buffer stored in slabs, read at a row of the last one stored or of the others. -/
theorem slab_mem (o : ℕ) (inb) (w : Vec Ideal S128x2048 .bf16) (L : List (View.Piece (Elt Ideal) S512x2048 .bf16)) (p : Fin 512) (l : Fin 2048)
    (v : EReal) (hin : ∀ (r : Fin 128), p.val = o + r.val → w (ix2 r l) = v)
    (hout : p.val < o ∨ o + 128 ≤ p.val → View.canon L (ix2 p l) = v) :
    View.canon ((⟨Rect.unit (s := S512x2048) ![o, 0] ![128, 2048] inb, w⟩ : View.Piece (Elt Ideal) S512x2048 .bf16) :: L) (ix2 p l) = v := by
  by_cases h : o ≤ p.val ∧ p.val < o + 128
  · have e : (ix2 p l : S512x2048.Idx) = (Rect.unit (s := S512x2048) ![o, 0] ![128, 2048] inb).emb (ix2 (⟨p.val - o, by omega⟩ : Fin 128) l : S128x2048.Idx) := by
      funext a
      fin_cases a
      · exact Fin.ext (by show p.val = o + 1 * (p.val - o); omega)
      · exact Fin.ext (by show l.val = 0 + 1 * l.val; omega)
    rw [e]
    exact (View.canon_cons_emb (Rect.unit (s := S512x2048) ![o, 0] ![128, 2048] inb) w L _).trans (hin ⟨p.val - o, by omega⟩ (by show p.val = o + (p.val - o); omega))
  · rw [View.canon_cons_of_not_mem]
    · exact hout (by omega)
    · intro hm
      obtain ⟨k, hk', hk⟩ := (LoadRect.mem_set _).mp hm 0
      have hk2 : k < 128 := hk'
      have hk3 : p.val = o + 1 * k := hk
      omega

/-- Four slabs make up a block. -/
theorem four (f : Fin 512 → EReal) (s : EReal) :
    s + ∑ r : Fin 128, f ⟨0 + r, by omega⟩ + ∑ r : Fin 128, f ⟨128 + r, by omega⟩ + ∑ r : Fin 128, f ⟨256 + r, by omega⟩
      + ∑ r : Fin 128, f ⟨384 + r, by omega⟩ = s + ∑ p : Fin 512, f p := by
  rw [← Equiv.sum_comp (finProdFinEquiv (m := 4) (n := 128)) f, Fintype.sum_prod_type, Fin.sum_univ_four]
  simp only [add_assoc]
  refine congrArg (s + ·) ?_
  refine congrArg₂ (· + ·) (Finset.sum_congr rfl fun r _ => congrArg f (Fin.ext ?_)) (congrArg₂ (· + ·) (Finset.sum_congr rfl fun r _ => congrArg f (Fin.ext ?_))
    (congrArg₂ (· + ·) (Finset.sum_congr rfl fun r _ => congrArg f (Fin.ext ?_)) (Finset.sum_congr rfl fun r _ => congrArg f (Fin.ext ?_))))
  all_goals simp [finProdFinEquiv]; try omega

variable (m : (ℓ : Loc nD τ sig) → Buf (Elt Ideal) ℓ) (c : Dev nD)

/-- The point before. -/
abbrev before (t : Fin cfg0.N) := outsAt0 m c (t.val - 1) (Nat.lt_of_le_of_lt (Nat.sub_le _ _) t.isLt)

/-- A block of rows' cotangents by row and column, once the accumulator is complete. -/
def dxb (t : Fin cfg0.N) (p : Fin 512) (l : Fin 2048) : EReal :=
  al * iblk m c 2 t (ix2 p l) + (outsAt0 m c t.val t.isLt).2.2 (ix2 p l)

/-- The accumulator at a block of rows' first part, and after. -/
theorem acc_first (t : Fin cfg0.N) (h : t.val % 4 = 0) (r : Fin 512) (l : Fin 2048) :
    (outsAt0 m c t.val t.isLt).2.2 (ix2 r l) = dot (iblk m c 0 t) (iblk m c 1 t) r l := by
  by_cases h0 : t.val % 64 = 0
  · rw [outsAt0_A m c t (by omega) (by omega) (by omega) (by omega)]
    frame_out
    exact pay3_apply ..
  · rw [outsAt0_D m c t (by omega) (by omega) (by omega) (by omega)]
    frame_out
    exact pay3_apply ..

@[inherit_doc acc_first] theorem acc_next (t : Fin cfg0.N) (h : t.val % 4 ≠ 0) (r : Fin 512) (l : Fin 2048) :
    (outsAt0 m c t.val t.isLt).2.2 (ix2 r l) = (before m c t).2.2 (ix2 r l) + dot (iblk m c 0 t) (iblk m c 1 t) r l := by
  by_cases h0 : t.val % 4 = 3
  · rw [outsAt0_C m c t (by omega) (by omega) (by omega) (by omega)]
    frame_out
    simp (disch := decide) only [↓ readCov_head, ↓ View.readCov_skip, ↓ View.readCov_fill, read_unread_whole]
    exact pay4_apply ..
  · rw [outsAt0_B m c t (by omega) (by omega) (by omega) (by omega)]
    frame_out
    simp (disch := decide) only [↓ readCov_head, ↓ View.readCov_skip, ↓ View.readCov_fill, read_unread_whole]
    exact pay4_apply ..

/-- The accumulator after the last part, whole. -/
theorem acc_last (t : Fin cfg0.N) (h : t.val % 4 = 3) :
    (outsAt0 m c t.val t.isLt).2.2 = k0_pay4 (iblk m c 0 t) (iblk m c 1 t) (before m c t).2.2 := by
  rw [outsAt0_C m c t (by omega) (by omega) (by omega) (by omega)]
  frame_out
  simp (disch := decide) only [↓ readCov_head, ↓ View.readCov_skip, ↓ View.readCov_fill, read_unread_whole]

/-- The rows taken back. -/
theorem rows (t : Fin cfg0.N) (h : t.val % 4 = 3) (p : Fin 512) (l : Fin 2048) : (outsAt0 m c t.val t.isLt).1 (ix2 p l)
    = back (fun l => dxb m c t p l) (fun l => iblk m c 5 t (ix2 0 l)) (fun l => iblk m c 3 t (ix2 p l)) (iblk m c 4 t (ix2 p 0)) l := by
  unfold dxb
  rw [acc_last m c t h, outsAt0_C m c t (by omega) (by omega) (by omega) (by omega)]
  frame_out
  simp (disch := decide) only [↓ readCov_head, ↓ View.readCov_skip, ↓ View.readCov_fill, read_unread_whole]
  refine slab_mem 384 _ _ _ p l _ (fun r hr => (dz3 ..).trans ((slab_of _ _ _ _ _ 384 _ _ _ _ r l (by omega)).trans ?_)) fun h3 =>
    slab_mem 256 _ _ _ p l _ (fun r hr => (dz2 ..).trans ((slab_of _ _ _ _ _ 256 _ _ _ _ r l (by omega)).trans ?_)) fun h2 =>
    slab_mem 128 _ _ _ p l _ (fun r hr => (dz1 ..).trans ((slab_of _ _ _ _ _ 128 _ _ _ _ r l (by omega)).trans ?_)) fun h1 =>
    slab_mem 0 _ _ _ p l _ (fun r hr => (dz0 ..).trans ((slab_of _ _ _ _ _ 0 _ _ _ _ r l (by omega)).trans ?_)) fun h0 => absurd h0 (by omega)
  · rw [show (⟨384 + r.val, by omega⟩ : Fin 512) = p from Fin.ext hr.symm]
  · rw [show (⟨256 + r.val, by omega⟩ : Fin 512) = p from Fin.ext hr.symm]
  · rw [show (⟨128 + r.val, by omega⟩ : Fin 512) = p from Fin.ext hr.symm]
  · rw [show (⟨0 + r.val, by omega⟩ : Fin 512) = p from Fin.ext hr.symm]

/-- The sums over the rows: the gain's gradient. -/
theorem sums0 (t : Fin cfg0.N) (h : t.val % 4 = 3) (l : Fin 2048) : (outsAt0 m c t.val t.isLt).2.1 (ix2 0 l)
    = (before m c t).2.1 (ix2 0 l) + ∑ p : Fin 512, dxb m c t p l * iblk m c 3 t (ix2 p l) := by
  unfold dxb
  rw [acc_last m c t h, outsAt0_C m c t (by omega) (by omega) (by omega) (by omega)]
  frame_out
  simp (disch := decide) only [↓ readCov_head, ↓ View.readCov_skip, ↓ View.readCov_fill, read_unread_whole]
  rw [View.read_writes_cons_unit_of_not_mem _ _ _ _ _ _ rfl 0 (Or.inl Nat.zero_lt_one)]
  refine (View.read_writes_cons_unit_of_mem _ _ _ _ _ _ (ix2 0 l) rfl (fun a => by fin_cases a <;> simp)).trans ?_
  rw [dg3, dg2, dg1, dg0]
  refine (congrArg₂ (· + ·) (congrArg₂ (· + ·) (congrArg₂ (· + ·) (congrArg₂ (· + ·) (ld_row _ 0 _ l (by omega)) (gain_of _ _ _ 0 _ _ _ l (by omega)))
    (gain_of _ _ _ 128 _ _ _ l (by omega))) (gain_of _ _ _ 256 _ _ _ l (by omega))) (gain_of _ _ _ 384 _ _ _ l (by omega))).trans ?_
  exact four (fun p => (al * iblk m c 2 t (ix2 p l) + k0_pay4 (iblk m c 0 t) (iblk m c 1 t) (before m c t).2.2 (ix2 p l)) * iblk m c 3 t (ix2 p l)) _

/-- The sums over the rows: the shift's gradient. -/
theorem sums1 (t : Fin cfg0.N) (h : t.val % 4 = 3) (l : Fin 2048) : (outsAt0 m c t.val t.isLt).2.1 (ix2 1 l)
    = (before m c t).2.1 (ix2 1 l) + ∑ p : Fin 512, dxb m c t p l := by
  unfold dxb
  rw [acc_last m c t h, outsAt0_C m c t (by omega) (by omega) (by omega) (by omega)]
  frame_out
  simp (disch := decide) only [↓ readCov_head, ↓ View.readCov_skip, ↓ View.readCov_fill, read_unread_whole]
  refine (View.read_writes_cons_unit_of_mem _ _ _ _ _ _ (ix2 0 l) rfl (fun a => by fin_cases a <;> simp)).trans ?_
  rw [db3, db2, db1, db0]
  refine (congrArg₂ (· + ·) (congrArg₂ (· + ·) (congrArg₂ (· + ·) (congrArg₂ (· + ·) (ld_row _ 1 _ l (by omega)) (shift_of _ _ 0 _ _ l (by omega)))
    (shift_of _ _ 128 _ _ l (by omega))) (shift_of _ _ 256 _ _ l (by omega))) (shift_of _ _ 384 _ _ l (by omega))).trans ?_
  exact four (fun p => al * iblk m c 2 t (ix2 p l) + k0_pay4 (iblk m c 0 t) (iblk m c 1 t) (before m c t).2.2 (ix2 p l)) _

/-- The other rows stay. -/
theorem sums_rest (t : Fin cfg0.N) (h : t.val % 4 = 3) (q : Fin 8) (hq : 2 ≤ q.val) (l : Fin 2048) :
    (outsAt0 m c t.val t.isLt).2.1 (ix2 q l) = (before m c t).2.1 (ix2 q l) := by
  rw [outsAt0_C m c t (by omega) (by omega) (by omega) (by omega)]
  frame_out
  simp (disch := decide) only [↓ readCov_head, ↓ View.readCov_skip, ↓ View.readCov_fill, read_unread_whole]
  have k : ∀ (o : ℕ), o ≤ 1 → ∀ (v : View sig .tc .vmem S8x2048 .f32) f (inb) (w) (L : List (View.Piece (Elt Ideal) S8x2048 .f32)),
      v.read (Elt Ideal) (v.writes (Elt Ideal) f ((⟨Rect.unit (s := S8x2048) ![o, 0] ![1, 2048] inb, w⟩ : View.Piece (Elt Ideal) S8x2048 .f32) :: L)) (ix2 q l)
        = v.read (Elt Ideal) (v.writes (Elt Ideal) f L) (ix2 q l) := fun o ho v f inb w L =>
    View.read_writes_cons_unit_of_not_mem v f inb w L _ rfl 0 (Or.inr (by show o + 1 ≤ q.val; omega))
  iterate 8 (refine (k _ (by omega) _ _ _ _ _).trans ?_)
  exact congrFun (Memref.IsWhole.read_unread _ _) _

/-- The sums elsewhere: nothing at the start, and as they were at every other point. -/
theorem sums_start (t : Fin cfg0.N) (h : t.val % 64 = 0) (q : Fin 8) (l : Fin 2048) : (outsAt0 m c t.val t.isLt).2.1 (ix2 q l) = 0 := by
  rw [outsAt0_A m c t (by omega) (by omega) (by omega) (by omega)]
  frame_out
  exact reset q l

@[inherit_doc sums_start] theorem sums_keep (t : Fin cfg0.N) (h : t.val % 64 ≠ 0) (h3 : t.val % 4 ≠ 3) :
    (outsAt0 m c t.val t.isLt).2.1 = (before m c t).2.1 := by
  by_cases h0 : t.val % 4 = 0
  · rw [outsAt0_D m c t (by omega) (by omega) (by omega) (by omega)]
    rfl
  · rw [outsAt0_B m c t (by omega) (by omega) (by omega) (by omega)]
    rfl

end Cert.LnIdeal.Call

end
-- ==== Proof.LnArrays.lean ====
/-
  The call that takes the feed-forward block's input cotangents back through its first normalisation: the two result
  arrays in terms of the arguments.
-/
module

public import proofs.«01_k».proof.Proof.LnCall

@[expose] public section

set_option maxRecDepth 16384

noncomputable section

namespace Cert.LnIdeal.Call

open Cert.LnIdeal Cert.LnIdeal.Gen Idealize.ShloMosaic Idealize.ShloMosaic.TcCoe Idealize.ShloMosaic.Tactic
open Idealize.ShloMosaic.Pipeline

/-- The mean of a row, and one over the root of its variance and a little more. -/
def mean (z : Fin 2048 → EReal) : EReal := Ideal.div (∑ k, z k) cols
@[inherit_doc mean] def factor (z : Fin 2048 → EReal) : EReal :=
  Ideal.rsqrt (Ideal.div (∑ k, (z k - mean z) * (z k - mean z)) cols + Ideal.ofBits FTy.f32 925353388#32)

variable (m : (ℓ : Loc nD τ sig) → Buf (Elt Ideal) ℓ) (c : Dev nD)

/-- The arguments by row and column: the cotangents, the weight, the residual's cotangents, the rows before the
    normalisation, the gain. -/
def du (r j : ℕ) : EReal :=
  if h : r < 8192 ∧ j < 11264 then m ((c.tc : Thread nD τ).loc main_arg0) (ix3 ⟨j / 5632, by omega⟩ ⟨r, h.1⟩ ⟨j % 5632, by omega⟩) else 0
@[inherit_doc du] def w (l : Fin 2048) (j : ℕ) : EReal := if h : j < 11264 then m ((c.tc : Thread nD τ).loc main_arg1) (ix2 l ⟨j, h⟩) else 0
@[inherit_doc du] def dz (r : ℕ) (l : Fin 2048) : EReal := if h : r < 8192 then m ((c.tc : Thread nD τ).loc main_arg2) (ix2 ⟨r, h⟩ l) else 0
@[inherit_doc du] def z (r : ℕ) (l : Fin 2048) : EReal := if h : r < 8192 then m ((c.tc : Thread nD τ).loc main_arg3) (ix2 ⟨r, h⟩ l) else 0
@[inherit_doc du] def g (l : Fin 2048) : EReal := m ((c.tc : Thread nD τ).loc main_arg4) (ix2 0 l)

/-- The cotangents of the normalisation's result. -/
def ct (r : ℕ) (l : Fin 2048) : EReal := al * dz m c r l + ∑ j : Fin 11264, du m c r j * w m c l j

/-- The normalised rows. -/
def nrm (r : ℕ) (l : Fin 2048) : EReal := (z m c r l - mean (z m c r)) * factor (z m c r)

/-- Where each window's block lies. -/
theorem idx0 : ∀ t : Fin cfg0.N, win0_0.index t = ![t.val % 4 / 2, t.val / 4, t.val % 2] := (by decide +kernel : ∀ t : Fin grid0.N, _)
@[inherit_doc idx0] theorem idx1 : ∀ t : Fin cfg0.N, win0_1.index t = ![0, t.val % 4] := (by decide +kernel : ∀ t : Fin grid0.N, _)
@[inherit_doc idx0] theorem idx2 : ∀ t : Fin cfg0.N, win0_2.index t = ![t.val / 4, 0] := (by decide +kernel : ∀ t : Fin grid0.N, _)
@[inherit_doc idx0] theorem idx3 : ∀ t : Fin cfg0.N, win0_3.index t = ![t.val / 4, 0] := (by decide +kernel : ∀ t : Fin grid0.N, _)
@[inherit_doc idx0] theorem idx4 : ∀ t : Fin cfg0.N, win0_4.index t = ![t.val / 4, 0] := (by decide +kernel : ∀ t : Fin grid0.N, _)
@[inherit_doc idx0] theorem idx5 : ∀ t : Fin cfg0.N, win0_5.index t = ![0, 0] := (by decide +kernel : ∀ t : Fin grid0.N, _)
@[inherit_doc idx0] theorem idx6 : ∀ t : Fin cfg0.N, win0_6.index t = ![t.val / 4, 0] := (by decide +kernel : ∀ t : Fin grid0.N, _)
@[inherit_doc idx0] theorem idx7 : ∀ t : Fin cfg0.N, win0_7.index t = ![0, 0] := (by decide +kernel : ∀ t : Fin grid0.N, _)

/-- An entry of the cotangents' block. -/
theorem blk0 (t : Fin cfg0.N) (r : Fin 512) (k : Fin 2816) :
    iblk m c 0 t (ix3 0 r k) = du m c (512 * (t.val / 4) + r) (2816 * (t.val % 4) + k) := by
  have ht : t.val < 64 := t.isLt
  rw [du, dif_pos ⟨by omega, by omega⟩]
  blk_simp [iblk, idx0]
  rw [V_main_arg0]
  refine congrArg _ ?_
  blk_ext [idx0]

/-- An entry of the weight's block. -/
theorem blk1 (t : Fin cfg0.N) (l : Fin 2048) (k : Fin 2816) : iblk m c 1 t (ix2 l k) = w m c l (2816 * (t.val % 4) + k) := by
  rw [w, dif_pos (by omega)]
  blk_simp [iblk, idx1]
  rw [V_main_arg1]
  refine congrArg _ ?_
  blk_ext [idx1]

/-- An entry of the residual's block. -/
theorem blk2 (t : Fin cfg0.N) (p : Fin 512) (l : Fin 2048) : iblk m c 2 t (ix2 p l) = dz m c (512 * (t.val / 4) + p) l := by
  have ht : t.val < 64 := t.isLt
  rw [dz, dif_pos (by omega)]
  blk_simp [iblk, idx2]
  rw [V_main_arg2]
  refine congrArg _ ?_
  blk_ext [idx2]

/-- The normalised rows as the call is given them, and their factors. -/
theorem given_nrm (r : Fin 8192) (l : Fin 2048) : V m c main_v18 (ix2 r l) = nrm m c r l := by
  unfold_abbrev_sides
  after_results
  have e : z m c r = fun l => m ((c.tc : Thread nD τ).loc main_arg3) (ix2 r l) := funext fun l => dif_pos r.isLt
  unfold nrm
  rw [e]
  pointwise
  rfl

@[inherit_doc given_nrm] theorem given_factor (r : Fin 8192) : V m c main_v13 (ix2 r 0) = factor (z m c r) := by
  unfold_abbrev_sides
  after_results
  have e : z m c r = fun l => m ((c.tc : Thread nD τ).loc main_arg3) (ix2 r l) := funext fun l => dif_pos r.isLt
  rw [e]
  pointwise
  rfl

/-- An entry of the normalised rows' block, and of their factors'. -/
theorem blk3 (t : Fin cfg0.N) (p : Fin 512) (l : Fin 2048) : iblk m c 3 t (ix2 p l) = nrm m c (512 * (t.val / 4) + p) l := by
  have ht : t.val < 64 := t.isLt
  refine Eq.trans ?_ (given_nrm m c ⟨512 * (t.val / 4) + p, by omega⟩ l)
  blk_simp [iblk, idx3]
  refine congrArg _ ?_
  blk_ext [idx3]

@[inherit_doc blk3] theorem blk4 (t : Fin cfg0.N) (p : Fin 512) : iblk m c 4 t (ix2 p 0) = factor (z m c (512 * (t.val / 4) + p)) := by
  have ht : t.val < 64 := t.isLt
  refine Eq.trans ?_ (given_factor m c ⟨512 * (t.val / 4) + p, by omega⟩)
  blk_simp [iblk, idx4]
  refine congrArg _ ?_
  blk_ext [idx4]

/-- An entry of the gain. -/
theorem blk5 (t : Fin cfg0.N) (l : Fin 2048) : iblk m c 5 t (ix2 0 l) = g m c l := by
  unfold g
  blk_simp [iblk, idx5]
  rw [V_main_arg4]
  refine congrArg _ ?_
  blk_ext [idx5]

/-- What a point adds to an entry of the accumulator. -/
def part (r : ℕ) (l : Fin 2048) (q : ℕ) : EReal := ∑ k : Fin 2816, du m c r (2816 * q + k) * w m c l (2816 * q + k)

theorem point (t : Fin cfg0.N) (r : Fin 512) (l : Fin 2048) :
    dot (iblk m c 0 t) (iblk m c 1 t) r l = part m c (512 * (t.val / 4) + r) l (t.val % 4) :=
  Finset.sum_congr rfl fun k _ => by rw [blk0, blk1]

/-- The four parts make up the whole sum. -/
theorem parts (r : ℕ) (l : Fin 2048) :
    part m c r l 0 + part m c r l 1 + part m c r l 2 + part m c r l 3 = ∑ j : Fin 11264, du m c r j * w m c l j := by
  refine Eq.trans ?_ (Equiv.sum_comp (finProdFinEquiv (m := 4) (n := 2816)) fun j : Fin 11264 => du m c r j * w m c l j)
  rw [Fintype.sum_prod_type, Fin.sum_univ_four]
  have e : ∀ q : Fin 4, part m c r l q = ∑ k : Fin 2816, du m c r (finProdFinEquiv (q, k)).val * w m c l (finProdFinEquiv (q, k)).val := fun q =>
    Finset.sum_congr rfl fun k _ => by
      have : 2816 * q.val + k.val = (finProdFinEquiv (q, k)).val := by simp [finProdFinEquiv]; omega
      rw [this]
  exact congrArg₂ (· + ·) (congrArg₂ (· + ·) (congrArg₂ (· + ·) (e 0) (e 1)) (e 2)) (e 3)

/-- The complete accumulator. -/
theorem acc (t : Fin cfg0.N) (h : t.val % 4 = 3) (r : Fin 512) (l : Fin 2048) :
    (outsAt0 m c t.val t.isLt).2.2 (ix2 r l) = ∑ j : Fin 11264, du m c (512 * (t.val / 4) + r) j * w m c l j := by
  have ht : t.val < cfg0.N := t.isLt
  have d1 : (t.val - 1) / 4 = t.val / 4 := by omega
  have d2 : (t.val - 1 - 1) / 4 = t.val / 4 := by omega
  have d3 : (t.val - 1 - 1 - 1) / 4 = t.val / 4 := by omega
  have m1 : (t.val - 1) % 4 = 2 := by omega
  have m2 : (t.val - 1 - 1) % 4 = 1 := by omega
  have m3 : (t.val - 1 - 1 - 1) % 4 = 0 := by omega
  rw [acc_next m c t (by omega), acc_next m c ⟨t.val - 1, by omega⟩ (by show (t.val - 1) % 4 ≠ 0; omega),
    acc_next m c ⟨t.val - 1 - 1, by omega⟩ (by show (t.val - 1 - 1) % 4 ≠ 0; omega), acc_first m c ⟨t.val - 1 - 1 - 1, by omega⟩ m3,
    point, point, point, point, ← parts]
  simp only [d1, d2, d3, m1, m2, m3, h]

/-- A block's cotangents. -/
theorem ct_eq (t : Fin cfg0.N) (h : t.val % 4 = 3) (p : Fin 512) (l : Fin 2048) : dxb m c t p l = ct m c (512 * (t.val / 4) + p) l := by
  unfold dxb ct
  rw [blk2, acc m c t h]

/-- What is left of one row. -/
def left (r : ℕ) (l : Fin 2048) : EReal := back (ct m c r) (g m c) (nrm m c r) (factor (z m c r)) l

theorem left_eq (t : Fin cfg0.N) (h : t.val % 4 = 3) (p : Fin 512) (l : Fin 2048) :
    (outsAt0 m c t.val t.isLt).1 (ix2 p l) = left m c (512 * (t.val / 4) + p) l := by
  rw [rows m c t h, blk4]
  unfold left
  have e1 : (fun l => dxb m c t p l) = ct m c (512 * (t.val / 4) + p) := funext fun l => ct_eq m c t h p l
  have e2 : (fun l => iblk m c 5 t (ix2 0 l)) = g m c := funext fun l => blk5 m c t l
  have e3 : (fun l => iblk m c 3 t (ix2 p l)) = nrm m c (512 * (t.val / 4) + p) := funext fun l => blk3 m c t p l
  rw [e1]
  exact congrArg₂ (fun g x => back _ g x _ l) e2 e3

/-- The first result array. -/
theorem final6 : (dats m 0 c).arrAt 6 cfg0.N = fun i => left m c (i 0).val (i 1) := by
  refine (dats m 0 c).arrAt_eq_of_covers 6 _ (by decide +kernel) fun t hf y => ?_
  blk_simp
  have hm : t.val % 4 = 3 := (flush0_6 t).mp hf
  rw [after0_6]
  have h0 : (y 0).val < 512 := (y 0).isLt
  have h1 : (y 1).val < 2048 := (y 1).isLt
  have e0 : win0_6.index t 0 = t.val / 4 := by rw [idx6]; rfl
  have e1 : win0_6.index t 1 = 0 := by rw [idx6]; rfl
  have ey : y = ix2 ⟨(y 0).val, h0⟩ ⟨(y 1).val, h1⟩ := by funext a; fin_cases a <;> rfl
  refine (congrArg _ ey).trans ((left_eq m c t hm _ _).trans ?_)
  refine congrArg₂ (left m c) ?_ (Fin.ext ?_)
  · show 512 * (t.val / 4) + (y 0).val = win0_6.index t 0 * 512 + (y 0).val; rw [e0]; omega
  · show (y 1).val = win0_6.index t 1 * 2048 + 1 * (y 1).val; rw [e1]; omega

/-- The sums of the first blocks of rows, of what they give each parameter. -/
def sums (q : Fin 8) (l : Fin 2048) (n : ℕ) : EReal :=
  ∑ i ∈ Finset.range n, ∑ p : Fin 512,
    if q.val = 0 then ct m c (512 * i + p) l * nrm m c (512 * i + p) l else if q.val = 1 then ct m c (512 * i + p) l else 0

/-- The sums after each point. -/
theorem sums_eq (n : ℕ) (h : n < 64) (q : Fin 8) (l : Fin 2048) : (outsAt0 m c n h).2.1 (ix2 q l) = sums m c q l ((n + 1) / 4) := by
  induction n with
  | zero => rw [sums_start m c ⟨0, h⟩ rfl]; rfl
  | succ n ih =>
    by_cases h3 : (n + 1) % 4 = 3
    · have ih' : (before m c ⟨n + 1, h⟩).2.1 (ix2 q l) = sums m c q l ((n + 1) / 4) := ih (by omega)
      have d : (n + 1 + 1) / 4 = (n + 1) / 4 + 1 := by omega
      rw [d]
      unfold sums
      rw [Finset.sum_range_succ]
      by_cases q0 : q.val = 0
      · have eq : q = 0 := Fin.ext q0
        subst eq
        refine (sums0 m c ⟨n + 1, h⟩ h3 l).trans (congrArg₂ (· + ·) ih' ?_)
        refine Finset.sum_congr rfl fun p _ => ?_
        exact congrArg₂ (· * ·) (ct_eq m c ⟨n + 1, h⟩ h3 p l) (blk3 m c ⟨n + 1, h⟩ p l)
      by_cases q1 : q.val = 1
      · have eq : q = 1 := Fin.ext q1
        subst eq
        refine (sums1 m c ⟨n + 1, h⟩ h3 l).trans (congrArg₂ (· + ·) ih' ?_)
        refine Finset.sum_congr rfl fun p _ => ?_
        exact ct_eq m c ⟨n + 1, h⟩ h3 p l
      · refine (sums_rest m c ⟨n + 1, h⟩ h3 q (by omega) l).trans (ih'.trans ?_)
        simp only [if_neg q0, if_neg q1, Finset.sum_const_zero, add_zero]
        unfold sums
        simp only [if_neg q0, if_neg q1, Finset.sum_const_zero]
    · have d : (n + 1 + 1) / 4 = (n + 1) / 4 := by omega
      rw [d, sums_keep m c ⟨n + 1, h⟩ (by show (n + 1) % 64 ≠ 0; omega) h3]
      exact ih (by omega)

/-- The second result array: the gain's gradient, the shift's, and rows of zeros. -/
def sum (q : Fin 8) (l : Fin 2048) : EReal :=
  if q.val = 0 then ∑ r : Fin 8192, ct m c r l * nrm m c r l else if q.val = 1 then ∑ r : Fin 8192, ct m c r l else 0

theorem blocks (f : ℕ → EReal) : ∑ i ∈ Finset.range 16, ∑ p : Fin 512, f (512 * i + p) = ∑ r : Fin 8192, f r := by
  rw [Finset.sum_range]
  refine Eq.trans ?_ (Equiv.sum_comp (finProdFinEquiv (m := 16) (n := 512)) fun r : Fin 8192 => f r)
  rw [Fintype.sum_prod_type]
  refine Finset.sum_congr rfl fun i _ => Finset.sum_congr rfl fun p _ => congrArg f ?_
  simp [finProdFinEquiv]; omega

theorem sums_all (q : Fin 8) (l : Fin 2048) : sums m c q l 16 = sum m c q l := by
  unfold sums sum
  by_cases q0 : q.val = 0
  · simp only [if_pos q0]
    exact blocks fun r => ct m c r l * nrm m c r l
  by_cases q1 : q.val = 1
  · simp only [if_neg q0, if_pos q1]
    exact blocks fun r => ct m c r l
  · simp only [if_neg q0, if_neg q1, Finset.sum_const_zero]

@[inherit_doc sum] theorem final7 : (dats m 0 c).arrAt 7 cfg0.N = fun i => sum m c (i 0) (i 1) := by
  refine (dats m 0 c).arrAt_eq_of_covers 7 _ (by decide +kernel) fun t hf y => ?_
  blk_simp
  have hm : t.val = 63 := by have := (flush0_7 t).mp hf; have ht : t.val < 64 := t.isLt; omega
  rw [after0_7]
  have h0 : (y 0).val < 8 := (y 0).isLt
  have h1 : (y 1).val < 2048 := (y 1).isLt
  have e0 : win0_7.index t 0 = 0 := by rw [idx7]; rfl
  have e1 : win0_7.index t 1 = 0 := by rw [idx7]; rfl
  have ey : y = ix2 ⟨(y 0).val, h0⟩ ⟨(y 1).val, h1⟩ := by funext a; fin_cases a <;> rfl
  refine (congrArg _ ey).trans ((sums_eq m c t.val t.isLt _ _).trans ?_)
  have e : (t.val + 1) / 4 = 16 := by omega
  rw [e, sums_all]
  refine congrArg₂ (sum m c) (Fin.ext ?_) (Fin.ext ?_)
  · show (y 0).val = win0_7.index t 0 * 8 + 1 * (y 0).val; rw [e0]; omega
  · show (y 1).val = win0_7.index t 1 * 2048 + 1 * (y 1).val; rw [e1]; omega

end Cert.LnIdeal.Call

end
-- ==== Proof.LnRef.lean ====
/-
  The reference of the call that takes the feed-forward block's input cotangents back through its first normalisation,
  read entry by entry over the extended reals.
-/
module

public import proofs.«01_k».proof.Proof.Gen.LnRefIdeal.Read
public import proofs.«01_k».proof.Proof.LnArrays

@[expose] public section

set_option maxRecDepth 16384

noncomputable section

namespace Cert.LnRefIdeal.Entries

open Cert.LnRefIdeal Cert.LnRefIdeal.Read Idealize.ShloMosaic
open Cert.LnIdeal.Call (al cols mean factor)

variable (x0 : (⟨S2x8192x5632, .bf16⟩ : BufTy).Contents (Elt Ideal)) (x1 : (⟨S2048x11264, .bf16⟩ : BufTy).Contents (Elt Ideal))
  (x2 : (⟨S8192x2048, .bf16⟩ : BufTy).Contents (Elt Ideal)) (x3 : (⟨S8192x2048, .f32⟩ : BufTy).Contents (Elt Ideal))
  (x4 : (⟨S1x2048, .f32⟩ : BufTy).Contents (Elt Ideal))

/-- A row before the normalisation. -/
abbrev zr (r : Fin 8192) (l : Fin 2048) : EReal := x3 (ix2 r l)

theorem v16 (r : Fin 8192) : val_main_v16 (F := Ideal) x3 (ix3 0 r 0) = mean (zr x3 r) := by
  pointwise [val_main_v16, val_main_v15, val_main_v14, val_main_v13, val_main_v10, val_main_cst_0, val_main_cst_1]
  rfl

theorem v18 (r : Fin 8192) (l : Fin 2048) : val_main_v18 (F := Ideal) x3 (ix3 0 r l) = zr x3 r l - mean (zr x3 r) := by
  pointwise [val_main_v18, val_main_v17, val_main_v10]
  rw [v16]

theorem v27 (r : Fin 8192) (l : Fin 2048) : val_main_v27 (F := Ideal) x3 (ix3 0 r l) = zr x3 r l - mean (zr x3 r) := by
  pointwise [val_main_v27, val_main_v26, val_main_v10]
  rw [v16]

/-- The variance of a row and a little more. -/
def spread (z : Fin 2048 → EReal) : EReal :=
  Ideal.div (∑ k, (z k - mean z) * (z k - mean z)) cols + Ideal.ofBits FTy.f32 925353388#32

theorem v29 (r : Fin 8192) : val_main_v29 (F := Ideal) x3 (ix3 0 r 0) = spread (zr x3 r) := by
  pointwise [val_main_v29, val_main_v28, val_main_v25, val_main_v24, val_main_v23, val_main_v22, val_main_v19, val_main_cst_3, val_main_cst_4, val_main_cst_5]
  simp only [v18]
  rfl

theorem v30 (r : Fin 8192) : val_main_v30 (F := Ideal) x3 (ix3 0 r 0) = factor (zr x3 r) := by
  pointwise [val_main_v30]
  rw [v29]
  rfl

/-- The cotangents of the normalisation's result. -/
def ct (r : Fin 8192) (l : Fin 2048) : EReal :=
  al * x2 (ix2 r l) + (∑ j : Fin 5632, x0 (ix3 0 r j) * x1 (ix2 l ⟨j.val, by omega⟩)
    + ∑ j : Fin 5632, x0 (ix3 1 r j) * x1 (ix2 l ⟨5632 + j.val, by omega⟩))

theorem v48 (r : Fin 8192) (l : Fin 2048) : val_main_v48 (F := Ideal) x0 x1 x2 (ix3 0 r l) = ct x0 x1 x2 r l := by
  pointwise [val_main_v48, val_main_v47, val_main_v46, val_main_v45, val_main_v9, val_main_v8, val_main_v7, val_main_v6, val_main_v5, val_main_v4, val_main_v3, val_main_v2, val_main_v1, val_main_v0, val_main_cst_8]
  rfl

theorem v35 (r : Fin 8192) (l : Fin 2048) : val_main_v35 (F := Ideal) x3 (ix3 0 r l) = (zr x3 r l - mean (zr x3 r)) * factor (zr x3 r) := by
  pointwise [val_main_v35, val_main_v34]
  rw [v27, v30]

/-- A sum over the two axes of size one is the one entry. -/
theorem lone01 (h : S1x1x2048.ReducesTo [0, 1] S2048) (v : S1x1x2048.Idx → EReal) (e : EReal) (l : Fin 2048) :
    Ideal.hostReduceAdd h v e (ix1 l) = e + v (ix3 0 0 l) := by
  refine congrArg (e + ·) (Eq.trans ?_ (Finset.sum_singleton v (ix3 0 0 l)))
  refine Finset.sum_congr (Finset.ext fun i => ?_) fun _ _ => rfl
  rw [Finset.mem_filter, Finset.mem_singleton]
  constructor
  · rintro ⟨-, hi⟩
    have e2 : (h.drop i 0 : ℕ) = i 2 := h.drop_apply_val_of_eq i 0 2
    rw [hi] at e2
    funext a
    match a with
    | ⟨0, _⟩ => exact Subsingleton.elim (α := Fin 1) _ _
    | ⟨1, _⟩ => exact Subsingleton.elim (α := Fin 1) _ _
    | ⟨2, _⟩ => exact Fin.ext e2.symm
  · rintro rfl
    refine ⟨Finset.mem_univ _, funext fun b => ?_⟩
    match b with
    | ⟨0, _⟩ => exact Fin.ext (h.drop_apply_val_of_eq _ 0 2)

@[inherit_doc lone01]
theorem lone02 (h : S1x8192x1.ReducesTo [0, 2] S8192) (v : S1x8192x1.Idx → EReal) (e : EReal) (r : Fin 8192) :
    Ideal.hostReduceAdd h v e (ix1 r) = e + v (ix3 0 r 0) := by
  refine congrArg (e + ·) (Eq.trans ?_ (Finset.sum_singleton v (ix3 0 r 0)))
  refine Finset.sum_congr (Finset.ext fun i => ?_) fun _ _ => rfl
  rw [Finset.mem_filter, Finset.mem_singleton]
  constructor
  · rintro ⟨-, hi⟩
    have e2 : (h.drop i 0 : ℕ) = i 1 := h.drop_apply_val_of_eq i 0 1
    rw [hi] at e2
    funext a
    match a with
    | ⟨0, _⟩ => exact Subsingleton.elim (α := Fin 1) _ _
    | ⟨1, _⟩ => exact Fin.ext e2.symm
    | ⟨2, _⟩ => exact Subsingleton.elim (α := Fin 1) _ _
  · rintro rfl
    refine ⟨Finset.mem_univ _, funext fun b => ?_⟩
    match b with
    | ⟨0, _⟩ => exact Fin.ext (h.drop_apply_val_of_eq _ 0 1)

theorem v49 (l : Fin 2048) : val_main_v49 (F := Ideal) x0 x1 x2 (ix2 0 l) = ∑ r : Fin 8192, ct x0 x1 x2 r l := by
  pointwise [val_main_v49, val_main_cst_9]
  simp only [v48]

theorem v53 (l : Fin 2048) : val_main_v53 (F := Ideal) x0 x1 x2 x3 (ix2 0 l)
    = ∑ r : Fin 8192, (zr x3 r l - mean (zr x3 r)) * factor (zr x3 r) * ct x0 x1 x2 r l := by
  pointwise [val_main_v53, val_main_v52, val_main_cst_11]
  simp only [v48, v35]

theorem v51 (l : Fin 2048) : val_main_v51 (F := Ideal) x0 x1 x2 (ix1 l) = ∑ r : Fin 8192, ct x0 x1 x2 r l := by
  pointwise [val_main_v51, val_main_cst_10]
  rw [lone01]
  pointwise [val_main_v50]
  rw [v49]

theorem v57 (l : Fin 2048) : val_main_v57 (F := Ideal) x0 x1 x2 x3 (ix1 l)
    = ∑ r : Fin 8192, (zr x3 r l - mean (zr x3 r)) * factor (zr x3 r) * ct x0 x1 x2 r l := by
  pointwise [val_main_v57, val_main_cst_12]
  rw [lone01]
  pointwise [val_main_v54]
  rw [v53]

/-- The gradients of the gain and of the shift, as the reference returns them. -/
theorem v89 (q : Fin 8) (l : Fin 2048) : val_main_v89 (F := Ideal) x0 x1 x2 x3 (ix2 q l)
    = if q.val = 0 then ∑ r : Fin 8192, (zr x3 r l - mean (zr x3 r)) * factor (zr x3 r) * ct x0 x1 x2 r l
      else if q.val = 1 then ∑ r : Fin 8192, ct x0 x1 x2 r l else 0 := by
  pointwise [val_main_v89, val_main_v88, val_main_v87, val_main_v86, val_main_cst_20]
  simp only [v57, v51]
  split_ifs <;> first | rfl | omega

/-! ## The rows' cotangents -/

/-- The cotangents of the centred and scaled rows. -/
def up (r : Fin 8192) (l : Fin 2048) : EReal := ct x0 x1 x2 r l * x4 (ix2 0 l)

theorem v56 (r : Fin 8192) (l : Fin 2048) : val_main_v56 (F := Ideal) x0 x1 x2 x4 (ix3 0 r l) = up x0 x1 x2 x4 r l := by
  pointwise [val_main_v56, val_main_v55, val_main_v36, val_main_v11]
  rw [v48]
  rfl

/-- The literals 2 and −1/2. -/
def two : EReal := Ideal.ofBits FTy.f32 1073741824#32
@[inherit_doc two] def mhalf : EReal := Ideal.ofBits FTy.f32 3204448256#32

/-- The cotangent of a row's variance, over the number of columns. -/
def dvar (D z : Fin 2048 → EReal) : EReal :=
  Ideal.div ((∑ k, (z k - mean z) * D k) * (mhalf * Ideal.div (factor z) (spread z))) cols

theorem v68 (r : Fin 8192) : val_main_v68 (F := Ideal) x0 x1 x2 x3 x4 (ix3 0 r 0) = dvar (up x0 x1 x2 x4 r) (zr x3 r) := by
  pointwise [val_main_v68, val_main_v67, val_main_v63, val_main_v60, val_main_v59, val_main_v58, val_main_v33, val_main_v32, val_main_v31, val_main_cst_6, val_main_cst_7, val_main_cst_13, val_main_cst_15]
  simp only [v27, v56, v30, v29]
  rfl

theorem v72 (r : Fin 8192) (l : Fin 2048) : val_main_v72 (F := Ideal) x0 x1 x2 x3 x4 (ix3 0 r l)
    = dvar (up x0 x1 x2 x4 r) (zr x3 r) * (two * (zr x3 r l - mean (zr x3 r))) := by
  pointwise [val_main_v72, val_main_v71, val_main_v70, val_main_v69, val_main_v21, val_main_v20, val_main_cst_2, val_main_cst_16]
  rw [lone02]
  pointwise
  rw [v68, v18]
  rfl

theorem v62 (r : Fin 8192) (l : Fin 2048) : val_main_v62 (F := Ideal) x0 x1 x2 x3 x4 (ix3 0 r l)
    = up x0 x1 x2 x4 r l * factor (zr x3 r) := by
  pointwise [val_main_v62, val_main_v61]
  rw [v56, v30]

/-- The cotangent of a row before the normalisation. -/
def back' (D z : Fin 2048 → EReal) (l : Fin 2048) : EReal :=
  D l * factor z + dvar D z * (two * (z l - mean z))
    + Ideal.div ((∑ k, -(D k * factor z)) + ∑ k, -(dvar D z * (two * (z k - mean z)))) cols

theorem v79 (r : Fin 8192) : val_main_v79 (F := Ideal) x0 x1 x2 x3 x4 (ix3 0 r 0)
    = Ideal.div ((∑ k, -(up x0 x1 x2 x4 r k * factor (zr x3 r))) + ∑ k, -(dvar (up x0 x1 x2 x4 r) (zr x3 r) * (two * (zr x3 r k - mean (zr x3 r))))) cols := by
  pointwise [val_main_v79, val_main_v78, val_main_v77, val_main_v66, val_main_v65, val_main_v64, val_main_v75, val_main_v74, val_main_v73, val_main_cst_14, val_main_cst_17, val_main_cst_18]
  simp only [v62, v72]
  rfl

theorem v85 (r : Fin 8192) (l : Fin 2048) : val_main_v85 (F := Ideal) x0 x1 x2 x3 x4 (ix2 r l) = back' (up x0 x1 x2 x4 r) (zr x3 r) l := by
  pointwise [val_main_v85, val_main_v84, val_main_v83, val_main_v82, val_main_v81, val_main_v80, val_main_v76, val_main_cst_19]
  rw [lone02]
  pointwise
  rw [v79, v62, v72]
  rfl

end Cert.LnRefIdeal.Entries

end
-- ==== Proof.NormReal.lean ====
/-
  The real algebra of a normalisation's backward pass: for rows of real numbers the reference's expression, which goes
  through the variance, is the kernel's, which goes through the normalised row. And what the precondition says.
-/
module

public import proofs.«01_k».proof.Defs
public import proofs.«01_k».proof.Proof.Gen.Pre_finite_ln
public import proofs.«01_k».proof.Proof.Spec
public import proofs.«01_k».proof.Proof.Given
public import proofs.«01_k».proof.Proof.LnRef

@[expose] public section

set_option maxRecDepth 16384

noncomputable section

namespace Cert.Pre_finite_ln

open Idealize.ShloMosaic
open Facts

variable (a : FVec Ideal S2x8192x5632 .bf16) (w : FVec Ideal S2048x11264 .bf16) (d z : FVec Ideal S8192x2048 .bf16)
  (g : FVec Ideal S1x2048 .f32)

/-- A number strictly between −∞ and +∞ is a real number. -/
theorem real {x : EReal} (h : ⊥ < x ∧ x < ⊤) : ∃ r : ℝ, x = (r : EReal) := ⟨x.toReal, (EReal.coe_toReal h.2.ne h.1.ne').symm⟩

/-- Every entry of the cotangents of the up-projection's two halves is real, and so on for the other arrays. -/
theorem real_du (h : (fn (F := Ideal) a w d z g).1 = fun _ => 1#1) (p : Fin 2) (r : Fin 8192) (j : Fin 5632) :
    ∃ y : ℝ, a (ix3 p r j) = (y : EReal) := by
  have e := congrFun h (ix3 p r j)
  unfold fn fn_part1 at e
  dsimp only at e
  pointwise [Attn.lit_bot, Attn.lit_top] at e
  exact real (Pre_finite.both e)

@[inherit_doc real_du] theorem real_w (h : (fn (F := Ideal) a w d z g).2.1 = fun _ => 1#1) (l : Fin 2048) (j : Fin 11264) :
    ∃ y : ℝ, w (ix2 l j) = (y : EReal) := by
  have e := congrFun h (ix2 l j)
  unfold fn fn_part1 at e
  dsimp only at e
  pointwise [Attn.lit_bot, Attn.lit_top] at e
  exact real (Pre_finite.both e)

@[inherit_doc real_du] theorem real_dz (h : (fn (F := Ideal) a w d z g).2.2.1 = fun _ => 1#1) (r : Fin 8192) (l : Fin 2048) :
    ∃ y : ℝ, d (ix2 r l) = (y : EReal) := by
  have e := congrFun h (ix2 r l)
  unfold fn fn_part1 at e
  dsimp only at e
  pointwise [Attn.lit_bot, Attn.lit_top] at e
  exact real (Pre_finite.both e)

@[inherit_doc real_du] theorem real_z (h : (fn (F := Ideal) a w d z g).2.2.2.1 = fun _ => 1#1) (r : Fin 8192) (l : Fin 2048) :
    ∃ y : ℝ, z (ix2 r l) = (y : EReal) := by
  have e := congrFun h (ix2 r l)
  unfold fn fn_part1 at e
  dsimp only at e
  pointwise [Attn.lit_bot, Attn.lit_top] at e
  exact real (Pre_finite.both e)

@[inherit_doc real_du] theorem real_g (h : (fn (F := Ideal) a w d z g).2.2.2.2 = fun _ => 1#1) (l : Fin 2048) :
    ∃ y : ℝ, g (ix2 0 l) = (y : EReal) := by
  have e := congrFun h (ix2 0 l)
  unfold fn fn_part1 at e
  dsimp only at e
  pointwise [Attn.lit_bot, Attn.lit_top] at e
  exact real (Pre_finite.both e)

end Cert.Pre_finite_ln

namespace Cert.Norm

open Idealize.ShloMosaic
open Cert.LnIdeal.Call (cols mean factor)
open Cert.LnRefIdeal.Entries (spread dvar back')

/-- The identity itself: `y` is the centred row, `s` its variance and a little more, `r` the inverse square root. -/
theorem identity (D y : Fin 2048 → ℝ) (s r : ℝ) (hy : ∑ k, y k = 0) (hr : r * r = 1 / s) (l : Fin 2048) :
    D l * r + (∑ k, y k * D k) * (-(1 / 2) * (r * (1 / s))) * (1 / 2048) * (2 * y l)
      + ((∑ k, -(D k * r)) + ∑ k, -((∑ k, y k * D k) * (-(1 / 2) * (r * (1 / s))) * (1 / 2048) * (2 * y k))) * (1 / 2048)
    = r * (D l - (∑ k, D k) * (1 / 2048) - y l * r * ((∑ k, D k * (y k * r)) * (1 / 2048))) := by
  have e1 : ∑ k, -(D k * r) = -((∑ k, D k) * r) := by rw [Finset.sum_neg_distrib, Finset.sum_mul]
  have e2 (c : ℝ) : ∑ k, -(c * (2 * y k)) = 0 := by
    rw [Finset.sum_neg_distrib, ← Finset.mul_sum, ← Finset.mul_sum, hy]; ring
  have e3 : ∑ k, D k * (y k * r) = (∑ k, y k * D k) * r := by
    rw [Finset.sum_mul]; exact Finset.sum_congr rfl fun k _ => by ring
  rw [e1, e2, e3, ← hr]
  ring

/-- For rows of real numbers the two expressions agree. -/
theorem row (D z : Fin 2048 → EReal) (hD : ∀ k, ∃ y : ℝ, D k = (y : EReal)) (hz : ∀ k, ∃ y : ℝ, z k = (y : EReal)) (l : Fin 2048) :
    back' D z l = factor z * (D l - Ideal.div (∑ k, D k) cols
      - (z l - mean z) * factor z * Ideal.div (∑ k, D k * ((z k - mean z) * factor z)) cols) := by
  choose d hd using hD
  choose x hx using hz
  obtain ⟨ε, hε, he⟩ := Attn.lit_eps
  have h2048 : (2048 : ℝ) ≠ 0 := by norm_num
  obtain rfl : D = fun k => (d k : EReal) := funext hd
  obtain rfl : z = fun k => (x k : EReal) := funext hx
  have em : mean (fun k => (x k : EReal)) = (((∑ k, x k) * (1 / 2048) : ℝ) : EReal) := by
    unfold mean cols
    rw [Attn.lit_cols, Attn.coe_sum, Ideal.div_coe h2048, ← EReal.coe_mul]
  set μ : ℝ := (∑ k, x k) * (1 / 2048) with hμ
  have es : spread (fun k => (x k : EReal)) = (((∑ k, (x k - μ) * (x k - μ)) * (1 / 2048) + ε : ℝ) : EReal) := by
    unfold spread cols
    simp only [em, Attn.lit_cols, he, ← EReal.coe_sub, ← EReal.coe_mul, Attn.coe_sum, Ideal.div_coe h2048, ← EReal.coe_add]
  set s : ℝ := (∑ k, (x k - μ) * (x k - μ)) * (1 / 2048) + ε with hs
  have hs0 : 0 < s := add_pos_of_nonneg_of_pos (mul_nonneg (Finset.sum_nonneg fun k _ => mul_self_nonneg _) (by norm_num)) hε
  have ef : factor (fun k => (x k : EReal)) = (((Real.sqrt s)⁻¹ : ℝ) : EReal) := by
    have : factor (fun k => (x k : EReal)) = Ideal.rsqrt (spread fun k => (x k : EReal)) := rfl
    rw [this, es, Ideal.rsqrt_coe, if_neg hs0.not_gt, if_neg hs0.ne']
  have hr : (Real.sqrt s)⁻¹ * (Real.sqrt s)⁻¹ = 1 / s := by
    rw [← mul_inv, Real.mul_self_sqrt hs0.le, one_div]
  set r : ℝ := (Real.sqrt s)⁻¹
  have hy : ∑ k, (x k - μ) = 0 := by
    rw [Finset.sum_sub_distrib, Finset.sum_const, Finset.card_univ, Fintype.card_fin, hμ, nsmul_eq_mul]
    push_cast; ring
  unfold back' dvar LnRefIdeal.Entries.two LnRefIdeal.Entries.mhalf cols
  simp only [em, es, ef, Attn.lit_cols, Attn.lit_two, Attn.lit_mhalf, Ideal.div_coe h2048, Ideal.div_coe hs0.ne', ← EReal.coe_sub,
    ← EReal.coe_mul, ← EReal.coe_neg, Attn.coe_sum, ← EReal.coe_add]
  exact congrArg _ (identity d (fun k => x k - μ) s r hy hr l)

end Cert.Norm

end
-- ==== Proof.Norm.lean ====
module

public import proofs.«01_k».proof.Proof.NormReal
public import proofs.«01_k».proof.Proof.Forward
public import proofs.«01_k».proof.Proof.Gen.LnRefIdeal.Run

/-!
# The call through the feed-forward block's normalisation

The call's two arrays are the reference's: the cotangents of the rows by the real algebra, where the precondition makes every entry
a real number, and the gradients of the gain and of the shift as they stand.
-/

@[expose] public section

set_option maxRecDepth 16384

noncomputable section

namespace Cert.Norm

open Idealize.ShloMosaic Idealize.ShloMosaic.Ideal Idealize.ShloMosaic.Tactic Idealize.ShloMosaic.TcCoe Idealize.SL.Sem

section Same
open Cert.LnIdeal Cert.LnIdeal.Call

variable (m : (ℓ : Loc nD τ sig) → Buf (Elt Ideal) ℓ) (c : Dev nD)

/-- The reference's cotangents of the normalisation's result are the call's: the product over both halves is the sum of the two. -/
theorem ct_eq (r : Fin 8192) : LnRefIdeal.Entries.ct (m ((c.tc : Thread nD τ).loc main_arg0)) (m ((c.tc : Thread nD τ).loc main_arg1))
    (m ((c.tc : Thread nD τ).loc main_arg2)) r = ct m c r := by
  funext l
  unfold LnRefIdeal.Entries.ct ct dz
  rw [dif_pos r.isLt]
  refine congrArg _ (Eq.trans ?_ (Fin.sum_univ_add (a := 5632) (b := 5632) fun j : Fin 11264 => du m c r j * w m c l j).symm)
  refine congrArg₂ _ (Finset.sum_congr rfl fun j _ => ?_) (Finset.sum_congr rfl fun j _ => ?_)
  · have hj : (Fin.castAdd 5632 j).val = j.val := rfl
    unfold du w
    rw [dif_pos ⟨r.isLt, (Fin.castAdd 5632 j).isLt⟩, dif_pos (Fin.castAdd 5632 j).isLt]
    refine congrArg₂ (· * ·) (congrArg _ (congrArg₂ (fun a b => ix3 a r b) (Fin.ext ?_) (Fin.ext ?_))) rfl
    · show 0 = j.val / 5632
      omega
    · show j.val = j.val % 5632
      omega
  · unfold du w
    rw [dif_pos ⟨r.isLt, (Fin.natAdd 5632 j).isLt⟩, dif_pos (Fin.natAdd 5632 j).isLt]
    refine congrArg₂ (· * ·) (congrArg _ (congrArg₂ (fun a b => ix3 a r b) (Fin.ext ?_) (Fin.ext ?_))) rfl
    · show 1 = (5632 + j.val) / 5632
      omega
    · show j.val = (5632 + j.val) % 5632
      omega

/-- So are the rows. -/
theorem z_eq (r : Fin 8192) : LnRefIdeal.Entries.zr (m ((c.tc : Thread nD τ).loc main_arg3)) r = z m c r := by
  funext l
  unfold z
  rw [dif_pos r.isLt]

/-- The rows' cotangents, where every entry is a real number. -/
theorem left_eq (h : Cert.Pre_LnIdeal_finite_ln m) (r : Fin 8192) (l : Fin 2048) :
    LnRefIdeal.Entries.back' (LnRefIdeal.Entries.up (m ((c.tc : Thread nD τ).loc main_arg0)) (m ((c.tc : Thread nD τ).loc main_arg1))
      (m ((c.tc : Thread nD τ).loc main_arg2)) (m ((c.tc : Thread nD τ).loc main_arg4)) r)
      (LnRefIdeal.Entries.zr (m ((c.tc : Thread nD τ).loc main_arg3)) r) l = left m c r l := by
  obtain ⟨h0, h1, h2, h3, h4⟩ := h c
  refine (row _ _ (fun k => ?_) (fun k => Pre_finite_ln.real_z _ _ _ _ _ h3 r k) l).trans ?_
  · unfold LnRefIdeal.Entries.up LnRefIdeal.Entries.ct al
    obtain ⟨α, hα⟩ := Attn.lit_alpha
    choose p hp using fun j => Pre_finite_ln.real_du _ _ _ _ _ h0 0 r j
    choose q hq using fun j => Pre_finite_ln.real_du _ _ _ _ _ h0 1 r j
    choose v hv using fun j => Pre_finite_ln.real_w _ _ _ _ _ h1 k j
    obtain ⟨y, hy⟩ := Pre_finite_ln.real_dz _ _ _ _ _ h2 r k
    obtain ⟨u, hu⟩ := Pre_finite_ln.real_g _ _ _ _ _ h4 k
    simp only [hα, hp, hq, hv, hy, hu, ← EReal.coe_mul, Attn.coe_sum, ← EReal.coe_add]
    exact ⟨_, rfl⟩
  · unfold left back nrm LnRefIdeal.Entries.up
    rw [ct_eq, ← z_eq]
    rfl

/-- The two gradients. -/
theorem sum_eq (q : Fin 8) (l : Fin 2048) : LnRefIdeal.Read.val_main_v89 (F := Ideal) (m ((c.tc : Thread nD τ).loc main_arg0))
    (m ((c.tc : Thread nD τ).loc main_arg1)) (m ((c.tc : Thread nD τ).loc main_arg2)) (m ((c.tc : Thread nD τ).loc main_arg3)) (ix2 q l) = sum m c q l := by
  refine (LnRefIdeal.Entries.v89 _ _ _ _ q l).trans ?_
  unfold sum nrm
  refine if_congr Iff.rfl (Finset.sum_congr rfl fun r _ => ?_) (if_congr Iff.rfl (Finset.sum_congr rfl fun r _ => ?_) rfl)
  · rw [ct_eq, z_eq]
    exact mul_comm _ _
  · rw [ct_eq]

end Same

/-- The reference ends, and nothing of its semaphores is left. -/
theorem ln_ref_frame : Cert.quiescent_LnRefIdeal := fun m g _ =>
  (θ_run Cert.LnRefIdeal.defs _ _).mono (fun r h => ⟨fun c => (h c).2.2, sem_eq_zero_of_no_sems (by decide) r.2⟩) (Cert.LnRefIdeal.Value.run m g)

/-- The two arrays of the call are the reference's. -/
theorem ln_values : Cert.algebraic_LnIdeal_LnRefIdeal_pre_finite_ln := by
  intro m g m' g' hpre hagree
  refine ⟨fun c => (Cert.LnIdeal.Gen.dats m 0 c).arrAt 6 Cert.LnIdeal.cfg0.N, fun c => (Cert.LnIdeal.Gen.dats m 0 c).arrAt 7 Cert.LnIdeal.cfg0.N,
    Cert.LnIdeal.Value.run_blocks m g, ?_⟩
  refine (θ_run Cert.LnRefIdeal.defs _ _).mono (fun r h c => ⟨(h c).1.trans ?_, (h c).2.1.trans ?_, (h c).2.2⟩) (Cert.LnRefIdeal.Value.run m' g')
  · refine (Cert.LnRefIdeal.Read.val_main_v85_eq (F := Ideal) _ _).trans ?_
    refine Eq.trans ?_ (Cert.LnIdeal.Call.final6 m c).symm
    rw [(hagree c).1, (hagree c).2.1, (hagree c).2.2.1, (hagree c).2.2.2.1, (hagree c).2.2.2.2]
    exact Products.ext2 fun i j => (LnRefIdeal.Entries.v85 _ _ _ _ _ i j).trans (left_eq m c hpre i j)
  · refine (Cert.LnRefIdeal.Read.val_main_v89_eq (F := Ideal) _ _).trans ?_
    refine Eq.trans ?_ (Cert.LnIdeal.Call.final7 m c).symm
    rw [(hagree c).1, (hagree c).2.1, (hagree c).2.2.1, (hagree c).2.2.2.1]
    exact Products.ext2 fun i j => sum_eq m c i j

end Cert.Norm

end
-- ==== Proof.MidCall.lean ====
/-
  The call that takes the gated activations' cotangents back through the gate and the filter of the feed-forward block:
  what a grid point leaves over the extended reals, entry by entry. A point multiplies one block of the cotangents by one
  block of the weight, takes the product back through the gate, filters the two results along the rows the other way
  round, with the first rows of the block after, which it keeps in a buffer, and adds what its rows give the gradient of
  the filter's coefficients.
-/
module

public import proofs.«01_k».proof.Proof.Gen.MidIdeal.Value
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.MidIdeal.Call

open Cert.MidIdeal Cert.MidIdeal.Gen Idealize.ShloMosaic Idealize.ShloMosaic.TcCoe Idealize.ShloMosaic.Tactic
open Idealize.ShloMosaic.Pipeline

/-! ## What one point computes -/

/-- One entry of a product of two blocks. -/
def dot (d : Vec Ideal S1024x2048 .bf16) (w : Vec Ideal S512x2048 .bf16) (r : Fin 1024) (j : Fin 512) : EReal :=
  ∑ k : Fin 2048, d (ix2 r k) * w (ix2 j k)

/-- The logistic function. -/
def sg (a : EReal) : EReal := Ideal.div 1 (1 + Ideal.exp (-a))

/-- The cotangent of the gate's first operand, from the operands and the cotangent of the result; and of its second. -/
def back0 (a g d : EReal) : EReal := d * g * (sg a * (1 + a * (1 - sg a)))
@[inherit_doc back0] def back1 (a d : EReal) : EReal := d * (a * sg a)

/-- The entry `d` rows below in a column, whose rows after the last are the carried ones. -/
def below (u : Fin 1024 → EReal) (s : Fin 8 → EReal) (d : ℕ) (hd : d ≤ 8) (r : Fin 1024) : EReal :=
  if h : r.val + d < 1024 then u ⟨r.val + d, h⟩ else s ⟨r.val + d - 1024, by omega⟩

/-- The filter of three rows of one column, the other way round. -/
def filter (u : Fin 1024 → EReal) (s w : Fin 8 → EReal) (r : Fin 1024) : EReal :=
  w 2 * u r + w 1 * below u s 1 (by omega) r + w 0 * below u s 2 (by omega) r

theorem select_row (r k : ℕ) (hr : r < 8) (hk : k < 8) (A B : EReal) :
    Scalar.select (IntOp.cmpi .eq (BitVec.ofNat 32 r) (BitVec.ofNat 32 k)) A B = if r = k then A else B := by
  interval_cases r <;> interval_cases k <;> rfl

theorem below1_eq (u : Fin 1024 → EReal) (s : Fin 8 → EReal) (r : Fin 1024) (h1 h2) :
    (if h : r.val < 1016 then u ⟨(r.val + 1024 - 1023) % 1024, h1⟩
      else Scalar.select (IntOp.cmpi CmpIPredicate.eq (BitVec.ofNat 32 (r.val - 1016)) 7#32) (s 0)
        (u ⟨(1016 + (r.val - 1016) + 1024 - 1023) % 1024, h2⟩)) = below u s 1 (by omega) r := by
  unfold below
  by_cases h : r.val < 1016
  · rw [dif_pos h, dif_pos (by omega)]
    exact congrArg u (Fin.ext (by show (r.val + 1024 - 1023) % 1024 = r.val + 1; omega))
  · rw [dif_neg h, select_row (r.val - 1016) 7 (by omega) (by omega)]
    by_cases h0 : r.val = 1023
    · rw [if_pos (by omega), dif_neg (by omega)]
      exact congrArg s (Fin.ext (by show 0 = r.val + 1 - 1024; omega))
    · rw [if_neg (by omega), dif_pos (by omega)]
      exact congrArg u (Fin.ext (by show (1016 + (r.val - 1016) + 1024 - 1023) % 1024 = r.val + 1; omega))

theorem below2_eq (u : Fin 1024 → EReal) (s : Fin 8 → EReal) (r : Fin 1024) (h1 h2) :
    (if h : r.val < 1016 then u ⟨(r.val + 1024 - 1022) % 1024, h1⟩
      else Scalar.select (IntOp.cmpi CmpIPredicate.eq (BitVec.ofNat 32 (r.val - 1016)) 6#32) (s 0)
        (Scalar.select (IntOp.cmpi CmpIPredicate.eq (BitVec.ofNat 32 (r.val - 1016)) 7#32) (s 1)
          (u ⟨(1016 + (r.val - 1016) + 1024 - 1022) % 1024, h2⟩))) = below u s 2 (by omega) r := by
  unfold below
  by_cases h : r.val < 1016
  · rw [dif_pos h, dif_pos (by omega)]
    exact congrArg u (Fin.ext (by show (r.val + 1024 - 1022) % 1024 = r.val + 2; omega))
  · rw [dif_neg h, select_row (r.val - 1016) 6 (by omega) (by omega), select_row (r.val - 1016) 7 (by omega) (by omega)]
    by_cases h0 : r.val = 1022
    · rw [if_pos (by omega), dif_neg (by omega)]
      exact congrArg s (Fin.ext (by show 0 = r.val + 2 - 1024; omega))
    rw [if_neg (by omega)]
    by_cases h1' : r.val = 1023
    · rw [if_pos (by omega), dif_neg (by omega)]
      exact congrArg s (Fin.ext (by show 1 = r.val + 2 - 1024; omega))
    · rw [if_neg (by omega), dif_pos (by omega)]
      exact congrArg u (Fin.ext (by show (1016 + (r.val - 1016) + 1024 - 1022) % 1024 = r.val + 2; omega))

section body
variable (u : FVec Ideal S1024x512 .f32) (x : FVec Ideal S1024x512 .f32) (f : Vec Ideal S8x512 .f32) (s : Vec Ideal S1x8x512 .f32)
  (a g : Vec Ideal S1x1024x512 .bf16) (d : Vec Ideal S1024x2048 .bf16) (w : Vec Ideal S512x2048 .bf16) (n : Vec Ideal S1x1x512 .f32)

/-- A column of a block, of the carried rows, and of the coefficients. -/
abbrev col (j : Fin 512) : Fin 1024 → EReal := fun r => u (ix2 r j)
@[inherit_doc col] abbrev after (j : Fin 512) : Fin 8 → EReal := fun e => s (ix3 0 e j)
@[inherit_doc col] abbrev coef (j : Fin 512) : Fin 8 → EReal := fun e => f (ix2 e j)

theorem prod (r : Fin 1024) (j : Fin 512) : k0_pay7 d w (ix2 r j) = dot d w r j := by
  pointwise [k0_pay7]
  rfl

theorem sig_apply (r : Fin 1024) (j : Fin 512) : k0_pay6 a (ix2 r j) = sg (a (ix3 0 r j)) := by
  pointwise [k0_pay6, k0_pay5]
  rw [sub_eq_add_neg, zero_add]
  rfl

theorem back0_apply (r : Fin 1024) (j : Fin 512) :
    k0_pay8 a g d w (ix2 r j) = back0 (a (ix3 0 r j)) (g (ix3 0 r j)) (dot d w r j) := by
  unfold back0
  rw [← sig_apply, ← prod]
  pointwise [k0_pay8, k0_pay5]

theorem back1_apply (r : Fin 1024) (j : Fin 512) : k0_pay9 a d w (ix2 r j) = back1 (a (ix3 0 r j)) (dot d w r j) := by
  unfold back1
  rw [← sig_apply, ← prod]
  pointwise [k0_pay9, k0_pay5]

theorem below1 (r : Fin 1024) (j : Fin 512) : k0_pay13 u s (ix2 r j) = below (col u j) (after s j) 1 (by omega) r := by
  refine Eq.trans ?_ (below1_eq (col u j) (after s j) r (by omega) (by omega))
  pointwise [k0_pay13, k0_pay12]

theorem below2 (r : Fin 1024) (j : Fin 512) : k0_pay14 u s (ix2 r j) = below (col u j) (after s j) 2 (by omega) r := by
  refine Eq.trans ?_ (below2_eq (col u j) (after s j) r (by omega) (by omega))
  pointwise [k0_pay14, k0_pay12]

/-- The body works on the second half as on the first. -/
theorem again1 : k0_pay26 u s = k0_pay13 u s := rfl
@[inherit_doc again1] theorem again2 : k0_pay27 u s = k0_pay14 u s := rfl

/-- The filter of a block, and its sums of products with the rows of another. -/
theorem filter_apply (r : Fin 1024) (j : Fin 512) : k0_pay15 u (k0_pay11 f) s (ix2 r j) = filter (col u j) (after s j) (coef f j) r := by
  unfold filter
  rw [← below1, ← below2]
  pointwise [k0_pay15, k0_pay11]

theorem out0 (r : Fin 1024) (j : Fin 512) :
    k0_pay18 (k0_pay15 u (k0_pay11 f) s) (ix3 0 r j) = filter (col u j) (after s j) (coef f j) r := by
  rw [← filter_apply]
  pointwise [k0_pay18]

theorem out1 (r : Fin 1024) (j : Fin 512) :
    k0_pay30 (k0_pay24 f) (k0_pay27 u s) (k0_pay28 u f) (k0_pay29 u f s) (ix3 0 r j) = filter (col u j) (after s j) (coef f j) r := by
  unfold filter
  rw [← below1, ← below2, again2]
  pointwise [k0_pay30, k0_pay24, k0_pay28, k0_pay29]
  rw [again1]

/-- A sum of products down a column. -/
def pair (p q : Fin 1024 → EReal) : EReal := ∑ r, p r * q r

theorem sum02 (j : Fin 512) : k0_pay19 (k0_pay16 u x s) n (ix3 0 0 j) = n (ix3 0 0 j) + pair (below (col u j) (after s j) 2 (by omega)) (col x j) := by
  unfold pair
  simp only [← below2]
  pointwise [k0_pay19, k0_pay16]

theorem sum01 (j : Fin 512) : k0_pay20 (k0_pay17 u x s) n (ix3 0 0 j) = n (ix3 0 0 j) + pair (below (col u j) (after s j) 1 (by omega)) (col x j) := by
  unfold pair
  simp only [← below1]
  pointwise [k0_pay20, k0_pay17]

theorem sum00 (j : Fin 512) : k0_pay21 u x n (ix3 0 0 j) = n (ix3 0 0 j) + pair (col u j) (col x j) := by
  unfold pair
  pointwise [k0_pay21]

theorem sum12 (j : Fin 512) : k0_pay31 x (k0_pay27 u s) n (ix3 0 0 j) = n (ix3 0 0 j) + pair (below (col u j) (after s j) 2 (by omega)) (col x j) := by
  unfold pair
  simp only [← below2, again2]
  pointwise [k0_pay31]

theorem sum11 (j : Fin 512) : k0_pay32 x (k0_pay26 u s) n (ix3 0 0 j) = n (ix3 0 0 j) + pair (below (col u j) (after s j) 1 (by omega)) (col x j) := by
  unfold pair
  simp only [← below1, again1]
  pointwise [k0_pay32]

theorem sum10 (j : Fin 512) : k0_pay1 (k0_pay33 u x n) (ix3 0 0 j) = n (ix3 0 0 j) + pair (col u j) (col x j) := by
  unfold pair
  pointwise [k0_pay1, k0_pay33]

theorem keep0 (r : Fin 8) (j : Fin 512) : k0_pay22 u (ix3 0 r j) = u (ix2 ⟨r.val, by omega⟩ j) := by
  pointwise [k0_pay22]

theorem keep1 (r : Fin 8) (j : Fin 512) : k0_pay2 u (ix3 0 r j) = u (ix2 ⟨r.val, by omega⟩ j) := by
  pointwise [k0_pay2]

theorem rows0 (r : Fin 1024) (j : Fin 512) : k0_pay10 a (ix2 r j) = a (ix3 0 r j) := by
  pointwise [k0_pay10]

theorem rows1 (r : Fin 1024) (j : Fin 512) : k0_pay23 a (ix2 r j) = a (ix3 0 r j) := by
  pointwise [k0_pay23]

theorem reset (e : Fin 2) (r : Fin 8) (j : Fin 512) : k0_pay3 (F := Ideal) (ix3 e r j) = 0 := by
  pointwise [k0_pay3]

@[inherit_doc reset] theorem reset4 (e : Fin 2) (r : Fin 8) (j : Fin 512) : k0_pay4 (F := Ideal) (ix3 e r j) = 0 := by
  pointwise [k0_pay4]

end body

/-! ## What each point leaves -/

variable (m : (ℓ : Loc nD τ sig) → Buf (Elt Ideal) ℓ) (c : Dev nD)

/-- The point before. -/
abbrev before (t : Fin cfg0.N) := outsAt0 m c (t.val - 1) (Nat.lt_of_le_of_lt (Nat.sub_le _ _) t.isLt)

/-- The two halves of a buffer, and a row of one. -/
abbrev half0 : Rect S2x8x512 := Rect.unit (s := S2x8x512) ![0, 0, 0] ![1, 8, 512] inb_S2x8x512_S1x8x512_0_0_0
@[inherit_doc half0] abbrev half1 : Rect S2x8x512 := Rect.unit (s := S2x8x512) ![1, 0, 0] ![1, 8, 512] inb_S2x8x512_S1x8x512_1_0_0
@[inherit_doc half0] abbrev rows8 : Rect S2x1024x512 := Rect.unit (s := S2x1024x512) ![0, 0, 0] ![1, 1024, 512] inb_S2x1024x512_S1x1024x512_0_0_0
@[inherit_doc half0] abbrev rows9 : Rect S2x1024x512 := Rect.unit (s := S2x1024x512) ![1, 0, 0] ![1, 1024, 512] inb_S2x1024x512_S1x1024x512_1_0_0

/-- The cotangents of the filter's result that a point computes, of each half, and the rows the filter was given. -/
def cot0 (t : Fin cfg0.N) : FVec Ideal S1024x512 .f32 :=
  k0_pay8 (View.ld (iblk m c 3 t) rows8) (View.ld (iblk m c 3 t) rows9) (iblk m c 0 t) (iblk m c 1 t)
@[inherit_doc cot0] def cot1 (t : Fin cfg0.N) : FVec Ideal S1024x512 .f32 :=
  k0_pay9 (View.ld (iblk m c 3 t) rows8) (iblk m c 0 t) (iblk m c 1 t)
@[inherit_doc cot0] def row0 (t : Fin cfg0.N) : FVec Ideal S1024x512 .f32 := k0_pay10 (View.ld (iblk m c 2 t) rows8)
@[inherit_doc cot0] def row1 (t : Fin cfg0.N) : FVec Ideal S1024x512 .f32 := k0_pay23 (View.ld (iblk m c 2 t) rows9)

/-- The carried rows that a point meets, of each half, and the sums: none before the last block of rows. -/
def carried (t : Fin cfg0.N) (e : Fin 2) : Vec Ideal S1x8x512 .f32 := fun i =>
  if t.val % 8 = 0 then 0 else (before m c t).2.2 (ix3 e (i 1) (i 2))
@[inherit_doc carried] def sums (t : Fin cfg0.N) : Vec Ideal S2x8x512 .f32 := fun i =>
  if t.val % 8 = 0 then 0 else (before m c t).2.1 i

/-- What a point adds to an entry of the sums, from a column's cotangents, the carried ones and the filter's rows. -/
def add (u : Fin 1024 → EReal) (s : Fin 8 → EReal) (x : Fin 1024 → EReal) (q : ℕ) : EReal :=
  if q = 0 then pair (below u s 2 (by omega)) x else if q = 1 then pair (below u s 1 (by omega)) x else pair u x

/-- A load of one half of the carried rows. -/
theorem load0 (X : Vec Ideal S2x8x512 .f32) : View.ld X half0 = fun i => X (ix3 0 (i 1) (i 2)) := by
  funext i
  pointwise
@[inherit_doc load0] theorem load1 (X : Vec Ideal S2x8x512 .f32) : View.ld X half1 = fun i => X (ix3 1 (i 1) (i 2)) := by
  funext i
  pointwise

/-- A load of one row. -/
theorem load_row (X : Vec Ideal S2x8x512 .f32) (a b : ℕ) (ha : a < 2) (hb : b < 8) (inb) (j : Fin 512) :
    View.ld X (Rect.unit (s := S2x8x512) ![a, b, 0] ![1, 1, 512] inb) (ix3 0 0 j) = X (ix3 ⟨a, ha⟩ ⟨b, hb⟩ j) := by
  refine congrArg X ?_
  funext i
  fin_cases i <;> exact Fin.ext (by first | rfl | (show 0 + 1 * j.val = j.val; omega))

/-- A buffer read at the row stored last, or at another. -/
theorem canon_hit (a b : ℕ) (ha : a < 2) (hb : b < 8) (inb) (w : Vec Ideal S1x1x512 .f32) (L : List (View.Piece (Elt Ideal) S2x8x512 .f32)) (j : Fin 512) :
    View.canon ((⟨Rect.unit (s := S2x8x512) ![a, b, 0] ![1, 1, 512] inb, w⟩ : View.Piece (Elt Ideal) S2x8x512 .f32) :: L) (ix3 ⟨a, ha⟩ ⟨b, hb⟩ j) = w (ix3 0 0 j) := by
  have e : (ix3 ⟨a, ha⟩ ⟨b, hb⟩ j : S2x8x512.Idx) = (Rect.unit (s := S2x8x512) ![a, b, 0] ![1, 1, 512] inb).emb (ix3 0 0 j : S1x1x512.Idx) := by
    funext i
    fin_cases i <;> exact Fin.ext (by first | rfl | (show j.val = 0 + 1 * j.val; omega))
  rw [e]
  exact View.canon_cons_emb (Rect.unit (s := S2x8x512) ![a, b, 0] ![1, 1, 512] inb) ..

@[inherit_doc canon_hit] theorem canon_miss (a b : ℕ) (inb) (w : Vec Ideal S1x1x512 .f32) (L : List (View.Piece (Elt Ideal) S2x8x512 .f32)) (p : Fin 2) (q : Fin 8) (j : Fin 512)
    (h : p.val ≠ a ∨ q.val ≠ b) :
    View.canon ((⟨Rect.unit (s := S2x8x512) ![a, b, 0] ![1, 1, 512] inb, w⟩ : View.Piece (Elt Ideal) S2x8x512 .f32) :: L) (ix3 p q j) = View.canon L (ix3 p q j) := by
  rw [View.canon_cons_of_not_mem]
  intro hm
  obtain ⟨k, hk', hk⟩ := (LoadRect.mem_set _).mp hm 0
  obtain ⟨l, hl', hl⟩ := (LoadRect.mem_set _).mp hm 1
  have a1 : k < 1 := hk'
  have a2 : l < 1 := hl'
  have a3 : p.val = a + 1 * k := hk
  have a4 : q.val = b + 1 * l := hl
  omega

section reads
variable (v : View sig .tc .vmem S2x8x512 .f32) (f : v.ty.Contents (Elt Ideal))

@[inherit_doc canon_hit] theorem read_hit (a b : ℕ) (ha : a < 2) (hb : b < 8) (inb) (w : Vec Ideal S1x1x512 .f32) (L : List (View.Piece (Elt Ideal) S2x8x512 .f32)) (j : Fin 512) :
    v.read (Elt Ideal) (v.writes (Elt Ideal) f ((⟨Rect.unit (s := S2x8x512) ![a, b, 0] ![1, 1, 512] inb, w⟩ : View.Piece (Elt Ideal) S2x8x512 .f32) :: L)) (ix3 ⟨a, ha⟩ ⟨b, hb⟩ j) = w (ix3 0 0 j) :=
  View.read_writes_cons_unit_of_mem v f inb w L (ix3 ⟨a, ha⟩ ⟨b, hb⟩ j) (ix3 0 0 j) rfl (fun i => by
    fin_cases i
    · rfl
    · rfl
    · show j.val = 0 + j.val
      omega)

@[inherit_doc canon_hit] theorem read_miss (a b : ℕ) (inb) (w : Vec Ideal S1x1x512 .f32) (L : List (View.Piece (Elt Ideal) S2x8x512 .f32)) (p : Fin 2) (q : Fin 8) (j : Fin 512)
    (h : p.val ≠ a ∨ q.val ≠ b) :
    v.read (Elt Ideal) (v.writes (Elt Ideal) f ((⟨Rect.unit (s := S2x8x512) ![a, b, 0] ![1, 1, 512] inb, w⟩ : View.Piece (Elt Ideal) S2x8x512 .f32) :: L)) (ix3 p q j)
      = v.read (Elt Ideal) (v.writes (Elt Ideal) f L) (ix3 p q j) := by
  rcases h with h | h
  · exact View.read_writes_cons_unit_of_not_mem v f inb w L _ rfl 0 (by show p.val < a ∨ a + 1 ≤ p.val; omega)
  · exact View.read_writes_cons_unit_of_not_mem v f inb w L _ rfl 1 (by show q.val < b ∨ b + 1 ≤ q.val; omega)

end reads

/-- One store of a row, for a way `R` of reading what a list of stores leaves: the row itself, and otherwise the rest. -/
theorem step {R : List (View.Piece (Elt Ideal) S2x8x512 .f32) → S2x8x512.Idx → EReal}
    (hit : ∀ (a b : ℕ) (ha : a < 2) (hb : b < 8) (inb) (w : Vec Ideal S1x1x512 .f32) (L) (j : Fin 512),
      R ((⟨Rect.unit (s := S2x8x512) ![a, b, 0] ![1, 1, 512] inb, w⟩ : View.Piece (Elt Ideal) S2x8x512 .f32) :: L) (ix3 ⟨a, ha⟩ ⟨b, hb⟩ j) = w (ix3 0 0 j))
    (miss : ∀ (a b : ℕ) (inb) (w : Vec Ideal S1x1x512 .f32) (L) (p : Fin 2) (q : Fin 8) (j : Fin 512), (p.val ≠ a ∨ q.val ≠ b) →
      R ((⟨Rect.unit (s := S2x8x512) ![a, b, 0] ![1, 1, 512] inb, w⟩ : View.Piece (Elt Ideal) S2x8x512 .f32) :: L) (ix3 p q j) = R L (ix3 p q j))
    (T : Fin 2 → Fin 8 → EReal) (a b : ℕ) (ha : a < 2) (hb : b < 8) (inb) (w : Vec Ideal S1x1x512 .f32) (L) (p : Fin 2) (q : Fin 8) (j : Fin 512)
    (h : w (ix3 0 0 j) = T ⟨a, ha⟩ ⟨b, hb⟩) (rest : (p.val ≠ a ∨ q.val ≠ b) → R L (ix3 p q j) = T p q) :
    R ((⟨Rect.unit (s := S2x8x512) ![a, b, 0] ![1, 1, 512] inb, w⟩ : View.Piece (Elt Ideal) S2x8x512 .f32) :: L) (ix3 p q j) = T p q := by
  by_cases e : p.val = a ∧ q.val = b
  · have e1 : p = ⟨a, ha⟩ := Fin.ext e.1
    have e2 : q = ⟨b, hb⟩ := Fin.ext e.2
    rw [e1, e2]
    exact (hit a b ha hb inb w L j).trans h
  · have e' : p.val ≠ a ∨ q.val ≠ b := by omega
    exact (miss a b inb w L p q j e').trans (rest e')

/-- What a point adds to an entry of the sums. -/
def more (t : Fin cfg0.N) (e : Fin 2) (q : ℕ) (j : Fin 512) : EReal :=
  add (col ((![cot0 m c t, cot1 m c t] : Fin 2 → FVec Ideal S1024x512 .f32) e) j) (after (carried m c t e) j)
    (col ((![row0 m c t, row1 m c t] : Fin 2 → FVec Ideal S1024x512 .f32) e) j) q

/-- A point's cotangents and the filter's rows, by half. -/
abbrev cot (t : Fin cfg0.N) (e : Fin 2) : FVec Ideal S1024x512 .f32 := (![cot0 m c t, cot1 m c t] : Fin 2 → FVec Ideal S1024x512 .f32) e
@[inherit_doc cot] abbrev row (t : Fin cfg0.N) (e : Fin 2) : FVec Ideal S1024x512 .f32 := (![row0 m c t, row1 m c t] : Fin 2 → FVec Ideal S1024x512 .f32) e

theorem more0 (t : Fin cfg0.N) (e : Fin 2) (j : Fin 512) : (if 0 < 3 then more m c t e 0 j else 0)
    = pair (below (col (cot m c t e) j) (after (carried m c t e) j) 2 (by omega)) (col (row m c t e) j) := by
  rw [if_pos (by omega), more, add, if_pos rfl]
theorem more1 (t : Fin cfg0.N) (e : Fin 2) (j : Fin 512) : (if 1 < 3 then more m c t e 1 j else 0)
    = pair (below (col (cot m c t e) j) (after (carried m c t e) j) 1 (by omega)) (col (row m c t e) j) := by
  rw [if_pos (by omega), more, add, if_neg (by omega), if_pos rfl]
theorem more2 (t : Fin cfg0.N) (e : Fin 2) (j : Fin 512) : (if 2 < 3 then more m c t e 2 j else 0)
    = pair (col (cot m c t e) j) (col (row m c t e) j) := by
  rw [if_pos (by omega), more, add, if_neg (by omega), if_neg (by omega)]

/-- The stores of a point into the sums, in either way of reading them. -/
theorem grown {R : List (View.Piece (Elt Ideal) S2x8x512 .f32) → S2x8x512.Idx → EReal}
    (hit : ∀ (a b : ℕ) (ha : a < 2) (hb : b < 8) (inb) (w : Vec Ideal S1x1x512 .f32) (L) (j : Fin 512),
      R ((⟨Rect.unit (s := S2x8x512) ![a, b, 0] ![1, 1, 512] inb, w⟩ : View.Piece (Elt Ideal) S2x8x512 .f32) :: L) (ix3 ⟨a, ha⟩ ⟨b, hb⟩ j) = w (ix3 0 0 j))
    (miss : ∀ (a b : ℕ) (inb) (w : Vec Ideal S1x1x512 .f32) (L) (p : Fin 2) (q : Fin 8) (j : Fin 512), (p.val ≠ a ∨ q.val ≠ b) →
      R ((⟨Rect.unit (s := S2x8x512) ![a, b, 0] ![1, 1, 512] inb, w⟩ : View.Piece (Elt Ideal) S2x8x512 .f32) :: L) (ix3 p q j) = R L (ix3 p q j))
    (t : Fin cfg0.N) (L : List (View.Piece (Elt Ideal) S2x8x512 .f32)) (n00 n01 n02 n10 n11 n12 : Vec Ideal S1x1x512 .f32)
    (i00 i01 i02 i10 i11 i12) (e : Fin 2) (q : Fin 8) (j : Fin 512)
    (h00 : n00 (ix3 0 0 j) = sums m c t (ix3 0 0 j)) (h01 : n01 (ix3 0 0 j) = sums m c t (ix3 0 1 j)) (h02 : n02 (ix3 0 0 j) = sums m c t (ix3 0 2 j))
    (h10 : n10 (ix3 0 0 j) = sums m c t (ix3 1 0 j)) (h11 : n11 (ix3 0 0 j) = sums m c t (ix3 1 1 j)) (h12 : n12 (ix3 0 0 j) = sums m c t (ix3 1 2 j))
    (rest : 3 ≤ q.val → R L (ix3 e q j) = sums m c t (ix3 e q j)) :
    R ((⟨Rect.unit (s := S2x8x512) ![1, 2, 0] ![1, 1, 512] i12, k0_pay1 (k0_pay33 (cot1 m c t) (row1 m c t) n12)⟩ : View.Piece (Elt Ideal) S2x8x512 .f32)
      :: ⟨Rect.unit (s := S2x8x512) ![1, 1, 0] ![1, 1, 512] i11, k0_pay32 (row1 m c t) (k0_pay26 (cot1 m c t) (carried m c t 1)) n11⟩
      :: ⟨Rect.unit (s := S2x8x512) ![1, 0, 0] ![1, 1, 512] i10, k0_pay31 (row1 m c t) (k0_pay27 (cot1 m c t) (carried m c t 1)) n10⟩
      :: ⟨Rect.unit (s := S2x8x512) ![0, 2, 0] ![1, 1, 512] i02, k0_pay21 (cot0 m c t) (row0 m c t) n02⟩
      :: ⟨Rect.unit (s := S2x8x512) ![0, 1, 0] ![1, 1, 512] i01, k0_pay20 (k0_pay17 (cot0 m c t) (row0 m c t) (carried m c t 0)) n01⟩
      :: ⟨Rect.unit (s := S2x8x512) ![0, 0, 0] ![1, 1, 512] i00, k0_pay19 (k0_pay16 (cot0 m c t) (row0 m c t) (carried m c t 0)) n00⟩ :: L) (ix3 e q j)
      = sums m c t (ix3 e q j) + if q.val < 3 then more m c t e q j else 0 := by
  refine step hit miss (fun e q => sums m c t (ix3 e q j) + if q.val < 3 then more m c t e q j else 0) 1 2 (by omega) (by omega) _ _ _ e q j
    (((sum10 ..).trans (congrArg (· + _) h12)).trans (congrArg (sums m c t (ix3 1 2 j) + ·) (more2 m c t 1 j).symm)) fun _ => ?_
  refine step hit miss (fun e q => sums m c t (ix3 e q j) + if q.val < 3 then more m c t e q j else 0) 1 1 (by omega) (by omega) _ _ _ e q j
    (((sum11 ..).trans (congrArg (· + _) h11)).trans (congrArg (sums m c t (ix3 1 1 j) + ·) (more1 m c t 1 j).symm)) fun _ => ?_
  refine step hit miss (fun e q => sums m c t (ix3 e q j) + if q.val < 3 then more m c t e q j else 0) 1 0 (by omega) (by omega) _ _ _ e q j
    (((sum12 ..).trans (congrArg (· + _) h10)).trans (congrArg (sums m c t (ix3 1 0 j) + ·) (more0 m c t 1 j).symm)) fun _ => ?_
  refine step hit miss (fun e q => sums m c t (ix3 e q j) + if q.val < 3 then more m c t e q j else 0) 0 2 (by omega) (by omega) _ _ _ e q j
    (((sum00 ..).trans (congrArg (· + _) h02)).trans (congrArg (sums m c t (ix3 0 2 j) + ·) (more2 m c t 0 j).symm)) fun _ => ?_
  refine step hit miss (fun e q => sums m c t (ix3 e q j) + if q.val < 3 then more m c t e q j else 0) 0 1 (by omega) (by omega) _ _ _ e q j
    (((sum01 ..).trans (congrArg (· + _) h01)).trans (congrArg (sums m c t (ix3 0 1 j) + ·) (more1 m c t 0 j).symm)) fun _ => ?_
  refine step hit miss (fun e q => sums m c t (ix3 e q j) + if q.val < 3 then more m c t e q j else 0) 0 0 (by omega) (by omega) _ _ _ e q j
    (((sum02 ..).trans (congrArg (· + _) h00)).trans (congrArg (sums m c t (ix3 0 0 j) + ·) (more0 m c t 0 j).symm)) fun _ => ?_
  have hq : 3 ≤ q.val := by omega
  rw [if_neg (by omega), add_zero]
  exact rest hq

theorem clear3 : (k0_pay3 : FVec Ideal S2x8x512 .f32) = fun _ => (0 : EReal) := funext fun i => by
  rw [show i = ix3 (i 0) (i 1) (i 2) by funext a; fin_cases a <;> rfl]; exact reset ..
theorem clear4 : (k0_pay4 : FVec Ideal S2x8x512 .f32) = fun _ => (0 : EReal) := funext fun i => by
  rw [show i = ix3 (i 0) (i 1) (i 2) by funext a; fin_cases a <;> rfl]; exact reset4 ..

/-- What a point reads of the carried rows, at the first block of rows it meets and at the others. -/
theorem meet0 (t : Fin cfg0.N) (h : t.val % 8 = 0) : View.ld (fun _ => (0 : EReal) : Vec Ideal S2x8x512 .f32) half0 = carried m c t 0 := funext fun _ => (if_pos h).symm
@[inherit_doc meet0] theorem meet1 (t : Fin cfg0.N) (h : t.val % 8 = 0) : View.ld (fun _ => (0 : EReal) : Vec Ideal S2x8x512 .f32) half1 = carried m c t 1 := funext fun _ => (if_pos h).symm
@[inherit_doc meet0] theorem meet2 (t : Fin cfg0.N) (h : ¬ t.val % 8 = 0) : View.ld (before m c t).2.2 half0 = carried m c t 0 := (load0 _).trans (funext fun _ => (if_neg h).symm)
@[inherit_doc meet0] theorem meet3 (t : Fin cfg0.N) (h : ¬ t.val % 8 = 0) : View.ld (before m c t).2.2 half1 = carried m c t 1 := (load1 _).trans (funext fun _ => (if_neg h).symm)

/-- The sums a point leaves: three rows of each half grow, and the others stay. -/
theorem left7 (t : Fin cfg0.N) (e : Fin 2) (q : Fin 8) (j : Fin 512) :
    (outsAt0 m c t.val t.isLt).2.1 (ix3 e q j) = sums m c t (ix3 e q j) + if q.val < 3 then more m c t e q j else 0 := by
  by_cases h0 : t.val % 8 = 0
  · have es : sums m c t = fun _ => (0 : EReal) := funext fun _ => if_pos h0
    rw [outsAt0_A m c t h0]
    frame_out
    simp (disch := decide) only [↓ View.readCov_skip, ↓ View.readCov_fill, read_unread_whole]
    rw [clear3, clear4, meet0 m c t h0, meet1 m c t h0]
    have z : ∀ i, (fun _ => (0 : EReal) : Vec Ideal S2x8x512 .f32) i = sums m c t i := fun i => (congrFun es i).symm
    refine grown m c canon_hit canon_miss t _ _ _ _ _ _ _ _ _ _ _ _ _ e q j (z _) (z _) (z _) (z _) (z _) (z _) fun _ => ?_
    refine Eq.trans ?_ (z (ix3 e q j))
    have ew : (ix3 e q j : S2x8x512.Idx) = (Rect.unit (s := S2x8x512) ![0, 0, 0] ![2, 8, 512] inb_S2x8x512_S2x8x512_0_0_0).emb (ix3 e q j : S2x8x512.Idx) := by
      funext a; fin_cases a <;> exact Fin.ext (by first | (show e.val = 0 + 1 * e.val; omega) | (show q.val = 0 + 1 * q.val; omega) | (show j.val = 0 + 1 * j.val; omega))
    rw [ew]
    exact View.canon_cons_emb (Rect.unit (s := S2x8x512) ![0, 0, 0] ![2, 8, 512] inb_S2x8x512_S2x8x512_0_0_0) ..
  · have z : ∀ i, (before m c t).2.1 i = sums m c t i := fun i => (if_neg h0).symm
    rw [outsAt0_B m c t h0]
    frame_out
    simp (disch := decide) only [↓ View.readCov_skip, ↓ View.readCov_fill, read_unread_whole]
    rw [meet2 m c t h0, meet3 m c t h0]
    refine grown m c (R := fun L => View.read (Elt Ideal) (ms0_7 t).view ((ms0_7 t).view.writes (Elt Ideal) (Memref.IsWhole.unread (hs0_7 t) (before m c t).2.1) L))
      (read_hit _ _) (read_miss _ _) t [] _ _ _ _ _ _ _ _ _ _ _ _ e q j ?_ ?_ ?_ ?_ ?_ ?_ fun _ => ?_
    · exact (load_row _ 0 0 (by omega) (by omega) _ j).trans (z _)
    · exact (load_row _ 0 1 (by omega) (by omega) _ j).trans (z _)
    · exact (load_row _ 0 2 (by omega) (by omega) _ j).trans (z _)
    · exact (load_row _ 1 0 (by omega) (by omega) _ j).trans (z _)
    · exact (load_row _ 1 1 (by omega) (by omega) _ j).trans (z _)
    · exact (load_row _ 1 2 (by omega) (by omega) _ j).trans (z _)
    · exact (congrFun (Memref.IsWhole.read_unread _ _) _).trans (z _)

/-- Two stores, one of each half of a buffer, read back. -/
theorem halves {e : EltTy} (p q : Vec Ideal S1x1024x512 e) (r : Fin 1024) (j : Fin 512) :
    View.canon [(⟨rows9, q⟩ : View.Piece (Elt Ideal) S2x1024x512 e), ⟨rows8, p⟩] (ix3 0 r j) = p (ix3 0 r j)
    ∧ View.canon [(⟨rows9, q⟩ : View.Piece (Elt Ideal) S2x1024x512 e), ⟨rows8, p⟩] (ix3 1 r j) = q (ix3 0 r j) := by
  have e0 : (ix3 0 r j : S2x1024x512.Idx) = rows8.emb (ix3 0 r j : S1x1024x512.Idx) := by
    funext a; fin_cases a <;> exact Fin.ext (by first | rfl | (show r.val = 0 + 1 * r.val; omega) | (show j.val = 0 + 1 * j.val; omega))
  have e1 : (ix3 1 r j : S2x1024x512.Idx) = rows9.emb (ix3 0 r j : S1x1024x512.Idx) := by
    funext a; fin_cases a <;> exact Fin.ext (by first | rfl | (show r.val = 0 + 1 * r.val; omega) | (show j.val = 0 + 1 * j.val; omega))
  constructor
  · rw [View.canon_cons_of_not_mem, e0]
    · exact View.canon_cons_emb rows8 ..
    · intro h
      obtain ⟨k, _, hk⟩ := (LoadRect.mem_set _).mp h 0
      exact absurd hk (by show ¬ (0 = 1 + 1 * k); omega)
  · rw [e1]
    exact View.canon_cons_emb rows9 ..

@[inherit_doc halves] theorem halves8 (p q : Vec Ideal S1x8x512 .f32) (L : List (View.Piece (Elt Ideal) S2x8x512 .f32)) (r : Fin 8) (j : Fin 512) :
    View.canon ((⟨half1, q⟩ : View.Piece (Elt Ideal) S2x8x512 .f32) :: ⟨half0, p⟩ :: L) (ix3 0 r j) = p (ix3 0 r j)
    ∧ View.canon ((⟨half1, q⟩ : View.Piece (Elt Ideal) S2x8x512 .f32) :: ⟨half0, p⟩ :: L) (ix3 1 r j) = q (ix3 0 r j) := by
  have e0 : (ix3 0 r j : S2x8x512.Idx) = half0.emb (ix3 0 r j : S1x8x512.Idx) := by
    funext a; fin_cases a <;> exact Fin.ext (by first | rfl | (show r.val = 0 + 1 * r.val; omega) | (show j.val = 0 + 1 * j.val; omega))
  have e1 : (ix3 1 r j : S2x8x512.Idx) = half1.emb (ix3 0 r j : S1x8x512.Idx) := by
    funext a; fin_cases a <;> exact Fin.ext (by first | rfl | (show r.val = 0 + 1 * r.val; omega) | (show j.val = 0 + 1 * j.val; omega))
  constructor
  · rw [View.canon_cons_of_not_mem, e0]
    · exact View.canon_cons_emb half0 ..
    · intro h
      obtain ⟨k, _, hk⟩ := (LoadRect.mem_set _).mp h 0
      exact absurd hk (by show ¬ (0 = 1 + 1 * k); omega)
  · rw [e1]
    exact View.canon_cons_emb half1 ..

/-- The first rows a point keeps for the next. -/
theorem left8 (t : Fin cfg0.N) (r : Fin 8) (j : Fin 512) :
    (outsAt0 m c t.val t.isLt).2.2 (ix3 0 r j) = cot0 m c t (ix2 ⟨r.val, by omega⟩ j)
    ∧ (outsAt0 m c t.val t.isLt).2.2 (ix3 1 r j) = cot1 m c t (ix2 ⟨r.val, by omega⟩ j) := by
  by_cases h0 : t.val % 8 = 0
  · rw [outsAt0_A m c t h0]
    frame_out
    exact ⟨(halves8 _ _ _ r j).1.trans (keep0 ..), (halves8 _ _ _ r j).2.trans (keep1 ..)⟩
  · rw [outsAt0_B m c t h0]
    frame_out
    exact ⟨(halves8 _ _ _ r j).1.trans (keep0 ..), (halves8 _ _ _ r j).2.trans (keep1 ..)⟩

/-- The filtered columns a point leaves. -/
theorem left6 (t : Fin cfg0.N) (r : Fin 1024) (j : Fin 512) :
    (outsAt0 m c t.val t.isLt).1 (ix3 0 r j) = filter (col (cot0 m c t) j) (after (carried m c t 0) j) (coef (iblk m c 4 t) j) r
    ∧ (outsAt0 m c t.val t.isLt).1 (ix3 1 r j) = filter (col (cot1 m c t) j) (after (carried m c t 1) j) (coef (iblk m c 5 t) j) r := by
  by_cases h0 : t.val % 8 = 0
  · rw [outsAt0_A m c t h0]
    frame_out
    simp (disch := decide) only [↓ View.readCov_skip, ↓ View.readCov_fill, read_unread_whole]
    rw [clear3, meet0 m c t h0, meet1 m c t h0]
    exact ⟨(halves _ _ r j).1.trans (out0 ..), (halves _ _ r j).2.trans (out1 ..)⟩
  · rw [outsAt0_B m c t h0]
    frame_out
    simp (disch := decide) only [↓ View.readCov_skip, ↓ View.readCov_fill, read_unread_whole]
    rw [meet2 m c t h0, meet3 m c t h0]
    exact ⟨(halves _ _ r j).1.trans (out0 ..), (halves _ _ r j).2.trans (out1 ..)⟩

/-- An entry of a point's cotangents, and of the rows the filter was given. -/
theorem cot0_apply (t : Fin cfg0.N) (r : Fin 1024) (j : Fin 512) :
    cot0 m c t (ix2 r j) = back0 (iblk m c 3 t (ix3 0 r j)) (iblk m c 3 t (ix3 1 r j)) (dot (iblk m c 0 t) (iblk m c 1 t) r j) := by
  refine (back0_apply ..).trans (congrArg₂ (fun a g => back0 a g _) ?_ ?_) <;> pointwise
@[inherit_doc cot0_apply] theorem cot1_apply (t : Fin cfg0.N) (r : Fin 1024) (j : Fin 512) :
    cot1 m c t (ix2 r j) = back1 (iblk m c 3 t (ix3 0 r j)) (dot (iblk m c 0 t) (iblk m c 1 t) r j) := by
  refine (back1_apply ..).trans (congrArg (fun a => back1 a _) ?_)
  pointwise
@[inherit_doc cot0_apply] theorem row0_apply (t : Fin cfg0.N) (r : Fin 1024) (j : Fin 512) : row0 m c t (ix2 r j) = iblk m c 2 t (ix3 0 r j) := by
  refine (rows0 ..).trans ?_
  pointwise
@[inherit_doc cot0_apply] theorem row1_apply (t : Fin cfg0.N) (r : Fin 1024) (j : Fin 512) : row1 m c t (ix2 r j) = iblk m c 2 t (ix3 1 r j) := by
  refine (rows1 ..).trans ?_
  pointwise

end Cert.MidIdeal.Call

end
-- ==== Proof.MidArrays.lean ====
/-
  The call that takes the gated activations' cotangents back through the gate and the filter of the feed-forward block:
  the two result arrays in terms of the arguments.
-/
module

public import proofs.«01_k».proof.Proof.MidCall

@[expose] public section

set_option maxRecDepth 16384

noncomputable section

namespace Cert.MidIdeal.Call

open Cert.MidIdeal Cert.MidIdeal.Gen Idealize.ShloMosaic Idealize.ShloMosaic.TcCoe Idealize.ShloMosaic.Tactic
open Idealize.ShloMosaic.Pipeline

variable (m : (ℓ : Loc nD τ sig) → Buf (Elt Ideal) ℓ) (c : Dev nD)

/-- The arguments by row and column: the cotangents, the weight, the two halves side by side of the rows the filter was
    given, the filter's coefficients. -/
def dz (r : ℕ) (k : Fin 2048) : EReal := if h : r < 8192 then m ((c.tc : Thread nD τ).loc main_arg0) (ix2 ⟨r, h⟩ k) else 0
@[inherit_doc dz] def wd (j : ℕ) (k : Fin 2048) : EReal := if h : j < 5632 then m ((c.tc : Thread nD τ).loc main_arg1) (ix2 ⟨j, h⟩ k) else 0
@[inherit_doc dz] def up (r j : ℕ) : EReal :=
  if h : r < 8192 ∧ j < 11264 then m ((c.tc : Thread nD τ).loc main_arg2) (ix3 ⟨j / 5632, by omega⟩ ⟨r, h.1⟩ ⟨j % 5632, by omega⟩) else 0
@[inherit_doc dz] def f (d : Fin 3) (j : ℕ) : EReal := if h : j < 11264 then m ((c.tc : Thread nD τ).loc main_arg3) (ix2 d ⟨j, h⟩) else 0

/-- A column `d` rows earlier, with zeros before its first row; and `d` rows later, with zeros after its last. -/
def past (u : ℕ → EReal) (d r : ℕ) : EReal := if r < d then 0 else u (r - d)
@[inherit_doc past] def next (u : ℕ → EReal) (d r : ℕ) : EReal := if r + d < 8192 then u (r + d) else 0

/-- The filter's result. -/
def conv (r j : ℕ) : EReal :=
  f m c 0 j * past (fun r => up m c r j) 2 r + f m c 1 j * past (fun r => up m c r j) 1 r + f m c 2 j * up m c r j

/-- The cotangents of the gate's result. -/
def ct (r j : ℕ) : EReal := ∑ k : Fin 2048, dz m c r k * wd m c j k

/-- The cotangents of the filter's result. -/
def dy (r j : ℕ) : EReal :=
  if j < 5632 then back0 (conv m c r j) (conv m c r (5632 + j)) (ct m c r j) else back1 (conv m c r (j - 5632)) (ct m c r (j - 5632))

/-- The cotangents of the rows the filter was given. -/
def du (r j : ℕ) : EReal :=
  f m c 2 j * dy m c r j + f m c 1 j * next (fun r => dy m c r j) 1 r + f m c 0 j * next (fun r => dy m c r j) 2 r

/-- The gradient of the filter's coefficients, with rows of zeros after the third. -/
def dw (q j : ℕ) : EReal := if q < 3 then ∑ r : Fin 8192, next (fun r => dy m c r j) (2 - q) r * up m c r j else 0

/-- Where each window's block lies. -/
theorem idx0 : ∀ t : Fin cfg0.N, win0_0.index t = ![7 - t.val % 8, 0] := (by decide +kernel : ∀ t : Fin grid0.N, _)
@[inherit_doc idx0] theorem idx1 : ∀ t : Fin cfg0.N, win0_1.index t = ![t.val / 8, 0] := (by decide +kernel : ∀ t : Fin grid0.N, _)
@[inherit_doc idx0] theorem idx2 : ∀ t : Fin cfg0.N, win0_2.index t = ![0, 7 - t.val % 8, t.val / 8] := (by decide +kernel : ∀ t : Fin grid0.N, _)
@[inherit_doc idx0] theorem idx3 : ∀ t : Fin cfg0.N, win0_3.index t = ![0, 7 - t.val % 8, t.val / 8] := (by decide +kernel : ∀ t : Fin grid0.N, _)
@[inherit_doc idx0] theorem idx4 : ∀ t : Fin cfg0.N, win0_4.index t = ![0, t.val / 8] := (by decide +kernel : ∀ t : Fin grid0.N, _)
@[inherit_doc idx0] theorem idx5 : ∀ t : Fin cfg0.N, win0_5.index t = ![0, 11 + t.val / 8] := (by decide +kernel : ∀ t : Fin grid0.N, _)
@[inherit_doc idx0] theorem idx6 : ∀ t : Fin cfg0.N, win0_6.index t = ![0, 7 - t.val % 8, t.val / 8] := (by decide +kernel : ∀ t : Fin grid0.N, _)
@[inherit_doc idx0] theorem idx7 : ∀ t : Fin cfg0.N, win0_7.index t = ![0, 0, t.val / 8] := (by decide +kernel : ∀ t : Fin grid0.N, _)

/-- An entry of the cotangents' block. -/
theorem blk0 (t : Fin cfg0.N) (r : Fin 1024) (k : Fin 2048) : iblk m c 0 t (ix2 r k) = dz m c (1024 * (7 - t.val % 8) + r) k := by
  rw [dz, dif_pos (by omega)]
  blk_simp [iblk, idx0]
  rw [V_main_arg0]
  refine congrArg _ ?_
  blk_ext [idx0]

/-- An entry of the weight's block. -/
theorem blk1 (t : Fin cfg0.N) (j : Fin 512) (k : Fin 2048) : iblk m c 1 t (ix2 j k) = wd m c (512 * (t.val / 8) + j) k := by
  have ht : t.val < 88 := t.isLt
  rw [wd, dif_pos (by omega)]
  blk_simp [iblk, idx1]
  rw [V_main_arg1]
  refine congrArg _ ?_
  blk_ext [idx1]

/-- An entry of the block of the rows the filter was given. -/
theorem blk2 (t : Fin cfg0.N) (e : Fin 2) (r : Fin 1024) (j : Fin 512) :
    iblk m c 2 t (ix3 e r j) = up m c (1024 * (7 - t.val % 8) + r) (5632 * e + (512 * (t.val / 8) + j)) := by
  have ht : t.val < 88 := t.isLt
  rw [up, dif_pos ⟨by omega, by omega⟩]
  blk_simp [iblk, idx2]
  rw [V_main_arg2]
  refine congrArg _ ?_
  blk_ext [idx2]

/-- The first three rows of a filter with rows of zeros after the third. -/
theorem pad_row (z : FVec Ideal S3x11264 .f32) (r : Fin 8) (j : Fin 11264) (h : r.val < 3) :
    pad S8x11264 ![0, 0] ![5, 0] ![0, 0] z (sitofp .f32 (constantI S_ 32 0#32)) pads_S3x11264_S8x11264_050_000 h_S_ (ix2 r j) = z (ix2 ⟨r, h⟩ j) := by
  pointwise
  exact dif_pos h

/-- The coefficients as the call is given them, with rows of zeros after the third. -/
theorem padded (r : Fin 8) (j : Fin 11264) (h : r.val < 3) : V m c main_v0 (ix2 r j) = f m c ⟨r, h⟩ j := by
  rw [f, dif_pos j.isLt]
  entry_read
  simp only [hostOps0, hostOps0_1, List.flatten_cons, List.flatten_nil, List.cons_append, List.nil_append, List.append_nil]
  after_results
  exact pad_row (m ((c.tc : Thread nD τ).loc main_arg3)) r j h

/-- An entry of the coefficients' block, of each half. -/
theorem blk4 (t : Fin cfg0.N) (r : Fin 8) (l : Fin 512) (h : r.val < 3) : iblk m c 4 t (ix2 r l) = f m c ⟨r, h⟩ (512 * (t.val / 8) + l) := by
  have ht : t.val < 88 := t.isLt
  refine Eq.trans ?_ (padded m c r ⟨512 * (t.val / 8) + l, by omega⟩ h)
  blk_simp [iblk, idx4]
  refine congrArg _ ?_
  blk_ext [idx4]

@[inherit_doc blk4] theorem blk5 (t : Fin cfg0.N) (r : Fin 8) (l : Fin 512) (h : r.val < 3) : iblk m c 5 t (ix2 r l) = f m c ⟨r, h⟩ (5632 + (512 * (t.val / 8) + l)) := by
  have ht : t.val < 88 := t.isLt
  refine Eq.trans ?_ (padded m c r ⟨5632 + (512 * (t.val / 8) + l), by omega⟩ h)
  blk_simp [iblk, idx5]
  refine congrArg _ ?_
  blk_ext [idx5]

/-- The arguments, as tensors. -/
abbrev ups : S2x8192x5632.Idx → EReal := m ((c.tc : Thread nD τ).loc main_arg2)
@[inherit_doc ups] abbrev coefs : S3x11264.Idx → EReal := m ((c.tc : Thread nD τ).loc main_arg3)

/-- The arguments at an entry. -/
theorem up_at (e : Fin 2) (r : ℕ) (h : r < 8192) (j : Fin 5632) :
    up m c r (5632 * e + j) = m ((c.tc : Thread nD τ).loc main_arg2) (ix3 e ⟨r, h⟩ j) := by
  rw [up, dif_pos ⟨h, by omega⟩]
  refine congrArg _ ?_
  funext a
  fin_cases a
  · exact Fin.ext (by show (5632 * e.val + j.val) / 5632 = e.val; omega)
  · rfl
  · exact Fin.ext (by show (5632 * e.val + j.val) % 5632 = j.val; omega)

@[inherit_doc up_at] theorem f_at (d : Fin 3) (j : Fin 11264) : f m c d j = m ((c.tc : Thread nD τ).loc main_arg3) (ix2 d j) := dif_pos j.isLt

/-- The filter's result, by halves. -/
theorem conv_half (e : Fin 2) (r : Fin 8192) (j : Fin 5632) : conv m c r (5632 * e + j)
    = coefs m c (ix2 0 ⟨5632 * e + j, by omega⟩) * (if h : r.val < 2 then 0 else ups m c (ix3 e ⟨r - 2, by omega⟩ j))
      + coefs m c (ix2 1 ⟨5632 * e + j, by omega⟩) * (if h : 1 + r.val < 2 then 0 else ups m c (ix3 e ⟨1 + r - 2, by omega⟩ j))
      + coefs m c (ix2 2 ⟨5632 * e + j, by omega⟩) * ups m c (ix3 e r j) := by
  unfold conv
  rw [up_at m c e r.val r.isLt]
  refine congrArg₂ _ (congrArg₂ _ (congrArg₂ _ (f_at m c 0 ⟨5632 * e + j, by omega⟩) ?_) (congrArg₂ _ (f_at m c 1 ⟨5632 * e + j, by omega⟩) ?_)) (congrArg₂ _ (f_at m c 2 ⟨5632 * e + j, by omega⟩) rfl)
  · unfold past
    by_cases h : r.val < 2
    · rw [if_pos h, dif_pos h]
    · rw [if_neg h, dif_neg h]
      exact up_at m c e (r.val - 2) (by omega) j
  · unfold past
    by_cases h : r.val < 1
    · rw [if_pos h, dif_pos (by omega)]
    · rw [if_neg h, dif_neg (by omega)]
      refine (up_at m c e (r.val - 1) (by omega) j).trans (congrArg (fun x => ups m c (ix3 e x j)) (Fin.ext ?_))
      show r.val - 1 = 1 + r.val - 2
      omega

/-- Three products' sum. -/
def three (a b c d e f : EReal) : EReal := a * b + c * d + e * f

/-- The filter's result as the call is given it, by halves. -/
theorem given0 (r : Fin 8192) (j : Fin 5632) : V m c main_v38 (ix3 0 r j)
    = three (coefs m c (ix2 0 ⟨j, by omega⟩)) (if h : r.val < 2 then 0 else ups m c (ix3 0 ⟨r - 2, by omega⟩ j))
      (coefs m c (ix2 1 ⟨j, by omega⟩)) (if h : 1 + r.val < 2 then 0 else ups m c (ix3 0 ⟨1 + r - 2, by omega⟩ j))
      (coefs m c (ix2 2 ⟨j, by omega⟩)) (ups m c (ix3 0 r j)) := by
  unfold_abbrev_sides
  entry_read
  simp only [hostOps0, hostOps0_1, List.flatten_cons, List.flatten_nil, List.cons_append, List.nil_append, List.append_nil]
  after_results
  pointwise
  rfl
@[inherit_doc given0] theorem given1 (r : Fin 8192) (j : Fin 5632) : V m c main_v38 (ix3 1 r j)
    = three (coefs m c (ix2 0 ⟨5632 + j, by omega⟩)) (if h : r.val < 2 then 0 else ups m c (ix3 1 ⟨r - 2, by omega⟩ j))
      (coefs m c (ix2 1 ⟨5632 + j, by omega⟩)) (if h : 1 + r.val < 2 then 0 else ups m c (ix3 1 ⟨1 + r - 2, by omega⟩ j))
      (coefs m c (ix2 2 ⟨5632 + j, by omega⟩)) (ups m c (ix3 1 r j)) := by
  unfold_abbrev_sides
  entry_read
  simp only [hostOps0, hostOps0_1, List.flatten_cons, List.flatten_nil, List.cons_append, List.nil_append, List.append_nil]
  after_results
  pointwise
  rfl
@[inherit_doc given0] theorem given (e : Fin 2) (r : Fin 8192) (j : Fin 5632) : V m c main_v38 (ix3 e r j) = conv m c r (5632 * e + j) := by
  refine Eq.trans ?_ (conv_half m c e r j).symm
  match e with
  | ⟨0, _⟩ =>
    have ej : (⟨5632 * (0 : Fin 2).val + j.val, by show 5632 * 0 + j.val < 11264; omega⟩ : Fin 11264) = ⟨j.val, by omega⟩ := Fin.ext (by show 5632 * 0 + j.val = j.val; omega)
    refine (given0 m c r j).trans ?_
    rw [← ej]
    rfl
  | ⟨1, _⟩ =>
    have ej : (⟨5632 * (1 : Fin 2).val + j.val, by show 5632 * 1 + j.val < 11264; omega⟩ : Fin 11264) = ⟨5632 + j.val, by omega⟩ := Fin.ext (by show 5632 * 1 + j.val = 5632 + j.val; omega)
    refine (given1 m c r j).trans ?_
    rw [← ej]
    rfl

/-- An entry of the block of the filter's result. -/
theorem blk3 (t : Fin cfg0.N) (e : Fin 2) (r : Fin 1024) (j : Fin 512) :
    iblk m c 3 t (ix3 e r j) = conv m c (1024 * (7 - t.val % 8) + r) (5632 * e + (512 * (t.val / 8) + j)) := by
  have ht : t.val < 88 := t.isLt
  refine Eq.trans ?_ (given m c e ⟨1024 * (7 - t.val % 8) + r, by omega⟩ ⟨512 * (t.val / 8) + j, by omega⟩)
  blk_simp [iblk, idx3]
  refine congrArg _ ?_
  blk_ext [idx3]

/-- A point's products. -/
theorem dot_eq (t : Fin cfg0.N) (r : Fin 1024) (j : Fin 512) :
    dot (iblk m c 0 t) (iblk m c 1 t) r j = ct m c (1024 * (7 - t.val % 8) + r) (512 * (t.val / 8) + j) :=
  Finset.sum_congr rfl fun k _ => by rw [blk0, blk1]

/-- A point's cotangents, of each half, and its rows. -/
theorem cot_eq (t : Fin cfg0.N) (e : Fin 2) (r : Fin 1024) (j : Fin 512) :
    cot m c t e (ix2 r j) = dy m c (1024 * (7 - t.val % 8) + r) (5632 * e + (512 * (t.val / 8) + j)) := by
  have ht : t.val < 88 := t.isLt
  unfold dy
  match e with
  | ⟨0, _⟩ =>
    rw [if_pos (by show 5632 * 0 + (512 * (t.val / 8) + j.val) < 5632; omega)]
    refine (cot0_apply ..).trans ?_
    rw [dot_eq, blk3, blk3]
    have e0 : 5632 * (0 : Fin 2).val + (512 * (t.val / 8) + j.val) = 512 * (t.val / 8) + j.val := by show 5632 * 0 + (512 * (t.val / 8) + j.val) = _; omega
    have e1 : 5632 * (1 : Fin 2).val + (512 * (t.val / 8) + j.val) = 5632 + (512 * (t.val / 8) + j.val) := by show 5632 * 1 + (512 * (t.val / 8) + j.val) = _; omega
    have e2 : 5632 * ((⟨0, by omega⟩ : Fin 2) : ℕ) + (512 * (t.val / 8) + j.val) = 512 * (t.val / 8) + j.val := e0
    rw [e0, e1, e2]
  | ⟨1, _⟩ =>
    rw [if_neg (by show ¬ 5632 * 1 + (512 * (t.val / 8) + j.val) < 5632; omega)]
    refine (cot1_apply ..).trans ?_
    rw [dot_eq, blk3]
    have e0 : 5632 * (0 : Fin 2).val + (512 * (t.val / 8) + j.val) = 512 * (t.val / 8) + j.val := by show 5632 * 0 + (512 * (t.val / 8) + j.val) = _; omega
    have e2 : 5632 * ((⟨1, by omega⟩ : Fin 2) : ℕ) + (512 * (t.val / 8) + j.val) - 5632 = 512 * (t.val / 8) + j.val := by show 5632 * 1 + (512 * (t.val / 8) + j.val) - 5632 = _; omega
    rw [e0, e2]

@[inherit_doc cot_eq] theorem row_eq (t : Fin cfg0.N) (e : Fin 2) (r : Fin 1024) (j : Fin 512) :
    row m c t e (ix2 r j) = up m c (1024 * (7 - t.val % 8) + r) (5632 * e + (512 * (t.val / 8) + j)) := by
  match e with
  | ⟨0, _⟩ => exact (row0_apply ..).trans (blk2 ..)
  | ⟨1, _⟩ => exact (row1_apply ..).trans (blk2 ..)

/-- The rows carried into a point are the first of the block after, of each half. -/
theorem carried_eq (t : Fin cfg0.N) (e : Fin 2) (q : Fin 8) (j : Fin 512) :
    carried m c t e (ix3 0 q j) = if 7 - t.val % 8 = 7 then 0 else dy m c (1024 * (7 - t.val % 8 + 1) + q) (5632 * e + (512 * (t.val / 8) + j)) := by
  unfold carried
  by_cases h : t.val % 8 = 0
  · rw [if_pos h, if_pos (by omega)]
  · rw [if_neg h, if_neg (by omega)]
    have k : (before m c t).2.2 (ix3 e q j) = cot m c ⟨t.val - 1, Nat.lt_of_le_of_lt (Nat.sub_le _ _) t.isLt⟩ e (ix2 ⟨q.val, by omega⟩ j) := by
      match e with
      | ⟨0, _⟩ => exact (left8 m c ⟨t.val - 1, Nat.lt_of_le_of_lt (Nat.sub_le _ _) t.isLt⟩ q j).1
      | ⟨1, _⟩ => exact (left8 m c ⟨t.val - 1, Nat.lt_of_le_of_lt (Nat.sub_le _ _) t.isLt⟩ q j).2
    refine (k.trans (cot_eq ..)).trans ?_
    have e1 : 1024 * (7 - (t.val - 1) % 8) + q.val = 1024 * (7 - t.val % 8 + 1) + q.val := by omega
    have e2 : (t.val - 1) / 8 = t.val / 8 := by omega
    show dy m c (1024 * (7 - (t.val - 1) % 8) + q.val) (5632 * e + (512 * ((t.val - 1) / 8) + j.val)) = _
    rw [e1, e2]

/-- With the rows after a block carried in, looking downwards inside the block is looking downwards in the column. -/
theorem below_eq (u : ℕ → EReal) (b d : ℕ) (hb : b ≤ 7) (hd : d ≤ 8) (r : Fin 1024) :
    below (fun r => u (1024 * b + r)) (fun q => if b = 7 then 0 else u (1024 * (b + 1) + q)) d hd r = next u d (1024 * b + r) := by
  unfold below next
  by_cases h : r.val + d < 1024
  · rw [dif_pos h, if_pos (by omega)]
    exact congrArg u (by show 1024 * b + (r.val + d) = 1024 * b + r.val + d; omega)
  · rw [dif_neg h]
    show (if b = 7 then 0 else u (1024 * (b + 1) + (r.val + d - 1024))) = _
    by_cases hb' : b = 7
    · rw [if_pos hb', if_neg (by omega)]
    · rw [if_neg hb', if_pos (by omega)]
      exact congrArg u (by show 1024 * (b + 1) + (r.val + d - 1024) = 1024 * b + r.val + d; omega)

/-- A point's columns: its cotangents, the carried ones, and its rows. -/
theorem col_cot (t : Fin cfg0.N) (e : Fin 2) (j : Fin 512) :
    col (cot m c t e) j = fun r : Fin 1024 => (fun s => dy m c s (5632 * e + (512 * (t.val / 8) + j))) (1024 * (7 - t.val % 8) + r) := funext fun r => cot_eq ..
@[inherit_doc col_cot] theorem after_carried (t : Fin cfg0.N) (e : Fin 2) (j : Fin 512) :
    after (carried m c t e) j = fun q : Fin 8 => if 7 - t.val % 8 = 7 then 0 else (fun s => dy m c s (5632 * e + (512 * (t.val / 8) + j))) (1024 * (7 - t.val % 8 + 1) + q) :=
  funext fun q => carried_eq ..

theorem below_col (t : Fin cfg0.N) (e : Fin 2) (d : ℕ) (hd : d ≤ 8) (r : Fin 1024) (j : Fin 512) :
    below (col (cot m c t e) j) (after (carried m c t e) j) d hd r
      = next (fun s => dy m c s (5632 * e + (512 * (t.val / 8) + j))) d (1024 * (7 - t.val % 8) + r) := by
  have h7 : 7 - t.val % 8 ≤ 7 := Nat.sub_le _ _
  rw [col_cot, after_carried]
  exact below_eq (fun s => dy m c s (5632 * e + (512 * (t.val / 8) + j))) (7 - t.val % 8) d h7 hd r

/-- What a point's filter gives, of each half. -/
theorem filter_eq (t : Fin cfg0.N) (e : Fin 2) (w : Fin 8 → EReal) (r : Fin 1024) (j : Fin 512)
    (h0 : w 0 = f m c 0 (5632 * e + (512 * (t.val / 8) + j))) (h1 : w 1 = f m c 1 (5632 * e + (512 * (t.val / 8) + j)))
    (h2 : w 2 = f m c 2 (5632 * e + (512 * (t.val / 8) + j))) :
    filter (col (cot m c t e) j) (after (carried m c t e) j) w r = du m c (1024 * (7 - t.val % 8) + r) (5632 * e + (512 * (t.val / 8) + j)) := by
  unfold filter du
  rw [below_col, below_col, h0, h1, h2]
  exact congrArg (· + _) (congrArg (· + _) (congrArg (f m c 2 (5632 * e + (512 * (t.val / 8) + j)) * ·) (cot_eq ..)))

/-- An entry of the rows a point leaves. -/
theorem left_eq (t : Fin cfg0.N) (e : Fin 2) (r : Fin 1024) (j : Fin 512) :
    (outsAt0 m c t.val t.isLt).1 (ix3 e r j) = du m c (1024 * (7 - t.val % 8) + r) (5632 * e + (512 * (t.val / 8) + j)) := by
  match e with
  | ⟨0, _⟩ =>
    have z : 512 * (t.val / 8) + j.val = 5632 * (0 : Fin 2).val + (512 * (t.val / 8) + j.val) := by show _ = 5632 * 0 + (512 * (t.val / 8) + j.val); omega
    exact (left6 ..).1.trans (filter_eq m c t 0 _ r j ((blk4 m c t 0 j (by decide)).trans (congrArg _ z)) ((blk4 m c t 1 j (by decide)).trans (congrArg _ z))
      ((blk4 m c t 2 j (by decide)).trans (congrArg _ z)))
  | ⟨1, _⟩ =>
    have z : 5632 + (512 * (t.val / 8) + j.val) = 5632 * (1 : Fin 2).val + (512 * (t.val / 8) + j.val) := by show _ = 5632 * 1 + (512 * (t.val / 8) + j.val); omega
    exact (left6 ..).2.trans (filter_eq m c t 1 _ r j ((blk5 m c t 0 j (by decide)).trans (congrArg _ z)) ((blk5 m c t 1 j (by decide)).trans (congrArg _ z))
      ((blk5 m c t 2 j (by decide)).trans (congrArg _ z)))

/-- The first result array. -/
theorem final6 : (dats m 0 c).arrAt 6 cfg0.N = fun i => du m c (i 1).val (5632 * (i 0).val + (i 2).val) := by
  refine (dats m 0 c).arrAt_eq_of_covers 6 _ (by decide +kernel) fun t hf y => ?_
  blk_simp
  rw [after0_6]
  have h0 : (y 0).val < 2 := (y 0).isLt
  have h1 : (y 1).val < 1024 := (y 1).isLt
  have h2 : (y 2).val < 512 := (y 2).isLt
  have e0 : win0_6.index t 0 = 0 := by rw [idx6]; rfl
  have e1 : win0_6.index t 1 = 7 - t.val % 8 := by rw [idx6]; rfl
  have e2 : win0_6.index t 2 = t.val / 8 := by rw [idx6]; rfl
  have g0 : win0_6.index t 0 * 2 + (y 0).val = (y 0).val := by rw [e0]; omega
  have g1 : win0_6.index t 1 * 1024 + (y 1).val = 1024 * (7 - t.val % 8) + (y 1).val := by rw [e1]; omega
  have g2 : win0_6.index t 2 * 512 + (y 2).val = 512 * (t.val / 8) + (y 2).val := by rw [e2]; omega
  show _ = du m c (win0_6.index t 1 * 1024 + (y 1).val) (5632 * (win0_6.index t 0 * 2 + (y 0).val) + (win0_6.index t 2 * 512 + (y 2).val))
  rw [g0, g1, g2]
  have ey : y = ix3 ⟨(y 0).val, h0⟩ ⟨(y 1).val, h1⟩ ⟨(y 2).val, h2⟩ := by funext a; fin_cases a <;> rfl
  exact (congrArg _ ey).trans (left_eq ..)

/-- What a block of rows gives an entry of the coefficients' gradient. -/
def part (q j b : ℕ) : EReal := if q < 3 then ∑ p : Fin 1024, next (fun r => dy m c r j) (2 - q) (1024 * b + p) * up m c (1024 * b + p) j else 0

theorem more_eq (t : Fin cfg0.N) (e : Fin 2) (q : Fin 8) (j : Fin 512) :
    (if q.val < 3 then more m c t e q j else 0) = part m c q (5632 * e + (512 * (t.val / 8) + j)) (7 - t.val % 8) := by
  have hr : ∀ r : Fin 1024, col (row m c t e) j r = up m c (1024 * (7 - t.val % 8) + r) (5632 * e + (512 * (t.val / 8) + j)) := fun r => row_eq ..
  unfold part
  by_cases h0 : q.val = 0
  · obtain rfl : q = 0 := Fin.ext h0
    refine (more0 m c t e j).trans (Eq.trans ?_ (if_pos (by decide)).symm)
    exact Finset.sum_congr rfl fun r _ => congrArg₂ (· * ·) (below_col ..) (hr r)
  by_cases h1 : q.val = 1
  · obtain rfl : q = 1 := Fin.ext h1
    refine (more1 m c t e j).trans (Eq.trans ?_ (if_pos (by decide)).symm)
    exact Finset.sum_congr rfl fun r _ => congrArg₂ (· * ·) (below_col ..) (hr r)
  by_cases h2 : q.val = 2
  · obtain rfl : q = 2 := Fin.ext h2
    refine (more2 m c t e j).trans (Eq.trans ?_ (if_pos (by decide)).symm)
    refine Finset.sum_congr rfl fun r _ => congrArg₂ (· * ·) ((cot_eq ..).trans ?_) (hr r)
    exact (if_pos (show 1024 * (7 - t.val % 8) + r.val + (2 - 2) < 8192 by omega)).symm
  · rw [if_neg (by omega), if_neg (by omega)]

/-- The sums at the last row block, and after. -/
theorem sums_first (t : Fin cfg0.N) (h0 : t.val % 8 = 0) (e : Fin 2) (q : Fin 8) (j : Fin 512) : (outsAt0 m c t.val t.isLt).2.1 (ix3 e q j)
    = part m c q (5632 * e + (512 * (t.val / 8) + j)) (7 - t.val % 8) := by
  have z : sums m c t (ix3 e q j) = 0 := by unfold sums; exact if_pos h0
  rw [left7, more_eq, z, zero_add]
@[inherit_doc sums_first] theorem sums_next (t : Fin cfg0.N) (h0 : t.val % 8 ≠ 0) (e : Fin 2) (q : Fin 8) (j : Fin 512) : (outsAt0 m c t.val t.isLt).2.1 (ix3 e q j)
    = (before m c t).2.1 (ix3 e q j) + part m c q (5632 * e + (512 * (t.val / 8) + j)) (7 - t.val % 8) := by
  have z : sums m c t (ix3 e q j) = (before m c t).2.1 (ix3 e q j) := by unfold sums; exact if_neg h0
  rw [left7, more_eq, z]

/-- The sums after each point: over the blocks of rows met so far, from the last. -/
theorem sums_eq (n : ℕ) (h : n < cfg0.N) (e : Fin 2) (q : Fin 8) (j : Fin 512) : (outsAt0 m c n h).2.1 (ix3 e q j)
    = ∑ i ∈ Finset.range (n % 8 + 1), part m c q (5632 * e + (512 * (n / 8) + j)) (7 - i) := by
  induction n with
  | zero => exact (sums_first m c ⟨0, h⟩ rfl e q j).trans (Finset.sum_range_one fun i => part m c q (5632 * e + (512 * (0 / 8) + j)) (7 - i)).symm
  | succ n ih =>
    by_cases h0 : (n + 1) % 8 = 0
    · refine (sums_first m c ⟨n + 1, h⟩ h0 e q j).trans ?_
      show part m c q (5632 * e + (512 * ((n + 1) / 8) + j)) (7 - (n + 1) % 8) = _
      rw [h0]
      exact (Finset.sum_range_one fun i => part m c q (5632 * e + (512 * ((n + 1) / 8) + j)) (7 - i)).symm
    · have d1 : (n + 1) % 8 = n % 8 + 1 := by omega
      have d2 : (n + 1) / 8 = n / 8 := by omega
      have b : (before m c ⟨n + 1, h⟩).2.1 (ix3 e q j) = ∑ i ∈ Finset.range (n % 8 + 1), part m c q (5632 * e + (512 * (n / 8) + j)) (7 - i) := ih (by omega)
      refine (sums_next m c ⟨n + 1, h⟩ h0 e q j).trans ?_
      rw [b]
      show _ + part m c q (5632 * e + (512 * ((n + 1) / 8) + j)) (7 - (n + 1) % 8) = _
      rw [d1, d2, Finset.sum_range_succ _ (n % 8 + 1)]

theorem blocks (g : ℕ → EReal) : ∑ i ∈ Finset.range 8, ∑ p : Fin 1024, g (1024 * (7 - i) + p) = ∑ r : Fin 8192, g r := by
  refine (Finset.sum_range_reflect (fun i => ∑ p : Fin 1024, g (1024 * i + p)) 8).trans ?_
  rw [Finset.sum_range]
  refine Eq.trans ?_ (Equiv.sum_comp (finProdFinEquiv (m := 8) (n := 1024)) fun r : Fin 8192 => g r)
  rw [Fintype.sum_prod_type]
  refine Finset.sum_congr rfl fun i _ => Finset.sum_congr rfl fun p _ => congrArg g ?_
  simp [finProdFinEquiv]; omega

theorem parts (q j : ℕ) : ∑ i ∈ Finset.range 8, part m c q j (7 - i) = dw m c q j := by
  unfold part dw
  by_cases h : q < 3
  · simp only [if_pos h]
    exact blocks fun r => next (fun r => dy m c r j) (2 - q) r * up m c r j
  · simp only [if_neg h, Finset.sum_const_zero]

/-- The second result array. -/
theorem final7 : (dats m 0 c).arrAt 7 cfg0.N = fun i => dw m c (i 1).val (5632 * (i 0).val + (i 2).val) := by
  refine (dats m 0 c).arrAt_eq_of_covers 7 _ (by decide +kernel) fun t hf y => ?_
  blk_simp
  have hm : t.val % 8 = 7 := (flush0_7 t).mp hf
  rw [after0_7]
  have h0 : (y 0).val < 2 := (y 0).isLt
  have h1 : (y 1).val < 8 := (y 1).isLt
  have h2 : (y 2).val < 512 := (y 2).isLt
  have e0 : win0_7.index t 0 = 0 := by rw [idx7]; rfl
  have e1 : win0_7.index t 1 = 0 := by rw [idx7]; rfl
  have e2 : win0_7.index t 2 = t.val / 8 := by rw [idx7]; rfl
  have g0 : win0_7.index t 0 * 2 + (y 0).val = (y 0).val := by rw [e0]; omega
  have g1 : win0_7.index t 1 * 8 + (y 1).val = (y 1).val := by rw [e1]; omega
  have g2 : win0_7.index t 2 * 512 + (y 2).val = 512 * (t.val / 8) + (y 2).val := by rw [e2]; omega
  show _ = dw m c (win0_7.index t 1 * 8 + (y 1).val) (5632 * (win0_7.index t 0 * 2 + (y 0).val) + (win0_7.index t 2 * 512 + (y 2).val))
  rw [g0, g1, g2]
  have ey : y = ix3 ⟨(y 0).val, h0⟩ ⟨(y 1).val, h1⟩ ⟨(y 2).val, h2⟩ := by funext a; fin_cases a <;> rfl
  refine (congrArg _ ey).trans ((sums_eq m c t.val t.isLt ..).trans ?_)
  rw [hm]
  exact parts ..

end Cert.MidIdeal.Call

end
-- ==== Proof.MidRef.lean ====
/-
  The reference of the call that takes the gated activations' cotangents back through the gate and the filter, read entry
  by entry over the extended reals.
-/
module

public import proofs.«01_k».proof.Proof.Gen.MidRefIdeal.Read
public import proofs.«01_k».proof.Proof.MidArrays

@[expose] public section

set_option maxRecDepth 16384

noncomputable section

namespace Cert.MidRefIdeal.Entries

open Cert.MidRefIdeal Cert.MidRefIdeal.Read Idealize.ShloMosaic Idealize.ShloMosaic.TcCoe
open Cert.MidIdeal.Call (ups coefs up f up_at f_at past next conv ct sg)

variable (m : (ℓ : Loc Cert.MidIdeal.nD Cert.MidIdeal.τ Cert.MidIdeal.sig) → Buf (Elt Ideal) ℓ) (c : Dev Cert.MidIdeal.nD)

/-- The other two arguments, as tensors. -/
abbrev cots : S8192x2048.Idx → EReal := m ((c.tc : Thread Cert.MidIdeal.nD Cert.MidIdeal.τ).loc Cert.MidIdeal.main_arg0)
@[inherit_doc cots] abbrev wts : S5632x2048.Idx → EReal := m ((c.tc : Thread Cert.MidIdeal.nD Cert.MidIdeal.τ).loc Cert.MidIdeal.main_arg1)

/-- The rows the filter is given, the two halves side by side. -/
theorem v6 (r : Fin 8192) (j : Fin 11264) : val_main_v6 (F := Ideal) (ups m c) (ix3 0 r j) = up m c r j := by
  pointwise [val_main_v6, val_main_v5, val_main_v4, val_main_v3, val_main_v2, val_main_v1, val_main_v0]
  split
  · rename_i h
    exact (up_at m c 0 r.val r.isLt ⟨j.val, h⟩).symm.trans (congrArg _ (by show 5632 * 0 + j.val = j.val; omega))
  · rename_i h
    exact (up_at m c 1 r.val r.isLt ⟨j.val - 5632, by omega⟩).symm.trans (congrArg _ (by show 5632 * 1 + (j.val - 5632) = j.val; omega))

/-- The same after two rows of zeros. -/
theorem v8 (i : Fin 8194) (j : Fin 11264) : val_main_v8 (F := Ideal) (ups m c) (ix3 0 i j) = past (fun r => up m c r j) 2 i := by
  have e : val_main_v8 (F := Ideal) (ups m c) (ix3 0 i j)
      = if h : i.val < 2 then 0 else val_main_v6 (F := Ideal) (ups m c) (ix3 0 ⟨i.val - 2, by omega⟩ j) := by
    pointwise [val_main_v8, val_main_v7, val_main_cst]
  rw [e]
  unfold past
  by_cases h : i.val < 2
  · rw [dif_pos h, if_pos h]
  · rw [dif_neg h, if_neg h, v6]

theorem v12 (r : Fin 8192) (j : Fin 11264) : val_main_v12 (F := Ideal) (ups m c) (ix3 0 r j) = past (fun r => up m c r j) 2 r := by
  pointwise [val_main_v12]
  rw [v8]
theorem v20 (r : Fin 8192) (j : Fin 11264) : val_main_v20 (F := Ideal) (ups m c) (ix3 0 r j) = past (fun r => up m c r j) 1 r := by
  pointwise [val_main_v20]
  rw [v8]
  unfold past
  by_cases h : r.val < 1
  · rw [if_pos h, if_pos (by show 1 + r.val < 2; omega)]
  · rw [if_neg h, if_neg (by show ¬ 1 + r.val < 2; omega)]
    exact congrArg (fun r => up m c r j) (by show 1 + r.val - 2 = r.val - 1; omega)
theorem v27 (r : Fin 8192) (j : Fin 11264) : val_main_v27 (F := Ideal) (ups m c) (ix3 0 r j) = up m c r j := by
  pointwise [val_main_v27]
  rw [v8]
  unfold past
  rw [if_neg (by show ¬ 2 + r.val < 2; omega)]
  exact congrArg (fun r => up m c r j) (by show 2 + r.val - 2 = r.val; omega)

/-- The filter's result. -/
theorem v31 (r : Fin 8192) (j : Fin 11264) : val_main_v31 (F := Ideal) (ups m c) (coefs m c) (ix3 0 r j) = conv m c r j := by
  pointwise [val_main_v31, val_main_v30, val_main_v29, val_main_v28, val_main_v26, val_main_v25, val_main_v24, val_main_v23, val_main_v22, val_main_v21, val_main_v19, val_main_v18, val_main_v17, val_main_v16, val_main_v15, val_main_v14, val_main_v13, val_main_v11, val_main_v10, val_main_cst_1]
  rw [v12, v20, v27]
  unfold conv
  rw [f_at, f_at, f_at]

theorem v32 (r : Fin 8192) (j : Fin 5632) : val_main_v32 (F := Ideal) (ups m c) (coefs m c) (ix3 0 r j) = conv m c r j := by
  pointwise [val_main_v32]
  rw [v31]
theorem v33 (r : Fin 8192) (j : Fin 5632) : val_main_v33 (F := Ideal) (ups m c) (coefs m c) (ix3 0 r j) = conv m c r (5632 + j) := by
  pointwise [val_main_v33]
  rw [v31]

theorem v34_2 (r : Fin 8192) (j : Fin 5632) : val_main_v34_2 (F := Ideal) (ups m c) (coefs m c) (ix3 0 r j) = sg (conv m c r j) := by
  pointwise [val_main_v34_2, val_main_call0_v4, val_main_call0_cst_0, val_main_call0_v3, val_main_call0_v2, val_main_call0_cst, val_main_call0_v1, val_main_call0_v0]
  rw [v32]
  rfl
theorem v34_1 (r : Fin 8192) (j : Fin 5632) : val_main_v34_1 (F := Ideal) (ups m c) (coefs m c) (ix3 0 r j) = sg (conv m c r j) * (1 - sg (conv m c r j)) := by
  pointwise [val_main_v34_1, val_main_call0_v7, val_main_call0_v6, val_main_call0_cst_1]
  rw [v34_2]
theorem v34_0 (r : Fin 8192) (j : Fin 5632) : val_main_v34_0 (F := Ideal) (ups m c) (coefs m c) (ix3 0 r j) = conv m c r j * sg (conv m c r j) := by
  pointwise [val_main_v34_0]
  rw [v34_2, v32]

/-- The cotangents of the gate's result. -/
theorem v40 (r : Fin 8192) (j : Fin 5632) : val_main_v40 (F := Ideal) (cots m c) (wts m c) (ix3 0 r j) = ct m c r j := by
  pointwise [val_main_v40, val_main_v39, val_main_v38, val_main_v36]
  unfold ct
  refine Finset.sum_congr rfl fun k _ => ?_
  unfold Cert.MidIdeal.Call.dz Cert.MidIdeal.Call.wd
  rw [dif_pos r.isLt, dif_pos j.isLt]

theorem v41 (r : Fin 8192) (j : Fin 5632) : val_main_v41 (F := Ideal) (cots m c) (wts m c) (ups m c) (coefs m c) (ix3 0 r j)
    = conv m c r j * sg (conv m c r j) * ct m c r j := by
  pointwise [val_main_v41]
  rw [v34_0, v40]
theorem v42 (r : Fin 8192) (j : Fin 5632) : val_main_v42 (F := Ideal) (cots m c) (wts m c) (ups m c) (coefs m c) (ix3 0 r j)
    = ct m c r j * conv m c r (5632 + j) := by
  pointwise [val_main_v42]
  rw [v33, v40]
theorem v43 (r : Fin 8192) (j : Fin 5632) : val_main_v43 (F := Ideal) (cots m c) (wts m c) (ups m c) (coefs m c) (ix3 0 r j)
    = ct m c r j * conv m c r (5632 + j) * sg (conv m c r j)
      + conv m c r j * (ct m c r j * conv m c r (5632 + j)) * (sg (conv m c r j) * (1 - sg (conv m c r j))) := by
  pointwise [val_main_v43, val_main_call1_v2, val_main_call1_v1, val_main_call1_v0]
  rw [v42, v34_2, v34_1, v32]

/-- The cotangents of the filter's result, as the reference computes them. -/
def dyr (r : Fin 8192) (j : Fin 11264) : EReal := val_main_v44 (F := Ideal) (cots m c) (wts m c) (ups m c) (coefs m c) (ix3 0 r j)

theorem v44 (r : Fin 8192) (j : Fin 11264) : val_main_v44 (F := Ideal) (cots m c) (wts m c) (ups m c) (coefs m c) (ix3 0 r j)
    = if j.val < 5632 then
        ct m c r j * conv m c r (5632 + j) * sg (conv m c r j) + conv m c r j * (ct m c r j * conv m c r (5632 + j)) * (sg (conv m c r j) * (1 - sg (conv m c r j)))
      else conv m c r (j - 5632) * sg (conv m c r (j - 5632)) * ct m c r (j - 5632) := by
  pointwise [val_main_v44]
  by_cases h : j.val < 5632
  · rw [dif_pos h, if_pos h, v43]
  · rw [dif_neg h, if_neg h, v41]

/-- The three filtered shifts, added. -/
theorem v72 (i : Fin 8194) (j : Fin 11264) : val_main_v72 (F := Ideal) (cots m c) (wts m c) (ups m c) (coefs m c) (ix3 0 i j)
    = (if h : 2 ≤ i.val ∧ i.val - 2 < 8192 then f m c 2 j * dyr m c ⟨i.val - 2, h.2⟩ j else 0)
      + (if h : 1 ≤ i.val ∧ i.val - 1 < 8192 then f m c 1 j * dyr m c ⟨i.val - 1, h.2⟩ j else 0)
      + (if h : i.val < 8192 then f m c 0 j * dyr m c ⟨i.val, h⟩ j else 0) := by
  rw [f_at, f_at, f_at]
  unfold dyr
  pointwise [val_main_v72, val_main_v61, val_main_v71, val_main_cst_12, val_main_v66, val_main_v65, val_main_v60, val_main_cst_8, val_main_v55, val_main_v54, val_main_v51, val_main_cst_4, val_main_v46, val_main_v45, val_main_v28, val_main_v26, val_main_v25, val_main_v21, val_main_v19, val_main_v18, val_main_v13, val_main_v11, val_main_v10]

/-- The cotangents of the rows the filter was given, by halves. -/
theorem v84 (e : Fin 2) (r : Fin 8192) (j : Fin 5632) : val_main_v84 (F := Ideal) (cots m c) (wts m c) (ups m c) (coefs m c) (ix3 e r j)
    = val_main_v72 (F := Ideal) (cots m c) (wts m c) (ups m c) (coefs m c) (ix3 0 ⟨2 + r, by omega⟩ ⟨5632 * e + j, by omega⟩) := by
  pointwise [val_main_v84, val_main_v83, val_main_v82, val_main_v81, val_main_v80, val_main_v79, val_main_v78, val_main_v77]
  split
  · exact congrArg (fun z => val_main_v72 (F := Ideal) (cots m c) (wts m c) (ups m c) (coefs m c) (ix3 0 ⟨2 + r, by omega⟩ z)) (Fin.ext (by show j.val = 5632 * e.val + j.val; omega))
  · exact congrArg (fun z => val_main_v72 (F := Ideal) (cots m c) (wts m c) (ups m c) (coefs m c) (ix3 0 ⟨2 + r, by omega⟩ z)) (Fin.ext (by show 5632 + j.val = 5632 * e.val + j.val; omega))

/-- A sum over the two axes of size one is the one entry. -/
theorem lone01 (h : S1x1x11264.ReducesTo [0, 1] S11264) (v : S1x1x11264.Idx → EReal) (e : EReal) (l : Fin 11264) :
    Ideal.hostReduceAdd h v e (ix1 l) = e + v (ix3 0 0 l) := by
  refine congrArg (e + ·) (Eq.trans ?_ (Finset.sum_singleton v (ix3 0 0 l)))
  refine Finset.sum_congr (Finset.ext fun i => ?_) fun _ _ => rfl
  rw [Finset.mem_filter, Finset.mem_singleton]
  constructor
  · rintro ⟨-, hi⟩
    have e2 : (h.drop i 0 : ℕ) = i 2 := h.drop_apply_val_of_eq i 0 2
    rw [hi] at e2
    funext a
    match a with
    | ⟨0, _⟩ => exact Subsingleton.elim (α := Fin 1) _ _
    | ⟨1, _⟩ => exact Subsingleton.elim (α := Fin 1) _ _
    | ⟨2, _⟩ => exact Fin.ext e2.symm
  · rintro rfl
    refine ⟨Finset.mem_univ _, funext fun b => ?_⟩
    match b with
    | ⟨0, _⟩ => exact Fin.ext (h.drop_apply_val_of_eq _ 0 2)

/-- The gradients of the three rows of coefficients. -/
theorem v50 (j : Fin 11264) : val_main_v50 (F := Ideal) (cots m c) (wts m c) (ups m c) (coefs m c) (ix1 j) = ∑ r : Fin 8192, dyr m c r j * up m c r j := by
  pointwise [val_main_v50, val_main_cst_3]
  rw [lone01]
  pointwise [val_main_v49, val_main_v48, val_main_v47, val_main_cst_2]
  simp only [v27]
  rfl
@[inherit_doc v50] theorem v59 (j : Fin 11264) : val_main_v59 (F := Ideal) (cots m c) (wts m c) (ups m c) (coefs m c) (ix1 j)
    = ∑ r : Fin 8192, dyr m c r j * past (fun r => up m c r j) 1 r := by
  pointwise [val_main_v59, val_main_cst_7]
  rw [lone01]
  pointwise [val_main_v58, val_main_v57, val_main_v56, val_main_cst_6]
  simp only [v20]
  rfl
@[inherit_doc v50] theorem v70 (j : Fin 11264) : val_main_v70 (F := Ideal) (cots m c) (wts m c) (ups m c) (coefs m c) (ix1 j)
    = ∑ r : Fin 8192, dyr m c r j * past (fun r => up m c r j) 2 r := by
  pointwise [val_main_v70, val_main_cst_11]
  rw [lone01]
  pointwise [val_main_v69, val_main_v68, val_main_v67, val_main_cst_10]
  simp only [v12]
  rfl

/-- The same, one over another. -/
theorem v75 (q : Fin 3) (j : Fin 11264) : val_main_v75 (F := Ideal) (cots m c) (wts m c) (ups m c) (coefs m c) (ix2 q j)
    = ∑ r : Fin 8192, dyr m c r j * past (fun r => up m c r j) (2 - q.val) r := by
  pointwise [val_main_v75, val_main_v74, val_main_v73, val_main_v64, val_main_v63, val_main_v62, val_main_v53, val_main_v52, val_main_cst_5, val_main_cst_9, val_main_cst_13]
  have hq := q.isLt
  by_cases h0 : q.val = 0
  · rw [dif_neg (by omega), dif_neg (by omega), dif_pos (by omega), zero_add, zero_add, v70, h0]
  by_cases h1 : q.val = 1
  · rw [dif_neg (by omega), dif_pos (by omega), dif_neg (by omega), zero_add, add_zero, v59, h1]
  · have h2 : q.val = 2 := by omega
    rw [dif_pos (by omega), dif_neg (by omega), dif_neg (by omega), add_zero, add_zero, v50, h2]
    refine Finset.sum_congr rfl fun r _ => congrArg _ ?_
    exact (if_neg (by omega)).symm

/-- The second result. -/
theorem v91 (e : Fin 2) (q : Fin 8) (j : Fin 5632) : val_main_v91 (F := Ideal) (cots m c) (wts m c) (ups m c) (coefs m c) (ix3 e q j)
    = if q.val < 3 then ∑ r : Fin 8192, dyr m c r ⟨5632 * e + j, by omega⟩ * past (fun r => up m c r (5632 * e + j)) (2 - q.val) r else 0 := by
  pointwise [val_main_v91, val_main_v90, val_main_v89, val_main_v88, val_main_v87, val_main_v86, val_main_v85, val_main_cst_14]
  by_cases h : q.val < 3
  · rw [dif_pos h, if_pos h]
    split
    · have ej : (⟨j.val, by omega⟩ : Fin 11264) = ⟨5632 * e.val + j.val, by omega⟩ := Fin.ext (by show j.val = 5632 * e.val + j.val; omega)
      rw [ej, v75]
    · have ej : (⟨5632 + j.val, by omega⟩ : Fin 11264) = ⟨5632 * e.val + j.val, by omega⟩ := Fin.ext (by show 5632 + j.val = 5632 * e.val + j.val; omega)
      rw [ej, v75]
  · rw [dif_neg h, if_neg h]

end Cert.MidRefIdeal.Entries

end
-- ==== Proof.Gate.lean ====
/-
  The call that takes the gated activations' cotangents back through the gate and the filter gives what its reference
  gives, where the arguments' entries are real numbers.
-/
module

public import proofs.«01_k».proof.Defs
public import proofs.«01_k».proof.Proof.Gen.Pre_finite_mid
public import proofs.«01_k».proof.Proof.Gen.MidRefIdeal.Run
public import proofs.«01_k».proof.Proof.MidRef
public import proofs.«01_k».proof.Proof.NormReal
public import proofs.«01_k».proof.Proof.Forward

@[expose] public section

set_option maxRecDepth 16384

noncomputable section

namespace Cert.Pre_finite_mid

open Idealize.ShloMosaic
open Facts
open Cert.Pre_finite_ln (real)

variable (d : FVec Ideal S8192x2048 .bf16) (w : FVec Ideal S5632x2048 .bf16) (u : FVec Ideal S2x8192x5632 .bf16)
  (f : FVec Ideal S3x11264 .f32)

/-- Every entry of the cotangents is real, and so on for the other arrays. -/
theorem real_d (h : (fn (F := Ideal) d w u f).1 = fun _ => 1#1) (r : Fin 8192) (k : Fin 2048) : ∃ y : ℝ, d (ix2 r k) = (y : EReal) := by
  have e := congrFun h (ix2 r k)
  unfold fn fn_part1 at e
  dsimp only at e
  pointwise [Attn.lit_bot, Attn.lit_top] at e
  exact real (Pre_finite.both e)

@[inherit_doc real_d] theorem real_w (h : (fn (F := Ideal) d w u f).2.1 = fun _ => 1#1) (j : Fin 5632) (k : Fin 2048) :
    ∃ y : ℝ, w (ix2 j k) = (y : EReal) := by
  have e := congrFun h (ix2 j k)
  unfold fn fn_part1 at e
  dsimp only at e
  pointwise [Attn.lit_bot, Attn.lit_top] at e
  exact real (Pre_finite.both e)

@[inherit_doc real_d] theorem real_u (h : (fn (F := Ideal) d w u f).2.2.1 = fun _ => 1#1) (p : Fin 2) (r : Fin 8192) (j : Fin 5632) :
    ∃ y : ℝ, u (ix3 p r j) = (y : EReal) := by
  have e := congrFun h (ix3 p r j)
  unfold fn fn_part1 at e
  dsimp only at e
  pointwise [Attn.lit_bot, Attn.lit_top] at e
  exact real (Pre_finite.both e)

@[inherit_doc real_d] theorem real_f (h : (fn (F := Ideal) d w u f).2.2.2 = fun _ => 1#1) (p : Fin 3) (j : Fin 11264) :
    ∃ y : ℝ, f (ix2 p j) = (y : EReal) := by
  have e := congrFun h (ix2 p j)
  unfold fn fn_part1 at e
  dsimp only at e
  pointwise [Attn.lit_bot, Attn.lit_top] at e
  exact real (Pre_finite.both e)

end Cert.Pre_finite_mid

namespace Cert.Gate

open Idealize.ShloMosaic Idealize.ShloMosaic.TcCoe
open Cert.MidIdeal.Call (ups coefs up f past next conv ct dz wd sg back0 back1 dy du dw)
open Cert.MidRefIdeal.Entries (cots wts dyr)

/-- The logistic function of a real number is one. -/
theorem sg_real (a : ℝ) : ∃ s : ℝ, sg (a : EReal) = (s : EReal) := by
  have h : (1 + Real.exp (-a)) ≠ 0 := (add_pos one_pos (Real.exp_pos _)).ne'
  refine ⟨1 / (1 + Real.exp (-a)), ?_⟩
  unfold sg
  rw [← EReal.coe_neg, Ideal.exp_coe, ← EReal.coe_one, ← EReal.coe_add, Ideal.div_coe h, EReal.coe_one, one_mul]

/-- The gate's derivative: the two terms are the one product. -/
theorem gate (a g d : EReal) (ha : ∃ x : ℝ, a = x) (hg : ∃ x : ℝ, g = x) (hd : ∃ x : ℝ, d = x) :
    d * g * sg a + a * (d * g) * (sg a * (1 - sg a)) = back0 a g d := by
  obtain ⟨A, rfl⟩ := ha
  obtain ⟨G, rfl⟩ := hg
  obtain ⟨D, rfl⟩ := hd
  obtain ⟨S, hS⟩ := sg_real A
  unfold back0
  rw [hS, ← EReal.coe_one]
  simp only [← EReal.coe_mul, ← EReal.coe_sub, ← EReal.coe_add]
  exact congrArg _ (by ring)

/-- A column against an earlier one is the later one against it. -/
theorem shift (D U : ℕ → EReal) (d : ℕ) (hd : d ≤ 8192) :
    ∑ r : Fin 8192, D r * past U d r = ∑ r : Fin 8192, next D d r * U r := by
  obtain ⟨n, hn⟩ : ∃ n, 8192 = d + n := ⟨8192 - d, by omega⟩
  rw [← Finset.sum_range fun r => D r * past U d r, ← Finset.sum_range fun r => next D d r * U r]
  have l : ∑ r ∈ Finset.range 8192, D r * past U d r = ∑ r ∈ Finset.range n, D (d + r) * U r := by
    rw [hn, Finset.sum_range_add]
    refine (congrArg₂ (· + ·) (Finset.sum_eq_zero fun r hr => ?_) (Finset.sum_congr rfl fun r _ => ?_)).trans (zero_add _)
    · unfold past
      rw [if_pos (Finset.mem_range.mp hr), mul_zero]
    · unfold past
      rw [if_neg (by omega), Nat.add_sub_cancel_left]
  have r : ∑ r ∈ Finset.range 8192, next D d r * U r = ∑ r ∈ Finset.range n, D (d + r) * U r := by
    rw [hn, Nat.add_comm d n, Finset.sum_range_add]
    refine (congrArg₂ (· + ·) (Finset.sum_congr rfl fun r hr => ?_) (Finset.sum_eq_zero fun r hr => ?_)).trans (add_zero _)
    · have := Finset.mem_range.mp hr
      unfold next
      rw [if_pos (by omega), Nat.add_comm r d]
    · unfold next
      rw [if_neg (by omega), zero_mul]
  rw [l, r]

section Same

variable (m : (ℓ : Loc Cert.MidIdeal.nD Cert.MidIdeal.τ Cert.MidIdeal.sig) → Buf (Elt Ideal) ℓ) (c : Dev Cert.MidIdeal.nD)

theorem real_up (h : Cert.Pre_MidIdeal_finite_mid m) (r j : ℕ) : ∃ y : ℝ, up m c r j = y := by
  unfold up
  split
  · exact Pre_finite_mid.real_u _ _ _ _ (h c).2.2.1 _ _ _
  · exact ⟨0, rfl⟩
theorem real_coef (h : Cert.Pre_MidIdeal_finite_mid m) (d : Fin 3) (j : ℕ) : ∃ y : ℝ, f m c d j = y := by
  unfold f
  split
  · exact Pre_finite_mid.real_f _ _ _ _ (h c).2.2.2 _ _
  · exact ⟨0, rfl⟩
theorem real_past (h : Cert.Pre_MidIdeal_finite_mid m) (d r j : ℕ) : ∃ y : ℝ, past (fun r => up m c r j) d r = y := by
  unfold past
  split
  · exact ⟨0, rfl⟩
  · exact real_up m c h _ _

/-- The filter's result and the gate's cotangents are real. -/
theorem real_conv (h : Cert.Pre_MidIdeal_finite_mid m) (r j : ℕ) : ∃ y : ℝ, conv m c r j = y := by
  obtain ⟨f0, h0⟩ := real_coef m c h 0 j
  obtain ⟨f1, h1⟩ := real_coef m c h 1 j
  obtain ⟨f2, h2⟩ := real_coef m c h 2 j
  obtain ⟨u0, g0⟩ := real_past m c h 2 r j
  obtain ⟨u1, g1⟩ := real_past m c h 1 r j
  obtain ⟨u2, g2⟩ := real_up m c h r j
  unfold conv
  rw [h0, h1, h2, g0, g1, g2]
  simp only [← EReal.coe_mul, ← EReal.coe_add]
  exact ⟨_, rfl⟩
theorem real_ct (h : Cert.Pre_MidIdeal_finite_mid m) (r : Fin 8192) (j : ℕ) (hj : j < 5632) : ∃ y : ℝ, ct m c r j = y := by
  choose p hp using fun k => Pre_finite_mid.real_d _ _ _ _ (h c).1 r k
  choose q hq using fun k => Pre_finite_mid.real_w _ _ _ _ (h c).2.1 ⟨j, hj⟩ k
  unfold ct dz wd
  simp only [dif_pos r.isLt, dif_pos hj, Fin.eta, hp, hq, ← EReal.coe_mul, Attn.coe_sum]
  exact ⟨_, rfl⟩

/-- The cotangents of the filter's result. -/
theorem dyr_eq (h : Cert.Pre_MidIdeal_finite_mid m) (r : Fin 8192) (j : Fin 11264) : dyr m c r j = dy m c r j := by
  refine (MidRefIdeal.Entries.v44 m c r j).trans ?_
  unfold dy
  by_cases hj : j.val < 5632
  · rw [if_pos hj, if_pos hj]
    exact gate _ _ _ (real_conv m c h _ _) (real_conv m c h _ _) (real_ct m c h r j hj)
  · rw [if_neg hj, if_neg hj]
    exact mul_comm _ _

/-- The cotangents of the rows the filter was given. -/
theorem du_eq (h : Cert.Pre_MidIdeal_finite_mid m) (e : Fin 2) (r : Fin 8192) (j : Fin 5632) :
    MidRefIdeal.Read.val_main_v84 (F := Ideal) (cots m c) (wts m c) (ups m c) (coefs m c) (ix3 e r j) = du m c r (5632 * e + j) := by
  refine (MidRefIdeal.Entries.v84 ..).trans ((MidRefIdeal.Entries.v72 ..).trans ?_)
  unfold du
  refine congrArg₂ (· + ·) (congrArg₂ (· + ·) ?_ ?_) ?_
  · rw [dif_pos (by show 2 ≤ 2 + r.val ∧ 2 + r.val - 2 < 8192; omega), dyr_eq m c h]
    exact congrArg (fun k => f m c 2 (5632 * e + j) * dy m c k (5632 * e + j)) (show 2 + r.val - 2 = r.val by omega)
  · unfold next
    by_cases h1 : r.val + 1 < 8192
    · rw [dif_pos (by show 1 ≤ 2 + r.val ∧ 2 + r.val - 1 < 8192; omega), if_pos h1, dyr_eq m c h]
      exact congrArg (fun k => f m c 1 (5632 * e + j) * dy m c k (5632 * e + j)) (show 2 + r.val - 1 = r.val + 1 by omega)
    · rw [dif_neg (by show ¬ (1 ≤ 2 + r.val ∧ 2 + r.val - 1 < 8192); omega), if_neg h1, mul_zero]
  · unfold next
    by_cases h1 : r.val + 2 < 8192
    · rw [dif_pos (by show 2 + r.val < 8192; omega), if_pos h1, dyr_eq m c h]
      exact congrArg (fun k => f m c 0 (5632 * e + j) * dy m c k (5632 * e + j)) (show 2 + r.val = r.val + 2 by omega)
    · rw [dif_neg (by show ¬ 2 + r.val < 8192; omega), if_neg h1, mul_zero]

/-- The gradient of the filter's coefficients. -/
theorem dw_eq (h : Cert.Pre_MidIdeal_finite_mid m) (e : Fin 2) (q : Fin 8) (j : Fin 5632) :
    MidRefIdeal.Read.val_main_v91 (F := Ideal) (cots m c) (wts m c) (ups m c) (coefs m c) (ix3 e q j) = dw m c q (5632 * e + j) := by
  refine (MidRefIdeal.Entries.v91 ..).trans ?_
  unfold dw
  refine if_congr Iff.rfl ?_ rfl
  refine Eq.trans ?_ (shift (fun r => dy m c r (5632 * e + j)) (fun r => up m c r (5632 * e + j)) (2 - q.val) (by omega))
  exact Finset.sum_congr rfl fun r _ => congrArg (· * _) (dyr_eq m c h r ⟨5632 * e + j, by omega⟩)

end Same

/-- The reference ends, and nothing of its semaphores is left. -/
theorem mid_ref_frame : Cert.quiescent_MidRefIdeal := fun m g _ =>
  (θ_run Cert.MidRefIdeal.defs _ _).mono (fun r h => ⟨fun c => (h c).2.2, sem_eq_zero_of_no_sems (by decide) r.2⟩) (Cert.MidRefIdeal.Value.run m g)

/-- The two arrays of the call are the reference's. -/
theorem mid_values : Cert.algebraic_MidIdeal_MidRefIdeal_pre_finite_mid := by
  intro m g m' g' hpre hagree
  refine ⟨fun c => (Cert.MidIdeal.Gen.dats m 0 c).arrAt 6 Cert.MidIdeal.cfg0.N, fun c => (Cert.MidIdeal.Gen.dats m 0 c).arrAt 7 Cert.MidIdeal.cfg0.N,
    Cert.MidIdeal.Value.run_blocks m g, ?_⟩
  refine (θ_run Cert.MidRefIdeal.defs _ _).mono (fun r h c => ⟨(h c).1.trans ?_, (h c).2.1.trans ?_, (h c).2.2⟩) (Cert.MidRefIdeal.Value.run m' g')
  · refine (Cert.MidRefIdeal.Read.val_main_v84_eq (F := Ideal) _).trans ?_
    refine Eq.trans ?_ (Cert.MidIdeal.Call.final6 m c).symm
    refine (congrFun (congrFun (congrFun (congrArg (Cert.MidRefIdeal.Read.val_main_v84 (F := Ideal)) (hagree c).1) _) _) _).trans ?_
    refine (congrFun (congrFun (congrArg (Cert.MidRefIdeal.Read.val_main_v84 (F := Ideal) (cots m c)) (hagree c).2.1) _) _).trans ?_
    refine (congrFun (congrArg (Cert.MidRefIdeal.Read.val_main_v84 (F := Ideal) (cots m c) (wts m c)) (hagree c).2.2.1) _).trans ?_
    refine (congrArg (Cert.MidRefIdeal.Read.val_main_v84 (F := Ideal) (cots m c) (wts m c) (ups m c)) (hagree c).2.2.2).trans ?_
    exact Forward.ext3 fun e r j => du_eq m c hpre e r j
  · refine (Cert.MidRefIdeal.Read.val_main_v91_eq (F := Ideal) _).trans ?_
    refine Eq.trans ?_ (Cert.MidIdeal.Call.final7 m c).symm
    refine (congrFun (congrFun (congrFun (congrArg (Cert.MidRefIdeal.Read.val_main_v91 (F := Ideal)) (hagree c).1) _) _) _).trans ?_
    refine (congrFun (congrFun (congrArg (Cert.MidRefIdeal.Read.val_main_v91 (F := Ideal) (cots m c)) (hagree c).2.1) _) _).trans ?_
    refine (congrFun (congrArg (Cert.MidRefIdeal.Read.val_main_v91 (F := Ideal) (cots m c) (wts m c)) (hagree c).2.2.1) _).trans ?_
    refine (congrArg (Cert.MidRefIdeal.Read.val_main_v91 (F := Ideal) (cots m c) (wts m c) (ups m c)) (hagree c).2.2.2).trans ?_
    exact Forward.ext3 fun e q j => dw_eq m c hpre e q j

end Cert.Gate

end
-- ==== Proof.MixCall.lean ====
/-
  The call that takes the mixer's convolution back to its three arguments and its filter: what a grid point leaves over the
  extended reals, entry by entry. A point filters the products of two of the arguments down the rows, with the last rows
  of the block before, takes the cotangents back through the outer product, filters them along the rows the other way
  round, with the first rows of the block after, which it keeps in a buffer, and adds what its rows give the gradient of
  the filter's coefficients.
-/
module

public import proofs.«01_k».proof.Proof.Gen.MixIdeal.Value
public import proofs.«01_k».proof.Proof.MidArrays
public import proofs.«01_k».proof.Proof.UpProj

@[expose] public section

set_option maxRecDepth 16384

noncomputable section

namespace Cert.MixIdeal.Call

open Cert.MixIdeal Cert.MixIdeal.Gen Idealize.ShloMosaic Idealize.ShloMosaic.TcCoe Idealize.ShloMosaic.Tactic
open Idealize.ShloMosaic.Pipeline
open Cert.MidIdeal.Call (below below1_eq below2_eq filter pair add)
open Cert.UpIdeal.Call (above above1 above2)

/-! ## What one point computes -/

section body
variable (i : grid0.Coords) (b d g h : Vec Ideal S1024x256 .bf16) (gp hp : Vec Ideal S16x256 .bf16) (f s : Vec Ideal S8x256 .f32) (n : Vec Ideal S1x256 .f32)

/-- The cotangents of the filter's result, and the rows the filter was given. -/
abbrev cots : FVec Ideal S1024x256 .f32 := k0_pay18 (k0_pay9 b) d
@[inherit_doc cots] abbrev rows : FVec Ideal S1024x256 .f32 := k0_pay12 g h

/-- The last rows of the block before, none before the first. -/
abbrev lead : FVec Ideal S8x256 .f32 := k0_pay13 i gp hp

theorem cots_apply (r : Fin 1024) (j : Fin 256) : cots b d (ix2 r j) = d (ix2 r j) * b (ix2 r j) := by
  pointwise [k0_pay18, k0_pay17, k0_pay9]
@[inherit_doc cots_apply] theorem rows_apply (r : Fin 1024) (j : Fin 256) : rows g h (ix2 r j) = g (ix2 r j) * h (ix2 r j) := by
  pointwise [k0_pay12, k0_pay10, k0_pay11]

/-- Whether a block of rows has one before it, as a number. -/
theorem flag (k : ℕ) (hk : k < 8) :
    (Scalar.extui (Scalar.cmpi .sgt (Scalar.subi 7#32 (BitVec.ofNat 32 k)) 0#32) : BitVec 32).toInt = if k = 7 then 0 else 1 := by
  interval_cases k <;> rfl

theorem lead_apply (q : Fin 8) (j : Fin 256) :
    lead i gp hp (ix2 q j) = if (i 1).val = 7 then 0 else gp (ix2 ⟨8 + q, by omega⟩ j) * hp (ix2 ⟨8 + q, by omega⟩ j) := by
  pointwise [k0_pay13]
  rw [flag (i 1).val (i 1).isLt]
  by_cases h : (i 1).val = 7
  · rw [if_pos h, if_pos h, Int.cast_zero, EReal.coe_zero, mul_zero]
  · rw [if_neg h, if_neg h, Int.cast_one, EReal.coe_one, mul_one]

/-- A column of a block, of eight rows. -/
abbrev col (u : FVec Ideal S1024x256 .f32) (j : Fin 256) : Fin 1024 → EReal := fun r => u (ix2 r j)
@[inherit_doc col] abbrev col8 (u : Vec Ideal S8x256 .f32) (j : Fin 256) : Fin 8 → EReal := fun e => u (ix2 e j)

/-- The products of the cotangents, one and two rows later. -/
abbrev later1 : FVec Ideal S1024x256 .f32 := k0_pay20 (k0_pay9 b) d s
@[inherit_doc later1] abbrev later2 : FVec Ideal S1024x256 .f32 :=
  k0_pay23 s (iota Kind.tc S8x1 32 [0] iota_S8x1_d0_w32) (k0_pay19 (k0_pay9 b) d) (k0_pay21 (k0_pay9 b) d) k0_pay22

theorem later1_apply (r : Fin 1024) (j : Fin 256) : later1 b d s (ix2 r j) = below (col (cots b d) j) (col8 s j) 1 (by omega) r := by
  refine Eq.trans ?_ (below1_eq (col (cots b d) j) (col8 s j) r (by omega) (by omega))
  pointwise [k0_pay20]
@[inherit_doc later1_apply] theorem later2_apply (r : Fin 1024) (j : Fin 256) : later2 b d s (ix2 r j) = below (col (cots b d) j) (col8 s j) 2 (by omega) r := by
  refine Eq.trans ?_ (below2_eq (col (cots b d) j) (col8 s j) r (by omega) (by omega))
  pointwise [k0_pay23, k0_pay19, k0_pay21, k0_pay22]

/-- The cotangents filtered the other way round. -/
abbrev back : FVec Ideal S1024x256 .f32 :=
  k0_pay24 (k0_pay8 f) (cots b d) s (iota Kind.tc S8x1 32 [0] iota_S8x1_d0_w32) (k0_pay19 (k0_pay9 b) d) (later1 b d s) (k0_pay21 (k0_pay9 b) d) k0_pay22

theorem back_apply (r : Fin 1024) (j : Fin 256) : back b d f s (ix2 r j) = filter (col (cots b d) j) (col8 s j) (col8 f j) r := by
  unfold filter
  rw [← later1_apply, ← later2_apply]
  pointwise [k0_pay24, k0_pay8]

/-- The rows the filter was given, filtered. -/
abbrev mixed : FVec Ideal S1024x256 .f32 :=
  k0_pay16 (k0_pay8 f) (rows g h) (lead i gp hp) (iota Kind.tc S8x1 32 [0] iota_S8x1_d0_w32) (k0_pay14 g h) (k0_pay15 i g h gp hp)

theorem mixed_apply (r : Fin 1024) (j : Fin 256) :
    mixed i g h gp hp f (ix2 r j) = Cert.UpIdeal.Call.filter (col (rows g h) j) (col8 (lead i gp hp) j) (col8 f j) r := by
  unfold Cert.UpIdeal.Call.filter
  rw [← above1 (col (rows g h) j) (col8 (lead i gp hp) j) r (by omega) (by omega), ← above2 (col (rows g h) j) (col8 (lead i gp hp) j) r (by omega) (by omega)]
  pointwise [k0_pay16, k0_pay15, k0_pay14, k0_pay8]

/-- What a point leaves of the three arguments' cotangents. -/
theorem out0 (r : Fin 1024) (j : Fin 256) :
    k0_pay28 (mixed i g h gp hp f) (k0_pay17 d) (ix3 0 r j) = d (ix2 r j) * mixed i g h gp hp f (ix2 r j) := by
  pointwise [k0_pay28, k0_pay17]
@[inherit_doc out0] theorem out1 (r : Fin 1024) (j : Fin 256) :
    k0_pay29 (k0_pay8 f) (k0_pay11 h) (cots b d) s (iota Kind.tc S8x1 32 [0] iota_S8x1_d0_w32) (k0_pay19 (k0_pay9 b) d) (later1 b d s) (k0_pay21 (k0_pay9 b) d) k0_pay22 (ix3 0 r j)
      = back b d f s (ix2 r j) * h (ix2 r j) := by
  pointwise [k0_pay29, k0_pay11]
@[inherit_doc out0] theorem out2 (r : Fin 1024) (j : Fin 256) :
    k0_pay1 (k0_pay30 (k0_pay8 f) (k0_pay10 g) (cots b d) s (iota Kind.tc S8x1 32 [0] iota_S8x1_d0_w32) (k0_pay19 (k0_pay9 b) d) (later1 b d s) (k0_pay21 (k0_pay9 b) d) k0_pay22) (ix3 0 r j)
      = back b d f s (ix2 r j) * g (ix2 r j) := by
  pointwise [k0_pay1, k0_pay30, k0_pay10]

/-- What a point adds to a row of the sums. -/
theorem sum0 (j : Fin 256) :
    k0_pay2 (k0_pay25 (rows g h) s (iota Kind.tc S8x1 32 [0] iota_S8x1_d0_w32) (k0_pay19 (k0_pay9 b) d) (k0_pay21 (k0_pay9 b) d) k0_pay22) n (ix2 0 j)
      = n (ix2 0 j) + pair (below (col (cots b d) j) (col8 s j) 2 (by omega)) (col (rows g h) j) := by
  unfold pair
  simp only [← later2_apply]
  pointwise [k0_pay2, k0_pay25]
@[inherit_doc sum0] theorem sum1 (j : Fin 256) :
    k0_pay3 (k0_pay26 (rows g h) (later1 b d s)) n (ix2 0 j) = n (ix2 0 j) + pair (below (col (cots b d) j) (col8 s j) 1 (by omega)) (col (rows g h) j) := by
  unfold pair
  simp only [← later1_apply]
  pointwise [k0_pay3, k0_pay26]
@[inherit_doc sum0] theorem sum2 (j : Fin 256) : k0_pay4 (k0_pay27 (rows g h) (cots b d)) n (ix2 0 j) = n (ix2 0 j) + pair (col (cots b d) j) (col (rows g h) j) := by
  unfold pair
  pointwise [k0_pay4, k0_pay27]

/-- The first rows that a point keeps. -/
theorem keep (u : FVec Ideal S1024x256 .f32) (r : Fin 8) (j : Fin 256) : k0_pay5 u (ix2 r j) = u (ix2 ⟨r.val, by omega⟩ j) := by
  pointwise [k0_pay5]

theorem reset6 (r : Fin 8) (j : Fin 256) : k0_pay6 (F := Ideal) (ix2 r j) = 0 := by
  pointwise [k0_pay6]
theorem reset7 (r : Fin 8) (j : Fin 256) : k0_pay7 (F := Ideal) (ix2 r j) = 0 := by
  pointwise [k0_pay7]

end body

/-! ## What each point leaves -/

variable (m : (ℓ : Loc nD τ sig) → Buf (Elt Ideal) ℓ) (c : Dev nD)

/-- The point before. -/
abbrev before (t : Fin cfg0.N) := outsAt0 m c (t.val - 1) (Nat.lt_of_le_of_lt (Nat.sub_le _ _) t.isLt)

/-- The cotangents of the filter's result that a point computes, the rows the filter was given, and the rows before them. -/
abbrev cot (t : Fin cfg0.N) : FVec Ideal S1024x256 .f32 := cots (iblk m c 1 t) (iblk m c 0 t)
@[inherit_doc cot] abbrev row (t : Fin cfg0.N) : FVec Ideal S1024x256 .f32 := rows (iblk m c 2 t) (iblk m c 3 t)
@[inherit_doc cot] abbrev led (t : Fin cfg0.N) : FVec Ideal S8x256 .f32 := lead (grid0.coords t) (iblk m c 4 t) (iblk m c 5 t)

/-- The carried rows that a point meets, and the sums: none before the last block of rows. -/
def carried (t : Fin cfg0.N) : Vec Ideal S8x256 .f32 := fun i => if t.val % 8 = 0 then 0 else (before m c t).2.2 i
@[inherit_doc carried] def sums (t : Fin cfg0.N) : Vec Ideal S8x256 .f32 := fun i => if t.val % 8 = 0 then 0 else (before m c t).2.1 i

theorem clear6 : (k0_pay6 : FVec Ideal S8x256 .f32) = fun _ => (0 : EReal) := funext fun i => by
  rw [show i = ix2 (i 0) (i 1) by funext a; fin_cases a <;> rfl]; exact reset6 ..
theorem clear7 : (k0_pay7 : FVec Ideal S8x256 .f32) = fun _ => (0 : EReal) := funext fun i => by
  rw [show i = ix2 (i 0) (i 1) by funext a; fin_cases a <;> rfl]; exact reset7 ..

/-- What a point reads of the carried rows, at the first block of rows it meets and at the others. -/
theorem meet0 (t : Fin cfg0.N) (h : t.val % 8 = 0) : (fun _ => (0 : EReal) : Vec Ideal S8x256 .f32) = carried m c t := funext fun _ => (if_pos h).symm
@[inherit_doc meet0] theorem meet1 (t : Fin cfg0.N) (h : ¬ t.val % 8 = 0) : (before m c t).2.2 = carried m c t := funext fun _ => (if_neg h).symm

/-- A block of three arrays read at the array stored last, or at another. -/
theorem third_hit (a : ℕ) (ha : a < 3) (inb) (w : Vec Ideal S1x1024x256 .bf16) (L : List (View.Piece (Elt Ideal) S3x1024x256 .bf16)) (r : Fin 1024) (j : Fin 256) :
    View.canon ((⟨Rect.unit (s := S3x1024x256) ![a, 0, 0] ![1, 1024, 256] inb, w⟩ : View.Piece (Elt Ideal) S3x1024x256 .bf16) :: L) (ix3 ⟨a, ha⟩ r j) = w (ix3 0 r j) := by
  have e : (ix3 ⟨a, ha⟩ r j : S3x1024x256.Idx) = (Rect.unit (s := S3x1024x256) ![a, 0, 0] ![1, 1024, 256] inb).emb (ix3 0 r j : S1x1024x256.Idx) := by
    funext i
    fin_cases i <;> exact Fin.ext (by first | rfl | (show r.val = 0 + 1 * r.val; omega) | (show j.val = 0 + 1 * j.val; omega))
  rw [e]
  exact View.canon_cons_emb (Rect.unit (s := S3x1024x256) ![a, 0, 0] ![1, 1024, 256] inb) ..
@[inherit_doc third_hit] theorem third_miss (a : ℕ) (inb) (w : Vec Ideal S1x1024x256 .bf16) (L : List (View.Piece (Elt Ideal) S3x1024x256 .bf16)) (p : Fin 3) (r : Fin 1024) (j : Fin 256)
    (h : p.val ≠ a) :
    View.canon ((⟨Rect.unit (s := S3x1024x256) ![a, 0, 0] ![1, 1024, 256] inb, w⟩ : View.Piece (Elt Ideal) S3x1024x256 .bf16) :: L) (ix3 p r j) = View.canon L (ix3 p r j) := by
  rw [View.canon_cons_of_not_mem]
  intro hm
  obtain ⟨k, hk', hk⟩ := (LoadRect.mem_set _).mp hm 0
  have a1 : k < 1 := hk'
  have a2 : p.val = a + 1 * k := hk
  omega

/-- Three stores, one of each array, read back. -/
theorem thirds (x y z : Vec Ideal S1x1024x256 .bf16) (i0 i1 i2) (e : Fin 3) (r : Fin 1024) (j : Fin 256) :
    View.canon [(⟨Rect.unit (s := S3x1024x256) ![2, 0, 0] ![1, 1024, 256] i2, z⟩ : View.Piece (Elt Ideal) S3x1024x256 .bf16),
      ⟨Rect.unit (s := S3x1024x256) ![1, 0, 0] ![1, 1024, 256] i1, y⟩, ⟨Rect.unit (s := S3x1024x256) ![0, 0, 0] ![1, 1024, 256] i0, x⟩] (ix3 e r j)
      = if e.val = 0 then x (ix3 0 r j) else if e.val = 1 then y (ix3 0 r j) else z (ix3 0 r j) := by
  match e with
  | ⟨0, _⟩ =>
    rw [if_pos rfl]
    exact (third_miss 2 _ _ _ 0 r j (by decide)).trans ((third_miss 1 _ _ _ 0 r j (by decide)).trans (third_hit 0 (by decide) ..))
  | ⟨1, _⟩ =>
    rw [if_neg (by show ¬ 1 = 0; decide), if_pos rfl]
    exact (third_miss 2 _ _ _ 1 r j (by decide)).trans (third_hit 1 (by decide) ..)
  | ⟨2, _⟩ =>
    rw [if_neg (by show ¬ 2 = 0; decide), if_neg (by show ¬ 2 = 1; decide)]
    exact third_hit 2 (by decide) ..

/-- An entry of a point's blocks: the result's cotangents, and the two factors of the rows the filter was given. -/
abbrev dv (t : Fin cfg0.N) (r : Fin 1024) (j : Fin 256) : EReal := iblk m c 0 t (ix2 r j)
@[inherit_doc dv] abbrev gv (t : Fin cfg0.N) (r : Fin 1024) (j : Fin 256) : EReal := iblk m c 2 t (ix2 r j)
@[inherit_doc dv] abbrev hv (t : Fin cfg0.N) (r : Fin 1024) (j : Fin 256) : EReal := iblk m c 3 t (ix2 r j)

/-- The arguments' cotangents that a point leaves. -/
theorem left7 (t : Fin cfg0.N) (e : Fin 3) (r : Fin 1024) (j : Fin 256) : (outsAt0 m c t.val t.isLt).1 (ix3 e r j)
    = if e.val = 0 then dv m c t r j * Cert.UpIdeal.Call.filter (col (row m c t) j) (col8 (led m c t) j) (col8 (iblk m c 6 t) j) r
      else if e.val = 1 then filter (col (cot m c t) j) (col8 (carried m c t) j) (col8 (iblk m c 6 t) j) r * hv m c t r j
      else filter (col (cot m c t) j) (col8 (carried m c t) j) (col8 (iblk m c 6 t) j) r * gv m c t r j := by
  rw [← back_apply (iblk m c 1 t) (iblk m c 0 t) (iblk m c 6 t) (carried m c t) r j,
    ← mixed_apply (grid0.coords t) (iblk m c 2 t) (iblk m c 3 t) (iblk m c 4 t) (iblk m c 5 t) (iblk m c 6 t) r j]
  have o0 := out0 (grid0.coords t) (iblk m c 0 t) (iblk m c 2 t) (iblk m c 3 t) (iblk m c 4 t) (iblk m c 5 t) (iblk m c 6 t) r j
  have o1 := out1 (iblk m c 1 t) (iblk m c 0 t) (iblk m c 3 t) (iblk m c 6 t) (carried m c t) r j
  have o2 := out2 (iblk m c 1 t) (iblk m c 0 t) (iblk m c 2 t) (iblk m c 6 t) (carried m c t) r j
  by_cases h0 : t.val % 8 = 0
  · rw [outsAt0_A m c t h0]
    frame_out
    rw [clear6, meet0 m c t h0]
    refine (thirds _ _ _ _ _ _ e r j).trans (if_congr Iff.rfl ?_ (if_congr Iff.rfl ?_ ?_))
    · exact o0
    · exact o1
    · exact o2
  · rw [outsAt0_B m c t h0]
    frame_out
    simp only [meet1 m c t h0, read_unread_whole]
    refine (thirds _ _ _ _ _ _ e r j).trans (if_congr Iff.rfl ?_ (if_congr Iff.rfl ?_ ?_))
    · exact o0
    · exact o1
    · exact o2

/-- The first rows a point keeps for the next. -/
theorem left9 (t : Fin cfg0.N) (r : Fin 8) (j : Fin 256) : (outsAt0 m c t.val t.isLt).2.2 (ix2 r j) = cot m c t (ix2 ⟨r.val, by omega⟩ j) := by
  by_cases h0 : t.val % 8 = 0
  · rw [outsAt0_A m c t h0]
    frame_out
    exact keep ..
  · rw [outsAt0_B m c t h0]
    frame_out
    exact keep ..

/-- A load of one row. -/
theorem load_row (X : Vec Ideal S8x256 .f32) (b : ℕ) (hb : b < 8) (inb) (j : Fin 256) :
    View.ld X (Rect.unit (s := S8x256) ![b, 0] ![1, 256] inb) (ix2 0 j) = X (ix2 ⟨b, hb⟩ j) := by
  refine congrArg X ?_
  funext i
  fin_cases i <;> exact Fin.ext (by first | rfl | (show 0 + 1 * j.val = j.val; omega))

/-- A buffer read at the row stored last, or at another. -/
theorem canon_hit (b : ℕ) (hb : b < 8) (inb) (w : Vec Ideal S1x256 .f32) (L : List (View.Piece (Elt Ideal) S8x256 .f32)) (j : Fin 256) :
    View.canon ((⟨Rect.unit (s := S8x256) ![b, 0] ![1, 256] inb, w⟩ : View.Piece (Elt Ideal) S8x256 .f32) :: L) (ix2 ⟨b, hb⟩ j) = w (ix2 0 j) := by
  have e : (ix2 ⟨b, hb⟩ j : S8x256.Idx) = (Rect.unit (s := S8x256) ![b, 0] ![1, 256] inb).emb (ix2 0 j : S1x256.Idx) := by
    funext i
    fin_cases i <;> exact Fin.ext (by first | rfl | (show j.val = 0 + 1 * j.val; omega))
  rw [e]
  exact View.canon_cons_emb (Rect.unit (s := S8x256) ![b, 0] ![1, 256] inb) ..
@[inherit_doc canon_hit] theorem canon_miss (b : ℕ) (inb) (w : Vec Ideal S1x256 .f32) (L : List (View.Piece (Elt Ideal) S8x256 .f32)) (q : Fin 8) (j : Fin 256) (h : q.val ≠ b) :
    View.canon ((⟨Rect.unit (s := S8x256) ![b, 0] ![1, 256] inb, w⟩ : View.Piece (Elt Ideal) S8x256 .f32) :: L) (ix2 q j) = View.canon L (ix2 q j) := by
  rw [View.canon_cons_of_not_mem]
  intro hm
  obtain ⟨k, hk', hk⟩ := (LoadRect.mem_set _).mp hm 0
  have a1 : k < 1 := hk'
  have a2 : q.val = b + 1 * k := hk
  omega

section reads
variable (v : View sig .tc .vmem S8x256 .f32) (f : v.ty.Contents (Elt Ideal))

@[inherit_doc canon_hit] theorem read_hit (b : ℕ) (hb : b < 8) (inb) (w : Vec Ideal S1x256 .f32) (L : List (View.Piece (Elt Ideal) S8x256 .f32)) (j : Fin 256) :
    v.read (Elt Ideal) (v.writes (Elt Ideal) f ((⟨Rect.unit (s := S8x256) ![b, 0] ![1, 256] inb, w⟩ : View.Piece (Elt Ideal) S8x256 .f32) :: L)) (ix2 ⟨b, hb⟩ j) = w (ix2 0 j) :=
  View.read_writes_cons_unit_of_mem v f inb w L (ix2 ⟨b, hb⟩ j) (ix2 0 j) rfl (fun i => by
    fin_cases i
    · rfl
    · show j.val = 0 + j.val
      omega)
@[inherit_doc canon_hit] theorem read_miss (b : ℕ) (inb) (w : Vec Ideal S1x256 .f32) (L : List (View.Piece (Elt Ideal) S8x256 .f32)) (q : Fin 8) (j : Fin 256) (h : q.val ≠ b) :
    v.read (Elt Ideal) (v.writes (Elt Ideal) f ((⟨Rect.unit (s := S8x256) ![b, 0] ![1, 256] inb, w⟩ : View.Piece (Elt Ideal) S8x256 .f32) :: L)) (ix2 q j)
      = v.read (Elt Ideal) (v.writes (Elt Ideal) f L) (ix2 q j) :=
  View.read_writes_cons_unit_of_not_mem v f inb w L _ rfl 0 (by show q.val < b ∨ b + 1 ≤ q.val; omega)

end reads

/-- One store of a row, for a way `R` of reading what a list of stores leaves: the row itself, and otherwise the rest. -/
theorem step {R : List (View.Piece (Elt Ideal) S8x256 .f32) → S8x256.Idx → EReal}
    (hit : ∀ (b : ℕ) (hb : b < 8) (inb) (w : Vec Ideal S1x256 .f32) (L) (j : Fin 256),
      R ((⟨Rect.unit (s := S8x256) ![b, 0] ![1, 256] inb, w⟩ : View.Piece (Elt Ideal) S8x256 .f32) :: L) (ix2 ⟨b, hb⟩ j) = w (ix2 0 j))
    (miss : ∀ (b : ℕ) (inb) (w : Vec Ideal S1x256 .f32) (L) (q : Fin 8) (j : Fin 256), q.val ≠ b →
      R ((⟨Rect.unit (s := S8x256) ![b, 0] ![1, 256] inb, w⟩ : View.Piece (Elt Ideal) S8x256 .f32) :: L) (ix2 q j) = R L (ix2 q j))
    (T : Fin 8 → EReal) (b : ℕ) (hb : b < 8) (inb) (w : Vec Ideal S1x256 .f32) (L) (q : Fin 8) (j : Fin 256)
    (h : w (ix2 0 j) = T ⟨b, hb⟩) (rest : q.val ≠ b → R L (ix2 q j) = T q) :
    R ((⟨Rect.unit (s := S8x256) ![b, 0] ![1, 256] inb, w⟩ : View.Piece (Elt Ideal) S8x256 .f32) :: L) (ix2 q j) = T q := by
  by_cases e : q.val = b
  · have e1 : q = ⟨b, hb⟩ := Fin.ext e
    rw [e1]
    exact (hit b hb inb w L j).trans h
  · exact (miss b inb w L q j e).trans (rest e)

/-- What a point adds to an entry of the sums. -/
def more (t : Fin cfg0.N) (q : ℕ) (j : Fin 256) : EReal := add (col (cot m c t) j) (col8 (carried m c t) j) (col (row m c t) j) q

theorem more0 (t : Fin cfg0.N) (j : Fin 256) : (if 0 < 3 then more m c t 0 j else 0)
    = pair (below (col (cot m c t) j) (col8 (carried m c t) j) 2 (by omega)) (col (row m c t) j) := by
  rw [if_pos (by omega), more, add, if_pos rfl]
theorem more1 (t : Fin cfg0.N) (j : Fin 256) : (if 1 < 3 then more m c t 1 j else 0)
    = pair (below (col (cot m c t) j) (col8 (carried m c t) j) 1 (by omega)) (col (row m c t) j) := by
  rw [if_pos (by omega), more, add, if_neg (by omega), if_pos rfl]
theorem more2 (t : Fin cfg0.N) (j : Fin 256) : (if 2 < 3 then more m c t 2 j else 0) = pair (col (cot m c t) j) (col (row m c t) j) := by
  rw [if_pos (by omega), more, add, if_neg (by omega), if_neg (by omega)]

/-- The stores of a point into the sums, in either way of reading them. -/
theorem grown {R : List (View.Piece (Elt Ideal) S8x256 .f32) → S8x256.Idx → EReal}
    (hit : ∀ (b : ℕ) (hb : b < 8) (inb) (w : Vec Ideal S1x256 .f32) (L) (j : Fin 256),
      R ((⟨Rect.unit (s := S8x256) ![b, 0] ![1, 256] inb, w⟩ : View.Piece (Elt Ideal) S8x256 .f32) :: L) (ix2 ⟨b, hb⟩ j) = w (ix2 0 j))
    (miss : ∀ (b : ℕ) (inb) (w : Vec Ideal S1x256 .f32) (L) (q : Fin 8) (j : Fin 256), q.val ≠ b →
      R ((⟨Rect.unit (s := S8x256) ![b, 0] ![1, 256] inb, w⟩ : View.Piece (Elt Ideal) S8x256 .f32) :: L) (ix2 q j) = R L (ix2 q j))
    (t : Fin cfg0.N) (L : List (View.Piece (Elt Ideal) S8x256 .f32)) (n0 n1 n2 : Vec Ideal S1x256 .f32) (i0 i1 i2) (q : Fin 8) (j : Fin 256)
    (h0 : n0 (ix2 0 j) = sums m c t (ix2 0 j)) (h1 : n1 (ix2 0 j) = sums m c t (ix2 1 j)) (h2 : n2 (ix2 0 j) = sums m c t (ix2 2 j))
    (rest : 3 ≤ q.val → R L (ix2 q j) = sums m c t (ix2 q j)) :
    R ((⟨Rect.unit (s := S8x256) ![2, 0] ![1, 256] i2, k0_pay4 (k0_pay27 (row m c t) (cot m c t)) n2⟩ : View.Piece (Elt Ideal) S8x256 .f32)
      :: ⟨Rect.unit (s := S8x256) ![1, 0] ![1, 256] i1, k0_pay3 (k0_pay26 (row m c t) (later1 (iblk m c 1 t) (iblk m c 0 t) (carried m c t))) n1⟩
      :: ⟨Rect.unit (s := S8x256) ![0, 0] ![1, 256] i0, k0_pay2 (k0_pay25 (row m c t) (carried m c t) (iota Kind.tc S8x1 32 [0] iota_S8x1_d0_w32)
          (k0_pay19 (k0_pay9 (iblk m c 1 t)) (iblk m c 0 t)) (k0_pay21 (k0_pay9 (iblk m c 1 t)) (iblk m c 0 t)) k0_pay22) n0⟩ :: L) (ix2 q j)
      = sums m c t (ix2 q j) + if q.val < 3 then more m c t q j else 0 := by
  refine step hit miss (fun q => sums m c t (ix2 q j) + if q.val < 3 then more m c t q j else 0) 2 (by omega) _ _ _ q j
    (((sum2 ..).trans (congrArg (· + _) h2)).trans (congrArg (sums m c t (ix2 2 j) + ·) (more2 m c t j).symm)) fun _ => ?_
  refine step hit miss (fun q => sums m c t (ix2 q j) + if q.val < 3 then more m c t q j else 0) 1 (by omega) _ _ _ q j
    (((sum1 ..).trans (congrArg (· + _) h1)).trans (congrArg (sums m c t (ix2 1 j) + ·) (more1 m c t j).symm)) fun _ => ?_
  refine step hit miss (fun q => sums m c t (ix2 q j) + if q.val < 3 then more m c t q j else 0) 0 (by omega) _ _ _ q j
    (((sum0 ..).trans (congrArg (· + _) h0)).trans (congrArg (sums m c t (ix2 0 j) + ·) (more0 m c t j).symm)) fun _ => ?_
  have hq : 3 ≤ q.val := by omega
  rw [if_neg (by omega), add_zero]
  exact rest hq

/-- The sums a point leaves: three rows grow, and the others stay. -/
theorem left8 (t : Fin cfg0.N) (q : Fin 8) (j : Fin 256) :
    (outsAt0 m c t.val t.isLt).2.1 (ix2 q j) = sums m c t (ix2 q j) + if q.val < 3 then more m c t q j else 0 := by
  by_cases h0 : t.val % 8 = 0
  · have es : sums m c t = fun _ => (0 : EReal) := funext fun _ => if_pos h0
    rw [outsAt0_A m c t h0]
    frame_out
    simp (disch := decide) only [↓ View.readCov_skip, ↓ View.readCov_fill, read_unread_whole]
    rw [clear6, meet0 m c t h0, clear7]
    have z : ∀ i, (fun _ => (0 : EReal) : Vec Ideal S8x256 .f32) i = sums m c t i := fun i => (congrFun es i).symm
    refine grown m c canon_hit canon_miss t _ _ _ _ _ _ _ q j (z _) (z _) (z _) fun _ => ?_
    refine Eq.trans ?_ (z (ix2 q j))
    have ew : (ix2 q j : S8x256.Idx) = (Rect.unit (s := S8x256) ![0, 0] ![8, 256] inb_S8x256_S8x256_0_0).emb (ix2 q j : S8x256.Idx) := by
      funext a; fin_cases a <;> exact Fin.ext (by first | (show q.val = 0 + 1 * q.val; omega) | (show j.val = 0 + 1 * j.val; omega))
    rw [ew]
    exact View.canon_cons_emb (Rect.unit (s := S8x256) ![0, 0] ![8, 256] inb_S8x256_S8x256_0_0) ..
  · have z : ∀ i, (before m c t).2.1 i = sums m c t i := fun i => (if_neg h0).symm
    rw [outsAt0_B m c t h0]
    frame_out
    simp (disch := decide) only [↓ View.readCov_skip, ↓ View.readCov_fill, read_unread_whole]
    rw [meet1 m c t h0]
    refine grown m c (R := fun L => View.read (Elt Ideal) (ms0_8 t).view ((ms0_8 t).view.writes (Elt Ideal) (Memref.IsWhole.unread (hs0_8 t) (before m c t).2.1) L))
      (read_hit _ _) (read_miss _ _) t [] _ _ _ _ _ _ q j ?_ ?_ ?_ fun _ => ?_
    · exact (load_row _ 0 (by omega) _ j).trans (z _)
    · exact (load_row _ 1 (by omega) _ j).trans (z _)
    · exact (load_row _ 2 (by omega) _ j).trans (z _)
    · exact (congrFun (Memref.IsWhole.read_unread _ _) _).trans (z _)

end Cert.MixIdeal.Call

end
-- ==== Proof.MixArrays.lean ====
/-
  The call that takes the mixer's cotangents back through the gated convolution: the two result arrays in terms of the
  arguments.
-/
module

public import proofs.«01_k».proof.Proof.MixCall

@[expose] public section

set_option maxRecDepth 16384

noncomputable section

namespace Cert.MixIdeal.Call

open Cert.MixIdeal Cert.MixIdeal.Gen Idealize.ShloMosaic Idealize.ShloMosaic.TcCoe Idealize.ShloMosaic.Tactic
open Idealize.ShloMosaic.Pipeline
open Cert.MidIdeal.Call (below below1_eq below2_eq filter pair add past next below_eq blocks)
open Cert.UpIdeal.Call (above above1 above2 above_eq)

variable (m : (ℓ : Loc nD τ sig) → Buf (Elt Ideal) ℓ) (c : Dev nD)

/-- The arguments by row and column: the projected rows, the mixer's cotangents, the filter's coefficients. -/
def proj (r j : ℕ) : EReal := if h : r < 8192 ∧ j < 4352 then m ((c.tc : Thread nD τ).loc main_arg0) (ix2 ⟨r, h.1⟩ ⟨j, h.2⟩) else 0
@[inherit_doc proj] def dmix (r j : ℕ) : EReal := if h : r < 8192 ∧ j < 2048 then m ((c.tc : Thread nD τ).loc main_arg1) (ix2 ⟨r, h.1⟩ ⟨j, h.2⟩) else 0
@[inherit_doc proj] def f (d : Fin 3) (j : ℕ) : EReal := if h : j < 1024 then m ((c.tc : Thread nD τ).loc main_arg2) (ix2 d ⟨j, h⟩) else 0

/-- The rows the filter was given. -/
def u (r j : ℕ) : EReal := proj m c r (2304 + j) * proj m c r (3328 + j)

/-- The filter's result. -/
def conv (r j : ℕ) : EReal :=
  f m c 0 j * past (fun r => u m c r j) 2 r + f m c 1 j * past (fun r => u m c r j) 1 r + f m c 2 j * u m c r j

/-- The cotangents of the filter's result. -/
def dy (r j : ℕ) : EReal := dmix m c r (1024 + j) * proj m c r (1280 + j)

/-- The cotangents of the rows the filter was given. -/
def du (r j : ℕ) : EReal :=
  f m c 2 j * dy m c r j + f m c 1 j * next (fun r => dy m c r j) 1 r + f m c 0 j * next (fun r => dy m c r j) 2 r

/-- The cotangents of the three arguments: of the gate after the filter, of the gate before it, and of what that gates. -/
def back3 (e r j : ℕ) : EReal :=
  if e = 0 then dmix m c r (1024 + j) * conv m c r j else if e = 1 then du m c r j * proj m c r (3328 + j) else du m c r j * proj m c r (2304 + j)

/-- The gradient of the filter's coefficients, with rows of zeros after the third. -/
def dw (q j : ℕ) : EReal := if q < 3 then ∑ r : Fin 8192, next (fun r => dy m c r j) (2 - q) r * u m c r j else 0

/-- Where each window's block lies. -/
theorem idx0 : ∀ t : Fin cfg0.N, win0_0.index t = ![7 - t.val % 8, 4 + t.val / 8] := (by decide +kernel : ∀ t : Fin grid0.N, _)
@[inherit_doc idx0] theorem idx1 : ∀ t : Fin cfg0.N, win0_1.index t = ![7 - t.val % 8, 5 + t.val / 8] := (by decide +kernel : ∀ t : Fin grid0.N, _)
@[inherit_doc idx0] theorem idx2 : ∀ t : Fin cfg0.N, win0_2.index t = ![7 - t.val % 8, 9 + t.val / 8] := (by decide +kernel : ∀ t : Fin grid0.N, _)
@[inherit_doc idx0] theorem idx3 : ∀ t : Fin cfg0.N, win0_3.index t = ![7 - t.val % 8, 13 + t.val / 8] := (by decide +kernel : ∀ t : Fin grid0.N, _)
@[inherit_doc idx0] theorem idx4 : ∀ t : Fin cfg0.N, win0_4.index t = ![64 * (7 - t.val % 8) - 1, 9 + t.val / 8] := (by decide +kernel : ∀ t : Fin grid0.N, _)
@[inherit_doc idx0] theorem idx5 : ∀ t : Fin cfg0.N, win0_5.index t = ![64 * (7 - t.val % 8) - 1, 13 + t.val / 8] := (by decide +kernel : ∀ t : Fin grid0.N, _)
@[inherit_doc idx0] theorem idx6 : ∀ t : Fin cfg0.N, win0_6.index t = ![0, t.val / 8] := (by decide +kernel : ∀ t : Fin grid0.N, _)
@[inherit_doc idx0] theorem idx7 : ∀ t : Fin cfg0.N, win0_7.index t = ![0, 7 - t.val % 8, t.val / 8] := (by decide +kernel : ∀ t : Fin grid0.N, _)
@[inherit_doc idx0] theorem idx8 : ∀ t : Fin cfg0.N, win0_8.index t = ![0, t.val / 8] := (by decide +kernel : ∀ t : Fin grid0.N, _)

/-- The second coordinate of a point. -/
theorem coord1 : ∀ t : Fin cfg0.N, ((grid0.coords t) 1).val = t.val % 8 := (by decide +kernel : ∀ t : Fin grid0.N, _)

/-- An entry of the cotangents' block, and of the projected rows' blocks. -/
theorem blk0 (t : Fin cfg0.N) (r : Fin 1024) (j : Fin 256) :
    dv m c t r j = dmix m c (1024 * (7 - t.val % 8) + r) (1024 + (256 * (t.val / 8) + j)) := by
  have ht : t.val < 32 := t.isLt
  rw [dmix, dif_pos (by omega)]
  unfold dv
  blk_simp [iblk, idx0]
  rw [V_main_arg1]
  refine congrArg _ ?_
  blk_ext [idx0]
@[inherit_doc blk0] theorem blk1 (t : Fin cfg0.N) (r : Fin 1024) (j : Fin 256) :
    iblk m c 1 t (ix2 r j) = proj m c (1024 * (7 - t.val % 8) + r) (1280 + (256 * (t.val / 8) + j)) := by
  have ht : t.val < 32 := t.isLt
  rw [proj, dif_pos (by omega)]
  blk_simp [iblk, idx1]
  rw [V_main_arg0]
  refine congrArg _ ?_
  blk_ext [idx1]
@[inherit_doc blk0] theorem blk2 (t : Fin cfg0.N) (r : Fin 1024) (j : Fin 256) :
    gv m c t r j = proj m c (1024 * (7 - t.val % 8) + r) (2304 + (256 * (t.val / 8) + j)) := by
  have ht : t.val < 32 := t.isLt
  rw [proj, dif_pos (by omega)]
  unfold gv
  blk_simp [iblk, idx2]
  rw [V_main_arg0]
  refine congrArg _ ?_
  blk_ext [idx2]
@[inherit_doc blk0] theorem blk3 (t : Fin cfg0.N) (r : Fin 1024) (j : Fin 256) :
    hv m c t r j = proj m c (1024 * (7 - t.val % 8) + r) (3328 + (256 * (t.val / 8) + j)) := by
  have ht : t.val < 32 := t.isLt
  rw [proj, dif_pos (by omega)]
  unfold hv
  blk_simp [iblk, idx3]
  rw [V_main_arg0]
  refine congrArg _ ?_
  blk_ext [idx3]

/-- An entry of the blocks of the rows before. -/
theorem blk4 (t : Fin cfg0.N) (r : Fin 16) (j : Fin 256) :
    iblk m c 4 t (ix2 r j) = proj m c (16 * (64 * (7 - t.val % 8) - 1) + r) (2304 + (256 * (t.val / 8) + j)) := by
  have ht : t.val < 32 := t.isLt
  rw [proj, dif_pos (by omega)]
  blk_simp [iblk, idx4]
  rw [V_main_arg0]
  refine congrArg _ ?_
  blk_ext [idx4]
@[inherit_doc blk4] theorem blk5 (t : Fin cfg0.N) (r : Fin 16) (j : Fin 256) :
    iblk m c 5 t (ix2 r j) = proj m c (16 * (64 * (7 - t.val % 8) - 1) + r) (3328 + (256 * (t.val / 8) + j)) := by
  have ht : t.val < 32 := t.isLt
  rw [proj, dif_pos (by omega)]
  blk_simp [iblk, idx5]
  rw [V_main_arg0]
  refine congrArg _ ?_
  blk_ext [idx5]

/-- The first three rows of a filter with rows of zeros after the third. -/
theorem pad_row (z : FVec Ideal S3x1024 .f32) (r : Fin 8) (j : Fin 1024) (h : r.val < 3) :
    pad S8x1024 ![0, 0] ![5, 0] ![0, 0] z (sitofp .f32 (constantI S_ 32 0#32)) pads_S3x1024_S8x1024_050_000 h_S_ (ix2 r j) = z (ix2 ⟨r, h⟩ j) := by
  pointwise
  exact dif_pos h

/-- The coefficients as the call is given them, with rows of zeros after the third. -/
theorem padded (r : Fin 8) (j : Fin 1024) (h : r.val < 3) : V m c main_v0 (ix2 r j) = f m c ⟨r, h⟩ j := by
  rw [f, dif_pos j.isLt]
  entry_read
  simp only [hostOps0, hostOps0_1, List.flatten_cons, List.flatten_nil, List.cons_append, List.nil_append, List.append_nil]
  after_results
  exact pad_row (m ((c.tc : Thread nD τ).loc main_arg2)) r j h

/-- An entry of the coefficients' block. -/
theorem blk6 (t : Fin cfg0.N) (r : Fin 8) (l : Fin 256) (h : r.val < 3) : iblk m c 6 t (ix2 r l) = f m c ⟨r, h⟩ (256 * (t.val / 8) + l) := by
  have ht : t.val < 32 := t.isLt
  refine Eq.trans ?_ (padded m c r ⟨256 * (t.val / 8) + l, by omega⟩ h)
  blk_simp [iblk, idx6]
  refine congrArg _ ?_
  blk_ext [idx6]

/-- A point's cotangents, its rows, and the rows before them. -/
theorem cot_eq (t : Fin cfg0.N) (r : Fin 1024) (j : Fin 256) :
    cot m c t (ix2 r j) = dy m c (1024 * (7 - t.val % 8) + r) (256 * (t.val / 8) + j) :=
  (cots_apply ..).trans (congrArg₂ (fun a b : EReal => a * b) (blk0 ..) (blk1 ..))
@[inherit_doc cot_eq] theorem row_eq (t : Fin cfg0.N) (r : Fin 1024) (j : Fin 256) :
    row m c t (ix2 r j) = u m c (1024 * (7 - t.val % 8) + r) (256 * (t.val / 8) + j) :=
  (rows_apply ..).trans (congrArg₂ (fun a b : EReal => a * b) (blk2 ..) (blk3 ..))
@[inherit_doc cot_eq] theorem led_eq (t : Fin cfg0.N) (q : Fin 8) (j : Fin 256) :
    led m c t (ix2 q j) = if 7 - t.val % 8 = 0 then 0 else u m c (1024 * (7 - t.val % 8) - 8 + q) (256 * (t.val / 8) + j) := by
  refine (lead_apply ..).trans ?_
  rw [coord1]
  by_cases h : t.val % 8 = 7
  · rw [if_pos h, if_pos (by omega)]
  · rw [if_neg h, if_neg (by omega)]
    refine (congrArg₂ (fun a b : EReal => a * b) (blk4 ..) (blk5 ..)).trans ?_
    have e : 16 * (64 * (7 - t.val % 8) - 1) + (8 + q.val) = 1024 * (7 - t.val % 8) - 8 + q.val := by omega
    show proj m c (16 * (64 * (7 - t.val % 8) - 1) + (8 + q.val)) _ * proj m c (16 * (64 * (7 - t.val % 8) - 1) + (8 + q.val)) _ = _
    rw [e]
    rfl

/-- The rows carried into a point are the first of the block after. -/
theorem carried_eq (t : Fin cfg0.N) (q : Fin 8) (j : Fin 256) :
    carried m c t (ix2 q j) = if 7 - t.val % 8 = 7 then 0 else dy m c (1024 * (7 - t.val % 8 + 1) + q) (256 * (t.val / 8) + j) := by
  unfold carried
  by_cases h : t.val % 8 = 0
  · rw [if_pos h, if_pos (by omega)]
  · rw [if_neg h, if_neg (by omega)]
    refine ((left9 m c ⟨t.val - 1, Nat.lt_of_le_of_lt (Nat.sub_le _ _) t.isLt⟩ q j).trans (cot_eq ..)).trans ?_
    have e1 : 1024 * (7 - (t.val - 1) % 8) + q.val = 1024 * (7 - t.val % 8 + 1) + q.val := by omega
    have e2 : (t.val - 1) / 8 = t.val / 8 := by omega
    show dy m c (1024 * (7 - (t.val - 1) % 8) + q.val) (256 * ((t.val - 1) / 8) + j.val) = _
    rw [e1, e2]

/-- A point's columns: its cotangents, the carried ones, its rows, and the ones before. -/
theorem col_cot (t : Fin cfg0.N) (j : Fin 256) :
    col (cot m c t) j = fun r : Fin 1024 => (fun s => dy m c s (256 * (t.val / 8) + j)) (1024 * (7 - t.val % 8) + r) := funext fun r => cot_eq ..
@[inherit_doc col_cot] theorem col_carried (t : Fin cfg0.N) (j : Fin 256) :
    col8 (carried m c t) j = fun q : Fin 8 => if 7 - t.val % 8 = 7 then 0 else (fun s => dy m c s (256 * (t.val / 8) + j)) (1024 * (7 - t.val % 8 + 1) + q) :=
  funext fun q => carried_eq ..
@[inherit_doc col_cot] theorem col_row (t : Fin cfg0.N) (j : Fin 256) :
    col (row m c t) j = fun r : Fin 1024 => (fun s => u m c s (256 * (t.val / 8) + j)) (1024 * (7 - t.val % 8) + r) := funext fun r => row_eq ..
@[inherit_doc col_cot] theorem col_led (t : Fin cfg0.N) (j : Fin 256) :
    col8 (led m c t) j = fun q : Fin 8 => if 7 - t.val % 8 = 0 then 0 else (fun s => u m c s (256 * (t.val / 8) + j)) (1024 * (7 - t.val % 8) - 8 + q) :=
  funext fun q => led_eq ..

/-- Looking downwards and upwards inside a point's blocks. -/
theorem below_col (t : Fin cfg0.N) (d : ℕ) (hd : d ≤ 8) (r : Fin 1024) (j : Fin 256) :
    below (col (cot m c t) j) (col8 (carried m c t) j) d hd r = next (fun s => dy m c s (256 * (t.val / 8) + j)) d (1024 * (7 - t.val % 8) + r) := by
  have h7 : 7 - t.val % 8 ≤ 7 := Nat.sub_le _ _
  rw [col_cot, col_carried]
  exact below_eq (fun s => dy m c s (256 * (t.val / 8) + j)) (7 - t.val % 8) d h7 hd r
@[inherit_doc below_col] theorem above_col (t : Fin cfg0.N) (d : ℕ) (hd : d ≤ 8) (r : Fin 1024) (j : Fin 256) :
    above (col (row m c t) j) (col8 (led m c t) j) d hd r = past (fun s => u m c s (256 * (t.val / 8) + j)) d (1024 * (7 - t.val % 8) + r) := by
  rw [col_row, col_led]
  exact above_eq (fun s => u m c s (256 * (t.val / 8) + j)) (7 - t.val % 8) d hd r

/-- What a point's two filters give. -/
theorem back_eq (t : Fin cfg0.N) (r : Fin 1024) (j : Fin 256) :
    filter (col (cot m c t) j) (col8 (carried m c t) j) (col8 (iblk m c 6 t) j) r = du m c (1024 * (7 - t.val % 8) + r) (256 * (t.val / 8) + j) := by
  unfold filter du
  rw [below_col, below_col]
  exact congrArg₂ (· + ·) (congrArg₂ (· + ·) (congrArg₂ (fun a b : EReal => a * b) (blk6 m c t 2 j (by decide)) (cot_eq ..))
    (congrArg (· * _) (blk6 m c t 1 j (by decide)))) (congrArg (· * _) (blk6 m c t 0 j (by decide)))
@[inherit_doc back_eq] theorem conv_eq (t : Fin cfg0.N) (r : Fin 1024) (j : Fin 256) :
    Cert.UpIdeal.Call.filter (col (row m c t) j) (col8 (led m c t) j) (col8 (iblk m c 6 t) j) r = conv m c (1024 * (7 - t.val % 8) + r) (256 * (t.val / 8) + j) := by
  unfold Cert.UpIdeal.Call.filter conv
  rw [above_col, above_col]
  exact congrArg₂ (· + ·) (congrArg₂ (· + ·) (congrArg (· * _) (blk6 m c t 0 j (by decide))) (congrArg (· * _) (blk6 m c t 1 j (by decide))))
    (congrArg₂ (fun a b : EReal => a * b) (blk6 m c t 2 j (by decide)) (row_eq ..))

/-- An entry of the cotangents a point leaves. -/
theorem left_eq (t : Fin cfg0.N) (e : Fin 3) (r : Fin 1024) (j : Fin 256) :
    (outsAt0 m c t.val t.isLt).1 (ix3 e r j) = back3 m c e (1024 * (7 - t.val % 8) + r) (256 * (t.val / 8) + j) := by
  refine (left7 ..).trans ?_
  unfold back3
  rw [back_eq, conv_eq, blk0, blk2, blk3]

/-- The first result array. -/
theorem final7 : (dats m 0 c).arrAt 7 cfg0.N = fun i => back3 m c (i 0).val (i 1).val (i 2).val := by
  refine (dats m 0 c).arrAt_eq_of_covers 7 _ (by decide +kernel) fun t hf y => ?_
  blk_simp
  rw [after0_7]
  have h0 : (y 0).val < 3 := (y 0).isLt
  have h1 : (y 1).val < 1024 := (y 1).isLt
  have h2 : (y 2).val < 256 := (y 2).isLt
  have e0 : win0_7.index t 0 = 0 := by rw [idx7]; rfl
  have e1 : win0_7.index t 1 = 7 - t.val % 8 := by rw [idx7]; rfl
  have e2 : win0_7.index t 2 = t.val / 8 := by rw [idx7]; rfl
  have g0 : win0_7.index t 0 * 3 + (y 0).val = (y 0).val := by rw [e0]; omega
  have g1 : win0_7.index t 1 * 1024 + (y 1).val = 1024 * (7 - t.val % 8) + (y 1).val := by rw [e1]; omega
  have g2 : win0_7.index t 2 * 256 + (y 2).val = 256 * (t.val / 8) + (y 2).val := by rw [e2]; omega
  show _ = back3 m c (win0_7.index t 0 * 3 + (y 0).val) (win0_7.index t 1 * 1024 + (y 1).val) (win0_7.index t 2 * 256 + (y 2).val)
  rw [g0, g1, g2]
  have ey : y = ix3 ⟨(y 0).val, h0⟩ ⟨(y 1).val, h1⟩ ⟨(y 2).val, h2⟩ := by funext a; fin_cases a <;> rfl
  exact (congrArg _ ey).trans (left_eq ..)

/-- What a block of rows gives an entry of the coefficients' gradient. -/
def part (q j b : ℕ) : EReal := if q < 3 then ∑ p : Fin 1024, next (fun r => dy m c r j) (2 - q) (1024 * b + p) * u m c (1024 * b + p) j else 0

theorem more_eq (t : Fin cfg0.N) (q : Fin 8) (j : Fin 256) :
    (if q.val < 3 then more m c t q j else 0) = part m c q (256 * (t.val / 8) + j) (7 - t.val % 8) := by
  have hr : ∀ r : Fin 1024, col (row m c t) j r = u m c (1024 * (7 - t.val % 8) + r) (256 * (t.val / 8) + j) := fun r => row_eq ..
  unfold part
  by_cases h0 : q.val = 0
  · obtain rfl : q = 0 := Fin.ext h0
    refine (more0 m c t j).trans (Eq.trans ?_ (if_pos (by decide)).symm)
    exact Finset.sum_congr rfl fun r _ => congrArg₂ (· * ·) (below_col ..) (hr r)
  by_cases h1 : q.val = 1
  · obtain rfl : q = 1 := Fin.ext h1
    refine (more1 m c t j).trans (Eq.trans ?_ (if_pos (by decide)).symm)
    exact Finset.sum_congr rfl fun r _ => congrArg₂ (· * ·) (below_col ..) (hr r)
  by_cases h2 : q.val = 2
  · obtain rfl : q = 2 := Fin.ext h2
    refine (more2 m c t j).trans (Eq.trans ?_ (if_pos (by decide)).symm)
    refine Finset.sum_congr rfl fun r _ => congrArg₂ (· * ·) ((cot_eq ..).trans ?_) (hr r)
    exact (if_pos (show 1024 * (7 - t.val % 8) + r.val + (2 - 2) < 8192 by omega)).symm
  · rw [if_neg (by omega), if_neg (by omega)]

/-- The sums at the last row block, and after. -/
theorem sums_first (t : Fin cfg0.N) (h0 : t.val % 8 = 0) (q : Fin 8) (j : Fin 256) : (outsAt0 m c t.val t.isLt).2.1 (ix2 q j)
    = part m c q (256 * (t.val / 8) + j) (7 - t.val % 8) := by
  have z : sums m c t (ix2 q j) = 0 := by unfold sums; exact if_pos h0
  rw [left8, more_eq, z, zero_add]
@[inherit_doc sums_first] theorem sums_next (t : Fin cfg0.N) (h0 : t.val % 8 ≠ 0) (q : Fin 8) (j : Fin 256) : (outsAt0 m c t.val t.isLt).2.1 (ix2 q j)
    = (before m c t).2.1 (ix2 q j) + part m c q (256 * (t.val / 8) + j) (7 - t.val % 8) := by
  have z : sums m c t (ix2 q j) = (before m c t).2.1 (ix2 q j) := by unfold sums; exact if_neg h0
  rw [left8, more_eq, z]

/-- The sums after each point: over the blocks of rows met so far, from the last. -/
theorem sums_eq (n : ℕ) (h : n < cfg0.N) (q : Fin 8) (j : Fin 256) : (outsAt0 m c n h).2.1 (ix2 q j)
    = ∑ i ∈ Finset.range (n % 8 + 1), part m c q (256 * (n / 8) + j) (7 - i) := by
  induction n with
  | zero => exact (sums_first m c ⟨0, h⟩ rfl q j).trans (Finset.sum_range_one fun i => part m c q (256 * (0 / 8) + j) (7 - i)).symm
  | succ n ih =>
    by_cases h0 : (n + 1) % 8 = 0
    · refine (sums_first m c ⟨n + 1, h⟩ h0 q j).trans ?_
      show part m c q (256 * ((n + 1) / 8) + j) (7 - (n + 1) % 8) = _
      rw [h0]
      exact (Finset.sum_range_one fun i => part m c q (256 * ((n + 1) / 8) + j) (7 - i)).symm
    · have d1 : (n + 1) % 8 = n % 8 + 1 := by omega
      have d2 : (n + 1) / 8 = n / 8 := by omega
      have b : (before m c ⟨n + 1, h⟩).2.1 (ix2 q j) = ∑ i ∈ Finset.range (n % 8 + 1), part m c q (256 * (n / 8) + j) (7 - i) := ih (by omega)
      refine (sums_next m c ⟨n + 1, h⟩ h0 q j).trans ?_
      rw [b]
      show _ + part m c q (256 * ((n + 1) / 8) + j) (7 - (n + 1) % 8) = _
      rw [d1, d2, Finset.sum_range_succ _ (n % 8 + 1)]

theorem parts (q j : ℕ) : ∑ i ∈ Finset.range 8, part m c q j (7 - i) = dw m c q j := by
  unfold part dw
  by_cases h : q < 3
  · simp only [if_pos h]
    exact blocks fun r => next (fun r => dy m c r j) (2 - q) r * u m c r j
  · simp only [if_neg h, Finset.sum_const_zero]

/-- The second result array. -/
theorem final8 : (dats m 0 c).arrAt 8 cfg0.N = fun i => dw m c (i 0).val (i 1).val := by
  refine (dats m 0 c).arrAt_eq_of_covers 8 _ (by decide +kernel) fun t hf y => ?_
  blk_simp
  have hm : t.val % 8 = 7 := (flush0_8 t).mp hf
  rw [after0_8]
  have h0 : (y 0).val < 8 := (y 0).isLt
  have h1 : (y 1).val < 256 := (y 1).isLt
  have e0 : win0_8.index t 0 = 0 := by rw [idx8]; rfl
  have e1 : win0_8.index t 1 = t.val / 8 := by rw [idx8]; rfl
  have g0 : win0_8.index t 0 * 8 + (y 0).val = (y 0).val := by rw [e0]; omega
  have g1 : win0_8.index t 1 * 256 + (y 1).val = 256 * (t.val / 8) + (y 1).val := by rw [e1]; omega
  show _ = dw m c (win0_8.index t 0 * 8 + (y 0).val) (win0_8.index t 1 * 256 + (y 1).val)
  rw [g0, g1]
  have ey : y = ix2 ⟨(y 0).val, h0⟩ ⟨(y 1).val, h1⟩ := by funext a; fin_cases a <;> rfl
  refine (congrArg _ ey).trans ((sums_eq m c t.val t.isLt ..).trans ?_)
  rw [hm]
  exact parts ..

end Cert.MixIdeal.Call

end
-- ==== Proof.MixRef.lean ====
/-
  The reference of the call that takes the mixer's cotangents back through the gated convolution, read entry by entry
  over the extended reals.
-/
module

public import proofs.«01_k».proof.Proof.Gen.MixRefIdeal.Read
public import proofs.«01_k».proof.Proof.MixArrays

@[expose] public section

set_option maxRecDepth 16384

noncomputable section

namespace Cert.MixRefIdeal.Entries

open Cert.MixRefIdeal Cert.MixRefIdeal.Read Idealize.ShloMosaic Idealize.ShloMosaic.TcCoe
open Cert.MixIdeal.Call (proj dmix f u conv dy du back3 dw)
open Cert.MidIdeal.Call (past next)

variable (m : (ℓ : Loc Cert.MixIdeal.nD Cert.MixIdeal.τ Cert.MixIdeal.sig) → Buf (Elt Ideal) ℓ) (c : Dev Cert.MixIdeal.nD)

/-- The arguments, as tensors: the projected rows, the mixer's cotangents, the coefficients. -/
abbrev rows : S8192x4352.Idx → EReal := m ((c.tc : Thread Cert.MixIdeal.nD Cert.MixIdeal.τ).loc Cert.MixIdeal.main_arg0)
@[inherit_doc rows] abbrev cots : S8192x2048.Idx → EReal := m ((c.tc : Thread Cert.MixIdeal.nD Cert.MixIdeal.τ).loc Cert.MixIdeal.main_arg1)
@[inherit_doc rows] abbrev coefs : S3x1024.Idx → EReal := m ((c.tc : Thread Cert.MixIdeal.nD Cert.MixIdeal.τ).loc Cert.MixIdeal.main_arg2)

/-- The arguments at an entry. -/
theorem proj_at (r : Fin 8192) (j : ℕ) (h : j < 4352) : rows m c (ix2 r ⟨j, h⟩) = proj m c r j := by rw [proj, dif_pos ⟨r.isLt, h⟩]
@[inherit_doc proj_at] theorem dmix_at (r : Fin 8192) (j : ℕ) (h : j < 2048) : cots m c (ix2 r ⟨j, h⟩) = dmix m c r j := by rw [dmix, dif_pos ⟨r.isLt, h⟩]
@[inherit_doc proj_at] theorem f_at (d : Fin 3) (j : Fin 1024) : f m c d j = coefs m c (ix2 d j) := dif_pos j.isLt

/-- The two gates, what the first gates, and the result's cotangents. -/
theorem v5 (r : Fin 8192) (j : Fin 1024) : val_main_v5 (F := Ideal) (rows m c) (ix3 0 r j) = proj m c r (1280 + j) := by
  pointwise [val_main_v5, val_main_v4, val_main_v1, val_main_v0]
  exact proj_at ..
@[inherit_doc v5] theorem v6 (r : Fin 8192) (j : Fin 1024) : val_main_v6 (F := Ideal) (rows m c) (ix3 0 r j) = proj m c r (2304 + j) := by
  pointwise [val_main_v6, val_main_v4, val_main_v1, val_main_v0]
  exact (proj_at ..).trans (congrArg (proj m c r) (show 1280 + (1024 + j.val) = 2304 + j.val by omega))
@[inherit_doc v5] theorem v7 (r : Fin 8192) (j : Fin 1024) : val_main_v7 (F := Ideal) (rows m c) (ix3 0 r j) = proj m c r (3328 + j) := by
  pointwise [val_main_v7, val_main_v4, val_main_v1, val_main_v0]
  exact (proj_at ..).trans (congrArg (proj m c r) (show 1280 + (2048 + j.val) = 3328 + j.val by omega))
@[inherit_doc v5] theorem v35 (r : Fin 8192) (j : Fin 1024) : val_main_v35 (F := Ideal) (cots m c) (ix3 0 r j) = dmix m c r (1024 + j) := by
  pointwise [val_main_v35, val_main_v3, val_main_v2]
  exact dmix_at ..

/-- The rows the filter is given, and the same after two rows of zeros. -/
theorem v8 (r : Fin 8192) (j : Fin 1024) : val_main_v8 (F := Ideal) (rows m c) (ix3 0 r j) = u m c r j := by
  pointwise [val_main_v8]
  rw [v6, v7]
  rfl
@[inherit_doc v8] theorem v10 (i : Fin 8194) (j : Fin 1024) : val_main_v10 (F := Ideal) (rows m c) (ix3 0 i j) = past (fun r => u m c r j) 2 i := by
  have e : val_main_v10 (F := Ideal) (rows m c) (ix3 0 i j)
      = if h : i.val < 2 then 0 else val_main_v8 (F := Ideal) (rows m c) (ix3 0 ⟨i.val - 2, by omega⟩ j) := by
    pointwise [val_main_v10, val_main_v9, val_main_cst]
  rw [e]
  unfold past
  by_cases h : i.val < 2
  · rw [dif_pos h, if_pos h]
  · rw [dif_neg h, if_neg h, v8]

theorem v14 (r : Fin 8192) (j : Fin 1024) : val_main_v14 (F := Ideal) (rows m c) (ix3 0 r j) = past (fun r => u m c r j) 2 r := by
  pointwise [val_main_v14]
  rw [v10]
theorem v22 (r : Fin 8192) (j : Fin 1024) : val_main_v22 (F := Ideal) (rows m c) (ix3 0 r j) = past (fun r => u m c r j) 1 r := by
  pointwise [val_main_v22]
  rw [v10]
  unfold past
  by_cases h : r.val < 1
  · rw [if_pos h, if_pos (by show 1 + r.val < 2; omega)]
  · rw [if_neg h, if_neg (by show ¬ 1 + r.val < 2; omega)]
    exact congrArg (fun r => u m c r j) (by show 1 + r.val - 2 = r.val - 1; omega)
theorem v29 (r : Fin 8192) (j : Fin 1024) : val_main_v29 (F := Ideal) (rows m c) (ix3 0 r j) = u m c r j := by
  pointwise [val_main_v29]
  rw [v10]
  unfold past
  rw [if_neg (by show ¬ 2 + r.val < 2; omega)]
  exact congrArg (fun r => u m c r j) (by show 2 + r.val - 2 = r.val; omega)

/-- The filter's result. -/
theorem v33 (r : Fin 8192) (j : Fin 1024) : val_main_v33 (F := Ideal) (rows m c) (coefs m c) (ix3 0 r j) = conv m c r j := by
  pointwise [val_main_v33, val_main_v32, val_main_v31, val_main_v30, val_main_v28, val_main_v27, val_main_v26, val_main_v25, val_main_v24, val_main_v23, val_main_v21, val_main_v20, val_main_v19, val_main_v18, val_main_v17, val_main_v16, val_main_v15, val_main_v13, val_main_v12, val_main_cst_1]
  rw [v14, v22, v29]
  unfold conv
  rw [f_at, f_at, f_at]

/-- The cotangents of the filter's result. -/
theorem v36 (r : Fin 8192) (j : Fin 1024) : val_main_v36 (F := Ideal) (rows m c) (cots m c) (ix3 0 r j) = dy m c r j := by
  pointwise [val_main_v36]
  rw [v5, v35]
  exact mul_comm _ _

/-- The three filtered shifts, added. -/
theorem v65 (i : Fin 8194) (j : Fin 1024) : val_main_v65 (F := Ideal) (rows m c) (cots m c) (coefs m c) (ix3 0 i j)
    = (if 2 ≤ i.val ∧ i.val - 2 < 8192 then f m c 2 j * dy m c (i.val - 2) j else 0)
      + (if 1 ≤ i.val ∧ i.val - 1 < 8192 then f m c 1 j * dy m c (i.val - 1) j else 0)
      + (if i.val < 8192 then f m c 0 j * dy m c i j else 0) := by
  have e : val_main_v65 (F := Ideal) (rows m c) (cots m c) (coefs m c) (ix3 0 i j)
      = (if h : 2 ≤ i.val ∧ i.val - 2 < 8192 then coefs m c (ix2 2 j) * val_main_v36 (F := Ideal) (rows m c) (cots m c) (ix3 0 ⟨i.val - 2, h.2⟩ j) else 0)
        + (if h : 1 ≤ i.val ∧ i.val - 1 < 8192 then coefs m c (ix2 1 j) * val_main_v36 (F := Ideal) (rows m c) (cots m c) (ix3 0 ⟨i.val - 1, h.2⟩ j) else 0)
        + (if h : i.val < 8192 then coefs m c (ix2 0 j) * val_main_v36 (F := Ideal) (rows m c) (cots m c) (ix3 0 ⟨i.val, h⟩ j) else 0) := by
    pointwise [val_main_v65, val_main_v54, val_main_v64, val_main_cst_12, val_main_v59, val_main_v58, val_main_v53, val_main_cst_8, val_main_v48, val_main_v47, val_main_v44, val_main_cst_4, val_main_v39, val_main_v38, val_main_v30, val_main_v28, val_main_v27, val_main_v23, val_main_v21, val_main_v20, val_main_v15, val_main_v13, val_main_v12]
  rw [e, f_at, f_at, f_at]
  refine congrArg₂ (· + ·) (congrArg₂ (· + ·) ?_ ?_) ?_
  · split
    · rw [v36]
    · rfl
  · split
    · rw [v36]
    · rfl
  · split
    · rw [v36]
    · rfl

/-- The cotangents of the rows the filter was given. -/
theorem v70 (r : Fin 8192) (j : Fin 1024) : val_main_v70 (F := Ideal) (rows m c) (cots m c) (coefs m c) (ix3 0 r j) = du m c r j := by
  pointwise [val_main_v70]
  rw [v65]
  unfold du next
  refine congrArg₂ (· + ·) (congrArg₂ (· + ·) ?_ ?_) ?_
  · rw [if_pos (by show 2 ≤ 2 + r.val ∧ 2 + r.val - 2 < 8192; omega)]
    exact congrArg (fun k => f m c 2 j * dy m c k j) (show 2 + r.val - 2 = r.val by omega)
  · by_cases h1 : r.val + 1 < 8192
    · rw [if_pos (by show 1 ≤ 2 + r.val ∧ 2 + r.val - 1 < 8192; omega), if_pos h1]
      exact congrArg (fun k => f m c 1 j * dy m c k j) (show 2 + r.val - 1 = r.val + 1 by omega)
    · rw [if_neg (by show ¬ (1 ≤ 2 + r.val ∧ 2 + r.val - 1 < 8192); omega), if_neg h1, mul_zero]
  · by_cases h1 : r.val + 2 < 8192
    · rw [if_pos (by show 2 + r.val < 8192; omega), if_pos h1]
      exact congrArg (fun k => f m c 0 j * dy m c k j) (show 2 + r.val = r.val + 2 by omega)
    · rw [if_neg (by show ¬ 2 + r.val < 8192; omega), if_neg h1, mul_zero]

/-- The first result: the three arguments' cotangents. -/
theorem v74 (e : Fin 3) (r : Fin 8192) (j : Fin 1024) :
    val_main_v74 (F := Ideal) (rows m c) (cots m c) (coefs m c) (ix3 e r j) = back3 m c e r j := by
  unfold back3
  match e with
  | ⟨0, _⟩ =>
    rw [if_pos rfl]
    pointwise [val_main_v74, val_main_v73, val_main_v37]
    rw [v33, v35]
  | ⟨1, _⟩ =>
    rw [if_neg (by show ¬ 1 = 0; decide), if_pos rfl]
    pointwise [val_main_v74, val_main_v73, val_main_v72]
    rw [v70, v7]
  | ⟨2, _⟩ =>
    rw [if_neg (by show ¬ 2 = 0; decide), if_neg (by show ¬ 2 = 1; decide)]
    pointwise [val_main_v74, val_main_v73, val_main_v71]
    rw [v6, v70]
    exact mul_comm _ _

/-- A sum over the two axes of size one is the one entry. -/
theorem lone01 (h : S1x1x1024.ReducesTo [0, 1] S1024) (v : S1x1x1024.Idx → EReal) (e : EReal) (l : Fin 1024) :
    Ideal.hostReduceAdd h v e (ix1 l) = e + v (ix3 0 0 l) := by
  refine congrArg (e + ·) (Eq.trans ?_ (Finset.sum_singleton v (ix3 0 0 l)))
  refine Finset.sum_congr (Finset.ext fun i => ?_) fun _ _ => rfl
  rw [Finset.mem_filter, Finset.mem_singleton]
  constructor
  · rintro ⟨-, hi⟩
    have e2 : (h.drop i 0 : ℕ) = i 2 := h.drop_apply_val_of_eq i 0 2
    rw [hi] at e2
    funext a
    match a with
    | ⟨0, _⟩ => exact Subsingleton.elim (α := Fin 1) _ _
    | ⟨1, _⟩ => exact Subsingleton.elim (α := Fin 1) _ _
    | ⟨2, _⟩ => exact Fin.ext e2.symm
  · rintro rfl
    refine ⟨Finset.mem_univ _, funext fun b => ?_⟩
    match b with
    | ⟨0, _⟩ => exact Fin.ext (h.drop_apply_val_of_eq _ 0 2)

/-- The gradients of the three rows of coefficients. -/
theorem v43 (j : Fin 1024) : val_main_v43 (F := Ideal) (rows m c) (cots m c) (ix1 j) = ∑ r : Fin 8192, dy m c r j * u m c r j := by
  pointwise [val_main_v43, val_main_cst_3]
  rw [lone01]
  pointwise [val_main_v42, val_main_v41, val_main_v40, val_main_cst_2]
  simp only [v29, v36]
@[inherit_doc v43] theorem v52 (j : Fin 1024) : val_main_v52 (F := Ideal) (rows m c) (cots m c) (ix1 j)
    = ∑ r : Fin 8192, dy m c r j * past (fun r => u m c r j) 1 r := by
  pointwise [val_main_v52, val_main_cst_7]
  rw [lone01]
  pointwise [val_main_v51, val_main_v50, val_main_v49, val_main_cst_6]
  simp only [v22, v36]
@[inherit_doc v43] theorem v63 (j : Fin 1024) : val_main_v63 (F := Ideal) (rows m c) (cots m c) (ix1 j)
    = ∑ r : Fin 8192, dy m c r j * past (fun r => u m c r j) 2 r := by
  pointwise [val_main_v63, val_main_cst_11]
  rw [lone01]
  pointwise [val_main_v62, val_main_v61, val_main_v60, val_main_cst_10]
  simp only [v14, v36]

/-- The same, one over another. -/
theorem v68 (q : Fin 3) (j : Fin 1024) : val_main_v68 (F := Ideal) (rows m c) (cots m c) (ix2 q j)
    = ∑ r : Fin 8192, dy m c r j * past (fun r => u m c r j) (2 - q.val) r := by
  pointwise [val_main_v68, val_main_v67, val_main_v66, val_main_v57, val_main_v56, val_main_v55, val_main_v46, val_main_v45, val_main_cst_5, val_main_cst_9, val_main_cst_13]
  have hq := q.isLt
  by_cases h0 : q.val = 0
  · rw [dif_neg (by omega), dif_neg (by omega), dif_pos (by omega), zero_add, zero_add, v63, h0]
  by_cases h1 : q.val = 1
  · rw [dif_neg (by omega), dif_pos (by omega), dif_neg (by omega), zero_add, add_zero, v52, h1]
  · have h2 : q.val = 2 := by omega
    rw [dif_pos (by omega), dif_neg (by omega), dif_neg (by omega), add_zero, add_zero, v43, h2]
    refine Finset.sum_congr rfl fun r _ => congrArg _ ?_
    exact (if_neg (by omega)).symm

/-- The second result. -/
theorem v76 (q : Fin 8) (j : Fin 1024) : val_main_v76 (F := Ideal) (rows m c) (cots m c) (ix2 q j)
    = if q.val < 3 then ∑ r : Fin 8192, dy m c r j * past (fun r => u m c r j) (2 - q.val) r else 0 := by
  pointwise [val_main_v76, val_main_v75, val_main_cst_14]
  by_cases h : q.val < 3
  · rw [dif_pos h, if_pos h, v68]
  · rw [dif_neg h, if_neg h]

end Cert.MixRefIdeal.Entries

end
-- ==== Proof.Mixer.lean ====
/-
  The call that takes the mixer's cotangents back through the gated convolution gives what its reference gives, whatever
  the arguments hold.
-/
module

public import proofs.«01_k».proof.Defs
public import proofs.«01_k».proof.Proof.Gen.MixRefIdeal.Run
public import proofs.«01_k».proof.Proof.MixRef
public import proofs.«01_k».proof.Proof.Gate

@[expose] public section

set_option maxRecDepth 16384

noncomputable section

namespace Cert.Mixer

open Idealize.ShloMosaic Idealize.ShloMosaic.TcCoe
open Cert.MixIdeal.Call (u dy dw)
open Cert.MixRefIdeal.Entries (rows cots coefs)

/-- The gradient of the filter's coefficients: the sums of the rows against the later cotangents are the sums of the
    cotangents against the earlier rows. -/
theorem dw_eq (m : (ℓ : Loc Cert.MixIdeal.nD Cert.MixIdeal.τ Cert.MixIdeal.sig) → Buf (Elt Ideal) ℓ) (c : Dev Cert.MixIdeal.nD) (q : Fin 8) (j : Fin 1024) :
    MixRefIdeal.Read.val_main_v76 (F := Ideal) (rows m c) (cots m c) (ix2 q j) = dw m c q j := by
  refine (MixRefIdeal.Entries.v76 ..).trans ?_
  unfold dw
  exact if_congr Iff.rfl (Gate.shift (fun r => dy m c r j) (fun r => u m c r j) (2 - q.val) (by omega)) rfl

/-- The reference ends, and nothing of its semaphores is left. -/
theorem mix_ref_frame : Cert.quiescent_MixRefIdeal := fun m g _ =>
  (θ_run Cert.MixRefIdeal.defs _ _).mono (fun r h => ⟨fun c => (h c).2.2, sem_eq_zero_of_no_sems (by decide) r.2⟩) (Cert.MixRefIdeal.Value.run m g)

/-- The two arrays of the call are the reference's. -/
theorem mix_values : Cert.algebraic_MixIdeal_MixRefIdeal := by
  intro m g m' g' _ hagree
  refine ⟨fun c => (Cert.MixIdeal.Gen.dats m 0 c).arrAt 7 Cert.MixIdeal.cfg0.N, fun c => (Cert.MixIdeal.Gen.dats m 0 c).arrAt 8 Cert.MixIdeal.cfg0.N,
    Cert.MixIdeal.Value.run_blocks m g, ?_⟩
  refine (θ_run Cert.MixRefIdeal.defs _ _).mono (fun r h c => ⟨(h c).1.trans ?_, (h c).2.1.trans ?_, (h c).2.2⟩) (Cert.MixRefIdeal.Value.run m' g')
  · refine (Cert.MixRefIdeal.Read.val_main_v74_eq (F := Ideal) _ _).trans ?_
    refine Eq.trans ?_ (Cert.MixIdeal.Call.final7 m c).symm
    refine (congrFun (congrFun (congrArg (Cert.MixRefIdeal.Read.val_main_v74 (F := Ideal)) (hagree c).1) _) _).trans ?_
    refine (congrFun (congrArg (Cert.MixRefIdeal.Read.val_main_v74 (F := Ideal) (rows m c)) (hagree c).2.1) _).trans ?_
    refine (congrArg (Cert.MixRefIdeal.Read.val_main_v74 (F := Ideal) (rows m c) (cots m c)) (hagree c).2.2).trans ?_
    exact Forward.ext3 fun e r j => MixRefIdeal.Entries.v74 m c e r j
  · refine (Cert.MixRefIdeal.Read.val_main_v76_eq (F := Ideal) _ _).trans ?_
    refine Eq.trans ?_ (Cert.MixIdeal.Call.final8 m c).symm
    refine (congrFun (congrArg (Cert.MixRefIdeal.Read.val_main_v76 (F := Ideal)) (hagree c).1) _).trans ?_
    refine (congrArg (Cert.MixRefIdeal.Read.val_main_v76 (F := Ideal) (rows m c)) (hagree c).2.1).trans ?_
    exact Products.ext2 fun q j => dw_eq m c q j

end Cert.Mixer

end
-- ==== Proof.DownRef.lean ====
/-
  The reference of the call that multiplies by the feed-forward block's second weight, takes the loss and goes back
  through the second normalisation, read entry by entry over the extended reals.
-/
module

public import proofs.«01_k».proof.Proof.Gen.DownRefIdeal.Read
public import proofs.«01_k».proof.Proof.LnRef

@[expose] public section

set_option maxRecDepth 16384

noncomputable section

namespace Cert.DownRefIdeal.Entries

open Cert.DownRefIdeal Cert.DownRefIdeal.Read Idealize.ShloMosaic
open Cert.LnIdeal.Call (al cols mean factor)
open Cert.LnRefIdeal.Entries (spread dvar back' two)

variable (x0 : (⟨S8192x5632, .bf16⟩ : BufTy).Contents (Elt Ideal)) (x1 : (⟨S5632x2048, .bf16⟩ : BufTy).Contents (Elt Ideal))
  (x2 x3 : (⟨S8192x2048, .f32⟩ : BufTy).Contents (Elt Ideal)) (x4 x5 : (⟨S1x2048, .f32⟩ : BufTy).Contents (Elt Ideal))

/-- A row before the normalisation. -/
def zr (r : Fin 8192) (l : Fin 2048) : EReal := al * x2 (ix2 r l) + ∑ j : Fin 5632, x0 (ix2 r j) * x1 (ix2 j l)

theorem v7 (r : Fin 8192) (l : Fin 2048) : val_main_v7 (F := Ideal) x0 x1 x2 (ix3 0 r l) = zr x0 x1 x2 r l := by
  pointwise [val_main_v7, val_main_v6, val_main_v5, val_main_v4, val_main_v3, val_main_v2, val_main_v1, val_main_v0, val_main_cst]
  rfl

theorem v13 (r : Fin 8192) : val_main_v13 (F := Ideal) x0 x1 x2 (ix3 0 r 0) = mean (zr x0 x1 x2 r) := by
  pointwise [val_main_v13, val_main_v12, val_main_v11, val_main_v10, val_main_cst_0, val_main_cst_1]
  simp only [v7]
  rfl

theorem v15 (r : Fin 8192) (l : Fin 2048) : val_main_v15 (F := Ideal) x0 x1 x2 (ix3 0 r l) = zr x0 x1 x2 r l - mean (zr x0 x1 x2 r) := by
  pointwise [val_main_v15, val_main_v14]
  rw [v7, v13]

theorem v24 (r : Fin 8192) (l : Fin 2048) : val_main_v24 (F := Ideal) x0 x1 x2 (ix3 0 r l) = zr x0 x1 x2 r l - mean (zr x0 x1 x2 r) := by
  pointwise [val_main_v24, val_main_v23]
  rw [v7, v13]

theorem v26 (r : Fin 8192) : val_main_v26 (F := Ideal) x0 x1 x2 (ix3 0 r 0) = spread (zr x0 x1 x2 r) := by
  pointwise [val_main_v26, val_main_v25, val_main_v22, val_main_v21, val_main_v20, val_main_v19, val_main_v16, val_main_cst_3, val_main_cst_4, val_main_cst_5]
  simp only [v15]
  rfl

theorem v27 (r : Fin 8192) : val_main_v27 (F := Ideal) x0 x1 x2 (ix3 0 r 0) = factor (zr x0 x1 x2 r) := by
  pointwise [val_main_v27]
  rw [v26]
  rfl

/-- The normalised rows. -/
def nr (r : Fin 8192) (l : Fin 2048) : EReal := (zr x0 x1 x2 r l - mean (zr x0 x1 x2 r)) * factor (zr x0 x1 x2 r)

theorem v32 (r : Fin 8192) (l : Fin 2048) : val_main_v32 (F := Ideal) x0 x1 x2 (ix3 0 r l) = nr x0 x1 x2 r l := by
  pointwise [val_main_v32, val_main_v31]
  rw [v24, v27]
  rfl

/-- How far the result is from the target. -/
def off (r : Fin 8192) (l : Fin 2048) : EReal := nr x0 x1 x2 r l * x4 (ix2 0 l) + x5 (ix2 0 l) - x3 (ix2 r l)

theorem v40 (r : Fin 8192) (l : Fin 2048) : val_main_v40 (F := Ideal) x0 x1 x2 x3 x4 x5 (ix3 0 r l) = off x0 x1 x2 x3 x4 x5 r l := by
  pointwise [val_main_v40, val_main_v39, val_main_v38, val_main_v37, val_main_v36, val_main_v35, val_main_v34, val_main_v33, val_main_v9, val_main_v8]
  rw [v32]
  rfl

/-- The literal one half. -/
def half : EReal := Ideal.ofBits FTy.f32 1056964608#32

/-- The cotangents of the normalisation's result. -/
def ct (r : Fin 8192) (l : Fin 2048) : EReal := Ideal.div (half * 1) cols * (two * off x0 x1 x2 x3 x4 x5 r l)

theorem v55 (r : Fin 8192) (l : Fin 2048) : val_main_v55 (F := Ideal) x0 x1 x2 x3 x4 x5 (ix3 0 r l) = ct x0 x1 x2 x3 x4 x5 r l := by
  pointwise [val_main_v55, val_main_v54, val_main_v53, val_main_v52, val_main_v51, val_main_v50, val_main_v43, val_main_v42, val_main_cst_7, val_main_cst_13, val_main_cst_14, val_main_cst_15]
  rw [v40]
  unfold ct
  simp only [mul_one]
  rfl

/-- A sum over all entries is the sum over rows and columns. -/
theorem sum_all (f : S1x8192x2048.Idx → EReal) : ∑ j, f j = ∑ r : Fin 8192, ∑ l : Fin 2048, f (ix3 0 r l) := by
  rw [← Fintype.sum_prod_type' fun (r : Fin 8192) (l : Fin 2048) => f (ix3 0 r l)]
  refine (Fintype.sum_bijective (fun p : Fin 8192 × Fin 2048 => (ix3 0 p.1 p.2 : S1x8192x2048.Idx)) ⟨fun p q h => ?_, fun j => ⟨(j 1, j 2), ?_⟩⟩ _ _ fun _ => rfl).symm
  · exact Prod.ext (congrFun h 1) (congrFun h 2)
  · funext a
    match a with
    | ⟨0, _⟩ => exact Subsingleton.elim (α := Fin 1) _ _
    | ⟨1, _⟩ => rfl
    | ⟨2, _⟩ => rfl

/-- The sum of the squares. -/
def total : EReal := ∑ r : Fin 8192, ∑ l : Fin 2048, off x0 x1 x2 x3 x4 x5 r l * off x0 x1 x2 x3 x4 x5 r l

theorem v49 (i : S_.Idx) : val_main_v49 (F := Ideal) x0 x1 x2 x3 x4 x5 i = total x0 x1 x2 x3 x4 x5 := by
  rw [val_main_v49_apply, sum_all]
  pointwise [val_main_cst_12, val_main_v41]
  simp only [v40]
  rfl

theorem v56 (l : Fin 2048) : val_main_v56 (F := Ideal) x0 x1 x2 x3 x4 x5 (ix2 0 l) = ∑ r : Fin 8192, ct x0 x1 x2 x3 x4 x5 r l := by
  pointwise [val_main_v56, val_main_cst_16]
  simp only [v55]

theorem v58 (l : Fin 2048) : val_main_v58 (F := Ideal) x0 x1 x2 x3 x4 x5 (ix1 l) = ∑ r : Fin 8192, ct x0 x1 x2 x3 x4 x5 r l := by
  pointwise [val_main_v58, val_main_cst_17]
  rw [LnRefIdeal.Entries.lone01]
  pointwise [val_main_v57]
  rw [v56]

theorem v60 (l : Fin 2048) : val_main_v60 (F := Ideal) x0 x1 x2 x3 x4 x5 (ix2 0 l)
    = ∑ r : Fin 8192, nr x0 x1 x2 r l * ct x0 x1 x2 x3 x4 x5 r l := by
  pointwise [val_main_v60, val_main_v59, val_main_cst_18]
  simp only [v55, v32]

theorem v64 (l : Fin 2048) : val_main_v64 (F := Ideal) x0 x1 x2 x3 x4 x5 (ix1 l)
    = ∑ r : Fin 8192, nr x0 x1 x2 r l * ct x0 x1 x2 x3 x4 x5 r l := by
  pointwise [val_main_v64, val_main_cst_19]
  rw [LnRefIdeal.Entries.lone01]
  pointwise [val_main_v61]
  rw [v60]

/-- The gradients of the gain and of the shift and the sum of the squares, as the reference returns them. -/
theorem v97 (q : Fin 8) (l : Fin 2048) : val_main_v97 (F := Ideal) x0 x1 x2 x3 x4 x5 (ix2 q l)
    = if q.val = 0 then ∑ r : Fin 8192, nr x0 x1 x2 r l * ct x0 x1 x2 x3 x4 x5 r l
      else if q.val = 1 then ∑ r : Fin 8192, ct x0 x1 x2 x3 x4 x5 r l
      else if q.val = 2 then total x0 x1 x2 x3 x4 x5 else 0 := by
  pointwise [val_main_v97, val_main_v96, val_main_v95, val_main_v94, val_main_v93, val_main_cst_27]
  simp only [v64, v58, v49]
  split_ifs <;> first | rfl | omega

/-! ## The rows' cotangents -/

/-- The cotangents of the centred and scaled rows. -/
def up (r : Fin 8192) (l : Fin 2048) : EReal := ct x0 x1 x2 x3 x4 x5 r l * x4 (ix2 0 l)

theorem v63 (r : Fin 8192) (l : Fin 2048) : val_main_v63 (F := Ideal) x0 x1 x2 x3 x4 x5 (ix3 0 r l) = up x0 x1 x2 x3 x4 x5 r l := by
  pointwise [val_main_v63, val_main_v62, val_main_v33, val_main_v8]
  rw [v55]
  rfl

theorem v75 (r : Fin 8192) : val_main_v75 (F := Ideal) x0 x1 x2 x3 x4 x5 (ix3 0 r 0) = dvar (up x0 x1 x2 x3 x4 x5 r) (zr x0 x1 x2 r) := by
  pointwise [val_main_v75, val_main_v74, val_main_v70, val_main_v67, val_main_v66, val_main_v65, val_main_v30, val_main_v29, val_main_v28, val_main_cst_6, val_main_cst_20, val_main_cst_22]
  simp only [v24, v63, v27, v26]
  rfl

theorem v79 (r : Fin 8192) (l : Fin 2048) : val_main_v79 (F := Ideal) x0 x1 x2 x3 x4 x5 (ix3 0 r l)
    = dvar (up x0 x1 x2 x3 x4 x5 r) (zr x0 x1 x2 r) * (two * (zr x0 x1 x2 r l - mean (zr x0 x1 x2 r))) := by
  pointwise [val_main_v79, val_main_v78, val_main_v77, val_main_v76, val_main_v18, val_main_v17, val_main_cst_2, val_main_cst_23]
  rw [LnRefIdeal.Entries.lone02]
  pointwise
  rw [v75, v15]
  rfl

theorem v69 (r : Fin 8192) (l : Fin 2048) : val_main_v69 (F := Ideal) x0 x1 x2 x3 x4 x5 (ix3 0 r l)
    = up x0 x1 x2 x3 x4 x5 r l * factor (zr x0 x1 x2 r) := by
  pointwise [val_main_v69, val_main_v68]
  rw [v63, v27]

theorem v86 (r : Fin 8192) : val_main_v86 (F := Ideal) x0 x1 x2 x3 x4 x5 (ix3 0 r 0)
    = Ideal.div ((∑ k, -(up x0 x1 x2 x3 x4 x5 r k * factor (zr x0 x1 x2 r)))
      + ∑ k, -(dvar (up x0 x1 x2 x3 x4 x5 r) (zr x0 x1 x2 r) * (two * (zr x0 x1 x2 r k - mean (zr x0 x1 x2 r))))) cols := by
  pointwise [val_main_v86, val_main_v85, val_main_v84, val_main_v73, val_main_v72, val_main_v71, val_main_v82, val_main_v81, val_main_v80, val_main_cst_21, val_main_cst_24, val_main_cst_25]
  simp only [v69, v79]
  rfl

theorem v92 (r : Fin 8192) (l : Fin 2048) :
    val_main_v92 (F := Ideal) x0 x1 x2 x3 x4 x5 (ix2 r l) = back' (up x0 x1 x2 x3 x4 x5 r) (zr x0 x1 x2 r) l := by
  pointwise [val_main_v92, val_main_v91, val_main_v90, val_main_v89, val_main_v88, val_main_v87, val_main_v83, val_main_cst_26]
  rw [LnRefIdeal.Entries.lone02]
  pointwise
  rw [v86, v69, v79]
  rfl

end Cert.DownRefIdeal.Entries

end
-- ==== Proof.DownCall.lean ====
/-
  The call that multiplies by the feed-forward block's second weight, takes the loss and goes back through the second
  normalisation: what it leaves in its two result arrays over the extended reals, entry by entry. A grid point
  multiplies one block of the rows by one block of the weight and adds the product to an accumulator; after the last of
  the four parts of a block of rows the body finishes these rows in four slabs and adds what they give the
  normalisation's parameters and the loss.
-/
module

public import proofs.«01_k».proof.Proof.Gen.DownIdeal.Value
public import proofs.«01_k».proof.Proof.LnArrays

@[expose] public section

set_option maxRecDepth 16384

noncomputable section

namespace Cert.DownIdeal.Call

open Cert.DownIdeal Cert.DownIdeal.Gen Idealize.ShloMosaic Idealize.ShloMosaic.TcCoe Idealize.ShloMosaic.Tactic
open Idealize.ShloMosaic.Pipeline
open Cert.LnIdeal.Call (al cols back mean factor ld_rows ld_row slab_mem four)

/-! ## What one point computes -/

/-- One over the number of columns. -/
def share : EReal := Ideal.ofBits FTy.f32 973078528#32

/-- A row normalised, how far its result is from the target, and the cotangents of that result. -/
def nrm (z : Fin 2048 → EReal) (l : Fin 2048) : EReal := (z l - mean z) * factor z
@[inherit_doc nrm] def off (z g b t : Fin 2048 → EReal) (l : Fin 2048) : EReal := nrm z l * g l + b l - t l
@[inherit_doc nrm] def ct (z g b t : Fin 2048 → EReal) (l : Fin 2048) : EReal := off z g b t l * share

section body
variable (v5 : Vec Ideal S512x1408 .bf16) (v6 : Vec Ideal S1408x2048 .bf16) (acc : Vec Ideal S512x2048 .f32)
  (g b : Vec Ideal S1x2048 .f32) (x a t : Vec Ideal S128x2048 .f32) (s : Vec Ideal S1x2048 .f32)

/-- One entry of a product of two blocks. -/
def dot (r : Fin 512) (l : Fin 2048) : EReal := ∑ k : Fin 1408, v5 (ix2 r k) * v6 (ix2 k l)

theorem pay3_apply (r : Fin 512) (l : Fin 2048) : k0_pay3 v5 v6 (ix2 r l) = dot v5 v6 r l := by
  pointwise [k0_pay3, k0_pay2]
  rfl

theorem pay4_apply (r : Fin 512) (l : Fin 2048) : k0_pay4 v5 v6 acc (ix2 r l) = acc (ix2 r l) + dot v5 v6 r l := by
  pointwise [k0_pay4, k0_pay2]
  rfl

/-- A slab's rows before the normalisation. -/
def zs (r : Fin 128) (l : Fin 2048) : EReal := al * x (ix2 r l) + a (ix2 r l)

/-- A row of the gain, the shift or the target. -/
abbrev row1 (g : Vec Ideal S1x2048 .f32) (l : Fin 2048) : EReal := g (ix2 0 l)
@[inherit_doc row1] abbrev rowt (t : Vec Ideal S128x2048 .f32) (r : Fin 128) (l : Fin 2048) : EReal := t (ix2 r l)

theorem centred (r : Fin 128) (l : Fin 2048) : k0_pay9 x a (ix2 r l) = zs x a r l - mean (zs x a r) := by
  pointwise [k0_pay9]
  rfl

theorem scaled (r : Fin 128) : k0_pay10 x a (ix2 r 0) = factor (zs x a r) := by
  pointwise [k0_pay10]
  simp only [centred]
  rfl

theorem normal (r : Fin 128) (l : Fin 2048) : k0_pay11 x a (ix2 r l) = nrm (zs x a r) l := by
  pointwise [k0_pay11]
  rw [centred, scaled]
  rfl

theorem miss (r : Fin 128) (l : Fin 2048) : k0_pay12 g b x a t (ix2 r l) = off (zs x a r) (row1 g) (row1 b) (rowt t r) l := by
  pointwise [k0_pay12]
  rw [normal]
  rfl

theorem cot (r : Fin 128) (l : Fin 2048) : k0_pay14 g b x a t (ix2 r l) = ct (zs x a r) (row1 g) (row1 b) (rowt t r) l := by
  pointwise [k0_pay14]
  rw [miss]
  rfl

/-- A slab's rows taken back. -/
abbrev slab (r : Fin 128) (l : Fin 2048) : EReal :=
  back (ct (zs x a r) (row1 g) (row1 b) (rowt t r)) (row1 g) (nrm (zs x a r)) (factor (zs x a r)) l

/-- The first slab, and the others, which are computed alike. -/
theorem dz0 (r : Fin 128) (l : Fin 2048) :
    k0_pay16 (k0_pay10 x a) (k0_pay11 x a) (k0_pay14 g b x a t) (k0_pay15 g) (ix2 r l) = slab g b x a t r l := by
  pointwise [k0_pay16, k0_pay15]
  simp only [cot, normal, scaled]
  rfl

@[inherit_doc dz0] theorem dz1 (r : Fin 128) (l : Fin 2048) :
    k0_pay28 (k0_pay21 x a) (k0_pay22 x a) (k0_pay26 g b x a t) (k0_pay27 g b x a t) (FloatOps.ofBits .f32 1157627904#32) (ix2 r l) = slab g b x a t r l :=
  dz0 g b x a t r l

@[inherit_doc dz0] theorem dz2 (r : Fin 128) (l : Fin 2048) :
    k0_pay41 (k0_pay33 x a) (k0_pay34 x a) (k0_pay38 g b x a t) (k0_pay39 g b x a t) (k0_pay40 g b x a t) (ix2 r l) = slab g b x a t r l :=
  dz0 g b x a t r l

@[inherit_doc dz0] theorem dz3 (r : Fin 128) (l : Fin 2048) :
    k0_pay5 (k0_pay47 x k0_pay45 a) (k0_pay48 x k0_pay45 a) (k0_pay52 g b x k0_pay45 a t) (k0_pay53 g b x k0_pay45 a t) (k0_pay54 g b x k0_pay45 a t)
      (ix2 r l) = slab g b x a t r l :=
  dz0 g b x a t r l

/-- What a slab adds to the gain's gradient, to the shift's and to the sum of the squares. -/
def gain (l : Fin 2048) : EReal := ∑ r : Fin 128, ct (zs x a r) (row1 g) (row1 b) (rowt t r) l * nrm (zs x a r) l
@[inherit_doc gain] def shift (l : Fin 2048) : EReal := ∑ r : Fin 128, ct (zs x a r) (row1 g) (row1 b) (rowt t r) l
@[inherit_doc gain] def square : EReal :=
  ∑ r : Fin 128, ∑ l : Fin 2048, off (zs x a r) (row1 g) (row1 b) (rowt t r) l * off (zs x a r) (row1 g) (row1 b) (rowt t r) l

theorem dg0 (l : Fin 2048) : k0_pay17 (k0_pay11 x a) (k0_pay14 g b x a t) s (ix2 0 l) = s (ix2 0 l) + gain g b x a t l := by
  pointwise [k0_pay17]
  simp only [cot, normal]
  rfl

theorem dg1 (l : Fin 2048) : k0_pay29 (k0_pay22 x a) (k0_pay25 g b x a t) s (ix2 0 l) = s (ix2 0 l) + gain g b x a t l := dg0 g b x a t s l

theorem dg2 (l : Fin 2048) : k0_pay42 (k0_pay34 x a) (k0_pay37 g b x a t) s (ix2 0 l) = s (ix2 0 l) + gain g b x a t l := dg0 g b x a t s l

theorem dg3 (l : Fin 2048) : k0_pay6 (k0_pay48 x k0_pay45 a) (k0_pay51 g b x k0_pay45 a t) s (ix2 0 l) = s (ix2 0 l) + gain g b x a t l :=
  dg0 g b x a t s l

theorem db0 (l : Fin 2048) : k0_pay18 (k0_pay14 g b x a t) s (ix2 0 l) = s (ix2 0 l) + shift g b x a t l := by
  pointwise [k0_pay18]
  simp only [cot]
  rfl

theorem db1 (l : Fin 2048) : k0_pay30 (k0_pay25 g b x a t) s (ix2 0 l) = s (ix2 0 l) + shift g b x a t l := db0 g b x a t s l

theorem db2 (l : Fin 2048) : k0_pay43 (k0_pay37 g b x a t) s (ix2 0 l) = s (ix2 0 l) + shift g b x a t l := db0 g b x a t s l

theorem db3 (l : Fin 2048) : k0_pay7 (k0_pay51 g b x k0_pay45 a t) s (ix2 0 l) = s (ix2 0 l) + shift g b x a t l := db0 g b x a t s l

theorem sq0 (l : Fin 2048) : k0_pay19 (k0_pay13 g b x a t) s (ix2 0 l) = s (ix2 0 l) + square g b x a t := by
  pointwise [k0_pay19, k0_pay13]
  simp only [miss]
  rfl

theorem sq1 (l : Fin 2048) : k0_pay31 (k0_pay24 g b x a t) s (ix2 0 l) = s (ix2 0 l) + square g b x a t := sq0 g b x a t s l

theorem sq2 (l : Fin 2048) : k0_pay44 (k0_pay36 g b x a t) s (ix2 0 l) = s (ix2 0 l) + square g b x a t := sq0 g b x a t s l

theorem sq3 (l : Fin 2048) : k0_pay8 (k0_pay50 g b x k0_pay45 a t) s (ix2 0 l) = s (ix2 0 l) + square g b x a t := sq0 g b x a t s l

theorem reset (r : Fin 8) (l : Fin 2048) : k0_pay1 (F := Ideal) (ix2 r l) = 0 := by
  pointwise [k0_pay1]

end body

/-! ## Loads and stores of slabs and rows -/

/-- A load just stored. -/
theorem readCov_head {S : Shape} {e : EltTy} (v : View sig .tc .vmem S e) (R : Rect S) (p : R.shape.Idx → Elt Ideal e)
    (L : List (View.Piece (Elt Ideal) S e)) : v.readCov (⟨R, p⟩ :: L) R.toLoadRect = p := by
  rw [View.readCov_eq_canon']
  funext x
  exact View.canon_cons_emb R p L x

/-- A row not just stored reads as it did before. -/
theorem skip (q : Fin 8) (l : Fin 2048) (o : ℕ) (h : q.val < o ∨ o + 1 ≤ q.val) (v : View sig .tc .vmem S8x2048 .f32) (f) (inb) (w)
    (L : List (View.Piece (Elt Ideal) S8x2048 .f32)) :
    v.read (Elt Ideal) (v.writes (Elt Ideal) f ((⟨Rect.unit (s := S8x2048) ![o, 0] ![1, 2048] inb, w⟩ : View.Piece (Elt Ideal) S8x2048 .f32) :: L)) (ix2 q l)
      = v.read (Elt Ideal) (v.writes (Elt Ideal) f L) (ix2 q l) :=
  View.read_writes_cons_unit_of_not_mem v f inb w L _ rfl 0 (by exact h)

section slabs
variable (g b : Vec Ideal S1x2048 .f32) (x a t : Vec Ideal S512x2048 .f32)

/-- The rows of a block before the normalisation, and of the target. -/
def zb (p : Fin 512) (l : Fin 2048) : EReal := al * x (ix2 p l) + a (ix2 p l)
@[inherit_doc zb] def tb (p : Fin 512) (l : Fin 2048) : EReal := t (ix2 p l)

/-- 128 rows from row `o` of a block. -/
abbrev cut (X : Vec Ideal S512x2048 .f32) (o : ℕ) (i : ∀ a : Fin 2, ![o, 0] a + ![128, 2048] a ≤ S512x2048.size a) : Vec Ideal S128x2048 .f32 :=
  View.ld X (Rect.unit (s := S512x2048) ![o, 0] ![128, 2048] i)

theorem zs_of (o : ℕ) (ix ia) (r : Fin 128) (h : o + r < 512) : zs (cut x o ix) (cut a o ia) r = zb x a ⟨o + r, h⟩ := funext fun l => by
  unfold zs zb
  exact congrArg₂ (fun p q : EReal => al * p + q) (ld_rows x o ix r l h) (ld_rows a o ia r l h)

theorem rowt_of (o : ℕ) (it) (r : Fin 128) (h : o + r < 512) : rowt (cut t o it) r = tb t ⟨o + r, h⟩ := funext fun l => ld_rows t o it r l h

/-- A slab of a block is the block's rows, and what it adds is the sum over these rows. -/
theorem slab_of (o : ℕ) (ix ia it) (r : Fin 128) (l : Fin 2048) (h : o + r < 512) :
    slab g b (cut x o ix) (cut a o ia) (cut t o it) r l
      = back (ct (zb x a ⟨o + r, h⟩) (row1 g) (row1 b) (tb t ⟨o + r, h⟩)) (row1 g) (nrm (zb x a ⟨o + r, h⟩)) (factor (zb x a ⟨o + r, h⟩)) l := by
  unfold slab
  rw [zs_of x a o ix ia r h, rowt_of t o it r h]

@[inherit_doc slab_of] theorem gain_of (o : ℕ) (ix ia it) (l : Fin 2048) (h : o + 128 ≤ 512) :
    gain g b (cut x o ix) (cut a o ia) (cut t o it) l
      = ∑ r : Fin 128, ct (zb x a ⟨o + r, by omega⟩) (row1 g) (row1 b) (tb t ⟨o + r, by omega⟩) l * nrm (zb x a ⟨o + r, by omega⟩) l :=
  Finset.sum_congr rfl fun r _ => by rw [zs_of x a o ix ia r (by omega), rowt_of t o it r (by omega)]

@[inherit_doc slab_of] theorem shift_of (o : ℕ) (ix ia it) (l : Fin 2048) (h : o + 128 ≤ 512) :
    shift g b (cut x o ix) (cut a o ia) (cut t o it) l
      = ∑ r : Fin 128, ct (zb x a ⟨o + r, by omega⟩) (row1 g) (row1 b) (tb t ⟨o + r, by omega⟩) l :=
  Finset.sum_congr rfl fun r _ => by rw [zs_of x a o ix ia r (by omega), rowt_of t o it r (by omega)]

/-- The squares of one row. -/
def squares (p : Fin 512) : EReal :=
  ∑ l : Fin 2048, off (zb x a p) (row1 g) (row1 b) (tb t p) l * off (zb x a p) (row1 g) (row1 b) (tb t p) l

@[inherit_doc slab_of] theorem square_of (o : ℕ) (ix ia it) (h : o + 128 ≤ 512) :
    square g b (cut x o ix) (cut a o ia) (cut t o it) = ∑ r : Fin 128, squares g b x a t ⟨o + r, by omega⟩ :=
  Finset.sum_congr rfl fun r _ => by
    unfold squares
    rw [zs_of x a o ix ia r (by omega), rowt_of t o it r (by omega)]

end slabs

variable (m : (ℓ : Loc nD τ sig) → Buf (Elt Ideal) ℓ) (c : Dev nD)

/-- The point before. -/
abbrev before (t : Fin cfg0.N) := outsAt0 m c (t.val - 1) (Nat.lt_of_le_of_lt (Nat.sub_le _ _) t.isLt)

/-- The rows of a point's block before the normalisation, once the accumulator is complete; and the rows of the target's block. -/
def zt (t : Fin cfg0.N) (p : Fin 512) : Fin 2048 → EReal := zb (iblk m c 2 t) (outsAt0 m c t.val t.isLt).2.2 p
@[inherit_doc zt] def tt (t : Fin cfg0.N) (p : Fin 512) : Fin 2048 → EReal := tb (iblk m c 3 t) p

/-- The accumulator at a block of rows' first part, and after. -/
theorem acc_first (t : Fin cfg0.N) (h : t.val % 4 = 0) (r : Fin 512) (l : Fin 2048) :
    (outsAt0 m c t.val t.isLt).2.2 (ix2 r l) = dot (iblk m c 0 t) (iblk m c 1 t) r l := by
  by_cases h0 : t.val % 64 = 0
  · rw [outsAt0_A m c t (by omega) (by omega) (by omega) (by omega)]
    frame_out
    exact pay3_apply ..
  · rw [outsAt0_D m c t (by omega) (by omega) (by omega) (by omega)]
    frame_out
    exact pay3_apply ..

@[inherit_doc acc_first] theorem acc_next (t : Fin cfg0.N) (h : t.val % 4 ≠ 0) (r : Fin 512) (l : Fin 2048) :
    (outsAt0 m c t.val t.isLt).2.2 (ix2 r l) = (before m c t).2.2 (ix2 r l) + dot (iblk m c 0 t) (iblk m c 1 t) r l := by
  by_cases h0 : t.val % 4 = 3
  · rw [outsAt0_C m c t (by omega) (by omega) (by omega) (by omega)]
    frame_out
    simp (disch := decide) only [↓ readCov_head, ↓ View.readCov_skip, ↓ View.readCov_fill, read_unread_whole]
    exact pay4_apply ..
  · rw [outsAt0_B m c t (by omega) (by omega) (by omega) (by omega)]
    frame_out
    simp (disch := decide) only [↓ readCov_head, ↓ View.readCov_skip, ↓ View.readCov_fill, read_unread_whole]
    exact pay4_apply ..

/-- The accumulator after the last part, whole. -/
theorem acc_last (t : Fin cfg0.N) (h : t.val % 4 = 3) :
    (outsAt0 m c t.val t.isLt).2.2 = k0_pay4 (iblk m c 0 t) (iblk m c 1 t) (before m c t).2.2 := by
  rw [outsAt0_C m c t (by omega) (by omega) (by omega) (by omega)]
  frame_out
  simp (disch := decide) only [↓ readCov_head, ↓ View.readCov_skip, ↓ View.readCov_fill, read_unread_whole]

/-- The rows taken back. -/
theorem rows (t : Fin cfg0.N) (h : t.val % 4 = 3) (p : Fin 512) (l : Fin 2048) : (outsAt0 m c t.val t.isLt).1 (ix2 p l)
    = back (ct (zt m c t p) (row1 (iblk m c 4 t)) (row1 (iblk m c 5 t)) (tt m c t p)) (row1 (iblk m c 4 t)) (nrm (zt m c t p)) (factor (zt m c t p)) l := by
  unfold zt tt
  rw [acc_last m c t h, outsAt0_C m c t (by omega) (by omega) (by omega) (by omega)]
  frame_out
  simp (disch := decide) only [↓ readCov_head, ↓ View.readCov_skip, ↓ View.readCov_fill, read_unread_whole]
  refine slab_mem 384 _ _ _ p l _ (fun r hr => (dz3 ..).trans ((slab_of _ _ _ _ _ 384 _ _ _ r l (by omega)).trans ?_)) fun h3 =>
    slab_mem 256 _ _ _ p l _ (fun r hr => (dz2 ..).trans ((slab_of _ _ _ _ _ 256 _ _ _ r l (by omega)).trans ?_)) fun h2 =>
    slab_mem 128 _ _ _ p l _ (fun r hr => (dz1 ..).trans ((slab_of _ _ _ _ _ 128 _ _ _ r l (by omega)).trans ?_)) fun h1 =>
    slab_mem 0 _ _ _ p l _ (fun r hr => (dz0 ..).trans ((slab_of _ _ _ _ _ 0 _ _ _ r l (by omega)).trans ?_)) fun h0 => absurd h0 (by omega)
  · rw [show (⟨384 + r.val, by omega⟩ : Fin 512) = p from Fin.ext hr.symm]
  · rw [show (⟨256 + r.val, by omega⟩ : Fin 512) = p from Fin.ext hr.symm]
  · rw [show (⟨128 + r.val, by omega⟩ : Fin 512) = p from Fin.ext hr.symm]
  · rw [show (⟨0 + r.val, by omega⟩ : Fin 512) = p from Fin.ext hr.symm]

/-- The sums over the rows: the gain's gradient. -/
theorem sums0 (t : Fin cfg0.N) (h : t.val % 4 = 3) (l : Fin 2048) : (outsAt0 m c t.val t.isLt).2.1 (ix2 0 l)
    = (before m c t).2.1 (ix2 0 l)
      + ∑ p : Fin 512, ct (zt m c t p) (row1 (iblk m c 4 t)) (row1 (iblk m c 5 t)) (tt m c t p) l * nrm (zt m c t p) l := by
  unfold zt tt
  rw [acc_last m c t h, outsAt0_C m c t (by omega) (by omega) (by omega) (by omega)]
  frame_out
  simp (disch := decide) only [↓ readCov_head, ↓ View.readCov_skip, ↓ View.readCov_fill, read_unread_whole]
  refine (skip 0 l 2 (by decide) _ _ _ _ _).trans ((skip 0 l 1 (by decide) _ _ _ _ _).trans ?_)
  refine (View.read_writes_cons_unit_of_mem _ _ _ _ _ _ (ix2 0 l) rfl (fun a => by fin_cases a <;> simp)).trans ?_
  rw [dg3, dg2, dg1, dg0]
  refine (congrArg₂ (· + ·) (congrArg₂ (· + ·) (congrArg₂ (· + ·) (congrArg₂ (· + ·) (ld_row _ 0 _ l (by omega)) (gain_of _ _ _ _ _ 0 _ _ _ l (by omega)))
    (gain_of _ _ _ _ _ 128 _ _ _ l (by omega))) (gain_of _ _ _ _ _ 256 _ _ _ l (by omega))) (gain_of _ _ _ _ _ 384 _ _ _ l (by omega))).trans ?_
  exact four (fun p => ct (zb (iblk m c 2 t) (k0_pay4 (iblk m c 0 t) (iblk m c 1 t) (before m c t).2.2) p) (row1 (iblk m c 4 t)) (row1 (iblk m c 5 t))
    (tb (iblk m c 3 t) p) l * nrm (zb (iblk m c 2 t) (k0_pay4 (iblk m c 0 t) (iblk m c 1 t) (before m c t).2.2) p) l) _

/-- The sums over the rows: the shift's gradient. -/
theorem sums1 (t : Fin cfg0.N) (h : t.val % 4 = 3) (l : Fin 2048) : (outsAt0 m c t.val t.isLt).2.1 (ix2 1 l)
    = (before m c t).2.1 (ix2 1 l) + ∑ p : Fin 512, ct (zt m c t p) (row1 (iblk m c 4 t)) (row1 (iblk m c 5 t)) (tt m c t p) l := by
  unfold zt tt
  rw [acc_last m c t h, outsAt0_C m c t (by omega) (by omega) (by omega) (by omega)]
  frame_out
  simp (disch := decide) only [↓ readCov_head, ↓ View.readCov_skip, ↓ View.readCov_fill, read_unread_whole]
  refine (skip 1 l 2 (by decide) _ _ _ _ _).trans ?_
  refine (View.read_writes_cons_unit_of_mem _ _ _ _ _ _ (ix2 0 l) rfl (fun a => by fin_cases a <;> simp)).trans ?_
  rw [db3, db2, db1, db0]
  refine (congrArg₂ (· + ·) (congrArg₂ (· + ·) (congrArg₂ (· + ·) (congrArg₂ (· + ·) (ld_row _ 1 _ l (by omega)) (shift_of _ _ _ _ _ 0 _ _ _ l (by omega)))
    (shift_of _ _ _ _ _ 128 _ _ _ l (by omega))) (shift_of _ _ _ _ _ 256 _ _ _ l (by omega))) (shift_of _ _ _ _ _ 384 _ _ _ l (by omega))).trans ?_
  exact four (fun p => ct (zb (iblk m c 2 t) (k0_pay4 (iblk m c 0 t) (iblk m c 1 t) (before m c t).2.2) p) (row1 (iblk m c 4 t)) (row1 (iblk m c 5 t))
    (tb (iblk m c 3 t) p) l) _

/-- The sums over the rows: the squares. -/
theorem sums2 (t : Fin cfg0.N) (h : t.val % 4 = 3) (l : Fin 2048) : (outsAt0 m c t.val t.isLt).2.1 (ix2 2 l)
    = (before m c t).2.1 (ix2 2 l) + ∑ p : Fin 512, ∑ k : Fin 2048, off (zt m c t p) (row1 (iblk m c 4 t)) (row1 (iblk m c 5 t)) (tt m c t p) k
        * off (zt m c t p) (row1 (iblk m c 4 t)) (row1 (iblk m c 5 t)) (tt m c t p) k := by
  unfold zt tt
  rw [acc_last m c t h, outsAt0_C m c t (by omega) (by omega) (by omega) (by omega)]
  frame_out
  simp (disch := decide) only [↓ readCov_head, ↓ View.readCov_skip, ↓ View.readCov_fill, read_unread_whole]
  refine (View.read_writes_cons_unit_of_mem _ _ _ _ _ _ (ix2 0 l) rfl (fun a => by fin_cases a <;> simp)).trans ?_
  rw [sq3, sq2, sq1, sq0]
  refine (congrArg₂ (· + ·) (congrArg₂ (· + ·) (congrArg₂ (· + ·) (congrArg₂ (· + ·) (ld_row _ 2 _ l (by omega)) (square_of _ _ _ _ _ 0 _ _ _ (by omega)))
    (square_of _ _ _ _ _ 128 _ _ _ (by omega))) (square_of _ _ _ _ _ 256 _ _ _ (by omega))) (square_of _ _ _ _ _ 384 _ _ _ (by omega))).trans ?_
  exact four (squares (iblk m c 4 t) (iblk m c 5 t) (iblk m c 2 t) (k0_pay4 (iblk m c 0 t) (iblk m c 1 t) (before m c t).2.2) (iblk m c 3 t)) _

/-- The other rows stay. -/
theorem sums_rest (t : Fin cfg0.N) (h : t.val % 4 = 3) (q : Fin 8) (hq : 3 ≤ q.val) (l : Fin 2048) :
    (outsAt0 m c t.val t.isLt).2.1 (ix2 q l) = (before m c t).2.1 (ix2 q l) := by
  rw [outsAt0_C m c t (by omega) (by omega) (by omega) (by omega)]
  frame_out
  simp (disch := decide) only [↓ readCov_head, ↓ View.readCov_skip, ↓ View.readCov_fill, read_unread_whole]
  iterate 12 (refine (skip q l _ (Or.inr (by omega)) _ _ _ _ _).trans ?_)
  exact congrFun (Memref.IsWhole.read_unread _ _) _

/-- The sums elsewhere: nothing at the start, and as they were at every other point. -/
theorem sums_start (t : Fin cfg0.N) (h : t.val % 64 = 0) (q : Fin 8) (l : Fin 2048) : (outsAt0 m c t.val t.isLt).2.1 (ix2 q l) = 0 := by
  rw [outsAt0_A m c t (by omega) (by omega) (by omega) (by omega)]
  frame_out
  exact reset q l

@[inherit_doc sums_start] theorem sums_keep (t : Fin cfg0.N) (h : t.val % 64 ≠ 0) (h3 : t.val % 4 ≠ 3) :
    (outsAt0 m c t.val t.isLt).2.1 = (before m c t).2.1 := by
  by_cases h0 : t.val % 4 = 0
  · rw [outsAt0_D m c t (by omega) (by omega) (by omega) (by omega)]
    rfl
  · rw [outsAt0_B m c t (by omega) (by omega) (by omega) (by omega)]
    rfl

end Cert.DownIdeal.Call

end
-- ==== Proof.DownArrays.lean ====
/-
  The call that multiplies by the feed-forward block's second weight, takes the loss and goes back through the second
  normalisation: the two result arrays in terms of the arguments.
-/
module

public import proofs.«01_k».proof.Proof.DownCall

@[expose] public section

set_option maxRecDepth 16384

noncomputable section

namespace Cert.DownIdeal.Call

open Cert.DownIdeal Cert.DownIdeal.Gen Idealize.ShloMosaic Idealize.ShloMosaic.TcCoe Idealize.ShloMosaic.Tactic
open Idealize.ShloMosaic.Pipeline
open Cert.LnIdeal.Call (al cols back mean factor blocks)

variable (m : (ℓ : Loc nD τ sig) → Buf (Elt Ideal) ℓ) (c : Dev nD)

/-- The arguments by row and column: the gated rows, the weight, the residual, the target, the gain, the shift. -/
def hm (r j : ℕ) : EReal := if h : r < 8192 ∧ j < 5632 then m ((c.tc : Thread nD τ).loc main_arg0) (ix2 ⟨r, h.1⟩ ⟨j, h.2⟩) else 0
@[inherit_doc hm] def w (j : ℕ) (l : Fin 2048) : EReal := if h : j < 5632 then m ((c.tc : Thread nD τ).loc main_arg1) (ix2 ⟨j, h⟩ l) else 0
@[inherit_doc hm] def x (r : ℕ) (l : Fin 2048) : EReal := if h : r < 8192 then m ((c.tc : Thread nD τ).loc main_arg2) (ix2 ⟨r, h⟩ l) else 0
@[inherit_doc hm] def tg (r : ℕ) (l : Fin 2048) : EReal := if h : r < 8192 then m ((c.tc : Thread nD τ).loc main_arg3) (ix2 ⟨r, h⟩ l) else 0
@[inherit_doc hm] def g (l : Fin 2048) : EReal := m ((c.tc : Thread nD τ).loc main_arg4) (ix2 0 l)
@[inherit_doc hm] def b (l : Fin 2048) : EReal := m ((c.tc : Thread nD τ).loc main_arg5) (ix2 0 l)

/-- The rows before the normalisation. -/
def z (r : ℕ) (l : Fin 2048) : EReal := al * x m c r l + ∑ j : Fin 5632, hm m c r j * w m c j l

/-- Where each window's block lies. -/
theorem idx0 : ∀ t : Fin cfg0.N, win0_0.index t = ![t.val / 4, t.val % 4] := (by decide +kernel : ∀ t : Fin grid0.N, _)
@[inherit_doc idx0] theorem idx1 : ∀ t : Fin cfg0.N, win0_1.index t = ![t.val % 4, 0] := (by decide +kernel : ∀ t : Fin grid0.N, _)
@[inherit_doc idx0] theorem idx2 : ∀ t : Fin cfg0.N, win0_2.index t = ![t.val / 4, 0] := (by decide +kernel : ∀ t : Fin grid0.N, _)
@[inherit_doc idx0] theorem idx3 : ∀ t : Fin cfg0.N, win0_3.index t = ![t.val / 4, 0] := (by decide +kernel : ∀ t : Fin grid0.N, _)
@[inherit_doc idx0] theorem idx4 : ∀ t : Fin cfg0.N, win0_4.index t = ![0, 0] := (by decide +kernel : ∀ t : Fin grid0.N, _)
@[inherit_doc idx0] theorem idx5 : ∀ t : Fin cfg0.N, win0_5.index t = ![0, 0] := (by decide +kernel : ∀ t : Fin grid0.N, _)
@[inherit_doc idx0] theorem idx6 : ∀ t : Fin cfg0.N, win0_6.index t = ![t.val / 4, 0] := (by decide +kernel : ∀ t : Fin grid0.N, _)
@[inherit_doc idx0] theorem idx7 : ∀ t : Fin cfg0.N, win0_7.index t = ![0, 0] := (by decide +kernel : ∀ t : Fin grid0.N, _)

/-- An entry of the gated rows' block. -/
theorem blk0 (t : Fin cfg0.N) (r : Fin 512) (k : Fin 1408) :
    iblk m c 0 t (ix2 r k) = hm m c (512 * (t.val / 4) + r) (1408 * (t.val % 4) + k) := by
  have ht : t.val < 64 := t.isLt
  rw [hm, dif_pos ⟨by omega, by omega⟩]
  blk_simp [iblk, idx0]
  rw [V_main_arg0]
  refine congrArg _ ?_
  blk_ext [idx0]

/-- An entry of the weight's block. -/
theorem blk1 (t : Fin cfg0.N) (k : Fin 1408) (l : Fin 2048) : iblk m c 1 t (ix2 k l) = w m c (1408 * (t.val % 4) + k) l := by
  rw [w, dif_pos (by omega)]
  blk_simp [iblk, idx1]
  rw [V_main_arg1]
  refine congrArg _ ?_
  blk_ext [idx1]

/-- An entry of the residual's block, and of the target's. -/
theorem blk2 (t : Fin cfg0.N) (p : Fin 512) (l : Fin 2048) : iblk m c 2 t (ix2 p l) = x m c (512 * (t.val / 4) + p) l := by
  have ht : t.val < 64 := t.isLt
  rw [x, dif_pos (by omega)]
  blk_simp [iblk, idx2]
  rw [V_main_arg2]
  refine congrArg _ ?_
  blk_ext [idx2]

@[inherit_doc blk2] theorem blk3 (t : Fin cfg0.N) (p : Fin 512) (l : Fin 2048) : iblk m c 3 t (ix2 p l) = tg m c (512 * (t.val / 4) + p) l := by
  have ht : t.val < 64 := t.isLt
  rw [tg, dif_pos (by omega)]
  blk_simp [iblk, idx3]
  rw [V_main_arg3]
  refine congrArg _ ?_
  blk_ext [idx3]

/-- The gain and the shift. -/
theorem blk4 (t : Fin cfg0.N) : row1 (iblk m c 4 t) = g m c := funext fun l => by
  unfold row1 g
  blk_simp [iblk, idx4]
  rw [V_main_arg4]
  refine congrArg _ ?_
  blk_ext [idx4]

@[inherit_doc blk4] theorem blk5 (t : Fin cfg0.N) : row1 (iblk m c 5 t) = b m c := funext fun l => by
  unfold row1 b
  blk_simp [iblk, idx5]
  rw [V_main_arg5]
  refine congrArg _ ?_
  blk_ext [idx5]

/-- What a point adds to an entry of the accumulator. -/
def part (r : ℕ) (l : Fin 2048) (q : ℕ) : EReal := ∑ k : Fin 1408, hm m c r (1408 * q + k) * w m c (1408 * q + k) l

theorem point (t : Fin cfg0.N) (r : Fin 512) (l : Fin 2048) :
    dot (iblk m c 0 t) (iblk m c 1 t) r l = part m c (512 * (t.val / 4) + r) l (t.val % 4) :=
  Finset.sum_congr rfl fun k _ => by rw [blk0, blk1]

/-- The four parts make up the whole sum. -/
theorem parts (r : ℕ) (l : Fin 2048) :
    part m c r l 0 + part m c r l 1 + part m c r l 2 + part m c r l 3 = ∑ j : Fin 5632, hm m c r j * w m c j l := by
  refine Eq.trans ?_ (Equiv.sum_comp (finProdFinEquiv (m := 4) (n := 1408)) fun j : Fin 5632 => hm m c r j * w m c j l)
  rw [Fintype.sum_prod_type, Fin.sum_univ_four]
  have e : ∀ q : Fin 4, part m c r l q = ∑ k : Fin 1408, hm m c r (finProdFinEquiv (q, k)).val * w m c (finProdFinEquiv (q, k)).val l := fun q =>
    Finset.sum_congr rfl fun k _ => by
      have : 1408 * q.val + k.val = (finProdFinEquiv (q, k)).val := by simp [finProdFinEquiv]; omega
      rw [this]
  exact congrArg₂ (· + ·) (congrArg₂ (· + ·) (congrArg₂ (· + ·) (e 0) (e 1)) (e 2)) (e 3)

/-- The complete accumulator. -/
theorem acc (t : Fin cfg0.N) (h : t.val % 4 = 3) (r : Fin 512) (l : Fin 2048) :
    (outsAt0 m c t.val t.isLt).2.2 (ix2 r l) = ∑ j : Fin 5632, hm m c (512 * (t.val / 4) + r) j * w m c j l := by
  have ht : t.val < cfg0.N := t.isLt
  have d1 : (t.val - 1) / 4 = t.val / 4 := by omega
  have d2 : (t.val - 1 - 1) / 4 = t.val / 4 := by omega
  have d3 : (t.val - 1 - 1 - 1) / 4 = t.val / 4 := by omega
  have m1 : (t.val - 1) % 4 = 2 := by omega
  have m2 : (t.val - 1 - 1) % 4 = 1 := by omega
  have m3 : (t.val - 1 - 1 - 1) % 4 = 0 := by omega
  rw [acc_next m c t (by omega), acc_next m c ⟨t.val - 1, by omega⟩ (by show (t.val - 1) % 4 ≠ 0; omega),
    acc_next m c ⟨t.val - 1 - 1, by omega⟩ (by show (t.val - 1 - 1) % 4 ≠ 0; omega), acc_first m c ⟨t.val - 1 - 1 - 1, by omega⟩ m3,
    point, point, point, point, ← parts]
  simp only [d1, d2, d3, m1, m2, m3, h]

/-- A block's rows before the normalisation, and its rows of the target. -/
theorem z_eq (t : Fin cfg0.N) (h : t.val % 4 = 3) (p : Fin 512) : zt m c t p = z m c (512 * (t.val / 4) + p) := funext fun l => by
  unfold zt zb z
  rw [blk2, acc m c t h]

@[inherit_doc z_eq] theorem t_eq (t : Fin cfg0.N) (p : Fin 512) : tt m c t p = tg m c (512 * (t.val / 4) + p) := funext fun l => blk3 m c t p l

/-- How far a row is from the target, and the cotangents this gives. -/
def miss' (r : ℕ) : Fin 2048 → EReal := off (z m c r) (g m c) (b m c) (tg m c r)
@[inherit_doc miss'] def cot' (r : ℕ) : Fin 2048 → EReal := ct (z m c r) (g m c) (b m c) (tg m c r)

/-- What is left of one row. -/
def left (r : ℕ) (l : Fin 2048) : EReal := back (cot' m c r) (g m c) (nrm (z m c r)) (factor (z m c r)) l

theorem left_eq (t : Fin cfg0.N) (h : t.val % 4 = 3) (p : Fin 512) (l : Fin 2048) :
    (outsAt0 m c t.val t.isLt).1 (ix2 p l) = left m c (512 * (t.val / 4) + p) l := by
  rw [rows m c t h, blk4, blk5, z_eq m c t h, t_eq]
  rfl

/-- The first result array. -/
theorem final6 : (dats m 0 c).arrAt 6 cfg0.N = fun i => left m c (i 0).val (i 1) := by
  refine (dats m 0 c).arrAt_eq_of_covers 6 _ (by decide +kernel) fun t hf y => ?_
  blk_simp
  have hm : t.val % 4 = 3 := (flush0_6 t).mp hf
  rw [after0_6]
  have h0 : (y 0).val < 512 := (y 0).isLt
  have h1 : (y 1).val < 2048 := (y 1).isLt
  have e0 : win0_6.index t 0 = t.val / 4 := by rw [idx6]; rfl
  have e1 : win0_6.index t 1 = 0 := by rw [idx6]; rfl
  have ey : y = ix2 ⟨(y 0).val, h0⟩ ⟨(y 1).val, h1⟩ := by funext a; fin_cases a <;> rfl
  refine (congrArg _ ey).trans ((left_eq m c t hm _ _).trans ?_)
  refine congrArg₂ (left m c) ?_ (Fin.ext ?_)
  · show 512 * (t.val / 4) + (y 0).val = win0_6.index t 0 * 512 + (y 0).val; rw [e0]; omega
  · show (y 1).val = win0_6.index t 1 * 2048 + 1 * (y 1).val; rw [e1]; omega

/-- What a row gives the second result array: the gain's gradient, the shift's, the sum of the squares, and nothing. -/
def toRow (q : Fin 8) (l : Fin 2048) (r : ℕ) : EReal :=
  if q.val = 0 then cot' m c r l * nrm (z m c r) l else if q.val = 1 then cot' m c r l
  else if q.val = 2 then ∑ k, miss' m c r k * miss' m c r k else 0

/-- The sums of the first blocks of rows. -/
def sums (q : Fin 8) (l : Fin 2048) (n : ℕ) : EReal := ∑ i ∈ Finset.range n, ∑ p : Fin 512, toRow m c q l (512 * i + p)

/-- The sums after each point. -/
theorem sums_eq (n : ℕ) (h : n < 64) (q : Fin 8) (l : Fin 2048) : (outsAt0 m c n h).2.1 (ix2 q l) = sums m c q l ((n + 1) / 4) := by
  induction n with
  | zero => rw [sums_start m c ⟨0, h⟩ rfl]; rfl
  | succ n ih =>
    by_cases h3 : (n + 1) % 4 = 3
    · have ih' : (before m c ⟨n + 1, h⟩).2.1 (ix2 q l) = sums m c q l ((n + 1) / 4) := ih (by omega)
      have d : (n + 1 + 1) / 4 = (n + 1) / 4 + 1 := by omega
      have ez := fun p => z_eq m c ⟨n + 1, h⟩ h3 p
      rw [d]
      unfold sums
      rw [Finset.sum_range_succ]
      by_cases q0 : q.val = 0
      · have eq : q = 0 := Fin.ext q0
        subst eq
        refine (sums0 m c ⟨n + 1, h⟩ h3 l).trans (congrArg₂ (· + ·) ih' ?_)
        refine Finset.sum_congr rfl fun p _ => ?_
        rw [ez, t_eq, blk4, blk5]
        rfl
      by_cases q1 : q.val = 1
      · have eq : q = 1 := Fin.ext q1
        subst eq
        refine (sums1 m c ⟨n + 1, h⟩ h3 l).trans (congrArg₂ (· + ·) ih' ?_)
        refine Finset.sum_congr rfl fun p _ => ?_
        rw [ez, t_eq, blk4, blk5]
        rfl
      by_cases q2 : q.val = 2
      · have eq : q = 2 := Fin.ext q2
        subst eq
        refine (sums2 m c ⟨n + 1, h⟩ h3 l).trans (congrArg₂ (· + ·) ih' ?_)
        refine Finset.sum_congr rfl fun p _ => ?_
        rw [ez, t_eq, blk4, blk5]
        rfl
      · refine (sums_rest m c ⟨n + 1, h⟩ h3 q (by omega) l).trans (ih'.trans ?_)
        unfold sums toRow
        simp only [if_neg q0, if_neg q1, if_neg q2, Finset.sum_const_zero, add_zero]
    · have d : (n + 1 + 1) / 4 = (n + 1) / 4 := by omega
      rw [d, sums_keep m c ⟨n + 1, h⟩ (by show (n + 1) % 64 ≠ 0; omega) h3]
      exact ih (by omega)

/-- The second result array. -/
def sum (q : Fin 8) (l : Fin 2048) : EReal := ∑ r : Fin 8192, toRow m c q l r

@[inherit_doc sum] theorem final7 : (dats m 0 c).arrAt 7 cfg0.N = fun i => sum m c (i 0) (i 1) := by
  refine (dats m 0 c).arrAt_eq_of_covers 7 _ (by decide +kernel) fun t hf y => ?_
  blk_simp
  have hm : t.val = 63 := by have := (flush0_7 t).mp hf; have ht : t.val < 64 := t.isLt; omega
  rw [after0_7]
  have h0 : (y 0).val < 8 := (y 0).isLt
  have h1 : (y 1).val < 2048 := (y 1).isLt
  have e0 : win0_7.index t 0 = 0 := by rw [idx7]; rfl
  have e1 : win0_7.index t 1 = 0 := by rw [idx7]; rfl
  have ey : y = ix2 ⟨(y 0).val, h0⟩ ⟨(y 1).val, h1⟩ := by funext a; fin_cases a <;> rfl
  refine (congrArg _ ey).trans ((sums_eq m c t.val t.isLt _ _).trans ?_)
  have e : (t.val + 1) / 4 = 16 := by omega
  rw [e]
  refine (blocks (toRow m c _ _)).trans (congrArg₂ (sum m c) (Fin.ext ?_) (Fin.ext ?_))
  · show (y 0).val = win0_7.index t 0 * 8 + 1 * (y 0).val; rw [e0]; omega
  · show (y 1).val = win0_7.index t 1 * 2048 + 1 * (y 1).val; rw [e1]; omega

end Cert.DownIdeal.Call

end
-- ==== Proof.Loss.lean ====
/-
  The call that multiplies by the feed-forward block's second weight, takes the loss and goes back through the second
  normalisation gives what its reference gives, where the arguments' entries are real numbers.
-/
module

public import proofs.«01_k».proof.Defs
public import proofs.«01_k».proof.Proof.Gen.Pre_finite_down
public import proofs.«01_k».proof.Proof.Gen.DownRefIdeal.Run
public import proofs.«01_k».proof.Proof.DownRef
public import proofs.«01_k».proof.Proof.DownArrays
public import proofs.«01_k».proof.Proof.NormReal
public import proofs.«01_k».proof.Proof.Forward

@[expose] public section

set_option maxRecDepth 16384

noncomputable section

namespace Cert.Pre_finite_down

open Idealize.ShloMosaic
open Facts
open Cert.Pre_finite_ln (real)

variable (a : FVec Ideal S8192x5632 .bf16) (w : FVec Ideal S5632x2048 .bf16) (x t : FVec Ideal S8192x2048 .f32)
  (g b : FVec Ideal S1x2048 .f32)

/-- Every entry of the gated rows is real, and so on for the other arrays. -/
theorem real_a (h : (fn (F := Ideal) a w x t g b).1 = fun _ => 1#1) (r : Fin 8192) (j : Fin 5632) : ∃ y : ℝ, a (ix2 r j) = (y : EReal) := by
  have e := congrFun h (ix2 r j)
  unfold fn fn_part1 at e
  dsimp only at e
  pointwise [Attn.lit_bot, Attn.lit_top] at e
  exact real (Pre_finite.both e)

@[inherit_doc real_a] theorem real_w (h : (fn (F := Ideal) a w x t g b).2.1 = fun _ => 1#1) (j : Fin 5632) (l : Fin 2048) :
    ∃ y : ℝ, w (ix2 j l) = (y : EReal) := by
  have e := congrFun h (ix2 j l)
  unfold fn fn_part1 at e
  dsimp only at e
  pointwise [Attn.lit_bot, Attn.lit_top] at e
  exact real (Pre_finite.both e)

@[inherit_doc real_a] theorem real_x (h : (fn (F := Ideal) a w x t g b).2.2.1 = fun _ => 1#1) (r : Fin 8192) (l : Fin 2048) :
    ∃ y : ℝ, x (ix2 r l) = (y : EReal) := by
  have e := congrFun h (ix2 r l)
  unfold fn fn_part1 at e
  dsimp only at e
  pointwise [Attn.lit_bot, Attn.lit_top] at e
  exact real (Pre_finite.both e)

@[inherit_doc real_a] theorem real_t (h : (fn (F := Ideal) a w x t g b).2.2.2.1 = fun _ => 1#1) (r : Fin 8192) (l : Fin 2048) :
    ∃ y : ℝ, t (ix2 r l) = (y : EReal) := by
  have e := congrFun h (ix2 r l)
  unfold fn fn_part1 at e
  dsimp only at e
  pointwise [Attn.lit_bot, Attn.lit_top] at e
  exact real (Pre_finite.both e)

@[inherit_doc real_a] theorem real_g (h : (fn (F := Ideal) a w x t g b).2.2.2.2.1 = fun _ => 1#1) (l : Fin 2048) :
    ∃ y : ℝ, g (ix2 0 l) = (y : EReal) := by
  have e := congrFun h (ix2 0 l)
  unfold fn fn_part1 at e
  dsimp only at e
  pointwise [Attn.lit_bot, Attn.lit_top] at e
  exact real (Pre_finite.both e)

@[inherit_doc real_a] theorem real_b (h : (fn (F := Ideal) a w x t g b).2.2.2.2.2 = fun _ => 1#1) (l : Fin 2048) :
    ∃ y : ℝ, b (ix2 0 l) = (y : EReal) := by
  have e := congrFun h (ix2 0 l)
  unfold fn fn_part1 at e
  dsimp only at e
  pointwise [Attn.lit_bot, Attn.lit_top] at e
  exact real (Pre_finite.both e)

end Cert.Pre_finite_down

namespace Cert.Loss

open Idealize.ShloMosaic Idealize.ShloMosaic.Ideal Idealize.ShloMosaic.Tactic Idealize.ShloMosaic.TcCoe Idealize.SL.Sem
open Cert.LnIdeal.Call (al cols mean factor)
open Cert.DownIdeal.Call (nrm off share)

/-- A normalised row of real numbers is a row of real numbers. -/
theorem nrm_real (z : Fin 2048 → EReal) (hz : ∀ k, ∃ y : ℝ, z k = (y : EReal)) (l : Fin 2048) : ∃ y : ℝ, nrm z l = (y : EReal) := by
  choose x hx using hz
  obtain ⟨ε, hε, he⟩ := Attn.lit_eps
  have h2048 : (2048 : ℝ) ≠ 0 := by norm_num
  obtain rfl : z = fun k => (x k : EReal) := funext hx
  have em : mean (fun k => (x k : EReal)) = (((∑ k, x k) * (1 / 2048) : ℝ) : EReal) := by
    unfold mean cols
    rw [Attn.lit_cols, Attn.coe_sum, Ideal.div_coe h2048, ← EReal.coe_mul]
  set μ : ℝ := (∑ k, x k) * (1 / 2048)
  set s : ℝ := (∑ k, (x k - μ) * (x k - μ)) * (1 / 2048) + ε with hs
  have hs0 : 0 < s := add_pos_of_nonneg_of_pos (mul_nonneg (Finset.sum_nonneg fun k _ => mul_self_nonneg _) (by norm_num)) hε
  have ef : factor (fun k => (x k : EReal)) = (((Real.sqrt s)⁻¹ : ℝ) : EReal) := by
    have e : Ideal.div (∑ k, ((x k : EReal) - mean fun k => (x k : EReal)) * ((x k : EReal) - mean fun k => (x k : EReal))) cols
        + Ideal.ofBits FTy.f32 925353388#32 = (s : EReal) := by
      unfold cols
      simp only [em, Attn.lit_cols, he, ← EReal.coe_sub, ← EReal.coe_mul, Attn.coe_sum, Ideal.div_coe h2048, ← EReal.coe_add]
      rfl
    exact (congrArg Ideal.rsqrt e).trans (by rw [Ideal.rsqrt_coe, if_neg hs0.not_gt, if_neg hs0.ne'])
  unfold nrm
  rw [em, ef, ← EReal.coe_sub, ← EReal.coe_mul]
  exact ⟨_, rfl⟩

/-- The reference's factor of a cotangent, half of twice one over the number of columns, is the call's. -/
theorem factors (y : EReal) : Ideal.div (DownRefIdeal.Entries.half * 1) cols * (LnRefIdeal.Entries.two * y) = y * share := by
  unfold DownRefIdeal.Entries.half cols LnRefIdeal.Entries.two share
  rw [Attn.lit_onehalf, Attn.lit_cols, Attn.lit_two, Attn.lit_share, mul_one, Ideal.div_coe (by norm_num), ← mul_assoc, ← EReal.coe_mul, ← EReal.coe_mul,
    mul_comm y]
  exact congrArg (fun c : ℝ => (c : EReal) * y) (by norm_num)

section Same
open Cert.DownIdeal Cert.DownIdeal.Call

variable (m : (ℓ : Loc nD τ sig) → Buf (Elt Ideal) ℓ) (c : Dev nD)

/-- The reference's rows before the normalisation are the call's. -/
theorem z_same (r : Fin 8192) : DownRefIdeal.Entries.zr (m ((c.tc : Thread nD τ).loc main_arg0)) (m ((c.tc : Thread nD τ).loc main_arg1))
    (m ((c.tc : Thread nD τ).loc main_arg2)) r = z m c r := funext fun l => by
  unfold DownRefIdeal.Entries.zr z x
  rw [dif_pos r.isLt]
  refine congrArg _ (Finset.sum_congr rfl fun j _ => ?_)
  unfold hm w
  rw [dif_pos ⟨r.isLt, j.isLt⟩, dif_pos j.isLt]

/-- So is how far the result is from the target, -/
theorem off_same (r : Fin 8192) : DownRefIdeal.Entries.off (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) r = miss' m c r := funext fun l => by
  unfold DownRefIdeal.Entries.off DownRefIdeal.Entries.nr miss' DownIdeal.Call.off nrm tg
  rw [z_same, dif_pos r.isLt]
  rfl

/-- and so are the cotangents. -/
theorem ct_same (r : Fin 8192) : DownRefIdeal.Entries.ct (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) r = cot' m c r := funext fun l => by
  unfold DownRefIdeal.Entries.ct
  rw [off_same]
  exact factors _

/-- The rows' cotangents, where every entry is a real number. -/
theorem left_same (h : Cert.Pre_DownIdeal_finite_down m) (r : Fin 8192) (l : Fin 2048) :
    LnRefIdeal.Entries.back' (DownRefIdeal.Entries.up (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) r)
      (DownRefIdeal.Entries.zr (m ((c.tc : Thread nD τ).loc main_arg0)) (m ((c.tc : Thread nD τ).loc main_arg1))
        (m ((c.tc : Thread nD τ).loc main_arg2)) r) l = left m c r l := by
  obtain ⟨h0, h1, h2, h3, h4, h5⟩ := h c
  have hz : ∀ k, ∃ y : ℝ, z m c r k = (y : EReal) := fun k => by
    rw [← z_same]
    unfold DownRefIdeal.Entries.zr al
    obtain ⟨α, hα⟩ := Attn.lit_alpha
    choose p hp using fun j => Pre_finite_down.real_a _ _ _ _ _ _ h0 r j
    choose q hq using fun j => Pre_finite_down.real_w _ _ _ _ _ _ h1 j k
    obtain ⟨y, hy⟩ := Pre_finite_down.real_x _ _ _ _ _ _ h2 r k
    simp only [hα, hp, hq, hy, ← EReal.coe_mul, Attn.coe_sum, ← EReal.coe_add]
    exact ⟨_, rfl⟩
  rw [z_same]
  refine (Norm.row _ _ (fun k => ?_) hz l).trans ?_
  · unfold DownRefIdeal.Entries.up
    rw [ct_same]
    unfold cot' DownIdeal.Call.ct DownIdeal.Call.off share g b tg
    rw [dif_pos r.isLt]
    obtain ⟨n, hn⟩ := nrm_real _ hz k
    obtain ⟨t, ht⟩ := Pre_finite_down.real_t _ _ _ _ _ _ h3 r k
    obtain ⟨u, hu⟩ := Pre_finite_down.real_g _ _ _ _ _ _ h4 k
    obtain ⟨v, hv⟩ := Pre_finite_down.real_b _ _ _ _ _ _ h5 k
    rw [hn, hu, hv, Attn.lit_share]
    refine ⟨(n * u + v - t) * (1 / 2048) * u, ?_⟩
    simp only [EReal.coe_mul, EReal.coe_sub, EReal.coe_add, ← ht]
  · unfold left LnIdeal.Call.back DownRefIdeal.Entries.up
    rw [ct_same]
    rfl

/-- The second array's rows. -/
theorem sum_same (q : Fin 8) (l : Fin 2048) : DownRefIdeal.Read.val_main_v97 (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (ix2 q l) = sum m c q l := by
  refine (DownRefIdeal.Entries.v97 _ _ _ _ _ _ q l).trans ?_
  unfold sum toRow
  by_cases q0 : q.val = 0
  · simp only [if_pos q0]
    refine Finset.sum_congr rfl fun r _ => ?_
    unfold DownRefIdeal.Entries.nr nrm
    rw [ct_same, z_same]
    exact mul_comm _ _
  by_cases q1 : q.val = 1
  · simp only [if_neg q0, if_pos q1]
    exact Finset.sum_congr rfl fun r _ => by rw [ct_same]
  by_cases q2 : q.val = 2
  · simp only [if_neg q0, if_neg q1, if_pos q2]
    exact Finset.sum_congr rfl fun r _ => by rw [off_same]
  · simp only [if_neg q0, if_neg q1, if_neg q2, Finset.sum_const_zero]

end Same

/-- The reference ends, and nothing of its semaphores is left. -/
theorem down_ref_frame : Cert.quiescent_DownRefIdeal := fun m g _ =>
  (θ_run Cert.DownRefIdeal.defs _ _).mono (fun r h => ⟨fun c => (h c).2.2, sem_eq_zero_of_no_sems (by decide) r.2⟩) (Cert.DownRefIdeal.Value.run m g)

/-- The two arrays of the call are the reference's. -/
theorem down_values : Cert.algebraic_DownIdeal_DownRefIdeal_pre_finite_down := by
  intro m g m' g' hpre hagree
  refine ⟨fun c => (Cert.DownIdeal.Gen.dats m 0 c).arrAt 6 Cert.DownIdeal.cfg0.N, fun c => (Cert.DownIdeal.Gen.dats m 0 c).arrAt 7 Cert.DownIdeal.cfg0.N,
    Cert.DownIdeal.Value.run_blocks m g, ?_⟩
  refine (θ_run Cert.DownRefIdeal.defs _ _).mono (fun r h c => ⟨(h c).1.trans ?_, (h c).2.1.trans ?_, (h c).2.2⟩) (Cert.DownRefIdeal.Value.run m' g')
  · refine (Cert.DownRefIdeal.Read.val_main_v92_eq (F := Ideal) _ _).trans ?_
    refine Eq.trans ?_ (Cert.DownIdeal.Call.final6 m c).symm
    rw [(hagree c).1, (hagree c).2.1, (hagree c).2.2.1, (hagree c).2.2.2.1, (hagree c).2.2.2.2.1, (hagree c).2.2.2.2.2]
    exact Products.ext2 fun i j => (DownRefIdeal.Entries.v92 _ _ _ _ _ _ i j).trans (left_same m c hpre i j)
  · refine (Cert.DownRefIdeal.Read.val_main_v97_eq (F := Ideal) _ _).trans ?_
    refine Eq.trans ?_ (Cert.DownIdeal.Call.final7 m c).symm
    rw [(hagree c).1, (hagree c).2.1, (hagree c).2.2.1, (hagree c).2.2.2.1, (hagree c).2.2.2.2.1, (hagree c).2.2.2.2.2]
    exact Products.ext2 fun i j => sum_same m c i j

end Cert.Loss

end
-- ==== Proof.OutProj.lean ====
/-
  The call that multiplies the mixer's output by the output projection's weight, adds the residual and normalises: what
  it leaves in its four result arrays over the extended reals, entry by entry.
-/
module

public import proofs.«01_k».proof.Proof.Gen.OutIdeal.Value
public import proofs.«01_k».proof.Proof.DownCall

@[expose] public section

set_option maxRecDepth 16384

noncomputable section

namespace Cert.OutIdeal.Call

open Cert.OutIdeal Cert.OutIdeal.Gen Idealize.ShloMosaic Idealize.ShloMosaic.TcCoe Idealize.ShloMosaic.Tactic
open Idealize.ShloMosaic.Pipeline
open Cert.LnIdeal.Call (al cols mean factor)
open Cert.DownIdeal.Call (nrm)

theorem off2 : (![0, 0] : Fin 2 → ℕ) = fun _ => 0 := by decide

/-! ## What one point computes -/

section body
variable (x0 x1 : Vec Ideal S512x1024 .bf16) (x2 x3 : Vec Ideal S1024x2048 .bf16) (x4 : Vec Ideal S512x2048 .f32) (x5 x6 : Vec Ideal S1x2048 .f32)

/-- A block's rows before the normalisation. -/
def zb (r : Fin 512) (l : Fin 2048) : EReal :=
  al * x4 (ix2 r l) + (∑ k : Fin 1024, x0 (ix2 r k) * x2 (ix2 k l) + ∑ k : Fin 1024, x1 (ix2 r k) * x3 (ix2 k l))

/-- The rows' centred entries, their factors, the normalised rows, and these with the gain and the shift. -/
theorem centred (r : Fin 512) (l : Fin 2048) : k0_pay3 x0 x2 x1 x3 x4 (ix2 r l) = zb x0 x1 x2 x3 x4 r l - mean (zb x0 x1 x2 x3 x4 r) := by
  pointwise [k0_pay3]
  rfl

@[inherit_doc centred] theorem scaled (r : Fin 512) : k0_pay4 x0 x2 x1 x3 x4 (ix2 r 0) = factor (zb x0 x1 x2 x3 x4 r) := by
  pointwise [k0_pay4]
  simp only [centred]
  rfl

@[inherit_doc centred] theorem normal (r : Fin 512) (l : Fin 2048) : k0_pay5 x0 x2 x1 x3 x4 (ix2 r l) = nrm (zb x0 x1 x2 x3 x4 r) l := by
  pointwise [k0_pay5]
  rw [centred, scaled]
  rfl

@[inherit_doc centred] theorem result (r : Fin 512) (l : Fin 2048) :
    k0_pay6 x0 x2 x1 x3 x4 x5 x6 (ix2 r l) = nrm (zb x0 x1 x2 x3 x4 r) l * x5 (ix2 0 l) + x6 (ix2 0 l) := by
  pointwise [k0_pay6]
  rw [normal]

/-- What the body leaves in each result's block. -/
theorem body7 (r : Fin 512) (l : Fin 2048) :
    out0_7 x0 x1 x2 x3 x4 x5 x6 (ix2 r l) = nrm (zb x0 x1 x2 x3 x4 r) l * x5 (ix2 0 l) + x6 (ix2 0 l) := by
  unfold out0_7
  rw [View.canon_unit_zero (S := S512x2048) off2, View.ld_unit_zero (S := S512x1024) off2, View.ld_unit_zero (S := S512x1024) off2,
    View.ld_unit_zero (S := S1024x2048) off2, View.ld_unit_zero (S := S1024x2048) off2, View.ld_unit_zero (S := S512x2048) off2,
    View.ld_unit_zero (S := S1x2048) off2, View.ld_unit_zero (S := S1x2048) off2]
  exact result ..

@[inherit_doc body7] theorem body8 (r : Fin 512) (l : Fin 2048) :
    out0_8 x0 x1 x2 x3 x4 x5 x6 (ix2 r l) = nrm (zb x0 x1 x2 x3 x4 r) l * x5 (ix2 0 l) + x6 (ix2 0 l) := by
  unfold out0_8
  rw [View.canon_unit_zero (S := S512x2048) off2, View.ld_unit_zero (S := S512x1024) off2, View.ld_unit_zero (S := S512x1024) off2,
    View.ld_unit_zero (S := S1024x2048) off2, View.ld_unit_zero (S := S1024x2048) off2, View.ld_unit_zero (S := S512x2048) off2,
    View.ld_unit_zero (S := S1x2048) off2, View.ld_unit_zero (S := S1x2048) off2]
  pointwise [k0_pay1]
  exact result ..

@[inherit_doc body7] theorem body9 (r : Fin 512) (l : Fin 2048) :
    out0_9 x0 x1 x2 x3 x4 x5 x6 (ix2 r l) = nrm (zb x0 x1 x2 x3 x4 r) l := by
  unfold out0_9
  rw [View.canon_unit_zero (S := S512x2048) off2, View.ld_unit_zero (S := S512x1024) off2, View.ld_unit_zero (S := S512x1024) off2,
    View.ld_unit_zero (S := S1024x2048) off2, View.ld_unit_zero (S := S1024x2048) off2, View.ld_unit_zero (S := S512x2048) off2]
  pointwise [k0_pay2]
  exact normal ..

@[inherit_doc body7] theorem body10 (r : Fin 512) :
    out0_10 x0 x1 x2 x3 x4 x5 x6 (ix2 r 0) = factor (zb x0 x1 x2 x3 x4 r) := by
  unfold out0_10
  rw [View.canon_unit_zero (S := S512x1) off2, View.ld_unit_zero (S := S512x1024) off2, View.ld_unit_zero (S := S512x1024) off2,
    View.ld_unit_zero (S := S1024x2048) off2, View.ld_unit_zero (S := S1024x2048) off2, View.ld_unit_zero (S := S512x2048) off2]
  exact scaled ..

end body

/-! ## The arrays -/

variable (m : (ℓ : Loc nD τ sig) → Buf (Elt Ideal) ℓ) (c : Dev nD)

/-- The arguments by row and column: the mixer's two halves, the weight, the residual, the gain, the shift. -/
def at' (r : Fin 8192) (k : Fin 1024) : EReal := m ((c.tc : Thread nD τ).loc main_arg0) (ix2 r k)
@[inherit_doc at'] def cv (r : Fin 8192) (k : Fin 1024) : EReal := m ((c.tc : Thread nD τ).loc main_arg1) (ix2 r k)
@[inherit_doc at'] def w (k l : Fin 2048) : EReal := m ((c.tc : Thread nD τ).loc main_arg2) (ix2 k l)
@[inherit_doc at'] def x (r : Fin 8192) (l : Fin 2048) : EReal := m ((c.tc : Thread nD τ).loc main_arg3) (ix2 r l)
@[inherit_doc at'] def g (l : Fin 2048) : EReal := m ((c.tc : Thread nD τ).loc main_arg4) (ix2 0 l)
@[inherit_doc at'] def b (l : Fin 2048) : EReal := m ((c.tc : Thread nD τ).loc main_arg5) (ix2 0 l)

/-- The rows before the normalisation. -/
def z (r : Fin 8192) (l : Fin 2048) : EReal :=
  al * x m c r l + (∑ k : Fin 1024, at' m c r k * w m c ⟨k, by omega⟩ l + ∑ k : Fin 1024, cv m c r k * w m c ⟨1024 + k, by omega⟩ l)

/-- The normalised rows with the gain and the shift. -/
def res (r : Fin 8192) (l : Fin 2048) : EReal := nrm (z m c r) l * g m c l + b m c l

/-- Where each window's block lies. -/
theorem idx0 : ∀ t : Fin cfg0.N, win0_0.index t = ![t.val, 0] := (by decide +kernel : ∀ t : Fin grid0.N, _)
@[inherit_doc idx0] theorem idx1 : ∀ t : Fin cfg0.N, win0_1.index t = ![t.val, 0] := (by decide +kernel : ∀ t : Fin grid0.N, _)
@[inherit_doc idx0] theorem idx2 : ∀ t : Fin cfg0.N, win0_2.index t = ![0, 0] := (by decide +kernel : ∀ t : Fin grid0.N, _)
@[inherit_doc idx0] theorem idx3 : ∀ t : Fin cfg0.N, win0_3.index t = ![1, 0] := (by decide +kernel : ∀ t : Fin grid0.N, _)
@[inherit_doc idx0] theorem idx4 : ∀ t : Fin cfg0.N, win0_4.index t = ![t.val, 0] := (by decide +kernel : ∀ t : Fin grid0.N, _)
@[inherit_doc idx0] theorem idx5 : ∀ t : Fin cfg0.N, win0_5.index t = ![0, 0] := (by decide +kernel : ∀ t : Fin grid0.N, _)
@[inherit_doc idx0] theorem idx6 : ∀ t : Fin cfg0.N, win0_6.index t = ![0, 0] := (by decide +kernel : ∀ t : Fin grid0.N, _)
@[inherit_doc idx0] theorem idx7 : ∀ t : Fin cfg0.N, win0_7.index t = ![t.val, 0] := (by decide +kernel : ∀ t : Fin grid0.N, _)
@[inherit_doc idx0] theorem idx8 : ∀ t : Fin cfg0.N, win0_8.index t = ![t.val, 0] := (by decide +kernel : ∀ t : Fin grid0.N, _)
@[inherit_doc idx0] theorem idx9 : ∀ t : Fin cfg0.N, win0_9.index t = ![t.val, 0] := (by decide +kernel : ∀ t : Fin grid0.N, _)
@[inherit_doc idx0] theorem idx10 : ∀ t : Fin cfg0.N, win0_10.index t = ![t.val, 0] := (by decide +kernel : ∀ t : Fin grid0.N, _)

/-- The row of the arrays that is a block's row. -/
def row (t : Fin cfg0.N) (r : Fin 512) : Fin 8192 := ⟨512 * t.val + r, by have : t.val < 16 := t.isLt; omega⟩

/-- An entry of a block of each argument. -/
theorem blk0 (t : Fin cfg0.N) (r : Fin 512) (k : Fin 1024) : iblk m c 0 t (ix2 r k) = at' m c (row t r) k := by
  blk_simp [iblk, idx0]
  rw [V_main_arg0]
  refine congrArg _ ?_
  blk_ext [idx0, row]

@[inherit_doc blk0] theorem blk1 (t : Fin cfg0.N) (r : Fin 512) (k : Fin 1024) : iblk m c 1 t (ix2 r k) = cv m c (row t r) k := by
  blk_simp [iblk, idx1]
  rw [V_main_arg1]
  refine congrArg _ ?_
  blk_ext [idx1, row]

@[inherit_doc blk0] theorem blk2 (t : Fin cfg0.N) (k : Fin 1024) (l : Fin 2048) : iblk m c 2 t (ix2 k l) = w m c ⟨k, by omega⟩ l := by
  blk_simp [iblk, idx2]
  rw [V_main_arg2]
  refine congrArg _ ?_
  blk_ext [idx2]

@[inherit_doc blk0] theorem blk3 (t : Fin cfg0.N) (k : Fin 1024) (l : Fin 2048) : iblk m c 3 t (ix2 k l) = w m c ⟨1024 + k, by omega⟩ l := by
  blk_simp [iblk, idx3]
  rw [V_main_arg2]
  refine congrArg _ ?_
  blk_ext [idx3]

@[inherit_doc blk0] theorem blk4 (t : Fin cfg0.N) (r : Fin 512) (l : Fin 2048) : iblk m c 4 t (ix2 r l) = x m c (row t r) l := by
  blk_simp [iblk, idx4]
  rw [V_main_arg3]
  refine congrArg _ ?_
  blk_ext [idx4, row]

@[inherit_doc blk0] theorem blk5 (t : Fin cfg0.N) (l : Fin 2048) : iblk m c 5 t (ix2 0 l) = g m c l := by
  blk_simp [iblk, idx5]
  rw [V_main_arg4]
  refine congrArg _ ?_
  blk_ext [idx5]

@[inherit_doc blk0] theorem blk6 (t : Fin cfg0.N) (l : Fin 2048) : iblk m c 6 t (ix2 0 l) = b m c l := by
  blk_simp [iblk, idx6]
  rw [V_main_arg5]
  refine congrArg _ ?_
  blk_ext [idx6]

/-- A block's rows before the normalisation are rows of the array's. -/
theorem z_eq (t : Fin cfg0.N) (r : Fin 512) :
    zb (iblk m c 0 t) (iblk m c 1 t) (iblk m c 2 t) (iblk m c 3 t) (iblk m c 4 t) r = z m c (row t r) := funext fun l => by
  unfold zb z
  simp only [blk0, blk1, blk2, blk3, blk4]

/-- The four result arrays: the results twice, the normalised rows, their factors. -/
theorem final7 : (dats m 0 c).arrAt 7 cfg0.N = fun i => res m c (i 0) (i 1) := by
  refine (dats m 0 c).arrAt_eq_of_covers 7 _ (by decide +kernel) fun t hf y => ?_
  blk_simp
  rw [after0_7]
  have h0 : (y 0).val < 512 := (y 0).isLt
  have h1 : (y 1).val < 2048 := (y 1).isLt
  have e0 : win0_7.index t 0 = t.val := by rw [idx7]; rfl
  have e1 : win0_7.index t 1 = 0 := by rw [idx7]; rfl
  have ey : y = ix2 ⟨(y 0).val, h0⟩ ⟨(y 1).val, h1⟩ := by funext a; fin_cases a <;> rfl
  refine (congrArg _ ey).trans ((body7 _ _ _ _ _ _ _ _ _).trans ?_)
  rw [z_eq, blk5, blk6]
  refine congrArg₂ (res m c) (Fin.ext ?_) (Fin.ext ?_)
  · show 512 * t.val + (y 0).val = win0_7.index t 0 * 512 + 1 * (y 0).val; rw [e0]; omega
  · show (y 1).val = win0_7.index t 1 * 2048 + 1 * (y 1).val; rw [e1]; omega

@[inherit_doc final7] theorem final8 : (dats m 0 c).arrAt 8 cfg0.N = fun i => res m c (i 0) (i 1) := by
  refine (dats m 0 c).arrAt_eq_of_covers 8 _ (by decide +kernel) fun t hf y => ?_
  blk_simp
  rw [after0_8]
  have h0 : (y 0).val < 512 := (y 0).isLt
  have h1 : (y 1).val < 2048 := (y 1).isLt
  have e0 : win0_8.index t 0 = t.val := by rw [idx8]; rfl
  have e1 : win0_8.index t 1 = 0 := by rw [idx8]; rfl
  have ey : y = ix2 ⟨(y 0).val, h0⟩ ⟨(y 1).val, h1⟩ := by funext a; fin_cases a <;> rfl
  refine (congrArg _ ey).trans ((body8 _ _ _ _ _ _ _ _ _).trans ?_)
  rw [z_eq, blk5, blk6]
  refine congrArg₂ (res m c) (Fin.ext ?_) (Fin.ext ?_)
  · show 512 * t.val + (y 0).val = win0_8.index t 0 * 512 + 1 * (y 0).val; rw [e0]; omega
  · show (y 1).val = win0_8.index t 1 * 2048 + 1 * (y 1).val; rw [e1]; omega

@[inherit_doc final7] theorem final9 : (dats m 0 c).arrAt 9 cfg0.N = fun i => nrm (z m c (i 0)) (i 1) := by
  refine (dats m 0 c).arrAt_eq_of_covers 9 _ (by decide +kernel) fun t hf y => ?_
  blk_simp
  rw [after0_9]
  have h0 : (y 0).val < 512 := (y 0).isLt
  have h1 : (y 1).val < 2048 := (y 1).isLt
  have e0 : win0_9.index t 0 = t.val := by rw [idx9]; rfl
  have e1 : win0_9.index t 1 = 0 := by rw [idx9]; rfl
  have ey : y = ix2 ⟨(y 0).val, h0⟩ ⟨(y 1).val, h1⟩ := by funext a; fin_cases a <;> rfl
  refine (congrArg _ ey).trans ((body9 _ _ _ _ _ _ _ _ _).trans ?_)
  rw [z_eq]
  refine congrArg₂ (fun r => nrm (z m c r)) (Fin.ext ?_) (Fin.ext ?_)
  · show 512 * t.val + (y 0).val = win0_9.index t 0 * 512 + 1 * (y 0).val; rw [e0]; omega
  · show (y 1).val = win0_9.index t 1 * 2048 + 1 * (y 1).val; rw [e1]; omega

@[inherit_doc final7] theorem final10 : (dats m 0 c).arrAt 10 cfg0.N = fun i => factor (z m c (i 0)) := by
  refine (dats m 0 c).arrAt_eq_of_covers 10 _ (by decide +kernel) fun t hf y => ?_
  blk_simp
  rw [after0_10]
  have h0 : (y 0).val < 512 := (y 0).isLt
  have h1 : (y 1).val < 1 := (y 1).isLt
  have e0 : win0_10.index t 0 = t.val := by rw [idx10]; rfl
  have ey : y = ix2 ⟨(y 0).val, h0⟩ 0 := by
    funext a
    match a with
    | ⟨0, _⟩ => rfl
    | ⟨1, _⟩ => exact Subsingleton.elim (α := Fin 1) _ _
  refine (congrArg _ ey).trans ((body10 _ _ _ _ _ _ _ _).trans ?_)
  rw [z_eq]
  refine congrArg (fun r => factor (z m c r)) (Fin.ext ?_)
  show 512 * t.val + (y 0).val = win0_10.index t 0 * 512 + 1 * (y 0).val
  rw [e0]; omega

end Cert.OutIdeal.Call

end
-- ==== Proof.First.lean ====
/-
  The call that multiplies the mixer's output by the output projection's weight, adds the residual and normalises gives
  what its reference gives.
-/
module

public import proofs.«01_k».proof.Defs
public import proofs.«01_k».proof.Proof.Gen.OutRefIdeal.Run
public import proofs.«01_k».proof.Proof.Gen.OutRefIdeal.Read
public import proofs.«01_k».proof.Proof.OutProj
public import proofs.«01_k».proof.Proof.LnRef
public import proofs.«01_k».proof.Proof.Products

@[expose] public section

set_option maxRecDepth 16384

noncomputable section

namespace Cert.OutRefIdeal.Entries

open Cert.OutRefIdeal Cert.OutRefIdeal.Read Idealize.ShloMosaic
open Cert.LnIdeal.Call (al cols mean factor)
open Cert.LnRefIdeal.Entries (spread)
open Cert.DownIdeal.Call (nrm)

variable (x0 x1 : (⟨S8192x1024, .bf16⟩ : BufTy).Contents (Elt Ideal)) (x2 : (⟨S2048x2048, .bf16⟩ : BufTy).Contents (Elt Ideal))
  (x3 : (⟨S8192x2048, .f32⟩ : BufTy).Contents (Elt Ideal)) (x4 x5 : (⟨S1x2048, .f32⟩ : BufTy).Contents (Elt Ideal))

/-- The mixer's two halves side by side. -/
def mix (r : Fin 8192) (k : Fin 2048) : EReal :=
  if h : k.val < 1024 then x0 (ix2 r ⟨k.val, h⟩) else x1 (ix2 r ⟨k.val - 1024, by omega⟩)

theorem v2 (r : Fin 8192) (k : Fin 2048) : val_main_v2 (F := Ideal) x0 x1 (ix3 0 r k) = mix x0 x1 r k := by
  unfold mix
  pointwise [val_main_v2, val_main_v1, val_main_v0]

/-- A row before the normalisation. -/
def zr (r : Fin 8192) (l : Fin 2048) : EReal := al * x3 (ix2 r l) + ∑ k : Fin 2048, mix x0 x1 r k * x2 (ix2 k l)

theorem v8 (r : Fin 8192) (l : Fin 2048) : val_main_v8 (F := Ideal) x0 x1 x2 x3 (ix3 0 r l) = zr x0 x1 x2 x3 r l := by
  pointwise [val_main_v8, val_main_v7, val_main_v6, val_main_v5, val_main_v4, val_main_v3, val_main_cst]
  simp only [v2]
  rfl

/-! ## As the normalisation takes them -/

theorem v14 (r : Fin 8192) : val_main_v14 (F := Ideal) x0 x1 x2 x3 (ix3 0 r 0) = mean (zr x0 x1 x2 x3 r) := by
  pointwise [val_main_v14, val_main_v13, val_main_v12, val_main_v11, val_main_cst_0, val_main_cst_1]
  simp only [v8]
  rfl

theorem v16 (r : Fin 8192) (l : Fin 2048) : val_main_v16 (F := Ideal) x0 x1 x2 x3 (ix3 0 r l) = zr x0 x1 x2 x3 r l - mean (zr x0 x1 x2 x3 r) := by
  pointwise [val_main_v16, val_main_v15]
  rw [v8, v14]

theorem v23 (r : Fin 8192) (l : Fin 2048) : val_main_v23 (F := Ideal) x0 x1 x2 x3 (ix3 0 r l) = zr x0 x1 x2 x3 r l - mean (zr x0 x1 x2 x3 r) := by
  pointwise [val_main_v23, val_main_v22]
  rw [v8, v14]

theorem v25 (r : Fin 8192) : val_main_v25 (F := Ideal) x0 x1 x2 x3 (ix3 0 r 0) = spread (zr x0 x1 x2 x3 r) := by
  pointwise [val_main_v25, val_main_v24, val_main_v21, val_main_v20, val_main_v19, val_main_v18, val_main_v17, val_main_cst_2, val_main_cst_3, val_main_cst_4]
  simp only [v16]
  rfl

theorem v26 (r : Fin 8192) : val_main_v26 (F := Ideal) x0 x1 x2 x3 (ix3 0 r 0) = factor (zr x0 x1 x2 x3 r) := by
  pointwise [val_main_v26]
  rw [v25]
  rfl

theorem v28 (r : Fin 8192) (l : Fin 2048) : val_main_v28 (F := Ideal) x0 x1 x2 x3 (ix3 0 r l) = nrm (zr x0 x1 x2 x3 r) l := by
  pointwise [val_main_v28, val_main_v27]
  rw [v23, v26]
  rfl

theorem v34 (r : Fin 8192) (l : Fin 2048) :
    val_main_v34 (F := Ideal) x0 x1 x2 x3 x4 x5 (ix3 0 r l) = nrm (zr x0 x1 x2 x3 r) l * x4 (ix2 0 l) + x5 (ix2 0 l) := by
  pointwise [val_main_v34, val_main_v33, val_main_v32, val_main_v31, val_main_v30, val_main_v29, val_main_v9, val_main_v10]
  rw [v28]

/-- The normalised rows with the gain and the shift, as the reference returns them twice. -/
theorem v49 (r : Fin 8192) (l : Fin 2048) :
    val_main_v49 (F := Ideal) x0 x1 x2 x3 x4 x5 (ix2 r l) = nrm (zr x0 x1 x2 x3 r) l * x4 (ix2 0 l) + x5 (ix2 0 l) := by
  pointwise [val_main_v49]
  exact v34 ..

@[inherit_doc v49] theorem v51 (r : Fin 8192) (l : Fin 2048) :
    val_main_v51 (F := Ideal) x0 x1 x2 x3 x4 x5 (ix2 r l) = nrm (zr x0 x1 x2 x3 r) l * x4 (ix2 0 l) + x5 (ix2 0 l) := by
  pointwise [val_main_v51, val_main_v50]
  exact v34 ..

/-! ## The rows and their factors, as the reference keeps them -/

theorem v38 (r : Fin 8192) : val_main_v38 (F := Ideal) x0 x1 x2 x3 (ix3 0 r 0) = mean (zr x0 x1 x2 x3 r) := by
  pointwise [val_main_v38, val_main_v37, val_main_v36, val_main_v35, val_main_cst_5, val_main_cst_6]
  simp only [v8]
  rfl

theorem v40 (r : Fin 8192) (l : Fin 2048) : val_main_v40 (F := Ideal) x0 x1 x2 x3 (ix3 0 r l) = zr x0 x1 x2 x3 r l - mean (zr x0 x1 x2 x3 r) := by
  pointwise [val_main_v40, val_main_v39]
  rw [v8, v38]

theorem v47 (r : Fin 8192) : val_main_v47 (F := Ideal) x0 x1 x2 x3 (ix3 0 r 0) = spread (zr x0 x1 x2 x3 r) := by
  pointwise [val_main_v47, val_main_v46, val_main_v45, val_main_v44, val_main_v43, val_main_v42, val_main_v41, val_main_cst_7, val_main_cst_8, val_main_cst_9]
  simp only [v40]
  rfl

theorem v48 (r : Fin 8192) : val_main_v48 (F := Ideal) x0 x1 x2 x3 (ix3 0 r 0) = factor (zr x0 x1 x2 x3 r) := by
  pointwise [val_main_v48]
  rw [v47]
  rfl

/-- The normalised rows. -/
theorem v57 (r : Fin 8192) (l : Fin 2048) : val_main_v57 (F := Ideal) x0 x1 x2 x3 (ix2 r l) = nrm (zr x0 x1 x2 x3 r) l := by
  pointwise [val_main_v57, val_main_v56, val_main_v55, val_main_v54, val_main_v53, val_main_v52]
  rw [v8, v38, v48]
  rfl

/-- Their factors. -/
theorem v58 (r : Fin 8192) : val_main_v58 (F := Ideal) x0 x1 x2 x3 (ix2 r 0) = factor (zr x0 x1 x2 x3 r) := by
  pointwise [val_main_v58]
  exact v48 ..

end Cert.OutRefIdeal.Entries

namespace Cert.First

open Idealize.ShloMosaic Idealize.ShloMosaic.Ideal Idealize.ShloMosaic.Tactic Idealize.ShloMosaic.TcCoe Idealize.SL.Sem

section Same
open Cert.OutIdeal Cert.OutIdeal.Call

variable (m : (ℓ : Loc nD τ sig) → Buf (Elt Ideal) ℓ) (c : Dev nD)

/-- The reference's rows before the normalisation are the call's: the sum over the two halves side by side is the sum of the sums. -/
theorem z_same (r : Fin 8192) : OutRefIdeal.Entries.zr (m ((c.tc : Thread nD τ).loc main_arg0)) (m ((c.tc : Thread nD τ).loc main_arg1))
    (m ((c.tc : Thread nD τ).loc main_arg2)) (m ((c.tc : Thread nD τ).loc main_arg3)) r = z m c r := funext fun l => by
  unfold OutRefIdeal.Entries.zr z
  refine congrArg _ ((Fin.sum_univ_add (a := 1024) (b := 1024) _).trans (congrArg₂ (· + ·) ?_ ?_)) <;> refine Finset.sum_congr rfl fun k _ => ?_
  · unfold OutRefIdeal.Entries.mix
    rw [dif_pos (by show k.val < 1024; omega)]
    rfl
  · unfold OutRefIdeal.Entries.mix
    rw [dif_neg (by show ¬ 1024 + k.val < 1024; omega)]
    refine congrArg (fun j => cv m c r j * w m c ⟨1024 + k, by omega⟩ l) (Fin.ext ?_)
    show 1024 + k.val - 1024 = k.val
    omega

end Same

/-- The reference ends, and nothing of its semaphores is left. -/
theorem out_ref_frame : Cert.quiescent_OutRefIdeal := fun m g _ =>
  (θ_run Cert.OutRefIdeal.defs _ _).mono (fun r h => ⟨fun c => (h c).2.2.2.2, sem_eq_zero_of_no_sems (by decide) r.2⟩) (Cert.OutRefIdeal.Value.run m g)

/-- The four arrays of the call are the reference's. -/
theorem out_values : Cert.algebraic_OutIdeal_OutRefIdeal := by
  intro m g m' g' _ hagree
  refine ⟨fun c => (Cert.OutIdeal.Gen.dats m 0 c).arrAt 7 Cert.OutIdeal.cfg0.N, fun c => (Cert.OutIdeal.Gen.dats m 0 c).arrAt 8 Cert.OutIdeal.cfg0.N,
    fun c => (Cert.OutIdeal.Gen.dats m 0 c).arrAt 9 Cert.OutIdeal.cfg0.N, fun c => (Cert.OutIdeal.Gen.dats m 0 c).arrAt 10 Cert.OutIdeal.cfg0.N,
    Cert.OutIdeal.Value.run_blocks m g, ?_⟩
  refine (θ_run Cert.OutRefIdeal.defs _ _).mono
    (fun r h c => ⟨(h c).1.trans ?_, (h c).2.1.trans ?_, (h c).2.2.1.trans ?_, (h c).2.2.2.1.trans ?_, (h c).2.2.2.2⟩) (Cert.OutRefIdeal.Value.run m' g')
  · refine (Cert.OutRefIdeal.Read.val_main_v49_eq (F := Ideal) _ _).trans ?_
    refine Eq.trans ?_ (Cert.OutIdeal.Call.final7 m c).symm
    rw [(hagree c).1, (hagree c).2.1, (hagree c).2.2.1, (hagree c).2.2.2.1, (hagree c).2.2.2.2.1, (hagree c).2.2.2.2.2]
    exact Products.ext2 fun i j => (OutRefIdeal.Entries.v49 _ _ _ _ _ _ i j).trans (by rw [z_same]; rfl)
  · refine (Cert.OutRefIdeal.Read.val_main_v51_eq (F := Ideal) _ _).trans ?_
    refine Eq.trans ?_ (Cert.OutIdeal.Call.final8 m c).symm
    rw [(hagree c).1, (hagree c).2.1, (hagree c).2.2.1, (hagree c).2.2.2.1, (hagree c).2.2.2.2.1, (hagree c).2.2.2.2.2]
    exact Products.ext2 fun i j => (OutRefIdeal.Entries.v51 _ _ _ _ _ _ i j).trans (by rw [z_same]; rfl)
  · refine (Cert.OutRefIdeal.Read.val_main_v57_eq (F := Ideal) _ _).trans ?_
    refine Eq.trans ?_ (Cert.OutIdeal.Call.final9 m c).symm
    rw [(hagree c).1, (hagree c).2.1, (hagree c).2.2.1, (hagree c).2.2.2.1]
    exact Products.ext2 fun i j => (OutRefIdeal.Entries.v57 _ _ _ _ i j).trans (by rw [z_same]; rfl)
  · refine (Cert.OutRefIdeal.Read.val_main_v58_eq (F := Ideal) _ _ _ _).trans ?_
    refine Eq.trans ?_ (Cert.OutIdeal.Call.final10 m c).symm
    rw [(hagree c).1, (hagree c).2.1, (hagree c).2.2.1, (hagree c).2.2.2.1]
    refine Products.ext2 fun i j => ?_
    obtain rfl : j = 0 := Subsingleton.elim (α := Fin 1) _ _
    exact (OutRefIdeal.Entries.v58 _ _ _ _ i).trans (by rw [z_same]; rfl)

end Cert.First

end
-- ==== Proof.GatedFilter.lean ====
/-
  The call that filters the gated rows of the mixer's second half and gates the result: what it leaves in its result
  array over the extended reals, entry by entry. A grid point multiplies a block of one gate by a block of what it
  gates, filters the products along the rows with the last rows of the block before, which it keeps in a buffer, and
  multiplies by the other gate.
-/
module

public import proofs.«01_k».proof.Proof.Gen.ConvIdeal.Value
public import proofs.«01_k».proof.Proof.UpProj

@[expose] public section

set_option maxRecDepth 16384

noncomputable section

namespace Cert.ConvIdeal.Call

open Cert.ConvIdeal Cert.ConvIdeal.Gen Idealize.ShloMosaic Idealize.ShloMosaic.TcCoe Idealize.ShloMosaic.Tactic
open Idealize.ShloMosaic.Pipeline
open Cert.UpIdeal.Call (above above1 above2 above_eq filter past)

/-! ## What one point computes -/

section body
variable (b g h : Vec Ideal S1024x256 .bf16) (f s : Vec Ideal S8x256 .f32)

/-- The gated rows of one column of a block. -/
abbrev col (j : Fin 256) : Fin 1024 → EReal := fun r => g (ix2 r j) * h (ix2 r j)

/-- What the filter gives. -/
abbrev filtered (r : Fin 1024) (j : Fin 256) : EReal := filter (col g h j) (fun e => s (ix2 e j)) (fun e => f (ix2 e j)) r

theorem rows_apply (r : Fin 1024) (j : Fin 256) : k0_pay4 g h (ix2 r j) = col g h j r := by
  pointwise [k0_pay4]

/-- What a point leaves. -/
theorem out (r : Fin 1024) (j : Fin 256) :
    k0_pay1 (k0_pay4 g h) (k0_pay5 f) (k0_pay6 g h) (k0_pay7 g h s) (k0_pay8 g h s) b (ix2 r j) = b (ix2 r j) * filtered g h f s r j := by
  unfold filtered filter
  rw [← above1 (col g h j) (fun e => s (ix2 e j)) r (by omega) (by omega), ← above2 (col g h j) (fun e => s (ix2 e j)) r (by omega) (by omega)]
  pointwise [k0_pay1, k0_pay4, k0_pay5, k0_pay6, k0_pay7, k0_pay8]

/-- The last rows that a point keeps. -/
theorem keep (r : Fin 8) (j : Fin 256) : k0_pay2 (k0_pay4 g h) (ix2 r j) = col g h j ⟨1016 + r, by omega⟩ := by
  pointwise [k0_pay2, k0_pay4]

theorem reset : (k0_pay3 : FVec Ideal S8x256 .f32) = fun _ => (0 : EReal) := funext fun i => by
  rw [show i = ix2 (i 0) (i 1) by funext a; fin_cases a <;> rfl]
  pointwise [k0_pay3]

end body

/-! ## What each point leaves -/

variable (m : (ℓ : Loc nD τ sig) → Buf (Elt Ideal) ℓ) (c : Dev nD)

/-- The carried rows that a point meets: none before the first block of rows. -/
def carried (t : Fin cfg0.N) : Vec Ideal S8x256 .f32 := fun i =>
  if t.val % 8 = 0 then 0 else (outsAt0 m c (t.val - 1) (Nat.lt_of_le_of_lt (Nat.sub_le _ _) t.isLt)).2 i

/-- What a point reads of the carried rows, at the first block of rows and at the others. -/
theorem meet0 (t : Fin cfg0.N) (h : t.val % 8 = 0) : (fun _ => (0 : EReal) : Vec Ideal S8x256 .f32) = carried m c t := funext fun _ => (if_pos h).symm
@[inherit_doc meet0] theorem meet1 (t : Fin cfg0.N) (h : ¬ t.val % 8 = 0) :
    (outsAt0 m c (t.val - 1) (Nat.lt_of_le_of_lt (Nat.sub_le _ _) t.isLt)).2 = carried m c t := funext fun _ => (if_neg h).symm

/-- An entry of a point's block of the gate after the filter. -/
abbrev bv (t : Fin cfg0.N) (r : Fin 1024) (j : Fin 256) : EReal := iblk m c 0 t (ix2 r j)

/-- The rows a point leaves. -/
theorem left4 (t : Fin cfg0.N) (r : Fin 1024) (j : Fin 256) : (outsAt0 m c t.val t.isLt).1 (ix2 r j)
    = bv m c t r j * filtered (iblk m c 1 t) (iblk m c 2 t) (iblk m c 3 t) (carried m c t) r j := by
  by_cases h0 : t.val % 8 = 0
  · rw [outsAt0_A m c t h0]
    frame_out
    rw [reset, meet0 m c t h0]
    exact out ..
  · rw [outsAt0_B m c t h0]
    frame_out
    simp only [meet1 m c t h0, read_unread_whole]
    exact out ..

/-- The last rows a point keeps for the next. -/
theorem left5 (t : Fin cfg0.N) (r : Fin 8) (j : Fin 256) :
    (outsAt0 m c t.val t.isLt).2 (ix2 r j) = col (iblk m c 1 t) (iblk m c 2 t) j ⟨1016 + r, by omega⟩ := by
  by_cases h0 : t.val % 8 = 0
  · rw [outsAt0_A m c t h0]
    frame_out
    exact keep ..
  · rw [outsAt0_B m c t h0]
    frame_out
    exact keep ..

/-! ## The array -/

/-- The arguments by row and column: the projected rows and the filter's coefficients. -/
def proj (r j : ℕ) : EReal := if h : r < 8192 ∧ j < 4352 then m ((c.tc : Thread nD τ).loc main_arg0) (ix2 ⟨r, h.1⟩ ⟨j, h.2⟩) else 0
@[inherit_doc proj] def f (d : Fin 3) (j : ℕ) : EReal := if h : j < 1024 then m ((c.tc : Thread nD τ).loc main_arg1) (ix2 d ⟨j, h⟩) else 0

/-- The gated rows. -/
def u (r j : ℕ) : EReal := proj m c r (2304 + j) * proj m c r (3328 + j)

/-- The gated rows, filtered. -/
def conv (r j : ℕ) : EReal :=
  f m c 0 j * past (fun r => u m c r j) 2 r + f m c 1 j * past (fun r => u m c r j) 1 r + f m c 2 j * u m c r j

/-- Where each window's block lies. -/
theorem idx0 : ∀ t : Fin cfg0.N, win0_0.index t = ![t.val % 8, 5 + t.val / 8] := (by decide +kernel : ∀ t : Fin grid0.N, _)
@[inherit_doc idx0] theorem idx1 : ∀ t : Fin cfg0.N, win0_1.index t = ![t.val % 8, 9 + t.val / 8] := (by decide +kernel : ∀ t : Fin grid0.N, _)
@[inherit_doc idx0] theorem idx2 : ∀ t : Fin cfg0.N, win0_2.index t = ![t.val % 8, 13 + t.val / 8] := (by decide +kernel : ∀ t : Fin grid0.N, _)
@[inherit_doc idx0] theorem idx3 : ∀ t : Fin cfg0.N, win0_3.index t = ![0, t.val / 8] := (by decide +kernel : ∀ t : Fin grid0.N, _)
@[inherit_doc idx0] theorem idx4 : ∀ t : Fin cfg0.N, win0_4.index t = ![t.val % 8, t.val / 8] := (by decide +kernel : ∀ t : Fin grid0.N, _)

/-- An entry of a point's block of the gate after the filter, of the gate before it, and of what that gates. -/
theorem blk0 (t : Fin cfg0.N) (r : Fin 1024) (j : Fin 256) : bv m c t r j = proj m c (1024 * (t.val % 8) + r) (1280 + (256 * (t.val / 8) + j)) := by
  have ht : t.val < 32 := t.isLt
  rw [proj, dif_pos (by omega)]
  unfold bv
  blk_simp [iblk, idx0]
  rw [V_main_arg0]
  refine congrArg _ ?_
  blk_ext [idx0]
@[inherit_doc blk0] theorem blk1 (t : Fin cfg0.N) (r : Fin 1024) (j : Fin 256) : iblk m c 1 t (ix2 r j) = proj m c (1024 * (t.val % 8) + r) (2304 + (256 * (t.val / 8) + j)) := by
  have ht : t.val < 32 := t.isLt
  rw [proj, dif_pos (by omega)]
  blk_simp [iblk, idx1]
  rw [V_main_arg0]
  refine congrArg _ ?_
  blk_ext [idx1]
@[inherit_doc blk0] theorem blk2 (t : Fin cfg0.N) (r : Fin 1024) (j : Fin 256) : iblk m c 2 t (ix2 r j) = proj m c (1024 * (t.val % 8) + r) (3328 + (256 * (t.val / 8) + j)) := by
  have ht : t.val < 32 := t.isLt
  rw [proj, dif_pos (by omega)]
  blk_simp [iblk, idx2]
  rw [V_main_arg0]
  refine congrArg _ ?_
  blk_ext [idx2]

/-- The first three rows of a filter with rows of zeros after the third. -/
theorem pad_row (z : FVec Ideal S3x1024 .f32) (r : Fin 8) (j : Fin 1024) (h : r.val < 3) :
    pad S8x1024 ![0, 0] ![5, 0] ![0, 0] z (sitofp .f32 (constantI S_ 32 0#32)) pads_S3x1024_S8x1024_050_000 h_S_ (ix2 r j) = z (ix2 ⟨r, h⟩ j) := by
  pointwise
  exact dif_pos h

/-- The coefficients as the call is given them, with rows of zeros after the third. -/
theorem padded (r : Fin 8) (j : Fin 1024) (h : r.val < 3) : V m c main_v0 (ix2 r j) = f m c ⟨r, h⟩ j := by
  rw [f, dif_pos j.isLt]
  entry_read
  simp only [hostOps0, hostOps0_1, List.flatten_cons, List.flatten_nil, List.cons_append, List.nil_append, List.append_nil]
  after_results
  exact pad_row (m ((c.tc : Thread nD τ).loc main_arg1)) r j h

/-- An entry of the coefficients' block. -/
theorem blk3 (t : Fin cfg0.N) (r : Fin 8) (l : Fin 256) (h : r.val < 3) : iblk m c 3 t (ix2 r l) = f m c ⟨r, h⟩ (256 * (t.val / 8) + l) := by
  have ht : t.val < 32 := t.isLt
  refine Eq.trans ?_ (padded m c r ⟨256 * (t.val / 8) + l, by omega⟩ h)
  blk_simp [iblk, idx3]
  refine congrArg _ ?_
  blk_ext [idx3]

/-- The gated rows of a point's block. -/
theorem col_eq (t : Fin cfg0.N) (j : Fin 256) :
    col (iblk m c 1 t) (iblk m c 2 t) j = fun r => u m c (1024 * (t.val % 8) + r.val) (256 * (t.val / 8) + j) :=
  funext fun r => congrArg₂ (fun x y : EReal => x * y) (blk1 m c t r j) (blk2 m c t r j)

/-- The rows carried into a point are the last of the block before. -/
theorem carried_eq (t : Fin cfg0.N) (q : Fin 8) (j : Fin 256) :
    carried m c t (ix2 q j) = if t.val % 8 = 0 then 0 else u m c (1024 * (t.val % 8) - 8 + q) (256 * (t.val / 8) + j) := by
  unfold carried
  by_cases h : t.val % 8 = 0
  · rw [if_pos h, if_pos h]
  · rw [if_neg h, if_neg h]
    refine (left5 m c ⟨t.val - 1, Nat.lt_of_le_of_lt (Nat.sub_le _ _) t.isLt⟩ q j).trans ((congrFun (col_eq ..) _).trans ?_)
    have e1 : 1024 * ((t.val - 1) % 8) + (1016 + q.val) = 1024 * (t.val % 8) - 8 + q.val := by omega
    have e2 : (t.val - 1) / 8 = t.val / 8 := by omega
    show u m c (1024 * ((t.val - 1) % 8) + (1016 + q.val)) (256 * ((t.val - 1) / 8) + j.val) = _
    rw [e1, e2]

/-- What a point's filter gives. -/
theorem filtered_eq (t : Fin cfg0.N) (r : Fin 1024) (j : Fin 256) :
    filtered (iblk m c 1 t) (iblk m c 2 t) (iblk m c 3 t) (carried m c t) r j = conv m c (1024 * (t.val % 8) + r) (256 * (t.val / 8) + j) := by
  unfold filtered filter conv
  simp only [col_eq, carried_eq, above_eq (fun r => u m c r (256 * (t.val / 8) + j)), blk3 m c t 0 j (by decide), blk3 m c t 1 j (by decide), blk3 m c t 2 j (by decide)]
  exact congrArg₂ (fun x y : EReal => x + y) rfl (congrArg (fun x : EReal => f m c 2 (256 * (t.val / 8) + j) * x) (congrFun (col_eq m c t j) r))

/-- The array of the filtered rows, gated. -/
theorem final4 : (dats m 0 c).arrAt 4 cfg0.N = fun i => proj m c (i 0).val (1280 + (i 1).val) * conv m c (i 0).val (i 1).val := by
  refine (dats m 0 c).arrAt_eq_of_covers 4 _ (by decide +kernel) fun t hf y => ?_
  blk_simp
  rw [after0_4]
  have h0 : (y 0).val < 1024 := (y 0).isLt
  have h1 : (y 1).val < 256 := (y 1).isLt
  have e0 : win0_4.index t 0 = t.val % 8 := by rw [idx4]; rfl
  have e1 : win0_4.index t 1 = t.val / 8 := by rw [idx4]; rfl
  have g0 : win0_4.index t 0 * 1024 + (y 0).val = 1024 * (t.val % 8) + (y 0).val := by rw [e0]; omega
  have g1 : win0_4.index t 1 * 256 + (y 1).val = 256 * (t.val / 8) + (y 1).val := by rw [e1]; omega
  show _ = proj m c (win0_4.index t 0 * 1024 + (y 0).val) (1280 + (win0_4.index t 1 * 256 + (y 1).val))
    * conv m c (win0_4.index t 0 * 1024 + (y 0).val) (win0_4.index t 1 * 256 + (y 1).val)
  rw [g0, g1]
  have ey : y = ix2 ⟨(y 0).val, h0⟩ ⟨(y 1).val, h1⟩ := by funext a; fin_cases a <;> rfl
  exact (congrArg _ ey).trans ((left4 ..).trans (congrArg₂ (fun x y : EReal => x * y) (blk0 ..) (filtered_eq ..)))

end Cert.ConvIdeal.Call

end
-- ==== Proof.Gated.lean ====
/-
  The call that filters the gated rows of the mixer's second half and gates the result gives what its reference gives.
-/
module

public import proofs.«01_k».proof.Defs
public import proofs.«01_k».proof.Proof.Gen.ConvRefIdeal.Run
public import proofs.«01_k».proof.Proof.Gen.ConvRefIdeal.Read
public import proofs.«01_k».proof.Proof.GatedFilter
public import proofs.«01_k».proof.Proof.Products

@[expose] public section

set_option maxRecDepth 16384

noncomputable section

namespace Cert.ConvRefIdeal.Entries

open Cert.ConvRefIdeal Cert.ConvRefIdeal.Read Idealize.ShloMosaic Idealize.ShloMosaic.TcCoe
open Cert.ConvIdeal.Call (proj f u conv)
open Cert.UpIdeal.Call (past)

variable (m : (ℓ : Loc Cert.ConvIdeal.nD Cert.ConvIdeal.τ Cert.ConvIdeal.sig) → Buf (Elt Ideal) ℓ) (c : Dev Cert.ConvIdeal.nD)

/-- The arguments, as tensors: the projected rows and the coefficients. -/
abbrev rows : S8192x4352.Idx → EReal := m ((c.tc : Thread Cert.ConvIdeal.nD Cert.ConvIdeal.τ).loc Cert.ConvIdeal.main_arg0)
@[inherit_doc rows] abbrev coefs : S3x1024.Idx → EReal := m ((c.tc : Thread Cert.ConvIdeal.nD Cert.ConvIdeal.τ).loc Cert.ConvIdeal.main_arg1)

/-- The arguments at an entry. -/
theorem proj_at (r : Fin 8192) (j : ℕ) (h : j < 4352) : rows m c (ix2 r ⟨j, h⟩) = proj m c r j := by rw [proj, dif_pos ⟨r.isLt, h⟩]
@[inherit_doc proj_at] theorem f_at (d : Fin 3) (j : Fin 1024) : f m c d j = coefs m c (ix2 d j) := dif_pos j.isLt

/-- The two gates, and what the first gates. -/
theorem v3 (r : Fin 8192) (j : Fin 1024) : val_main_v3 (F := Ideal) (rows m c) (ix3 0 r j) = proj m c r (1280 + j) := by
  pointwise [val_main_v3, val_main_v2, val_main_v1, val_main_v0]
  exact proj_at ..
@[inherit_doc v3] theorem v4 (r : Fin 8192) (j : Fin 1024) : val_main_v4 (F := Ideal) (rows m c) (ix3 0 r j) = proj m c r (2304 + j) := by
  pointwise [val_main_v4, val_main_v2, val_main_v1, val_main_v0]
  exact (proj_at ..).trans (congrArg (proj m c r) (show 1280 + (1024 + j.val) = 2304 + j.val by omega))
@[inherit_doc v3] theorem v5 (r : Fin 8192) (j : Fin 1024) : val_main_v5 (F := Ideal) (rows m c) (ix3 0 r j) = proj m c r (3328 + j) := by
  pointwise [val_main_v5, val_main_v2, val_main_v1, val_main_v0]
  exact (proj_at ..).trans (congrArg (proj m c r) (show 1280 + (2048 + j.val) = 3328 + j.val by omega))

/-- The rows the filter is given, and the same after two rows of zeros. -/
theorem v6 (r : Fin 8192) (j : Fin 1024) : val_main_v6 (F := Ideal) (rows m c) (ix3 0 r j) = u m c r j := by
  pointwise [val_main_v6]
  rw [v4, v5]
  rfl
@[inherit_doc v6] theorem v8 (i : Fin 8194) (j : Fin 1024) : val_main_v8 (F := Ideal) (rows m c) (ix3 0 i j) = past (fun r => u m c r j) 2 i := by
  have e : val_main_v8 (F := Ideal) (rows m c) (ix3 0 i j)
      = if h : i.val < 2 then 0 else val_main_v6 (F := Ideal) (rows m c) (ix3 0 ⟨i.val - 2, by omega⟩ j) := by
    pointwise [val_main_v8, val_main_v7, val_main_cst]
  rw [e]
  unfold past
  by_cases h : i.val < 2
  · rw [dif_pos h, if_pos h]
  · rw [dif_neg h, if_neg h, v6]

/-- The rows the three coefficients multiply. -/
theorem v11 (r : Fin 8192) (j : Fin 1024) : val_main_v11 (F := Ideal) (rows m c) (ix3 0 r j) = past (fun r => u m c r j) 2 r := by
  pointwise [val_main_v11]
  rw [v8]
@[inherit_doc v11] theorem v19 (r : Fin 8192) (j : Fin 1024) : val_main_v19 (F := Ideal) (rows m c) (ix3 0 r j) = past (fun r => u m c r j) 1 r := by
  pointwise [val_main_v19]
  rw [v8]
  unfold past
  by_cases h : r.val < 1
  · rw [if_pos h, if_pos (by show 1 + r.val < 2; omega)]
  · rw [if_neg h, if_neg (by show ¬ 1 + r.val < 2; omega)]
    exact congrArg (fun r => u m c r j) (by show 1 + r.val - 2 = r.val - 1; omega)
@[inherit_doc v11] theorem v26 (r : Fin 8192) (j : Fin 1024) : val_main_v26 (F := Ideal) (rows m c) (ix3 0 r j) = u m c r j := by
  pointwise [val_main_v26]
  rw [v8]
  unfold past
  rw [if_neg (by show ¬ 2 + r.val < 2; omega)]
  exact congrArg (fun r => u m c r j) (by show 2 + r.val - 2 = r.val; omega)

/-- The filter's result. -/
theorem v30 (r : Fin 8192) (j : Fin 1024) : val_main_v30 (F := Ideal) (rows m c) (coefs m c) (ix3 0 r j) = conv m c r j := by
  pointwise [val_main_v30, val_main_v29, val_main_v28, val_main_v27, val_main_v25, val_main_v24, val_main_v23, val_main_v22, val_main_v21, val_main_v20, val_main_v18, val_main_v17, val_main_v16, val_main_v15, val_main_v14, val_main_v13, val_main_v12, val_main_v10, val_main_v9, val_main_cst_0]
  rw [v11, v19, v26]
  unfold conv
  rw [f_at, f_at, f_at]

/-- The result. -/
theorem v33 (r : Fin 8192) (j : Fin 1024) :
    val_main_v33 (F := Ideal) (rows m c) (coefs m c) (ix2 r j) = proj m c r (1280 + j) * conv m c r j := by
  pointwise [val_main_v33, val_main_v32, val_main_v31]
  rw [v3, v30]

end Cert.ConvRefIdeal.Entries

namespace Cert.Gated

open Idealize.ShloMosaic Idealize.ShloMosaic.Ideal Idealize.ShloMosaic.Tactic Idealize.ShloMosaic.TcCoe Idealize.SL.Sem

/-- The reference ends, and nothing of its semaphores is left. -/
theorem conv_ref_frame : Cert.quiescent_ConvRefIdeal := fun m g _ =>
  (θ_run Cert.ConvRefIdeal.defs _ _).mono (fun r h => ⟨fun c => (h c).2, sem_eq_zero_of_no_sems (by decide) r.2⟩) (Cert.ConvRefIdeal.Value.run m g)

/-- The call's array is the reference's. -/
theorem conv_values : Cert.algebraic_ConvIdeal_ConvRefIdeal := by
  intro m g m' g' _ hagree
  refine ⟨fun c => (Cert.ConvIdeal.Gen.dats m 0 c).arrAt 4 Cert.ConvIdeal.cfg0.N, Cert.ConvIdeal.Value.run_blocks m g, ?_⟩
  refine (θ_run Cert.ConvRefIdeal.defs _ _).mono (fun r h c => ⟨(h c).1.trans ?_, (h c).2⟩) (Cert.ConvRefIdeal.Value.run m' g')
  refine (Cert.ConvRefIdeal.Read.val_main_v33_eq (F := Ideal) _ _).trans ?_
  refine Eq.trans ?_ (Cert.ConvIdeal.Call.final4 m c).symm
  rw [(hagree c).1, (hagree c).2]
  exact Products.ext2 fun i j => ConvRefIdeal.Entries.v33 m c i j

end Cert.Gated

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.KernelIdeal.Frame.RunA
public import proofs.«01_k».proof.Proof.Gen.KernelIdeal.Frame.RunB
public import proofs.«01_k».proof.Proof.Gen.Pre_finite
public import proofs.«01_k».proof.Proof.Gen.ReferenceIdeal
public import proofs.«01_k».proof.Proof.Gen.ReferenceIdeal.Run
public import proofs.«01_k».proof.Proof.Gen.WUp
public import proofs.«01_k».proof.Proof.Gen.WUp.Frame
public import proofs.«01_k».proof.Proof.Gen.WUpIdeal
public import proofs.«01_k».proof.Proof.Gen.WUpIdeal.Value
public import proofs.«01_k».proof.Proof.Gen.WUpRefIdeal
public import proofs.«01_k».proof.Proof.Gen.WUpRefIdeal.Run
public import proofs.«01_k».proof.Proof.Gen.WUpRefIdeal.Read
public import proofs.«01_k».proof.Proof.Gen.WDown
public import proofs.«01_k».proof.Proof.Gen.WDown.Frame
public import proofs.«01_k».proof.Proof.Gen.WDownIdeal
public import proofs.«01_k».proof.Proof.Gen.WDownIdeal.Value
public import proofs.«01_k».proof.Proof.Gen.WDownRefIdeal
public import proofs.«01_k».proof.Proof.Gen.WDownRefIdeal.Run
public import proofs.«01_k».proof.Proof.Gen.WDownRefIdeal.Read
public import proofs.«01_k».proof.Proof.Gen.WOut
public import proofs.«01_k».proof.Proof.Gen.WOut.Frame
public import proofs.«01_k».proof.Proof.Gen.WOutIdeal
public import proofs.«01_k».proof.Proof.Gen.WOutIdeal.Value
public import proofs.«01_k».proof.Proof.Gen.WOutRefIdeal
public import proofs.«01_k».proof.Proof.Gen.WOutRefIdeal.Run
public import proofs.«01_k».proof.Proof.Gen.WOutRefIdeal.Read
public import proofs.«01_k».proof.Proof.Gen.DMix
public import proofs.«01_k».proof.Proof.Gen.DMix.Frame
public import proofs.«01_k».proof.Proof.Gen.DMixIdeal
public import proofs.«01_k».proof.Proof.Gen.DMixIdeal.Value
public import proofs.«01_k».proof.Proof.Gen.DMixRefIdeal
public import proofs.«01_k».proof.Proof.Gen.DMixRefIdeal.Run
public import proofs.«01_k».proof.Proof.Gen.DMixRefIdeal.Read
public import proofs.«01_k».proof.Proof.Gen.GradX
public import proofs.«01_k».proof.Proof.Gen.GradX.Frame
public import proofs.«01_k».proof.Proof.Gen.GradXIdeal
public import proofs.«01_k».proof.Proof.Gen.GradXIdeal.Value
public import proofs.«01_k».proof.Proof.Gen.GradXRefIdeal
public import proofs.«01_k».proof.Proof.Gen.GradXRefIdeal.Run
public import proofs.«01_k».proof.Proof.Gen.GradXRefIdeal.Read
public import proofs.«01_k».proof.Proof.Gen.WIn
public import proofs.«01_k».proof.Proof.Gen.WIn.Frame
public import proofs.«01_k».proof.Proof.Gen.WInIdeal
public import proofs.«01_k».proof.Proof.Gen.WInIdeal.Value
public import proofs.«01_k».proof.Proof.Gen.WInRefIdeal
public import proofs.«01_k».proof.Proof.Gen.WInRefIdeal.Run
public import proofs.«01_k».proof.Proof.Gen.WInRefIdeal.Read
public import proofs.«01_k».proof.Proof.Gen.Ln
public import proofs.«01_k».proof.Proof.Gen.Ln.Frame
public import proofs.«01_k».proof.Proof.Gen.LnIdeal
public import proofs.«01_k».proof.Proof.Gen.LnIdeal.Value
public import proofs.«01_k».proof.Proof.Gen.LnRefIdeal
public import proofs.«01_k».proof.Proof.Gen.LnRefIdeal.Run
public import proofs.«01_k».proof.Proof.Gen.LnRefIdeal.Read
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Mid
public import proofs.«01_k».proof.Proof.Gen.Mid.Frame
public import proofs.«01_k».proof.Proof.Gen.MidIdeal
public import proofs.«01_k».proof.Proof.Gen.MidIdeal.Value
public import proofs.«01_k».proof.Proof.Gen.MidRefIdeal
public import proofs.«01_k».proof.Proof.Gen.MidRefIdeal.Run
public import proofs.«01_k».proof.Proof.Gen.MidRefIdeal.Read
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Conv
public import proofs.«01_k».proof.Proof.Gen.Conv.Frame
public import proofs.«01_k».proof.Proof.Gen.ConvIdeal
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Pre_finite_ln
public import proofs.«01_k».proof.Proof.Gen.Pre_finite_mid
public import proofs.«01_k».proof.Proof.Gen.Pre_finite_down
public import proofs.«01_k».proof.Proof.Given
public import proofs.«01_k».proof.Proof.Same
public import proofs.«01_k».proof.Proof.Arrays
public import proofs.«01_k».proof.Proof.RefReal
public import proofs.«01_k».proof.Proof.Products
public import proofs.«01_k».proof.Proof.Forward
public import proofs.«01_k».proof.Proof.Norm
public import proofs.«01_k».proof.Proof.Gate
public import proofs.«01_k».proof.Proof.Mixer
public import proofs.«01_k».proof.Proof.Loss
public import proofs.«01_k».proof.Proof.First
public import proofs.«01_k».proof.Proof.Gated
public import Idealize.ShloMosaic.Adequacy
public import Idealize.ShloMosaic.Init

@[expose] public section

noncomputable section

namespace Cert.Proof

open Idealize.ShloMosaic Idealize.SL.Sem

/-- Two matrices with the same entries are equal. -/
theorem ext2 {n0 n1 : ℕ} {α : Type} {f g : (⟨2, ![n0, n1]⟩ : Shape).Idx → α} (h : ∀ (r : Fin n0) (k : Fin n1), f (ix2 r k) = g (ix2 r k)) :
    f = g := funext fun i => by rw [eq_ix2 i]; exact h _ _

/-- The reference's run, read at its arguments; it declares no semaphore, so every counter is zero. -/
theorem reference_frame : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run m g)

/-- The idealized kernel's frame. -/
theorem kernel_frame : Cert.quiescent_KernelIdeal := fun m g _ => Cert.KernelIdeal.Block.frame_all m g

/-- The precondition at one device, as a statement about the arrays' entries. -/
theorem given {m : (ℓ : Loc Cert.KernelIdeal.nD Cert.KernelIdeal.τ Cert.KernelIdeal.sig) → Buf (Elt Ideal) ℓ}
    (h : Cert.Pre_KernelIdeal_finite m) (c : Dev Cert.KernelIdeal.nD) :
    Attn.Finite (Cert.KernelIdeal.Block.argA m c) (Cert.KernelIdeal.Block.argD m c) (Cert.KernelIdeal.Block.argS m c) :=
  Cert.Pre_finite.finite _ _ _ (h c).1 (h c).2.1 (h c).2.2

/-- Kernel and reference end with the same four gradients. -/
theorem values : Cert.algebraic_KernelIdeal_ReferenceIdeal_pre_finite := by
  intro m g m' g' hpre hagree
  refine ⟨fun c => (Cert.KernelIdeal.Block.dats m 0 c).arrAt 11 Cert.KernelIdeal.cfg0.N,
    fun c => (Cert.KernelIdeal.Block.dats m 0 c).arrAt 12 Cert.KernelIdeal.cfg0.N,
    fun c => (Cert.KernelIdeal.Block.dats m 0 c).arrAt 13 Cert.KernelIdeal.cfg0.N,
    fun c => (Cert.KernelIdeal.Block.dats m 0 c).arrAt 14 Cert.KernelIdeal.cfg0.N, ?_, ?_⟩
  · refine (θ_run Cert.KernelIdeal.defs _ _).mono (fun r h c => ?_)
      (θ_run_and (Cert.KernelIdeal.Block.run_all m g) (Cert.KernelIdeal.Block.frame_all m g))
    exact ⟨h.1.1.out_eq c 11, h.1.1.out_eq c 12, h.1.1.out_eq c 13, h.1.1.out_eq c 14, h.2.1 c⟩
  · refine (θ_run Cert.ReferenceIdeal.defs _ _).mono (fun r h c => ?_) (Cert.ReferenceIdeal.Value.run m' g')
    obtain ⟨h0, h1, h2, h3, h4⟩ := h c
    have H := given hpre c
    have H' : Attn.Finite (Cert.ReferenceIdeal.Grad.argA (StableHlo.launchContents m' c))
        (Cert.ReferenceIdeal.Grad.argD (StableHlo.launchContents m' c)) (Cert.ReferenceIdeal.Grad.argS (StableHlo.launchContents m' c)) := by
      obtain ⟨e0, e1, e2⟩ := hagree c
      unfold Cert.ReferenceIdeal.Grad.argA Cert.ReferenceIdeal.Grad.argD Cert.ReferenceIdeal.Grad.argS
      simp only [StableHlo.launchContents_devRef, e0, e1, e2]
      exact H
    have E : Cert.ReferenceIdeal.Grad.theWorld (StableHlo.launchContents m' c) = Cert.KernelIdeal.Block.theWorld m c := by
      obtain ⟨e0, e1, e2⟩ := hagree c
      unfold Cert.ReferenceIdeal.Grad.theWorld Cert.ReferenceIdeal.Grad.argA Cert.ReferenceIdeal.Grad.argD Cert.ReferenceIdeal.Grad.argS
      simp only [StableHlo.launchContents_devRef, e0, e1, e2]
      rfl
    refine ⟨h0.trans ?_, h1.trans ?_, h2.trans ?_, h3.trans ?_, h4⟩
    · refine Eq.trans ?_ (Cert.KernelIdeal.Block.final_dq m c H).symm
      rw [← E]
      exact ext2 fun R k => Cert.ReferenceIdeal.Grad.dq_real H' R k
    · refine Eq.trans ?_ (Cert.KernelIdeal.Block.final_dk m c H).symm
      rw [← E]
      exact ext2 fun R k => Cert.ReferenceIdeal.Grad.dk_real H' R k
    · refine Eq.trans ?_ (Cert.KernelIdeal.Block.final_dv m c H).symm
      rw [← E]
      exact ext2 fun R k => Cert.ReferenceIdeal.Grad.dv_real H' R k
    · refine Eq.trans ?_ (Cert.KernelIdeal.Block.final_sink m c H).symm
      rw [← E]
      exact ext2 fun R k => Cert.ReferenceIdeal.Grad.dsink_real H' R k

/-- Every claim of the certificate, call by call. -/
theorem claim : Cert.Claim := ⟨Cert.Kernel.Gen.facts, Cert.KernelIdeal.Gen.facts, Cert.ReferenceIdeal.Gen.facts,
  Cert.WUp.Gen.facts, Cert.WUpIdeal.Gen.facts, Cert.WUpRefIdeal.Gen.facts,
  Cert.WDown.Gen.facts, Cert.WDownIdeal.Gen.facts, Cert.WDownRefIdeal.Gen.facts,
  Cert.WOut.Gen.facts, Cert.WOutIdeal.Gen.facts, Cert.WOutRefIdeal.Gen.facts,
  Cert.DMix.Gen.facts, Cert.DMixIdeal.Gen.facts, Cert.DMixRefIdeal.Gen.facts,
  Cert.GradX.Gen.facts, Cert.GradXIdeal.Gen.facts, Cert.GradXRefIdeal.Gen.facts,
  Cert.WIn.Gen.facts, Cert.WInIdeal.Gen.facts, Cert.WInRefIdeal.Gen.facts,
  Cert.Ln.Gen.facts, Cert.LnIdeal.Gen.facts, Cert.LnRefIdeal.Gen.facts,
  Cert.Up.Gen.facts, Cert.UpIdeal.Gen.facts, Cert.UpRefIdeal.Gen.facts,
  Cert.Mid.Gen.facts, Cert.MidIdeal.Gen.facts, Cert.MidRefIdeal.Gen.facts,
  Cert.Mix.Gen.facts, Cert.MixIdeal.Gen.facts, Cert.MixRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.Conv.Gen.facts, Cert.ConvIdeal.Gen.facts, Cert.ConvRefIdeal.Gen.facts,
  Cert.In.Gen.facts, Cert.InIdeal.Gen.facts, Cert.InRefIdeal.Gen.facts,
  Cert.Pre_finite.Gen.facts, Cert.Pre_finite_ln.Gen.facts, Cert.Pre_finite_mid.Gen.facts, Cert.Pre_finite_down.Gen.facts,
  fun m ρ _ => Cert.Kernel.Same.frame m ρ, kernel_frame, fun m ρ _ => kernel_frame m ρ trivial, reference_frame,
  fun m ρ _ => reference_frame m ρ trivial,
  fun m ρ _ => Cert.WUp.Gen.frame m ρ, fun m ρ _ => Cert.WUpIdeal.Gen.frame m ρ, Products.wUp_ref_frame,
  fun m ρ _ => Cert.WDown.Gen.frame m ρ, fun m ρ _ => Cert.WDownIdeal.Gen.frame m ρ, Products.wDown_ref_frame,
  fun m ρ _ => Cert.WOut.Gen.frame m ρ, fun m ρ _ => Cert.WOutIdeal.Gen.frame m ρ, Products.wOut_ref_frame,
  fun m ρ _ => Cert.DMix.Gen.frame m ρ, fun m ρ _ => Cert.DMixIdeal.Gen.frame m ρ, Products.dMix_ref_frame,
  fun m ρ _ => Cert.GradX.Gen.frame m ρ, fun m ρ _ => Cert.GradXIdeal.Gen.frame m ρ, Products.gradX_ref_frame,
  fun m ρ _ => Cert.WIn.Gen.frame m ρ, fun m ρ _ => Cert.WInIdeal.Gen.frame m ρ, Products.wIn_ref_frame,
  fun m ρ _ => Cert.Ln.Gen.frame m ρ, fun m ρ _ => Cert.LnIdeal.Gen.frame m ρ, fun m ρ _ => Cert.LnIdeal.Gen.frame m ρ,
  Norm.ln_ref_frame, fun m ρ _ => Norm.ln_ref_frame m ρ trivial,
  fun m ρ _ => Cert.Up.Gen.frame m ρ, fun m ρ _ => Cert.UpIdeal.Gen.frame m ρ, Forward.up_ref_frame,
  fun m ρ _ => Cert.Mid.Gen.frame m ρ, fun m ρ _ => Cert.MidIdeal.Gen.frame m ρ, fun m ρ _ => Cert.MidIdeal.Gen.frame m ρ,
  Gate.mid_ref_frame, fun m ρ _ => Gate.mid_ref_frame m ρ trivial,
  fun m ρ _ => Cert.Mix.Gen.frame m ρ, fun m ρ _ => Cert.MixIdeal.Gen.frame m ρ, Mixer.mix_ref_frame,
  fun m ρ _ => Cert.Down.Gen.frame m ρ, fun m ρ _ => Cert.DownIdeal.Gen.frame m ρ, fun m ρ _ => Cert.DownIdeal.Gen.frame m ρ,
  Loss.down_ref_frame, fun m ρ _ => Loss.down_ref_frame m ρ trivial,
  fun m ρ _ => Cert.Out.Gen.frame m ρ, fun m ρ _ => Cert.OutIdeal.Gen.frame m ρ, First.out_ref_frame,
  fun m ρ _ => Cert.Conv.Gen.frame m ρ, fun m ρ _ => Cert.ConvIdeal.Gen.frame m ρ, Gated.conv_ref_frame,
  fun m ρ _ => Cert.In.Gen.frame m ρ, fun m ρ _ => Cert.InIdeal.Gen.frame m ρ, Forward.in_ref_frame,
  IdealRules.named_const.statement Cert.KernelIdeal.κ "mask" .f32 0xF149F2CA#32 ⊥ rfl, values,
  trivial, Products.wUp_values, trivial, Products.wDown_values, trivial, Products.wOut_values, trivial, Products.dMix_values, trivial, Products.gradX_values, trivial, Products.wIn_values,
  trivial, Norm.ln_values, trivial, Forward.up_values, trivial, Gate.mid_values, trivial, Mixer.mix_values, trivial, Loss.down_values, trivial, First.out_values, trivial, Gated.conv_values, trivial, Forward.in_values⟩

end Cert.Proof

end
